-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v45) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v30) = v2 c
          ∧ r.2.mem ((c.tc : Thread Cert.Reference9Ideal.nD Cert.Reference9Ideal.τ).loc Cert.Reference9Ideal.main_v31) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v11_0)) (v1 : (c : Dev Cert.Kernel15Ideal.nD) → Buf (Elt Ideal) ((c.tc : Thread Cert.Kernel15Ideal.nD Cert.Kernel15Ideal.τ).loc Cert.Kernel15Ideal.main_v11_1)) (v2 : (c : Dev Cert.Kernel15Ideal.nD) → Buf (Elt Ideal) ((c.tc : Thread Cert.Kernel15Ideal.nD Cert.Kernel15Ideal.τ).loc Cert.Kernel15Ideal.main_v11_2)) (v3 : (c : Dev Cert.Kernel15Ideal.nD) → Buf (Elt Ideal) ((c.tc : Thread Cert.Kernel15Ideal.nD Cert.Kernel15Ideal.τ).loc Cert.Kernel15Ideal.main_v11_3)) (v4 : (c : Dev Cert.Kernel15Ideal.nD) → Buf (Elt Ideal) ((c.tc : Thread Cert.Kernel15Ideal.nD Cert.Kernel15Ideal.τ).loc Cert.Kernel15Ideal.main_v11_4)) (v5 : (c : Dev Cert.Kernel15Ideal.nD) → Buf (Elt Ideal) ((c.tc : Thread Cert.Kernel15Ideal.nD Cert.Kernel15Ideal.τ).loc Cert.Kernel15Ideal.main_v11_5)) (v6 : (c : Dev Cert.Kernel15Ideal.nD) → Buf (Elt Ideal) ((c.tc : Thread Cert.Kernel15Ideal.nD Cert.Kernel15Ideal.τ).loc Cert.Kernel15Ideal.main_v11_6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v11_0) = v0 c
          ∧ r.2.mem ((c.tc : Thread Cert.Kernel15Ideal.nD Cert.Kernel15Ideal.τ).loc Cert.Kernel15Ideal.main_v11_1) = v1 c
          ∧ r.2.mem ((c.tc : Thread Cert.Kernel15Ideal.nD Cert.Kernel15Ideal.τ).loc Cert.Kernel15Ideal.main_v11_2) = v2 c
          ∧ r.2.mem ((c.tc : Thread Cert.Kernel15Ideal.nD Cert.Kernel15Ideal.τ).loc Cert.Kernel15Ideal.main_v11_3) = v3 c
          ∧ r.2.mem ((c.tc : Thread Cert.Kernel15Ideal.nD Cert.Kernel15Ideal.τ).loc Cert.Kernel15Ideal.main_v11_4) = v4 c
          ∧ r.2.mem ((c.tc : Thread Cert.Kernel15Ideal.nD Cert.Kernel15Ideal.τ).loc Cert.Kernel15Ideal.main_v11_5) = v5 c
          ∧ r.2.mem ((c.tc : Thread Cert.Kernel15Ideal.nD Cert.Kernel15Ideal.τ).loc Cert.Kernel15Ideal.main_v11_6) = v6 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v111) = v0 c
          ∧ r.2.mem ((c.tc : Thread Cert.Reference15Ideal.nD Cert.Reference15Ideal.τ).loc Cert.Reference15Ideal.main_v137) = v1 c
          ∧ r.2.mem ((c.tc : Thread Cert.Reference15Ideal.nD Cert.Reference15Ideal.τ).loc Cert.Reference15Ideal.main_v138) = v2 c
          ∧ r.2.mem ((c.tc : Thread Cert.Reference15Ideal.nD Cert.Reference15Ideal.τ).loc Cert.Reference15Ideal.main_v88) = v3 c
          ∧ r.2.mem ((c.tc : Thread Cert.Reference15Ideal.nD Cert.Reference15Ideal.τ).loc Cert.Reference15Ideal.main_v96) = v4 c
          ∧ r.2.mem ((c.tc : Thread Cert.Reference15Ideal.nD Cert.Reference15Ideal.τ).loc Cert.Reference15Ideal.main_v136) = v5 c
          ∧ r.2.mem ((c.tc : Thread Cert.Reference15Ideal.nD Cert.Reference15Ideal.τ).loc Cert.Reference15Ideal.main_v73) = v6 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v11)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v11) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v45) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v105_0)) (v1 : (c : Dev Cert.Kernel17Ideal.nD) → Buf (Elt Ideal) ((c.tc : Thread Cert.Kernel17Ideal.nD Cert.Kernel17Ideal.τ).loc Cert.Kernel17Ideal.main_v105_1)) (v2 : (c : Dev Cert.Kernel17Ideal.nD) → Buf (Elt Ideal) ((c.tc : Thread Cert.Kernel17Ideal.nD Cert.Kernel17Ideal.τ).loc Cert.Kernel17Ideal.main_v105_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v105_0) = v0 c
          ∧ r.2.mem ((c.tc : Thread Cert.Kernel17Ideal.nD Cert.Kernel17Ideal.τ).loc Cert.Kernel17Ideal.main_v105_1) = v1 c
          ∧ r.2.mem ((c.tc : Thread Cert.Kernel17Ideal.nD Cert.Kernel17Ideal.τ).loc Cert.Kernel17Ideal.main_v105_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v68) = v0 c
          ∧ r.2.mem ((c.tc : Thread Cert.Reference17Ideal.nD Cert.Reference17Ideal.τ).loc Cert.Reference17Ideal.main_v70) = v1 c
          ∧ r.2.mem ((c.tc : Thread Cert.Reference17Ideal.nD Cert.Reference17Ideal.τ).loc Cert.Reference17Ideal.main_v72) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts) (hPre_finite13 : Cert.Pre_finite13.Facts) (hPre_finite15 : Cert.Pre_finite15.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ algebraic_KernelIdeal_ReferenceIdeal_pre_finite (hKernelIdeal := hKernelIdeal) (hReferenceIdeal := hReferenceIdeal) (hPre_finite := hPre_finite)
-- ==== Pre_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .bf16) (main_arg1 : FVec F S4096x512 .bf16) (main_arg2 : FVec F S4096x512 .bf16) (main_arg3 : FVec F S4096x512 .f32) : IVec S_ 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Pre_finite13.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .bf16) (main_arg1 : FVec F S4096x512 .bf16) (main_arg2 : FVec F S4096x512 .bf16) : IVec S_ 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Pre_finite15.lean ====
abbrev S4096x1024 : Shape := ⟨2, ![4096, 1024]⟩
abbrev S4096x512 : Shape := ⟨2, ![4096, 512]⟩
abbrev S4096x256 : Shape := ⟨2, ![4096, 256]⟩
abbrev S4096x2560 : Shape := ⟨2, ![4096, 2560]⟩
abbrev S1x512 : Shape := ⟨2, ![1, 512]⟩
abbrev S1x256 : Shape := ⟨2, ![1, 256]⟩
abbrev S_ : Shape := ⟨0, ![]⟩

class Facts : Prop where
  slices_S4096x1024_S4096x256_0_512 : S4096x1024.Slices ![0, 512] S4096x256
  slices_S4096x2560_S4096x256_0_1792 : S4096x2560.Slices ![0, 1792] S4096x256
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S4096x1024 .f32) (main_arg1 : FVec F S4096x512 .f32) (main_arg2 : FVec F S4096x256 .f32) (main_arg3 : FVec F S4096x256 .f32) (main_arg4 : FVec F S4096x2560 .f32) (main_arg5 : FVec F S4096x256 .f32) (main_arg6 : FVec F S1x512 .f32) (main_arg7 : FVec F S1x256 .f32) (main_arg8 : FVec F S1x256 .f32) : IVec S_ 1 :=
  let main_v0 : FVec F S4096x256 .f32 := (extractStridedSlice S4096x256 ![0, 512] · slices_S4096x1024_S4096x256_0_512) main_arg0
  let main_v1 : FVec F S4096x256 .f32 := (extractStridedSlice S4096x256 ![0, 1792] · slices_S4096x2560_S4096x256_0_1792) main_arg4
  let main_v2 : FVec F S4096x256 .f32 := Host.absf main_v0
  let main_cst : FVec F S_ .f32 := constant S_ .f32 0x7F800000#32
  let main_v3 : FVec F S4096x256 .f32 := broadcastInDim S4096x256 ![] bcast_S_S4096x256 main_cst
  let main_v4 : IVec S4096x256 1 := cmpf .olt main_v2 main_v3
  let main_c : IVec S_ 1 := constantI S_ 1 1#1
  let main_v5 : IVec S_ 1 := (fun x v => Host.reduce IntOp.andi x v reducesTo_S4096x256_S_d0_1 h_S_) main_v4 main_c
  let main_v6 : FVec F S4096x256 .f32 := Host.absf main_v1
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v5 main_v9
  let main_v11 : FVec F S1x256 .f32 := Host.absf main_arg7
  let main_cst_2 : FVec F S_ .f32 := constant S_ .f32 0x7F800000#32
  let main_v12 : FVec F S1x256 .f32 := broadcastInDim S1x256 ![] bcast_S_S1x256 main_cst_2
  let main_v13 : IVec S1x256 1 := cmpf .olt main_v11 main_v12
  let main_c_3 : IVec S_ 1 := constantI S_ 1 1#1
  let main_v14 : IVec S_ 1 := (fun x v => Host.reduce IntOp.andi x v reducesTo_S1x256_S_d0_1 h_S_) main_v13 main_c_3
  let main_v15 : IVec S_ 1 := andi main_v10 main_v14
  main_v15
-- ==== Pre_finite17.lean ====
abbrev S4096x2560 : Shape := ⟨2, ![4096, 2560]⟩
abbrev S2048x64 : Shape := ⟨2, ![2048, 64]⟩
abbrev S1x512 : Shape := ⟨2, ![1, 512]⟩
abbrev S1x128 : Shape := ⟨2, ![1, 128]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x2560 .f32) (main_arg1 : FVec F S2048x64 .f32) (main_arg2 : FVec F S2048x64 .f32) (main_arg3 : FVec F S1x512 .f32) (main_arg4 : FVec F S1x128 .f32) : IVec S_ 1 :=
  let main_v0 : FVec F S1x512 .f32 := Host.absf main_arg3
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S1x128 .f32 := Host.absf main_arg4
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Pre_finite2.lean ====
abbrev S4096x1024 : Shape := ⟨2, ![4096, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x1024x704 : S_.BroadcastsInDim S4x1024x704 (![] : Fin 0 → Fin S4x1024x704.rank)
  reducesTo_S4x1024x704_S_d0_1_2 : S4x1024x704.ReducesTo [0, 1, 2] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_arg4 : FVec F S4x704x1024 .bf16) (main_arg5 : FVec F S4096x1024 .f32) (main_v13 : IVec S_ 1) (main_v16 : IVec S4x1024x704 1) : IVec S_ 1 :=
  let main_c_5 : IVec S_ 1 := constantI S_ 1 1#1
  let main_v17 : IVec S_ 1 := (fun x v => Host.reduce IntOp.andi x v reducesTo_S4x1024x704_S_d0_1_2 h_S_) main_v16 main_c_5
  let main_v18 : IVec S_ 1 := andi main_v13 main_v17
  let main_v19 : FVec F S4x704x1024 .bf16 := Host.absf main_arg4
  let main_cst_6 : FVec F S_ .bf16 := constant S_ .bf16 0x7F80#16
  let main_v20 : FVec F S4x704x1024 .bf16 := broadcastInDim S4x704x1024 ![] bcast_S_S4x704x1024 main_cst_6
  let main_v21 : IVec S4x704x1024 1 := cmpf .olt main_v19 main_v20
  let main_c_7 : IVec S_ 1 := constantI S_ 1 1#1
  let main_v22 : IVec S_ 1 := (fun x v => Host.reduce IntOp.andi x v reducesTo_S4x704x1024_S_d0_1_2 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S4x1024x704 .bf16) (main_arg3 : FVec F S4x1024x704 .bf16) (main_arg4 : FVec F S4x704x1024 .bf16) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4x1024x704 .bf16 := Host.absf main_arg2
  let main_cst_2 : FVec F S_ .bf16 := constant S_ .bf16 0x7F80#16
  let main_v10 : FVec F S4x1024x704 .bf16 := broadcastInDim S4x1024x704 ![] bcast_S_S4x1024x704 main_cst_2
  let main_v11 : IVec S4x1024x704 1 := cmpf .olt main_v9 main_v10
  let main_c_3 : IVec S_ 1 := constantI S_ 1 1#1
  let main_v12 : IVec S_ 1 := (fun x v => Host.reduce IntOp.andi x v reducesTo_S4x1024x704_S_d0_1_2 h_S_) main_v11 main_c_3
  let main_v13 : IVec S_ 1 := andi main_v8 main_v12
  let main_v14 : FVec F S4x1024x704 .bf16 := Host.absf main_arg3
  let main_cst_4 : FVec F S_ .bf16 := constant S_ .bf16 0x7F80#16
  let main_v15 : FVec F S4x1024x704 .bf16 := broadcastInDim S4x1024x704 ![] bcast_S_S4x1024x704 main_cst_4
  let main_v16 : IVec S4x1024x704 1 := cmpf .olt main_v14 main_v15
  fn_part1 (F := F) main_arg4 main_arg5 main_v13 main_v16
-- ==== Kernel.lean ====
abbrev S4096x512 : Shape := ⟨2, ![4096, 512]⟩
abbrev S256x256 : Shape := ⟨2, ![256, 256]⟩
abbrev S2048x256 : Shape := ⟨2, ![2048, 256]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4096x512 : Shape := ⟨2, ![4096, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x64 : Shape := ⟨4, ![2, 8, 2048, 64]⟩

abbrev nBuf : Space → Nat
  | .hbm => 77
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S4096x512, .f32⟩
  | .hbm, ⟨5, _⟩ => ⟨S2x2048x8x64, .f32⟩
  | .hbm, ⟨6, _⟩ => ⟨S4096x512, .f32⟩
  | .hbm, ⟨7, _⟩ => ⟨S2x2048x8x64, .f32⟩
  | .hbm, ⟨8, _⟩ => ⟨S4096x512, .f32⟩
  | .hbm, ⟨9, _⟩ => ⟨S2x2048x8x64, .f32⟩
  | .hbm, ⟨10, _⟩ => ⟨S2x8x2048x2048, .f32⟩
  | .hbm, ⟨11, _⟩ => ⟨S_, .f32⟩
  | .hbm, ⟨12, _⟩ => ⟨S2x8x2048, .f32⟩
  | .hbm, ⟨13, _⟩ => ⟨S2x8x2048x1, .f32⟩
  | .hbm, ⟨14, _⟩ => ⟨S2x8x2048x2048, .f32⟩
  | .hbm, ⟨15, _⟩ => ⟨S2x8x2048x2048, .i1⟩
  | .hbm, ⟨16, _⟩ => ⟨S2x8x2048x2048, .f32⟩
  | .hbm, ⟨17, _⟩ => ⟨S_, .f32⟩
  | .hbm, ⟨18, _⟩ => ⟨S2x8x2048, .f32⟩
  | .hbm, ⟨19, _⟩ => ⟨S_, .f32⟩
  | .hbm, ⟨20, _⟩ => ⟨S2x8x2048, .f32⟩
  | .hbm, ⟨21, _⟩ => ⟨S2x8x2048, .f32⟩
  | .hbm, ⟨22, _⟩ => ⟨S_, .f32⟩
  | .hbm, ⟨23, _⟩ => ⟨S2x8x2048, .f32⟩
  | .hbm, ⟨24, _⟩ => ⟨S2x8x2048, .i1⟩
  | .hbm, ⟨25, _⟩ => ⟨S_, .f32⟩
  | .hbm, ⟨26, _⟩ => ⟨S2x8x2048, .f32⟩
  | .hbm, ⟨27, _⟩ => ⟨S2x8x2048, .i1⟩
  | .hbm, ⟨28, _⟩ => ⟨S_, .f32⟩
  | .hbm, ⟨29, _⟩ => ⟨S2x8x2048, .f32⟩
  | .hbm, ⟨30, _⟩ => ⟨S_, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x8x2048x1, .f32⟩
  | .hbm, ⟨46, _⟩ => ⟨S_, .f32⟩
  | .hbm, ⟨47, _⟩ => ⟨S2x8x2048x1, .f32⟩
  | .hbm, ⟨48, _⟩ => ⟨S2x8x2048x1, .f32⟩
  | .hbm, ⟨49, _⟩ => ⟨S2x8x64x2048, .f32⟩
  | .hbm, ⟨50, _⟩ => ⟨S2x2048x8x64, .f32⟩
  | .hbm, ⟨51, _⟩ => ⟨S2x2048x8x64, .f32⟩
  | .hbm, ⟨52, _⟩ => ⟨S2x8x64x2048, .f32⟩
  | .hbm, ⟨53, _⟩ => ⟨S2x8x2048x2048, .f32⟩
  | .hbm, ⟨54, _⟩ => ⟨S2x8x64x2048, .f32⟩
  | .hbm, ⟨55, _⟩ => ⟨S2x2048x8x64, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x1, .f32⟩
  | .hbm, ⟨63, _⟩ => ⟨S2x8x2048x2048, .f32⟩
  | .hbm, ⟨64, _⟩ => ⟨S2x8x2048x2048, .f32⟩
  | .hbm, ⟨65, _⟩ => ⟨S_, .f32⟩
  | .hbm, ⟨66, _⟩ => ⟨S2x8x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S2x8x2048x64, .f32⟩
  | .hbm, ⟨71, _⟩ => ⟨S2x2048x8x64, .f32⟩
  | .hbm, ⟨72, _⟩ => ⟨S2x8x2048x64, .f32⟩
  | .hbm, ⟨73, _⟩ => ⟨S2x2048x8x64, .f32⟩
  | .hbm, ⟨74, _⟩ => ⟨S4096x512, .f32⟩
  | .hbm, ⟨75, _⟩ => ⟨S4096x512, .f32⟩
  | .hbm, ⟨76, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S8x1024 : Shape := ⟨2, ![8, 1024]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1x1024x704 : Shape := ⟨3, ![1, 1024, 704]⟩
abbrev S1024x704 : Shape := ⟨2, ![1024, 704]⟩
abbrev S256 : Shape := ⟨1, ![256]⟩
abbrev S256x1 : Shape := ⟨2, ![256, 1]⟩
abbrev S32x8x1024 : Shape := ⟨3, ![32, 8, 1024]⟩

abbrev nBuf : Space → Nat
  | .hbm => 39
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4x1024x704, .f32⟩
  | .hbm, ⟨22, _⟩ => ⟨S1024x4x704, .f32⟩
  | .hbm, ⟨23, _⟩ => ⟨S1024x2816, .f32⟩
  | .hbm, ⟨24, _⟩ => ⟨S4096x2816, .f32⟩
  | .hbm, ⟨25, _⟩ => ⟨S4096x4x704, .f32⟩
  | .hbm, ⟨26, _⟩ => ⟨S4x4096x704, .f32⟩
  | .hbm, ⟨27, _⟩ => ⟨S4x4096x704, .bf16⟩
  | .hbm, ⟨28, _⟩ => ⟨S4x1024x704, .f32⟩
  | .hbm, ⟨29, _⟩ => ⟨S1024x4x704, .f32⟩
  | .hbm, ⟨30, _⟩ => ⟨S1024x2816, .f32⟩
  | .hbm, ⟨31, _⟩ => ⟨S4096x2816, .f32⟩
  | .hbm, ⟨32, _⟩ => ⟨S4096x4x704, .f32⟩
  | .hbm, ⟨33, _⟩ => ⟨S4x4096x704, .f32⟩
  | .hbm, ⟨34, _⟩ => ⟨S4x4096x704, .bf16⟩
  | .hbm, ⟨35, _⟩ => ⟨S4x4096x704, .bf16⟩
  | .hbm, ⟨36, _⟩ => ⟨S4x4096x704, .bf16⟩
  | .hbm, ⟨37, _⟩ => ⟨S4096x1024, .f32⟩
  | .hbm, ⟨38, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S4x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x1024x704, .bf16⟩
  | .local _ .vmem, ⟨8, _⟩ => ⟨S4x1024x704, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1x1024 : Shape := ⟨2, ![1, 1024]⟩
abbrev S4x1024x704 : Shape := ⟨3, ![4, 1024, 704]⟩
abbrev S4x704x1024 : Shape := ⟨3, ![4, 704, 1024]⟩
abbrev S8x1024 : Shape := ⟨2, ![8, 1024]⟩
abbrev S512x8x1024 : Shape := ⟨3, ![512, 8, 1024]⟩
abbrev S_ : Shape := ⟨0, ![]⟩
abbrev S512x8 : Shape := ⟨2, ![512, 8]⟩
abbrev S512x8x1 : Shape := ⟨3, ![512, 8, 1]⟩
abbrev S1x8x1024 : Shape := ⟨3, ![1, 8, 1024]⟩
abbrev S1024x4x704 : Shape := ⟨3, ![1024, 4, 704]⟩
abbrev S1024x2816 : Shape := ⟨2, ![1024, 2816]⟩
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S4096x1024, .f32⟩
  | .hbm, ⟨6, _⟩ => ⟨S8x1024, .f32⟩
  | .hbm, ⟨7, _⟩ => ⟨S512x8x1024, .f32⟩
  | .hbm, ⟨8, _⟩ => ⟨S512x8x1024, .f32⟩
  | .hbm, ⟨9, _⟩ => ⟨S_, .f32⟩
  | .hbm, ⟨10, _⟩ => ⟨S512x8, .f32⟩
  | .hbm, ⟨11, _⟩ => ⟨S512x8x1, .f32⟩
  | .hbm, ⟨12, _⟩ => ⟨S_, .f32⟩
  | .hbm, ⟨13, _⟩ => ⟨S512x8x1, .f32⟩
  | .hbm, ⟨14, _⟩ => ⟨S512x8x1, .f32⟩
  | .hbm, ⟨15, _⟩ => ⟨S_, .f32⟩
  | .hbm, ⟨16, _⟩ => ⟨S512x8x1, .f32⟩
  | .hbm, ⟨17, _⟩ => ⟨S512x8x1, .f32⟩
  | .hbm, ⟨18, _⟩ => ⟨S512x8x1, .f32⟩
  | .hbm, ⟨19, _⟩ => ⟨S512x8x1, .f32⟩
  | .hbm, ⟨20, _⟩ => ⟨S_, .f32⟩
  | .hbm, ⟨21, _⟩ => ⟨S512x8x1, .f32⟩
  | .hbm, ⟨22, _⟩ => ⟨S512x8x1, .f32⟩
  | .hbm, ⟨23, _⟩ => ⟨S512x8x1024, .f32⟩
  | .hbm, ⟨24, _⟩ => ⟨S512x8x1024, .f32⟩
  | .hbm, ⟨25, _⟩ => ⟨S1x8x1024, .f32⟩
  | .hbm, ⟨26, _⟩ => ⟨S512x8x1024, .f32⟩
  | .hbm, ⟨27, _⟩ => ⟨S512x8x1024, .f32⟩
  | .hbm, ⟨28, _⟩ => ⟨S4096x1024, .f32⟩
  | .hbm, ⟨29, _⟩ => ⟨S4x1024x704, .f32⟩
  | .hbm, ⟨30, _⟩ => ⟨S1024x4x704, .f32⟩
  | .hbm, ⟨31, _⟩ => ⟨S1024x2816, .f32⟩
  | .hbm, ⟨32, _⟩ => ⟨S4096x2816, .f32⟩
  | .hbm, ⟨33, _⟩ => ⟨S4x1024x704, .f32⟩
  | .hbm, ⟨34, _⟩ => ⟨S1024x4x704, .f32⟩
  | .hbm, ⟨35, _⟩ => ⟨S1024x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4x704x1024, .f32⟩
  | .hbm, ⟨52, _⟩ => ⟨S2816x1024, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S512x8x1024, .f32⟩
  | .hbm, ⟨65, _⟩ => ⟨S512x8x1024, .f32⟩
  | .hbm, ⟨66, _⟩ => ⟨S_, .f32⟩
  | .hbm, ⟨67, _⟩ => ⟨S8x1024, .f32⟩
  | .hbm, ⟨68, _⟩ => ⟨S1x8x1024, .f32⟩
  | .hbm, ⟨69, _⟩ => ⟨S512x8x1024, .f32⟩
  | .hbm, ⟨70, _⟩ => ⟨S512x8x1024, .f32⟩
  | .hbm, ⟨71, _⟩ => ⟨S_, .f32⟩
  | .hbm, ⟨72, _⟩ => ⟨S8x1024, .f32⟩
  | .hbm, ⟨73, _⟩ => ⟨S512x8x1024, .f32⟩
  | .hbm, ⟨74, _⟩ => ⟨S_, .f32⟩
  | .hbm, ⟨75, _⟩ => ⟨S512x8, .f32⟩
  | .hbm, ⟨76, _⟩ => ⟨S512x8x1, .f32⟩
  | .hbm, ⟨77, _⟩ => ⟨S512x8x1024, .f32⟩
  | .hbm, ⟨78, _⟩ => ⟨S512x8x1024, .f32⟩
  | .hbm, ⟨79, _⟩ => ⟨S512x8x1, .f32⟩
  | .hbm, ⟨80, _⟩ => ⟨S_, .f32⟩
  | .hbm, ⟨81, _⟩ => ⟨S512x8x1, .f32⟩
  | .hbm, ⟨82, _⟩ => ⟨S512x8x1, .f32⟩
  | .hbm, ⟨83, _⟩ => ⟨S_, .f32⟩
  | .hbm, ⟨84, _⟩ => ⟨S512x8, .f32⟩
  | .hbm, ⟨85, _⟩ => ⟨S512x8x1024, .f32⟩
  | .hbm, ⟨86, _⟩ => ⟨S512x8x1024, .f32⟩
  | .hbm, ⟨87, _⟩ => ⟨S512x8x1024, .f32⟩
  | .hbm, ⟨88, _⟩ => ⟨S512x8x1024, .f32⟩
  | .hbm, ⟨89, _⟩ => ⟨S512x8x1024, .f32⟩
  | .hbm, ⟨90, _⟩ => ⟨S4096x1024, .f32⟩
  | .hbm, ⟨91, _⟩ => ⟨S4096x4x704, .f32⟩
  | .hbm, ⟨92, _⟩ => ⟨S4x4096x704, .f32⟩
  | .hbm, ⟨93, _⟩ => ⟨S4x4096x704, .bf16⟩
  | .hbm, ⟨94, _⟩ => ⟨S4096x4x704, .f32⟩
  | .hbm, ⟨95, _⟩ => ⟨S4x4096x704, .f32⟩
  | .hbm, ⟨96, _⟩ => ⟨S4x4096x704, .bf16⟩
  | .hbm, ⟨97, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4x4096x704 : Shape := ⟨3, ![4, 4096, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S4x4096x704 : Shape := ⟨3, ![4, 4096, 704]⟩
abbrev S4096x4x704 : Shape := ⟨3, ![4096, 4, 704]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4096x1024, .f32⟩
  | .hbm, ⟨3, _⟩ => ⟨S4x4096x704, .f32⟩
  | .hbm, ⟨4, _⟩ => ⟨S4096x4x704, .f32⟩
  | .hbm, ⟨5, _⟩ => ⟨S4096x2816, .f32⟩
  | .hbm, ⟨6, _⟩ => ⟨S_, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S4096x2560 : Shape := ⟨2, ![4096, 2560]⟩
abbrev S4x1024x640 : Shape := ⟨3, ![4, 1024, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4096x1024, .f32⟩
  | .hbm, ⟨3, _⟩ => ⟨S4096x2560, .f32⟩
  | .hbm, ⟨4, _⟩ => ⟨S_, .f32⟩
  | .hbm, ⟨5, _⟩ => ⟨S1024x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2560 : Shape := ⟨2, ![4096, 2560]⟩
abbrev S4x1024x640 : Shape := ⟨3, ![4, 1024, 640]⟩
abbrev S4096x1024 : Shape := ⟨2, ![4096, 1024]⟩
abbrev S1x1024 : Shape := ⟨2, ![1, 1024]⟩
abbrev S8x1024 : Shape := ⟨2, ![8, 1024]⟩
abbrev S512x2560 : Shape := ⟨2, ![512, 2560]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩
abbrev S512 : Shape := ⟨1, ![512]⟩
abbrev S512x1 : Shape := ⟨2, ![512, 1]⟩
abbrev S64x8x1024 : Shape := ⟨3, ![64, 8, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2560, .bf16⟩
  | .hbm, ⟨1, _⟩ => ⟨S4x1024x640, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S8x1024, .f32⟩
  | .local _ .vmem, ⟨0, _⟩ => ⟨S512x2560, .bf16⟩
  | .local _ .vmem, ⟨1, _⟩ => ⟨S512x2560, .bf16⟩
  | .local _ .vmem, ⟨2, _⟩ => ⟨S4x1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x2560 : Shape := ⟨2, ![4096, 2560]⟩
abbrev S4x1024x640 : Shape := ⟨3, ![4, 1024, 640]⟩
abbrev S4096x1024 : Shape := ⟨2, ![4096, 1024]⟩
abbrev S1x1024 : Shape := ⟨2, ![1, 1024]⟩
abbrev S8x1024 : Shape := ⟨2, ![8, 1024]⟩
abbrev S512x8x1024 : Shape := ⟨3, ![512, 8, 1024]⟩
abbrev S_ : Shape := ⟨0, ![]⟩
abbrev S512x8 : Shape := ⟨2, ![512, 8]⟩
abbrev S512x8x1 : Shape := ⟨3, ![512, 8, 1]⟩
abbrev S1x8x1024 : Shape := ⟨3, ![1, 8, 1024]⟩
abbrev S1024x4x640 : Shape := ⟨3, ![1024, 4, 640]⟩
abbrev S1024x2560 : Shape := ⟨2, ![1024, 2560]⟩

abbrev nBuf : Space → Nat
  | .hbm => 62
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4x1024x640, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024, .f32⟩
  | .hbm, ⟨6, _⟩ => ⟨S512x8x1024, .f32⟩
  | .hbm, ⟨7, _⟩ => ⟨S512x8x1024, .f32⟩
  | .hbm, ⟨8, _⟩ => ⟨S_, .f32⟩
  | .hbm, ⟨9, _⟩ => ⟨S512x8, .f32⟩
  | .hbm, ⟨10, _⟩ => ⟨S512x8x1, .f32⟩
  | .hbm, ⟨11, _⟩ => ⟨S_, .f32⟩
  | .hbm, ⟨12, _⟩ => ⟨S512x8x1, .f32⟩
  | .hbm, ⟨13, _⟩ => ⟨S512x8x1, .f32⟩
  | .hbm, ⟨14, _⟩ => ⟨S_, .f32⟩
  | .hbm, ⟨15, _⟩ => ⟨S512x8x1, .f32⟩
  | .hbm, ⟨16, _⟩ => ⟨S512x8x1, .f32⟩
  | .hbm, ⟨17, _⟩ => ⟨S512x8x1, .f32⟩
  | .hbm, ⟨18, _⟩ => ⟨S512x8x1, .f32⟩
  | .hbm, ⟨19, _⟩ => ⟨S_, .f32⟩
  | .hbm, ⟨20, _⟩ => ⟨S512x8x1, .f32⟩
  | .hbm, ⟨21, _⟩ => ⟨S512x8x1, .f32⟩
  | .hbm, ⟨22, _⟩ => ⟨S512x8x1024, .f32⟩
  | .hbm, ⟨23, _⟩ => ⟨S512x8x1024, .f32⟩
  | .hbm, ⟨24, _⟩ => ⟨S1x8x1024, .f32⟩
  | .hbm, ⟨25, _⟩ => ⟨S512x8x1024, .f32⟩
  | .hbm, ⟨26, _⟩ => ⟨S512x8x1024, .f32⟩
  | .hbm, ⟨27, _⟩ => ⟨S4096x1024, .f32⟩
  | .hbm, ⟨28, _⟩ => ⟨S4x1024x640, .f32⟩
  | .hbm, ⟨29, _⟩ => ⟨S1024x4x640, .f32⟩
  | .hbm, ⟨30, _⟩ => ⟨S1024x2560, .f32⟩
  | .hbm, ⟨31, _⟩ => ⟨S4096x2560, .f32⟩
  | .hbm, ⟨32, _⟩ => ⟨S4096x2560, .f32⟩
  | .hbm, ⟨33, _⟩ => ⟨S4096x1024, .f32⟩
  | .hbm, ⟨34, _⟩ => ⟨S512x8x1024, .f32⟩
  | .hbm, ⟨35, _⟩ => ⟨S512x8x1024, .f32⟩
  | .hbm, ⟨36, _⟩ => ⟨S_, .f32⟩
  | .hbm, ⟨37, _⟩ => ⟨S8x1024, .f32⟩
  | .hbm, ⟨38, _⟩ => ⟨S1x8x1024, .f32⟩
  | .hbm, ⟨39, _⟩ => ⟨S512x8x1024, .f32⟩
  | .hbm, ⟨40, _⟩ => ⟨S512x8x1024, .f32⟩
  | .hbm, ⟨41, _⟩ => ⟨S_, .f32⟩
  | .hbm, ⟨42, _⟩ => ⟨S8x1024, .f32⟩
  | .hbm, ⟨43, _⟩ => ⟨S512x8x1024, .f32⟩
  | .hbm, ⟨44, _⟩ => ⟨S_, .f32⟩
  | .hbm, ⟨45, _⟩ => ⟨S512x8, .f32⟩
  | .hbm, ⟨46, _⟩ => ⟨S512x8x1, .f32⟩
  | .hbm, ⟨47, _⟩ => ⟨S512x8x1024, .f32⟩
  | .hbm, ⟨48, _⟩ => ⟨S512x8x1024, .f32⟩
  | .hbm, ⟨49, _⟩ => ⟨S512x8x1, .f32⟩
  | .hbm, ⟨50, _⟩ => ⟨S_, .f32⟩
  | .hbm, ⟨51, _⟩ => ⟨S512x8x1, .f32⟩
  | .hbm, ⟨52, _⟩ => ⟨S512x8x1, .f32⟩
  | .hbm, ⟨53, _⟩ => ⟨S_, .f32⟩
  | .hbm, ⟨54, _⟩ => ⟨S512x8, .f32⟩
  | .hbm, ⟨55, _⟩ => ⟨S512x8x1024, .f32⟩
  | .hbm, ⟨56, _⟩ => ⟨S512x8x1024, .f32⟩
  | .hbm, ⟨57, _⟩ => ⟨S512x8x1024, .f32⟩
  | .hbm, ⟨58, _⟩ => ⟨S512x8x1024, .f32⟩
  | .hbm, ⟨59, _⟩ => ⟨S512x8x1024, .f32⟩
  | .hbm, ⟨60, _⟩ => ⟨S4096x1024, .f32⟩
  | .hbm, ⟨61, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel8.lean ====
abbrev S4096x1024 : Shape := ⟨2, ![4096, 1024]⟩
abbrev S4x256x1024 : Shape := ⟨3, ![4, 256, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4x256x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S4x256x1024 : Shape := ⟨3, ![4, 256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x1024, .bf16⟩
  | .hbm, ⟨2, _⟩ => ⟨S4x256x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S4x1024x704 : Shape := ⟨3, ![4, 1024, 704]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x4096x704, .bf16⟩
  | .hbm, ⟨5, _⟩ => ⟨S4x4096x704, .bf16⟩
  | .hbm, ⟨6, _⟩ => ⟨S4x4096x704, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x704, .bf16⟩
  | .local _ .vmem, ⟨4, _⟩ => ⟨S4x1024x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4096x1024 : Shape := ⟨2, ![4096, 1024]⟩
abbrev S1x1024 : Shape := ⟨2, ![1, 1024]⟩
abbrev S4x1024x704 : Shape := ⟨3, ![4, 1024, 704]⟩
abbrev S_ : Shape := ⟨0, ![]⟩
abbrev S4096 : Shape := ⟨1, ![4096]⟩
abbrev S4096x1 : Shape := ⟨2, ![4096, 1]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4x1024x704, .f32⟩
  | .hbm, ⟨20, _⟩ => ⟨S1024x4x704, .f32⟩
  | .hbm, ⟨21, _⟩ => ⟨S1024x2816, .f32⟩
  | .hbm, ⟨22, _⟩ => ⟨S4096x2816, .f32⟩
  | .hbm, ⟨23, _⟩ => ⟨S4x1024x704, .f32⟩
  | .hbm, ⟨24, _⟩ => ⟨S1024x4x704, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S4096x4x704, .f32⟩
  | .hbm, ⟨44, _⟩ => ⟨S4x4096x704, .f32⟩
  | .hbm, ⟨45, _⟩ => ⟨S4x4096x704, .bf16⟩
  | .hbm, ⟨46, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S4x1024x640 : Shape := ⟨3, ![4, 1024, 640]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x640, .bf16⟩
  | .hbm, ⟨3, _⟩ => ⟨S4096x2560, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x1024 : Shape := ⟨2, ![4096, 1024]⟩
abbrev S1x1024 : Shape := ⟨2, ![1, 1024]⟩
abbrev S4x1024x640 : Shape := ⟨3, ![4, 1024, 640]⟩
abbrev S_ : Shape := ⟨0, ![]⟩
abbrev S4096 : Shape := ⟨1, ![4096]⟩
abbrev S4096x1 : Shape := ⟨2, ![4096, 1]⟩
abbrev S1024x4x640 : Shape := ⟨3, ![1024, 4, 640]⟩
abbrev S1024x2560 : Shape := ⟨2, ![1024, 2560]⟩
abbrev S4096x2560 : Shape := ⟨2, ![4096, 2560]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x640, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4x1024x640, .f32⟩
  | .hbm, ⟨19, _⟩ => ⟨S1024x4x640, .f32⟩
  | .hbm, ⟨20, _⟩ => ⟨S1024x2560, .f32⟩
  | .hbm, ⟨21, _⟩ => ⟨S4096x2560, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S4x4096x704 : Shape := ⟨3, ![4, 4096, 704]⟩
abbrev S4x704x1024 : Shape := ⟨3, ![4, 704, 1024]⟩
abbrev S4096x1024 : Shape := ⟨2, ![4096, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S4096x4x704 : Shape := ⟨3, ![4096, 4, 704]⟩
abbrev S4096x2816 : Shape := ⟨2, ![4096, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4x4096x704, .f32⟩
  | .hbm, ⟨4, _⟩ => ⟨S4096x4x704, .f32⟩
  | .hbm, ⟨5, _⟩ => ⟨S4096x2816, .f32⟩
  | .hbm, ⟨6, _⟩ => ⟨S4x704x1024, .f32⟩
  | .hbm, ⟨7, _⟩ => ⟨S2816x1024, .f32⟩
  | .hbm, ⟨8, _⟩ => ⟨S4096x1024, .f32⟩
  | .hbm, ⟨9, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S4x256x1024 : Shape := ⟨3, ![4, 256, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S4096x1024, .f32⟩
  | .hbm, ⟨4, _⟩ => ⟨S4x256x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x512 : Shape := ⟨2, ![4096, 512]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .f32⟩
  | .local _ .vmem, ⟨7, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference13Ideal.lean ====
abbrev S4096x512 : Shape := ⟨2, ![4096, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .f32⟩
  | .hbm, ⟨4, _⟩ => ⟨S2x2048x8x64, .f32⟩
  | .hbm, ⟨5, _⟩ => ⟨S4096x512, .f32⟩
  | .hbm, ⟨6, _⟩ => ⟨S2x2048x8x64, .f32⟩
  | .hbm, ⟨7, _⟩ => ⟨S4096x512, .f32⟩
  | .hbm, ⟨8, _⟩ => ⟨S2x2048x8x64, .f32⟩
  | .hbm, ⟨9, _⟩ => ⟨S2x8x2048x2048, .f32⟩
  | .hbm, ⟨10, _⟩ => ⟨S_, .f32⟩
  | .hbm, ⟨11, _⟩ => ⟨S2x8x2048, .f32⟩
  | .hbm, ⟨12, _⟩ => ⟨S_, .f32⟩
  | .hbm, ⟨13, _⟩ => ⟨S2x8x2048, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x64x2048, .f32⟩
  | .hbm, ⟨25, _⟩ => ⟨S2x2048x8x64, .f32⟩
  | .hbm, ⟨26, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel14.lean ====
abbrev S4x4096x704 : Shape := ⟨3, ![4, 4096, 704]⟩
abbrev S4x704x1024 : Shape := ⟨3, ![4, 704, 1024]⟩
abbrev S4096x1024 : Shape := ⟨2, ![4096, 1024]⟩
abbrev S8x1024 : Shape := ⟨2, ![8, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S64x8x1024 : Shape := ⟨3, ![64, 8, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S512x8x1024 : Shape := ⟨3, ![512, 8, 1024]⟩
abbrev S8x1024 : Shape := ⟨2, ![8, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4x704x1024, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S512x8x1024, .f32⟩
  | .hbm, ⟨37, _⟩ => ⟨S_, .f32⟩
  | .hbm, ⟨38, _⟩ => ⟨S8x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel15.lean ====
abbrev S4096x1024 : Shape := ⟨2, ![4096, 1024]⟩
abbrev S4096x512 : Shape := ⟨2, ![4096, 512]⟩
abbrev S4096x256 : Shape := ⟨2, ![4096, 256]⟩
abbrev S4096x2560 : Shape := ⟨2, ![4096, 2560]⟩
abbrev S1x512 : Shape := ⟨2, ![1, 512]⟩
abbrev S1x256 : Shape := ⟨2, ![1, 256]⟩
abbrev S4x64 : Shape := ⟨2, ![4, 64]⟩
abbrev S256 : Shape := ⟨1, ![256]⟩
abbrev S256x1 : Shape := ⟨2, ![256, 1]⟩
abbrev S256x256 : Shape := ⟨2, ![256, 256]⟩
abbrev S_ : Shape := ⟨0, ![]⟩
abbrev S8x512 : Shape := ⟨2, ![8, 512]⟩
abbrev S8x256 : Shape := ⟨2, ![8, 256]⟩
abbrev S256x1024 : Shape := ⟨2, ![256, 1024]⟩
abbrev S256x512 : Shape := ⟨2, ![256, 512]⟩
abbrev S32x8x512 : Shape := ⟨3, ![32, 8, 512]⟩
abbrev S32x8x256 : Shape := ⟨3, ![32, 8, 256]⟩

abbrev nBuf : Space → Nat
  | .hbm => 28
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S4096x2560, .f32⟩
  | .hbm, ⟨5, _⟩ => ⟨S4096x256, .f32⟩
  | .hbm, ⟨6, _⟩ => ⟨S1x512, .f32⟩
  | .hbm, ⟨7, _⟩ => ⟨S1x256, .f32⟩
  | .hbm, ⟨8, _⟩ => ⟨S1x256, .f32⟩
  | .hbm, ⟨9, _⟩ => ⟨S4x64, .i32⟩
  | .hbm, ⟨10, _⟩ => ⟨S256, .i32⟩
  | .hbm, ⟨11, _⟩ => ⟨S256x1, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S4096x512, .f32⟩
  | .hbm, ⟨22, _⟩ => ⟨S4096x256, .f32⟩
  | .hbm, ⟨23, _⟩ => ⟨S4096x256, .bf16⟩
  | .hbm, ⟨24, _⟩ => ⟨S4096x256, .f32⟩
  | .hbm, ⟨25, _⟩ => ⟨S8x512, .f32⟩
  | .hbm, ⟨26, _⟩ => ⟨S8x256, .f32⟩
  | .hbm, ⟨27, _⟩ => ⟨S8x256, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x512, .f32⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S256x512, .f32⟩
  | .local _ .vmem, ⟨17, _⟩ => ⟨S256x512, .f32⟩
  | .local _ .vmem, ⟨18, _⟩ => ⟨S256x256, .f32⟩
  | .local _ .vmem, ⟨19, _⟩ => ⟨S256x256, .f32⟩
  | .local _ .vmem, ⟨20, _⟩ => ⟨S256x256, .bf16⟩
  | .local _ .vmem, ⟨21, _⟩ => ⟨S256x256, .bf16⟩
  | .local _ .vmem, ⟨22, _⟩ => ⟨S256x256, .f32⟩
  | .local _ .vmem, ⟨23, _⟩ => ⟨S256x256, .f32⟩
  | .local _ .vmem, ⟨24, _⟩ => ⟨S8x512, .f32⟩
  | .local _ .vmem, ⟨25, _⟩ => ⟨S8x256, .f32⟩
  | .local _ .vmem, ⟨26, _⟩ => ⟨S8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference15Ideal.lean ====
abbrev S4096x1024 : Shape := ⟨2, ![4096, 1024]⟩
abbrev S4096x512 : Shape := ⟨2, ![4096, 512]⟩
abbrev S4096x256 : Shape := ⟨2, ![4096, 256]⟩
abbrev S4096x2560 : Shape := ⟨2, ![4096, 2560]⟩
abbrev S1x512 : Shape := ⟨2, ![1, 512]⟩
abbrev S1x256 : Shape := ⟨2, ![1, 256]⟩
abbrev S8x512 : Shape := ⟨2, ![8, 512]⟩
abbrev S8x256 : Shape := ⟨2, ![8, 256]⟩
abbrev S512x8x4x64 : Shape := ⟨4, ![512, 8, 4, 64]⟩
abbrev S8x4x64 : Shape := ⟨3, ![8, 4, 64]⟩
abbrev S_ : Shape := ⟨0, ![]⟩
abbrev S512x8x4 : Shape := ⟨3, ![512, 8, 4]⟩
abbrev S512x8x4x1 : Shape := ⟨4, ![512, 8, 4, 1]⟩
abbrev S1x8x4x64 : Shape := ⟨4, ![1, 8, 4, 64]⟩
abbrev S512x8x512 : Shape := ⟨3, ![512, 8, 512]⟩
abbrev S512x8 : Shape := ⟨2, ![512, 8]⟩
abbrev S512x8x1 : Shape := ⟨3, ![512, 8, 1]⟩
abbrev S1x8x512 : Shape := ⟨3, ![1, 8, 512]⟩
abbrev S512x8x256 : Shape := ⟨3, ![512, 8, 256]⟩
abbrev S1x8x256 : Shape := ⟨3, ![1, 8, 256]⟩

abbrev nBuf : Space → Nat
  | .hbm => 190
  | .vmem => 0
  | .smem => 0
  | _ => 0

abbrev hbmTy0_0 (i : Nat) : BufTy := match i % 128 with
  | 0 => ⟨S4096x1024, .f32⟩
  | 1 => ⟨S4096x512, .f32⟩
  | 2 => ⟨S4096x256, .f32⟩
  | 3 => ⟨S4096x256, .f32⟩
  | 4 => ⟨S4096x2560, .f32⟩
  | 5 => ⟨S4096x256, .f32⟩
  | 6 => ⟨S1x512, .f32⟩
  | 7 => ⟨S1x256, .f32⟩
  | 8 => ⟨S1x256, .f32⟩
  | 9 => ⟨S4096x256, .f32⟩
  | 10 => ⟨S4096x256, .f32⟩
  | 11 => ⟨S8x512, .f32⟩
  | 12 => ⟨S8x256, .f32⟩
  | 13 => ⟨S8x256, .f32⟩
  | 14 => ⟨S512x8x4x64, .f32⟩
  | 15 => ⟨S8x4x64, .f32⟩
  | 16 => ⟨S512x8x4x64, .f32⟩
  | 17 => ⟨S_, .f32⟩
  | 18 => ⟨S512x8x4, .f32⟩
  | 19 => ⟨S512x8x4x1, .f32⟩
  | 20 => ⟨S_, .f32⟩
  | 21 => ⟨S512x8x4x1, .f32⟩
  | 22 => ⟨S512x8x4x1, .f32⟩
  | 23 => ⟨S_, .f32⟩
  | 24 => ⟨S512x8x4x1, .f32⟩
  | 25 => ⟨S512x8x4x1, .f32⟩
  | 26 => ⟨S512x8x4x1, .f32⟩
  | 27 => ⟨S512x8x4x1, .f32⟩
  | 28 => ⟨S_, .f32⟩
  | 29 => ⟨S512x8x4x1, .f32⟩
  | 30 => ⟨S512x8x4x1, .f32⟩
  | 31 => ⟨S512x8x4x64, .f32⟩
  | 32 => ⟨S512x8x4x64, .f32⟩
  | 33 => ⟨S1x8x4x64, .f32⟩
  | 34 => ⟨S512x8x4x64, .f32⟩
  | 35 => ⟨S512x8x4x64, .f32⟩
  | 36 => ⟨S512x8x4x64, .f32⟩
  | 37 => ⟨S512x8x4x64, .f32⟩
  | 38 => ⟨S512x8x4x64, .f32⟩
  | 39 => ⟨S_, .f32⟩
  | 40 => ⟨S512x8x4x64, .f32⟩
  | 41 => ⟨S512x8x4x64, .f32⟩
  | 42 => ⟨S_, .f32⟩
  | 43 => ⟨S512x8x4x64, .f32⟩
  | 44 => ⟨S512x8x4x64, .f32⟩
  | 45 => ⟨S_, .f32⟩
  | 46 => ⟨S512x8x4x64, .f32⟩
  | 47 => ⟨S512x8x4x64, .f32⟩
  | 48 => ⟨S512x8x4x64, .f32⟩
  | 49 => ⟨S512x8x4x64, .f32⟩
  | 50 => ⟨S512x8x4x64, .f32⟩
  | 51 => ⟨S512x8x512, .f32⟩
  | 52 => ⟨S512x8x512, .f32⟩
  | 53 => ⟨S_, .f32⟩
  | 54 => ⟨S512x8, .f32⟩
  | 55 => ⟨S512x8x1, .f32⟩
  | 56 => ⟨S_, .f32⟩
  | 57 => ⟨S512x8x1, .f32⟩
  | 58 => ⟨S512x8x1, .f32⟩
  | 59 => ⟨S_, .f32⟩
  | 60 => ⟨S512x8x1, .f32⟩
  | 61 => ⟨S512x8x1, .f32⟩
  | 62 => ⟨S512x8x1, .f32⟩
  | 63 => ⟨S512x8x1, .f32⟩
  | 64 => ⟨S_, .f32⟩
  | 65 => ⟨S512x8x1, .f32⟩
  | 66 => ⟨S512x8x1, .f32⟩
  | 67 => ⟨S512x8x512, .f32⟩
  | 68 => ⟨S512x8x512, .f32⟩
  | 69 => ⟨S1x8x512, .f32⟩
  | 70 => ⟨S512x8x512, .f32⟩
  | 71 => ⟨S512x8x512, .f32⟩
  | 72 => ⟨S4096x512, .f32⟩
  | 73 => ⟨S4096x256, .f32⟩
  | 74 => ⟨S512x8x256, .f32⟩
  | 75 => ⟨S512x8x256, .f32⟩
  | 76 => ⟨S_, .f32⟩
  | 77 => ⟨S512x8, .f32⟩
  | 78 => ⟨S512x8x1, .f32⟩
  | 79 => ⟨S_, .f32⟩
  | 80 => ⟨S512x8x1, .f32⟩
  | 81 => ⟨S512x8x1, .f32⟩
  | 82 => ⟨S_, .f32⟩
  | 83 => ⟨S512x8x1, .f32⟩
  | 84 => ⟨S512x8x1, .f32⟩
  | 85 => ⟨S512x8x1, .f32⟩
  | 86 => ⟨S512x8x1, .f32⟩
  | 87 => ⟨S_, .f32⟩
  | 88 => ⟨S512x8x1, .f32⟩
  | 89 => ⟨S512x8x1, .f32⟩
  | 90 => ⟨S512x8x256, .f32⟩
  | 91 => ⟨S512x8x256, .f32⟩
  | 92 => ⟨S1x8x256, .f32⟩
  | 93 => ⟨S512x8x256, .f32⟩
  | 94 => ⟨S512x8x256, .f32⟩
  | 95 => ⟨S4096x256, .f32⟩
  | 96 => ⟨S4096x1024, .f32⟩
  | 97 => ⟨S4096x512, .f32⟩
  | 98 => ⟨S4096x256, .f32⟩
  | 99 => ⟨S4096x256, .f32⟩
  | 100 => ⟨S512x8x256, .f32⟩
  | 101 => ⟨S512x8x256, .f32⟩
  | 102 => ⟨S_, .f32⟩
  | 103 => ⟨S8x256, .f32⟩
  | 104 => ⟨S1x8x256, .f32⟩
  | 105 => ⟨S512x8x256, .f32⟩
  | 106 => ⟨S512x8x256, .f32⟩
  | 107 => ⟨S_, .f32⟩
  | 108 => ⟨S8x256, .f32⟩
  | 109 => ⟨S512x8x256, .f32⟩
  | 110 => ⟨S_, .f32⟩
  | 111 => ⟨S512x8, .f32⟩
  | 112 => ⟨S512x8x1, .f32⟩
  | 113 => ⟨S512x8x256, .f32⟩
  | 114 => ⟨S512x8x256, .f32⟩
  | 115 => ⟨S512x8x1, .f32⟩
  | 116 => ⟨S_, .f32⟩
  | 117 => ⟨S512x8x1, .f32⟩
  | 118 => ⟨S512x8x1, .f32⟩
  | 119 => ⟨S_, .f32⟩
  | 120 => ⟨S512x8, .f32⟩
  | 121 => ⟨S512x8x256, .f32⟩
  | 122 => ⟨S512x8x256, .f32⟩
  | 123 => ⟨S512x8x256, .f32⟩
  | 124 => ⟨S512x8x256, .f32⟩
  | 125 => ⟨S512x8x256, .f32⟩
  | 126 => ⟨S4096x256, .f32⟩
  | 127 => ⟨S512x8x4x64, .f32⟩
  | _ => ⟨S4096x1024, .f32⟩

abbrev hbmTy0_1 (i : Nat) : BufTy := match i % 128 with
  | 0 => ⟨S512x8x512, .f32⟩
  | 1 => ⟨S512x8x512, .f32⟩
  | 2 => ⟨S_, .f32⟩
  | 3 => ⟨S8x512, .f32⟩
  | 4 => ⟨S1x8x512, .f32⟩
  | 5 => ⟨S512x8x512, .f32⟩
  | 6 => ⟨S512x8x512, .f32⟩
  | 7 => ⟨S_, .f32⟩
  | 8 => ⟨S8x512, .f32⟩
  | 9 => ⟨S512x8x512, .f32⟩
  | 10 => ⟨S_, .f32⟩
  | 11 => ⟨S512x8, .f32⟩
  | 12 => ⟨S512x8x1, .f32⟩
  | 13 => ⟨S512x8x512, .f32⟩
  | 14 => ⟨S512x8x512, .f32⟩
  | 15 => ⟨S512x8x1, .f32⟩
  | 16 => ⟨S_, .f32⟩
  | 17 => ⟨S512x8x1, .f32⟩
  | 18 => ⟨S512x8x1, .f32⟩
  | 19 => ⟨S_, .f32⟩
  | 20 => ⟨S512x8, .f32⟩
  | 21 => ⟨S512x8x512, .f32⟩
  | 22 => ⟨S512x8x512, .f32⟩
  | 23 => ⟨S512x8x512, .f32⟩
  | 24 => ⟨S512x8x512, .f32⟩
  | 25 => ⟨S512x8x512, .f32⟩
  | 26 => ⟨S4096x512, .f32⟩
  | 27 => ⟨S512x8x4x64, .f32⟩
  | 28 => ⟨S512x8x4x64, .f32⟩
  | 29 => ⟨S512x8x4x64, .f32⟩
  | 30 => ⟨S512x8x4x64, .f32⟩
  | 31 => ⟨S512x8x4x64, .f32⟩
  | 32 => ⟨S512x8x4x64, .f32⟩
  | 33 => ⟨S4096x256, .f32⟩
  | 34 => ⟨S512x8x4x64, .f32⟩
  | 35 => ⟨S_, .f32⟩
  | 36 => ⟨S8x4x64, .f32⟩
  | 37 => ⟨S1x8x4x64, .f32⟩
  | 38 => ⟨S512x8x4x64, .f32⟩
  | 39 => ⟨S512x8x4x64, .f32⟩
  | 40 => ⟨S_, .f32⟩
  | 41 => ⟨S8x4x64, .f32⟩
  | 42 => ⟨S512x8x4x64, .f32⟩
  | 43 => ⟨S_, .f32⟩
  | 44 => ⟨S512x8x4, .f32⟩
  | 45 => ⟨S512x8x4x1, .f32⟩
  | 46 => ⟨S512x8x4x64, .f32⟩
  | 47 => ⟨S512x8x4x64, .f32⟩
  | 48 => ⟨S512x8x4x1, .f32⟩
  | 49 => ⟨S_, .f32⟩
  | 50 => ⟨S512x8x4x1, .f32⟩
  | 51 => ⟨S512x8x4x1, .f32⟩
  | 52 => ⟨S_, .f32⟩
  | 53 => ⟨S512x8x4, .f32⟩
  | 54 => ⟨S512x8x4x64, .f32⟩
  | 55 => ⟨S512x8x4x64, .f32⟩
  | 56 => ⟨S512x8x4x64, .f32⟩
  | 57 => ⟨S512x8x4x64, .f32⟩
  | 58 => ⟨S512x8x4x64, .f32⟩
  | 59 => ⟨S8x256, .f32⟩
  | 60 => ⟨S4096x256, .f32⟩
  | 61 => ⟨S4096x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v24_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v24_1 : Ref sig .tc := ⟨.hbm, 48, rfl⟩
abbrev main_v24_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_16 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_17 : Ref sig .tc := ⟨.hbm, 135, rfl⟩
abbrev main_v96 : Ref sig .tc := ⟨.hbm, 136, rfl⟩
abbrev main_v97 : Ref sig .tc := ⟨.hbm, 137, rfl⟩
abbrev main_cst_18 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_19 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_21 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_22 : Ref sig .tc := ⟨.hbm, 168, rfl⟩
abbrev main_v121 : Ref sig .tc := ⟨.hbm, 169, rfl⟩
abbrev main_v122 : Ref sig .tc := ⟨.hbm, 170, rfl⟩
abbrev main_cst_23 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_24 : Ref sig .tc := ⟨.hbm, 177, rfl⟩
abbrev main_v128 : Ref sig .tc := ⟨.hbm, 178, rfl⟩
abbrev main_v129 : Ref sig .tc := ⟨.hbm, 179, rfl⟩
abbrev main_cst_25 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩

abbrev nD : Nat := 1
abbrev τ : Topo := Topo.v7x

variable {F : FTy → Type} [FloatOps F]
-- ==== Kernel16.lean ====
abbrev S4096x512 : Shape := ⟨2, ![4096, 512]⟩
abbrev S4096x256 : Shape := ⟨2, ![4096, 256]⟩
abbrev S4096x2560 : Shape := ⟨2, ![4096, 2560]⟩
abbrev S1x512 : Shape := ⟨2, ![1, 512]⟩
abbrev S1x256 : Shape := ⟨2, ![1, 256]⟩
abbrev S4x64 : Shape := ⟨2, ![4, 64]⟩
abbrev S256 : Shape := ⟨1, ![256]⟩
abbrev S256x1 : Shape := ⟨2, ![256, 1]⟩
abbrev S256x256 : Shape := ⟨2, ![256, 256]⟩
abbrev S_ : Shape := ⟨0, ![]⟩
abbrev S4096x1024 : Shape := ⟨2, ![4096, 1024]⟩
abbrev S256x512 : Shape := ⟨2, ![256, 512]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x2560, .f32⟩
  | .hbm, ⟨4, _⟩ => ⟨S4096x256, .f32⟩
  | .hbm, ⟨5, _⟩ => ⟨S1x512, .f32⟩
  | .hbm, ⟨6, _⟩ => ⟨S1x256, .f32⟩
  | .hbm, ⟨7, _⟩ => ⟨S1x256, .f32⟩
  | .hbm, ⟨8, _⟩ => ⟨S4x64, .i32⟩
  | .hbm, ⟨9, _⟩ => ⟨S256, .i32⟩
  | .hbm, ⟨10, _⟩ => ⟨S256x1, .i32⟩
  | .hbm, ⟨11, _⟩ => ⟨S1x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .bf16⟩
  | .hbm, ⟨20, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x512, .f32⟩
  | .local _ .vmem, ⟨11, _⟩ => ⟨S1x256, .f32⟩
  | .local _ .vmem, ⟨12, _⟩ => ⟨S1x256, .f32⟩
  | .local _ .vmem, ⟨13, _⟩ => ⟨S256x256, .bf16⟩
  | .local _ .vmem, ⟨14, _⟩ => ⟨S256x1024, .bf16⟩
  | .local _ .vmem, ⟨15, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S4096x512 : Shape := ⟨2, ![4096, 512]⟩
abbrev S4096x256 : Shape := ⟨2, ![4096, 256]⟩
abbrev S4096x2560 : Shape := ⟨2, ![4096, 2560]⟩
abbrev S1x512 : Shape := ⟨2, ![1, 512]⟩
abbrev S1x256 : Shape := ⟨2, ![1, 256]⟩
abbrev S4096x4x64 : Shape := ⟨3, ![4096, 4, 64]⟩
abbrev S1x4x64 : Shape := ⟨3, ![1, 4, 64]⟩
abbrev S_ : Shape := ⟨0, ![]⟩
abbrev S4096x4 : Shape := ⟨2, ![4096, 4]⟩
abbrev S4096x4x1 : Shape := ⟨3, ![4096, 4, 1]⟩
abbrev S4096 : Shape := ⟨1, ![4096]⟩
abbrev S4096x1 : Shape := ⟨2, ![4096, 1]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x2560, .f32⟩
  | .hbm, ⟨4, _⟩ => ⟨S4096x256, .f32⟩
  | .hbm, ⟨5, _⟩ => ⟨S1x512, .f32⟩
  | .hbm, ⟨6, _⟩ => ⟨S1x256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S4096x4x64, .f32⟩
  | .hbm, ⟨11, _⟩ => ⟨S1x4x64, .f32⟩
  | .hbm, ⟨12, _⟩ => ⟨S4096x4x64, .f32⟩
  | .hbm, ⟨13, _⟩ => ⟨S_, .f32⟩
  | .hbm, ⟨14, _⟩ => ⟨S4096x4, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S_, .f32⟩
  | .hbm, ⟨20, _⟩ => ⟨S4096x4x1, .f32⟩
  | .hbm, ⟨21, _⟩ => ⟨S4096x4x1, .f32⟩
  | .hbm, ⟨22, _⟩ => ⟨S4096x4x1, .f32⟩
  | .hbm, ⟨23, _⟩ => ⟨S4096x4x64, .f32⟩
  | .hbm, ⟨24, _⟩ => ⟨S4096x4x64, .f32⟩
  | .hbm, ⟨25, _⟩ => ⟨S4096x4x64, .f32⟩
  | .hbm, ⟨26, _⟩ => ⟨S4096x4x64, .f32⟩
  | .hbm, ⟨27, _⟩ => ⟨S4096x4x64, .f32⟩
  | .hbm, ⟨28, _⟩ => ⟨S4096x4x64, .f32⟩
  | .hbm, ⟨29, _⟩ => ⟨S4096x4x64, .f32⟩
  | .hbm, ⟨30, _⟩ => ⟨S_, .f32⟩
  | .hbm, ⟨31, _⟩ => ⟨S4096x4x64, .f32⟩
  | .hbm, ⟨32, _⟩ => ⟨S4096x4x64, .f32⟩
  | .hbm, ⟨33, _⟩ => ⟨S_, .f32⟩
  | .hbm, ⟨34, _⟩ => ⟨S4096x4x64, .f32⟩
  | .hbm, ⟨35, _⟩ => ⟨S4096x4x64, .f32⟩
  | .hbm, ⟨36, _⟩ => ⟨S4096x4x64, .f32⟩
  | .hbm, ⟨37, _⟩ => ⟨S4096x4x64, .f32⟩
  | .hbm, ⟨38, _⟩ => ⟨S4096x512, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S4096x1024, .f32⟩
  | .hbm, ⟨70, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Kernel17.lean ====
abbrev S4096x2560 : Shape := ⟨2, ![4096, 2560]⟩
abbrev S2048x64 : Shape := ⟨2, ![2048, 64]⟩
abbrev S1x512 : Shape := ⟨2, ![1, 512]⟩
abbrev S1x128 : Shape := ⟨2, ![1, 128]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x2048x2x64 : Shape := ⟨4, ![1, 2048, 2, 64]⟩
abbrev S2048x128 : Shape := ⟨2, ![2048, 128]⟩
abbrev S8x64 : Shape := ⟨2, ![8, 64]⟩
abbrev S512 : Shape := ⟨1, ![512]⟩
abbrev S512x1 : Shape := ⟨2, ![512, 1]⟩
abbrev S512x512 : Shape := ⟨2, ![512, 512]⟩
abbrev S_ : Shape := ⟨0, ![]⟩
abbrev S2x64 : Shape := ⟨2, ![2, 64]⟩
abbrev S128 : Shape := ⟨1, ![128]⟩
abbrev S128x1 : Shape := ⟨2, ![128, 1]⟩
abbrev S128x128 : Shape := ⟨2, ![128, 128]⟩
abbrev S16x2x16 : Shape := ⟨3, ![16, 2, 16]⟩
abbrev S4x2x16 : Shape := ⟨3, ![4, 2, 16]⟩
abbrev S128x512 : Shape := ⟨2, ![128, 512]⟩
abbrev S2x4x64 : Shape := ⟨3, ![2, 4, 64]⟩
abbrev S4096x512 : Shape := ⟨2, ![4096, 512]⟩
abbrev S256x512 : Shape := ⟨2, ![256, 512]⟩
abbrev S256x128 : Shape := ⟨2, ![256, 128]⟩

abbrev nBuf : Space → Nat
  | .hbm => 132
  | .vmem => 27
  | .smem => 0
  | _ => 0

abbrev hbmTy0_0 (i : Nat) : BufTy := match i % 128 with
  | 0 => ⟨S4096x2560, .f32⟩
  | 1 => ⟨S2048x64, .f32⟩
  | 2 => ⟨S2048x64, .f32⟩
  | 3 => ⟨S1x512, .f32⟩
  | 4 => ⟨S1x128, .f32⟩
  | 5 => ⟨S1x2048x1x64, .f32⟩
  | 6 => ⟨S1x2048x8x64, .f32⟩
  | 7 => ⟨S2048x512, .f32⟩
  | 8 => ⟨S1x2048x1x64, .f32⟩
  | 9 => ⟨S1x2048x8x64, .f32⟩
  | 10 => ⟨S2048x512, .f32⟩
  | 11 => ⟨S1x2048x1x64, .f32⟩
  | 12 => ⟨S1x2048x2x64, .f32⟩
  | 13 => ⟨S2048x128, .f32⟩
  | 14 => ⟨S1x2048x1x64, .f32⟩
  | 15 => ⟨S1x2048x2x64, .f32⟩
  | 16 => ⟨S2048x128, .f32⟩
  | 17 => ⟨S8x64, .i32⟩
  | 18 => ⟨S512, .i32⟩
  | 19 => ⟨S512x1, .i32⟩
  | 20 => ⟨S1x512, .i32⟩
  | 21 => ⟨S512x512, .i32⟩
  | 22 => ⟨S512x512, .i32⟩
  | 23 => ⟨S512x512, .i1⟩
  | 24 => ⟨S512x512, .f32⟩
  | 25 => ⟨S_, .f32⟩
  | 26 => ⟨S512x512, .f32⟩
  | 27 => ⟨S512x512, .f32⟩
  | 28 => ⟨S512x512, .bf16⟩
  | 29 => ⟨S2x64, .i32⟩
  | 30 => ⟨S128, .i32⟩
  | 31 => ⟨S128x1, .i32⟩
  | 32 => ⟨S1x128, .i32⟩
  | 33 => ⟨S128x128, .i32⟩
  | 34 => ⟨S128x128, .i32⟩
  | 35 => ⟨S128x128, .i1⟩
  | 36 => ⟨S128x128, .f32⟩
  | 37 => ⟨S_, .f32⟩
  | 38 => ⟨S128x128, .f32⟩
  | 39 => ⟨S128x128, .f32⟩
  | 40 => ⟨S128x128, .bf16⟩
  | 41 => ⟨S512x512, .i32⟩
  | 42 => ⟨S16x2x16, .i32⟩
  | 43 => ⟨S512, .i32⟩
  | 44 => ⟨S_, .i32⟩
  | 45 => ⟨S512, .i32⟩
  | 46 => ⟨S512, .i32⟩
  | 47 => ⟨S16x2x16, .i32⟩
  | 48 => ⟨S512, .i32⟩
  | 49 => ⟨S_, .i32⟩
  | 50 => ⟨S512, .i32⟩
  | 51 => ⟨S512, .i32⟩
  | 52 => ⟨S_, .i32⟩
  | 53 => ⟨S512, .i32⟩
  | 54 => ⟨S512, .i32⟩
  | 55 => ⟨S512, .i32⟩
  | 56 => ⟨S16x2x16, .i32⟩
  | 57 => ⟨S512, .i32⟩
  | 58 => ⟨S512, .i32⟩
  | 59 => ⟨S1x512, .i32⟩
  | 60 => ⟨S512x512, .i32⟩
  | 61 => ⟨S512x512, .i1⟩
  | 62 => ⟨S512x512, .f32⟩
  | 63 => ⟨S16x2x16, .i32⟩
  | 64 => ⟨S512, .i32⟩
  | 65 => ⟨S_, .i32⟩
  | 66 => ⟨S512, .i32⟩
  | 67 => ⟨S512, .i1⟩
  | 68 => ⟨S_, .f32⟩
  | 69 => ⟨S_, .f32⟩
  | 70 => ⟨S512, .f32⟩
  | 71 => ⟨S512, .f32⟩
  | 72 => ⟨S512, .f32⟩
  | 73 => ⟨S1x512, .f32⟩
  | 74 => ⟨S1x512, .f32⟩
  | 75 => ⟨S512x512, .f32⟩
  | 76 => ⟨S512x512, .f32⟩
  | 77 => ⟨S512x512, .bf16⟩
  | 78 => ⟨S128x128, .i32⟩
  | 79 => ⟨S4x2x16, .i32⟩
  | 80 => ⟨S128, .i32⟩
  | 81 => ⟨S_, .i32⟩
  | 82 => ⟨S128, .i32⟩
  | 83 => ⟨S128, .i32⟩
  | 84 => ⟨S4x2x16, .i32⟩
  | 85 => ⟨S128, .i32⟩
  | 86 => ⟨S_, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S4x2x16, .i32⟩
  | 94 => ⟨S128, .i32⟩
  | 95 => ⟨S128, .i32⟩
  | 96 => ⟨S1x128, .i32⟩
  | 97 => ⟨S128x128, .i32⟩
  | 98 => ⟨S128x128, .i1⟩
  | 99 => ⟨S128x128, .f32⟩
  | 100 => ⟨S4x2x16, .i32⟩
  | 101 => ⟨S128, .i32⟩
  | 102 => ⟨S_, .i32⟩
  | 103 => ⟨S128, .i32⟩
  | 104 => ⟨S128, .i1⟩
  | 105 => ⟨S_, .f32⟩
  | 106 => ⟨S_, .f32⟩
  | 107 => ⟨S128, .f32⟩
  | 108 => ⟨S128, .f32⟩
  | 109 => ⟨S128, .f32⟩
  | 110 => ⟨S1x128, .f32⟩
  | 111 => ⟨S1x128, .f32⟩
  | 112 => ⟨S128x128, .f32⟩
  | 113 => ⟨S128x128, .f32⟩
  | 114 => ⟨S128x128, .bf16⟩
  | 115 => ⟨S128x512, .i32⟩
  | 116 => ⟨S2x4x64, .i32⟩
  | 117 => ⟨S512, .i32⟩
  | 118 => ⟨S_, .i32⟩
  | 119 => ⟨S512, .i32⟩
  | 120 => ⟨S512, .i32⟩
  | 121 => ⟨S2x4x64, .i32⟩
  | 122 => ⟨S512, .i32⟩
  | 123 => ⟨S512, .i32⟩
  | 124 => ⟨S1x512, .i32⟩
  | 125 => ⟨S128x512, .i32⟩
  | 126 => ⟨S128x512, .i1⟩
  | 127 => ⟨S128x512, .f32⟩
  | _ => ⟨S4096x2560, .f32⟩

abbrev hbmTy0_1 (i : Nat) : BufTy := match i % 128 with
  | 0 => ⟨S128x512, .bf16⟩
  | 1 => ⟨S4096x512, .bf16⟩
  | 2 => ⟨S4096x512, .bf16⟩
  | 3 => ⟨S4096x512, .bf16⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x512, .f32⟩
  | .local _ .vmem, ⟨15, _⟩ => ⟨S1x128, .f32⟩
  | .local _ .vmem, ⟨16, _⟩ => ⟨S512x512, .bf16⟩
  | .local _ .vmem, ⟨17, _⟩ => ⟨S128x128, .bf16⟩
  | .local _ .vmem, ⟨18, _⟩ => ⟨S512x512, .bf16⟩
  | .local _ .vmem, ⟨19, _⟩ => ⟨S128x128, .bf16⟩
  | .local _ .vmem, ⟨20, _⟩ => ⟨S128x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_1 : Ref sig .tc := ⟨.hbm, 49, rfl⟩
abbrev main_v41 : Ref sig .tc := ⟨.hbm, 50, rfl⟩
abbrev main_v42 : Ref sig .tc := ⟨.hbm, 51, rfl⟩
abbrev main_c_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_c_3 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_cst_5 : Ref sig .tc := ⟨.hbm, 69, rfl⟩
abbrev main_call0_v0 : Ref sig .tc := ⟨.hbm, 70, rfl⟩
abbrev main_call0_v1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_c_7 : Ref sig .tc := ⟨.hbm, 86, rfl⟩
abbrev main_v70 : Ref sig .tc := ⟨.hbm, 87, rfl⟩
abbrev main_v71 : Ref sig .tc := ⟨.hbm, 88, rfl⟩
abbrev main_c_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_c_9 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_cst_11 : Ref sig .tc := ⟨.hbm, 106, rfl⟩
abbrev main_call1_v0 : Ref sig .tc := ⟨.hbm, 107, rfl⟩
abbrev main_call1_v1 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_12 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105_0 : Ref sig .tc := ⟨.hbm, 129, rfl⟩
abbrev main_v105_1 : Ref sig .tc := ⟨.hbm, 130, rfl⟩
abbrev main_v105_2 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference17Ideal.lean ====
abbrev S4096x2560 : Shape := ⟨2, ![4096, 2560]⟩
abbrev S2048x64 : Shape := ⟨2, ![2048, 64]⟩
abbrev S1x512 : Shape := ⟨2, ![1, 512]⟩
abbrev S1x128 : Shape := ⟨2, ![1, 128]⟩
abbrev S4096x512 : Shape := ⟨2, ![4096, 512]⟩
abbrev S4096x128 : Shape := ⟨2, ![4096, 128]⟩
abbrev S2x2048x8x64 : Shape := ⟨4, ![2, 2048, 8, 64]⟩
abbrev S8x64 : Shape := ⟨2, ![8, 64]⟩
abbrev S_ : Shape := ⟨0, ![]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x2048x8x16 : Shape := ⟨4, ![2, 2048, 8, 16]⟩
abbrev S1x2048x1x64 : Shape := ⟨4, ![1, 2048, 1, 64]⟩
abbrev S2x2048x2x64 : Shape := ⟨4, ![2, 2048, 2, 64]⟩
abbrev S2x64 : Shape := ⟨2, ![2, 64]⟩
abbrev S2x2048x2 : Shape := ⟨3, ![2, 2048, 2]⟩
abbrev S2x2048x2x1 : Shape := ⟨4, ![2, 2048, 2, 1]⟩
abbrev S1x1x2x64 : Shape := ⟨4, ![1, 1, 2, 64]⟩
abbrev S2x2048x2x16 : Shape := ⟨4, ![2, 2048, 2, 16]⟩
abbrev S4096x2x1x64 : Shape := ⟨4, ![4096, 2, 1, 64]⟩
abbrev S4096x2x4x64 : Shape := ⟨4, ![4096, 2, 4, 64]⟩

abbrev nBuf : Space → Nat
  | .hbm => 85
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S2048x64, .f32⟩
  | .hbm, ⟨2, _⟩ => ⟨S2048x64, .f32⟩
  | .hbm, ⟨3, _⟩ => ⟨S1x512, .f32⟩
  | .hbm, ⟨4, _⟩ => ⟨S1x128, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S2x2048x8x64, .f32⟩
  | .hbm, ⟨9, _⟩ => ⟨S8x64, .f32⟩
  | .hbm, ⟨10, _⟩ => ⟨S2x2048x8x64, .f32⟩
  | .hbm, ⟨11, _⟩ => ⟨S_, .f32⟩
  | .hbm, ⟨12, _⟩ => ⟨S2x2048x8, .f32⟩
  | .hbm, ⟨13, _⟩ => ⟨S2x2048x8x1, .f32⟩
  | .hbm, ⟨14, _⟩ => ⟨S_, .f32⟩
  | .hbm, ⟨15, _⟩ => ⟨S2x2048x8x1, .f32⟩
  | .hbm, ⟨16, _⟩ => ⟨S2x2048x8x1, .f32⟩
  | .hbm, ⟨17, _⟩ => ⟨S_, .f32⟩
  | .hbm, ⟨18, _⟩ => ⟨S2x2048x8x1, .f32⟩
  | .hbm, ⟨19, _⟩ => ⟨S2x2048x8x1, .f32⟩
  | .hbm, ⟨20, _⟩ => ⟨S2x2048x8x1, .f32⟩
  | .hbm, ⟨21, _⟩ => ⟨S2x2048x8x64, .f32⟩
  | .hbm, ⟨22, _⟩ => ⟨S2x2048x8x64, .f32⟩
  | .hbm, ⟨23, _⟩ => ⟨S1x1x8x64, .f32⟩
  | .hbm, ⟨24, _⟩ => ⟨S2x2048x8x64, .f32⟩
  | .hbm, ⟨25, _⟩ => ⟨S2x2048x8x64, .f32⟩
  | .hbm, ⟨26, _⟩ => ⟨S2x2048x8x16, .f32⟩
  | .hbm, ⟨27, _⟩ => ⟨S2x2048x8x16, .f32⟩
  | .hbm, ⟨28, _⟩ => ⟨S2x2048x8x16, .f32⟩
  | .hbm, ⟨29, _⟩ => ⟨S2x2048x8x16, .f32⟩
  | .hbm, ⟨30, _⟩ => ⟨S2x2048x8x16, .f32⟩
  | .hbm, ⟨31, _⟩ => ⟨S2x2048x8x16, .f32⟩
  | .hbm, ⟨32, _⟩ => ⟨S2x2048x8x64, .f32⟩
  | .hbm, ⟨33, _⟩ => ⟨S1x2048x1x64, .f32⟩
  | .hbm, ⟨34, _⟩ => ⟨S2x2048x8x64, .f32⟩
  | .hbm, ⟨35, _⟩ => ⟨S2x2048x8x64, .f32⟩
  | .hbm, ⟨36, _⟩ => ⟨S1x2048x1x64, .f32⟩
  | .hbm, ⟨37, _⟩ => ⟨S2x2048x8x64, .f32⟩
  | .hbm, ⟨38, _⟩ => ⟨S2x2048x8x64, .f32⟩
  | .hbm, ⟨39, _⟩ => ⟨S2x2048x8x64, .f32⟩
  | .hbm, ⟨40, _⟩ => ⟨S_, .f32⟩
  | .hbm, ⟨41, _⟩ => ⟨S2x2048x8x64, .f32⟩
  | .hbm, ⟨42, _⟩ => ⟨S2x2048x8x64, .f32⟩
  | .hbm, ⟨43, _⟩ => ⟨S2x2048x2x64, .f32⟩
  | .hbm, ⟨44, _⟩ => ⟨S2x64, .f32⟩
  | .hbm, ⟨45, _⟩ => ⟨S2x2048x2x64, .f32⟩
  | .hbm, ⟨46, _⟩ => ⟨S_, .f32⟩
  | .hbm, ⟨47, _⟩ => ⟨S2x2048x2, .f32⟩
  | .hbm, ⟨48, _⟩ => ⟨S2x2048x2x1, .f32⟩
  | .hbm, ⟨49, _⟩ => ⟨S_, .f32⟩
  | .hbm, ⟨50, _⟩ => ⟨S2x2048x2x1, .f32⟩
  | .hbm, ⟨51, _⟩ => ⟨S2x2048x2x1, .f32⟩
  | .hbm, ⟨52, _⟩ => ⟨S_, .f32⟩
  | .hbm, ⟨53, _⟩ => ⟨S2x2048x2x1, .f32⟩
  | .hbm, ⟨54, _⟩ => ⟨S2x2048x2x1, .f32⟩
  | .hbm, ⟨55, _⟩ => ⟨S2x2048x2x1, .f32⟩
  | .hbm, ⟨56, _⟩ => ⟨S2x2048x2x64, .f32⟩
  | .hbm, ⟨57, _⟩ => ⟨S2x2048x2x64, .f32⟩
  | .hbm, ⟨58, _⟩ => ⟨S1x1x2x64, .f32⟩
  | .hbm, ⟨59, _⟩ => ⟨S2x2048x2x64, .f32⟩
  | .hbm, ⟨60, _⟩ => ⟨S2x2048x2x64, .f32⟩
  | .hbm, ⟨61, _⟩ => ⟨S2x2048x2x16, .f32⟩
  | .hbm, ⟨62, _⟩ => ⟨S2x2048x2x16, .f32⟩
  | .hbm, ⟨63, _⟩ => ⟨S2x2048x2x16, .f32⟩
  | .hbm, ⟨64, _⟩ => ⟨S2x2048x2x16, .f32⟩
  | .hbm, ⟨65, _⟩ => ⟨S2x2048x2x16, .f32⟩
  | .hbm, ⟨66, _⟩ => ⟨S2x2048x2x16, .f32⟩
  | .hbm, ⟨67, _⟩ => ⟨S2x2048x2x64, .f32⟩
  | .hbm, ⟨68, _⟩ => ⟨S1x2048x1x64, .f32⟩
  | .hbm, ⟨69, _⟩ => ⟨S2x2048x2x64, .f32⟩
  | .hbm, ⟨70, _⟩ => ⟨S2x2048x2x64, .f32⟩
  | .hbm, ⟨71, _⟩ => ⟨S1x2048x1x64, .f32⟩
  | .hbm, ⟨72, _⟩ => ⟨S2x2048x2x64, .f32⟩
  | .hbm, ⟨73, _⟩ => ⟨S2x2048x2x64, .f32⟩
  | .hbm, ⟨74, _⟩ => ⟨S2x2048x2x64, .f32⟩
  | .hbm, ⟨75, _⟩ => ⟨S4096x2x1x64, .f32⟩
  | .hbm, ⟨76, _⟩ => ⟨S4096x2x4x64, .f32⟩
  | .hbm, ⟨77, _⟩ => ⟨S4096x2x1x64, .f32⟩
  | .hbm, ⟨78, _⟩ => ⟨S4096x2x4x64, .f32⟩
  | .hbm, ⟨79, _⟩ => ⟨S4096x512, .f32⟩
  | .hbm, ⟨80, _⟩ => ⟨S4096x512, .bf16⟩
  | .hbm, ⟨81, _⟩ => ⟨S4096x512, .f32⟩
  | .hbm, ⟨82, _⟩ => ⟨S4096x512, .bf16⟩
  | .hbm, ⟨83, _⟩ => ⟨S4096x512, .f32⟩
  | .hbm, ⟨84, _⟩ => ⟨S4096x512, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== Proof.Case.lean ====
/- What one grid point of the kernel leaves in its three output blocks, as the printed payloads of the
   point's four input blocks (and of what the point before left, for the two accumulated outputs). -/
module

public import proofs.«01_k».proof.Proof.Gen.KernelIdeal.Value
public import Idealize.ShloMosaic.Lib.Pipeline.Value

@[expose] public section

noncomputable section

namespace Cert.Attn

open Idealize.ShloMosaic Idealize.ShloMosaic.TcCoe Idealize.ShloMosaic.Tactic
open Idealize.SL.Sem
open Cert.KernelIdeal Cert.KernelIdeal.Gen

variable {F : FTy → Type} [FloatOps F]

theorem hz : (![0, 0] : Fin 2 → Nat) = fun _ => 0 := funext fun a => by fin_cases a <;> rfl

/-- The lane number of each entry of a 256 × 256 block. -/
def lanes : IVec S256x256 32 := iota .tc S256x256 32 [1] iota_S256x256_d1_w32
/-- The lanes of the block's head 0. -/
def mask0 : IVec S256x256 1 := k0_pay5
/-- The lanes of the block's head 1. -/
def mask1 : IVec S256x256 1 := k0_pay7 lanes 64#32 k0_pay6
/-- The lanes of the block's head 2. -/
def mask2 : IVec S256x256 1 := k0_pay11 (k0_pay8 lanes) (k0_pay9 lanes) k0_pay10
/-- The lanes of the block's head 3. -/
def mask3 : IVec S256x256 1 := k0_pay12 lanes

/-- The query block four times over, each copy with only one head's lanes kept. -/
def qStack (x0 : Vec F S256x256 .bf16) : FVec F S1024x256 .bf16 :=
  k0_pay14 x0 lanes mask0 mask1 (k0_pay8 lanes) (k0_pay9 lanes) k0_pay10
/-- The block of the output's gradient four times over, each copy with only one head's lanes kept. -/
def gStack (x3 : Vec F S256x256 .f32) : FVec F S1024x256 .bf16 :=
  k0_pay17 (k0_pay4 x3) mask2 mask3 (k0_pay15 (k0_pay4 x3) mask0) (k0_pay16 (k0_pay4 x3) mask1)
/-- The softmax of the four heads' scores. -/
def probs (x0 : Vec F S256x256 .bf16) (x1 : Vec F S2048x256 .bf16) : FVec F S1024x2048 .f32 := k0_pay18 x1 (qStack x0)
/-- The gradient of the four heads' scores. -/
def dScores (x0 : Vec F S256x256 .bf16) (x1 x2 : Vec F S2048x256 .bf16) (x3 : Vec F S256x256 .f32) : FVec F S1024x2048 .bf16 :=
  k0_pay19 x1 x2 (k0_pay4 x3) mask2 mask3 (qStack x0) (k0_pay15 (k0_pay4 x3) mask0) (k0_pay16 (k0_pay4 x3) mask1)
/-- The block of the queries' gradient. -/
def dqBlk (x0 : Vec F S256x256 .bf16) (x1 x2 : Vec F S2048x256 .bf16) (x3 : Vec F S256x256 .f32) : FVec F S256x256 .f32 :=
  k0_pay20 x1 x2 (k0_pay4 x3) mask0 mask1 mask2 mask3 k0_pay13 (qStack x0) (k0_pay15 (k0_pay4 x3) mask0) (k0_pay16 (k0_pay4 x3) mask1)
/-- The block of the keys' gradient, over what it held before. -/
def dkBlk (x0 : Vec F S256x256 .bf16) (x1 x2 : Vec F S2048x256 .bf16) (x3 : Vec F S256x256 .f32) (acc : Vec F S2048x256 .f32) : FVec F S2048x256 .f32 :=
  k0_pay21 x1 x2 (k0_pay4 x3) mask2 mask3 (qStack x0) (k0_pay15 (k0_pay4 x3) mask0) (k0_pay16 (k0_pay4 x3) mask1) acc
/-- The block of the values' gradient, over what it held before. -/
def dvBlk (x0 : Vec F S256x256 .bf16) (x1 : Vec F S2048x256 .bf16) (x3 : Vec F S256x256 .f32) (acc : Vec F S2048x256 .f32) : FVec F S2048x256 .f32 :=
  k0_pay1 (gStack x3) (k0_pay22 acc) (k0_pay23 x1 (qStack x0)) (constant S2048x256 .f32 0x00000000#32)

section
variable (c : Dev nD) (i : grid0.Coords) (a3 : Memref sig .tc .vmem S256x256 .bf16) (h3 : a3.IsWhole)
  (a4 : Memref sig .tc .vmem S2048x256 .bf16) (h4 : a4.IsWhole) (a5 : Memref sig .tc .vmem S2048x256 .bf16) (h5 : a5.IsWhole)
  (a6 : Memref sig .tc .vmem S256x256 .f32) (h6 : a6.IsWhole) (a7 : Memref sig .tc .vmem S256x256 .f32) (h7 : a7.IsWhole)
  (a8 : Memref sig .tc .vmem S2048x256 .f32) (h8 : a8.IsWhole) (a9 : Memref sig .tc .vmem S2048x256 .f32) (h9 : a9.IsWhole)
  (x0 : Vec F S256x256 .bf16) (x1 x2 : Vec F S2048x256 .bf16) (x3 : Vec F S256x256 .f32)

/-- At a later query tile, the queries' gradient is the point's own block. -/
theorem out_B_4 (hc : ¬cond0_0 i) (xo5 xo6 : Vec F S2048x256 .f32) :
    out0_B_4 c i a3 h3 a4 h4 a5 h5 a6 h6 a7 h7 a8 h8 a9 h9 hc x0 x1 x2 x3 xo5 xo6 = dqBlk x0 x1 x2 x3 := by
  unfold out0_B_4
  rw [View.read_writes_eq_canon _ _ _ (cover0_B_4 c i a3 h3 a4 h4 a5 h5 a6 h6 a7 h7 a8 h8 a9 h9 hc x0 x1 x2 x3 xo5 xo6)]
  unfold kernelRun0_B
  dsimp only
  sl_unfold_words
  rw [View.canon_unit_zero hz]
  simp only [View.readAt_eq_ld, h3.read_unread, h4.read_unread, h5.read_unread, h6.read_unread,
    View.ld_unit_zero (S := S256x256) hz, View.ld_unit_zero (S := S2048x256) hz, shapeCast_self]
  rfl

/-- At a later query tile, the keys' gradient grows by the point's product. -/
theorem out_B_5 (hc : ¬cond0_0 i) (xo5 xo6 : Vec F S2048x256 .f32) :
    out0_B_5 c i a3 h3 a4 h4 a5 h5 a6 h6 a7 h7 a8 h8 a9 h9 hc x0 x1 x2 x3 xo5 xo6 = dkBlk x0 x1 x2 x3 xo5 := by
  unfold out0_B_5
  rw [View.read_writes_eq_canon _ _ _ (cover0_B_5 c i a3 h3 a4 h4 a5 h5 a6 h6 a7 h7 a8 h8 a9 h9 hc x0 x1 x2 x3 xo5 xo6)]
  unfold kernelRun0_B
  dsimp only
  sl_unfold_words
  rw [View.canon_unit_zero hz]
  simp only [View.readAt_eq_ld, h3.read_unread, h4.read_unread, h5.read_unread, h6.read_unread, h8.read_unread,
    View.ld_unit_zero (S := S256x256) hz, View.ld_unit_zero (S := S2048x256) hz, shapeCast_self]
  rfl

/-- At a later query tile, the values' gradient grows by the point's product. -/
theorem out_B_6 (hc : ¬cond0_0 i) (xo5 xo6 : Vec F S2048x256 .f32) :
    out0_B_6 c i a3 h3 a4 h4 a5 h5 a6 h6 a7 h7 a8 h8 a9 h9 hc x0 x1 x2 x3 xo5 xo6 = dvBlk x0 x1 x3 xo6 := by
  unfold out0_B_6
  rw [View.read_writes_eq_canon _ _ _ (cover0_B_6 c i a3 h3 a4 h4 a5 h5 a6 h6 a7 h7 a8 h8 a9 h9 hc x0 x1 x2 x3 xo5 xo6)]
  unfold kernelRun0_B
  dsimp only
  sl_unfold_words
  rw [View.canon_unit_zero hz]
  simp only [View.readAt_eq_ld, h3.read_unread, h4.read_unread, h5.read_unread, h6.read_unread, h9.read_unread,
    View.ld_unit_zero (S := S256x256) hz, View.ld_unit_zero (S := S2048x256) hz, shapeCast_self]
  rfl

/-- At the first query tile, the queries' gradient is the point's own block. -/
theorem out_A_4 (hc : cond0_0 i) :
    out0_A_4 c i a3 h3 a4 h4 a5 h5 a6 h6 a7 h7 a8 h8 a9 h9 hc x0 x1 x2 x3 = dqBlk x0 x1 x2 x3 := by
  unfold out0_A_4
  rw [View.read_writes_eq_canon _ _ _ (cover0_A_4 c i a3 h3 a4 h4 a5 h5 a6 h6 a7 h7 a8 h8 a9 h9 hc x0 x1 x2 x3)]
  unfold kernelRun0_A
  dsimp only
  sl_unfold_words
  rw [View.canon_unit_zero hz]
  simp only [View.readAt_eq_ld, h3.read_unread, h4.read_unread, h5.read_unread, h6.read_unread,
    View.ld_unit_zero (S := S256x256) hz, View.ld_unit_zero (S := S2048x256) hz, shapeCast_self]
  rfl

/-- At the first query tile, the keys' gradient is the point's product added to the zero block. -/
theorem out_A_5 (hc : cond0_0 i) :
    out0_A_5 c i a3 h3 a4 h4 a5 h5 a6 h6 a7 h7 a8 h8 a9 h9 hc x0 x1 x2 x3 = dkBlk x0 x1 x2 x3 k0_pay2 := by
  unfold out0_A_5
  rw [View.read_writes_eq_canon _ _ _ (cover0_A_5 c i a3 h3 a4 h4 a5 h5 a6 h6 a7 h7 a8 h8 a9 h9 hc x0 x1 x2 x3)]
  unfold kernelRun0_A
  dsimp only
  sl_unfold_words
  rw [View.canon_cons_unit_zero (S := S2048x256) hz, View.readCov_unit_zero (S := S2048x256) _ hz]
  simp only [View.readAt_eq_ld, h3.read_unread, h4.read_unread, h5.read_unread, h6.read_unread,
    View.ld_unit_zero (S := S256x256) hz, View.ld_unit_zero (S := S2048x256) hz, shapeCast_self]
  rfl

/-- At the first query tile, the values' gradient is the point's product added to the zero block. -/
theorem out_A_6 (hc : cond0_0 i) :
    out0_A_6 c i a3 h3 a4 h4 a5 h5 a6 h6 a7 h7 a8 h8 a9 h9 hc x0 x1 x2 x3 = dvBlk x0 x1 x3 k0_pay3 := by
  unfold out0_A_6
  rw [View.read_writes_eq_canon _ _ _ (cover0_A_6 c i a3 h3 a4 h4 a5 h5 a6 h6 a7 h7 a8 h8 a9 h9 hc x0 x1 x2 x3)]
  unfold kernelRun0_A
  dsimp only
  sl_unfold_words
  rw [View.canon_cons_unit_zero (S := S2048x256) hz, View.readCov_unit_zero (S := S2048x256) _ hz]
  simp only [View.readAt_eq_ld, h3.read_unread, h4.read_unread, h5.read_unread, h6.read_unread,
    View.ld_unit_zero (S := S256x256) hz, View.ld_unit_zero (S := S2048x256) hz, shapeCast_self]
  rfl
end

end Cert.Attn

end
-- ==== Proof.Soft.lean ====
/- The softmax of a row of scores and its gradient over the extended reals: the two ways of writing the
   gradient (the kernel's, and the one differentiation of the quotient gives) agree when the scores are
   real numbers, whatever the incoming gradient is. -/
module

public import Idealize.ShloMosaic.PureOps.Ideal
public import Idealize.ShloMosaic.PureOps.Ideal.Laws
public import Mathlib.Data.EReal.Operations

@[expose] public section

noncomputable section

namespace Cert.Attn

open Idealize.ShloMosaic

variable {n : ℕ}

/-- The largest entry of a row. -/
def top (s : Fin n → EReal) : EReal := Finset.univ.fold max ⊥ s
/-- The exponential of a row, its largest entry taken off first. -/
def expo (s : Fin n → EReal) (y : Fin n) : EReal := Ideal.exp (s y - top s)
/-- The softmax of a row: the exponential times the reciprocal of its sum. -/
def soft (s : Fin n → EReal) (y : Fin n) : EReal := expo s y * Ideal.div 1 (∑ z, expo s z)
/-- The gradient of the scores, of the incoming gradient `g` of the softmax. -/
def dsoft (s g : Fin n → EReal) (y : Fin n) : EReal := soft s y * (g y - ∑ z, soft s z * g z)

/-- The largest entry of a nonempty row is one of its entries. -/
theorem top_mem [NeZero n] (s : Fin n → EReal) : ∃ y, top s = s y := by
  obtain ⟨y, -, hy⟩ := Finset.exists_mem_eq_sup (Finset.univ : Finset (Fin n)) ⟨0, Finset.mem_univ _⟩ s
  exact ⟨y, hy⟩

/-- A nonnegative real factor moves into a difference. -/
theorem coe_mul_sub {c : ℝ} (hc : 0 ≤ c) (x y : EReal) : (c : EReal) * (x - y) = c * x - c * y := by
  rw [sub_eq_add_neg, sub_eq_add_neg,
    EReal.left_distrib_of_nonneg_of_ne_top (EReal.coe_nonneg.mpr hc) (EReal.coe_ne_top c), mul_neg]

/-- A nonnegative real factor moves into a sum. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a t ha ih =>
    rw [Finset.sum_insert ha, Finset.sum_insert ha,
      EReal.left_distrib_of_nonneg_of_ne_top (EReal.coe_nonneg.mpr hc) (EReal.coe_ne_top c), ih]

/-- A sum of real numbers is a real number. -/
theorem coe_sum {ι : Type*} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

/-- On real scores the exponentials are positive reals, and so is their sum. -/
theorem expo_real [NeZero n] (s : Fin n → EReal) (hs : ∀ y, ∃ r : ℝ, s y = r) :
    ∃ (e : Fin n → ℝ) (S : ℝ), 0 < S ∧ (∀ y, 0 ≤ e y) ∧ (∀ y, expo s y = e y) ∧ ∑ z, expo s z = S := by
  choose σ hσ using hs
  obtain ⟨y0, h0⟩ := top_mem s
  have he : ∀ y, expo s y = ((Real.exp (σ y - σ y0) : ℝ) : EReal) := fun y => by
    unfold expo; rw [h0, hσ, hσ, ← EReal.coe_sub, Ideal.exp_coe]
  refine ⟨fun y => Real.exp (σ y - σ y0), ∑ y, Real.exp (σ y - σ y0),
    Finset.sum_pos (fun y _ => Real.exp_pos _) ⟨0, Finset.mem_univ _⟩, fun y => (Real.exp_pos _).le, he, ?_⟩
  rw [← coe_sum]
  exact Finset.sum_congr rfl fun y _ => he y

/-- The quotient of the exponential by its sum is the softmax. -/
theorem quot_eq_soft [NeZero n] (s : Fin n → EReal) (hs : ∀ y, ∃ r : ℝ, s y = r) (y : Fin n) :
    Ideal.div (expo s y) (∑ z, expo s z) = soft s y := by
  obtain ⟨e, S, hS, -, he, hsum⟩ := expo_real s hs
  unfold soft
  rw [hsum, he, Ideal.div_coe hS.ne', Ideal.div_coe hS.ne', one_mul]

/-- The gradient that differentiating the quotient gives is the softmax's own. -/
theorem quot_grad_eq_dsoft [NeZero n] (s g : Fin n → EReal) (hs : ∀ y, ∃ r : ℝ, s y = r) (y : Fin n) :
    (Ideal.div (g y) (∑ z, expo s z)
      + -(∑ z, g z * Ideal.div 1 ((∑ z, expo s z) * ∑ z, expo s z) * expo s z)) * expo s y = dsoft s g y := by
  obtain ⟨e, S, hS, h0, he, hsum⟩ := expo_real s hs
  have hS' : S * S ≠ 0 := (mul_pos hS hS).ne'
  have hc : (0 : ℝ) ≤ 1 / S := (one_div_pos.mpr hS).le
  have hsoft : ∀ z, soft s z = ((1 / S : ℝ) : EReal) * (e z : EReal) := fun z => by
    unfold soft; rw [hsum, he, Ideal.div_coe hS.ne', one_mul, mul_comm]
  have hz : ∀ z, g z * Ideal.div 1 ((∑ z, expo s z) * ∑ z, expo s z) * expo s z
      = ((1 / S : ℝ) : EReal) * (soft s z * g z) := fun z => by
    rw [hsoft, hsum, he, ← EReal.coe_mul, Ideal.div_coe hS', one_mul,
      show (1 / (S * S) : ℝ) = (1 / S) * (1 / S) by rw [one_div_mul_one_div], EReal.coe_mul]
    ac_rfl
  unfold dsoft
  rw [Finset.sum_congr rfl fun z _ => hz z, ← coe_mul_sum hc, ← sub_eq_add_neg, hsum, Ideal.div_coe hS.ne',
    mul_comm (g y), ← coe_mul_sub hc, he, hsoft]
  ac_rfl

/-- A sum over `m * k` entries, taken block by block. -/
theorem sum_blocks {M : Type*} [AddCommMonoid M] (m k N : ℕ) (hN : m * k = N) (f : Fin N → M) :
    ∑ x, f x = ∑ a : Fin m, ∑ b : Fin k, f ⟨k * a.val + b.val, by
      have := a.isLt; have := b.isLt; subst hN
      calc k * a.val + b.val < k * a.val + k := by omega
        _ = k * (a.val + 1) := by ring
        _ ≤ k * m := Nat.mul_le_mul_left _ (by omega)
        _ = m * k := Nat.mul_comm _ _⟩ := by
  subst hN
  rw [← Equiv.sum_comp finProdFinEquiv, Fintype.sum_prod_type]
  refine Finset.sum_congr rfl fun a _ => Finset.sum_congr rfl fun b _ => ?_
  congr 1
  apply Fin.ext
  show b.val + k * a.val = k * a.val + b.val
  omega

end Cert.Attn

end
-- ==== Proof.Block.lean ====
/- What one grid point computes, entry by entry, over the extended reals: the four heads of the block side
   by side, each head's contraction over its own 64 lanes. -/
module

public import proofs.«01_k».proof.Proof.Case
public import proofs.«01_k».proof.Proof.Soft
public import Idealize.ShloMosaic.Lib.Pointwise
public import Idealize.ShloMosaic.Lib.IdealHost

@[expose] public section

set_option maxRecDepth 16384

noncomputable section

namespace Cert.Attn

open Idealize.ShloMosaic Idealize.ShloMosaic.TcCoe Idealize.ShloMosaic.Tactic
open Cert.KernelIdeal Cert.KernelIdeal.Gen

/-- A two-axis array read at two natural numbers; outside the array, zero. -/
def rd {m n : ℕ} (A : (⟨2, ![m, n]⟩ : Shape).Idx → EReal) (t c : ℕ) : EReal :=
  if h : t < m ∧ c < n then A (ix2 ⟨t, h.1⟩ ⟨c, h.2⟩) else 0

theorem rd_fin {m n : ℕ} (A : (⟨2, ![m, n]⟩ : Shape).Idx → EReal) (t : Fin m) (c : Fin n) :
    rd A t.val c.val = A (ix2 t c) := dif_pos ⟨t.isLt, c.isLt⟩

theorem rd_of {m n : ℕ} (A : (⟨2, ![m, n]⟩ : Shape).Idx → EReal) {t c : ℕ} (ht : t < m) (hc : c < n) :
    rd A t c = A (ix2 ⟨t, ht⟩ ⟨c, hc⟩) := dif_pos ⟨ht, hc⟩

theorem mask0_at (r l : Fin 256) : mask0 (ix2 r l) = BitVec.ofBool (l.val / 64 = 0) := by
  pointwise [mask0, k0_pay5]
  revert l; decide +kernel

theorem mask1_at (r l : Fin 256) : mask1 (ix2 r l) = BitVec.ofBool (l.val / 64 = 1) := by
  pointwise [mask1, lanes, k0_pay7, k0_pay6]
  revert l; decide +kernel

theorem mask2_at (r l : Fin 256) : mask2 (ix2 r l) = BitVec.ofBool (l.val / 64 = 2) := by
  pointwise [mask2, lanes, k0_pay11, k0_pay10, k0_pay9, k0_pay8]
  revert l; decide +kernel

theorem mask3_at (r l : Fin 256) : mask3 (ix2 r l) = BitVec.ofBool (l.val / 64 = 3) := by
  pointwise [mask3, lanes, k0_pay12]
  revert l; decide +kernel

/-- Row `r` of head `h`'s copy in a stack of four. -/
def row (h : Fin 4) (r : Fin 256) : Fin 1024 := ⟨256 * h.val + r.val, by omega⟩

/-- Four nested tests on the row of a stack pick the copy the row lies in. -/
theorem pick {x : S256x256.Idx → EReal} (h : Fin 4) (r l : Fin 256) :
    (if h' : (row h r).val < 256 then if l.val / 64 = 0 then x (ix2 ⟨(row h r).val, h'⟩ l) else 0
    else
      if h' : (row h r).val - 256 < 256 then if l.val / 64 = 1 then x (ix2 ⟨(row h r).val - 256, h'⟩ l) else 0
      else
        if h' : (row h r).val - 256 - 256 < 256 then if l.val / 64 = 2 then x (ix2 ⟨(row h r).val - 256 - 256, h'⟩ l) else 0
        else if l.val / 64 = 3 then x (ix2 ⟨(row h r).val - 256 - 256 - 256, by have := (row h r).isLt; omega⟩ l) else 0)
      = if l.val / 64 = h.val then x (ix2 r l) else 0 := by
  have hr := r.isLt
  match h with
  | ⟨0, _⟩ =>
    rw [dif_pos (by simp only [row]; omega)]
    congr 3; apply Fin.ext; simp only [row]; omega
  | ⟨1, _⟩ =>
    rw [dif_neg (by simp only [row]; omega), dif_pos (by simp only [row]; omega)]
    congr 3; apply Fin.ext; simp only [row]; omega
  | ⟨2, _⟩ =>
    rw [dif_neg (by simp only [row]; omega), dif_neg (by simp only [row]; omega), dif_pos (by simp only [row]; omega)]
    congr 3; apply Fin.ext; simp only [row]; omega
  | ⟨3, _⟩ =>
    rw [dif_neg (by simp only [row]; omega), dif_neg (by simp only [row]; omega), dif_neg (by simp only [row]; omega)]
    congr 3; apply Fin.ext; simp only [row]; omega

/-- The stack of queries: head `h`'s copy keeps head `h`'s lanes. -/
theorem qStack_at (x0 : Vec Ideal S256x256 .bf16) (h : Fin 4) (r l : Fin 256) :
    qStack x0 (ix2 (row h r) l) = if l.val / 64 = h.val then x0 (ix2 r l) else 0 := by
  unfold qStack k0_pay14
  change (concatenate S1024x256 0 [⟨S256x256, select mask0 x0 _⟩, ⟨S256x256, select mask1 x0 _⟩, ⟨S256x256, select mask2 x0 _⟩, ⟨S256x256, select mask3 x0 _⟩] _ : FVec Ideal S1024x256 .bf16) _ = _
  pointwise [mask0_at, mask1_at, mask2_at, mask3_at]
  exact pick h r l

/-- The stack of output gradients likewise. -/
theorem gStack_at (x3 : Vec Ideal S256x256 .f32) (h : Fin 4) (r l : Fin 256) :
    gStack x3 (ix2 (row h r) l) = if l.val / 64 = h.val then x3 (ix2 r l) else 0 := by
  pointwise [gStack, k0_pay17, k0_pay15, k0_pay16, k0_pay4, mask0_at, mask1_at, mask2_at, mask3_at]
  exact pick h r l

/-- A sum over 256 lanes that keeps one head's is a sum over that head's 64. -/
theorem sum_head (h : Fin 4) (f g : Fin 256 → EReal) :
    ∑ l, (if l.val / 64 = h.val then f l else 0) * g l
      = ∑ d : Fin 64, f ⟨64 * h.val + d.val, by omega⟩ * g ⟨64 * h.val + d.val, by omega⟩ := by
  rw [sum_blocks 4 64 256 rfl, Finset.sum_eq_single h]
  · refine Finset.sum_congr rfl fun d _ => ?_
    rw [if_pos (by show (64 * h.val + d.val) / 64 = _; omega)]
  · intro a _ ha
    refine Finset.sum_eq_zero fun d _ => ?_
    rw [if_neg (by show ¬(64 * a.val + d.val) / 64 = _; have := fun e => ha (Fin.ext e); omega), zero_mul]
  · intro hh; exact absurd (Finset.mem_univ _) hh

/-- A sum over a stack's 1024 rows against a column of head `l / 64` keeps that head's copy. -/
theorem sum_rows (f : Fin 1024 → EReal) (x : Fin 256 → EReal) (s : Fin 1024 → EReal) (l : ℕ) (hl : l / 64 < 4)
    (hs : ∀ h r, s (row h r) = if l / 64 = h.val then x r else 0) :
    ∑ a, f a * s a = ∑ r, f (row ⟨l / 64, hl⟩ r) * x r := by
  rw [sum_blocks 4 256 1024 rfl, Finset.sum_eq_single ⟨l / 64, hl⟩]
  · refine Finset.sum_congr rfl fun r _ => ?_
    have := hs ⟨l / 64, hl⟩ r
    rw [if_pos rfl] at this
    rw [← this]; rfl
  · intro a _ ha
    refine Finset.sum_eq_zero fun r _ => ?_
    have := hs a r
    rw [if_neg (fun e => ha (Fin.ext e.symm))] at this
    exact (congrArg (f _ * ·) this).trans (mul_zero _)
  · intro hh; exact absurd (Finset.mem_univ _) hh

/-- Row `r` of a block against every row of a longer one, over head `h`'s 64 lanes. -/
def headDot {m : ℕ} (x : (⟨2, ![m, 256]⟩ : Shape).Idx → EReal) (y : S2048x256.Idx → EReal) (h r : ℕ) : Fin 2048 → EReal :=
  fun z => ∑ d : Fin 64, rd x r (64 * h + d.val) * rd y z.val (64 * h + d.val)

/-- The value of the word of negative infinity. -/
theorem negInf : Ideal.ofBits .f32 0xFF800000#32 = ⊥ := by
  simp only [Ideal.ofBits]
  decide +kernel

variable (x0 : Vec Ideal S256x256 .bf16) (x1 x2 : Vec Ideal S2048x256 .bf16) (x3 : Vec Ideal S256x256 .f32)

theorem qDot (h : Fin 4) (r : Fin 256) (y : Fin 2048) :
    ∑ l, qStack x0 (ix2 (row h r) l) * x1 (ix2 y l) = headDot x0 x1 h.val r.val y := by
  simp only [qStack_at]
  rw [sum_head h (fun l => x0 (ix2 r l)) (fun l => x1 (ix2 y l))]
  exact Finset.sum_congr rfl fun d _ => by rw [rd_of x0 r.isLt (by omega), rd_of x1 y.isLt (by omega)]

theorem gDot (h : Fin 4) (r : Fin 256) (y : Fin 2048) :
    ∑ l, gStack x3 (ix2 (row h r) l) * x2 (ix2 y l) = headDot x3 x2 h.val r.val y := by
  simp only [gStack_at]
  rw [sum_head h (fun l => x3 (ix2 r l)) (fun l => x2 (ix2 y l))]
  exact Finset.sum_congr rfl fun d _ => by rw [rd_of x3 r.isLt (by omega), rd_of x2 y.isLt (by omega)]

/-- The probabilities of head `h`, row `r`: the softmax of the row's scores. -/
theorem probs_at (h : Fin 4) (r : Fin 256) (y : Fin 2048) :
    probs x0 x1 (ix2 (row h r) y) = soft (headDot x0 x1 h.val r.val) y := by
  pointwise [probs, k0_pay18]
  simp only [qDot, negInf]
  rfl

/-- The gradient of the scores of head `h`, row `r`. -/
theorem dScores_at (h : Fin 4) (r : Fin 256) (y : Fin 2048) :
    dScores x0 x1 x2 x3 (ix2 (row h r) y)
      = dsoft (headDot x0 x1 h.val r.val) (headDot x3 x2 h.val r.val) y := by
  unfold dScores k0_pay19
  change ((truncf .bf16 (mulf (probs x0 x1) (subf (matmul _ _ (gStack x3) _ _) (broadcastTo S1024x2048 (shapeCast S1024x1 (multiReduction .add [1] S1024 (mulf (probs x0 x1) (matmul _ _ (gStack x3) _ _)) _ _ _ _) _ ) _))) _) : FVec Ideal S1024x2048 .bf16) _ = _
  pointwise []
  simp only [gDot, probs_at]
  rfl

/-- The queries' gradient block. -/
theorem dq_at (r l : Fin 256) :
    dqBlk x0 x1 x2 x3 (ix2 r l)
      = ∑ y : Fin 2048, dsoft (headDot x0 x1 (l.val / 64) r.val) (headDot x3 x2 (l.val / 64) r.val) y * rd x1 y.val l.val := by
  have hc : k0_pay19 x1 x2 (k0_pay4 x3) mask2 mask3 (qStack x0) (k0_pay15 (k0_pay4 x3) mask0) (k0_pay16 (k0_pay4 x3) mask1) = dScores x0 x1 x2 x3 := rfl
  have key : ∀ (h : Fin 4) (a : Fin 1024), a.val = 256 * h.val + r.val → l.val / 64 = h.val →
      ∑ x, dScores x0 x1 x2 x3 (ix2 a x) * x1 (ix2 x l)
        = ∑ y : Fin 2048, dsoft (headDot x0 x1 (l.val / 64) r.val) (headDot x3 x2 (l.val / 64) r.val) y * rd x1 y.val l.val := by
    intro h a ha hl
    obtain rfl : a = row h r := Fin.ext ha
    refine Finset.sum_congr rfl fun y _ => ?_
    rw [dScores_at, hl, rd_fin]
  unfold dqBlk k0_pay20
  rw [hc]
  pointwise [k0_pay13, mask0_at, mask1_at, mask2_at, mask3_at]
  have hl := l.isLt
  split_ifs with h3 h2 h1 h0
  · exact key 3 _ rfl h3
  · exact key 2 _ rfl h2
  · exact key 1 _ rfl h1
  · exact key 0 _ (by show r.val = 256 * 0 + r.val; omega) h0
  · omega

/-- The keys' gradient block. -/
theorem dk_at (acc : Vec Ideal S2048x256 .f32) (y : Fin 2048) (l : Fin 256) :
    dkBlk x0 x1 x2 x3 acc (ix2 y l) = acc (ix2 y l)
      + ∑ r : Fin 256, dsoft (headDot x0 x1 (l.val / 64) r.val) (headDot x3 x2 (l.val / 64) r.val) y * rd x0 r.val l.val := by
  unfold dkBlk k0_pay21
  change (addf _ (matmul _ _ (dScores x0 x1 x2 x3) (qStack x0) _) : FVec Ideal S2048x256 .f32) _ = _
  pointwise []
  congr 1
  rw [sum_rows (fun a => dScores x0 x1 x2 x3 (ix2 a y)) (fun r => x0 (ix2 r l)) (fun a => qStack x0 (ix2 a l)) l.val
    (by have := l.isLt; omega) (fun h r => qStack_at x0 h r l)]
  exact Finset.sum_congr rfl fun r _ => by rw [dScores_at, rd_fin]

/-- The values' gradient block. -/
theorem dv_at (acc : Vec Ideal S2048x256 .f32) (y : Fin 2048) (l : Fin 256) :
    dvBlk x0 x1 x3 acc (ix2 y l) = acc (ix2 y l)
      + ∑ r : Fin 256, soft (headDot x0 x1 (l.val / 64) r.val) y * rd x3 r.val l.val := by
  have hp : k0_pay23 x1 (qStack x0) = truncf .bf16 (probs x0 x1) bitsLt_bf16_f32 := rfl
  unfold dvBlk k0_pay1
  rw [hp]
  pointwise [k0_pay22]
  congr 1
  rw [sum_rows (fun a => probs x0 x1 (ix2 a y)) (fun r => x3 (ix2 r l)) (fun a => gStack x3 (ix2 a l)) l.val
    (by have := l.isLt; omega) (fun h r => gStack_at x3 h r l)]
  exact Finset.sum_congr rfl fun r _ => by rw [probs_at, rd_fin]

theorem zero5_at (y : Fin 2048) (l : Fin 256) : (k0_pay2 : FVec Ideal S2048x256 .f32) (ix2 y l) = 0 := by
  pointwise [k0_pay2]

theorem zero6_at (y : Fin 2048) (l : Fin 256) : (k0_pay3 : FVec Ideal S2048x256 .f32) (ix2 y l) = 0 := by
  pointwise [k0_pay3]

end Cert.Attn

end
-- ==== Proof.Arrays.lean ====
/- The kernel's three result arrays, entry by entry, as functions of the four argument arrays. -/
module

public import proofs.«01_k».proof.Proof.Block

@[expose] public section

set_option maxRecDepth 16384

noncomputable section

namespace Cert.Attn

open Idealize.ShloMosaic Idealize.ShloMosaic.TcCoe Idealize.ShloMosaic.Tactic
open Idealize.SL.Sem
open Cert.KernelIdeal Cert.KernelIdeal.Gen Cert.KernelIdeal.Value

/-- An argument or result array over the extended reals. -/
abbrev Arr : Type := S4096x512.Idx → EReal

/-- Token `x` of batch `b` against every token of the batch, over head `h`'s 64 lanes. -/
def heads (A B : Arr) (b h x : ℕ) : Fin 2048 → EReal :=
  fun y => ∑ d : Fin 64, rd A (2048 * b + x) (64 * h + d.val) * rd B (2048 * b + y.val) (64 * h + d.val)

/-- Entry (`t`, `l`) of the queries' gradient. -/
def dqAt (Q K V D : Arr) (t l : ℕ) : EReal :=
  ∑ y : Fin 2048, dsoft (heads Q K (t / 2048) (l / 64) (t % 2048)) (heads D V (t / 2048) (l / 64) (t % 2048)) y
    * rd K (2048 * (t / 2048) + y.val) l

variable (m : (ℓ : Loc nD τ sig) → Buf (Elt Ideal) ℓ) (c : Dev nD)

abbrev q : Arr := m (c.tc.loc main_arg0)
abbrev k : Arr := m (c.tc.loc main_arg1)
abbrev v : Arr := m (c.tc.loc main_arg2)
abbrev g : Arr := m (c.tc.loc main_arg3)

theorem idx0 : ∀ t : Fin cfg0.N, win0_0.index t 0 = 8 * (t.val / 16) + t.val % 8 ∧ win0_0.index t 1 = t.val / 8 % 2 :=
  (by decide +kernel : ∀ t : Fin grid0.N, _)
theorem idx1 : ∀ t : Fin cfg0.N, win0_1.index t 0 = t.val / 16 ∧ win0_1.index t 1 = t.val / 8 % 2 :=
  (by decide +kernel : ∀ t : Fin grid0.N, _)
theorem idx2 : ∀ t : Fin cfg0.N, win0_2.index t 0 = t.val / 16 ∧ win0_2.index t 1 = t.val / 8 % 2 :=
  (by decide +kernel : ∀ t : Fin grid0.N, _)
theorem idx3 : ∀ t : Fin cfg0.N, win0_3.index t 0 = 8 * (t.val / 16) + t.val % 8 ∧ win0_3.index t 1 = t.val / 8 % 2 :=
  (by decide +kernel : ∀ t : Fin grid0.N, _)
theorem idx4 : ∀ t : Fin cfg0.N, win0_4.index t 0 = 8 * (t.val / 16) + t.val % 8 ∧ win0_4.index t 1 = t.val / 8 % 2 :=
  (by decide +kernel : ∀ t : Fin grid0.N, _)
theorem idx5 : ∀ t : Fin cfg0.N, win0_5.index t 0 = t.val / 16 ∧ win0_5.index t 1 = t.val / 8 % 2 :=
  (by decide +kernel : ∀ t : Fin grid0.N, _)
theorem idx6 : ∀ t : Fin cfg0.N, win0_6.index t 0 = t.val / 16 ∧ win0_6.index t 1 = t.val / 8 % 2 :=
  (by decide +kernel : ∀ t : Fin grid0.N, _)

theorem ltN (t : Fin cfg0.N) : t.val < 32 := Nat.lt_of_lt_of_eq t.isLt N_0

/-- Where a point's query block lies in the array. -/
theorem rd_q (t : Fin cfg0.N) (r l : ℕ) (hr : r < 256) (hl : l < 256) :
    rd (iblk m c 0 t : S256x256.Idx → EReal) r l
      = rd (q m c) (2048 * (t.val / 16) + (256 * (t.val % 8) + r)) (256 * (t.val / 8 % 2) + l) := by
  have ht := ltN t
  rw [rd_of _ hr hl, rd_of (q m c) (by omega) (by omega)]
  unfold iblk; rw [View.read_apply]
  show V m c main_arg0 _ = m (c.tc.loc main_arg0) _
  unfold V
  congr 1; funext a; apply Fin.ext
  match a with
  | ⟨0, _⟩ => show win0_0.index t 0 * 256 + 1 * r = _; rw [(idx0 t).1]; show _ = 2048 * (t.val / 16) + (256 * (t.val % 8) + r); omega
  | ⟨1, _⟩ => show win0_0.index t 1 * 256 + 1 * l = _; rw [(idx0 t).2]; show _ = 256 * (t.val / 8 % 2) + l; omega

/-- Where a point's block of output gradients lies in the array. -/
theorem rd_g (t : Fin cfg0.N) (r l : ℕ) (hr : r < 256) (hl : l < 256) :
    rd (iblk m c 3 t : S256x256.Idx → EReal) r l
      = rd (g m c) (2048 * (t.val / 16) + (256 * (t.val % 8) + r)) (256 * (t.val / 8 % 2) + l) := by
  have ht := ltN t
  rw [rd_of _ hr hl, rd_of (g m c) (by omega) (by omega)]
  unfold iblk; rw [View.read_apply]
  show V m c main_arg3 _ = m (c.tc.loc main_arg3) _
  unfold V
  congr 1; funext a; apply Fin.ext
  match a with
  | ⟨0, _⟩ => show win0_3.index t 0 * 256 + 1 * r = _; rw [(idx3 t).1]; show _ = 2048 * (t.val / 16) + (256 * (t.val % 8) + r); omega
  | ⟨1, _⟩ => show win0_3.index t 1 * 256 + 1 * l = _; rw [(idx3 t).2]; show _ = 256 * (t.val / 8 % 2) + l; omega

/-- Where a point's keys lie in the array. -/
theorem rd_k (t : Fin cfg0.N) (y l : ℕ) (hy : y < 2048) (hl : l < 256) :
    rd (iblk m c 1 t : S2048x256.Idx → EReal) y l = rd (k m c) (2048 * (t.val / 16) + y) (256 * (t.val / 8 % 2) + l) := by
  have ht := ltN t
  rw [rd_of _ hy hl, rd_of (k m c) (by omega) (by omega)]
  unfold iblk; rw [View.read_apply]
  show V m c main_arg1 _ = m (c.tc.loc main_arg1) _
  unfold V
  congr 1; funext a; apply Fin.ext
  match a with
  | ⟨0, _⟩ => show win0_1.index t 0 * 2048 + 1 * y = _; rw [(idx1 t).1]; show _ = 2048 * (t.val / 16) + y; omega
  | ⟨1, _⟩ => show win0_1.index t 1 * 256 + 1 * l = _; rw [(idx1 t).2]; show _ = 256 * (t.val / 8 % 2) + l; omega

/-- Where a point's values lie in the array. -/
theorem rd_v (t : Fin cfg0.N) (y l : ℕ) (hy : y < 2048) (hl : l < 256) :
    rd (iblk m c 2 t : S2048x256.Idx → EReal) y l = rd (v m c) (2048 * (t.val / 16) + y) (256 * (t.val / 8 % 2) + l) := by
  have ht := ltN t
  rw [rd_of _ hy hl, rd_of (v m c) (by omega) (by omega)]
  unfold iblk; rw [View.read_apply]
  show V m c main_arg2 _ = m (c.tc.loc main_arg2) _
  unfold V
  congr 1; funext a; apply Fin.ext
  match a with
  | ⟨0, _⟩ => show win0_2.index t 0 * 2048 + 1 * y = _; rw [(idx2 t).1]; show _ = 2048 * (t.val / 16) + y; omega
  | ⟨1, _⟩ => show win0_2.index t 1 * 256 + 1 * l = _; rw [(idx2 t).2]; show _ = 256 * (t.val / 8 % 2) + l; omega

/-- A row's scores in a point's blocks are the batch's scores. -/
theorem headDot_qk (t : Fin cfg0.N) (h r : ℕ) (hh : h < 4) (hr : r < 256) :
    headDot (iblk m c 0 t : S256x256.Idx → EReal) (iblk m c 1 t : S2048x256.Idx → EReal) h r
      = heads (q m c) (k m c) (t.val / 16) (4 * (t.val / 8 % 2) + h) (256 * (t.val % 8) + r) := by
  funext y
  refine Finset.sum_congr rfl fun d _ => ?_
  rw [rd_q m c t r _ hr (by omega), rd_k m c t y.val _ y.isLt (by omega),
    show 256 * (t.val / 8 % 2) + (64 * h + d.val) = 64 * (4 * (t.val / 8 % 2) + h) + d.val by omega]

theorem headDot_gv (t : Fin cfg0.N) (h r : ℕ) (hh : h < 4) (hr : r < 256) :
    headDot (iblk m c 3 t : S256x256.Idx → EReal) (iblk m c 2 t : S2048x256.Idx → EReal) h r
      = heads (g m c) (v m c) (t.val / 16) (4 * (t.val / 8 % 2) + h) (256 * (t.val % 8) + r) := by
  funext y
  refine Finset.sum_congr rfl fun d _ => ?_
  rw [rd_g m c t r _ hr (by omega), rd_v m c t y.val _ y.isLt (by omega),
    show 256 * (t.val / 8 % 2) + (64 * h + d.val) = 64 * (4 * (t.val / 8 % 2) + h) + d.val by omega]

/-- The term of the keys' gradient that query `x` of batch `b` adds. -/
def kTerm (Q K V D : Arr) (b l : ℕ) (y : Fin 2048) (x : ℕ) : EReal :=
  dsoft (heads Q K b (l / 64) x) (heads D V b (l / 64) x) y * rd Q (2048 * b + x) l
/-- The term of the values' gradient that query `x` of batch `b` adds. -/
def vTerm (Q K D : Arr) (b l : ℕ) (y : Fin 2048) (x : ℕ) : EReal :=
  soft (heads Q K b (l / 64) x) y * rd D (2048 * b + x) l

theorem lane_div (a l : ℕ) (hl : l < 256) : (256 * a + l) / 64 = 4 * a + l / 64 := by omega

/-- The sum a point adds to the keys' gradient, over its 256 queries. -/
theorem dk_point (t : Fin cfg0.N) (acc : Vec Ideal S2048x256 .f32) (y : Fin 2048) (l : Fin 256) :
    dkBlk (iblk m c 0 t) (iblk m c 1 t) (iblk m c 2 t) (iblk m c 3 t) acc (ix2 y l) = acc (ix2 y l)
      + ∑ r : Fin 256, kTerm (q m c) (k m c) (v m c) (g m c) (t.val / 16) (256 * (t.val / 8 % 2) + l.val) y (256 * (t.val % 8) + r.val) := by
  refine (dk_at _ _ _ _ acc y l).trans (congrArg (acc (ix2 y l) + ·) (Finset.sum_congr rfl fun r _ => ?_))
  have hl := l.isLt
  unfold kTerm
  rw [headDot_qk m c t _ _ (by omega) r.isLt, headDot_gv m c t _ _ (by omega) r.isLt, rd_q m c t _ _ r.isLt l.isLt,
    lane_div _ _ hl]

/-- The sum a point adds to the values' gradient, over its 256 queries. -/
theorem dv_point (t : Fin cfg0.N) (acc : Vec Ideal S2048x256 .f32) (y : Fin 2048) (l : Fin 256) :
    dvBlk (iblk m c 0 t) (iblk m c 1 t) (iblk m c 3 t) acc (ix2 y l) = acc (ix2 y l)
      + ∑ r : Fin 256, vTerm (q m c) (k m c) (g m c) (t.val / 16) (256 * (t.val / 8 % 2) + l.val) y (256 * (t.val % 8) + r.val) := by
  refine (dv_at _ _ _ acc y l).trans (congrArg (acc (ix2 y l) + ·) (Finset.sum_congr rfl fun r _ => ?_))
  have hl := l.isLt
  unfold vTerm
  rw [headDot_qk m c t _ _ (by omega) r.isLt, rd_g m c t _ _ r.isLt l.isLt, lane_div _ _ hl]

/-- After a point, the keys' gradient holds the terms of the query tiles up to it. -/
theorem outs_dk (n : ℕ) (h : n < cfg0.N) (y : Fin 2048) (l : Fin 256) :
    (outsAt0 m c n h).2.1 (ix2 y l) = ∑ j ∈ Finset.range (n % 8 + 1), ∑ r : Fin 256,
      kTerm (q m c) (k m c) (v m c) (g m c) (n / 16) (256 * (n / 8 % 2) + l.val) y (256 * j + r.val) := by
  induction n with
  | zero =>
    rw [outsAt0_A m c ⟨0, h⟩ rfl]
    dsimp only
    rw [out_A_5, dk_point, zero5_at, zero_add, Finset.sum_range_one]
    rfl
  | succ n ih =>
    by_cases h0 : (n + 1) % 8 = 0
    · rw [outsAt0_A m c ⟨n + 1, h⟩ h0]
      dsimp only
      rw [out_A_5, dk_point, zero5_at, zero_add, h0, Finset.sum_range_one]
    · rw [outsAt0_B m c ⟨n + 1, h⟩ h0]
      dsimp only
      rw [out_B_5, dk_point]
      simp only [Nat.add_sub_cancel]
      rw [ih (Nat.lt_of_succ_lt h), Finset.sum_range_succ _ ((n + 1) % 8), show (n + 1) % 8 = n % 8 + 1 by omega,
        show (n + 1) / 16 = n / 16 by omega, show (n + 1) / 8 = n / 8 by omega]

/-- After a point, the values' gradient holds the terms of the query tiles up to it. -/
theorem outs_dv (n : ℕ) (h : n < cfg0.N) (y : Fin 2048) (l : Fin 256) :
    (outsAt0 m c n h).2.2 (ix2 y l) = ∑ j ∈ Finset.range (n % 8 + 1), ∑ r : Fin 256,
      vTerm (q m c) (k m c) (g m c) (n / 16) (256 * (n / 8 % 2) + l.val) y (256 * j + r.val) := by
  induction n with
  | zero =>
    rw [outsAt0_A m c ⟨0, h⟩ rfl]
    dsimp only
    rw [out_A_6, dv_point, zero6_at, zero_add, Finset.sum_range_one]
    rfl
  | succ n ih =>
    by_cases h0 : (n + 1) % 8 = 0
    · rw [outsAt0_A m c ⟨n + 1, h⟩ h0]
      dsimp only
      rw [out_A_6, dv_point, zero6_at, zero_add, h0, Finset.sum_range_one]
    · rw [outsAt0_B m c ⟨n + 1, h⟩ h0]
      dsimp only
      rw [out_B_6, dv_point]
      simp only [Nat.add_sub_cancel]
      rw [ih (Nat.lt_of_succ_lt h), Finset.sum_range_succ _ ((n + 1) % 8), show (n + 1) % 8 = n % 8 + 1 by omega,
        show (n + 1) / 16 = n / 16 by omega, show (n + 1) / 8 = n / 8 by omega]

/-- Eight tiles of 256 queries are the batch's 2048. -/
theorem tiles (f : ℕ → EReal) : ∑ j ∈ Finset.range 8, ∑ r : Fin 256, f (256 * j + r.val) = ∑ x : Fin 2048, f x.val := by
  rw [sum_blocks 8 256 2048 rfl, Finset.sum_range]

/-- After a point, the queries' gradient block holds the point's own rows. -/
theorem outs_dq (t : Fin cfg0.N) (r l : Fin 256) :
    (outsAt0 m c t.val t.isLt).1 (ix2 r l)
      = dqAt (q m c) (k m c) (v m c) (g m c) (2048 * (t.val / 16) + (256 * (t.val % 8) + r.val)) (256 * (t.val / 8 % 2) + l.val) := by
  have e : (outsAt0 m c t.val t.isLt).1 = dqBlk (iblk m c 0 t) (iblk m c 1 t) (iblk m c 2 t) (iblk m c 3 t) := by
    by_cases h0 : t.val % 8 = 0
    · rw [outsAt0_A m c t h0]; dsimp only; rw [out_A_4]
    · rw [outsAt0_B m c t h0]; dsimp only; rw [out_B_4]
  rw [e]
  refine (dq_at _ _ _ _ r l).trans ?_
  have hl := l.isLt
  have hr := r.isLt
  unfold dqAt
  refine Finset.sum_congr rfl fun y _ => ?_
  rw [headDot_qk m c t _ _ (by omega) r.isLt, headDot_gv m c t _ _ (by omega) r.isLt, rd_k m c t _ _ y.isLt l.isLt,
    lane_div _ _ hl, show (2048 * (t.val / 16) + (256 * (t.val % 8) + r.val)) / 2048 = t.val / 16 by omega,
    show (2048 * (t.val / 16) + (256 * (t.val % 8) + r.val)) % 2048 = 256 * (t.val % 8) + r.val by omega]

/-- The queries' gradient. -/
def dqArr (Q K V D : Arr) : Arr := fun i => dqAt Q K V D (i 0).val (i 1).val
/-- The keys' gradient. -/
def dkArr (Q K V D : Arr) : Arr := fun i => ∑ x : Fin 2048, kTerm Q K V D ((i 0).val / 2048) (i 1).val ⟨(i 0).val % 2048, Nat.mod_lt _ (by decide)⟩ x.val
/-- The values' gradient. -/
def dvArr (Q K D : Arr) : Arr := fun i => ∑ x : Fin 2048, vTerm Q K D ((i 0).val / 2048) (i 1).val ⟨(i 0).val % 2048, Nat.mod_lt _ (by decide)⟩ x.val

/-- What a point writes back to the queries' gradient is its block of `dqArr`. -/
theorem flushed_dq (t : Fin cfg0.N) (_ : (cfg0.win 4).flush t = true) :
    (dats m 0 c).flushed 4 t = ((cfg0.win 4).blk t).view.read (Elt Ideal) (dqArr (q m c) (k m c) (v m c) (g m c)) := by
  rw [flushed4]
  funext j
  rw [View.read_apply]
  have e0 : ((((cfg0.win 4).blk t).view.emb j) 0).val = win0_4.index t 0 * 256 + 1 * (j 0).val := rfl
  have e1 : ((((cfg0.win 4).blk t).view.emb j) 1).val = win0_4.index t 1 * 256 + 1 * (j 1).val := rfl
  have h0 : (j 0).val < 256 := (j 0).isLt
  have h1 : (j 1).val < 256 := (j 1).isLt
  have ej : (cfg0.win 4).cut (grid0.coords t) (outsAt0 m c t.val t.isLt).1 j
      = (outsAt0 m c t.val t.isLt).1 (ix2 ⟨(j 0).val, h0⟩ ⟨(j 1).val, h1⟩) :=
    congrArg _ (funext fun a => Fin.ext (by match a with | ⟨0, _⟩ => rfl | ⟨1, _⟩ => rfl))
  refine ej.trans ((outs_dq m c t ⟨(j 0).val, h0⟩ ⟨(j 1).val, h1⟩).trans ?_)
  show _ = dqAt _ _ _ _ ((((cfg0.win 4).blk t).view.emb j) 0).val ((((cfg0.win 4).blk t).view.emb j) 1).val
  rw [e0, e1, (idx4 t).1, (idx4 t).2]
  congr 1 <;> dsimp only <;> omega

/-- What a last query tile writes back to the keys' gradient is its block of `dkArr`. -/
theorem flushed_dk (t : Fin cfg0.N) (hf : (cfg0.win 5).flush t = true) :
    (dats m 0 c).flushed 5 t = ((cfg0.win 5).blk t).view.read (Elt Ideal) (dkArr (q m c) (k m c) (v m c) (g m c)) := by
  have h7 := (flush0_5 t).mp hf
  rw [flushed5]
  funext j
  rw [View.read_apply]
  have e0 : ((((cfg0.win 5).blk t).view.emb j) 0).val = win0_5.index t 0 * 2048 + 1 * (j 0).val := rfl
  have e1 : ((((cfg0.win 5).blk t).view.emb j) 1).val = win0_5.index t 1 * 256 + 1 * (j 1).val := rfl
  have h0 : (j 0).val < 2048 := (j 0).isLt
  have h1 : (j 1).val < 256 := (j 1).isLt
  rw [(idx5 t).1] at e0
  rw [(idx5 t).2] at e1
  have ej : (cfg0.win 5).cut (grid0.coords t) (outsAt0 m c t.val t.isLt).2.1 j
      = (outsAt0 m c t.val t.isLt).2.1 (ix2 ⟨(j 0).val, h0⟩ ⟨(j 1).val, h1⟩) :=
    congrArg _ (funext fun a => Fin.ext (by match a with | ⟨0, _⟩ => rfl | ⟨1, _⟩ => rfl))
  refine ej.trans ((outs_dk m c t.val t.isLt ⟨(j 0).val, h0⟩ ⟨(j 1).val, h1⟩).trans ?_)
  rw [h7, tiles (kTerm (q m c) (k m c) (v m c) (g m c) (t.val / 16) (256 * (t.val / 8 % 2) + (j 1).val) ⟨(j 0).val, h0⟩)]
  show _ = ∑ x : Fin 2048, kTerm (q m c) (k m c) (v m c) (g m c) (((((cfg0.win 5).blk t).view.emb j) 0).val / 2048) ((((cfg0.win 5).blk t).view.emb j) 1).val ⟨((((cfg0.win 5).blk t).view.emb j) 0).val % 2048, _⟩ x.val
  refine Finset.sum_congr rfl fun x _ => ?_
  have p0 : ((((cfg0.win 5).blk t).view.emb j) 0).val / 2048 = t.val / 16 := by omega
  have p1 : ((((cfg0.win 5).blk t).view.emb j) 0).val % 2048 = (j 0).val := by omega
  have p2 : ((((cfg0.win 5).blk t).view.emb j) 1).val = 256 * (t.val / 8 % 2) + (j 1).val := by omega
  rw [p0, p2]
  congr 1
  exact Fin.ext p1.symm

/-- What a last query tile writes back to the values' gradient is its block of `dvArr`. -/
theorem flushed_dv (t : Fin cfg0.N) (hf : (cfg0.win 6).flush t = true) :
    (dats m 0 c).flushed 6 t = ((cfg0.win 6).blk t).view.read (Elt Ideal) (dvArr (q m c) (k m c) (g m c)) := by
  have h7 := (flush0_6 t).mp hf
  rw [flushed6]
  funext j
  rw [View.read_apply]
  have e0 : ((((cfg0.win 6).blk t).view.emb j) 0).val = win0_6.index t 0 * 2048 + 1 * (j 0).val := rfl
  have e1 : ((((cfg0.win 6).blk t).view.emb j) 1).val = win0_6.index t 1 * 256 + 1 * (j 1).val := rfl
  have h0 : (j 0).val < 2048 := (j 0).isLt
  have h1 : (j 1).val < 256 := (j 1).isLt
  rw [(idx6 t).1] at e0
  rw [(idx6 t).2] at e1
  have ej : (cfg0.win 6).cut (grid0.coords t) (outsAt0 m c t.val t.isLt).2.2 j
      = (outsAt0 m c t.val t.isLt).2.2 (ix2 ⟨(j 0).val, h0⟩ ⟨(j 1).val, h1⟩) :=
    congrArg _ (funext fun a => Fin.ext (by match a with | ⟨0, _⟩ => rfl | ⟨1, _⟩ => rfl))
  refine ej.trans ((outs_dv m c t.val t.isLt ⟨(j 0).val, h0⟩ ⟨(j 1).val, h1⟩).trans ?_)
  rw [h7, tiles (vTerm (q m c) (k m c) (g m c) (t.val / 16) (256 * (t.val / 8 % 2) + (j 1).val) ⟨(j 0).val, h0⟩)]
  show _ = ∑ x : Fin 2048, vTerm (q m c) (k m c) (g m c) (((((cfg0.win 6).blk t).view.emb j) 0).val / 2048) ((((cfg0.win 6).blk t).view.emb j) 1).val ⟨((((cfg0.win 6).blk t).view.emb j) 0).val % 2048, _⟩ x.val
  refine Finset.sum_congr rfl fun x _ => ?_
  have p0 : ((((cfg0.win 6).blk t).view.emb j) 0).val / 2048 = t.val / 16 := by omega
  have p1 : ((((cfg0.win 6).blk t).view.emb j) 0).val % 2048 = (j 0).val := by omega
  have p2 : ((((cfg0.win 6).blk t).view.emb j) 1).val = 256 * (t.val / 8 % 2) + (j 1).val := by omega
  rw [p0, p2]
  congr 1
  exact Fin.ext p1.symm

/-- The queries' gradient array ends holding `dqArr`. -/
theorem final_dq : (dats m 0 c).arrAt 4 cfg0.N = dqArr (q m c) (k m c) (v m c) (g m c) :=
  (dats m 0 c).arrAt_eq_of_cover 4 _ (flushed_dq m c) fun i => by
    have i0 : (i 0).val < 4096 := (i 0).isLt
    have i1 : (i 1).val < 512 := (i 1).isLt
    let t : Fin cfg0.N := ⟨16 * ((i 0).val / 2048) + 8 * ((i 1).val / 256) + (i 0).val % 2048 / 256, Nat.lt_of_lt_of_eq (by omega) N_0.symm⟩
    have ht : t.val = 16 * ((i 0).val / 2048) + 8 * ((i 1).val / 256) + (i 0).val % 2048 / 256 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 256 ≤ (i 0).val ∧ (i 0).val < win0_4.index t 0 * 256 + 256
                rw [(idx4 t).1]; omega
    | ⟨1, _⟩ => show win0_4.index t 1 * 256 ≤ (i 1).val ∧ (i 1).val < win0_4.index t 1 * 256 + 256
                rw [(idx4 t).2]; omega

/-- The keys' gradient array ends holding `dkArr`. -/
theorem final_dk : (dats m 0 c).arrAt 5 cfg0.N = dkArr (q m c) (k m c) (v m c) (g m c) :=
  (dats m 0 c).arrAt_eq_of_cover 5 _ (flushed_dk m c) fun i => by
    have i0 : (i 0).val < 4096 := (i 0).isLt
    have i1 : (i 1).val < 512 := (i 1).isLt
    let t : Fin cfg0.N := ⟨16 * ((i 0).val / 2048) + 8 * ((i 1).val / 256) + 7, Nat.lt_of_lt_of_eq (by omega) N_0.symm⟩
    have ht : t.val = 16 * ((i 0).val / 2048) + 8 * ((i 1).val / 256) + 7 := rfl
    refine ⟨t, (flush0_5 t).mpr (by omega), ?_⟩
    show i ∈ ((View.whole main_v0_1).slice (win0_5.rect t)).set
    rw [View.set_slice_whole, Rect.mem_set_unit]
    intro a
    match a with
    | ⟨0, _⟩ => show win0_5.index t 0 * 2048 ≤ (i 0).val ∧ (i 0).val < win0_5.index t 0 * 2048 + 2048
                rw [(idx5 t).1]; omega
    | ⟨1, _⟩ => show win0_5.index t 1 * 256 ≤ (i 1).val ∧ (i 1).val < win0_5.index t 1 * 256 + 256
                rw [(idx5 t).2]; omega

/-- The values' gradient array ends holding `dvArr`. -/
theorem final_dv : (dats m 0 c).arrAt 6 cfg0.N = dvArr (q m c) (k m c) (g m c) :=
  (dats m 0 c).arrAt_eq_of_cover 6 _ (flushed_dv m c) fun i => by
    have i0 : (i 0).val < 4096 := (i 0).isLt
    have i1 : (i 1).val < 512 := (i 1).isLt
    let t : Fin cfg0.N := ⟨16 * ((i 0).val / 2048) + 8 * ((i 1).val / 256) + 7, Nat.lt_of_lt_of_eq (by omega) N_0.symm⟩
    have ht : t.val = 16 * ((i 0).val / 2048) + 8 * ((i 1).val / 256) + 7 := rfl
    refine ⟨t, (flush0_6 t).mpr (by omega), ?_⟩
    show i ∈ ((View.whole main_v0_2).slice (win0_6.rect t)).set
    rw [View.set_slice_whole, Rect.mem_set_unit]
    intro a
    match a with
    | ⟨0, _⟩ => show win0_6.index t 0 * 2048 ≤ (i 0).val ∧ (i 0).val < win0_6.index t 0 * 2048 + 2048
                rw [(idx6 t).1]; omega
    | ⟨1, _⟩ => show win0_6.index t 1 * 256 ≤ (i 1).val ∧ (i 1).val < win0_6.index t 1 * 256 + 256
                rw [(idx6 t).2]; omega

end Cert.Attn

end
-- ==== Proof.Ref.lean ====
/- The reference's three results, entry by entry: the gradient of the softmax attention, as the softmax of
   each row of scores and the gradient that differentiating its quotient gives. -/
module

public import proofs.«01_k».proof.Proof.Arrays
public import proofs.«01_k».proof.Proof.Gen.ReferenceIdeal.Read

@[expose] public section

set_option maxRecDepth 16384

noncomputable section

namespace Cert.Attn

open Idealize.ShloMosaic Idealize.ShloMosaic.TcCoe Idealize.ShloMosaic.Tactic
open Cert.ReferenceIdeal Cert.ReferenceIdeal.Gen Cert.ReferenceIdeal.Read

variable (Q K V D : Arr)

/-- The largest entry of each row, as the host's reduction takes it. -/
theorem red_at (s : FVec Ideal S2x8x2048x2048 .f32) (b : Fin 2) (x : Fin 2048) (h : Fin 8) :
    Host.reduce FloatOps.maximumf s (constant S_ .f32 0xFF800000#32) reducesTo_S2x8x2048x2048_S2x8x2048_d3 h_S_ (ix3 b h x)
      = Finset.univ.fold max (Ideal.ofBits .f32 0xFF800000#32) fun y => s (ix4 b h x y) := by
  pointwise []

theorem rd_tok {t t' l l' : ℕ} (A : Arr) (ht : t < 4096) (hl : l < 512) (e : t = t') (e' : l = l') :
    A (ix2 ⟨t, ht⟩ ⟨l, hl⟩) = rd A t' l' := by
  subst e; subst e'; exact (rd_of A ht hl).symm

theorem v1_at (b : Fin 2) (x : Fin 2048) (h : Fin 8) (d : Fin 64) :
    val_main_v1 (F := Ideal) Q (ix4 b x h d) = rd Q (2048 * b.val + x.val) (64 * h.val + d.val) := by
  pointwise [val_main_v1, val_main_v0]
  exact rd_tok _ _ _ (by omega) (by omega)

theorem v3_at (b : Fin 2) (x : Fin 2048) (h : Fin 8) (d : Fin 64) :
    val_main_v3 (F := Ideal) K (ix4 b x h d) = rd K (2048 * b.val + x.val) (64 * h.val + d.val) := by
  pointwise [val_main_v3, val_main_v2]
  exact rd_tok _ _ _ (by omega) (by omega)

theorem v5_at (b : Fin 2) (x : Fin 2048) (h : Fin 8) (d : Fin 64) :
    val_main_v5 (F := Ideal) V (ix4 b x h d) = rd V (2048 * b.val + x.val) (64 * h.val + d.val) := by
  pointwise [val_main_v5, val_main_v4]
  exact rd_tok _ _ _ (by omega) (by omega)

theorem v38_at (b : Fin 2) (x : Fin 2048) (h : Fin 8) (d : Fin 64) :
    val_main_v38 (F := Ideal) D (ix4 b h d x) = rd D (2048 * b.val + x.val) (64 * h.val + d.val) := by
  pointwise [val_main_v38, val_main_v37]
  exact rd_tok _ _ _ (by omega) (by omega)

/-- The scores. -/
theorem v6_at (b : Fin 2) (x y : Fin 2048) (h : Fin 8) :
    val_main_v6 (F := Ideal) Q K (ix4 b h x y) = heads Q K b.val h.val x.val y := by
  unfold val_main_v6
  pointwise []
  simp only [v1_at, v3_at]
  rfl

/-- The gradient of the probabilities. -/
theorem v39_at (b : Fin 2) (x y : Fin 2048) (h : Fin 8) :
    val_main_v39 (F := Ideal) V D (ix4 b h x y) = heads D V b.val h.val x.val y := by
  unfold val_main_v39
  pointwise []
  simp only [v38_at, v5_at]
  rfl

theorem v7_at (b : Fin 2) (x : Fin 2048) (h : Fin 8) :
    val_main_v7 (F := Ideal) Q K (ix3 b h x) = top (heads Q K b.val h.val x.val) := by
  have e := red_at (val_main_v6 (F := Ideal) Q K) b x h
  rw [negInf] at e
  simp only [v6_at] at e
  unfold val_main_v7 val_main_cst
  exact e

theorem v13_at (i : S2x8x2048.Idx) : val_main_v13 (F := Ideal) i = ⊥ := by
  rw [val_main_v13_apply]
  exact negInf

/-- The largest score of a row. -/
theorem v14_at (b : Fin 2) (x : Fin 2048) (h : Fin 8) :
    val_main_v14 (F := Ideal) Q K (ix3 b h x) = top (heads Q K b.val h.val x.val) := by
  rw [val_main_v14_apply, v7_at, v13_at]
  exact max_eq_right bot_le

/-- The exponentials. -/
theorem v27_at (b : Fin 2) (x y : Fin 2048) (h : Fin 8) :
    val_main_v27 (F := Ideal) Q K (ix4 b h x y) = expo (heads Q K b.val h.val x.val) y := by
  unfold val_main_v27 val_main_v26 val_main_v25 val_main_v24
  pointwise []
  simp only [v6_at, v14_at]
  rfl

/-- Their sum along a row. -/
theorem v29_at (b : Fin 2) (x : Fin 2048) (h : Fin 8) (z : Fin 1) :
    val_main_v29 (F := Ideal) Q K (ix4 b h x z) = ∑ y, expo (heads Q K b.val h.val x.val) y := by
  unfold val_main_v29 val_main_v28
  pointwise [val_main_cst_7]
  simp only [v27_at]

/-- The probabilities, as a quotient. -/
theorem v31_at (b : Fin 2) (x y : Fin 2048) (h : Fin 8) :
    val_main_v31 (F := Ideal) Q K (ix4 b h x y)
      = Ideal.div (expo (heads Q K b.val h.val x.val) y) (∑ y, expo (heads Q K b.val h.val x.val) y) := by
  unfold val_main_v31 val_main_v30
  pointwise []
  simp only [v27_at, v29_at]

/-- The row sum the derivative of the quotient takes off. -/
theorem v45_at (b : Fin 2) (x : Fin 2048) (h : Fin 8) :
    val_main_v45 (F := Ideal) Q K V D (ix3 b h x)
      = ∑ z, heads D V b.val h.val x.val z
          * Ideal.div 1 ((∑ z, expo (heads Q K b.val h.val x.val) z) * ∑ z, expo (heads Q K b.val h.val x.val) z)
          * expo (heads Q K b.val h.val x.val) z := by
  unfold val_main_v45 val_main_v44 val_main_v43 val_main_v42 val_main_v34 val_main_v33 val_main_v32
  pointwise [val_main_cst_9, val_main_cst_8]
  simp only [v27_at, v29_at, v39_at]

/-- The gradient of the scores. -/
theorem v53_at (b : Fin 2) (x y : Fin 2048) (h : Fin 8) :
    val_main_v53 (F := Ideal) Q K V D (ix4 b h x y)
      = (Ideal.div (heads D V b.val h.val x.val y) (∑ z, expo (heads Q K b.val h.val x.val) z)
        + -(∑ z, heads D V b.val h.val x.val z
          * Ideal.div 1 ((∑ z, expo (heads Q K b.val h.val x.val) z) * ∑ z, expo (heads Q K b.val h.val x.val) z)
          * expo (heads Q K b.val h.val x.val) z)) * expo (heads Q K b.val h.val x.val) y := by
  unfold val_main_v53 val_main_v52 val_main_v51 val_main_v50 val_main_v49 val_main_v48 val_main_v47 val_main_v46
  pointwise [val_main_cst_10]
  simp only [v27_at, v29_at, v39_at, v45_at, Finset.univ_unique, Finset.sum_singleton]

/-- An array whose entries are all real numbers. -/
def Real' (A : Arr) : Prop := ∀ i, ∃ r : ℝ, A i = r

/-- Scores of real queries and keys are real. -/
theorem heads_real {Q K : Arr} (hQ : Real' Q) (hK : Real' K) (b h x : ℕ) (y : Fin 2048) : ∃ r : ℝ, heads Q K b h x y = r := by
  have hr : ∀ (A : Arr), Real' A → ∀ t l, ∃ r : ℝ, rd A t l = r := fun A hA t l => by
    unfold rd; split_ifs with hh
    · exact hA _
    · exact ⟨0, rfl⟩
  choose f hf using fun d : Fin 64 => hr Q hQ (2048 * b + x) (64 * h + d.val)
  choose f' hf' using fun d : Fin 64 => hr K hK (2048 * b + y.val) (64 * h + d.val)
  refine ⟨∑ d, f d * f' d, ?_⟩
  unfold heads
  rw [← coe_sum]
  exact Finset.sum_congr rfl fun d _ => by rw [hf, hf', EReal.coe_mul]

variable {Q K}

/-- The reference's gradient of the queries is the kernel's. -/
theorem ref_dq (hQ : Real' Q) (hK : Real' K) : val_main_v58 (F := Ideal) Q K V D = dqArr Q K V D := by
  funext i
  idx_vars i
  unfold val_main_v58 val_main_v57 val_main_v56
  pointwise []
  show _ = ∑ y : Fin 2048, dsoft (heads Q K (i0.val / 2048) (i1.val / 64) (i0.val % 2048))
    (heads D V (i0.val / 2048) (i1.val / 64) (i0.val % 2048)) y * rd K (2048 * (i0.val / 2048) + y.val) i1.val
  refine Finset.sum_congr rfl fun y _ => ?_
  rw [v53_at, v3_at, quot_grad_eq_dsoft _ _ (heads_real hQ hK _ _ _)]
  congr 2
  show 64 * (i1.val / 64) + i1.val % 64 = i1.val
  omega

/-- The reference's gradient of the keys is the kernel's. -/
theorem ref_dk (hQ : Real' Q) (hK : Real' K) : val_main_v59 (F := Ideal) Q K V D = dkArr Q K V D := by
  funext i
  idx_vars i
  unfold val_main_v59 val_main_v55 val_main_v54
  pointwise []
  show _ = ∑ x : Fin 2048, kTerm Q K V D (i0.val / 2048) i1.val ⟨i0.val % 2048, _⟩ x.val
  refine Finset.sum_congr rfl fun x _ => ?_
  rw [v53_at, v1_at, quot_grad_eq_dsoft _ _ (heads_real hQ hK _ _ _)]
  unfold kTerm
  congr 2
  show 64 * (i1.val / 64) + i1.val % 64 = i1.val
  omega

/-- The reference's gradient of the values is the kernel's. -/
theorem ref_dv (hQ : Real' Q) (hK : Real' K) : val_main_v60 (F := Ideal) Q K D = dvArr Q K D := by
  funext i
  idx_vars i
  unfold val_main_v60 val_main_v41 val_main_v40
  pointwise []
  show _ = ∑ x : Fin 2048, vTerm Q K D (i0.val / 2048) i1.val ⟨i0.val % 2048, _⟩ x.val
  refine Finset.sum_congr rfl fun x _ => ?_
  rw [v31_at, v38_at, quot_eq_soft _ (heads_real hQ hK _ _ _), mul_comm]
  unfold vTerm
  congr 2
  show 64 * (i1.val / 64) + i1.val % 64 = i1.val
  omega

end Cert.Attn

end
-- ==== Proof.Pre.lean ====
/- The precondition read back: queries and keys below infinity in absolute value are real numbers. -/
module

public import proofs.«01_k».proof.Proof.Ref
public import proofs.«01_k».proof.Defs
public import Idealize.ShloMosaic.Lib.ReduceAll
public import Idealize.ShloMosaic.Lib.Decide

@[expose] public section

noncomputable section

namespace Cert.Attn

open Idealize.ShloMosaic Idealize.SL.Sem
open Cert.Pre_finite Cert.Pre_finite.Facts

/-- The side conditions of the printed precondition. -/
instance preFacts : Cert.Pre_finite.Facts where
  bcast_S_S4096x512 := by decide
  reducesTo_S4096x512_S_d0_1 := by decide
  h_S_ := by decide

/-- The word of the bf16 infinity is the greatest extended real. -/
theorem posInf : Ideal.ofBits .bf16 0x7F80#16 = ⊤ := by
  simp only [Ideal.ofBits]
  decide +kernel

/-- An array all of whose absolute values are below infinity is real everywhere. -/
theorem real_of_all (A : FVec Ideal Cert.Pre_finite.S4096x512 .bf16) (j : Cert.Pre_finite.S_.Idx)
    (e : Host.reduce IntOp.andi (cmpf .olt (Host.absf A)
        (broadcastInDim Cert.Pre_finite.S4096x512 ![] bcast_S_S4096x512 (constant Cert.Pre_finite.S_ .bf16 0x7F80#16)))
      (constantI Cert.Pre_finite.S_ 1 1#1) reducesTo_S4096x512_S_d0_1 h_S_ j = 1#1) : Real' A := by
  haveI : Subsingleton Cert.Pre_finite.S_.Idx := ⟨fun a b => funext fun x => x.elim0⟩
  intro i
  have h := Host.reduce_andi_all _ _ _ _ j e i
  have h' : Ideal.cmp .olt (max (A i : EReal) (-(A i : EReal))) (Ideal.ofBits .bf16 0x7F80#16) = 1#1 := h
  rw [posInf] at h'
  have hlt : max (A i : EReal) (-(A i : EReal)) < ⊤ := by
    by_contra hn
    simp [Ideal.cmp, hn] at h'
  have h1 := (max_lt_iff.1 hlt).1
  have h2 := (max_lt_iff.1 hlt).2
  refine ⟨(A i : EReal).toReal, (EReal.coe_toReal h1.ne ?_).symm⟩
  intro hb
  rw [hb] at h2
  simp at h2

/-- The precondition makes the queries and the keys of every device real. -/
theorem real_of_pre (Q K V : FVec Ideal Cert.Pre_finite.S4096x512 .bf16) (D : FVec Ideal Cert.Pre_finite.S4096x512 .f32)
    (h : Cert.Pre_finite.fn (F := Ideal) Q K V D = fun _ => 1#1) : Real' Q ∧ Real' K := by
  have e := congrFun h (Shape.Idx.first h_S_)
  obtain ⟨a, b⟩ := IntOp.andi_eq_one.1 e
  exact ⟨real_of_all Q _ a, real_of_all K _ b⟩

end Cert.Attn

end
-- ==== Proof.Attn.lean ====
/- The claims about the gradient of the attention: the reference's frame, and the equality of the kernel's three
   gradients with the reference's. -/
module

public import proofs.«01_k».proof.Proof.Pre
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Attn

open Idealize.ShloMosaic Idealize.SL.Sem

/-- The reference runs, keeps its arguments, and declares no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3))
      ∧ r.2.sem = fun _ => 0) :=
  (θ_run Cert.ReferenceIdeal.defs _ _).mono (fun r h => ⟨fun c => (h c).2.2.2,
    sem_eq_zero_of_no_sems (by decide) r.2⟩) (Cert.ReferenceIdeal.Value.run (F := Ideal) m ρ)

/-- From equal arguments with real queries and keys, the kernel's gradients of q, k and v are the reference's. -/
theorem algebraic : Cert.algebraic_KernelIdeal_ReferenceIdeal_pre_finite := by
  intro m ρ m' ρ' hpre hargs
  refine ⟨fun d => dqArr (q m d) (k m d) (v m d) (g m d), fun d => dkArr (q m d) (k m d) (v m d) (g m d),
    fun d => dvArr (q m d) (k m d) (g m d), ?_, ?_⟩
  · refine (θ_run Cert.KernelIdeal.defs _ _).mono (fun r h c => ?_) (Cert.KernelIdeal.Value.run_blocks (F := Ideal) m ρ)
    obtain ⟨h0, h1, h2, ha⟩ := h c
    exact ⟨h0.trans (final_dq m c), h1.trans (final_dk m c), h2.trans (final_dv m c), ha⟩
  · refine (θ_run Cert.ReferenceIdeal.defs _ _).mono (fun r h c => ?_) (Cert.ReferenceIdeal.Value.run (F := Ideal) m' ρ')
    obtain ⟨h0, h1, h2, ha⟩ := h c
    obtain ⟨a0, a1, a2, a3⟩ := hargs c
    obtain ⟨hQ, hK⟩ := real_of_pre _ _ _ _ (hpre c)
    refine ⟨h0.trans ?_, h1.trans ?_, h2.trans ?_, ha⟩
    · rw [Cert.ReferenceIdeal.Read.val_main_v58_eq, a0, a1, a2, a3]
      exact ref_dq _ _ hQ hK
    · rw [Cert.ReferenceIdeal.Read.val_main_v59_eq, a0, a1, a2, a3]
      exact ref_dk _ _ hQ hK
    · refine (Cert.ReferenceIdeal.Read.val_main_v60_eq _ _ _).trans ?_
      rw [a0, a1, a3]
      exact ref_dv _ hQ hK

end Cert.Attn

end
-- ==== Proof.FfnCase.lean ====
/- What one grid point of the feed-forward backward kernel leaves in its four output blocks, as the printed
   payloads of the point's eight input blocks (and of what the point before left, for the norm weight's). -/
module

public import proofs.«01_k».proof.Proof.Gen.Kernel2Ideal.Value
public import Idealize.ShloMosaic.Lib.Pipeline.Value
public import Idealize.ShloMosaic.Lib.Pointwise

@[expose] public section

set_option maxRecDepth 16384

noncomputable section

namespace Cert.Ffn

open Idealize.ShloMosaic Idealize.ShloMosaic.TcCoe Idealize.ShloMosaic.Tactic
open Idealize.SL.Sem
open Cert.Kernel2Ideal Cert.Kernel2Ideal.Gen

variable {F : FTy → Type} [FloatOps F]

theorem hz : (![0, 0] : Fin 2 → Nat) = fun _ => 0 := funext fun a => by fin_cases a <;> rfl

/-- Column block `j` of an array of four. -/
def slab {a b : ℕ} {φ : EltTy} (X : Vec F ⟨3, ![4, a, b]⟩ φ) (j : Fin 4) : Vec F ⟨3, ![1, a, b]⟩ φ := fun i => X (ix3 j (i 1) (i 2))

/-- A load of column block `j` is that block. -/
theorem ld_slab {a b : ℕ} {φ : EltTy} (X : Vec F ⟨3, ![4, a, b]⟩ φ) (n : ℕ) (hn : n < 4)
    (inb : ∀ d, (![n, 0, 0] : Fin 3 → ℕ) d + (⟨3, ![1, a, b]⟩ : Shape).size d ≤ (⟨3, ![4, a, b]⟩ : Shape).size d) :
    View.ld X (Rect.unit (s := ⟨3, ![4, a, b]⟩) ![n, 0, 0] (⟨3, ![1, a, b]⟩ : Shape).size inb) = slab X ⟨n, hn⟩ := by
  funext x
  show X _ = X _
  congr 1; funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

theorem ldD (X : Vec F S4x704x1024 .bf16) (n : ℕ) (hn : n < 4) (inb : ∀ d, (![n, 0, 0] : Fin 3 → ℕ) d + S1x704x1024.size d ≤ S4x704x1024.size d) :
    View.ld X (Rect.unit (s := S4x704x1024) ![n, 0, 0] S1x704x1024.size inb) = slab X ⟨n, hn⟩ := ld_slab X n hn inb
theorem ldF (X : Vec F S4x256x704 .bf16) (n : ℕ) (hn : n < 4) (inb : ∀ d, (![n, 0, 0] : Fin 3 → ℕ) d + S1x256x704.size d ≤ S4x256x704.size d) :
    View.ld X (Rect.unit (s := S4x256x704) ![n, 0, 0] S1x256x704.size inb) = slab X ⟨n, hn⟩ := ld_slab X n hn inb
theorem ldW (X : Vec F S4x1024x704 .bf16) (n : ℕ) (hn : n < 4) (inb : ∀ d, (![n, 0, 0] : Fin 3 → ℕ) d + S1x1024x704.size d ≤ S4x1024x704.size d) :
    View.ld X (Rect.unit (s := S4x1024x704) ![n, 0, 0] S1x1024x704.size inb) = slab X ⟨n, hn⟩ := ld_slab X n hn inb

/-- Where an entry of column block `j` lies in the array of four. -/
theorem emb_slab {a b : ℕ} (n : ℕ) (hn : n < 4)
    (inb : ∀ d, (![n, 0, 0] : Fin 3 → ℕ) d + (⟨3, ![1, a, b]⟩ : Shape).size d ≤ (⟨3, ![4, a, b]⟩ : Shape).size d)
    (x : (⟨3, ![1, a, b]⟩ : Shape).Idx) :
    (Rect.unit (s := ⟨3, ![4, a, b]⟩) ![n, 0, 0] (⟨3, ![1, a, b]⟩ : Shape).size inb).emb x = ix3 ⟨n, hn⟩ (x 1) (x 2) := by
  funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

theorem idx_one {a b : ℕ} (x : (⟨3, ![1, a, b]⟩ : Shape).Idx) : x = ix3 0 (x 1) (x 2) := by
  funext d; apply Fin.ext
  match d with
  | ⟨0, _⟩ => show (x 0).val = 0; have : (x 0).val < 1 := (x 0).isLt; omega
  | ⟨1, _⟩ => rfl
  | ⟨2, _⟩ => rfl

section
variable (x0 : Vec F S256x1024 .f32) (x1 : Vec F S4x704x1024 .bf16) (x2 x3 : Vec F S4x256x704 .bf16)
  (x4 x5 : Vec F S4x1024x704 .bf16) (x6 : Vec F S256x1024 .f32) (x7 : Vec F S1x1024 .f32)

/-- The gate's gradient in column block `j`. -/
def dgB (j : Fin 4) : FVec F S256x704 .bf16 := k0_pay5 x0 (slab x1 j) (slab x2 j) (slab x3 j)
/-- The up projection's gradient in column block `j`. -/
def duB (j : Fin 4) : FVec F S256x704 .bf16 := k0_pay6 x0 (slab x1 j) (slab x2 j)
/-- What column block `j` adds to the normalised rows' gradient. -/
def rB (j : Fin 4) : FVec F S256x1024 .f32 := k0_pay9 (dgB x0 x1 x2 x3 j) (duB x0 x1 x2 j) (slab x4 j) (slab x5 j)
/-- The normalised rows' gradient. -/
def totB : FVec F S256x1024 .f32 :=
  addf (addf (addf (rB x0 x1 x2 x3 x4 x5 0) (rB x0 x1 x2 x3 x4 x5 1)) (rB x0 x1 x2 x3 x4 x5 2)) (rB x0 x1 x2 x3 x4 x5 3)
/-- The stored block of the gate's gradient. -/
def dgBlk : Vec F S4x256x704 .bf16 := fun i => dgB x0 x1 x2 x3 (i 0) (ix2 (i 1) (i 2))
/-- The stored block of the up projection's gradient. -/
def duBlk : Vec F S4x256x704 .bf16 := fun i => duB x0 x1 x2 (i 0) (ix2 (i 1) (i 2))
/-- The stored block of the rows' gradient. -/
def dxBlk : FVec F S256x1024 .f32 := k0_pay38 x0 (totB x0 x1 x2 x3 x4 x5) x6 (k0_pay36 x6) x7
/-- The norm weight's gradient, over what it held before. -/
def dwBlk (acc : Vec F S8x1024 .f32) : FVec F S8x1024 .f32 := k0_pay40 (totB x0 x1 x2 x3 x4 x5) x6 (k0_pay36 x6) acc
end

/-- A block stored behind a unit axis reads as itself. -/
theorem cast_one (p : FVec F S256x704 .bf16) (x : S1x256x704.Idx) :
    shapeCast S1x256x704 p shapeCasts_S256x704_S1x256x704 x = p (ix2 (x 1) (x 2)) := by
  obtain ⟨a, b, c, rfl⟩ : ∃ a b c, x = ix3 a b c := ⟨x 0, x 1, x 2, by funext d; match d with | ⟨0, _⟩ => rfl | ⟨1, _⟩ => rfl | ⟨2, _⟩ => rfl⟩
  pointwise []

/-- A block stored as column block `n` agrees with the array whose column block `n` it is. -/
theorem piece (p : FVec F S256x704 .bf16) (G : Vec F S4x256x704 .bf16) (n : ℕ) (hn : n < 4)
    (inb : ∀ d, (![n, 0, 0] : Fin 3 → ℕ) d + S1x256x704.size d ≤ S4x256x704.size d)
    (hG : ∀ a b, G (ix3 ⟨n, hn⟩ a b) = p (ix2 a b)) (x : S1x256x704.Idx) :
    shapeCast S1x256x704 p shapeCasts_S256x704_S1x256x704 x = G ((Rect.unit (s := S4x256x704) ![n, 0, 0] S1x256x704.size inb).emb x) :=
  (cast_one p x).trans ((hG (x 1) (x 2)).symm.trans (congrArg G (emb_slab n hn inb x).symm))

section
variable (c : Dev nD) (i : grid0.Coords)
  (a1 : Memref sig .tc .vmem S256x1024 .f32) (h1 : a1.IsWhole)
  (a2 : Memref sig .tc .vmem S4x704x1024 .bf16) (h2 : a2.IsWhole)
  (a3 : Memref sig .tc .vmem S4x256x704 .bf16) (h3 : a3.IsWhole)
  (a4 : Memref sig .tc .vmem S4x256x704 .bf16) (h4 : a4.IsWhole)
  (a5 : Memref sig .tc .vmem S4x1024x704 .bf16) (h5 : a5.IsWhole)
  (a6 : Memref sig .tc .vmem S4x1024x704 .bf16) (h6 : a6.IsWhole)
  (a7 : Memref sig .tc .vmem S256x1024 .f32) (h7 : a7.IsWhole)
  (a8 : Memref sig .tc .vmem S1x1024 .f32) (h8 : a8.IsWhole)
  (a9 : Memref sig .tc .vmem S4x256x704 .bf16) (h9 : a9.IsWhole)
  (a10 : Memref sig .tc .vmem S4x256x704 .bf16) (h10 : a10.IsWhole)
  (a11 : Memref sig .tc .vmem S256x1024 .f32) (h11 : a11.IsWhole)
  (a12 : Memref sig .tc .vmem S8x1024 .f32) (h12 : a12.IsWhole)
  (x0 : Vec F S256x1024 .f32) (x1 : Vec F S4x704x1024 .bf16) (x2 x3 : Vec F S4x256x704 .bf16)
  (x4 x5 : Vec F S4x1024x704 .bf16) (x6 : Vec F S256x1024 .f32) (x7 : Vec F S1x1024 .f32)

/-- At a later tile, the gate's gradient is the point's own block. -/
theorem out_B_8 (hc : ¬cond0_0 i) (xo : Vec F S8x1024 .f32) :
    out0_B_8 c i a1 h1 a2 h2 a3 h3 a4 h4 a5 h5 a6 h6 a7 h7 a8 h8 a9 h9 a10 h10 a11 h11 a12 h12 hc x0 x1 x2 x3 x4 x5 x6 x7 xo = dgBlk x0 x1 x2 x3 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 x7 xo)]
  funext y
  refine View.canon_apply_of_pieces _ _ ?_ y (cover0_B_8 c i a1 h1 a2 h2 a3 h3 a4 h4 a5 h5 a6 h6 a7 h7 a8 h8 a9 h9 a10 h10 a11 h11 a12 h12 hc x0 x1 x2 x3 x4 x5 x6 x7 xo y)
  unfold kernelRun0_B
  dsimp only
  sl_unfold_words
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide),
    ldF x3 0 (by decide), ldF x3 1 (by decide), ldF x3 2 (by decide), ldF x3 3 (by decide)]
  intro p hp x
  simp only [List.mem_cons, List.not_mem_nil, or_false] at hp
  obtain rfl | rfl | rfl | rfl := hp
  · exact piece (F := F) (dgB x0 x1 x2 x3 3) (dgBlk x0 x1 x2 x3) 3 (by decide) inb_S4x256x704_S1x256x704_3_0_0 (fun _ _ => rfl) x
  · exact piece (F := F) (dgB x0 x1 x2 x3 2) (dgBlk x0 x1 x2 x3) 2 (by decide) inb_S4x256x704_S1x256x704_2_0_0 (fun _ _ => rfl) x
  · exact piece (F := F) (dgB x0 x1 x2 x3 1) (dgBlk x0 x1 x2 x3) 1 (by decide) inb_S4x256x704_S1x256x704_1_0_0 (fun _ _ => rfl) x
  · exact piece (F := F) (dgB x0 x1 x2 x3 0) (dgBlk x0 x1 x2 x3) 0 (by decide) inb_S4x256x704_S1x256x704_0_0_0 (fun _ _ => rfl) x

/-- At a later tile, the up projection's gradient is the point's own block. -/
theorem out_B_9 (hc : ¬cond0_0 i) (xo : Vec F S8x1024 .f32) :
    out0_B_9 c i a1 h1 a2 h2 a3 h3 a4 h4 a5 h5 a6 h6 a7 h7 a8 h8 a9 h9 a10 h10 a11 h11 a12 h12 hc x0 x1 x2 x3 x4 x5 x6 x7 xo = duBlk x0 x1 x2 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 xo)]
  funext y
  refine View.canon_apply_of_pieces _ _ ?_ y (cover0_B_9 c i a1 h1 a2 h2 a3 h3 a4 h4 a5 h5 a6 h6 a7 h7 a8 h8 a9 h9 a10 h10 a11 h11 a12 h12 hc x0 x1 x2 x3 x4 x5 x6 x7 xo y)
  unfold kernelRun0_B
  dsimp only
  sl_unfold_words
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide)]
  intro p hp x
  simp only [List.mem_cons, List.not_mem_nil, or_false] at hp
  obtain rfl | rfl | rfl | rfl := hp
  · exact piece (F := F) (duB x0 x1 x2 3) (duBlk x0 x1 x2) 3 (by decide) inb_S4x256x704_S1x256x704_3_0_0 (fun _ _ => rfl) x
  · exact piece (F := F) (duB x0 x1 x2 2) (duBlk x0 x1 x2) 2 (by decide) inb_S4x256x704_S1x256x704_2_0_0 (fun _ _ => rfl) x
  · exact piece (F := F) (duB x0 x1 x2 1) (duBlk x0 x1 x2) 1 (by decide) inb_S4x256x704_S1x256x704_1_0_0 (fun _ _ => rfl) x
  · exact piece (F := F) (duB x0 x1 x2 0) (duBlk x0 x1 x2) 0 (by decide) inb_S4x256x704_S1x256x704_0_0_0 (fun _ _ => rfl) x

/-- At a later tile, the rows' gradient is the point's own block. -/
theorem out_B_10 (hc : ¬cond0_0 i) (xo : Vec F S8x1024 .f32) :
    out0_B_10 c i a1 h1 a2 h2 a3 h3 a4 h4 a5 h5 a6 h6 a7 h7 a8 h8 a9 h9 a10 h10 a11 h11 a12 h12 hc x0 x1 x2 x3 x4 x5 x6 x7 xo = dxBlk x0 x1 x2 x3 x4 x5 x6 x7 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide),
    ldF x3 0 (by decide), ldF x3 1 (by decide), ldF x3 2 (by decide), ldF x3 3 (by decide),
    ldW x4 0 (by decide), ldW x4 1 (by decide), ldW x4 2 (by decide), ldW x4 3 (by decide),
    ldW x5 0 (by decide), ldW x5 1 (by decide), ldW x5 2 (by decide), ldW x5 3 (by decide)]
  rfl

/-- At a later tile, the norm weight's gradient grows by the point's rows. -/
theorem out_B_11 (hc : ¬cond0_0 i) (xo : Vec F S8x1024 .f32) :
    out0_B_11 c i a1 h1 a2 h2 a3 h3 a4 h4 a5 h5 a6 h6 a7 h7 a8 h8 a9 h9 a10 h10 a11 h11 a12 h12 hc x0 x1 x2 x3 x4 x5 x6 x7 xo = dwBlk x0 x1 x2 x3 x4 x5 x6 xo := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide),
    ldF x3 0 (by decide), ldF x3 1 (by decide), ldF x3 2 (by decide), ldF x3 3 (by decide),
    ldW x4 0 (by decide), ldW x4 1 (by decide), ldW x4 2 (by decide), ldW x4 3 (by decide),
    ldW x5 0 (by decide), ldW x5 1 (by decide), ldW x5 2 (by decide), ldW x5 3 (by decide)]
  rfl

/-- At the first tile, the gate's gradient is the point's own block. -/
theorem out_A_8 (hc : cond0_0 i) :
    out0_A_8 c i a1 h1 a2 h2 a3 h3 a4 h4 a5 h5 a6 h6 a7 h7 a8 h8 a9 h9 a10 h10 a11 h11 a12 h12 hc x0 x1 x2 x3 x4 x5 x6 x7 = dgBlk x0 x1 x2 x3 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6 x7)]
  funext y
  refine View.canon_apply_of_pieces _ _ ?_ y (cover0_A_8 c i a1 h1 a2 h2 a3 h3 a4 h4 a5 h5 a6 h6 a7 h7 a8 h8 a9 h9 a10 h10 a11 h11 a12 h12 hc x0 x1 x2 x3 x4 x5 x6 x7 y)
  unfold kernelRun0_A
  dsimp only
  sl_unfold_words
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide),
    ldF x3 0 (by decide), ldF x3 1 (by decide), ldF x3 2 (by decide), ldF x3 3 (by decide)]
  intro p hp x
  simp only [List.mem_cons, List.not_mem_nil, or_false] at hp
  obtain rfl | rfl | rfl | rfl := hp
  · exact piece (F := F) (dgB x0 x1 x2 x3 3) (dgBlk x0 x1 x2 x3) 3 (by decide) inb_S4x256x704_S1x256x704_3_0_0 (fun _ _ => rfl) x
  · exact piece (F := F) (dgB x0 x1 x2 x3 2) (dgBlk x0 x1 x2 x3) 2 (by decide) inb_S4x256x704_S1x256x704_2_0_0 (fun _ _ => rfl) x
  · exact piece (F := F) (dgB x0 x1 x2 x3 1) (dgBlk x0 x1 x2 x3) 1 (by decide) inb_S4x256x704_S1x256x704_1_0_0 (fun _ _ => rfl) x
  · exact piece (F := F) (dgB x0 x1 x2 x3 0) (dgBlk x0 x1 x2 x3) 0 (by decide) inb_S4x256x704_S1x256x704_0_0_0 (fun _ _ => rfl) x

/-- At the first tile, the up projection's gradient is the point's own block. -/
theorem out_A_9 (hc : cond0_0 i) :
    out0_A_9 c i a1 h1 a2 h2 a3 h3 a4 h4 a5 h5 a6 h6 a7 h7 a8 h8 a9 h9 a10 h10 a11 h11 a12 h12 hc x0 x1 x2 x3 x4 x5 x6 x7 = duBlk x0 x1 x2 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7)]
  funext y
  refine View.canon_apply_of_pieces _ _ ?_ y (cover0_A_9 c i a1 h1 a2 h2 a3 h3 a4 h4 a5 h5 a6 h6 a7 h7 a8 h8 a9 h9 a10 h10 a11 h11 a12 h12 hc x0 x1 x2 x3 x4 x5 x6 x7 y)
  unfold kernelRun0_A
  dsimp only
  sl_unfold_words
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide)]
  intro p hp x
  simp only [List.mem_cons, List.not_mem_nil, or_false] at hp
  obtain rfl | rfl | rfl | rfl := hp
  · exact piece (F := F) (duB x0 x1 x2 3) (duBlk x0 x1 x2) 3 (by decide) inb_S4x256x704_S1x256x704_3_0_0 (fun _ _ => rfl) x
  · exact piece (F := F) (duB x0 x1 x2 2) (duBlk x0 x1 x2) 2 (by decide) inb_S4x256x704_S1x256x704_2_0_0 (fun _ _ => rfl) x
  · exact piece (F := F) (duB x0 x1 x2 1) (duBlk x0 x1 x2) 1 (by decide) inb_S4x256x704_S1x256x704_1_0_0 (fun _ _ => rfl) x
  · exact piece (F := F) (duB x0 x1 x2 0) (duBlk x0 x1 x2) 0 (by decide) inb_S4x256x704_S1x256x704_0_0_0 (fun _ _ => rfl) x

/-- At the first tile, the rows' gradient is the point's own block. -/
theorem out_A_10 (hc : cond0_0 i) :
    out0_A_10 c i a1 h1 a2 h2 a3 h3 a4 h4 a5 h5 a6 h6 a7 h7 a8 h8 a9 h9 a10 h10 a11 h11 a12 h12 hc x0 x1 x2 x3 x4 x5 x6 x7 = dxBlk x0 x1 x2 x3 x4 x5 x6 x7 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide),
    ldF x3 0 (by decide), ldF x3 1 (by decide), ldF x3 2 (by decide), ldF x3 3 (by decide),
    ldW x4 0 (by decide), ldW x4 1 (by decide), ldW x4 2 (by decide), ldW x4 3 (by decide),
    ldW x5 0 (by decide), ldW x5 1 (by decide), ldW x5 2 (by decide), ldW x5 3 (by decide)]
  rfl

/-- At the first tile, the norm weight's gradient is the point's rows over zero. -/
theorem out_A_11 (hc : cond0_0 i) :
    out0_A_11 c i a1 h1 a2 h2 a3 h3 a4 h4 a5 h5 a6 h6 a7 h7 a8 h8 a9 h9 a10 h10 a11 h11 a12 h12 hc x0 x1 x2 x3 x4 x5 x6 x7 = dwBlk x0 x1 x2 x3 x4 x5 x6 k0_pay39 := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, h5.read_unread,
    h6.read_unread, h7.read_unread, h8.read_unread, h12.read_unread, View.ld_unit_zero (S := S256x1024) hz,
    View.ld_unit_zero (S := S1x1024) hz, View.ld_unit_zero (S := S8x1024) hz, shapeCast_self]
  rw [ldD x1 0 (by decide), ldD x1 1 (by decide), ldD x1 2 (by decide), ldD x1 3 (by decide),
    ldF x2 0 (by decide), ldF x2 1 (by decide), ldF x2 2 (by decide), ldF x2 3 (by decide),
    ldF x3 0 (by decide), ldF x3 1 (by decide), ldF x3 2 (by decide), ldF x3 3 (by decide),
    ldW x4 0 (by decide), ldW x4 1 (by decide), ldW x4 2 (by decide), ldW x4 3 (by decide),
    ldW x5 0 (by decide), ldW x5 1 (by decide), ldW x5 2 (by decide), ldW x5 3 (by decide)]
  rfl
end

end Cert.Ffn

end
-- ==== Proof.FfnMath.lean ====
/- The backward pass of one SwiGLU sub-layer on real numbers, token by token: the gradients of the gate and of
   the up projection, of the normalised rows, of the rows, and what a token adds to the norm weight's gradient. -/
module

public import proofs.«01_k».proof.Proof.Soft
public import Idealize.ShloMosaic.Lib.IdealHost
public import Mathlib.Analysis.SpecialFunctions.Pow.Real

@[expose] public section

noncomputable section

namespace Cert.Ffn

open Idealize.ShloMosaic

/-- A token's row of the model's width. -/
abbrev Row : Type := Fin 1024 → ℝ
/-- A token's hidden row, in four column blocks. -/
abbrev Hid : Type := Fin 4 → Fin 704 → ℝ
/-- The four column blocks of a weight into the hidden layer. -/
abbrev WIn : Type := Fin 4 → Fin 1024 → Fin 704 → ℝ
/-- The four row blocks of the weight out of the hidden layer. -/
abbrev WOut : Type := Fin 4 → Fin 704 → Fin 1024 → ℝ

/-- The logistic function. -/
def sg (z : ℝ) : ℝ := 1 / (1 + Real.exp (-z))
/-- The gradient of the activation's product. -/
def da (W : WOut) (d : Row) : Hid := fun j f => ∑ k, d k * W j f k
/-- The gradient of the gate. -/
def dgate (a g u : Hid) : Hid := fun j f => a j f * u j f * (sg (g j f) * (1 + g j f * (1 - sg (g j f))))
/-- The gradient of the up projection. -/
def dup (a g : Hid) : Hid := fun j f => a j f * (g j f * sg (g j f))
/-- The gradient of the normalised row. -/
def tot (Wg Wu : WIn) (p q : Hid) : Row := fun k => ∑ j, (∑ f, p j f * Wg j k f + ∑ f, q j f * Wu j k f)
/-- The constant under the root. -/
def eps : ℝ := 8796093 / 2 ^ 43
/-- What the root is taken of. -/
def msq (x : Row) : ℝ := (∑ k, x k * x k) / 1024 + eps
/-- The reciprocal of a row's root mean square. -/
def rn (x : Row) : ℝ := (√(msq x))⁻¹
/-- The gradient of the sub-layer's input row: the residual's, and the normalisation's. -/
def dxr (x w t d : Row) : Row :=
  fun k => d k + rn x * (t k * w k) - x k * (rn x * rn x * rn x) * ((∑ l, t l * w l * x l) / 1024)
/-- What a token adds to the norm weight's gradient. -/
def dwr (x t : Row) : Row := fun k => t k * x k * rn x
/-- A row of the hidden layer: the normalised row times a weight. -/
def proj (W : WIn) (x w : Row) : Hid := fun j f => ∑ k, x k * rn x * w k * W j k f

theorem eps_pos : 0 < eps := by unfold eps; positivity
theorem msq_pos (x : Row) : 0 < msq x := by
  unfold msq
  have : 0 ≤ ∑ k, x k * x k := Finset.sum_nonneg fun k _ => mul_self_nonneg _
  have := eps_pos
  positivity

/-- The constants, as real numbers. -/
theorem half_w : Ideal.ofBits .f32 0x3F000000#32 = ((1 / 2 : ℝ) : EReal) := by
  simp [Ideal.ofBits, Ideal.ieee, -EReal.coe_mul]; norm_num
theorem neg_half_w : Ideal.ofBits .f32 0xBF000000#32 = ((-(1 / 2) : ℝ) : EReal) := by
  simp [Ideal.ofBits, Ideal.ieee, -EReal.coe_mul]; norm_num
theorem one_w : Ideal.ofBits .f32 0x3F800000#32 = ((1 : ℝ) : EReal) := by
  simp [Ideal.ofBits, Ideal.ieee, -EReal.coe_mul]; norm_num
theorem width_w : Ideal.ofBits .f32 0x44800000#32 = ((1024 : ℝ) : EReal) := by
  simp [Ideal.ofBits, Ideal.ieee, -EReal.coe_mul]; norm_num
theorem eps_w : Ideal.ofBits .f32 0x358637BD#32 = ((eps : ℝ) : EReal) := by
  simp [Ideal.ofBits, Ideal.ieee, eps, -EReal.coe_mul]; norm_num

/-- A quotient of real numbers. -/
theorem div_real (x : ℝ) {y : ℝ} (hy : y ≠ 0) : Ideal.div (x : EReal) (y : EReal) = ((x / y : ℝ) : EReal) := by
  rw [Ideal.div_coe hy, ← EReal.coe_mul, one_div, div_eq_mul_inv]

/-- The reciprocal root of a positive real number. -/
theorem rsqrt_real {x : ℝ} (hx : 0 < x) : Ideal.rsqrt (x : EReal) = (((√x)⁻¹ : ℝ) : EReal) := by
  show (if x < 0 then ⊥ else if x = 0 then ⊤ else (((√x)⁻¹ : ℝ) : EReal)) = _
  rw [if_neg hx.not_gt, if_neg hx.ne']

/-- The hyperbolic tangent of a real number. -/
theorem tanh_real (x : ℝ) : Ideal.tanh (x : EReal) = ((Real.tanh x : ℝ) : EReal) := rfl

/-- The logistic function by the hyperbolic tangent. -/
theorem sg_tanh (z : ℝ) : 1 / 2 * Real.tanh (1 / 2 * z) + 1 / 2 = sg z := by
  have h1 := Real.exp_pos (1 / 2 * z)
  have h2 := Real.exp_pos (-(1 / 2 * z))
  have e : Real.exp (-z) * Real.exp (1 / 2 * z) = Real.exp (-(1 / 2 * z)) := by rw [← Real.exp_add]; congr 1; ring
  unfold sg
  rw [Real.tanh_eq_sinh_div_cosh, Real.sinh_eq, Real.cosh_eq]
  have h3 : 0 < 1 + Real.exp (-z) := by have := Real.exp_pos (-z); positivity
  rw [← e] at h2 ⊢
  have h4 : 0 < Real.exp (1 / 2 * z) + Real.exp (-z) * Real.exp (1 / 2 * z) := by positivity
  field_simp
  ring

/-- The gradient of `z · sg z` as differentiation writes it. -/
theorem dgate_eq (a u z : ℝ) : a * u * sg z + z * (a * u) * (sg z * (1 - sg z)) = a * u * (sg z * (1 + z * (1 - sg z))) := by ring

/-- The cube of the reciprocal root is the reciprocal root over what it was taken of. -/
theorem rn_cube (x : Row) : rn x / msq x = rn x * rn x * rn x := by
  have h := msq_pos x
  have hs : √(msq x) ≠ 0 := (Real.sqrt_pos.mpr h).ne'
  have e : √(msq x) * √(msq x) = msq x := Real.mul_self_sqrt h.le
  unfold rn
  rw [div_eq_mul_inv, mul_assoc, ← mul_inv (√(msq x)) (√(msq x)), e]

/-- The gradient of the row as differentiation writes it. -/
theorem dxr_eq (x w t d : Row) (k : Fin 1024) :
    d k + (t k * w k * rn x + x k * ((∑ l, x l * (t l * w l)) * (-(1 / 2) * (rn x / msq x)) / 1024)
      + (∑ l, x l * (t l * w l)) * (-(1 / 2) * (rn x / msq x)) / 1024 * x k) = dxr x w t d k := by
  unfold dxr
  rw [rn_cube]
  have e : ∑ l, t l * w l * x l = ∑ l, x l * (t l * w l) := Finset.sum_congr rfl fun l _ => mul_comm _ _
  rw [e]
  ring

end Cert.Ffn

end
-- ==== Proof.FfnBlock.lean ====
/- What one grid point of the feed-forward backward kernel computes from blocks of real numbers, entry by
   entry: row `r` of each result is the backward pass of row `r`. -/
module

public import proofs.«01_k».proof.Proof.FfnCase
public import proofs.«01_k».proof.Proof.FfnMath

@[expose] public section

set_option maxRecDepth 16384

noncomputable section

namespace Cert.Ffn

open Idealize.ShloMosaic Idealize.ShloMosaic.TcCoe Idealize.ShloMosaic.Tactic
open Cert.Kernel2Ideal Cert.Kernel2Ideal.Gen

/-- The gradient a row's normalised row gets. -/
def totOf (Wd : WOut) (Wg Wu : WIn) (d : Row) (g u : Hid) : Row := tot Wg Wu (dgate (da Wd d) g u) (dup (da Wd d) g)

section
variable (x0 x6 : Vec Ideal S256x1024 .f32) (x1 : Vec Ideal S4x704x1024 .bf16) (x2 x3 : Vec Ideal S4x256x704 .bf16)
  (x4 x5 : Vec Ideal S4x1024x704 .bf16) (x7 : Vec Ideal S1x1024 .f32)
  (D X : Fin 256 → Row) (Wd : WOut) (G U : Fin 256 → Hid) (Wg Wu : WIn) (w : Row)
  (h0 : ∀ r k, x0 (ix2 r k) = (D r k : EReal)) (h1 : ∀ j f k, x1 (ix3 j f k) = (Wd j f k : EReal))
  (h2 : ∀ j r f, x2 (ix3 j r f) = (G r j f : EReal)) (h3 : ∀ j r f, x3 (ix3 j r f) = (U r j f : EReal))
  (h4 : ∀ j k f, x4 (ix3 j k f) = (Wg j k f : EReal)) (h5 : ∀ j k f, x5 (ix3 j k f) = (Wu j k f : EReal))
  (h6 : ∀ r k, x6 (ix2 r k) = (X r k : EReal)) (h7 : ∀ k, x7 (ix2 0 k) = (w k : EReal))

theorem slab_at {a b : ℕ} {φ : EltTy} (A : Vec Ideal ⟨3, ![4, a, b]⟩ φ) (j : Fin 4) (z : Fin 1) (p : Fin a) (q : Fin b) :
    slab A j (ix3 z p q) = A (ix3 j p q) := rfl

include h0 h1 in
/-- The gradient of the activation's product. -/
theorem da_at (j : Fin 4) (r : Fin 256) (f : Fin 704) : k0_pay2 x0 (slab x1 j) (ix2 r f) = (da Wd (D r) j f : EReal) := by
  pointwise [k0_pay2, k0_pay1]
  simp only [slab_at, h0, h1, ← EReal.coe_mul, Cert.Attn.coe_sum]
  rfl

include h2 in
theorem g_at (j : Fin 4) (r : Fin 256) (f : Fin 704) : k0_pay3 (slab x2 j) (ix2 r f) = (G r j f : EReal) := by
  pointwise [k0_pay3]
  simp only [slab_at, h2]

include h2 in
/-- The logistic function of the gate. -/
theorem sg_at (j : Fin 4) (r : Fin 256) (f : Fin 704) : k0_pay4 (slab x2 j) (ix2 r f) = (sg (G r j f) : EReal) := by
  pointwise [k0_pay4]
  simp only [g_at x2 G h2, half_w, ← EReal.coe_mul, tanh_real, ← EReal.coe_add, sg_tanh]

include h0 h1 h2 h3 in
/-- The gate's gradient. -/
theorem dg_at (j : Fin 4) (r : Fin 256) (f : Fin 704) :
    dgB x0 x1 x2 x3 j (ix2 r f) = (dgate (da Wd (D r)) (G r) (U r) j f : EReal) := by
  pointwise [dgB, k0_pay5]
  simp only [slab_at, g_at x2 G h2, sg_at x2 G h2, da_at x0 x1 D Wd h0 h1, h3, one_w, ← EReal.coe_mul, ← EReal.coe_add, ← EReal.coe_sub]
  rfl

include h0 h1 h2 in
/-- The up projection's gradient. -/
theorem du_at (j : Fin 4) (r : Fin 256) (f : Fin 704) :
    duB x0 x1 x2 j (ix2 r f) = (dup (da Wd (D r)) (G r) j f : EReal) := by
  pointwise [duB, k0_pay6]
  simp only [g_at x2 G h2, sg_at x2 G h2, da_at x0 x1 D Wd h0 h1, ← EReal.coe_mul]
  rfl

include h0 h1 h2 h3 h4 h5 in
theorem r_at (j : Fin 4) (r : Fin 256) (k : Fin 1024) :
    rB x0 x1 x2 x3 x4 x5 j (ix2 r k) = ((∑ f, dgate (da Wd (D r)) (G r) (U r) j f * Wg j k f
      + ∑ f, dup (da Wd (D r)) (G r) j f * Wu j k f : ℝ) : EReal) := by
  pointwise [rB, k0_pay9]
  simp only [slab_at, dg_at x0 x1 x2 x3 D Wd G U h0 h1 h2 h3, du_at x0 x1 x2 D Wd G h0 h1 h2, h4, h5, ← EReal.coe_mul,
    Cert.Attn.coe_sum, ← EReal.coe_add]

include h0 h1 h2 h3 h4 h5 in
/-- The normalised row's gradient. -/
theorem tot_at (r : Fin 256) (k : Fin 1024) :
    totB x0 x1 x2 x3 x4 x5 (ix2 r k) = (totOf Wd Wg Wu (D r) (G r) (U r) k : EReal) := by
  have hr := r_at x0 x1 x2 x3 x4 x5 D Wd G U Wg Wu h0 h1 h2 h3 h4 h5
  show rB x0 x1 x2 x3 x4 x5 0 (ix2 r k) + rB x0 x1 x2 x3 x4 x5 1 (ix2 r k) + rB x0 x1 x2 x3 x4 x5 2 (ix2 r k)
    + rB x0 x1 x2 x3 x4 x5 3 (ix2 r k) = _
  rw [hr, hr, hr, hr]
  simp only [← EReal.coe_add]
  congr 1
  unfold totOf tot
  rw [Fin.sum_univ_four]

include h6 in
/-- The reciprocal root mean square of a row. -/
theorem rn_at (r : Fin 256) (z : Fin 1) : k0_pay37 (k0_pay36 x6) (ix2 r z) = (rn (X r) : EReal) := by
  pointwise [k0_pay37, k0_pay36]
  simp only [h6, width_w, eps_w, ← EReal.coe_mul, Cert.Attn.coe_sum, div_real _ (show (1024 : ℝ) ≠ 0 by norm_num), ← EReal.coe_add]
  exact rsqrt_real (msq_pos (X r))

include h0 h6 h7 in
/-- The row's gradient. -/
theorem dx_at (t : FVec Ideal S256x1024 .f32) (T : Fin 256 → Row) (ht : ∀ r k, t (ix2 r k) = (T r k : EReal))
    (r : Fin 256) (k : Fin 1024) :
    k0_pay38 x0 t x6 (k0_pay36 x6) x7 (ix2 r k) = (dxr (X r) w (T r) (D r) k : EReal) := by
  pointwise [k0_pay38]
  simp only [rn_at x6 X h6, ht, h0, h6, h7, width_w, ← EReal.coe_mul, Cert.Attn.coe_sum,
    div_real _ (show (1024 : ℝ) ≠ 0 by norm_num), ← EReal.coe_add, ← EReal.coe_sub]
  rfl

include h6 in
/-- The norm weight's gradient grows by the rows of each residue modulo 8. -/
theorem dw_at (t : FVec Ideal S256x1024 .f32) (T : Fin 256 → Row) (ht : ∀ r k, t (ix2 r k) = (T r k : EReal))
    (acc : Vec Ideal S8x1024 .f32) (s : Fin 8) (k : Fin 1024) :
    k0_pay40 t x6 (k0_pay36 x6) acc (ix2 s k) = acc (ix2 s k)
      + ((∑ q : Fin 32, dwr (X ⟨8 * q.val + s.val, by omega⟩) (T ⟨8 * q.val + s.val, by omega⟩) k : ℝ) : EReal) := by
  pointwise [k0_pay40]
  simp only [rn_at x6 X h6, ht, h6, ← EReal.coe_mul, Cert.Attn.coe_sum]
  rfl
end

end Cert.Ffn

end
-- ==== Proof.FfnHost.lean ====
/- The two arrays the host prepares for the feed-forward backward kernel, the saved gate and up projections:
   the normalised rows times each weight, in four column blocks. -/
module

public import proofs.«01_k».proof.Proof.FfnBlock

@[expose] public section

set_option maxRecDepth 16384

noncomputable section

namespace Cert.Ffn

open Idealize.ShloMosaic Idealize.ShloMosaic.TcCoe Idealize.ShloMosaic.Tactic
open Cert.Kernel2Ideal Cert.Kernel2Ideal.Gen

section
variable {F : FTy → Type} [FloatOps F]

/-- The sums of the rows of an array. -/
def hSum (x : FVec F S4096x1024 .f32) : FVec F S4096 .f32 :=
  Host.reduceAdd x (constant S_ .f32 0x00000000#32) reducesTo_S4096x1024_S4096_d1 h_S_
/-- The reciprocal root mean squares. -/
def hRn (x : FVec F S4096x1024 .f32) : FVec F S4096x1 .f32 :=
  Host.rsqrt (addf (Host.divf (broadcastInDim S4096x1 ![0] bcast_S4096_S4096x1_0 (hSum (mulf x x)))
    (broadcastInDim S4096x1 ![] bcast_S_S4096x1 (constant S_ .f32 0x44800000#32)))
    (broadcastInDim S4096x1 ![] bcast_S_S4096x1 (constant S_ .f32 0x358637BD#32)))
/-- The normalised rows. -/
def hNorm (x : FVec F S4096x1024 .f32) (w : FVec F S1x1024 .f32) : FVec F S4096x1024 .f32 :=
  mulf (mulf x (broadcastInDim S4096x1024 ![0, 1] bcast_S4096x1_S4096x1024_0_1 (hRn x)))
    (broadcastInDim S4096x1024 ![0, 1] bcast_S1x1024_S4096x1024_0_1 w)
/-- The normalised rows times a weight, in column blocks. -/
def hProj (x : FVec F S4096x1024 .f32) (w : FVec F S1x1024 .f32) (W : FVec F S4x1024x704 .bf16) : FVec F S4x4096x704 .bf16 :=
  truncf .bf16 (transpose S4x4096x704 [1, 0, 2] (shapeCast S4096x4x704
    (Host.dotGeneral dot_S4096x1024_S1024x2816_S4096x2816_1_0_0_1_n_n none (hNorm x w)
      (shapeCast S1024x2816 (transpose S1024x4x704 [1, 0, 2] (extf .f32 W bitsLt_bf16_f32) transposes_S4x1024x704_S1024x4x704_1_0_2)
        shapeCasts_S1024x4x704_S1024x2816) : FVec F S4096x2816 .f32)
    shapeCasts_S4096x2816_S4096x4x704) transposes_S4096x4x704_S4x4096x704_1_0_2) bitsLt_bf16_f32

variable (m : (ℓ : Loc nD τ sig) → Buf (Elt F) ℓ) (c : Dev nD)

/-- The gate when the kernel is entered. -/
theorem V_gate : V m c main_v18 = hProj (m (c.tc.loc main_arg0)) (m (c.tc.loc main_arg1))
    (m (c.tc.loc main_arg2)) := by
  show StableHlo.after hostOps0 _ (Proc.devRef .tc main_v18) = _
  after_results_simp
  rfl

/-- The up projection when the kernel is entered. -/
theorem V_up : V m c main_v25 = hProj (m (c.tc.loc main_arg0)) (m (c.tc.loc main_arg1))
    (m (c.tc.loc main_arg3)) := by
  show StableHlo.after hostOps0 _ (Proc.devRef .tc main_v25) = _
  after_results_simp
  rfl
end

theorem hSum_at (x : FVec Ideal S4096x1024 .f32) (r : Fin 4096) : hSum x (ix1 r) = ∑ k : Fin 1024, x (ix2 r k) := by
  pointwise [hSum]

section
variable (x0 : FVec Ideal S4096x1024 .f32) (x1 : FVec Ideal S1x1024 .f32) (W : FVec Ideal S4x1024x704 .bf16)
  (X : Fin 4096 → Row) (w : Row) (Wr : WIn)
  (hx : ∀ r k, x0 (ix2 r k) = (X r k : EReal)) (hw : ∀ k, x1 (ix2 0 k) = (w k : EReal))
  (hW : ∀ j k f, W (ix3 j k f) = (Wr j k f : EReal))

include hx in
theorem hRn_at (r : Fin 4096) (z : Fin 1) : hRn x0 (ix2 r z) = (rn (X r) : EReal) := by
  pointwise [hRn]
  simp only [hSum_at]
  pointwise []
  simp only [hx, width_w, eps_w, ← EReal.coe_mul, Cert.Attn.coe_sum, div_real _ (show (1024 : ℝ) ≠ 0 by norm_num), ← EReal.coe_add]
  exact rsqrt_real (msq_pos (X r))

include hx hw in
theorem hNorm_at (r : Fin 4096) (k : Fin 1024) : hNorm x0 x1 (ix2 r k) = ((X r k * rn (X r) * w k : ℝ) : EReal) := by
  pointwise [hNorm]
  simp only [hRn_at x0 X hx, hx, hw, ← EReal.coe_mul]

include hx hw hW in
/-- A saved projection, entry by entry. -/
theorem hProj_at (j : Fin 4) (r : Fin 4096) (f : Fin 704) : hProj x0 x1 W (ix3 j r f) = (proj Wr (X r) w j f : EReal) := by
  pointwise [hProj]
  have e : ∀ k : Fin 1024, hNorm x0 x1 (ix2 r k) = ((X r k * rn (X r) * w k : ℝ) : EReal) := hNorm_at x0 x1 X w hx hw r
  simp only [e, hW, ← EReal.coe_mul, Cert.Attn.coe_sum]
  rfl
end

end Cert.Ffn

end
-- ==== Proof.FfnArrays.lean ====
/- The four result arrays of the feed-forward backward kernel, entry by entry, where the arguments hold real
   numbers: each token's gradients are the backward pass of its own row, and the norm weight's gradient sums
   the tokens of each residue modulo 8. -/
module

public import proofs.«01_k».proof.Proof.FfnHost

@[expose] public section

set_option maxRecDepth 16384

noncomputable section

namespace Cert.Ffn

open Idealize.ShloMosaic Idealize.ShloMosaic.TcCoe Idealize.ShloMosaic.Tactic
open Idealize.SL.Sem
open Cert.Kernel2Ideal Cert.Kernel2Ideal.Gen Cert.Kernel2Ideal.Value

/-- Token number `n`. -/
def tk (n : ℕ) : Fin 4096 := ⟨n % 4096, Nat.mod_lt _ (by decide)⟩

theorem tk_of {n : ℕ} (h : n < 4096) : tk n = ⟨n, h⟩ := Fin.ext (Nat.mod_eq_of_lt h)

/-- The real numbers in the six arguments: the rows, the norm weight, the weights into and out of the hidden
    layer, and the gradient of the sub-layer's result. -/
structure Reals where
  X : Fin 4096 → Row
  w : Row
  Wg : WIn
  Wu : WIn
  Wd : WOut
  D : Fin 4096 → Row

namespace Reals
variable (A : Reals)
/-- A token's gate. -/
def g (n : Fin 4096) : Hid := proj A.Wg (A.X n) A.w
/-- A token's up projection. -/
def u (n : Fin 4096) : Hid := proj A.Wu (A.X n) A.w
/-- A token's gradient of the gate. -/
def dg (n : Fin 4096) : Hid := dgate (da A.Wd (A.D n)) (A.g n) (A.u n)
/-- A token's gradient of the up projection. -/
def du (n : Fin 4096) : Hid := dup (da A.Wd (A.D n)) (A.g n)
/-- The gradient of a token's normalised row. -/
def t (n : Fin 4096) : Row := tot A.Wg A.Wu (A.dg n) (A.du n)
/-- The gradient of a token's row. -/
def dx (n : Fin 4096) : Row := dxr (A.X n) A.w (A.t n) (A.D n)
/-- What a token adds to the norm weight's gradient. -/
def dw (n : Fin 4096) : Row := dwr (A.X n) (A.t n)
end Reals

/-- The arguments hold the real numbers `A`. -/
structure Holds (A : Reals) (a0 : FVec Ideal S4096x1024 .f32) (a1 : FVec Ideal S1x1024 .f32) (a2 a3 : FVec Ideal S4x1024x704 .bf16)
    (a4 : FVec Ideal S4x704x1024 .bf16) (a5 : FVec Ideal S4096x1024 .f32) : Prop where
  x : ∀ r k, a0 (ix2 r k) = (A.X r k : EReal)
  w : ∀ k, a1 (ix2 0 k) = (A.w k : EReal)
  g : ∀ j k f, a2 (ix3 j k f) = (A.Wg j k f : EReal)
  u : ∀ j k f, a3 (ix3 j k f) = (A.Wu j k f : EReal)
  d : ∀ j f k, a4 (ix3 j f k) = (A.Wd j f k : EReal)
  dx : ∀ r k, a5 (ix2 r k) = (A.D r k : EReal)

/-- The gate's gradient. -/
def dgArr (A : Reals) : S4x4096x704.Idx → EReal := fun i => (A.dg (i 1) (i 0) (i 2) : EReal)
/-- The up projection's gradient. -/
def duArr (A : Reals) : S4x4096x704.Idx → EReal := fun i => (A.du (i 1) (i 0) (i 2) : EReal)
/-- The rows' gradient. -/
def dxArr (A : Reals) : S4096x1024.Idx → EReal := fun i => (A.dx (i 0) (i 1) : EReal)
/-- The norm weight's gradient, by the tokens' residue modulo 8. -/
def dwArr (A : Reals) : S8x1024.Idx → EReal := fun i => ((∑ q : Fin 512, A.dw (tk (8 * q.val + (i 0).val)) (i 1) : ℝ) : EReal)

variable (m : (ℓ : Loc nD τ sig) → Buf (Elt Ideal) ℓ) (c : Dev nD) (A : Reals)

/-- The arguments in memory hold the real numbers `A`. -/
abbrev HoldsAt : Prop := Holds A (m (c.tc.loc main_arg0)) (m (c.tc.loc main_arg1)) (m (c.tc.loc main_arg2))
  (m (c.tc.loc main_arg3)) (m (c.tc.loc main_arg4)) (m (c.tc.loc main_arg5))

theorem ltN (t : Fin cfg0.N) : t.val < 16 := Nat.lt_of_lt_of_eq t.isLt N_0

/-- Row `r` of point `t`. -/
def tok (t : Fin cfg0.N) (r : Fin 256) : Fin 4096 := tk (256 * t.val + r.val)

theorem tok_val (t : Fin cfg0.N) (r : Fin 256) : (tok t r).val = 256 * t.val + r.val := by
  have := ltN t; have := r.isLt
  unfold tok; rw [tk_of (by omega)]

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = 0 ∧ win0_2.index t 1 = t.val ∧ win0_2.index t 2 = 0 :=
  (by decide +kernel : ∀ t : Fin grid0.N, _)
theorem idx3 : ∀ t : Fin cfg0.N, win0_3.index t 0 = 0 ∧ win0_3.index t 1 = t.val ∧ win0_3.index t 2 = 0 :=
  (by decide +kernel : ∀ t : Fin grid0.N, _)
theorem idx4 : ∀ t : Fin cfg0.N, win0_4.index t 0 = 0 ∧ win0_4.index t 1 = 0 ∧ win0_4.index t 2 = 0 :=
  (by decide +kernel : ∀ t : Fin grid0.N, _)
theorem idx5 : ∀ t : Fin cfg0.N, win0_5.index t 0 = 0 ∧ win0_5.index t 1 = 0 ∧ win0_5.index t 2 = 0 :=
  (by decide +kernel : ∀ t : Fin grid0.N, _)
theorem idx6 : ∀ t : Fin cfg0.N, win0_6.index t 0 = t.val ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = t.val ∧ win0_8.index t 2 = 0 :=
  (by decide +kernel : ∀ t : Fin grid0.N, _)
theorem idx9 : ∀ t : Fin cfg0.N, win0_9.index t 0 = 0 ∧ win0_9.index t 1 = t.val ∧ win0_9.index t 2 = 0 :=
  (by decide +kernel : ∀ t : Fin grid0.N, _)
theorem idx10 : ∀ t : Fin cfg0.N, win0_10.index t 0 = t.val ∧ win0_10.index t 1 = 0 :=
  (by decide +kernel : ∀ t : Fin grid0.N, _)
theorem idx11 : ∀ t : Fin cfg0.N, win0_11.index t 0 = 0 ∧ win0_11.index t 1 = 0 :=
  (by decide +kernel : ∀ t : Fin grid0.N, _)

section
variable (h : HoldsAt m c A)
include h

theorem ib0 (t : Fin cfg0.N) (r : Fin 256) (k : Fin 1024) : (iblk m c 0 t : Vec Ideal S256x1024 .f32) (ix2 r k) = (A.D (tok t r) k : EReal) := by
  unfold iblk; rw [View.read_apply]
  have e : (((cfg0.win 0).blk t).view.emb (ix2 r k)) = ix2 (tok t r) k := by
    funext a; apply Fin.ext
    match a with
    | ⟨0, _⟩ => show win0_0.index t 0 * 256 + 1 * r.val = (tok t r).val; rw [(idx0 t).1]; rw [tok_val]; omega
    | ⟨1, _⟩ => show win0_0.index t 1 * 1024 + 1 * k.val = k.val; rw [(idx0 t).2]; omega
  exact (congrFun (V_main_arg5 m c) _).trans ((congrArg _ e).trans (h.dx (tok t r) k))

theorem ib1 (t : Fin cfg0.N) (j : Fin 4) (f : Fin 704) (k : Fin 1024) : (iblk m c 1 t : Vec Ideal S4x704x1024 .bf16) (ix3 j f k) = (A.Wd j f k : EReal) := by
  unfold iblk; rw [View.read_apply]
  have e : (((cfg0.win 1).blk t).view.emb (ix3 j f k)) = ix3 j f k := by
    funext a; apply Fin.ext
    match a with
    | ⟨0, _⟩ => show win0_1.index t 0 * 4 + 1 * j.val = j.val; rw [(idx1 t).1]; omega
    | ⟨1, _⟩ => show win0_1.index t 1 * 704 + 1 * f.val = f.val; rw [(idx1 t).2.1]; omega
    | ⟨2, _⟩ => show win0_1.index t 2 * 1024 + 1 * k.val = k.val; rw [(idx1 t).2.2]; omega
  exact (congrFun (V_main_arg4 m c) _).trans ((congrArg _ e).trans (h.d j f k))

theorem ib2 (t : Fin cfg0.N) (j : Fin 4) (r : Fin 256) (f : Fin 704) : (iblk m c 2 t : Vec Ideal S4x256x704 .bf16) (ix3 j r f) = (A.g (tok t r) j f : EReal) := by
  unfold iblk; rw [View.read_apply]
  have e : (((cfg0.win 2).blk t).view.emb (ix3 j r f)) = ix3 j (tok t r) f := by
    funext a; apply Fin.ext
    match a with
    | ⟨0, _⟩ => show win0_2.index t 0 * 4 + 1 * j.val = j.val; rw [(idx2 t).1]; omega
    | ⟨1, _⟩ => show win0_2.index t 1 * 256 + 1 * r.val = (tok t r).val; rw [(idx2 t).2.1]; rw [tok_val]; omega
    | ⟨2, _⟩ => show win0_2.index t 2 * 704 + 1 * f.val = f.val; rw [(idx2 t).2.2]; omega
  exact (congrFun (V_gate m c) _).trans ((congrArg _ e).trans (hProj_at _ _ _ A.X A.w A.Wg h.x h.w h.g j (tok t r) f))

theorem ib3 (t : Fin cfg0.N) (j : Fin 4) (r : Fin 256) (f : Fin 704) : (iblk m c 3 t : Vec Ideal S4x256x704 .bf16) (ix3 j r f) = (A.u (tok t r) j f : EReal) := by
  unfold iblk; rw [View.read_apply]
  have e : (((cfg0.win 3).blk t).view.emb (ix3 j r f)) = ix3 j (tok t r) f := by
    funext a; apply Fin.ext
    match a with
    | ⟨0, _⟩ => show win0_3.index t 0 * 4 + 1 * j.val = j.val; rw [(idx3 t).1]; omega
    | ⟨1, _⟩ => show win0_3.index t 1 * 256 + 1 * r.val = (tok t r).val; rw [(idx3 t).2.1]; rw [tok_val]; omega
    | ⟨2, _⟩ => show win0_3.index t 2 * 704 + 1 * f.val = f.val; rw [(idx3 t).2.2]; omega
  exact (congrFun (V_up m c) _).trans ((congrArg _ e).trans (hProj_at _ _ _ A.X A.w A.Wu h.x h.w h.u j (tok t r) f))

theorem ib4 (t : Fin cfg0.N) (j : Fin 4) (k : Fin 1024) (f : Fin 704) : (iblk m c 4 t : Vec Ideal S4x1024x704 .bf16) (ix3 j k f) = (A.Wg j k f : EReal) := by
  unfold iblk; rw [View.read_apply]
  have e : (((cfg0.win 4).blk t).view.emb (ix3 j k f)) = ix3 j k f := by
    funext a; apply Fin.ext
    match a with
    | ⟨0, _⟩ => show win0_4.index t 0 * 4 + 1 * j.val = j.val; rw [(idx4 t).1]; omega
    | ⟨1, _⟩ => show win0_4.index t 1 * 1024 + 1 * k.val = k.val; rw [(idx4 t).2.1]; omega
    | ⟨2, _⟩ => show win0_4.index t 2 * 704 + 1 * f.val = f.val; rw [(idx4 t).2.2]; omega
  exact (congrFun (V_main_arg2 m c) _).trans ((congrArg _ e).trans (h.g j k f))

theorem ib5 (t : Fin cfg0.N) (j : Fin 4) (k : Fin 1024) (f : Fin 704) : (iblk m c 5 t : Vec Ideal S4x1024x704 .bf16) (ix3 j k f) = (A.Wu j k f : EReal) := by
  unfold iblk; rw [View.read_apply]
  have e : (((cfg0.win 5).blk t).view.emb (ix3 j k f)) = ix3 j k f := by
    funext a; apply Fin.ext
    match a with
    | ⟨0, _⟩ => show win0_5.index t 0 * 4 + 1 * j.val = j.val; rw [(idx5 t).1]; omega
    | ⟨1, _⟩ => show win0_5.index t 1 * 1024 + 1 * k.val = k.val; rw [(idx5 t).2.1]; omega
    | ⟨2, _⟩ => show win0_5.index t 2 * 704 + 1 * f.val = f.val; rw [(idx5 t).2.2]; omega
  exact (congrFun (V_main_arg3 m c) _).trans ((congrArg _ e).trans (h.u j k f))

theorem ib6 (t : Fin cfg0.N) (r : Fin 256) (k : Fin 1024) : (iblk m c 6 t : Vec Ideal S256x1024 .f32) (ix2 r k) = (A.X (tok t r) k : EReal) := by
  unfold iblk; rw [View.read_apply]
  have e : (((cfg0.win 6).blk t).view.emb (ix2 r k)) = ix2 (tok t r) k := by
    funext a; apply Fin.ext
    match a with
    | ⟨0, _⟩ => show win0_6.index t 0 * 256 + 1 * r.val = (tok t r).val; rw [(idx6 t).1]; rw [tok_val]; omega
    | ⟨1, _⟩ => show win0_6.index t 1 * 1024 + 1 * k.val = k.val; rw [(idx6 t).2]; omega
  exact (congrFun (V_main_arg0 m c) _).trans ((congrArg _ e).trans (h.x (tok t r) k))

theorem ib7 (t : Fin cfg0.N) (k : Fin 1024) : (iblk m c 7 t : Vec Ideal S1x1024 .f32) (ix2 0 k) = (A.w k : EReal) := by
  unfold iblk; rw [View.read_apply]
  have e : (((cfg0.win 7).blk t).view.emb (ix2 0 k)) = ix2 0 k := by
    funext a; apply Fin.ext
    match a with
    | ⟨0, _⟩ => show win0_7.index t 0 * 1 + 1 * 0 = 0; rw [(idx7 t).1]
    | ⟨1, _⟩ => show win0_7.index t 1 * 1024 + 1 * k.val = k.val; rw [(idx7 t).2]; omega
  exact (congrFun (V_main_arg1 m c) _).trans ((congrArg _ e).trans (h.w k))
end

section
variable (h : HoldsAt m c A)
include h

/-- The gradient of a point's normalised rows. -/
theorem tot_pt (t : Fin cfg0.N) (r : Fin 256) (k : Fin 1024) :
    totB (iblk m c 0 t) (iblk m c 1 t) (iblk m c 2 t) (iblk m c 3 t) (iblk m c 4 t) (iblk m c 5 t) (ix2 r k) = (A.t (tok t r) k : EReal) :=
  tot_at (iblk m c 0 t) (iblk m c 1 t) (iblk m c 2 t) (iblk m c 3 t) (iblk m c 4 t) (iblk m c 5 t) (fun r => A.D (tok t r)) A.Wd (fun r => A.g (tok t r)) (fun r => A.u (tok t r)) A.Wg A.Wu
    (ib0 m c A h t) (ib1 m c A h t) (ib2 m c A h t) (ib3 m c A h t) (ib4 m c A h t) (ib5 m c A h t) r k

/-- What a point leaves of the norm weight's gradient. -/
theorem dw_pt (t : Fin cfg0.N) (acc : Vec Ideal S8x1024 .f32) (s : Fin 8) (k : Fin 1024) :
    dwBlk (iblk m c 0 t) (iblk m c 1 t) (iblk m c 2 t) (iblk m c 3 t) (iblk m c 4 t) (iblk m c 5 t) (iblk m c 6 t) acc (ix2 s k) = acc (ix2 s k)
      + ((∑ q : Fin 32, A.dw (tk (8 * (32 * t.val + q.val) + s.val)) k : ℝ) : EReal) := by
  refine (dw_at (iblk m c 6 t) (fun r => A.X (tok t r)) (ib6 m c A h t) _ (fun r => A.t (tok t r)) (tot_pt m c A h t) acc s k).trans ?_
  refine congrArg (fun z : ℝ => acc (ix2 s k) + (z : EReal)) (Finset.sum_congr rfl fun q _ => ?_)
  have e : tok t ⟨8 * q.val + s.val, by omega⟩ = tk (8 * (32 * t.val + q.val) + s.val) := by
    unfold tok; exact congrArg tk (by dsimp only; omega)
  show dwr (A.X (tok t ⟨8 * q.val + s.val, _⟩)) (A.t (tok t ⟨8 * q.val + s.val, _⟩)) k = dwr _ _ k
  rw [e]

/-- After a point, the gate's gradient block holds the point's own rows. -/
theorem outs_dg (t : Fin cfg0.N) (j : Fin 4) (r : Fin 256) (f : Fin 704) :
    (outsAt0 m c t.val t.isLt).1 (ix3 j r f) = (A.dg (tok t r) j f : EReal) := by
  have e : (outsAt0 m c t.val t.isLt).1 = dgBlk (iblk m c 0 t) (iblk m c 1 t) (iblk m c 2 t) (iblk m c 3 t) := by
    by_cases h0 : t.val % 16 = 0
    · rw [outsAt0_A m c t h0]; dsimp only; rw [out_A_8]
    · rw [outsAt0_B m c t h0]; dsimp only; rw [out_B_8]
  rw [e]
  exact dg_at _ _ _ _ (fun r => A.D (tok t r)) A.Wd (fun r => A.g (tok t r)) (fun r => A.u (tok t r))
    (ib0 m c A h t) (ib1 m c A h t) (ib2 m c A h t) (ib3 m c A h t) j r f

/-- After a point, the up projection's gradient block holds the point's own rows. -/
theorem outs_du (t : Fin cfg0.N) (j : Fin 4) (r : Fin 256) (f : Fin 704) :
    (outsAt0 m c t.val t.isLt).2.1 (ix3 j r f) = (A.du (tok t r) j f : EReal) := by
  have e : (outsAt0 m c t.val t.isLt).2.1 = duBlk (iblk m c 0 t) (iblk m c 1 t) (iblk m c 2 t) := by
    by_cases h0 : t.val % 16 = 0
    · rw [outsAt0_A m c t h0]; dsimp only; rw [out_A_9]
    · rw [outsAt0_B m c t h0]; dsimp only; rw [out_B_9]
  rw [e]
  exact du_at _ _ _ (fun r => A.D (tok t r)) A.Wd (fun r => A.g (tok t r))
    (ib0 m c A h t) (ib1 m c A h t) (ib2 m c A h t) j r f

/-- After a point, the rows' gradient block holds the point's own rows. -/
theorem outs_dx (t : Fin cfg0.N) (r : Fin 256) (k : Fin 1024) :
    (outsAt0 m c t.val t.isLt).2.2.1 (ix2 r k) = (A.dx (tok t r) k : EReal) := by
  have e : (outsAt0 m c t.val t.isLt).2.2.1 = dxBlk (iblk m c 0 t) (iblk m c 1 t) (iblk m c 2 t) (iblk m c 3 t) (iblk m c 4 t) (iblk m c 5 t) (iblk m c 6 t) (iblk m c 7 t) := by
    by_cases h0 : t.val % 16 = 0
    · rw [outsAt0_A m c t h0]; dsimp only; rw [out_A_10]
    · rw [outsAt0_B m c t h0]; dsimp only; rw [out_B_10]
  rw [e]
  exact dx_at _ _ _ (fun r => A.D (tok t r)) (fun r => A.X (tok t r)) A.w (ib0 m c A h t) (ib6 m c A h t) (ib7 m c A h t)
    _ (fun r => A.t (tok t r)) (tot_pt m c A h t) r k

/-- After a point, the norm weight's gradient holds the tokens of the points up to it. -/
theorem outs_dw (n : ℕ) (hn : n < cfg0.N) (s : Fin 8) (k : Fin 1024) :
    (outsAt0 m c n hn).2.2.2 (ix2 s k)
      = ((∑ t ∈ Finset.range (n + 1), ∑ q : Fin 32, A.dw (tk (8 * (32 * t + q.val) + s.val)) k : ℝ) : EReal) := by
  have zero : ∀ i, (k0_pay39 : FVec Ideal S8x1024 .f32) i = 0 := fun i => Ideal.ofBits_zero_f32
  induction n with
  | zero =>
    rw [outsAt0_A m c ⟨0, hn⟩ rfl]
    dsimp only
    rw [out_A_11, dw_pt m c A h, zero, zero_add, Finset.sum_range_one]
  | succ n ih =>
    have hN : n + 1 < 16 := Nat.lt_of_lt_of_eq hn N_0
    rw [outsAt0_B m c ⟨n + 1, hn⟩ (by show ¬(n + 1) % 16 = 0; omega)]
    dsimp only
    rw [out_B_11, dw_pt m c A h]
    simp only [Nat.add_sub_cancel]
    rw [ih (Nat.lt_of_succ_lt hn), ← EReal.coe_add, Finset.sum_range_succ _ (n + 1)]

/-- What a point writes back is its block of `dgArr`. -/
theorem flushed_dg (t : Fin cfg0.N) (_ : (cfg0.win 8).flush t = true) :
    (dats m 0 c).flushed 8 t = ((cfg0.win 8).blk t).view.read (Elt Ideal) (dgArr A) := by
  rw [flushed8]
  funext j
  rw [View.read_apply]
  have h0 : (j 0).val < 4 := (j 0).isLt
  have h1 : (j 1).val < 256 := (j 1).isLt
  have h2 : (j 2).val < 704 := (j 2).isLt
  have ej : (cfg0.win 8).cut (grid0.coords t) (outsAt0 m c t.val t.isLt).1 j
      = (outsAt0 m c t.val t.isLt).1 (ix3 ⟨(j 0).val, h0⟩ ⟨(j 1).val, h1⟩ ⟨(j 2).val, h2⟩) :=
    congrArg _ (funext fun a => Fin.ext (by match a with | ⟨0, _⟩ => rfl | ⟨1, _⟩ => rfl | ⟨2, _⟩ => rfl))
  have ee : (((cfg0.win 8).blk t).view.emb j) = ix3 ⟨(j 0).val, h0⟩ (tok t ⟨(j 1).val, h1⟩) ⟨(j 2).val, h2⟩ := by
    funext a; apply Fin.ext
    match a with
    | ⟨0, _⟩ => show win0_8.index t 0 * 4 + 1 * (j 0).val = (j 0).val; rw [(idx8 t).1]; omega
    | ⟨1, _⟩ => show win0_8.index t 1 * 256 + 1 * (j 1).val = (tok t _).val; rw [(idx8 t).2.1, tok_val]; dsimp only; omega
    | ⟨2, _⟩ => show win0_8.index t 2 * 704 + 1 * (j 2).val = (j 2).val; rw [(idx8 t).2.2]; omega
  exact ej.trans ((outs_dg m c A h t _ _ _).trans (congrArg (dgArr A) ee).symm)

/-- The array ends holding `dgArr`. -/
theorem final_dg : (dats m 0 c).arrAt 8 cfg0.N = dgArr A :=
  (dats m 0 c).arrAt_eq_of_cover 8 _ (flushed_dg m c A h) fun i => by
    have i0 : (i 0).val < 4 := (i 0).isLt
    have i1 : (i 1).val < 4096 := (i 1).isLt
    have i2 : (i 2).val < 704 := (i 2).isLt
    let t : Fin cfg0.N := ⟨(i 1).val / 256, Nat.lt_of_lt_of_eq (by omega) N_0.symm⟩
    have ht : t.val = (i 1).val / 256 := rfl
    refine ⟨t, flush0_8 t, ?_⟩
    show i ∈ ((View.whole main_v26_0).slice (win0_8.rect t)).set
    rw [View.set_slice_whole, Rect.mem_set_unit]
    intro a
    match a with
    | ⟨0, _⟩ => show win0_8.index t 0 * 4 ≤ (i 0).val ∧ (i 0).val < win0_8.index t 0 * 4 + 4
                rw [(idx8 t).1]; omega
    | ⟨1, _⟩ => show win0_8.index t 1 * 256 ≤ (i 1).val ∧ (i 1).val < win0_8.index t 1 * 256 + 256
                rw [(idx8 t).2.1]; omega
    | ⟨2, _⟩ => show win0_8.index t 2 * 704 ≤ (i 2).val ∧ (i 2).val < win0_8.index t 2 * 704 + 704
                rw [(idx8 t).2.2]; omega

/-- What a point writes back is its block of `duArr`. -/
theorem flushed_du (t : Fin cfg0.N) (_ : (cfg0.win 9).flush t = true) :
    (dats m 0 c).flushed 9 t = ((cfg0.win 9).blk t).view.read (Elt Ideal) (duArr A) := by
  rw [flushed9]
  funext j
  rw [View.read_apply]
  have h0 : (j 0).val < 4 := (j 0).isLt
  have h1 : (j 1).val < 256 := (j 1).isLt
  have h2 : (j 2).val < 704 := (j 2).isLt
  have ej : (cfg0.win 9).cut (grid0.coords t) (outsAt0 m c t.val t.isLt).2.1 j
      = (outsAt0 m c t.val t.isLt).2.1 (ix3 ⟨(j 0).val, h0⟩ ⟨(j 1).val, h1⟩ ⟨(j 2).val, h2⟩) :=
    congrArg _ (funext fun a => Fin.ext (by match a with | ⟨0, _⟩ => rfl | ⟨1, _⟩ => rfl | ⟨2, _⟩ => rfl))
  have ee : (((cfg0.win 9).blk t).view.emb j) = ix3 ⟨(j 0).val, h0⟩ (tok t ⟨(j 1).val, h1⟩) ⟨(j 2).val, h2⟩ := by
    funext a; apply Fin.ext
    match a with
    | ⟨0, _⟩ => show win0_9.index t 0 * 4 + 1 * (j 0).val = (j 0).val; rw [(idx9 t).1]; omega
    | ⟨1, _⟩ => show win0_9.index t 1 * 256 + 1 * (j 1).val = (tok t _).val; rw [(idx9 t).2.1, tok_val]; dsimp only; omega
    | ⟨2, _⟩ => show win0_9.index t 2 * 704 + 1 * (j 2).val = (j 2).val; rw [(idx9 t).2.2]; omega
  exact ej.trans ((outs_du m c A h t _ _ _).trans (congrArg (duArr A) ee).symm)

/-- The array ends holding `duArr`. -/
theorem final_du : (dats m 0 c).arrAt 9 cfg0.N = duArr A :=
  (dats m 0 c).arrAt_eq_of_cover 9 _ (flushed_du m c A h) fun i => by
    have i0 : (i 0).val < 4 := (i 0).isLt
    have i1 : (i 1).val < 4096 := (i 1).isLt
    have i2 : (i 2).val < 704 := (i 2).isLt
    let t : Fin cfg0.N := ⟨(i 1).val / 256, Nat.lt_of_lt_of_eq (by omega) N_0.symm⟩
    have ht : t.val = (i 1).val / 256 := rfl
    refine ⟨t, flush0_9 t, ?_⟩
    show i ∈ ((View.whole main_v26_1).slice (win0_9.rect t)).set
    rw [View.set_slice_whole, Rect.mem_set_unit]
    intro a
    match a with
    | ⟨0, _⟩ => show win0_9.index t 0 * 4 ≤ (i 0).val ∧ (i 0).val < win0_9.index t 0 * 4 + 4
                rw [(idx9 t).1]; omega
    | ⟨1, _⟩ => show win0_9.index t 1 * 256 ≤ (i 1).val ∧ (i 1).val < win0_9.index t 1 * 256 + 256
                rw [(idx9 t).2.1]; omega
    | ⟨2, _⟩ => show win0_9.index t 2 * 704 ≤ (i 2).val ∧ (i 2).val < win0_9.index t 2 * 704 + 704
                rw [(idx9 t).2.2]; omega

/-- What a point writes back is its block of `dxArr`. -/
theorem flushed_dx (t : Fin cfg0.N) (_ : (cfg0.win 10).flush t = true) :
    (dats m 0 c).flushed 10 t = ((cfg0.win 10).blk t).view.read (Elt Ideal) (dxArr A) := by
  rw [flushed10]
  funext j
  rw [View.read_apply]
  have h0 : (j 0).val < 256 := (j 0).isLt
  have h1 : (j 1).val < 1024 := (j 1).isLt
  have ej : (cfg0.win 10).cut (grid0.coords t) (outsAt0 m c t.val t.isLt).2.2.1 j
      = (outsAt0 m c t.val t.isLt).2.2.1 (ix2 ⟨(j 0).val, h0⟩ ⟨(j 1).val, h1⟩) :=
    congrArg _ (funext fun a => Fin.ext (by match a with | ⟨0, _⟩ => rfl | ⟨1, _⟩ => rfl))
  have ee : (((cfg0.win 10).blk t).view.emb j) = ix2 (tok t ⟨(j 0).val, h0⟩) ⟨(j 1).val, h1⟩ := by
    funext a; apply Fin.ext
    match a with
    | ⟨0, _⟩ => show win0_10.index t 0 * 256 + 1 * (j 0).val = (tok t _).val; rw [(idx10 t).1, tok_val]; dsimp only; omega
    | ⟨1, _⟩ => show win0_10.index t 1 * 1024 + 1 * (j 1).val = (j 1).val; rw [(idx10 t).2]; omega
  exact ej.trans ((outs_dx m c A h t _ _).trans (congrArg (dxArr A) ee).symm)

/-- The array ends holding `dxArr`. -/
theorem final_dx : (dats m 0 c).arrAt 10 cfg0.N = dxArr A :=
  (dats m 0 c).arrAt_eq_of_cover 10 _ (flushed_dx m c A h) fun i => by
    have i0 : (i 0).val < 4096 := (i 0).isLt
    have i1 : (i 1).val < 1024 := (i 1).isLt
    let t : Fin cfg0.N := ⟨(i 0).val / 256, Nat.lt_of_lt_of_eq (by omega) N_0.symm⟩
    have ht : t.val = (i 0).val / 256 := rfl
    refine ⟨t, flush0_10 t, ?_⟩
    show i ∈ ((View.whole main_v26_2).slice (win0_10.rect t)).set
    rw [View.set_slice_whole, Rect.mem_set_unit]
    intro a
    match a with
    | ⟨0, _⟩ => show win0_10.index t 0 * 256 ≤ (i 0).val ∧ (i 0).val < win0_10.index t 0 * 256 + 256
                rw [(idx10 t).1]; omega
    | ⟨1, _⟩ => show win0_10.index t 1 * 1024 ≤ (i 1).val ∧ (i 1).val < win0_10.index t 1 * 1024 + 1024
                rw [(idx10 t).2]; omega

/-- What the last point writes back is `dwArr`. -/
theorem flushed_dw (t : Fin cfg0.N) (hf : (cfg0.win 11).flush t = true) :
    (dats m 0 c).flushed 11 t = ((cfg0.win 11).blk t).view.read (Elt Ideal) (dwArr A) := by
  have h15 := (flush0_11 t).mp hf
  have hN := ltN t
  rw [flushed11]
  funext j
  rw [View.read_apply]
  have h0 : (j 0).val < 8 := (j 0).isLt
  have h1 : (j 1).val < 1024 := (j 1).isLt
  have ej : (cfg0.win 11).cut (grid0.coords t) (outsAt0 m c t.val t.isLt).2.2.2 j
      = (outsAt0 m c t.val t.isLt).2.2.2 (ix2 ⟨(j 0).val, h0⟩ ⟨(j 1).val, h1⟩) :=
    congrArg _ (funext fun a => Fin.ext (by match a with | ⟨0, _⟩ => rfl | ⟨1, _⟩ => rfl))
  have ee : (((cfg0.win 11).blk t).view.emb j) = ix2 ⟨(j 0).val, h0⟩ ⟨(j 1).val, h1⟩ := by
    funext a; apply Fin.ext
    match a with
    | ⟨0, _⟩ => show win0_11.index t 0 * 8 + 1 * (j 0).val = (j 0).val; rw [(idx11 t).1]; omega
    | ⟨1, _⟩ => show win0_11.index t 1 * 1024 + 1 * (j 1).val = (j 1).val; rw [(idx11 t).2]; omega
  refine ej.trans ((outs_dw m c A h t.val t.isLt _ _).trans ((congrArg (dwArr A) ee).trans ?_).symm)
  show ((∑ q : Fin 512, A.dw (tk (8 * q.val + (j 0).val)) ⟨(j 1).val, h1⟩ : ℝ) : EReal) = _
  rw [Cert.Attn.sum_blocks 16 32 512 rfl, show t.val + 1 = 16 by omega, Finset.sum_range]

/-- The array ends holding `dwArr`. -/
theorem final_dw : (dats m 0 c).arrAt 11 cfg0.N = dwArr A :=
  (dats m 0 c).arrAt_eq_of_cover 11 _ (flushed_dw m c A h) fun i => by
    have i0 : (i 0).val < 8 := (i 0).isLt
    have i1 : (i 1).val < 1024 := (i 1).isLt
    let t : Fin cfg0.N := ⟨15, Nat.lt_of_lt_of_eq (by omega) N_0.symm⟩
    refine ⟨t, (flush0_11 t).mpr rfl, ?_⟩
    show i ∈ ((View.whole main_v26_3).slice (win0_11.rect t)).set
    rw [View.set_slice_whole, Rect.mem_set_unit]
    intro a
    match a with
    | ⟨0, _⟩ => show win0_11.index t 0 * 8 ≤ (i 0).val ∧ (i 0).val < win0_11.index t 0 * 8 + 8
                rw [(idx11 t).1]; omega
    | ⟨1, _⟩ => show win0_11.index t 1 * 1024 ≤ (i 1).val ∧ (i 1).val < win0_11.index t 1 * 1024 + 1024
                rw [(idx11 t).2]; omega
end

end Cert.Ffn

end
-- ==== Proof.FfnRef.lean ====
/- The feed-forward reference's results, entry by entry, where the arguments hold real numbers: each is the array
   the kernel leaves. -/
module

public import proofs.«01_k».proof.Proof.FfnArrays
public import proofs.«01_k».proof.Proof.Gen.Reference2Ideal.Read

@[expose] public section

set_option maxRecDepth 16384

noncomputable section

namespace Cert.Ffn

open Idealize.ShloMosaic Idealize.ShloMosaic.TcCoe Idealize.ShloMosaic.Tactic
open Cert.Reference2Ideal Cert.Reference2Ideal.Gen Cert.Reference2Ideal.Read

/-- Column `f` of block `j` among all columns of the hidden layer. -/
def col (j : Fin 4) (f : Fin 704) : Fin 2816 := ⟨704 * j.val + f.val, by omega⟩

/-- A sum over the hidden layer's columns, by blocks. -/
theorem sum_col {M : Type*} [AddCommMonoid M] (f : Fin 2816 → M) : ∑ n, f n = ∑ j, ∑ k, f (col j k) :=
  Cert.Attn.sum_blocks 4 704 2816 rfl f

/-- The sum of the last axis, as the host's reduction takes it. -/
theorem red2_at (s : FVec Ideal S512x8x1024 .f32) (p : Fin 512) (z : Fin 8) :
    Host.reduceAdd s (constant S_ .f32 0x00000000#32) reducesTo_S512x8x1024_S512x8_d2 h_S_ (ix2 p z) = ∑ k : Fin 1024, s (ix3 p z k) := by
  pointwise []

/-- The sum of the first axis. -/
theorem red0_at (s : FVec Ideal S512x8x1024 .f32) (z : Fin 8) (k : Fin 1024) :
    Host.reduceAdd s (constant S_ .f32 0x00000000#32) reducesTo_S512x8x1024_S8x1024_d0 h_S_ (ix2 z k) = ∑ p : Fin 512, s (ix3 p z k) := by
  pointwise []

/-- The sum of a first axis of length one. -/
theorem redOne_at (s : FVec Ideal S1x8x1024 .f32) (z : Fin 8) (k : Fin 1024) :
    Host.reduceAdd s (constant S_ .f32 0x00000000#32) reducesTo_S1x8x1024_S8x1024_d0 h_S_ (ix2 z k) = s (ix3 0 z k) := by
  pointwise []
  exact Fintype.sum_unique _

/-- The sum of a last axis of length one. -/
theorem redLast_at (s : FVec Ideal S512x8x1 .f32) (p : Fin 512) (z : Fin 8) :
    Host.reduceAdd s (constant S_ .f32 0x00000000#32) reducesTo_S512x8x1_S512x8_d2 h_S_ (ix2 p z) = s (ix3 p z 0) := by
  pointwise []
  exact Fintype.sum_unique _

variable (x0 : FVec Ideal S4096x1024 .f32) (x1 : FVec Ideal S1x1024 .f32) (x2 x3 : FVec Ideal S4x1024x704 .bf16)
  (x4 : FVec Ideal S4x704x1024 .bf16) (x5 : FVec Ideal S4096x1024 .f32) (A : Reals) (h : Holds A x0 x1 x2 x3 x4 x5)

/-- Token `8 p + s`. -/
abbrev tp (p : Fin 512) (s : Fin 8) : Fin 4096 := tk (8 * p.val + s.val)

theorem tp_of {p : Fin 512} {s : Fin 8} {n : ℕ} (hn : n < 4096) (e : n = 8 * p.val + s.val) : (⟨n, hn⟩ : Fin 4096) = tp p s := by
  subst e; exact (tk_of hn).symm

theorem tp_div (r : Fin 4096) (p : Fin 512) (s : Fin 8) (hp : p.val = r.val / 8) (hs : s.val = r.val % 8) : tp p s = r := by
  unfold tp
  rw [tk_of (by omega)]
  exact Fin.ext (by show 8 * p.val + s.val = r.val; omega)

theorem third {a b d : ℕ} (i : (⟨3, ![a, b, d]⟩ : Shape).Idx) : i = ix3 (i 0) (i 1) (i 2) := by
  funext x
  match x with
  | ⟨0, _⟩ => rfl
  | ⟨1, _⟩ => rfl
  | ⟨2, _⟩ => rfl

theorem second {a b : ℕ} (i : (⟨2, ![a, b]⟩ : Shape).Idx) : i = ix2 (i 0) (i 1) := by
  funext x
  match x with
  | ⟨0, _⟩ => rfl
  | ⟨1, _⟩ => rfl

include h

/-- The rows, eight tokens to a group. -/
theorem v1_at (p : Fin 512) (s : Fin 8) (k : Fin 1024) : val_main_v1 (F := Ideal) x0 (ix3 p s k) = ((A.X (tp p s) k : ℝ) : EReal) := by
  unfold val_main_v1
  pointwise []
  refine (congrArg x0 ?_).trans (h.x (tp p s) k)
  funext a
  match a with
  | ⟨0, _⟩ => exact tp_of _ (by omega)
  | ⟨1, _⟩ => rfl

/-- What the root is taken of. -/
theorem v8_at (p : Fin 512) (s : Fin 8) (z : Fin 1) : val_main_v8 (F := Ideal) x0 (ix3 p s z) = ((msq (A.X (tp p s)) : ℝ) : EReal) := by
  have e : ∀ p s, val_main_v3 (F := Ideal) x0 (ix2 p s) = ((∑ k, A.X (tp p s) k * A.X (tp p s) k : ℝ) : EReal) := fun p s => by
    refine (red2_at (val_main_v2 (F := Ideal) x0) p s).trans ?_
    simp only [val_main_v2_apply, v1_at x0 x1 x2 x3 x4 x5 A h]
    exact (Finset.sum_congr rfl fun k _ => (EReal.coe_mul _ _).symm).trans (Cert.Attn.coe_sum _ _)
  unfold val_main_v8 val_main_v6 val_main_v7 val_main_v5 val_main_v4 val_main_cst_0 val_main_cst_1
  pointwise []
  simp only [e, width_w, eps_w, div_real _ (show (1024 : ℝ) ≠ 0 by norm_num), ← EReal.coe_add]
  rfl

theorem v9_at (p : Fin 512) (s : Fin 8) (z : Fin 1) : val_main_v9 (F := Ideal) x0 (ix3 p s z) = ((rn (A.X (tp p s)) : ℝ) : EReal) := by
  unfold val_main_v9
  pointwise []
  rw [v8_at x0 x1 x2 x3 x4 x5 A h]
  exact rsqrt_real (msq_pos _)

theorem v12_at (p : Fin 512) (s : Fin 8) (z : Fin 1) : val_main_v12 (F := Ideal) x0 (ix3 p s z) = ((-(1 / 2) * (rn (A.X (tp p s)) / msq (A.X (tp p s))) : ℝ) : EReal) := by
  unfold val_main_v12 val_main_v11 val_main_v10 val_main_cst_2
  pointwise []
  rw [v8_at x0 x1 x2 x3 x4 x5 A h, v9_at x0 x1 x2 x3 x4 x5 A h, neg_half_w, div_real _ (msq_pos _).ne', ← EReal.coe_mul]

theorem v14_at (p : Fin 512) (s : Fin 8) (k : Fin 1024) : val_main_v14 (F := Ideal) x0 (ix3 p s k) = ((A.X (tp p s) k * rn (A.X (tp p s)) : ℝ) : EReal) := by
  unfold val_main_v14 val_main_v13
  pointwise []
  rw [v1_at x0 x1 x2 x3 x4 x5 A h, v9_at x0 x1 x2 x3 x4 x5 A h, ← EReal.coe_mul]

theorem v16_at (p : Fin 512) (s : Fin 8) (k : Fin 1024) : val_main_v16 (F := Ideal) x1 (ix3 p s k) = ((A.w k : ℝ) : EReal) := by
  unfold val_main_v16 val_main_v15 val_main_v0
  pointwise []
  exact h.w k

theorem v43_at (p : Fin 512) (s : Fin 8) (k : Fin 1024) : val_main_v43 (F := Ideal) x1 (ix3 p s k) = ((A.w k : ℝ) : EReal) := by
  unfold val_main_v43 val_main_v15 val_main_v0
  pointwise []
  exact h.w k

theorem v17_at (p : Fin 512) (s : Fin 8) (k : Fin 1024) : val_main_v17 (F := Ideal) x0 x1 (ix3 p s k) = ((A.X (tp p s) k * rn (A.X (tp p s)) * A.w k : ℝ) : EReal) := by
  unfold val_main_v17
  pointwise []
  rw [v14_at x0 x1 x2 x3 x4 x5 A h, v16_at x0 x1 x2 x3 x4 x5 A h, ← EReal.coe_mul]

/-- The normalised rows. -/
theorem v18_at (r : Fin 4096) (k : Fin 1024) : val_main_v18 (F := Ideal) x0 x1 (ix2 r k) = ((A.X r k * rn (A.X r) * A.w k : ℝ) : EReal) := by
  unfold val_main_v18
  pointwise []
  rw [v17_at x0 x1 x2 x3 x4 x5 A h, tp_div r _ _ rfl rfl]

theorem v21_at (k : Fin 1024) (j : Fin 4) (f : Fin 704) : val_main_v21 (F := Ideal) x2 (ix2 k (col j f)) = ((A.Wg j k f : ℝ) : EReal) := by
  unfold val_main_v21 val_main_v20 val_main_v19
  pointwise []
  refine (congrArg x2 ?_).trans (h.g j k f)
  funext a
  have hf := f.isLt
  match a with
  | ⟨0, _⟩ => exact Fin.ext (by show (704 * j.val + f.val) / 704 = j.val; omega)
  | ⟨1, _⟩ => rfl
  | ⟨2, _⟩ => exact Fin.ext (by show (704 * j.val + f.val) % 704 = f.val; omega)

theorem v25_at (k : Fin 1024) (j : Fin 4) (f : Fin 704) : val_main_v25 (F := Ideal) x3 (ix2 k (col j f)) = ((A.Wu j k f : ℝ) : EReal) := by
  unfold val_main_v25 val_main_v24 val_main_v23
  pointwise []
  refine (congrArg x3 ?_).trans (h.u j k f)
  funext a
  have hf := f.isLt
  match a with
  | ⟨0, _⟩ => exact Fin.ext (by show (704 * j.val + f.val) / 704 = j.val; omega)
  | ⟨1, _⟩ => rfl
  | ⟨2, _⟩ => exact Fin.ext (by show (704 * j.val + f.val) % 704 = f.val; omega)

theorem v22_at (r : Fin 4096) (j : Fin 4) (f : Fin 704) : val_main_v22 (F := Ideal) x0 x1 x2 (ix2 r (col j f)) = ((A.g r j f : ℝ) : EReal) := by
  unfold val_main_v22
  pointwise []
  simp only [v18_at x0 x1 x2 x3 x4 x5 A h, v21_at x0 x1 x2 x3 x4 x5 A h, ← EReal.coe_mul, Cert.Attn.coe_sum]
  rfl

theorem v26_at (r : Fin 4096) (j : Fin 4) (f : Fin 704) : val_main_v26 (F := Ideal) x0 x1 x3 (ix2 r (col j f)) = ((A.u r j f : ℝ) : EReal) := by
  unfold val_main_v26
  pointwise []
  simp only [v18_at x0 x1 x2 x3 x4 x5 A h, v25_at x0 x1 x2 x3 x4 x5 A h, ← EReal.coe_mul, Cert.Attn.coe_sum]
  rfl

/-- The logistic function of the gate. -/
theorem v27_2_at (r : Fin 4096) (j : Fin 4) (f : Fin 704) : val_main_v27_2 (F := Ideal) x0 x1 x2 (ix2 r (col j f)) = ((sg (A.g r j f) : ℝ) : EReal) := by
  unfold val_main_v27_2 val_main_call0_v4 val_main_call0_v3 val_main_call0_v2 val_main_call0_v1 val_main_call0_v0 val_main_call0_cst val_main_call0_cst_0
  pointwise []
  have hp : (1 : ℝ) + Real.exp (-A.g r j f) ≠ 0 := by have := Real.exp_pos (-A.g r j f); positivity
  rw [v22_at x0 x1 x2 x3 x4 x5 A h, ← EReal.coe_one, ← EReal.coe_neg, Ideal.exp_coe, ← EReal.coe_add, div_real _ hp]
  rfl

theorem v27_1_at (r : Fin 4096) (j : Fin 4) (f : Fin 704) : val_main_v27_1 (F := Ideal) x0 x1 x2 (ix2 r (col j f)) = ((sg (A.g r j f) * (1 - sg (A.g r j f)) : ℝ) : EReal) := by
  unfold val_main_v27_1 val_main_call0_v7 val_main_call0_v6 val_main_call0_cst_1
  pointwise []
  rw [v27_2_at x0 x1 x2 x3 x4 x5 A h, ← EReal.coe_one, ← EReal.coe_sub, ← EReal.coe_mul]

theorem v27_0_at (r : Fin 4096) (j : Fin 4) (f : Fin 704) : val_main_v27_0 (F := Ideal) x0 x1 x2 (ix2 r (col j f)) = ((A.g r j f * sg (A.g r j f) : ℝ) : EReal) := by
  unfold val_main_v27_0
  pointwise []
  rw [v27_2_at x0 x1 x2 x3 x4 x5 A h, v22_at x0 x1 x2 x3 x4 x5 A h, ← EReal.coe_mul]

theorem v30_at (j : Fin 4) (f : Fin 704) (k : Fin 1024) : val_main_v30 (F := Ideal) x4 (ix2 (col j f) k) = ((A.Wd j f k : ℝ) : EReal) := by
  unfold val_main_v30 val_main_v29
  pointwise []
  refine (congrArg x4 ?_).trans (h.d j f k)
  funext a
  have hf := f.isLt
  match a with
  | ⟨0, _⟩ => exact Fin.ext (by show (704 * j.val + f.val) / 704 = j.val; omega)
  | ⟨1, _⟩ => exact Fin.ext (by show (704 * j.val + f.val) % 704 = f.val; omega)
  | ⟨2, _⟩ => rfl

/-- The gradient of the activation's product. -/
theorem v32_at (r : Fin 4096) (j : Fin 4) (f : Fin 704) : val_main_v32 (F := Ideal) x4 x5 (ix2 r (col j f)) = ((da A.Wd (A.D r) j f : ℝ) : EReal) := by
  unfold val_main_v32
  pointwise []
  simp only [v30_at x0 x1 x2 x3 x4 x5 A h, h.dx, ← EReal.coe_mul, Cert.Attn.coe_sum]
  rfl

/-- The up projection's gradient. -/
theorem v33_at (r : Fin 4096) (j : Fin 4) (f : Fin 704) : val_main_v33 (F := Ideal) x0 x1 x2 x4 x5 (ix2 r (col j f)) = ((A.du r j f : ℝ) : EReal) := by
  unfold val_main_v33
  pointwise []
  rw [v32_at x0 x1 x2 x3 x4 x5 A h, v27_0_at x0 x1 x2 x3 x4 x5 A h, ← EReal.coe_mul, mul_comm]
  rfl

/-- The gate's gradient. -/
theorem v35_at (r : Fin 4096) (j : Fin 4) (f : Fin 704) : val_main_v35 (F := Ideal) x0 x1 x2 x3 x4 x5 (ix2 r (col j f)) = ((A.dg r j f : ℝ) : EReal) := by
  unfold val_main_v35 val_main_call1_v2 val_main_call1_v1 val_main_call1_v0 val_main_v34
  pointwise []
  simp only [v32_at x0 x1 x2 x3 x4 x5 A h, v22_at x0 x1 x2 x3 x4 x5 A h, v26_at x0 x1 x2 x3 x4 x5 A h, v27_2_at x0 x1 x2 x3 x4 x5 A h, v27_1_at x0 x1 x2 x3 x4 x5 A h, ← EReal.coe_mul, ← EReal.coe_add, dgate_eq]
  rfl

theorem v36_at (r : Fin 4096) (k : Fin 1024) : val_main_v36 (F := Ideal) x0 x1 x2 x3 x4 x5 (ix2 r k) = ((∑ j, ∑ f, A.du r j f * A.Wu j k f : ℝ) : EReal) := by
  unfold val_main_v36
  pointwise []
  rw [sum_col]
  simp only [v33_at x0 x1 x2 x3 x4 x5 A h, v25_at x0 x1 x2 x3 x4 x5 A h, ← EReal.coe_mul, Cert.Attn.coe_sum]

theorem v37_at (r : Fin 4096) (k : Fin 1024) : val_main_v37 (F := Ideal) x0 x1 x2 x3 x4 x5 (ix2 r k) = ((∑ j, ∑ f, A.dg r j f * A.Wg j k f : ℝ) : EReal) := by
  unfold val_main_v37
  pointwise []
  rw [sum_col]
  simp only [v35_at x0 x1 x2 x3 x4 x5 A h, v21_at x0 x1 x2 x3 x4 x5 A h, ← EReal.coe_mul, Cert.Attn.coe_sum]

/-- The normalised rows' gradient. -/
theorem v38_at (r : Fin 4096) (k : Fin 1024) : val_main_v38 (F := Ideal) x0 x1 x2 x3 x4 x5 (ix2 r k) = ((A.t r k : ℝ) : EReal) := by
  unfold val_main_v38
  pointwise []
  rw [v36_at x0 x1 x2 x3 x4 x5 A h, v37_at x0 x1 x2 x3 x4 x5 A h, ← EReal.coe_add, add_comm, ← Finset.sum_add_distrib]
  rfl

theorem v39_at (p : Fin 512) (s : Fin 8) (k : Fin 1024) : val_main_v39 (F := Ideal) x0 x1 x2 x3 x4 x5 (ix3 p s k) = ((A.t (tp p s) k : ℝ) : EReal) := by
  unfold val_main_v39
  pointwise []
  refine (congrArg (val_main_v38 (F := Ideal) x0 x1 x2 x3 x4 x5) ?_).trans (v38_at x0 x1 x2 x3 x4 x5 A h (tp p s) k)
  funext a
  match a with
  | ⟨0, _⟩ => exact tp_of _ (by omega)
  | ⟨1, _⟩ => rfl

theorem v41_at (s : Fin 8) (k : Fin 1024) : val_main_v41 (F := Ideal) x0 x1 x2 x3 x4 x5 (ix2 s k) = ((∑ p : Fin 512, A.dw (tp p s) k : ℝ) : EReal) := by
  refine (red0_at (val_main_v40 (F := Ideal) x0 x1 x2 x3 x4 x5) s k).trans ?_
  simp only [val_main_v40_apply, v14_at x0 x1 x2 x3 x4 x5 A h, v39_at x0 x1 x2 x3 x4 x5 A h]
  refine (Finset.sum_congr rfl fun p _ => ?_).trans (Cert.Attn.coe_sum _ _)
  refine (EReal.coe_mul _ _).symm.trans (congrArg _ ?_)
  unfold Reals.dw dwr
  ring

/-- The norm weight's gradient. -/
theorem v45_at (s : Fin 8) (k : Fin 1024) : val_main_v45 (F := Ideal) x0 x1 x2 x3 x4 x5 (ix2 s k) = ((∑ p : Fin 512, A.dw (tp p s) k : ℝ) : EReal) := by
  refine (redOne_at (val_main_v42 (F := Ideal) x0 x1 x2 x3 x4 x5) s k).trans ?_
  unfold val_main_v42
  pointwise []
  exact v41_at x0 x1 x2 x3 x4 x5 A h s k

theorem v44_at (p : Fin 512) (s : Fin 8) (k : Fin 1024) : val_main_v44 (F := Ideal) x0 x1 x2 x3 x4 x5 (ix3 p s k) = ((A.t (tp p s) k * A.w k : ℝ) : EReal) := by
  unfold val_main_v44
  pointwise []
  rw [v39_at x0 x1 x2 x3 x4 x5 A h, v43_at x0 x1 x2 x3 x4 x5 A h, ← EReal.coe_mul]

theorem v47_at (p : Fin 512) (s : Fin 8) : val_main_v47 (F := Ideal) x0 x1 x2 x3 x4 x5 (ix2 p s) = ((∑ k, A.X (tp p s) k * (A.t (tp p s) k * A.w k) : ℝ) : EReal) := by
  refine (red2_at (val_main_v46 (F := Ideal) x0 x1 x2 x3 x4 x5) p s).trans ?_
  simp only [val_main_v46_apply, v1_at x0 x1 x2 x3 x4 x5 A h, v44_at x0 x1 x2 x3 x4 x5 A h]
  exact (Finset.sum_congr rfl fun k _ => (EReal.coe_mul _ _).symm).trans (Cert.Attn.coe_sum _ _)

theorem v53_at (p : Fin 512) (s : Fin 8) (z : Fin 1) : val_main_v53 (F := Ideal) x0 x1 x2 x3 x4 x5 (ix3 p s z) = (((∑ k, A.X (tp p s) k * (A.t (tp p s) k * A.w k)) * (-(1 / 2) * (rn (A.X (tp p s)) / msq (A.X (tp p s)))) / 1024 : ℝ) : EReal) := by
  unfold val_main_v53 val_main_v52 val_main_v51 val_main_v48 val_main_cst_6
  pointwise []
  rw [v47_at x0 x1 x2 x3 x4 x5 A h, v12_at x0 x1 x2 x3 x4 x5 A h, width_w, ← EReal.coe_mul, div_real _ (show (1024 : ℝ) ≠ 0 by norm_num)]

theorem v55_at (p : Fin 512) (s : Fin 8) (k : Fin 1024) : val_main_v55 (F := Ideal) x0 x1 x2 x3 x4 x5 (ix3 p s k) = (((∑ k, A.X (tp p s) k * (A.t (tp p s) k * A.w k)) * (-(1 / 2) * (rn (A.X (tp p s)) / msq (A.X (tp p s)))) / 1024 : ℝ) : EReal) := by
  unfold val_main_v55
  pointwise []
  exact (redLast_at (val_main_v53 (F := Ideal) x0 x1 x2 x3 x4 x5) p s).trans (v53_at x0 x1 x2 x3 x4 x5 A h p s 0)

theorem v59_at (p : Fin 512) (s : Fin 8) (k : Fin 1024) : val_main_v59 (F := Ideal) x0 x1 x2 x3 x4 x5 (ix3 p s k) = ((A.t (tp p s) k * A.w k * rn (A.X (tp p s)) + A.X (tp p s) k * ((∑ k, A.X (tp p s) k * (A.t (tp p s) k * A.w k)) * (-(1 / 2) * (rn (A.X (tp p s)) / msq (A.X (tp p s)))) / 1024) + (∑ k, A.X (tp p s) k * (A.t (tp p s) k * A.w k)) * (-(1 / 2) * (rn (A.X (tp p s)) / msq (A.X (tp p s)))) / 1024 * A.X (tp p s) k : ℝ) : EReal) := by
  unfold val_main_v59 val_main_v58 val_main_v57 val_main_v56 val_main_v50 val_main_v49
  pointwise []
  rw [v1_at x0 x1 x2 x3 x4 x5 A h, v9_at x0 x1 x2 x3 x4 x5 A h, v44_at x0 x1 x2 x3 x4 x5 A h, v55_at x0 x1 x2 x3 x4 x5 A h]
  simp only [← EReal.coe_mul, ← EReal.coe_add]

/-- The rows' gradient. -/
theorem v67_at (r : Fin 4096) (k : Fin 1024) : val_main_v67 (F := Ideal) x0 x1 x2 x3 x4 x5 (ix2 r k) = ((A.dx r k : ℝ) : EReal) := by
  unfold val_main_v67 val_main_v60
  pointwise []
  rw [h.dx]
  refine (congrArg ((A.D r k : EReal) + ·) (v59_at x0 x1 x2 x3 x4 x5 A h _ _ _)).trans ?_
  rw [tp_div r _ _ rfl rfl]
  refine (EReal.coe_add _ _).symm.trans (congrArg _ ?_)
  exact dxr_eq (A.X r) A.w (A.t r) (A.D r) k

theorem v63_at (j : Fin 4) (r : Fin 4096) (f : Fin 704) : val_main_v63 (F := Ideal) x0 x1 x2 x3 x4 x5 (ix3 j r f) = ((A.dg r j f : ℝ) : EReal) := by
  unfold val_main_v63 val_main_v62 val_main_v61
  pointwise []
  refine (congrArg (val_main_v35 (F := Ideal) x0 x1 x2 x3 x4 x5) ?_).trans (v35_at x0 x1 x2 x3 x4 x5 A h r j f)
  funext a
  have hf := f.isLt
  match a with
  | ⟨0, _⟩ => rfl
  | ⟨1, _⟩ => exact Fin.ext (by show j.val * 704 + f.val = 704 * j.val + f.val; omega)

theorem v66_at (j : Fin 4) (r : Fin 4096) (f : Fin 704) : val_main_v66 (F := Ideal) x0 x1 x2 x4 x5 (ix3 j r f) = ((A.du r j f : ℝ) : EReal) := by
  unfold val_main_v66 val_main_v65 val_main_v64
  pointwise []
  refine (congrArg (val_main_v33 (F := Ideal) x0 x1 x2 x4 x5) ?_).trans (v33_at x0 x1 x2 x3 x4 x5 A h r j f)
  funext a
  have hf := f.isLt
  match a with
  | ⟨0, _⟩ => rfl
  | ⟨1, _⟩ => exact Fin.ext (by show j.val * 704 + f.val = 704 * j.val + f.val; omega)

/-- The reference's gate gradient. -/
theorem ref_dg : val_main_v63 (F := Ideal) x0 x1 x2 x3 x4 x5 = dgArr A := funext fun i => (congrArg _ (third i)).trans (v63_at x0 x1 x2 x3 x4 x5 A h _ _ _)
/-- The reference's gradient of the up projection. -/
theorem ref_du : val_main_v66 (F := Ideal) x0 x1 x2 x4 x5 = duArr A := funext fun i => (congrArg _ (third i)).trans (v66_at x0 x1 x2 x3 x4 x5 A h _ _ _)
/-- The reference's gradient of the rows. -/
theorem ref_dx : val_main_v67 (F := Ideal) x0 x1 x2 x3 x4 x5 = dxArr A := funext fun i => (congrArg _ (second i)).trans (v67_at x0 x1 x2 x3 x4 x5 A h _ _)
/-- The reference's gradient of the norm weight. -/
theorem ref_dw : val_main_v45 (F := Ideal) x0 x1 x2 x3 x4 x5 = dwArr A := funext fun i => (congrArg _ (second i)).trans (v45_at x0 x1 x2 x3 x4 x5 A h _ _)

end Cert.Ffn

end
-- ==== Proof.Ffn.lean ====
/- The claims about the feed-forward backward kernel: what its precondition says, the reference's frame, and the
   equality of the kernel's four results with the reference's. -/
module

public import proofs.«01_k».proof.Proof.FfnRef
public import proofs.«01_k».proof.Defs
public import proofs.«01_k».proof.Proof.Gen.Pre_finite2
public import proofs.«01_k».proof.Proof.Gen.Kernel2
public import proofs.«01_k».proof.Proof.Gen.Kernel2.Frame
public import proofs.«01_k».proof.Proof.Gen.Reference2Ideal.Run
public import Idealize.ShloMosaic.Lib.ReduceAll
public import Idealize.ShloMosaic.Adequacy
public import Idealize.ShloMosaic.Init

@[expose] public section

noncomputable section

namespace Cert.Ffn

open Idealize.ShloMosaic Idealize.ShloMosaic.TcCoe Idealize.SL.Sem

/-- The words of the two formats' infinities are the greatest extended real. -/
theorem inf_bf16 : Ideal.ofBits .bf16 0x7F80#16 = ⊤ := by
  simp only [Ideal.ofBits]
  decide +kernel
theorem inf_f32 : Ideal.ofBits .f32 0x7F800000#32 = ⊤ := by
  simp only [Ideal.ofBits]
  decide +kernel

/-- An array all of whose absolute values are below the greatest extended real is real everywhere. -/
theorem real_of_all {s : Shape} {φ : FTy} {axes : List (Fin s.rank)} (X : FVec Ideal s φ) (w : BitVec φ.bits) (hw : Ideal.ofBits φ w = ⊤)
    (b : Pre_finite2.S_.BroadcastsInDim s ![]) (red : s.ReducesTo axes Pre_finite2.S_) (hS : 0 < Pre_finite2.S_.numel)
    (j : Pre_finite2.S_.Idx)
    (e : Host.reduce IntOp.andi (cmpf .olt (Host.absf X) (broadcastInDim s ![] b (constant Pre_finite2.S_ φ w)))
      (constantI Pre_finite2.S_ 1 1#1) red hS j = 1#1) (i : s.Idx) : X i = (((X i : EReal).toReal : ℝ) : EReal) := by
  haveI : Subsingleton Pre_finite2.S_.Idx := ⟨fun a b => funext fun x => x.elim0⟩
  have h := Host.reduce_andi_all _ _ _ _ j e i
  have h' : Ideal.cmp .olt (max (X i : EReal) (-(X i : EReal))) (Ideal.ofBits φ w) = 1#1 := h
  rw [hw] at h'
  have hlt : max (X i : EReal) (-(X i : EReal)) < ⊤ := by
    by_contra hn
    simp [Ideal.cmp, hn] at h'
  have h1 := (max_lt_iff.1 hlt).1
  have h2 := (max_lt_iff.1 hlt).2
  refine (EReal.coe_toReal h1.ne ?_).symm
  intro hb
  rw [hb] at h2
  simp at h2

section
variable (a0 : FVec Ideal Pre_finite2.S4096x1024 .f32) (a1 : FVec Ideal Pre_finite2.S1x1024 .f32)
  (a2 a3 : FVec Ideal Pre_finite2.S4x1024x704 .bf16) (a4 : FVec Ideal Pre_finite2.S4x704x1024 .bf16)
  (a5 : FVec Ideal Pre_finite2.S4096x1024 .f32)

/-- The real numbers in six arrays. -/
def realsOf : Reals where
  X r k := (a0 (ix2 r k) : EReal).toReal
  w k := (a1 (ix2 0 k) : EReal).toReal
  Wg j k f := (a2 (ix3 j k f) : EReal).toReal
  Wu j k f := (a3 (ix3 j k f) : EReal).toReal
  Wd j f k := (a4 (ix3 j f k) : EReal).toReal
  D r k := (a5 (ix2 r k) : EReal).toReal

/-- The precondition makes all six arguments real. -/
theorem holds_of_pre (h : Pre_finite2.fn (F := Ideal) a0 a1 a2 a3 a4 a5 = fun _ => 1#1) :
    Holds (realsOf a0 a1 a2 a3 a4 a5) a0 a1 a2 a3 a4 a5 := by
  have e := congrFun h (Shape.Idx.first Pre_finite2.Facts.h_S_)
  have q5 := IntOp.andi_eq_one.1 e
  have q4 := IntOp.andi_eq_one.1 q5.1
  have q3 := IntOp.andi_eq_one.1 q4.1
  have q2 := IntOp.andi_eq_one.1 q3.1
  have q1 := IntOp.andi_eq_one.1 q2.1
  have c0 := real_of_all a0 _ inf_f32 _ _ _ _ q1.1
  have c1 := real_of_all a1 _ inf_f32 _ _ _ _ q1.2
  have c2 := real_of_all a2 _ inf_bf16 _ _ _ _ q2.2
  have c3 := real_of_all a3 _ inf_bf16 _ _ _ _ q3.2
  have c4 := real_of_all a4 _ inf_bf16 _ _ _ _ q4.2
  have c5 := real_of_all a5 _ inf_f32 _ _ _ _ q5.2
  exact ⟨fun _ _ => c0 _, fun _ => c1 _, fun _ _ _ => c2 _, fun _ _ _ => c3 _, fun _ _ _ => c4 _, fun _ _ => c5 _⟩
end

/-- The reference runs, keeps its arguments, and declares no semaphore. -/
theorem frame_ref (m : (ℓ : Loc Reference2Ideal.nD Reference2Ideal.τ Reference2Ideal.sig) → Buf (Elt Ideal) ℓ)
    (ρ : Dev Reference2Ideal.nD → PrngReg) :
    θ_run (Reference2Ideal.defs (F := Ideal)) (onTc (τ := Reference2Ideal.τ) (Reference2Ideal.main (F := Ideal))) ⟨m, fun _ => 0, ρ⟩ (fun r => (∀ c : Dev Reference2Ideal.nD,
      r.2.mem (c.tc.loc Reference2Ideal.main_arg0) = m (c.tc.loc Reference2Ideal.main_arg0)
      ∧ r.2.mem (c.tc.loc Reference2Ideal.main_arg1) = m (c.tc.loc Reference2Ideal.main_arg1)
      ∧ r.2.mem (c.tc.loc Reference2Ideal.main_arg2) = m (c.tc.loc Reference2Ideal.main_arg2)
      ∧ r.2.mem (c.tc.loc Reference2Ideal.main_arg3) = m (c.tc.loc Reference2Ideal.main_arg3)
      ∧ r.2.mem (c.tc.loc Reference2Ideal.main_arg4) = m (c.tc.loc Reference2Ideal.main_arg4)
      ∧ r.2.mem (c.tc.loc Reference2Ideal.main_arg5) = m (c.tc.loc Reference2Ideal.main_arg5))
      ∧ r.2.sem = fun _ => 0) :=
  (θ_run Reference2Ideal.defs _ _).mono (fun r h => ⟨fun c => (h c).2.2.2.2,
    sem_eq_zero_of_no_sems (by decide) r.2⟩) (Reference2Ideal.Value.run (F := Ideal) m ρ)

/-- From equal finite arguments, the kernel's gradients of the gate, of the up projection, of the rows and of the
    norm weight are the reference's. -/
theorem algebraic : Cert.algebraic_Kernel2Ideal_Reference2Ideal_pre_finite2 := by
  intro m ρ m' ρ' hpre hargs
  obtain ⟨A, H⟩ : ∃ A : Dev Kernel2Ideal.nD → Reals, ∀ c, Holds (A c) (m (c.tc.loc Kernel2Ideal.main_arg0))
      (m (c.tc.loc Kernel2Ideal.main_arg1))
      (m (c.tc.loc Kernel2Ideal.main_arg2))
      (m (c.tc.loc Kernel2Ideal.main_arg3))
      (m (c.tc.loc Kernel2Ideal.main_arg4))
      (m (c.tc.loc Kernel2Ideal.main_arg5)) :=
    ⟨_, fun c => holds_of_pre _ _ _ _ _ _ (hpre c)⟩
  refine ⟨fun c => dgArr (A c), fun c => duArr (A c), fun c => dxArr (A c), fun c => dwArr (A c), ?_, ?_⟩
  · refine (θ_run Kernel2Ideal.defs _ _).mono (fun r h c => ?_) (Kernel2Ideal.Value.run_blocks (F := Ideal) m ρ)
    obtain ⟨h0, h1, h2, h3, ha⟩ := h c
    exact ⟨h0.trans (final_dg m c _ (H c)), h1.trans (final_du m c _ (H c)), h2.trans (final_dx m c _ (H c)),
      h3.trans (final_dw m c _ (H c)), ha⟩
  · refine (θ_run Reference2Ideal.defs _ _).mono (fun r h c => ?_) (Reference2Ideal.Value.run (F := Ideal) m' ρ')
    obtain ⟨h0, h1, h2, h3, ha⟩ := h c
    obtain ⟨b0, b1, b2, b3, b4, b5⟩ := hargs c
    refine ⟨h0.trans ?_, h1.trans ?_, h2.trans ?_, h3.trans ?_, ha⟩
    · rw [Reference2Ideal.Read.val_main_v63_eq, b0, b1, b2, b3, b4, b5]
      exact ref_dg _ _ _ _ _ _ _ (H c)
    · refine (Reference2Ideal.Read.val_main_v66_eq _ _ _ _ _).trans ?_
      rw [b0, b1, b2, b4, b5]
      exact ref_du _ _ _ _ _ _ _ (H c)
    · rw [Reference2Ideal.Read.val_main_v67_eq, b0, b1, b2, b3, b4, b5]
      exact ref_dx _ _ _ _ _ _ _ (H c)
    · rw [Reference2Ideal.Read.val_main_v45_eq, b0, b1, b2, b3, b4, b5]
      exact ref_dw _ _ _ _ _ _ _ (H c)

end Cert.Ffn

end
-- ==== Proof.Grad3.lean ====
/- The down projection's weight gradient of the feed-forward layer: the activations transposed times the gradient of the rows. The kernel takes each block of columns in two halves of the rows and keeps the first
   half's product in scratch memory; its result and the reference's are the same sum over all the rows. -/
module

public import proofs.«01_k».proof.Proof.Soft
public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Grad3

open Idealize.ShloMosaic Idealize.ShloMosaic.TcCoe Idealize.ShloMosaic.Tactic
open Idealize.SL.Sem

section
open Cert.Kernel3Ideal Cert.Kernel3Ideal.Gen Cert.Kernel3Ideal.Value

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F] (c : Dev nD) (i : grid0.Coords)
  (a2 : Memref sig .tc .vmem S1x2048x704 .bf16) (h2 : a2.IsWhole)
  (a3 : Memref sig .tc .vmem S2048x1024 .f32) (h3 : a3.IsWhole)
  (a4 : Memref sig .tc .vmem S1x704x1024 .bf16) (h4 : a4.IsWhole)
  (a5 : Memref sig .tc .vmem S704x1024 .f32) (h5 : a5.IsWhole)
  (x0 : Vec F S1x2048x704 .bf16) (x1 : Vec F S2048x1024 .f32)

/-- After the first half of the rows the scratch holds the half's product. -/
theorem scr_A (c0 : cond0_0 i) (c1 : ¬cond0_1 i) (c2 : ¬cond0_2 i) :
    sout0_A_0 c i a2 h2 a3 h3 a4 h4 a5 h5 c0 c1 c2 x0 x1 = k0_pay2 x0 x1 := by
  unfold sout0_A_0
  rw [View.read_writes_eq_canon _ _ _ (scover0_A_0 c i a2 h2 a3 h3 a4 h4 a5 h5 c0 c1 c2 x0 x1)]
  unfold kernelRun0_A
  dsimp only
  sl_unfold_words
  rw [View.canon_unit_zero hz]
  simp only [View.readAt_eq_ld, h2.read_unread, h3.read_unread, View.ld_unit_zero (S := S1x2048x704) hz3,
    View.ld_unit_zero (S := S2048x1024) hz]

/-- After the second half the stored block is the sum of the halves' products. -/
theorem out_B (c0 : ¬cond0_0 i) (c1 : cond0_1 i) (c2 : cond0_2 i) (xs : Vec F S704x1024 .f32) :
    out0_B_2 c i a2 h2 a3 h3 a4 h4 a5 h5 c0 c1 c2 x0 x1 xs = k0_pay4 (k0_pay3 x0 x1 xs) := by
  unfold out0_B_2
  rw [View.read_writes_eq_canon _ _ _ (cover0_B_2 c i a2 h2 a3 h3 a4 h4 a5 h5 c0 c1 c2 x0 x1 xs)]
  unfold kernelRun0_B
  dsimp only
  sl_unfold_words
  rw [View.canon_unit_zero hz3]
  simp only [View.readAt_eq_ld, h2.read_unread, h3.read_unread, h5.read_unread, View.ld_unit_zero (S := S1x2048x704) hz3,
    View.ld_unit_zero (S := S2048x1024) hz, View.ld_unit_zero (S := S704x1024) hz]
  exact congrArg k0_pay4 (View.readCov_unit_zero (S := S704x1024) _ hz _ _)
end

/-- One half's product at an entry. -/
theorem half_at (x0 : Vec Ideal S1x2048x704 .bf16) (x1 : Vec Ideal S2048x1024 .f32) (p : Fin 704) (q : Fin 1024) :
    k0_pay1 x0 x1 (ix2 p q) = ∑ r : Fin 2048, x0 (ix3 0 r p) * x1 (ix2 r q) := by
  pointwise [k0_pay1]

/-- The stored block at an entry, from the two halves. -/
theorem blk_at (x0 y0 : Vec Ideal S1x2048x704 .bf16) (x1 y1 : Vec Ideal S2048x1024 .f32) (z : Fin 1) (p : Fin 704) (q : Fin 1024) :
    k0_pay4 (k0_pay3 y0 y1 (k0_pay2 x0 x1)) (ix3 z p q) = (∑ r : Fin 2048, x0 (ix3 0 r p) * x1 (ix2 r q)) + ∑ r : Fin 2048, y0 (ix3 0 r p) * y1 (ix2 r q) := by
  pointwise [k0_pay4, k0_pay3, k0_pay2]
  rw [half_at, half_at]

theorem idx0 : ∀ t : Fin cfg0.N, win0_0.index t 0 = t.val / 2 ∧ win0_0.index t 1 = t.val % 2 ∧ win0_0.index t 2 = 0 :=
  (by decide +kernel : ∀ t : Fin grid0.N, _)

theorem idx1 : ∀ t : Fin cfg0.N, win0_1.index t 0 = t.val % 2 ∧ win0_1.index t 1 = 0 :=
  (by decide +kernel : ∀ t : Fin grid0.N, _)

theorem idx2 : ∀ t : Fin cfg0.N, win0_2.index t 0 = t.val / 2 ∧ win0_2.index t 1 = 0 ∧ win0_2.index t 2 = 0 :=
  (by decide +kernel : ∀ t : Fin grid0.N, _)

theorem ltN (t : Fin cfg0.N) : t.val < 8 := Nat.lt_of_lt_of_eq t.isLt N_0

/-- The block of columns that point `t` works on. -/
def blkOf (t : Fin cfg0.N) : Fin 4 := ⟨t.val / 2, by have := ltN t; omega⟩
/-- Row `r` of point `t`'s half. -/
def row (t : Fin cfg0.N) (r : Fin 2048) : Fin 4096 := ⟨2048 * (t.val % 2) + r.val, by omega⟩

variable (m : (ℓ : Loc nD τ sig) → Buf (Elt Ideal) ℓ) (c : Dev nD)

/-- The product's entry `(p, q)` in block `j`. -/
def total (a0 : FVec Ideal S4x4096x704 .bf16) (a1 : FVec Ideal S4096x1024 .f32) : S4x704x1024.Idx → EReal :=
  fun i => ∑ n : Fin 4096, a0 (ix3 (i 0) n (i 1)) * a1 (ix2 n (i 2))

/-- Point `t`'s block of argument 0. -/
theorem ib0 (t : Fin cfg0.N) (r : Fin 2048) (p : Fin 704) : (iblk m c 0 t : Vec Ideal S1x2048x704 .bf16) (ix3 0 r p)
    = m (c.tc.loc main_arg0) (ix3 (blkOf t) (row t r) p) := by
  unfold iblk; rw [View.read_apply]
  have e : (((cfg0.win 0).blk t).view.emb (ix3 0 r p)) = ix3 (blkOf t) (row t r) p := by
    funext a; apply Fin.ext
    match a with
    | ⟨0, _⟩ => show win0_0.index t 0 * 1 + 1 * 0 = t.val / 2; rw [(idx0 t).1]; omega
    | ⟨1, _⟩ => show win0_0.index t 1 * 2048 + 1 * r.val = 2048 * (t.val % 2) + r.val; rw [(idx0 t).2.1]; omega
    | ⟨2, _⟩ => show win0_0.index t 2 * 704 + 1 * p.val = p.val; rw [(idx0 t).2.2]; omega
  exact (congrFun (V_main_arg0 m c) _).trans (congrArg _ e)

/-- Point `t`'s block of argument 1. -/
theorem ib1 (t : Fin cfg0.N) (r : Fin 2048) (p : Fin 1024) : (iblk m c 1 t : Vec Ideal S2048x1024 .f32) (ix2 r p)
    = m (c.tc.loc main_arg1) (ix2 (row t r) p) := by
  unfold iblk; rw [View.read_apply]
  have e : (((cfg0.win 1).blk t).view.emb (ix2 r p)) = ix2 (row t r) p := by
    funext a; apply Fin.ext
    match a with
    | ⟨0, _⟩ => show win0_1.index t 0 * 2048 + 1 * r.val = 2048 * (t.val % 2) + r.val; rw [(idx1 t).1]; omega
    | ⟨1, _⟩ => show win0_1.index t 1 * 1024 + 1 * p.val = p.val; rw [(idx1 t).2]; omega
  exact (congrFun (V_main_arg1 m c) _).trans (congrArg _ e)

/-- What an even point leaves in the scratch. -/
theorem scr_at (s : Fin cfg0.N) (h0 : s.val % 2 = 0) :
    (outsAt0 m c s.val s.isLt).2 = k0_pay2 (iblk m c 0 s) (iblk m c 1 s) := by
  rw [outsAt0_A m c s h0 (by omega) (by omega)]
  dsimp only
  rw [scr_A]

/-- What an odd point leaves in its output block. -/
theorem outs_at (t s : Fin cfg0.N) (h1 : t.val % 2 = 1) (hs : s.val = t.val - 1) (z : Fin 1) (p : Fin 704) (q : Fin 1024) :
    (outsAt0 m c t.val t.isLt).1 (ix3 z p q)
      = total (m (c.tc.loc main_arg0)) (m (c.tc.loc main_arg1)) (ix3 (blkOf t) p q) := by
  obtain ⟨_, hk⟩ := s
  obtain rfl : _ = t.val - 1 := hs
  have h0 : ¬t.val % 2 = 0 := by omega
  have hN := ltN t
  have es := scr_at m c ⟨t.val - 1, hk⟩ (by dsimp only; omega)
  dsimp only at es
  rw [outsAt0_B m c t h0 h1 h1]
  dsimp only
  rw [out_B, es, blk_at]
  unfold total
  rw [Cert.Attn.sum_blocks 2 2048 4096 rfl, Fin.sum_univ_two]
  have eb : blkOf ⟨t.val - 1, hk⟩ = blkOf t := Fin.ext (by show (t.val - 1) / 2 = t.val / 2; omega)
  refine congrArg₂ (· + ·) (Finset.sum_congr rfl fun r _ => ?_) (Finset.sum_congr rfl fun r _ => ?_)
  · have er : row ⟨t.val - 1, hk⟩ r = ⟨2048 * (0 : Fin 2).val + r.val, by have := r.isLt; show 2048 * 0 + r.val < 4096; omega⟩ :=
      Fin.ext (by show 2048 * ((t.val - 1) % 2) + r.val = 2048 * 0 + r.val; omega)
    rw [ib0 m c, ib1 m c, eb, er]; rfl
  · have er : row t r = ⟨2048 * (1 : Fin 2).val + r.val, by have := r.isLt; show 2048 * 1 + r.val < 4096; omega⟩ :=
      Fin.ext (by show 2048 * (t.val % 2) + r.val = 2048 * 1 + r.val; omega)
    rw [ib0 m c, ib1 m c, er]; rfl

/-- What a point writes back is its block of the product. -/
theorem flushed_out (t : Fin cfg0.N) (hf : (cfg0.win 2).flush t = true) :
    (dats m 0 c).flushed 2 t = ((cfg0.win 2).blk t).view.read (Elt Ideal) (total (m (c.tc.loc main_arg0)) (m (c.tc.loc main_arg1))) := by
  have h1 := (flush0_2 t).mp hf
  rw [flushed2]
  funext j
  rw [View.read_apply]
  have j0 : (j 0).val < 1 := (j 0).isLt
  have j1 : (j 1).val < 704 := (j 1).isLt
  have j2 : (j 2).val < 1024 := (j 2).isLt
  have ej : (cfg0.win 2).cut (grid0.coords t) (outsAt0 m c t.val t.isLt).1 j
      = (outsAt0 m c t.val t.isLt).1 (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 2).blk t).view.emb j) = ix3 (blkOf t) ⟨(j 1).val, j1⟩ ⟨(j 2).val, j2⟩ := by
    funext a; apply Fin.ext
    match a with
    | ⟨0, _⟩ => show win0_2.index t 0 * 1 + 1 * (j 0).val = t.val / 2; rw [(idx2 t).1]; omega
    | ⟨1, _⟩ => show win0_2.index t 1 * 704 + 1 * (j 1).val = (j 1).val; rw [(idx2 t).2.1]; omega
    | ⟨2, _⟩ => show win0_2.index t 2 * 1024 + 1 * (j 2).val = (j 2).val; rw [(idx2 t).2.2]; omega
  exact ej.trans ((outs_at m c t ⟨t.val - 1, Nat.lt_of_le_of_lt (Nat.sub_le _ _) t.isLt⟩ h1 rfl _ _ _).trans (congrArg _ ee).symm)

/-- The result array ends holding the product. -/
theorem final_out : (dats m 0 c).arrAt 2 cfg0.N = total (m (c.tc.loc main_arg0)) (m (c.tc.loc main_arg1)) :=
  (dats m 0 c).arrAt_eq_of_cover 2 _ (flushed_out m c) fun i => by
    have i0 : (i 0).val < 4 := (i 0).isLt
    have i1 : (i 1).val < 704 := (i 1).isLt
    have i2 : (i 2).val < 1024 := (i 2).isLt
    let t : Fin cfg0.N := ⟨2 * (i 0).val + 1, Nat.lt_of_lt_of_eq (by omega) N_0.symm⟩
    have ht : t.val = 2 * (i 0).val + 1 := rfl
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1
                rw [(idx2 t).1]; omega
    | ⟨1, _⟩ => show win0_2.index t 1 * 704 ≤ (i 1).val ∧ (i 1).val < win0_2.index t 1 * 704 + 704
                rw [(idx2 t).2.1]; omega
    | ⟨2, _⟩ => show win0_2.index t 2 * 1024 ≤ (i 2).val ∧ (i 2).val < win0_2.index t 2 * 1024 + 1024
                rw [(idx2 t).2.2]; omega
end

section
open Cert.Reference3Ideal Cert.Reference3Ideal.Gen Cert.Reference3Ideal.Read
variable (x0 : FVec Ideal S4x4096x704 .bf16) (x1 : FVec Ideal S4096x1024 .f32)

/-- The activations' columns side by side. -/
theorem wide_at (n : Fin 4096) (j : Fin 4) (p : Fin 704) :
    val_main_v2 (F := Ideal) x0 (ix2 n ⟨704 * j.val + p.val, by omega⟩) = x0 (ix3 j n p) := by
  rw [val_main_v2_apply, val_main_v1_apply, val_main_v0_apply]
  refine congrArg x0 (funext fun a => Fin.ext ?_)
  match a with
  | ⟨0, _⟩ => show (n.val * 2816 + (704 * j.val + p.val)) / 704 % 4 = j.val; omega
  | ⟨1, _⟩ => show (n.val * 2816 + (704 * j.val + p.val)) / 2816 = n.val; omega
  | ⟨2, _⟩ => show (n.val * 2816 + (704 * j.val + p.val)) % 704 = p.val; omega

/-- The reference's result at an entry. -/
theorem ref_at (j : Fin 4) (p : Fin 704) (q : Fin 1024) :
    val_main_v8 (F := Ideal) x0 x1 (ix3 j p q) = total x0 x1 (ix3 j p q) := by
  rw [val_main_v8_apply, val_main_v7_apply, val_main_v6_apply, val_main_v5_apply]
  refine Finset.sum_congr rfl fun n _ => ?_
  rw [mul_comm]
  refine congrArg₂ (· * ·) ?_ (congrArg x1 (funext fun a => Fin.ext ?_))
  · refine (congrArg (val_main_v2 (F := Ideal) x0) (funext fun a => Fin.ext ?_)).trans (wide_at x0 n j p)
    match a with
    | ⟨0, _⟩ => rfl
    | ⟨1, _⟩ => show ((j.val * 704 + p.val) * 1024 + q.val) / 1024 = 704 * j.val + p.val; omega
  · match a with
    | ⟨0, _⟩ => rfl
    | ⟨1, _⟩ => show ((j.val * 704 + p.val) * 1024 + q.val) % 1024 = q.val; omega

/-- The reference's result is the product. -/
theorem ref_out : val_main_v8 (F := Ideal) x0 x1 = total x0 x1 := funext fun i => by
  obtain ⟨j, p, q, rfl⟩ : ∃ (j : Fin 4) (p : Fin 704) (q : Fin 1024), i = ix3 j p q :=
    ⟨i 0, i 1, i 2, funext fun a => by match a with | ⟨0, _⟩ => rfl | ⟨1, _⟩ => rfl | ⟨2, _⟩ => rfl⟩
  exact ref_at x0 x1 j p q
end

theorem frame_ref (m : (ℓ : Loc Reference3Ideal.nD Reference3Ideal.τ Reference3Ideal.sig) → Buf (Elt Ideal) ℓ)
    (ρ : Dev Reference3Ideal.nD → PrngReg) :
    θ_run (Reference3Ideal.defs (F := Ideal)) (onTc (τ := Reference3Ideal.τ) (Reference3Ideal.main (F := Ideal))) ⟨m, fun _ => 0, ρ⟩ (fun r => (∀ c : Dev Reference3Ideal.nD,
      r.2.mem (c.tc.loc Reference3Ideal.main_arg0) = m (c.tc.loc Reference3Ideal.main_arg0)
      ∧ r.2.mem (c.tc.loc Reference3Ideal.main_arg1) = m (c.tc.loc Reference3Ideal.main_arg1))
      ∧ r.2.sem = fun _ => 0) :=
  (θ_run Reference3Ideal.defs _ _).mono (fun r h => ⟨fun c => (h c).2,
    sem_eq_zero_of_no_sems (by decide) r.2⟩) (Reference3Ideal.Value.run (F := Ideal) m ρ)

/-- From equal arguments the kernel's result is the reference's. -/
theorem algebraic : Cert.algebraic_Kernel3Ideal_Reference3Ideal := by
  intro m ρ m' ρ' hpre hargs
  refine ⟨fun c => total (m (c.tc.loc Kernel3Ideal.main_arg0))
      (m (c.tc.loc Kernel3Ideal.main_arg1)), ?_, ?_⟩
  · refine (θ_run Kernel3Ideal.defs _ _).mono (fun r h c => ?_) (Kernel3Ideal.Value.run_blocks (F := Ideal) m ρ)
    obtain ⟨h0, ha⟩ := h c
    exact ⟨h0.trans (final_out m c), ha⟩
  · refine (θ_run Reference3Ideal.defs _ _).mono (fun r h c => ?_) (Reference3Ideal.Value.run (F := Ideal) m' ρ')
    obtain ⟨h0, ha⟩ := h c
    obtain ⟨b0, b1⟩ := hargs c
    refine ⟨h0.trans ?_, ha⟩
    rw [Reference3Ideal.Read.val_main_v8_eq, b0, b1]
    exact ref_out _ _

end Cert.Grad3

end
-- ==== Proof.Grad4.lean ====
/- The gate's (or the up projection's) weight gradient of the feed-forward layer: the normalised rows transposed times the gradient of the gate. The kernel takes each block of columns in two halves of the rows and keeps the first
   half's product in scratch memory; its result and the reference's are the same sum over all the rows. -/
module

public import proofs.«01_k».proof.Proof.Soft
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Grad4

open Idealize.ShloMosaic Idealize.ShloMosaic.TcCoe Idealize.ShloMosaic.Tactic
open Idealize.SL.Sem

section
open Cert.Kernel4Ideal Cert.Kernel4Ideal.Gen Cert.Kernel4Ideal.Value

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F] (c : Dev nD) (i : grid0.Coords)
  (a2 : Memref sig .tc .vmem S2048x1024 .bf16) (h2 : a2.IsWhole)
  (a3 : Memref sig .tc .vmem S1x2048x704 .bf16) (h3 : a3.IsWhole)
  (a4 : Memref sig .tc .vmem S1x1024x704 .bf16) (h4 : a4.IsWhole)
  (a5 : Memref sig .tc .vmem S1024x704 .f32) (h5 : a5.IsWhole)
  (x0 : Vec F S2048x1024 .bf16) (x1 : Vec F S1x2048x704 .bf16)

/-- After the first half of the rows the scratch holds the half's product. -/
theorem scr_A (c0 : cond0_0 i) (c1 : ¬cond0_1 i) (c2 : ¬cond0_2 i) :
    sout0_A_0 c i a2 h2 a3 h3 a4 h4 a5 h5 c0 c1 c2 x0 x1 = k0_pay2 x0 x1 := by
  unfold sout0_A_0
  rw [View.read_writes_eq_canon _ _ _ (scover0_A_0 c i a2 h2 a3 h3 a4 h4 a5 h5 c0 c1 c2 x0 x1)]
  unfold kernelRun0_A
  dsimp only
  sl_unfold_words
  rw [View.canon_unit_zero hz]
  simp only [View.readAt_eq_ld, h2.read_unread, h3.read_unread, View.ld_unit_zero (S := S2048x1024) hz,
    View.ld_unit_zero (S := S1x2048x704) hz3]

/-- After the second half the stored block is the sum of the halves' products. -/
theorem out_B (c0 : ¬cond0_0 i) (c1 : cond0_1 i) (c2 : cond0_2 i) (xs : Vec F S1024x704 .f32) :
    out0_B_2 c i a2 h2 a3 h3 a4 h4 a5 h5 c0 c1 c2 x0 x1 xs = k0_pay4 (k0_pay3 x0 x1 xs) := by
  unfold out0_B_2
  rw [View.read_writes_eq_canon _ _ _ (cover0_B_2 c i a2 h2 a3 h3 a4 h4 a5 h5 c0 c1 c2 x0 x1 xs)]
  unfold kernelRun0_B
  dsimp only
  sl_unfold_words
  rw [View.canon_unit_zero hz3]
  simp only [View.readAt_eq_ld, h2.read_unread, h3.read_unread, h5.read_unread, View.ld_unit_zero (S := S2048x1024) hz,
    View.ld_unit_zero (S := S1x2048x704) hz3, View.ld_unit_zero (S := S1024x704) hz]
  exact congrArg k0_pay4 (View.readCov_unit_zero (S := S1024x704) _ hz _ _)
end

/-- One half's product at an entry. -/
theorem half_at (x0 : Vec Ideal S2048x1024 .bf16) (x1 : Vec Ideal S1x2048x704 .bf16) (p : Fin 1024) (q : Fin 704) :
    k0_pay1 x0 x1 (ix2 p q) = ∑ r : Fin 2048, x0 (ix2 r p) * x1 (ix3 0 r q) := by
  pointwise [k0_pay1]

/-- The stored block at an entry, from the two halves. -/
theorem blk_at (x0 y0 : Vec Ideal S2048x1024 .bf16) (x1 y1 : Vec Ideal S1x2048x704 .bf16) (z : Fin 1) (p : Fin 1024) (q : Fin 704) :
    k0_pay4 (k0_pay3 y0 y1 (k0_pay2 x0 x1)) (ix3 z p q) = (∑ r : Fin 2048, x0 (ix2 r p) * x1 (ix3 0 r q)) + ∑ r : Fin 2048, y0 (ix2 r p) * y1 (ix3 0 r q) := by
  pointwise [k0_pay4, k0_pay3, k0_pay2]
  rw [half_at, half_at]

theorem idx0 : ∀ t : Fin cfg0.N, win0_0.index t 0 = t.val % 2 ∧ win0_0.index t 1 = 0 :=
  (by decide +kernel : ∀ t : Fin grid0.N, _)

theorem idx1 : ∀ t : Fin cfg0.N, win0_1.index t 0 = t.val / 2 ∧ win0_1.index t 1 = t.val % 2 ∧ win0_1.index t 2 = 0 :=
  (by decide +kernel : ∀ t : Fin grid0.N, _)

theorem idx2 : ∀ t : Fin cfg0.N, win0_2.index t 0 = t.val / 2 ∧ win0_2.index t 1 = 0 ∧ win0_2.index t 2 = 0 :=
  (by decide +kernel : ∀ t : Fin grid0.N, _)

theorem ltN (t : Fin cfg0.N) : t.val < 8 := Nat.lt_of_lt_of_eq t.isLt N_0

/-- The block of columns that point `t` works on. -/
def blkOf (t : Fin cfg0.N) : Fin 4 := ⟨t.val / 2, by have := ltN t; omega⟩
/-- Row `r` of point `t`'s half. -/
def row (t : Fin cfg0.N) (r : Fin 2048) : Fin 4096 := ⟨2048 * (t.val % 2) + r.val, by omega⟩

variable (m : (ℓ : Loc nD τ sig) → Buf (Elt Ideal) ℓ) (c : Dev nD)

/-- The product's entry `(p, q)` in block `j`. -/
def total (a0 : FVec Ideal S4096x1024 .bf16) (a1 : FVec Ideal S4x4096x704 .bf16) : S4x1024x704.Idx → EReal :=
  fun i => ∑ n : Fin 4096, a0 (ix2 n (i 1)) * a1 (ix3 (i 0) n (i 2))

/-- Point `t`'s block of argument 0. -/
theorem ib0 (t : Fin cfg0.N) (r : Fin 2048) (p : Fin 1024) : (iblk m c 0 t : Vec Ideal S2048x1024 .bf16) (ix2 r p)
    = m (c.tc.loc main_arg0) (ix2 (row t r) p) := by
  unfold iblk; rw [View.read_apply]
  have e : (((cfg0.win 0).blk t).view.emb (ix2 r p)) = ix2 (row t r) p := by
    funext a; apply Fin.ext
    match a with
    | ⟨0, _⟩ => show win0_0.index t 0 * 2048 + 1 * r.val = 2048 * (t.val % 2) + r.val; rw [(idx0 t).1]; omega
    | ⟨1, _⟩ => show win0_0.index t 1 * 1024 + 1 * p.val = p.val; rw [(idx0 t).2]; omega
  exact (congrFun (V_main_arg0 m c) _).trans (congrArg _ e)

/-- Point `t`'s block of argument 1. -/
theorem ib1 (t : Fin cfg0.N) (r : Fin 2048) (p : Fin 704) : (iblk m c 1 t : Vec Ideal S1x2048x704 .bf16) (ix3 0 r p)
    = m (c.tc.loc main_arg1) (ix3 (blkOf t) (row t r) p) := by
  unfold iblk; rw [View.read_apply]
  have e : (((cfg0.win 1).blk t).view.emb (ix3 0 r p)) = ix3 (blkOf t) (row t r) p := by
    funext a; apply Fin.ext
    match a with
    | ⟨0, _⟩ => show win0_1.index t 0 * 1 + 1 * 0 = t.val / 2; rw [(idx1 t).1]; omega
    | ⟨1, _⟩ => show win0_1.index t 1 * 2048 + 1 * r.val = 2048 * (t.val % 2) + r.val; rw [(idx1 t).2.1]; omega
    | ⟨2, _⟩ => show win0_1.index t 2 * 704 + 1 * p.val = p.val; rw [(idx1 t).2.2]; omega
  exact (congrFun (V_main_arg1 m c) _).trans (congrArg _ e)

/-- What an even point leaves in the scratch. -/
theorem scr_at (s : Fin cfg0.N) (h0 : s.val % 2 = 0) :
    (outsAt0 m c s.val s.isLt).2 = k0_pay2 (iblk m c 0 s) (iblk m c 1 s) := by
  rw [outsAt0_A m c s h0 (by omega) (by omega)]
  dsimp only
  rw [scr_A]

/-- What an odd point leaves in its output block. -/
theorem outs_at (t s : Fin cfg0.N) (h1 : t.val % 2 = 1) (hs : s.val = t.val - 1) (z : Fin 1) (p : Fin 1024) (q : Fin 704) :
    (outsAt0 m c t.val t.isLt).1 (ix3 z p q)
      = total (m (c.tc.loc main_arg0)) (m (c.tc.loc main_arg1)) (ix3 (blkOf t) p q) := by
  obtain ⟨_, hk⟩ := s
  obtain rfl : _ = t.val - 1 := hs
  have h0 : ¬t.val % 2 = 0 := by omega
  have hN := ltN t
  have es := scr_at m c ⟨t.val - 1, hk⟩ (by dsimp only; omega)
  dsimp only at es
  rw [outsAt0_B m c t h0 h1 h1]
  dsimp only
  rw [out_B, es, blk_at]
  unfold total
  rw [Cert.Attn.sum_blocks 2 2048 4096 rfl, Fin.sum_univ_two]
  have eb : blkOf ⟨t.val - 1, hk⟩ = blkOf t := Fin.ext (by show (t.val - 1) / 2 = t.val / 2; omega)
  refine congrArg₂ (· + ·) (Finset.sum_congr rfl fun r _ => ?_) (Finset.sum_congr rfl fun r _ => ?_)
  · have er : row ⟨t.val - 1, hk⟩ r = ⟨2048 * (0 : Fin 2).val + r.val, by have := r.isLt; show 2048 * 0 + r.val < 4096; omega⟩ :=
      Fin.ext (by show 2048 * ((t.val - 1) % 2) + r.val = 2048 * 0 + r.val; omega)
    rw [ib0 m c, ib1 m c, eb, er]; rfl
  · have er : row t r = ⟨2048 * (1 : Fin 2).val + r.val, by have := r.isLt; show 2048 * 1 + r.val < 4096; omega⟩ :=
      Fin.ext (by show 2048 * (t.val % 2) + r.val = 2048 * 1 + r.val; omega)
    rw [ib0 m c, ib1 m c, er]; rfl

/-- What a point writes back is its block of the product. -/
theorem flushed_out (t : Fin cfg0.N) (hf : (cfg0.win 2).flush t = true) :
    (dats m 0 c).flushed 2 t = ((cfg0.win 2).blk t).view.read (Elt Ideal) (total (m (c.tc.loc main_arg0)) (m (c.tc.loc main_arg1))) := by
  have h1 := (flush0_2 t).mp hf
  rw [flushed2]
  funext j
  rw [View.read_apply]
  have j0 : (j 0).val < 1 := (j 0).isLt
  have j1 : (j 1).val < 1024 := (j 1).isLt
  have j2 : (j 2).val < 704 := (j 2).isLt
  have ej : (cfg0.win 2).cut (grid0.coords t) (outsAt0 m c t.val t.isLt).1 j
      = (outsAt0 m c t.val t.isLt).1 (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 2).blk t).view.emb j) = ix3 (blkOf t) ⟨(j 1).val, j1⟩ ⟨(j 2).val, j2⟩ := by
    funext a; apply Fin.ext
    match a with
    | ⟨0, _⟩ => show win0_2.index t 0 * 1 + 1 * (j 0).val = t.val / 2; rw [(idx2 t).1]; omega
    | ⟨1, _⟩ => show win0_2.index t 1 * 1024 + 1 * (j 1).val = (j 1).val; rw [(idx2 t).2.1]; omega
    | ⟨2, _⟩ => show win0_2.index t 2 * 704 + 1 * (j 2).val = (j 2).val; rw [(idx2 t).2.2]; omega
  exact ej.trans ((outs_at m c t ⟨t.val - 1, Nat.lt_of_le_of_lt (Nat.sub_le _ _) t.isLt⟩ h1 rfl _ _ _).trans (congrArg _ ee).symm)

/-- The result array ends holding the product. -/
theorem final_out : (dats m 0 c).arrAt 2 cfg0.N = total (m (c.tc.loc main_arg0)) (m (c.tc.loc main_arg1)) :=
  (dats m 0 c).arrAt_eq_of_cover 2 _ (flushed_out m c) fun i => by
    have i0 : (i 0).val < 4 := (i 0).isLt
    have i1 : (i 1).val < 1024 := (i 1).isLt
    have i2 : (i 2).val < 704 := (i 2).isLt
    let t : Fin cfg0.N := ⟨2 * (i 0).val + 1, Nat.lt_of_lt_of_eq (by omega) N_0.symm⟩
    have ht : t.val = 2 * (i 0).val + 1 := rfl
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1
                rw [(idx2 t).1]; omega
    | ⟨1, _⟩ => show win0_2.index t 1 * 1024 ≤ (i 1).val ∧ (i 1).val < win0_2.index t 1 * 1024 + 1024
                rw [(idx2 t).2.1]; omega
    | ⟨2, _⟩ => show win0_2.index t 2 * 704 ≤ (i 2).val ∧ (i 2).val < win0_2.index t 2 * 704 + 704
                rw [(idx2 t).2.2]; omega
end

section
open Cert.Reference4Ideal Cert.Reference4Ideal.Gen Cert.Reference4Ideal.Read
variable (x0 : FVec Ideal S4096x1024 .bf16) (x1 : FVec Ideal S4x4096x704 .bf16)

/-- The gradient's columns side by side. -/
theorem wide_at (n : Fin 4096) (j : Fin 4) (p : Fin 704) :
    val_main_v3 (F := Ideal) x1 (ix2 n ⟨704 * j.val + p.val, by omega⟩) = x1 (ix3 j n p) := by
  rw [val_main_v3_apply, val_main_v2_apply, val_main_v1_apply]
  refine congrArg x1 (funext fun a => Fin.ext ?_)
  match a with
  | ⟨0, _⟩ => show (n.val * 2816 + (704 * j.val + p.val)) / 704 % 4 = j.val; omega
  | ⟨1, _⟩ => show (n.val * 2816 + (704 * j.val + p.val)) / 2816 = n.val; omega
  | ⟨2, _⟩ => show (n.val * 2816 + (704 * j.val + p.val)) % 704 = p.val; omega

/-- The reference's result at an entry. -/
theorem ref_at (j : Fin 4) (p : Fin 1024) (q : Fin 704) :
    val_main_v10 (F := Ideal) x0 x1 (ix3 j p q) = total x0 x1 (ix3 j p q) := by
  rw [val_main_v10_apply, val_main_v9_apply, val_main_v8_apply, val_main_v7_apply, val_main_v6_apply]
  refine Finset.sum_congr rfl fun n _ => ?_
  rw [mul_comm]
  refine congrArg₂ (· * ·) ?_ ?_
  · rw [val_main_v0_apply]
    refine congrArg x0 (funext fun a => Fin.ext ?_)
    match a with
    | ⟨0, _⟩ => rfl
    | ⟨1, _⟩ => show ((p.val * 4 + j.val) * 704 + q.val) / 2816 = p.val; omega
  · refine (congrArg (val_main_v3 (F := Ideal) x1) (funext fun a => Fin.ext ?_)).trans (wide_at x1 n j q)
    match a with
    | ⟨0, _⟩ => rfl
    | ⟨1, _⟩ => show ((p.val * 4 + j.val) * 704 + q.val) % 2816 = 704 * j.val + q.val; omega

/-- The reference's result is the product. -/
theorem ref_out : val_main_v10 (F := Ideal) x0 x1 = total x0 x1 := funext fun i => by
  obtain ⟨j, p, q, rfl⟩ : ∃ (j : Fin 4) (p : Fin 1024) (q : Fin 704), i = ix3 j p q :=
    ⟨i 0, i 1, i 2, funext fun a => by match a with | ⟨0, _⟩ => rfl | ⟨1, _⟩ => rfl | ⟨2, _⟩ => rfl⟩
  exact ref_at x0 x1 j p q
end

theorem frame_ref (m : (ℓ : Loc Reference4Ideal.nD Reference4Ideal.τ Reference4Ideal.sig) → Buf (Elt Ideal) ℓ)
    (ρ : Dev Reference4Ideal.nD → PrngReg) :
    θ_run (Reference4Ideal.defs (F := Ideal)) (onTc (τ := Reference4Ideal.τ) (Reference4Ideal.main (F := Ideal))) ⟨m, fun _ => 0, ρ⟩ (fun r => (∀ c : Dev Reference4Ideal.nD,
      r.2.mem (c.tc.loc Reference4Ideal.main_arg0) = m (c.tc.loc Reference4Ideal.main_arg0)
      ∧ r.2.mem (c.tc.loc Reference4Ideal.main_arg1) = m (c.tc.loc Reference4Ideal.main_arg1))
      ∧ r.2.sem = fun _ => 0) :=
  (θ_run Reference4Ideal.defs _ _).mono (fun r h => ⟨fun c => (h c).2,
    sem_eq_zero_of_no_sems (by decide) r.2⟩) (Reference4Ideal.Value.run (F := Ideal) m ρ)

/-- From equal arguments the kernel's result is the reference's. -/
theorem algebraic : Cert.algebraic_Kernel4Ideal_Reference4Ideal := by
  intro m ρ m' ρ' hpre hargs
  refine ⟨fun c => total (m (c.tc.loc Kernel4Ideal.main_arg0))
      (m (c.tc.loc Kernel4Ideal.main_arg1)), ?_, ?_⟩
  · refine (θ_run Kernel4Ideal.defs _ _).mono (fun r h c => ?_) (Kernel4Ideal.Value.run_blocks (F := Ideal) m ρ)
    obtain ⟨h0, ha⟩ := h c
    exact ⟨h0.trans (final_out m c), ha⟩
  · refine (θ_run Reference4Ideal.defs _ _).mono (fun r h c => ?_) (Reference4Ideal.Value.run (F := Ideal) m' ρ')
    obtain ⟨h0, ha⟩ := h c
    obtain ⟨b0, b1⟩ := hargs c
    refine ⟨h0.trans ?_, ha⟩
    rw [Reference4Ideal.Read.val_main_v10_eq, b0, b1]
    exact ref_out _ _

end Cert.Grad4

end
-- ==== Proof.Grad5.lean ====
/- The input projection's weight gradient: the normalised rows transposed times the gradient of the projection. The kernel takes each block of columns in two halves of the rows and keeps the first
   half's product in scratch memory; its result and the reference's are the same sum over all the rows. -/
module

public import proofs.«01_k».proof.Proof.Soft
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Grad5

open Idealize.ShloMosaic Idealize.ShloMosaic.TcCoe Idealize.ShloMosaic.Tactic
open Idealize.SL.Sem

section
open Cert.Kernel5Ideal Cert.Kernel5Ideal.Gen Cert.Kernel5Ideal.Value

theorem hz : (![0, 0] : Fin 2 → Nat) = fun _ => 0 := funext fun a => by fin_cases a <;> rfl
theorem hz3 : (![0, 0, 0] : Fin 3 → Nat) = fun _ => 0 := funext fun a => by fin_cases a <;> rfl

/-- Column `p` of block `j` among all columns. -/
def col (j : Fin 4) (p : Fin 640) : Fin 2560 := ⟨640 * j.val + p.val, by omega⟩

section
variable {F : FTy → Type} [FloatOps F] (c : Dev nD) (i : grid0.Coords)
  (a2 : Memref sig .tc .vmem S2048x1024 .bf16) (h2 : a2.IsWhole)
  (a3 : Memref sig .tc .vmem S2048x640 .bf16) (h3 : a3.IsWhole)
  (a4 : Memref sig .tc .vmem S1x1024x640 .bf16) (h4 : a4.IsWhole)
  (a5 : Memref sig .tc .vmem S1024x640 .f32) (h5 : a5.IsWhole)
  (x0 : Vec F S2048x1024 .bf16) (x1 : Vec F S2048x640 .bf16)

/-- After the first half of the rows the scratch holds the half's product. -/
theorem scr_A (c0 : cond0_0 i) (c1 : ¬cond0_1 i) (c2 : ¬cond0_2 i) :
    sout0_A_0 c i a2 h2 a3 h3 a4 h4 a5 h5 c0 c1 c2 x0 x1 = k0_pay2 x0 x1 := by
  unfold sout0_A_0
  rw [View.read_writes_eq_canon _ _ _ (scover0_A_0 c i a2 h2 a3 h3 a4 h4 a5 h5 c0 c1 c2 x0 x1)]
  unfold kernelRun0_A
  dsimp only
  sl_unfold_words
  rw [View.canon_unit_zero hz]
  simp only [View.readAt_eq_ld, h2.read_unread, h3.read_unread, View.ld_unit_zero (S := S2048x1024) hz,
    View.ld_unit_zero (S := S2048x640) hz]

/-- After the second half the stored block is the sum of the halves' products. -/
theorem out_B (c0 : ¬cond0_0 i) (c1 : cond0_1 i) (c2 : cond0_2 i) (xs : Vec F S1024x640 .f32) :
    out0_B_2 c i a2 h2 a3 h3 a4 h4 a5 h5 c0 c1 c2 x0 x1 xs = k0_pay4 (k0_pay3 x0 x1 xs) := by
  unfold out0_B_2
  rw [View.read_writes_eq_canon _ _ _ (cover0_B_2 c i a2 h2 a3 h3 a4 h4 a5 h5 c0 c1 c2 x0 x1 xs)]
  unfold kernelRun0_B
  dsimp only
  sl_unfold_words
  rw [View.canon_unit_zero hz3]
  simp only [View.readAt_eq_ld, h2.read_unread, h3.read_unread, h5.read_unread, View.ld_unit_zero (S := S2048x1024) hz,
    View.ld_unit_zero (S := S2048x640) hz, View.ld_unit_zero (S := S1024x640) hz]
  exact congrArg k0_pay4 (View.readCov_unit_zero (S := S1024x640) _ hz _ _)
end

/-- One half's product at an entry. -/
theorem half_at (x0 : Vec Ideal S2048x1024 .bf16) (x1 : Vec Ideal S2048x640 .bf16) (p : Fin 1024) (q : Fin 640) :
    k0_pay1 x0 x1 (ix2 p q) = ∑ r : Fin 2048, x0 (ix2 r p) * x1 (ix2 r q) := by
  pointwise [k0_pay1]

/-- The stored block at an entry, from the two halves. -/
theorem blk_at (x0 y0 : Vec Ideal S2048x1024 .bf16) (x1 y1 : Vec Ideal S2048x640 .bf16) (z : Fin 1) (p : Fin 1024) (q : Fin 640) :
    k0_pay4 (k0_pay3 y0 y1 (k0_pay2 x0 x1)) (ix3 z p q) = (∑ r : Fin 2048, x0 (ix2 r p) * x1 (ix2 r q)) + ∑ r : Fin 2048, y0 (ix2 r p) * y1 (ix2 r q) := by
  pointwise [k0_pay4, k0_pay3, k0_pay2]
  rw [half_at, half_at]

theorem idx0 : ∀ t : Fin cfg0.N, win0_0.index t 0 = t.val % 2 ∧ win0_0.index t 1 = 0 :=
  (by decide +kernel : ∀ t : Fin grid0.N, _)

theorem idx1 : ∀ t : Fin cfg0.N, win0_1.index t 0 = t.val % 2 ∧ win0_1.index t 1 = t.val / 2 :=
  (by decide +kernel : ∀ t : Fin grid0.N, _)

theorem idx2 : ∀ t : Fin cfg0.N, win0_2.index t 0 = t.val / 2 ∧ win0_2.index t 1 = 0 ∧ win0_2.index t 2 = 0 :=
  (by decide +kernel : ∀ t : Fin grid0.N, _)

theorem ltN (t : Fin cfg0.N) : t.val < 8 := Nat.lt_of_lt_of_eq t.isLt N_0

/-- The block of columns that point `t` works on. -/
def blkOf (t : Fin cfg0.N) : Fin 4 := ⟨t.val / 2, by have := ltN t; omega⟩
/-- Row `r` of point `t`'s half. -/
def row (t : Fin cfg0.N) (r : Fin 2048) : Fin 4096 := ⟨2048 * (t.val % 2) + r.val, by omega⟩

variable (m : (ℓ : Loc nD τ sig) → Buf (Elt Ideal) ℓ) (c : Dev nD)

/-- The product's entry `(p, q)` in block `j`. -/
def total (a0 : FVec Ideal S4096x1024 .bf16) (a1 : FVec Ideal S4096x2560 .bf16) : S4x1024x640.Idx → EReal :=
  fun i => ∑ n : Fin 4096, a0 (ix2 n (i 1)) * a1 (ix2 n (col (i 0) (i 2)))

/-- Point `t`'s block of argument 0. -/
theorem ib0 (t : Fin cfg0.N) (r : Fin 2048) (p : Fin 1024) : (iblk m c 0 t : Vec Ideal S2048x1024 .bf16) (ix2 r p)
    = m (c.tc.loc main_arg0) (ix2 (row t r) p) := by
  unfold iblk; rw [View.read_apply]
  have e : (((cfg0.win 0).blk t).view.emb (ix2 r p)) = ix2 (row t r) p := by
    funext a; apply Fin.ext
    match a with
    | ⟨0, _⟩ => show win0_0.index t 0 * 2048 + 1 * r.val = 2048 * (t.val % 2) + r.val; rw [(idx0 t).1]; omega
    | ⟨1, _⟩ => show win0_0.index t 1 * 1024 + 1 * p.val = p.val; rw [(idx0 t).2]; omega
  exact (congrFun (V_main_arg0 m c) _).trans (congrArg _ e)

/-- Point `t`'s block of argument 1. -/
theorem ib1 (t : Fin cfg0.N) (r : Fin 2048) (p : Fin 640) : (iblk m c 1 t : Vec Ideal S2048x640 .bf16) (ix2 r p)
    = m (c.tc.loc main_arg1) (ix2 (row t r) (col (blkOf t) p)) := by
  unfold iblk; rw [View.read_apply]
  have e : (((cfg0.win 1).blk t).view.emb (ix2 r p)) = ix2 (row t r) (col (blkOf t) p) := by
    funext a; apply Fin.ext
    match a with
    | ⟨0, _⟩ => show win0_1.index t 0 * 2048 + 1 * r.val = 2048 * (t.val % 2) + r.val; rw [(idx1 t).1]; omega
    | ⟨1, _⟩ => show win0_1.index t 1 * 640 + 1 * p.val = 640 * (t.val / 2) + p.val; rw [(idx1 t).2]; omega
  exact (congrFun (V_main_arg1 m c) _).trans (congrArg _ e)

/-- What an even point leaves in the scratch. -/
theorem scr_at (s : Fin cfg0.N) (h0 : s.val % 2 = 0) :
    (outsAt0 m c s.val s.isLt).2 = k0_pay2 (iblk m c 0 s) (iblk m c 1 s) := by
  rw [outsAt0_A m c s h0 (by omega) (by omega)]
  dsimp only
  rw [scr_A]

/-- What an odd point leaves in its output block. -/
theorem outs_at (t s : Fin cfg0.N) (h1 : t.val % 2 = 1) (hs : s.val = t.val - 1) (z : Fin 1) (p : Fin 1024) (q : Fin 640) :
    (outsAt0 m c t.val t.isLt).1 (ix3 z p q)
      = total (m (c.tc.loc main_arg0)) (m (c.tc.loc main_arg1)) (ix3 (blkOf t) p q) := by
  obtain ⟨_, hk⟩ := s
  obtain rfl : _ = t.val - 1 := hs
  have h0 : ¬t.val % 2 = 0 := by omega
  have hN := ltN t
  have es := scr_at m c ⟨t.val - 1, hk⟩ (by dsimp only; omega)
  dsimp only at es
  rw [outsAt0_B m c t h0 h1 h1]
  dsimp only
  rw [out_B, es, blk_at]
  unfold total
  rw [Cert.Attn.sum_blocks 2 2048 4096 rfl, Fin.sum_univ_two]
  have eb : blkOf ⟨t.val - 1, hk⟩ = blkOf t := Fin.ext (by show (t.val - 1) / 2 = t.val / 2; omega)
  refine congrArg₂ (· + ·) (Finset.sum_congr rfl fun r _ => ?_) (Finset.sum_congr rfl fun r _ => ?_)
  · have er : row ⟨t.val - 1, hk⟩ r = ⟨2048 * (0 : Fin 2).val + r.val, by have := r.isLt; show 2048 * 0 + r.val < 4096; omega⟩ :=
      Fin.ext (by show 2048 * ((t.val - 1) % 2) + r.val = 2048 * 0 + r.val; omega)
    rw [ib0 m c, ib1 m c, eb, er]; rfl
  · have er : row t r = ⟨2048 * (1 : Fin 2).val + r.val, by have := r.isLt; show 2048 * 1 + r.val < 4096; omega⟩ :=
      Fin.ext (by show 2048 * (t.val % 2) + r.val = 2048 * 1 + r.val; omega)
    rw [ib0 m c, ib1 m c, er]; rfl

/-- What a point writes back is its block of the product. -/
theorem flushed_out (t : Fin cfg0.N) (hf : (cfg0.win 2).flush t = true) :
    (dats m 0 c).flushed 2 t = ((cfg0.win 2).blk t).view.read (Elt Ideal) (total (m (c.tc.loc main_arg0)) (m (c.tc.loc main_arg1))) := by
  have h1 := (flush0_2 t).mp hf
  rw [flushed2]
  funext j
  rw [View.read_apply]
  have j0 : (j 0).val < 1 := (j 0).isLt
  have j1 : (j 1).val < 1024 := (j 1).isLt
  have j2 : (j 2).val < 640 := (j 2).isLt
  have ej : (cfg0.win 2).cut (grid0.coords t) (outsAt0 m c t.val t.isLt).1 j
      = (outsAt0 m c t.val t.isLt).1 (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 2).blk t).view.emb j) = ix3 (blkOf t) ⟨(j 1).val, j1⟩ ⟨(j 2).val, j2⟩ := by
    funext a; apply Fin.ext
    match a with
    | ⟨0, _⟩ => show win0_2.index t 0 * 1 + 1 * (j 0).val = t.val / 2; rw [(idx2 t).1]; omega
    | ⟨1, _⟩ => show win0_2.index t 1 * 1024 + 1 * (j 1).val = (j 1).val; rw [(idx2 t).2.1]; omega
    | ⟨2, _⟩ => show win0_2.index t 2 * 640 + 1 * (j 2).val = (j 2).val; rw [(idx2 t).2.2]; omega
  exact ej.trans ((outs_at m c t ⟨t.val - 1, Nat.lt_of_le_of_lt (Nat.sub_le _ _) t.isLt⟩ h1 rfl _ _ _).trans (congrArg _ ee).symm)

/-- The result array ends holding the product. -/
theorem final_out : (dats m 0 c).arrAt 2 cfg0.N = total (m (c.tc.loc main_arg0)) (m (c.tc.loc main_arg1)) :=
  (dats m 0 c).arrAt_eq_of_cover 2 _ (flushed_out m c) fun i => by
    have i0 : (i 0).val < 4 := (i 0).isLt
    have i1 : (i 1).val < 1024 := (i 1).isLt
    have i2 : (i 2).val < 640 := (i 2).isLt
    let t : Fin cfg0.N := ⟨2 * (i 0).val + 1, Nat.lt_of_lt_of_eq (by omega) N_0.symm⟩
    have ht : t.val = 2 * (i 0).val + 1 := rfl
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1
                rw [(idx2 t).1]; omega
    | ⟨1, _⟩ => show win0_2.index t 1 * 1024 ≤ (i 1).val ∧ (i 1).val < win0_2.index t 1 * 1024 + 1024
                rw [(idx2 t).2.1]; omega
    | ⟨2, _⟩ => show win0_2.index t 2 * 640 ≤ (i 2).val ∧ (i 2).val < win0_2.index t 2 * 640 + 640
                rw [(idx2 t).2.2]; omega
end

section
open Cert.Reference5Ideal Cert.Reference5Ideal.Gen Cert.Reference5Ideal.Read
variable (x0 : FVec Ideal S4096x1024 .bf16) (x1 : FVec Ideal S4096x2560 .bf16)

/-- The reference's result at an entry. -/
theorem ref_at (j : Fin 4) (p : Fin 1024) (q : Fin 640) :
    val_main_v8 (F := Ideal) x0 x1 (ix3 j p q) = total x0 x1 (ix3 j p q) := by
  rw [val_main_v8_apply, val_main_v7_apply, val_main_v6_apply, val_main_v5_apply, val_main_v4_apply]
  refine Finset.sum_congr rfl fun n _ => ?_
  rw [mul_comm]
  refine congrArg₂ (· * ·) ?_ ?_
  · rw [val_main_v0_apply]
    refine congrArg x0 (funext fun a => Fin.ext ?_)
    match a with
    | ⟨0, _⟩ => rfl
    | ⟨1, _⟩ => show ((p.val * 4 + j.val) * 640 + q.val) / 2560 = p.val; omega
  · rw [val_main_v1_apply]
    refine congrArg x1 (funext fun a => Fin.ext ?_)
    match a with
    | ⟨0, _⟩ => rfl
    | ⟨1, _⟩ => show ((p.val * 4 + j.val) * 640 + q.val) % 2560 = 640 * j.val + q.val; omega

/-- The reference's result is the product. -/
theorem ref_out : val_main_v8 (F := Ideal) x0 x1 = total x0 x1 := funext fun i => by
  obtain ⟨j, p, q, rfl⟩ : ∃ (j : Fin 4) (p : Fin 1024) (q : Fin 640), i = ix3 j p q :=
    ⟨i 0, i 1, i 2, funext fun a => by match a with | ⟨0, _⟩ => rfl | ⟨1, _⟩ => rfl | ⟨2, _⟩ => rfl⟩
  exact ref_at x0 x1 j p q
end

theorem frame_ref (m : (ℓ : Loc Reference5Ideal.nD Reference5Ideal.τ Reference5Ideal.sig) → Buf (Elt Ideal) ℓ)
    (ρ : Dev Reference5Ideal.nD → PrngReg) :
    θ_run (Reference5Ideal.defs (F := Ideal)) (onTc (τ := Reference5Ideal.τ) (Reference5Ideal.main (F := Ideal))) ⟨m, fun _ => 0, ρ⟩ (fun r => (∀ c : Dev Reference5Ideal.nD,
      r.2.mem (c.tc.loc Reference5Ideal.main_arg0) = m (c.tc.loc Reference5Ideal.main_arg0)
      ∧ r.2.mem (c.tc.loc Reference5Ideal.main_arg1) = m (c.tc.loc Reference5Ideal.main_arg1))
      ∧ r.2.sem = fun _ => 0) :=
  (θ_run Reference5Ideal.defs _ _).mono (fun r h => ⟨fun c => (h c).2,
    sem_eq_zero_of_no_sems (by decide) r.2⟩) (Reference5Ideal.Value.run (F := Ideal) m ρ)

/-- From equal arguments the kernel's result is the reference's. -/
theorem algebraic : Cert.algebraic_Kernel5Ideal_Reference5Ideal := by
  intro m ρ m' ρ' hpre hargs
  refine ⟨fun c => total (m (c.tc.loc Kernel5Ideal.main_arg0))
      (m (c.tc.loc Kernel5Ideal.main_arg1)), ?_, ?_⟩
  · refine (θ_run Kernel5Ideal.defs _ _).mono (fun r h c => ?_) (Kernel5Ideal.Value.run_blocks (F := Ideal) m ρ)
    obtain ⟨h0, ha⟩ := h c
    exact ⟨h0.trans (final_out m c), ha⟩
  · refine (θ_run Reference5Ideal.defs _ _).mono (fun r h c => ?_) (Reference5Ideal.Value.run (F := Ideal) m' ρ')
    obtain ⟨h0, ha⟩ := h c
    obtain ⟨b0, b1⟩ := hargs c
    refine ⟨h0.trans ?_, ha⟩
    rw [Reference5Ideal.Read.val_main_v8_eq, b0, b1]
    exact ref_out _ _

end Cert.Grad5

end
-- ==== Proof.Grad6.lean ====
/- The output projection's weight gradient: the mixed rows transposed times the gradient of the rows. The kernel takes each block of columns in two halves of the rows and keeps the first
   half's product in scratch memory; its result and the reference's are the same sum over all the rows. -/
module

public import proofs.«01_k».proof.Proof.Soft
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Grad6

open Idealize.ShloMosaic Idealize.ShloMosaic.TcCoe Idealize.ShloMosaic.Tactic
open Idealize.SL.Sem

section
open Cert.Kernel6Ideal Cert.Kernel6Ideal.Gen Cert.Kernel6Ideal.Value

theorem hz : (![0, 0] : Fin 2 → Nat) = fun _ => 0 := funext fun a => by fin_cases a <;> rfl
theorem hz3 : (![0, 0, 0] : Fin 3 → Nat) = fun _ => 0 := funext fun a => by fin_cases a <;> rfl

/-- Column `p` of block `j` among all columns. -/
def col (j : Fin 4) (p : Fin 256) : Fin 1024 := ⟨256 * j.val + p.val, by omega⟩

section
variable {F : FTy → Type} [FloatOps F] (c : Dev nD) (i : grid0.Coords)
  (a2 : Memref sig .tc .vmem S2048x256 .bf16) (h2 : a2.IsWhole)
  (a3 : Memref sig .tc .vmem S2048x1024 .f32) (h3 : a3.IsWhole)
  (a4 : Memref sig .tc .vmem S1x256x1024 .bf16) (h4 : a4.IsWhole)
  (a5 : Memref sig .tc .vmem S256x1024 .f32) (h5 : a5.IsWhole)
  (x0 : Vec F S2048x256 .bf16) (x1 : Vec F S2048x1024 .f32)

/-- After the first half of the rows the scratch holds the half's product. -/
theorem scr_A (c0 : cond0_0 i) (c1 : ¬cond0_1 i) (c2 : ¬cond0_2 i) :
    sout0_A_0 c i a2 h2 a3 h3 a4 h4 a5 h5 c0 c1 c2 x0 x1 = k0_pay2 x0 x1 := by
  unfold sout0_A_0
  rw [View.read_writes_eq_canon _ _ _ (scover0_A_0 c i a2 h2 a3 h3 a4 h4 a5 h5 c0 c1 c2 x0 x1)]
  unfold kernelRun0_A
  dsimp only
  sl_unfold_words
  rw [View.canon_unit_zero hz]
  simp only [View.readAt_eq_ld, h2.read_unread, h3.read_unread, View.ld_unit_zero (S := S2048x256) hz,
    View.ld_unit_zero (S := S2048x1024) hz]

/-- After the second half the stored block is the sum of the halves' products. -/
theorem out_B (c0 : ¬cond0_0 i) (c1 : cond0_1 i) (c2 : cond0_2 i) (xs : Vec F S256x1024 .f32) :
    out0_B_2 c i a2 h2 a3 h3 a4 h4 a5 h5 c0 c1 c2 x0 x1 xs = k0_pay4 (k0_pay3 x0 x1 xs) := by
  unfold out0_B_2
  rw [View.read_writes_eq_canon _ _ _ (cover0_B_2 c i a2 h2 a3 h3 a4 h4 a5 h5 c0 c1 c2 x0 x1 xs)]
  unfold kernelRun0_B
  dsimp only
  sl_unfold_words
  rw [View.canon_unit_zero hz3]
  simp only [View.readAt_eq_ld, h2.read_unread, h3.read_unread, h5.read_unread, View.ld_unit_zero (S := S2048x256) hz,
    View.ld_unit_zero (S := S2048x1024) hz, View.ld_unit_zero (S := S256x1024) hz]
  exact congrArg k0_pay4 (View.readCov_unit_zero (S := S256x1024) _ hz _ _)
end

/-- One half's product at an entry. -/
theorem half_at (x0 : Vec Ideal S2048x256 .bf16) (x1 : Vec Ideal S2048x1024 .f32) (p : Fin 256) (q : Fin 1024) :
    k0_pay1 x0 x1 (ix2 p q) = ∑ r : Fin 2048, x0 (ix2 r p) * x1 (ix2 r q) := by
  pointwise [k0_pay1]

/-- The stored block at an entry, from the two halves. -/
theorem blk_at (x0 y0 : Vec Ideal S2048x256 .bf16) (x1 y1 : Vec Ideal S2048x1024 .f32) (z : Fin 1) (p : Fin 256) (q : Fin 1024) :
    k0_pay4 (k0_pay3 y0 y1 (k0_pay2 x0 x1)) (ix3 z p q) = (∑ r : Fin 2048, x0 (ix2 r p) * x1 (ix2 r q)) + ∑ r : Fin 2048, y0 (ix2 r p) * y1 (ix2 r q) := by
  pointwise [k0_pay4, k0_pay3, k0_pay2]
  rw [half_at, half_at]

theorem idx0 : ∀ t : Fin cfg0.N, win0_0.index t 0 = t.val % 2 ∧ win0_0.index t 1 = t.val / 2 :=
  (by decide +kernel : ∀ t : Fin grid0.N, _)

theorem idx1 : ∀ t : Fin cfg0.N, win0_1.index t 0 = t.val % 2 ∧ win0_1.index t 1 = 0 :=
  (by decide +kernel : ∀ t : Fin grid0.N, _)

theorem idx2 : ∀ t : Fin cfg0.N, win0_2.index t 0 = t.val / 2 ∧ win0_2.index t 1 = 0 ∧ win0_2.index t 2 = 0 :=
  (by decide +kernel : ∀ t : Fin grid0.N, _)

theorem ltN (t : Fin cfg0.N) : t.val < 8 := Nat.lt_of_lt_of_eq t.isLt N_0

/-- The block of columns that point `t` works on. -/
def blkOf (t : Fin cfg0.N) : Fin 4 := ⟨t.val / 2, by have := ltN t; omega⟩
/-- Row `r` of point `t`'s half. -/
def row (t : Fin cfg0.N) (r : Fin 2048) : Fin 4096 := ⟨2048 * (t.val % 2) + r.val, by omega⟩

variable (m : (ℓ : Loc nD τ sig) → Buf (Elt Ideal) ℓ) (c : Dev nD)

/-- The product's entry `(p, q)` in block `j`. -/
def total (a0 : FVec Ideal S4096x1024 .bf16) (a1 : FVec Ideal S4096x1024 .f32) : S4x256x1024.Idx → EReal :=
  fun i => ∑ n : Fin 4096, a0 (ix2 n (col (i 0) (i 1))) * a1 (ix2 n (i 2))

/-- Point `t`'s block of argument 0. -/
theorem ib0 (t : Fin cfg0.N) (r : Fin 2048) (p : Fin 256) : (iblk m c 0 t : Vec Ideal S2048x256 .bf16) (ix2 r p)
    = m (c.tc.loc main_arg0) (ix2 (row t r) (col (blkOf t) p)) := by
  unfold iblk; rw [View.read_apply]
  have e : (((cfg0.win 0).blk t).view.emb (ix2 r p)) = ix2 (row t r) (col (blkOf t) p) := by
    funext a; apply Fin.ext
    match a with
    | ⟨0, _⟩ => show win0_0.index t 0 * 2048 + 1 * r.val = 2048 * (t.val % 2) + r.val; rw [(idx0 t).1]; omega
    | ⟨1, _⟩ => show win0_0.index t 1 * 256 + 1 * p.val = 256 * (t.val / 2) + p.val; rw [(idx0 t).2]; omega
  exact (congrFun (V_main_arg0 m c) _).trans (congrArg _ e)

/-- Point `t`'s block of argument 1. -/
theorem ib1 (t : Fin cfg0.N) (r : Fin 2048) (p : Fin 1024) : (iblk m c 1 t : Vec Ideal S2048x1024 .f32) (ix2 r p)
    = m (c.tc.loc main_arg1) (ix2 (row t r) p) := by
  unfold iblk; rw [View.read_apply]
  have e : (((cfg0.win 1).blk t).view.emb (ix2 r p)) = ix2 (row t r) p := by
    funext a; apply Fin.ext
    match a with
    | ⟨0, _⟩ => show win0_1.index t 0 * 2048 + 1 * r.val = 2048 * (t.val % 2) + r.val; rw [(idx1 t).1]; omega
    | ⟨1, _⟩ => show win0_1.index t 1 * 1024 + 1 * p.val = p.val; rw [(idx1 t).2]; omega
  exact (congrFun (V_main_arg1 m c) _).trans (congrArg _ e)

/-- What an even point leaves in the scratch. -/
theorem scr_at (s : Fin cfg0.N) (h0 : s.val % 2 = 0) :
    (outsAt0 m c s.val s.isLt).2 = k0_pay2 (iblk m c 0 s) (iblk m c 1 s) := by
  rw [outsAt0_A m c s h0 (by omega) (by omega)]
  dsimp only
  rw [scr_A]

/-- What an odd point leaves in its output block. -/
theorem outs_at (t s : Fin cfg0.N) (h1 : t.val % 2 = 1) (hs : s.val = t.val - 1) (z : Fin 1) (p : Fin 256) (q : Fin 1024) :
    (outsAt0 m c t.val t.isLt).1 (ix3 z p q)
      = total (m (c.tc.loc main_arg0)) (m (c.tc.loc main_arg1)) (ix3 (blkOf t) p q) := by
  obtain ⟨_, hk⟩ := s
  obtain rfl : _ = t.val - 1 := hs
  have h0 : ¬t.val % 2 = 0 := by omega
  have hN := ltN t
  have es := scr_at m c ⟨t.val - 1, hk⟩ (by dsimp only; omega)
  dsimp only at es
  rw [outsAt0_B m c t h0 h1 h1]
  dsimp only
  rw [out_B, es, blk_at]
  unfold total
  rw [Cert.Attn.sum_blocks 2 2048 4096 rfl, Fin.sum_univ_two]
  have eb : blkOf ⟨t.val - 1, hk⟩ = blkOf t := Fin.ext (by show (t.val - 1) / 2 = t.val / 2; omega)
  refine congrArg₂ (· + ·) (Finset.sum_congr rfl fun r _ => ?_) (Finset.sum_congr rfl fun r _ => ?_)
  · have er : row ⟨t.val - 1, hk⟩ r = ⟨2048 * (0 : Fin 2).val + r.val, by have := r.isLt; show 2048 * 0 + r.val < 4096; omega⟩ :=
      Fin.ext (by show 2048 * ((t.val - 1) % 2) + r.val = 2048 * 0 + r.val; omega)
    rw [ib0 m c, ib1 m c, eb, er]; rfl
  · have er : row t r = ⟨2048 * (1 : Fin 2).val + r.val, by have := r.isLt; show 2048 * 1 + r.val < 4096; omega⟩ :=
      Fin.ext (by show 2048 * (t.val % 2) + r.val = 2048 * 1 + r.val; omega)
    rw [ib0 m c, ib1 m c, er]; rfl

/-- What a point writes back is its block of the product. -/
theorem flushed_out (t : Fin cfg0.N) (hf : (cfg0.win 2).flush t = true) :
    (dats m 0 c).flushed 2 t = ((cfg0.win 2).blk t).view.read (Elt Ideal) (total (m (c.tc.loc main_arg0)) (m (c.tc.loc main_arg1))) := by
  have h1 := (flush0_2 t).mp hf
  rw [flushed2]
  funext j
  rw [View.read_apply]
  have j0 : (j 0).val < 1 := (j 0).isLt
  have j1 : (j 1).val < 256 := (j 1).isLt
  have j2 : (j 2).val < 1024 := (j 2).isLt
  have ej : (cfg0.win 2).cut (grid0.coords t) (outsAt0 m c t.val t.isLt).1 j
      = (outsAt0 m c t.val t.isLt).1 (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 2).blk t).view.emb j) = ix3 (blkOf t) ⟨(j 1).val, j1⟩ ⟨(j 2).val, j2⟩ := by
    funext a; apply Fin.ext
    match a with
    | ⟨0, _⟩ => show win0_2.index t 0 * 1 + 1 * (j 0).val = t.val / 2; rw [(idx2 t).1]; omega
    | ⟨1, _⟩ => show win0_2.index t 1 * 256 + 1 * (j 1).val = (j 1).val; rw [(idx2 t).2.1]; omega
    | ⟨2, _⟩ => show win0_2.index t 2 * 1024 + 1 * (j 2).val = (j 2).val; rw [(idx2 t).2.2]; omega
  exact ej.trans ((outs_at m c t ⟨t.val - 1, Nat.lt_of_le_of_lt (Nat.sub_le _ _) t.isLt⟩ h1 rfl _ _ _).trans (congrArg _ ee).symm)

/-- The result array ends holding the product. -/
theorem final_out : (dats m 0 c).arrAt 2 cfg0.N = total (m (c.tc.loc main_arg0)) (m (c.tc.loc main_arg1)) :=
  (dats m 0 c).arrAt_eq_of_cover 2 _ (flushed_out m c) fun i => by
    have i0 : (i 0).val < 4 := (i 0).isLt
    have i1 : (i 1).val < 256 := (i 1).isLt
    have i2 : (i 2).val < 1024 := (i 2).isLt
    let t : Fin cfg0.N := ⟨2 * (i 0).val + 1, Nat.lt_of_lt_of_eq (by omega) N_0.symm⟩
    have ht : t.val = 2 * (i 0).val + 1 := rfl
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1
                rw [(idx2 t).1]; omega
    | ⟨1, _⟩ => show win0_2.index t 1 * 256 ≤ (i 1).val ∧ (i 1).val < win0_2.index t 1 * 256 + 256
                rw [(idx2 t).2.1]; omega
    | ⟨2, _⟩ => show win0_2.index t 2 * 1024 ≤ (i 2).val ∧ (i 2).val < win0_2.index t 2 * 1024 + 1024
                rw [(idx2 t).2.2]; omega
end

section
open Cert.Reference6Ideal Cert.Reference6Ideal.Gen Cert.Reference6Ideal.Read
variable (x0 : FVec Ideal S4096x1024 .bf16) (x1 : FVec Ideal S4096x1024 .f32)

/-- The reference's result at an entry. -/
theorem ref_at (j : Fin 4) (p : Fin 256) (q : Fin 1024) :
    val_main_v6 (F := Ideal) x0 x1 (ix3 j p q) = total x0 x1 (ix3 j p q) := by
  rw [val_main_v6_apply, val_main_v5_apply, val_main_v4_apply, val_main_v3_apply]
  refine Finset.sum_congr rfl fun n _ => ?_
  rw [mul_comm]
  refine congrArg₂ (· * ·) ?_ (congrArg x1 (funext fun a => Fin.ext ?_))
  · rw [val_main_v0_apply]
    refine congrArg x0 (funext fun a => Fin.ext ?_)
    match a with
    | ⟨0, _⟩ => rfl
    | ⟨1, _⟩ => show ((j.val * 256 + p.val) * 1024 + q.val) / 1024 = 256 * j.val + p.val; omega
  · match a with
    | ⟨0, _⟩ => rfl
    | ⟨1, _⟩ => show ((j.val * 256 + p.val) * 1024 + q.val) % 1024 = q.val; omega

/-- The reference's result is the product. -/
theorem ref_out : val_main_v6 (F := Ideal) x0 x1 = total x0 x1 := funext fun i => by
  obtain ⟨j, p, q, rfl⟩ : ∃ (j : Fin 4) (p : Fin 256) (q : Fin 1024), i = ix3 j p q :=
    ⟨i 0, i 1, i 2, funext fun a => by match a with | ⟨0, _⟩ => rfl | ⟨1, _⟩ => rfl | ⟨2, _⟩ => rfl⟩
  exact ref_at x0 x1 j p q
end

theorem frame_ref (m : (ℓ : Loc Reference6Ideal.nD Reference6Ideal.τ Reference6Ideal.sig) → Buf (Elt Ideal) ℓ)
    (ρ : Dev Reference6Ideal.nD → PrngReg) :
    θ_run (Reference6Ideal.defs (F := Ideal)) (onTc (τ := Reference6Ideal.τ) (Reference6Ideal.main (F := Ideal))) ⟨m, fun _ => 0, ρ⟩ (fun r => (∀ c : Dev Reference6Ideal.nD,
      r.2.mem (c.tc.loc Reference6Ideal.main_arg0) = m (c.tc.loc Reference6Ideal.main_arg0)
      ∧ r.2.mem (c.tc.loc Reference6Ideal.main_arg1) = m (c.tc.loc Reference6Ideal.main_arg1))
      ∧ r.2.sem = fun _ => 0) :=
  (θ_run Reference6Ideal.defs _ _).mono (fun r h => ⟨fun c => (h c).2,
    sem_eq_zero_of_no_sems (by decide) r.2⟩) (Reference6Ideal.Value.run (F := Ideal) m ρ)

/-- From equal arguments the kernel's result is the reference's. -/
theorem algebraic : Cert.algebraic_Kernel6Ideal_Reference6Ideal := by
  intro m ρ m' ρ' hpre hargs
  refine ⟨fun c => total (m (c.tc.loc Kernel6Ideal.main_arg0))
      (m (c.tc.loc Kernel6Ideal.main_arg1)), ?_, ?_⟩
  · refine (θ_run Kernel6Ideal.defs _ _).mono (fun r h c => ?_) (Kernel6Ideal.Value.run_blocks (F := Ideal) m ρ)
    obtain ⟨h0, ha⟩ := h c
    exact ⟨h0.trans (final_out m c), ha⟩
  · refine (θ_run Reference6Ideal.defs _ _).mono (fun r h c => ?_) (Reference6Ideal.Value.run (F := Ideal) m' ρ')
    obtain ⟨h0, ha⟩ := h c
    obtain ⟨b0, b1⟩ := hargs c
    refine ⟨h0.trans ?_, ha⟩
    rw [Reference6Ideal.Read.val_main_v6_eq, b0, b1]
    exact ref_out _ _

end Cert.Grad6

end
-- ==== Proof.Norm.lean ====
/- The row norm and the gated activation on the extended reals, as the forward kernels and their references both read. -/
module

public import proofs.«01_k».proof.Proof.FfnMath

@[expose] public section

noncomputable section

namespace Cert.Norm

open Idealize.ShloMosaic

/-- A row divided by its root mean square, times the weight. -/
def nr (x w : Fin 1024 → EReal) (k : Fin 1024) : EReal :=
  x k * Ideal.rsqrt (Ideal.div (∑ k', x k' * x k') (Ideal.ofBits .f32 0x44800000#32) + Ideal.ofBits .f32 0x358637BD#32) * w k

/-- The gated activation's factor, as the references write it. -/
def lg (z : EReal) : EReal := Ideal.div (Ideal.ofBits .f32 0x3F800000#32) (Ideal.ofBits .f32 0x3F800000#32 + Ideal.exp (-z))

/-- The half hyperbolic tangent of the kernels is that factor, at the infinities too. -/
theorem tanh_lg (z : EReal) :
    Ideal.ofBits .f32 0x3F000000#32 * Ideal.tanh (Ideal.ofBits .f32 0x3F000000#32 * z) + Ideal.ofBits .f32 0x3F000000#32 = lg z := by
  unfold lg
  rw [Cert.Ffn.half_w, Cert.Ffn.one_w]
  induction z using EReal.rec with
  | bot =>
    rw [EReal.coe_mul_bot_of_pos (by norm_num), EReal.neg_bot]
    show ((1 / 2 : ℝ) : EReal) * (-1) + ((1 / 2 : ℝ) : EReal) = Ideal.div ((1 : ℝ) : EReal) (((1 : ℝ) : EReal) + ⊤)
    rw [EReal.coe_add_top]
    unfold Ideal.div
    rw [if_neg (by simp), EReal.inv_top, mul_zero, show (-1 : EReal) = ((-1 : ℝ) : EReal) by simp, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div ((1 : ℝ) : EReal) (((1 : ℝ) : EReal) + 0)
    rw [add_zero, mul_one, Cert.Ffn.div_real _ one_ne_zero, ← EReal.coe_add]
    norm_num
  | coe r =>
    rw [← EReal.coe_mul, Cert.Ffn.tanh_real, ← EReal.coe_mul, ← EReal.coe_add, Cert.Ffn.sg_tanh, ← EReal.coe_neg]
    show _ = Ideal.div ((1 : ℝ) : EReal) (((1 : ℝ) : EReal) + ((Real.exp (-r) : ℝ) : EReal))
    rw [← EReal.coe_add, Cert.Ffn.div_real _ (by have := Real.exp_pos (-r); positivity)]
    rfl

/-- The mean square of a row, with the small constant. -/
def ms (x : Fin 1024 → EReal) : EReal :=
  Ideal.div (∑ k', x k' * x k') (Ideal.ofBits .f32 0x44800000#32) + Ideal.ofBits .f32 0x358637BD#32
/-- Its reciprocal root. -/
def rs (x : Fin 1024 → EReal) : EReal := Ideal.rsqrt (ms x)

/-- The gradient of a row through the norm, with the residual's, as the kernels write it. -/
def kdx (x w t d : Fin 1024 → EReal) (k : Fin 1024) : EReal :=
  d k + rs x * (t k * w k) - x k * (rs x * rs x * rs x) * Ideal.div (∑ k', t k' * w k' * x k') (Ideal.ofBits .f32 0x44800000#32)
/-- What a row adds to the norm weight's gradient. -/
def kdw (x t : Fin 1024 → EReal) (k : Fin 1024) : EReal := t k * x k * rs x

/-- The gradient of the mean square, as differentiation writes it. -/
def ct (x w t : Fin 1024 → EReal) : EReal :=
  Ideal.div ((∑ k', x k' * (t k' * w k')) * (Ideal.ofBits .f32 0xBF000000#32 * Ideal.div (rs x) (ms x))) (Ideal.ofBits .f32 0x44800000#32)

/-- A square is not negative. -/
theorem sq_nonneg' (z : EReal) : 0 ≤ z * z := by
  induction z using EReal.rec with
  | bot => simp
  | top => simp
  | coe r => rw [← EReal.coe_mul]; exact EReal.coe_nonneg.mpr (mul_self_nonneg r)

/-- A row with an infinite entry has an infinite mean square. -/
theorem ms_top (x : Fin 1024 → EReal) (k : Fin 1024) (h : x k = ⊤ ∨ x k = ⊥) : ms x = ⊤ := by
  have hs : ∑ k', x k' * x k' = ⊤ := by
    have h1 : x k * x k ≤ ∑ k', x k' * x k' :=
      Finset.single_le_sum (f := fun k' => x k' * x k') (fun i _ => sq_nonneg' (x i)) (Finset.mem_univ k)
    have h2 : x k * x k = ⊤ := by rcases h with h | h <;> rw [h] <;> simp
    exact top_le_iff.mp (h2 ▸ h1)
  unfold ms
  rw [hs, Cert.Ffn.width_w, Cert.Ffn.eps_w]
  unfold Ideal.div
  rw [if_neg (by norm_num), ← EReal.coe_inv, EReal.top_mul_coe_of_pos (by norm_num), EReal.top_add_coe]

/-- A value times a number, twice. -/
theorem twice (s : EReal) (b : ℝ) : s * (b : EReal) + s * (b : EReal) = s * ((2 * b : ℝ) : EReal) := by
  have h : ∀ y : EReal, y + y = y * ((2 : ℝ) : EReal) := fun y => by
    induction y using EReal.rec with
    | bot => rw [EReal.bot_mul_coe_of_pos (by norm_num)]; rfl
    | top => rw [EReal.top_mul_coe_of_pos (by norm_num)]; rfl
    | coe r => rw [← EReal.coe_add, ← EReal.coe_mul, mul_two]
  rw [h, mul_assoc, ← EReal.coe_mul, mul_comm b 2]

/-- The kernels' closed form is what differentiation writes, for every value of the arguments. -/
theorem kdx_eq (x w t d : Fin 1024 → EReal) (k : Fin 1024) :
    kdx x w t d k = d k + (t k * w k * rs x + x k * ct x w t + ct x w t * x k) := by
  have hS : ∑ k', t k' * w k' * x k' = ∑ k', x k' * (t k' * w k') := Finset.sum_congr rfl fun k' _ => mul_comm _ _
  unfold kdx
  rw [hS, sub_eq_add_neg, add_assoc, add_assoc, mul_comm (rs x) (t k * w k)]
  refine congrArg (d k + ·) (congrArg (t k * w k * rs x + ·) ?_)
  unfold ct
  generalize (∑ k', x k' * (t k' * w k')) = S
  have wd : (1024 : ℝ) ≠ 0 := by norm_num
  have dv : ∀ y : EReal, Ideal.div y (Ideal.ofBits .f32 0x44800000#32) = y * (((1024 : ℝ)⁻¹ : ℝ) : EReal) := fun y => by
    rw [Cert.Ffn.width_w]
    unfold Ideal.div
    rw [if_neg (by norm_num), ← EReal.coe_inv]
  rw [dv, dv]
  by_cases hx : ∃ k', x k' = ⊤ ∨ x k' = ⊥
  · obtain ⟨k', hk⟩ := hx
    have hm := ms_top x k' hk
    have hr : rs x = 0 := by unfold rs; rw [hm]; rfl
    rw [hr, hm]
    have : Ideal.div 0 ⊤ = 0 := by unfold Ideal.div; rw [if_neg (by simp), zero_mul]
    rw [this]
    simp
  · have hx' : ∀ k', ∃ r : ℝ, x k' = (r : EReal) := fun k' => by
      have h1 := not_exists.mp hx k'
      rw [not_or] at h1
      exact ⟨(x k').toReal, (EReal.coe_toReal h1.1 h1.2).symm⟩
    choose X hX using hx'
    have hm : ms x = (((∑ k', X k' * X k') / 1024 + Cert.Ffn.eps : ℝ) : EReal) := by
      unfold ms
      simp only [hX, Cert.Ffn.width_w, Cert.Ffn.eps_w, ← EReal.coe_mul, Cert.Attn.coe_sum, Cert.Ffn.div_real _ wd, ← EReal.coe_add]
    have hpos := Cert.Ffn.msq_pos X
    have hr : rs x = ((Cert.Ffn.rn X : ℝ) : EReal) := by unfold rs; rw [hm]; exact Cert.Ffn.rsqrt_real hpos
    have hm' : ms x = ((Cert.Ffn.msq X : ℝ) : EReal) := hm
    rw [hr, hm', hX k, Cert.Ffn.div_real _ hpos.ne', Cert.Ffn.neg_half_w, Cert.Ffn.rn_cube]
    generalize Cert.Ffn.rn X = r
    have e1 : (X k : EReal) * ((r : EReal) * (r : EReal) * (r : EReal)) * (S * (((1024 : ℝ)⁻¹ : ℝ) : EReal))
        = S * ((X k * (r * r * r) * (1024 : ℝ)⁻¹ : ℝ) : EReal) := by
      rw [EReal.coe_mul, EReal.coe_mul, EReal.coe_mul, EReal.coe_mul]; ac_rfl
    have e2 : (X k : EReal) * (S * (((-(1 / 2) : ℝ) : EReal) * ((r * r * r : ℝ) : EReal)) * (((1024 : ℝ)⁻¹ : ℝ) : EReal))
        = S * ((X k * (-(1 / 2) * (r * r * r)) * (1024 : ℝ)⁻¹ : ℝ) : EReal) := by
      generalize r * r * r = q
      rw [EReal.coe_mul, EReal.coe_mul (X k), EReal.coe_mul]; ac_rfl
    rw [e1, mul_comm _ (X k : EReal), e2, twice, ← mul_neg, ← EReal.coe_neg]
    congr 2
    ring

end Cert.Norm
-- ==== Proof.Row7.lean ====
/- The gradient through the input projection and its norm: the gradient of the projected rows times the transposed weights,
   carried through the norm in closed form, tile by tile in the kernel, as differentiation writes it in the reference. The
   norm weight's gradient is summed over the tiles. -/
module

public import proofs.«01_k».proof.Proof.Norm
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row7

open Idealize.ShloMosaic Idealize.ShloMosaic.TcCoe Idealize.ShloMosaic.Tactic
open Idealize.SL.Sem
open Cert.Norm (ms rs kdx kdw ct kdx_eq)

section
open Cert.Kernel7Ideal Cert.Kernel7Ideal.Gen Cert.Kernel7Ideal.Value

theorem hz : (![0, 0] : Fin 2 → Nat) = fun _ => 0 := funext fun a => by fin_cases a <;> rfl
theorem hz3 : (![0, 0, 0] : Fin 3 → Nat) = fun _ => 0 := funext fun a => by fin_cases a <;> rfl

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- Column `f` of block `j` among all projected columns. -/
def col (j : Fin 4) (f : Fin 640) : Fin 2560 := ⟨640 * j.val + f.val, by omega⟩

/-- Row `8 p + s`. -/
def tp (p : Fin 512) (s : Fin 8) : Fin 4096 := ⟨8 * p.val + s.val, by omega⟩

/-- Row `n`, for any number. -/
def tk (n : ℕ) : Fin 4096 := ⟨n % 4096, Nat.mod_lt _ (by norm_num)⟩

/-- Block `j` of an array of four. -/
def slab {a b : ℕ} {φ : EltTy} (X : Vec Ideal ⟨3, ![4, a, b]⟩ φ) (j : Fin 4) : Vec Ideal ⟨3, ![1, a, b]⟩ φ := fun i => X (ix3 j (i 1) (i 2))

/-- A load of block `j` is that block. -/
theorem ld_slab {a b : ℕ} {φ : EltTy} (X : Vec Ideal ⟨3, ![4, a, b]⟩ φ) (n : ℕ) (hn : n < 4)
    (inb : ∀ d, (![n, 0, 0] : Fin 3 → ℕ) d + (⟨3, ![1, a, b]⟩ : Shape).size d ≤ (⟨3, ![4, a, b]⟩ : Shape).size d) :
    View.ld X (Rect.unit (s := ⟨3, ![4, a, b]⟩) ![n, 0, 0] (⟨3, ![1, a, b]⟩ : Shape).size inb) = slab X ⟨n, hn⟩ := by
  funext x
  show X _ = X _
  congr 1; funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

/-- The columns of block `j`. -/
def cols (X : Vec Ideal S512x2560 .bf16) (j : Fin 4) : Vec Ideal S512x640 .bf16 := fun i => X (ix2 (i 0) (col j (i 1)))

theorem ldC (X : Vec Ideal S512x2560 .bf16) (n : ℕ) (hn : n < 4) (inb : ∀ d, (![0, 640 * n] : Fin 2 → ℕ) d + S512x640.size d ≤ S512x2560.size d) :
    View.ld X (Rect.unit (s := S512x2560) ![0, 640 * n] S512x640.size inb) = cols X ⟨n, hn⟩ := by
  funext x
  show X _ = X _
  congr 1; funext d; apply Fin.ext
  match d with
  | ⟨0, _⟩ => show 0 + 1 * (x 0).val = (x 0).val; omega
  | ⟨1, _⟩ => show 640 * n + 1 * (x 1).val = 640 * n + (x 1).val; omega
theorem ldW (X : Vec Ideal S4x1024x640 .bf16) (n : ℕ) (hn : n < 4) (inb : ∀ d, (![n, 0, 0] : Fin 3 → ℕ) d + S1x1024x640.size d ≤ S4x1024x640.size d) :
    View.ld X (Rect.unit (s := S4x1024x640) ![n, 0, 0] S1x1024x640.size inb) = slab X ⟨n, hn⟩ := ld_slab X n hn inb

section
variable (a0 : FVec Ideal S4096x2560 .bf16) (a1 : FVec Ideal S4x1024x640 .bf16) (a2 : FVec Ideal S4096x1024 .f32) (a3 : FVec Ideal S1x1024 .f32) (a4 : FVec Ideal S4096x1024 .f32)

/-- The gradient of a normalised row. -/
def gt (n : Fin 4096) (k : Fin 1024) : EReal := ∑ j : Fin 4, ∑ f : Fin 640, a0 (ix2 n (col j f)) * a1 (ix3 j k f)
/-- A row. -/
def gx (n : Fin 4096) (k : Fin 1024) : EReal := a2 (ix2 n k)

/-- The rows' gradient. -/
def totx : S4096x1024.Idx → EReal :=
  fun i => kdx (gx a2 (i 0)) (fun k => a3 (ix2 0 k)) (gt a0 a1 (i 0)) (gx a4 (i 0)) (i 1)
/-- The norm weight's gradient, the rows of each residue modulo 8 apart. -/
def totw : S8x1024.Idx → EReal :=
  fun i => ∑ q : Fin 512, kdw (gx a2 (tp q (i 0))) (gt a0 a1 (tp q (i 0))) (i 1)
end

/-- A tile of the normalised rows' gradient. -/
def gBlk (x0 : Vec Ideal S512x2560 .bf16) (x1 : Vec Ideal S4x1024x640 .bf16) : FVec Ideal S512x1024 .f32 :=
  k0_pay4 (cols x0 0) (slab x1 0) (cols x0 1) (slab x1 1) (cols x0 2) (slab x1 2) (cols x0 3) (slab x1 3)
/-- A tile of the rows' gradient. -/
def dxBlk (x0 : Vec Ideal S512x2560 .bf16) (x1 : Vec Ideal S4x1024x640 .bf16) (x2 : Vec Ideal S512x1024 .f32) (x3 : Vec Ideal S1x1024 .f32) (x4 : Vec Ideal S512x1024 .f32) : FVec Ideal S512x1024 .f32 :=
  k0_pay1 (gBlk x0 x1) x2 (k0_pay5 x2) x3 x4
/-- The norm weight's gradient with a tile added. -/
def dwBlk (x0 : Vec Ideal S512x2560 .bf16) (x1 : Vec Ideal S4x1024x640 .bf16) (x2 : Vec Ideal S512x1024 .f32) (acc : Vec Ideal S8x1024 .f32) : FVec Ideal S8x1024 .f32 :=
  k0_pay3 (gBlk x0 x1) x2 (k0_pay5 x2) acc

section
variable (c : Dev nD) (i : grid0.Coords) (a1 : Memref sig .tc .vmem S512x2560 .bf16) (h1 : a1.IsWhole) (a2 : Memref sig .tc .vmem S4x1024x640 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S8x1024 .f32) (h7 : a7.IsWhole)
  (x0 : Vec Ideal S512x2560 .bf16) (x1 : Vec Ideal S4x1024x640 .bf16) (x2 : Vec Ideal S512x1024 .f32) (x3 : Vec Ideal S1x1024 .f32) (x4 : Vec Ideal S512x1024 .f32) (xo6 : Vec Ideal S8x1024 .f32)

/-- At the first tile, the rows' gradient is the tile's. -/
theorem out_A_5 (hc : cond0_0 i) :
    out0_A_5 c i a1 h1 a2 h2 a3 h3 a4 h4 a5 h5 a6 h6 a7 h7 hc x0 x1 x2 x3 x4 = dxBlk x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1x1024) hz, View.ld_unit_zero (S := S8x1024) hz, shapeCast_self]
  rw [ldC x0 0 (by decide), ldC x0 1 (by decide), ldC x0 2 (by decide), ldC x0 3 (by decide),
    ldW x1 0 (by decide), ldW x1 1 (by decide), ldW x1 2 (by decide), ldW x1 3 (by decide)]
  rfl

/-- At the first tile, the norm weight's gradient is the tile's over zero. -/
theorem out_A_6 (hc : cond0_0 i) :
    out0_A_6 c i a1 h1 a2 h2 a3 h3 a4 h4 a5 h5 a6 h6 a7 h7 hc x0 x1 x2 x3 x4 = dwBlk x0 x1 x2 (k0_pay2 (F := Ideal)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, h5.read_unread, h7.read_unread,
    View.ld_unit_zero (S := S512x1024) hz, View.ld_unit_zero (S := S1x1024) hz, View.ld_unit_zero (S := S8x1024) hz, shapeCast_self]
  rw [ldC x0 0 (by decide), ldC x0 1 (by decide), ldC x0 2 (by decide), ldC x0 3 (by decide),
    ldW x1 0 (by decide), ldW x1 1 (by decide), ldW x1 2 (by decide), ldW x1 3 (by decide)]
  rfl

/-- At a later tile, the rows' gradient is the tile's. -/
theorem out_B_5 (hc : ¬cond0_0 i) :
    out0_B_5 c i a1 h1 a2 h2 a3 h3 a4 h4 a5 h5 a6 h6 a7 h7 hc x0 x1 x2 x3 x4 xo6 = dxBlk x0 x1 x2 x3 x4 := by
  unfold out0_B_5
  rw [View.read_writes_eq_canon _ _ _ (cover0_B_5 c i a1 h1 a2 h2 a3 h3 a4 h4 a5 h5 a6 h6 a7 h7 hc x0 x1 x2 x3 x4 xo6)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1x1024) hz, View.ld_unit_zero (S := S8x1024) hz, shapeCast_self]
  rw [ldC x0 0 (by decide), ldC x0 1 (by decide), ldC x0 2 (by decide), ldC x0 3 (by decide),
    ldW x1 0 (by decide), ldW x1 1 (by decide), ldW x1 2 (by decide), ldW x1 3 (by decide)]
  rfl

/-- At a later tile, the norm weight's gradient is the tile's over what the tiles before left. -/
theorem out_B_6 (hc : ¬cond0_0 i) :
    out0_B_6 c i a1 h1 a2 h2 a3 h3 a4 h4 a5 h5 a6 h6 a7 h7 hc x0 x1 x2 x3 x4 xo6 = dwBlk x0 x1 x2 xo6 := by
  unfold out0_B_6
  rw [View.read_writes_eq_canon _ _ _ (cover0_B_6 c i a1 h1 a2 h2 a3 h3 a4 h4 a5 h5 a6 h6 a7 h7 hc x0 x1 x2 x3 x4 xo6)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x1024) hz, View.ld_unit_zero (S := S1x1024) hz, View.ld_unit_zero (S := S8x1024) hz, shapeCast_self]
  rw [ldC x0 0 (by decide), ldC x0 1 (by decide), ldC x0 2 (by decide), ldC x0 3 (by decide),
    ldW x1 0 (by decide), ldW x1 1 (by decide), ldW x1 2 (by decide), ldW x1 3 (by decide)]
  rfl
end

section
variable (x0 : Vec Ideal S512x2560 .bf16) (x1 : Vec Ideal S4x1024x640 .bf16) (x2 : Vec Ideal S512x1024 .f32) (x3 : Vec Ideal S1x1024 .f32) (x4 : Vec Ideal S512x1024 .f32)

theorem g_at (r : Fin 512) (k : Fin 1024) : gBlk x0 x1 (ix2 r k) = ∑ j : Fin 4, ∑ f : Fin 640, x0 (ix2 r (col j f)) * x1 (ix3 j k f) := by
  rw [Fin.sum_univ_four]
  unfold gBlk
  pointwise [k0_pay4]
  rfl

theorem rs_at (r : Fin 512) (z : Fin 1) : k0_pay5 x2 (ix2 r z) = rs fun k => x2 (ix2 r k) := by
  pointwise [k0_pay5]
  rfl

/-- A tile of the rows' gradient at an entry. -/
theorem dx_at (T : Fin 512 → Fin 1024 → EReal) (hT : ∀ r k, gBlk x0 x1 (ix2 r k) = T r k) (r : Fin 512) (k : Fin 1024) :
    dxBlk x0 x1 x2 x3 x4 (ix2 r k) = kdx (fun k => x2 (ix2 r k)) (fun k => x3 (ix2 0 k)) (T r) (fun k => x4 (ix2 r k)) k := by
  unfold dxBlk
  generalize gBlk x0 x1 = G at hT
  pointwise [k0_pay1]
  simp only [rs_at, hT]
  rfl

/-- The norm weight's gradient grows by the rows of each residue modulo 8. -/
theorem dw_at (T : Fin 512 → Fin 1024 → EReal) (hT : ∀ r k, gBlk x0 x1 (ix2 r k) = T r k) (acc : Vec Ideal S8x1024 .f32) (s : Fin 8) (k : Fin 1024) :
    dwBlk x0 x1 x2 acc (ix2 s k) = acc (ix2 s k)
      + ∑ q : Fin 64, kdw (fun k => x2 (ix2 (⟨8 * q.val + s.val, by omega⟩ : Fin 512) k)) (T ⟨8 * q.val + s.val, by omega⟩) k := by
  unfold dwBlk
  generalize gBlk x0 x1 = G at hT
  pointwise [k0_pay3]
  refine congrArg (acc (ix2 s k) + ·) (Finset.sum_congr rfl fun q _ => ?_)
  have e : ∀ (u v : ℕ) (hu : u < 512) (hv : v < 512), u = v → (⟨u, hu⟩ : Fin 512) = ⟨v, hv⟩ := fun u v _ _ h => Fin.ext h
  rw [rs_at, hT, e (q.val * 8 + s.val) (8 * q.val + s.val) _ (by omega) (by omega)]
  unfold kdw
  rfl
end

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 ∧ win0_1.index t 2 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx3 : ∀ t : Fin cfg0.N, win0_3.index t 0 = 0 ∧ win0_3.index t 1 = 0 :=
  (by decide +kernel : ∀ t : Fin grid0.N, _)

theorem idx4 : ∀ t : Fin cfg0.N, win0_4.index t 0 = t.val ∧ win0_4.index t 1 = 0 :=
  (by decide +kernel : ∀ t : Fin grid0.N, _)

theorem idx5 : ∀ t : Fin cfg0.N, win0_5.index t 0 = t.val ∧ win0_5.index t 1 = 0 :=
  (by decide +kernel : ∀ t : Fin grid0.N, _)

theorem idx6 : ∀ t : Fin cfg0.N, win0_6.index t 0 = 0 ∧ win0_6.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 512) (p1 : Fin 2560) : (iblk m c 0 t : Vec Ideal S512x2560 .bf16) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 512 + 1 * p0.val = 512 * t.val + p0.val; rw [(idx0 t).1]; omega
    | ⟨1, _⟩ => show win0_0.index t 1 * 2560 + 1 * p1.val = p1.val; rw [(idx0 t).2]; omega
  exact (congrFun (V_main_arg0 m c) _).trans (congrArg _ e)

/-- Point `t`'s block of argument 1. -/
theorem ib1 (t : Fin cfg0.N) (p0 : Fin 4) (p1 : Fin 1024) (p2 : Fin 640) : (iblk m c 1 t : Vec Ideal S4x1024x640 .bf16) (ix3 p0 p1 p2)
    = m (c.tc.loc main_arg1) (ix3 p0 p1 p2) := by
  unfold iblk; rw [View.read_apply]
  have e : (((cfg0.win 1).blk t).view.emb (ix3 p0 p1 p2)) = ix3 p0 p1 p2 := by
    funext a; apply Fin.ext
    match a with
    | ⟨0, _⟩ => show win0_1.index t 0 * 4 + 1 * p0.val = p0.val; rw [(idx1 t).1]; omega
    | ⟨1, _⟩ => show win0_1.index t 1 * 1024 + 1 * p1.val = p1.val; rw [(idx1 t).2.1]; omega
    | ⟨2, _⟩ => show win0_1.index t 2 * 640 + 1 * p2.val = p2.val; rw [(idx1 t).2.2]; omega
  exact (congrFun (V_main_arg1 m c) _).trans (congrArg _ e)

/-- Point `t`'s block of argument 2. -/
theorem ib2 (t : Fin cfg0.N) (p0 : Fin 512) (p1 : Fin 1024) : (iblk m c 2 t : Vec Ideal S512x1024 .f32) (ix2 p0 p1)
    = m (c.tc.loc main_arg2) (ix2 (row t p0) p1) := by
  unfold iblk; rw [View.read_apply]
  have e : (((cfg0.win 2).blk t).view.emb (ix2 p0 p1)) = ix2 (row t p0) p1 := by
    funext a; apply Fin.ext
    match a with
    | ⟨0, _⟩ => show win0_2.index t 0 * 512 + 1 * p0.val = 512 * t.val + p0.val; rw [(idx2 t).1]; omega
    | ⟨1, _⟩ => show win0_2.index t 1 * 1024 + 1 * p1.val = p1.val; rw [(idx2 t).2]; omega
  exact (congrFun (V_main_arg2 m c) _).trans (congrArg _ e)

/-- Point `t`'s block of argument 3. -/
theorem ib3 (t : Fin cfg0.N) (p0 : Fin 1) (p1 : Fin 1024) : (iblk m c 3 t : Vec Ideal S1x1024 .f32) (ix2 p0 p1)
    = m (c.tc.loc main_arg3) (ix2 p0 p1) := by
  unfold iblk; rw [View.read_apply]
  have e : (((cfg0.win 3).blk t).view.emb (ix2 p0 p1)) = ix2 p0 p1 := by
    funext a; apply Fin.ext
    match a with
    | ⟨0, _⟩ => show win0_3.index t 0 * 1 + 1 * p0.val = p0.val; rw [(idx3 t).1]; omega
    | ⟨1, _⟩ => show win0_3.index t 1 * 1024 + 1 * p1.val = p1.val; rw [(idx3 t).2]; omega
  exact (congrFun (V_main_arg3 m c) _).trans (congrArg _ e)

/-- Point `t`'s block of argument 4. -/
theorem ib4 (t : Fin cfg0.N) (p0 : Fin 512) (p1 : Fin 1024) : (iblk m c 4 t : Vec Ideal S512x1024 .f32) (ix2 p0 p1)
    = m (c.tc.loc main_arg4) (ix2 (row t p0) p1) := by
  unfold iblk; rw [View.read_apply]
  have e : (((cfg0.win 4).blk t).view.emb (ix2 p0 p1)) = ix2 (row t p0) p1 := by
    funext a; apply Fin.ext
    match a with
    | ⟨0, _⟩ => show win0_4.index t 0 * 512 + 1 * p0.val = 512 * t.val + p0.val; rw [(idx4 t).1]; omega
    | ⟨1, _⟩ => show win0_4.index t 1 * 1024 + 1 * p1.val = p1.val; rw [(idx4 t).2]; omega
  exact (congrFun (V_main_arg4 m c) _).trans (congrArg _ e)

theorem g_pt (t : Fin cfg0.N) (r : Fin 512) (k : Fin 1024) : gBlk (iblk m c 0 t) (iblk m c 1 t) (ix2 r k) = gt (m (c.tc.loc main_arg0)) (m (c.tc.loc main_arg1)) (row t r) k := by
  rw [g_at]
  refine Finset.sum_congr rfl fun j _ => Finset.sum_congr rfl fun f _ => ?_
  rw [ib0, ib1]

theorem outs_dx (t : Fin cfg0.N) (r : Fin 512) (k : Fin 1024) :
    (outsAt0 m c t.val t.isLt).1 (ix2 r k) = totx (m (c.tc.loc main_arg0)) (m (c.tc.loc main_arg1)) (m (c.tc.loc main_arg2)) (m (c.tc.loc main_arg3)) (m (c.tc.loc main_arg4)) (ix2 (row t r) k) := by
  have e : (outsAt0 m c t.val t.isLt).1 = dxBlk (iblk m c 0 t) (iblk m c 1 t) (iblk m c 2 t) (iblk m c 3 t) (iblk m c 4 t) := by
    by_cases h0 : t.val % 8 = 0
    · rw [outsAt0_A m c t h0]; dsimp only; rw [out_A_5]
    · rw [outsAt0_B m c t h0]; dsimp only; rw [out_B_5]
  rw [e]
  refine (dx_at _ _ _ _ _ (fun r => gt (m (c.tc.loc main_arg0)) (m (c.tc.loc main_arg1)) (row t r)) (g_pt m c t) r k).trans ?_
  simp only [ib2, ib3, ib4]
  rfl

/-- What row `8 q + s` adds to the norm weight's gradient. -/
def add (n : ℕ) (k : Fin 1024) : EReal := kdw (gx (m (c.tc.loc main_arg2)) (tk n)) (gt (m (c.tc.loc main_arg0)) (m (c.tc.loc main_arg1)) (tk n)) k

theorem dw_pt (t : Fin cfg0.N) (acc : Vec Ideal S8x1024 .f32) (s : Fin 8) (k : Fin 1024) :
    dwBlk (iblk m c 0 t) (iblk m c 1 t) (iblk m c 2 t) acc (ix2 s k) = acc (ix2 s k) + ∑ q : Fin 64, add m c (8 * (64 * t.val + q.val) + s.val) k := by
  refine (dw_at _ _ _ (fun r => gt (m (c.tc.loc main_arg0)) (m (c.tc.loc main_arg1)) (row t r)) (g_pt m c t) acc s k).trans ?_
  refine congrArg (acc (ix2 s k) + ·) (Finset.sum_congr rfl fun q _ => ?_)
  have hN := ltN t
  have e : row t ⟨8 * q.val + s.val, by omega⟩ = tk (8 * (64 * t.val + q.val) + s.val) := Fin.ext (by
    show 512 * t.val + (8 * q.val + s.val) = (8 * (64 * t.val + q.val) + s.val) % 4096; omega)
  simp only [ib2, e]
  rfl

/-- After a point, the norm weight's gradient holds the rows of the points up to it. -/
theorem outs_dw (n : ℕ) (hn : n < cfg0.N) (s : Fin 8) (k : Fin 1024) :
    (outsAt0 m c n hn).2 (ix2 s k) = ∑ t ∈ Finset.range (n + 1), ∑ q : Fin 64, add m c (8 * (64 * t + q.val) + s.val) k := by
  have zero : ∀ i, (k0_pay2 : FVec Ideal S8x1024 .f32) i = 0 := fun i => Ideal.ofBits_zero_f32
  induction n with
  | zero =>
    rw [outsAt0_A m c ⟨0, hn⟩ rfl]
    dsimp only
    rw [out_A_6, dw_pt m c, zero, zero_add, Finset.sum_range_one]
  | succ n ih =>
    have hN : n + 1 < 8 := Nat.lt_of_lt_of_eq hn N_0
    rw [outsAt0_B m c ⟨n + 1, hn⟩ (by show ¬(n + 1) % 8 = 0; omega)]
    dsimp only
    rw [out_B_6, dw_pt m c]
    simp only [Nat.add_sub_cancel]
    rw [ih (Nat.lt_of_succ_lt hn), Finset.sum_range_succ _ (n + 1)]

/-- What a point writes back is its rows of the array. -/
theorem flushed_dx (t : Fin cfg0.N) (_ : (cfg0.win 5).flush t = true) :
    (dats m 0 c).flushed 5 t = ((cfg0.win 5).blk t).view.read (Elt Ideal) (totx (m (c.tc.loc main_arg0)) (m (c.tc.loc main_arg1)) (m (c.tc.loc main_arg2)) (m (c.tc.loc main_arg3)) (m (c.tc.loc main_arg4))) := by
  rw [flushed5]
  funext j
  rw [View.read_apply]
  have j0 : (j 0).val < 512 := (j 0).isLt
  have j1 : (j 1).val < 1024 := (j 1).isLt
  have ej : (cfg0.win 5).cut (grid0.coords t) ((outsAt0 m c t.val t.isLt).1) j
      = ((outsAt0 m c t.val t.isLt).1) (ix2 ⟨(j 0).val, j0⟩ ⟨(j 1).val, j1⟩) :=
    congrArg _ (funext fun a => Fin.ext (by match a with | ⟨0, _⟩ => rfl | ⟨1, _⟩ => rfl))
  have ee : (((cfg0.win 5).blk t).view.emb j) = ix2 (row t ⟨(j 0).val, j0⟩) ⟨(j 1).val, j1⟩ := by
    funext a; apply Fin.ext
    match a with
    | ⟨0, _⟩ => show win0_5.index t 0 * 512 + 1 * (j 0).val = 512 * t.val + (j 0).val; rw [(idx5 t).1]; omega
    | ⟨1, _⟩ => show win0_5.index t 1 * 1024 + 1 * (j 1).val = (j 1).val; rw [(idx5 t).2]; omega
  exact ej.trans ((outs_dx m c t _ _).trans (congrArg _ ee).symm)

/-- What the array ends holding. -/
theorem final_dx : (dats m 0 c).arrAt 5 cfg0.N = totx (m (c.tc.loc main_arg0)) (m (c.tc.loc main_arg1)) (m (c.tc.loc main_arg2)) (m (c.tc.loc main_arg3)) (m (c.tc.loc main_arg4)) :=
  (dats m 0 c).arrAt_eq_of_cover 5 _ (flushed_dx m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0).val ∧ (i 0).val < win0_5.index t 0 * 512 + 512
                rw [(idx5 t).1]; omega
    | ⟨1, _⟩ => show win0_5.index t 1 * 1024 ≤ (i 1).val ∧ (i 1).val < win0_5.index t 1 * 1024 + 1024
                rw [(idx5 t).2]; omega

/-- What the last point writes back is the norm weight's gradient. -/
theorem flushed_dw (t : Fin cfg0.N) (hf : (cfg0.win 6).flush t = true) :
    (dats m 0 c).flushed 6 t = ((cfg0.win 6).blk t).view.read (Elt Ideal) (totw (m (c.tc.loc main_arg0)) (m (c.tc.loc main_arg1)) (m (c.tc.loc main_arg2))) := by
  have h7 := (flush0_6 t).mp hf
  have hN := ltN t
  rw [flushed6]
  funext j
  rw [View.read_apply]
  have h0 : (j 0).val < 8 := (j 0).isLt
  have h1 : (j 1).val < 1024 := (j 1).isLt
  have ej : (cfg0.win 6).cut (grid0.coords t) (outsAt0 m c t.val t.isLt).2 j
      = (outsAt0 m c t.val t.isLt).2 (ix2 ⟨(j 0).val, h0⟩ ⟨(j 1).val, h1⟩) :=
    congrArg _ (funext fun a => Fin.ext (by match a with | ⟨0, _⟩ => rfl | ⟨1, _⟩ => rfl))
  have ee : (((cfg0.win 6).blk t).view.emb j) = ix2 ⟨(j 0).val, h0⟩ ⟨(j 1).val, h1⟩ := by
    funext a; apply Fin.ext
    match a with
    | ⟨0, _⟩ => show win0_6.index t 0 * 8 + 1 * (j 0).val = (j 0).val; rw [(idx6 t).1]; omega
    | ⟨1, _⟩ => show win0_6.index t 1 * 1024 + 1 * (j 1).val = (j 1).val; rw [(idx6 t).2]; omega
  refine ej.trans ((outs_dw m c t.val t.isLt _ _).trans ((congrArg (totw (m (c.tc.loc main_arg0)) (m (c.tc.loc main_arg1)) (m (c.tc.loc main_arg2))) ee).trans ?_).symm)
  have hsum : totw (m (c.tc.loc main_arg0)) (m (c.tc.loc main_arg1)) (m (c.tc.loc main_arg2)) (ix2 ⟨(j 0).val, h0⟩ ⟨(j 1).val, h1⟩) = ∑ q : Fin 512, add m c (8 * q.val + (j 0).val) ⟨(j 1).val, h1⟩ :=
    Finset.sum_congr rfl fun q _ => by
      have e : tp q ⟨(j 0).val, h0⟩ = tk (8 * q.val + (j 0).val) := Fin.ext (by
        show 8 * q.val + (j 0).val = (8 * q.val + (j 0).val) % 4096; omega)
      show kdw (gx _ (tp q ⟨(j 0).val, h0⟩)) (gt _ _ (tp q ⟨(j 0).val, h0⟩)) _ = _
      rw [e]
      rfl
  rw [hsum, Cert.Attn.sum_blocks 8 64 512 rfl, show t.val + 1 = 8 by omega, Finset.sum_range]

/-- What the norm weight's gradient ends holding. -/
theorem final_dw : (dats m 0 c).arrAt 6 cfg0.N = totw (m (c.tc.loc main_arg0)) (m (c.tc.loc main_arg1)) (m (c.tc.loc main_arg2)) :=
  (dats m 0 c).arrAt_eq_of_cover 6 _ (flushed_dw m c) fun i => by
    have i0 : (i 0).val < 8 := (i 0).isLt
    have i1 : (i 1).val < 1024 := (i 1).isLt
    let t : Fin cfg0.N := ⟨7, Nat.lt_of_lt_of_eq (by omega) N_0.symm⟩
    refine ⟨t, (flush0_6 t).mpr rfl, ?_⟩
    show i ∈ ((View.whole main_v0_1).slice (win0_6.rect t)).set
    rw [View.set_slice_whole, Rect.mem_set_unit]
    intro a
    match a with
    | ⟨0, _⟩ => show win0_6.index t 0 * 8 ≤ (i 0).val ∧ (i 0).val < win0_6.index t 0 * 8 + 8
                rw [(idx6 t).1]; omega
    | ⟨1, _⟩ => show win0_6.index t 1 * 1024 ≤ (i 1).val ∧ (i 1).val < win0_6.index t 1 * 1024 + 1024
                rw [(idx6 t).2]; omega
end

section
open Cert.Reference7Ideal Cert.Reference7Ideal.Gen Cert.Reference7Ideal.Read

theorem tp_div (r : Fin 4096) (p : Fin 512) (s : Fin 8) (hp : p.val = r.val / 8) (hs : s.val = r.val % 8) : tp p s = r :=
  Fin.ext (by show 8 * p.val + s.val = r.val; omega)

/-- The sum of the last axis, as the host's reduction takes it. -/
theorem sum2_at (s : FVec Ideal S512x8x1024 .f32) (p : Fin 512) (z : Fin 8) :
    Host.reduceAdd s (constant S_ .f32 0x00000000#32) reducesTo_S512x8x1024_S512x8_d2 h_S_ (ix2 p z) = ∑ k : Fin 1024, s (ix3 p z k) := by
  pointwise []

/-- The sum of the first axis. -/
theorem sum0_at (s : FVec Ideal S512x8x1024 .f32) (z : Fin 8) (k : Fin 1024) :
    Host.reduceAdd s (constant S_ .f32 0x00000000#32) reducesTo_S512x8x1024_S8x1024_d0 h_S_ (ix2 z k) = ∑ p : Fin 512, s (ix3 p z k) := by
  pointwise []

/-- The sum of a first axis of length one. -/
theorem sumOne_at (s : FVec Ideal S1x8x1024 .f32) (z : Fin 8) (k : Fin 1024) :
    Host.reduceAdd s (constant S_ .f32 0x00000000#32) reducesTo_S1x8x1024_S8x1024_d0 h_S_ (ix2 z k) = s (ix3 0 z k) := by
  pointwise []
  exact Fintype.sum_unique _

/-- The sum of a last axis of length one. -/
theorem sumLast_at (s : FVec Ideal S512x8x1 .f32) (p : Fin 512) (z : Fin 8) :
    Host.reduceAdd s (constant S_ .f32 0x00000000#32) reducesTo_S512x8x1_S512x8_d2 h_S_ (ix2 p z) = s (ix3 p z 0) := by
  pointwise []
  exact Fintype.sum_unique _

variable (x0 : FVec Ideal S4096x2560 .bf16) (x1 : FVec Ideal S4x1024x640 .bf16) (x2 : FVec Ideal S4096x1024 .f32) (x3 : FVec Ideal S1x1024 .f32) (x4 : FVec Ideal S4096x1024 .f32)

/-- The weight as a row. -/
abbrev wr (k : Fin 1024) : EReal := x3 (ix2 0 k)

theorem v1_at (p : Fin 512) (s : Fin 8) (k : Fin 1024) : val_main_v1 (F := Ideal) x2 (ix3 p s k) = gx x2 (tp p s) k := by
  unfold val_main_v1
  pointwise []
  refine congrArg x2 ?_
  funext a; apply Fin.ext
  match a with
  | ⟨0, _⟩ => show p.val * 8 + s.val = 8 * p.val + s.val; omega
  | ⟨1, _⟩ => rfl

theorem v8_at (p : Fin 512) (s : Fin 8) (z : Fin 1) : val_main_v8 (F := Ideal) x2 (ix3 p s z) = ms (gx x2 (tp p s)) := by
  have e : ∀ p s, val_main_v3 (F := Ideal) x2 (ix2 p s) = ∑ k, gx x2 (tp p s) k * gx x2 (tp p s) k := fun p s => by
    refine (sum2_at (val_main_v2 (F := Ideal) x2) p s).trans ?_
    simp only [val_main_v2_apply, v1_at]
    rfl
  unfold val_main_v8 val_main_v6 val_main_v7 val_main_v5 val_main_v4 val_main_cst_0 val_main_cst_1
  pointwise []
  simp only [e]
  rfl

theorem v9_at (p : Fin 512) (s : Fin 8) (z : Fin 1) : val_main_v9 (F := Ideal) x2 (ix3 p s z) = rs (gx x2 (tp p s)) := by
  unfold val_main_v9
  pointwise []
  rw [v8_at]
  rfl

theorem v12_at (p : Fin 512) (s : Fin 8) (z : Fin 1) : val_main_v12 (F := Ideal) x2 (ix3 p s z) = Ideal.ofBits .f32 0xBF000000#32 * Ideal.div (rs (gx x2 (tp p s))) (ms (gx x2 (tp p s))) := by
  unfold val_main_v12 val_main_v11 val_main_v10 val_main_cst_2
  pointwise []
  rw [v8_at, v9_at]

theorem v14_at (p : Fin 512) (s : Fin 8) (k : Fin 1024) : val_main_v14 (F := Ideal) x2 (ix3 p s k) = gx x2 (tp p s) k * rs (gx x2 (tp p s)) := by
  unfold val_main_v14 val_main_v13
  pointwise []
  rw [v1_at, v9_at]

theorem v29_at (p : Fin 512) (s : Fin 8) (k : Fin 1024) : val_main_v29 (F := Ideal) x3 (ix3 p s k) = wr x3 k := by
  unfold val_main_v29 val_main_v15 val_main_v0
  pointwise []

theorem v21_at (k : Fin 1024) (j : Fin 4) (f : Fin 640) : val_main_v21 (F := Ideal) x1 (ix2 k (col j f)) = x1 (ix3 j k f) := by
  unfold val_main_v21 val_main_v20 val_main_v19
  pointwise []
  refine congrArg x1 ?_
  funext a; apply Fin.ext
  have hf := f.isLt
  match a with
  | ⟨0, _⟩ => show (640 * j.val + f.val) / 640 = j.val; omega
  | ⟨1, _⟩ => rfl
  | ⟨2, _⟩ => show (640 * j.val + f.val) % 640 = f.val; omega

/-- The normalised rows' gradient. -/
theorem v24_at (r : Fin 4096) (k : Fin 1024) : val_main_v24 (F := Ideal) x0 x1 (ix2 r k) = gt x0 x1 r k := by
  unfold val_main_v24 val_main_v23
  pointwise []
  rw [Cert.Attn.sum_blocks 4 640 2560 rfl]
  refine Finset.sum_congr rfl fun j _ => Finset.sum_congr rfl fun f _ => ?_
  exact congrArg (x0 (ix2 r (col j f)) * ·) (v21_at x1 k j f)

theorem v25_at (p : Fin 512) (s : Fin 8) (k : Fin 1024) : val_main_v25 (F := Ideal) x0 x1 (ix3 p s k) = gt x0 x1 (tp p s) k := by
  unfold val_main_v25
  pointwise []
  refine (congrArg (val_main_v24 (F := Ideal) x0 x1) ?_).trans (v24_at x0 x1 (tp p s) k)
  funext a; apply Fin.ext
  match a with
  | ⟨0, _⟩ => show p.val * 8 + s.val = 8 * p.val + s.val; omega
  | ⟨1, _⟩ => rfl

/-- The norm weight's gradient. -/
theorem v31_at (s : Fin 8) (k : Fin 1024) : val_main_v31 (F := Ideal) x0 x1 x2 (ix2 s k) = totw x0 x1 x2 (ix2 s k) := by
  refine (sumOne_at (val_main_v28 (F := Ideal) x0 x1 x2) s k).trans ?_
  unfold val_main_v28
  pointwise []
  refine (sum0_at (val_main_v26 (F := Ideal) x0 x1 x2) s k).trans (Finset.sum_congr rfl fun p _ => ?_)
  rw [val_main_v26_apply, v14_at, v25_at]
  show gx x2 (tp p s) k * rs (gx x2 (tp p s)) * gt x0 x1 (tp p s) k = gt x0 x1 (tp p s) k * gx x2 (tp p s) k * rs (gx x2 (tp p s))
  rw [mul_comm, mul_assoc]

theorem v30_at (p : Fin 512) (s : Fin 8) (k : Fin 1024) : val_main_v30 (F := Ideal) x0 x1 x3 (ix3 p s k) = gt x0 x1 (tp p s) k * wr x3 k := by
  unfold val_main_v30
  pointwise []
  rw [v25_at, v29_at]

theorem v33_at (p : Fin 512) (s : Fin 8) : val_main_v33 (F := Ideal) x0 x1 x2 x3 (ix2 p s) = ∑ k, gx x2 (tp p s) k * (gt x0 x1 (tp p s) k * wr x3 k) := by
  refine (sum2_at (val_main_v32 (F := Ideal) x0 x1 x2 x3) p s).trans ?_
  simp only [val_main_v32_apply, v1_at, v30_at]
  rfl

theorem v39_at (p : Fin 512) (s : Fin 8) (z : Fin 1) : val_main_v39 (F := Ideal) x0 x1 x2 x3 (ix3 p s z) = ct (gx x2 (tp p s)) (wr x3) (gt x0 x1 (tp p s)) := by
  unfold val_main_v39 val_main_v38 val_main_v37 val_main_v34 val_main_cst_6
  pointwise []
  rw [v33_at, v12_at]
  rfl

theorem v41_at (p : Fin 512) (s : Fin 8) (k : Fin 1024) : val_main_v41 (F := Ideal) x0 x1 x2 x3 (ix3 p s k) = ct (gx x2 (tp p s)) (wr x3) (gt x0 x1 (tp p s)) := by
  unfold val_main_v41
  pointwise []
  exact (sumLast_at (val_main_v39 (F := Ideal) x0 x1 x2 x3) p s).trans (v39_at x0 x1 x2 x3 p s 0)

theorem v45_at (p : Fin 512) (s : Fin 8) (k : Fin 1024) : val_main_v45 (F := Ideal) x0 x1 x2 x3 (ix3 p s k)
    = gt x0 x1 (tp p s) k * wr x3 k * rs (gx x2 (tp p s)) + gx x2 (tp p s) k * ct (gx x2 (tp p s)) (wr x3) (gt x0 x1 (tp p s))
      + ct (gx x2 (tp p s)) (wr x3) (gt x0 x1 (tp p s)) * gx x2 (tp p s) k := by
  unfold val_main_v45 val_main_v44 val_main_v43 val_main_v42 val_main_v36 val_main_v35
  pointwise []
  rw [v1_at, v9_at, v30_at, v41_at]

/-- The reference's gradient of the rows. -/
theorem ref_dx : val_main_v47 (F := Ideal) x0 x1 x2 x3 x4 = totx x0 x1 x2 x3 x4 := funext fun i => by
  obtain ⟨r, k, rfl⟩ : ∃ (r : Fin 4096) (k : Fin 1024), i = ix2 r k :=
    ⟨i 0, i 1, funext fun a => by match a with | ⟨0, _⟩ => rfl | ⟨1, _⟩ => rfl⟩
  unfold val_main_v47 val_main_v46
  pointwise []
  refine (congrArg (x4 (ix2 r k) + ·) (v45_at x0 x1 x2 x3 _ _ _)).trans ?_
  rw [tp_div r _ _ rfl rfl]
  exact (kdx_eq (gx x2 r) (wr x3) (gt x0 x1 r) (gx x4 r) k).symm

/-- The reference's gradient of the norm weight. -/
theorem ref_dw : val_main_v31 (F := Ideal) x0 x1 x2 = totw x0 x1 x2 := funext fun i => by
  obtain ⟨r, k, rfl⟩ : ∃ (r : Fin 8) (k : Fin 1024), i = ix2 r k :=
    ⟨i 0, i 1, funext fun a => by match a with | ⟨0, _⟩ => rfl | ⟨1, _⟩ => rfl⟩
  exact v31_at x0 x1 x2 r k
end

theorem frame_ref (m : (ℓ : Loc Reference7Ideal.nD Reference7Ideal.τ Reference7Ideal.sig) → Buf (Elt Ideal) ℓ)
    (ρ : Dev Reference7Ideal.nD → PrngReg) :
    θ_run (Reference7Ideal.defs (F := Ideal)) (onTc (τ := Reference7Ideal.τ) (Reference7Ideal.main (F := Ideal))) ⟨m, fun _ => 0, ρ⟩ (fun r => (∀ c : Dev Reference7Ideal.nD,
      r.2.mem (c.tc.loc Reference7Ideal.main_arg0) = m (c.tc.loc Reference7Ideal.main_arg0)
      ∧ r.2.mem (c.tc.loc Reference7Ideal.main_arg1) = m (c.tc.loc Reference7Ideal.main_arg1)
      ∧ r.2.mem (c.tc.loc Reference7Ideal.main_arg2) = m (c.tc.loc Reference7Ideal.main_arg2)
      ∧ r.2.mem (c.tc.loc Reference7Ideal.main_arg3) = m (c.tc.loc Reference7Ideal.main_arg3)
      ∧ r.2.mem (c.tc.loc Reference7Ideal.main_arg4) = m (c.tc.loc Reference7Ideal.main_arg4))
      ∧ r.2.sem = fun _ => 0) :=
  (θ_run Reference7Ideal.defs _ _).mono (fun r h => ⟨fun c => (h c).2.2,
    sem_eq_zero_of_no_sems (by decide) r.2⟩) (Reference7Ideal.Value.run (F := Ideal) m ρ)

/-- From equal arguments the kernel's results are the reference's. -/
theorem algebraic : Cert.algebraic_Kernel7Ideal_Reference7Ideal := by
  intro m ρ m' ρ' hpre hargs
  refine ⟨fun c => totx (m (c.tc.loc Kernel7Ideal.main_arg0))
      (m (c.tc.loc Kernel7Ideal.main_arg1))
      (m (c.tc.loc Kernel7Ideal.main_arg2))
      (m (c.tc.loc Kernel7Ideal.main_arg3))
      (m (c.tc.loc Kernel7Ideal.main_arg4)), fun c => totw (m (c.tc.loc Kernel7Ideal.main_arg0))
      (m (c.tc.loc Kernel7Ideal.main_arg1))
      (m (c.tc.loc Kernel7Ideal.main_arg2)), ?_, ?_⟩
  · refine (θ_run Kernel7Ideal.defs _ _).mono (fun r h c => ?_) (Kernel7Ideal.Value.run_blocks (F := Ideal) m ρ)
    obtain ⟨h0, h1, ha⟩ := h c
    exact ⟨h0.trans (final_dx m c), h1.trans (final_dw m c), ha⟩
  · refine (θ_run Reference7Ideal.defs _ _).mono (fun r h c => ?_) (Reference7Ideal.Value.run (F := Ideal) m' ρ')
    obtain ⟨h0, h1, ha⟩ := h c
    obtain ⟨b0, b1, b2, b3, b4⟩ := hargs c
    refine ⟨h0.trans ?_, h1.trans ?_, ha⟩
    · refine (Reference7Ideal.Read.val_main_v47_eq m' c).trans ?_
      rw [b0, b1, b2, b3, b4]
      exact ref_dx _ _ _ _ _
    · refine (Reference7Ideal.Read.val_main_v31_eq _ _ _).trans ?_
      rw [b0, b1, b2]
      exact ref_dw _ _ _

end Cert.Row7

end
-- ==== Proof.Row8.lean ====
/- The gradient of the mixed rows through the output projection: the gradient of the rows times the transposed weights,
   tile by tile in the kernel, as one product in the reference. -/
module

public import proofs.«01_k».proof.Proof.Soft
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row8

open Idealize.ShloMosaic Idealize.ShloMosaic.TcCoe Idealize.ShloMosaic.Tactic
open Idealize.SL.Sem

section
open Cert.Kernel8Ideal Cert.Kernel8Ideal.Gen Cert.Kernel8Ideal.Value

theorem hz : (![0, 0] : Fin 2 → Nat) = fun _ => 0 := funext fun a => by fin_cases a <;> rfl
theorem hz3 : (![0, 0, 0] : Fin 3 → Nat) = fun _ => 0 := funext fun a => by fin_cases a <;> rfl

/-- The block a column lies in. -/
def hi (k : Fin 1024) : Fin 4 := ⟨k.val / 256, by omega⟩
/-- Its place there. -/
def lo (k : Fin 1024) : Fin 256 := ⟨k.val % 256, by omega⟩

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- The product's entries. -/
def total (a0 : FVec Ideal S4096x1024 .f32) (a1 : FVec Ideal S4x256x1024 .bf16) : S4096x1024.Idx → EReal :=
  fun i => ∑ k : Fin 1024, a0 (ix2 (i 0) k) * a1 (ix3 (hi (i 1)) (lo (i 1)) k)

theorem out_eq (x0 : Vec Ideal S512x1024 .f32) (x1 : Vec Ideal S4x256x1024 .bf16) : out0_2 x0 x1 = k0_pay1 x0 x1 := by
  unfold out0_2
  rw [View.canon_unit_zero hz, View.ld_unit_zero (S := S512x1024) hz, View.ld_unit_zero (S := S4x256x1024) hz3]

/-- A tile of the product at an entry. -/
theorem blk_at (x0 : Vec Ideal S512x1024 .f32) (x1 : Vec Ideal S4x256x1024 .bf16) (r : Fin 512) (q : Fin 1024) :
    k0_pay1 x0 x1 (ix2 r q) = ∑ k : Fin 1024, x0 (ix2 r k) * x1 (ix3 (hi q) (lo q) k) := by
  pointwise [k0_pay1]
  rfl

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 ∧ win0_1.index t 2 = 0 :=
  (by decide +kernel : ∀ t : Fin grid0.N, _)

theorem idx2 : ∀ t : Fin cfg0.N, win0_2.index t 0 = t.val ∧ win0_2.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 512) (p1 : Fin 1024) : (iblk m c 0 t : Vec Ideal S512x1024 .f32) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 512 + 1 * p0.val = 512 * t.val + p0.val; rw [(idx0 t).1]; omega
    | ⟨1, _⟩ => show win0_0.index t 1 * 1024 + 1 * p1.val = p1.val; rw [(idx0 t).2]; omega
  exact (congrFun (V_main_arg0 m c) _).trans (congrArg _ e)

/-- Point `t`'s block of argument 1. -/
theorem ib1 (t : Fin cfg0.N) (p0 : Fin 4) (p1 : Fin 256) (p2 : Fin 1024) : (iblk m c 1 t : Vec Ideal S4x256x1024 .bf16) (ix3 p0 p1 p2)
    = m (c.tc.loc main_arg1) (ix3 p0 p1 p2) := by
  unfold iblk; rw [View.read_apply]
  have e : (((cfg0.win 1).blk t).view.emb (ix3 p0 p1 p2)) = ix3 p0 p1 p2 := by
    funext a; apply Fin.ext
    match a with
    | ⟨0, _⟩ => show win0_1.index t 0 * 4 + 1 * p0.val = p0.val; rw [(idx1 t).1]; omega
    | ⟨1, _⟩ => show win0_1.index t 1 * 256 + 1 * p1.val = p1.val; rw [(idx1 t).2.1]; omega
    | ⟨2, _⟩ => show win0_1.index t 2 * 1024 + 1 * p2.val = p2.val; rw [(idx1 t).2.2]; omega
  exact (congrFun (V_main_arg1 m c) _).trans (congrArg _ e)

theorem out_at (t : Fin cfg0.N) (r : Fin 512) (q : Fin 1024) :
    out0_2 (iblk m c 0 t) (iblk m c 1 t) (ix2 r q) = total (m (c.tc.loc main_arg0)) (m (c.tc.loc main_arg1)) (ix2 (row t r) q) := by
  rw [out_eq, blk_at]
  refine Finset.sum_congr rfl fun k _ => ?_
  rw [ib0, ib1]; rfl

/-- What a point writes back is its rows of the array. -/
theorem flushed_out (t : Fin cfg0.N) (_ : (cfg0.win 2).flush t = true) :
    (dats m 0 c).flushed 2 t = ((cfg0.win 2).blk t).view.read (Elt Ideal) (total (m (c.tc.loc main_arg0)) (m (c.tc.loc main_arg1))) := by
  rw [flushed2]
  funext j
  rw [View.read_apply]
  have j0 : (j 0).val < 512 := (j 0).isLt
  have j1 : (j 1).val < 1024 := (j 1).isLt
  have ej : (cfg0.win 2).cut (grid0.coords t) (out0_2 (iblk m c 0 t) (iblk m c 1 t)) j
      = (out0_2 (iblk m c 0 t) (iblk m c 1 t)) (ix2 ⟨(j 0).val, j0⟩ ⟨(j 1).val, j1⟩) :=
    congrArg _ (funext fun a => Fin.ext (by match a with | ⟨0, _⟩ => rfl | ⟨1, _⟩ => rfl))
  have ee : (((cfg0.win 2).blk t).view.emb j) = ix2 (row t ⟨(j 0).val, j0⟩) ⟨(j 1).val, j1⟩ := by
    funext a; apply Fin.ext
    match a with
    | ⟨0, _⟩ => show win0_2.index t 0 * 512 + 1 * (j 0).val = 512 * t.val + (j 0).val; rw [(idx2 t).1]; omega
    | ⟨1, _⟩ => show win0_2.index t 1 * 1024 + 1 * (j 1).val = (j 1).val; rw [(idx2 t).2]; omega
  exact ej.trans ((out_at m c t _ _).trans (congrArg _ ee).symm)

/-- What the array ends holding. -/
theorem final_out : (dats m 0 c).arrAt 2 cfg0.N = total (m (c.tc.loc main_arg0)) (m (c.tc.loc main_arg1)) :=
  (dats m 0 c).arrAt_eq_of_cover 2 _ (flushed_out m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512
                rw [(idx2 t).1]; omega
    | ⟨1, _⟩ => show win0_2.index t 1 * 1024 ≤ (i 1).val ∧ (i 1).val < win0_2.index t 1 * 1024 + 1024
                rw [(idx2 t).2]; omega
end

section
open Cert.Reference8Ideal Cert.Reference8Ideal.Gen Cert.Reference8Ideal.Read

/-- The reference's result is the product. -/
theorem ref_out (x0 : FVec Ideal S4096x1024 .f32) (x1 : FVec Ideal S4x256x1024 .bf16) : val_main_v4 (F := Ideal) x0 x1 = total x0 x1 := funext fun i => by
  obtain ⟨n, q, rfl⟩ : ∃ (n : Fin 4096) (q : Fin 1024), i = ix2 n q :=
    ⟨i 0, i 1, funext fun a => by match a with | ⟨0, _⟩ => rfl | ⟨1, _⟩ => rfl⟩
  rw [val_main_v4_apply]
  refine Finset.sum_congr rfl fun k _ => ?_
  rw [val_main_v1_apply, val_main_v0_apply]
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => show (q.val * 1024 + k.val) / 262144 = q.val / 256; omega
    | ⟨1, _⟩ => show (q.val * 1024 + k.val) / 1024 % 256 = q.val % 256; omega
    | ⟨2, _⟩ => show (q.val * 1024 + k.val) % 1024 = k.val; omega
end

theorem frame_ref (m : (ℓ : Loc Reference8Ideal.nD Reference8Ideal.τ Reference8Ideal.sig) → Buf (Elt Ideal) ℓ)
    (ρ : Dev Reference8Ideal.nD → PrngReg) :
    θ_run (Reference8Ideal.defs (F := Ideal)) (onTc (τ := Reference8Ideal.τ) (Reference8Ideal.main (F := Ideal))) ⟨m, fun _ => 0, ρ⟩ (fun r => (∀ c : Dev Reference8Ideal.nD,
      r.2.mem (c.tc.loc Reference8Ideal.main_arg0) = m (c.tc.loc Reference8Ideal.main_arg0)
      ∧ r.2.mem (c.tc.loc Reference8Ideal.main_arg1) = m (c.tc.loc Reference8Ideal.main_arg1))
      ∧ r.2.sem = fun _ => 0) :=
  (θ_run Reference8Ideal.defs _ _).mono (fun r h => ⟨fun c => (h c).2,
    sem_eq_zero_of_no_sems (by decide) r.2⟩) (Reference8Ideal.Value.run (F := Ideal) m ρ)

/-- From equal arguments the kernel's results are the reference's. -/
theorem algebraic : Cert.algebraic_Kernel8Ideal_Reference8Ideal := by
  intro m ρ m' ρ' hpre hargs
  refine ⟨fun c => total (m (c.tc.loc Kernel8Ideal.main_arg0))
      (m (c.tc.loc Kernel8Ideal.main_arg1)), ?_, ?_⟩
  · refine (θ_run Kernel8Ideal.defs _ _).mono (fun r h c => ?_) (Kernel8Ideal.Value.run_blocks (F := Ideal) m ρ)
    obtain ⟨h0, ha⟩ := h c
    exact ⟨h0.trans (final_out m c), ha⟩
  · refine (θ_run Reference8Ideal.defs _ _).mono (fun r h c => ?_) (Reference8Ideal.Value.run (F := Ideal) m' ρ')
    obtain ⟨h0, ha⟩ := h c
    obtain ⟨b0, b1⟩ := hargs c
    refine ⟨h0.trans ?_, ha⟩
    · refine (Reference8Ideal.Read.val_main_v4_eq _ _).trans ?_
      rw [b0, b1]
      exact ref_out _ _

end Cert.Row8

end
-- ==== Proof.Row9.lean ====
/- The forward norm with the gate and up projections and the gated activation: tile by tile and block by block in the
   kernel, as two products in the reference. -/
module

public import proofs.«01_k».proof.Proof.Norm
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row9

open Idealize.ShloMosaic Idealize.ShloMosaic.TcCoe Idealize.ShloMosaic.Tactic
open Idealize.SL.Sem
open Cert.Norm (nr lg tanh_lg)

section
open Cert.Kernel9Ideal Cert.Kernel9Ideal.Gen Cert.Kernel9Ideal.Value

theorem hz : (![0, 0] : Fin 2 → Nat) = fun _ => 0 := funext fun a => by fin_cases a <;> rfl
theorem hz3 : (![0, 0, 0] : Fin 3 → Nat) = fun _ => 0 := funext fun a => by fin_cases a <;> rfl

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- Column `f` of block `j` among all hidden columns. -/
def col (j : Fin 4) (f : Fin 704) : Fin 2816 := ⟨704 * j.val + f.val, by omega⟩

/-- Block `j` of an array of four. -/
def slab {a b : ℕ} {φ : EltTy} (X : Vec Ideal ⟨3, ![4, a, b]⟩ φ) (j : Fin 4) : Vec Ideal ⟨3, ![1, a, b]⟩ φ := fun i => X (ix3 j (i 1) (i 2))

/-- A load of block `j` is that block. -/
theorem ld_slab {a b : ℕ} {φ : EltTy} (X : Vec Ideal ⟨3, ![4, a, b]⟩ φ) (n : ℕ) (hn : n < 4)
    (inb : ∀ d, (![n, 0, 0] : Fin 3 → ℕ) d + (⟨3, ![1, a, b]⟩ : Shape).size d ≤ (⟨3, ![4, a, b]⟩ : Shape).size d) :
    View.ld X (Rect.unit (s := ⟨3, ![4, a, b]⟩) ![n, 0, 0] (⟨3, ![1, a, b]⟩ : Shape).size inb) = slab X ⟨n, hn⟩ := by
  funext x
  show X _ = X _
  congr 1; funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

/-- The normalised rows of a tile. -/
theorem norm_at (x0 : Vec Ideal S512x1024 .f32) (x1 : Vec Ideal S1x1024 .f32) (r : Fin 512) (k : Fin 1024) :
    k0_pay6 x0 x1 (ix2 r k) = nr (fun k => x0 (ix2 r k)) (fun k => x1 (ix2 0 k)) k := by
  pointwise [k0_pay6]
  rfl

/-- The normalised rows. -/
def totalN (a0 : FVec Ideal S4096x1024 .f32) (a1 : FVec Ideal S1x1024 .f32) : S4096x1024.Idx → EReal :=
  fun i => nr (fun k => a0 (ix2 (i 0) k)) (fun k => a1 (ix2 0 k)) (i 1)

/-- The entries of one projection, block by block. -/
def totalP (a0 : FVec Ideal S4096x1024 .f32) (a1 : FVec Ideal S1x1024 .f32) (w : FVec Ideal S4x1024x704 .bf16) : S4x4096x704.Idx → EReal :=
  fun i => ∑ k : Fin 1024, nr (fun k => a0 (ix2 (i 1) k)) (fun k => a1 (ix2 0 k)) k * w (ix3 (i 0) k (i 2))

/-- The entries of the activation. -/
def totalA (a0 : FVec Ideal S4096x1024 .f32) (a1 : FVec Ideal S1x1024 .f32) (w u : FVec Ideal S4x1024x704 .bf16) : S4x4096x704.Idx → EReal :=
  fun i => totalP a0 a1 w i * lg (totalP a0 a1 w i) * totalP a0 a1 u i

/-- A tile's product with block `j` of a weight. -/
theorem pay_at (h : FVec Ideal S512x1024 .bf16) (x2 : Vec Ideal S4x1024x704 .bf16) (j : Fin 4) (r : Fin 512) (f : Fin 704) :
    k0_pay1 h (slab x2 j) (ix2 r f) = ∑ k : Fin 1024, h (ix2 r k) * x2 (ix3 j k f) := by
  pointwise [k0_pay1]
  rfl

/-- The stored block `j` of a projection. -/
def pB (h : FVec Ideal S512x1024 .bf16) (w : Vec Ideal S4x1024x704 .bf16) (j : Fin 4) : FVec Ideal S512x704 .bf16 :=
  truncf .bf16 (k0_pay1 h (slab w j)) bitsLt_bf16_f32
/-- The stored block `j` of the activation. -/
def aB (h : FVec Ideal S512x1024 .bf16) (w u : Vec Ideal S4x1024x704 .bf16) (j : Fin 4) : FVec Ideal S512x704 .bf16 :=
  k0_pay17 h (slab w j) (slab u j)

theorem pB_at (h : FVec Ideal S512x1024 .bf16) (w : Vec Ideal S4x1024x704 .bf16) (j : Fin 4) (r : Fin 512) (f : Fin 704) :
    pB h w j (ix2 r f) = ∑ k : Fin 1024, h (ix2 r k) * w (ix3 j k f) := pay_at h w j r f

theorem aB_at (h : FVec Ideal S512x1024 .bf16) (w u : Vec Ideal S4x1024x704 .bf16) (j : Fin 4) (r : Fin 512) (f : Fin 704) :
    aB h w u j (ix2 r f) = pB h w j (ix2 r f) * lg (pB h w j (ix2 r f)) * pB h u j (ix2 r f) := by
  rw [← tanh_lg]
  rfl

/-- The tile of a projection. -/
def tileP (h : FVec Ideal S512x1024 .bf16) (w : Vec Ideal S4x1024x704 .bf16) : Vec Ideal S4x512x704 .bf16 :=
  fun i => pB h w (i 0) (ix2 (i 1) (i 2))
/-- The tile of the activation. -/
def tileA (h : FVec Ideal S512x1024 .bf16) (w u : Vec Ideal S4x1024x704 .bf16) : Vec Ideal S4x512x704 .bf16 :=
  fun i => aB h w u (i 0) (ix2 (i 1) (i 2))

theorem ldW (X : Vec Ideal S4x1024x704 .bf16) (n : ℕ) (hn : n < 4) (inb : ∀ d, (![n, 0, 0] : Fin 3 → ℕ) d + S1x1024x704.size d ≤ S4x1024x704.size d) :
    View.ld X (Rect.unit (s := S4x1024x704) ![n, 0, 0] S1x1024x704.size inb) = slab X ⟨n, hn⟩ := ld_slab X n hn inb

/-- A block stored behind a unit axis, as block `n` of the array whose block `n` it is. -/
theorem piece (p : FVec Ideal S512x704 .bf16) (G : Vec Ideal S4x512x704 .bf16) (n : ℕ) (hn : n < 4)
    (inb : ∀ d, (![n, 0, 0] : Fin 3 → ℕ) d + S1x512x704.size d ≤ S4x512x704.size d)
    (hG : ∀ a b, G (ix3 ⟨n, hn⟩ a b) = p (ix2 a b)) (x : S1x512x704.Idx) :
    shapeCast S1x512x704 p shapeCasts_S512x704_S1x512x704 x = G ((Rect.unit (s := S4x512x704) ![n, 0, 0] S1x512x704.size inb).emb x) := by
  have ha : shapeCast S1x512x704 p shapeCasts_S512x704_S1x512x704 x = p (ix2 (x 1) (x 2)) := by
    obtain ⟨a, b, c, rfl⟩ : ∃ a b c, x = ix3 a b c := ⟨x 0, x 1, x 2, by funext d; match d with | ⟨0, _⟩ => rfl | ⟨1, _⟩ => rfl | ⟨2, _⟩ => rfl⟩
    pointwise []
  have he : (Rect.unit (s := S4x512x704) ![n, 0, 0] S1x512x704.size inb).emb x = ix3 ⟨n, hn⟩ (x 1) (x 2) := by
    funext d; apply Fin.ext
    match d with
    | ⟨0, _⟩ => show n + 1 * (x 0).val = n; have : (x 0).val < 1 := (x 0).isLt; omega
    | ⟨1, _⟩ => show 0 + 1 * (x 1).val = (x 1).val; omega
    | ⟨2, _⟩ => show 0 + 1 * (x 2).val = (x 2).val; omega
  exact ha.trans ((hG (x 1) (x 2)).symm.trans (congrArg G he.symm))

section
variable (x0 : Vec Ideal S512x1024 .f32) (x1 : Vec Ideal S1x1024 .f32) (x2 x3 : Vec Ideal S4x1024x704 .bf16)

theorem norm_eq : k0_pay24 x0 x1 x2 x3 = k0_pay6 x0 x1 := by
  unfold k0_pay24
  rw [View.ld_unit_zero (S := S512x1024) hz, View.ld_unit_zero (S := S1x1024) hz]

theorem out_eqG : out0_4 x0 x1 x2 x3 = tileP (k0_pay6 x0 x1) x2 := by
  funext y
  unfold out0_4
  refine View.canon_apply_of_pieces _ _ ?_ y (cover0_4 _ _ _ _ y)
  rw [norm_eq, View.ld_unit_zero (S := S512x1024) hz, View.ld_unit_zero (S := S1x1024) hz,
    ldW x2 0 (by decide), ldW x2 1 (by decide), ldW x2 2 (by decide), ldW x2 3 (by decide)]
  intro p hp x
  simp only [List.mem_cons, List.not_mem_nil, or_false] at hp
  obtain rfl | rfl | rfl | rfl := hp
  · exact piece (pB (k0_pay6 x0 x1) x2 3) (tileP (k0_pay6 x0 x1) x2) 3 (by decide) inb_S4x512x704_S1x512x704_3_0_0 (fun _ _ => rfl) x
  · exact piece (pB (k0_pay6 x0 x1) x2 2) (tileP (k0_pay6 x0 x1) x2) 2 (by decide) inb_S4x512x704_S1x512x704_2_0_0 (fun _ _ => rfl) x
  · exact piece (pB (k0_pay6 x0 x1) x2 1) (tileP (k0_pay6 x0 x1) x2) 1 (by decide) inb_S4x512x704_S1x512x704_1_0_0 (fun _ _ => rfl) x
  · exact piece (pB (k0_pay6 x0 x1) x2 0) (tileP (k0_pay6 x0 x1) x2) 0 (by decide) inb_S4x512x704_S1x512x704_0_0_0 (fun _ _ => rfl) x

theorem out_eqU : out0_5 x0 x1 x2 x3 = tileP (k0_pay6 x0 x1) x3 := by
  funext y
  unfold out0_5
  refine View.canon_apply_of_pieces _ _ ?_ y (cover0_5 _ _ _ _ y)
  rw [norm_eq, View.ld_unit_zero (S := S512x1024) hz, View.ld_unit_zero (S := S1x1024) hz,
    ldW x3 0 (by decide), ldW x3 1 (by decide), ldW x3 2 (by decide), ldW x3 3 (by decide)]
  intro p hp x
  simp only [List.mem_cons, List.not_mem_nil, or_false] at hp
  obtain rfl | rfl | rfl | rfl := hp
  · exact piece (pB (k0_pay6 x0 x1) x3 3) (tileP (k0_pay6 x0 x1) x3) 3 (by decide) inb_S4x512x704_S1x512x704_3_0_0 (fun _ _ => rfl) x
  · exact piece (pB (k0_pay6 x0 x1) x3 2) (tileP (k0_pay6 x0 x1) x3) 2 (by decide) inb_S4x512x704_S1x512x704_2_0_0 (fun _ _ => rfl) x
  · exact piece (pB (k0_pay6 x0 x1) x3 1) (tileP (k0_pay6 x0 x1) x3) 1 (by decide) inb_S4x512x704_S1x512x704_1_0_0 (fun _ _ => rfl) x
  · exact piece (pB (k0_pay6 x0 x1) x3 0) (tileP (k0_pay6 x0 x1) x3) 0 (by decide) inb_S4x512x704_S1x512x704_0_0_0 (fun _ _ => rfl) x

theorem out_eqA : out0_6 x0 x1 x2 x3 = tileA (k0_pay6 x0 x1) x2 x3 := by
  funext y
  unfold out0_6
  refine View.canon_apply_of_pieces _ _ ?_ y (cover0_6 _ _ _ _ y)
  rw [norm_eq, View.ld_unit_zero (S := S512x1024) hz, View.ld_unit_zero (S := S1x1024) hz,
    ldW x2 0 (by decide), ldW x2 1 (by decide), ldW x2 2 (by decide), ldW x2 3 (by decide), ldW x3 0 (by decide), ldW x3 1 (by decide), ldW x3 2 (by decide), ldW x3 3 (by decide)]
  intro p hp x
  simp only [List.mem_cons, List.not_mem_nil, or_false] at hp
  obtain rfl | rfl | rfl | rfl := hp
  · exact piece (aB (k0_pay6 x0 x1) x2 x3 3) (tileA (k0_pay6 x0 x1) x2 x3) 3 (by decide) inb_S4x512x704_S1x512x704_3_0_0 (fun _ _ => rfl) x
  · exact piece (aB (k0_pay6 x0 x1) x2 x3 2) (tileA (k0_pay6 x0 x1) x2 x3) 2 (by decide) inb_S4x512x704_S1x512x704_2_0_0 (fun _ _ => rfl) x
  · exact piece (aB (k0_pay6 x0 x1) x2 x3 1) (tileA (k0_pay6 x0 x1) x2 x3) 1 (by decide) inb_S4x512x704_S1x512x704_1_0_0 (fun _ _ => rfl) x
  · exact piece (aB (k0_pay6 x0 x1) x2 x3 0) (tileA (k0_pay6 x0 x1) x2 x3) 0 (by decide) inb_S4x512x704_S1x512x704_0_0_0 (fun _ _ => rfl) x

theorem out_eqN : out0_7 x0 x1 x2 x3 = k0_pay6 x0 x1 := by
  unfold out0_7
  rw [View.canon_unit_zero hz, View.ld_unit_zero (S := S512x1024) hz, View.ld_unit_zero (S := S1x1024) hz]
end

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 :=
  (by decide +kernel : ∀ t : Fin grid0.N, _)

theorem idx2 : ∀ t : Fin cfg0.N, win0_2.index t 0 = 0 ∧ win0_2.index t 1 = 0 ∧ win0_2.index t 2 = 0 :=
  (by decide +kernel : ∀ t : Fin grid0.N, _)

theorem idx3 : ∀ t : Fin cfg0.N, win0_3.index t 0 = 0 ∧ win0_3.index t 1 = 0 ∧ win0_3.index t 2 = 0 :=
  (by decide +kernel : ∀ t : Fin grid0.N, _)

theorem idx4 : ∀ t : Fin cfg0.N, win0_4.index t 0 = 0 ∧ win0_4.index t 1 = t.val ∧ win0_4.index t 2 = 0 :=
  (by decide +kernel : ∀ t : Fin grid0.N, _)

theorem idx5 : ∀ t : Fin cfg0.N, win0_5.index t 0 = 0 ∧ win0_5.index t 1 = t.val ∧ win0_5.index t 2 = 0 :=
  (by decide +kernel : ∀ t : Fin grid0.N, _)

theorem idx6 : ∀ t : Fin cfg0.N, win0_6.index t 0 = 0 ∧ win0_6.index t 1 = t.val ∧ win0_6.index t 2 = 0 :=
  (by decide +kernel : ∀ t : Fin grid0.N, _)

theorem idx7 : ∀ t : Fin cfg0.N, win0_7.index t 0 = t.val ∧ win0_7.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 512) (p1 : Fin 1024) : (iblk m c 0 t : Vec Ideal S512x1024 .f32) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 512 + 1 * p0.val = 512 * t.val + p0.val; rw [(idx0 t).1]; omega
    | ⟨1, _⟩ => show win0_0.index t 1 * 1024 + 1 * p1.val = p1.val; rw [(idx0 t).2]; omega
  exact (congrFun (V_main_arg0 m c) _).trans (congrArg _ e)

/-- Point `t`'s block of argument 1. -/
theorem ib1 (t : Fin cfg0.N) (p0 : Fin 1) (p1 : Fin 1024) : (iblk m c 1 t : Vec Ideal S1x1024 .f32) (ix2 p0 p1)
    = m (c.tc.loc main_arg1) (ix2 p0 p1) := by
  unfold iblk; rw [View.read_apply]
  have e : (((cfg0.win 1).blk t).view.emb (ix2 p0 p1)) = ix2 p0 p1 := by
    funext a; apply Fin.ext
    match a with
    | ⟨0, _⟩ => show win0_1.index t 0 * 1 + 1 * p0.val = p0.val; rw [(idx1 t).1]; omega
    | ⟨1, _⟩ => show win0_1.index t 1 * 1024 + 1 * p1.val = p1.val; rw [(idx1 t).2]; omega
  exact (congrFun (V_main_arg1 m c) _).trans (congrArg _ e)

/-- Point `t`'s block of argument 2. -/
theorem ib2 (t : Fin cfg0.N) (p0 : Fin 4) (p1 : Fin 1024) (p2 : Fin 704) : (iblk m c 2 t : Vec Ideal S4x1024x704 .bf16) (ix3 p0 p1 p2)
    = m (c.tc.loc main_arg2) (ix3 p0 p1 p2) := by
  unfold iblk; rw [View.read_apply]
  have e : (((cfg0.win 2).blk t).view.emb (ix3 p0 p1 p2)) = ix3 p0 p1 p2 := by
    funext a; apply Fin.ext
    match a with
    | ⟨0, _⟩ => show win0_2.index t 0 * 4 + 1 * p0.val = p0.val; rw [(idx2 t).1]; omega
    | ⟨1, _⟩ => show win0_2.index t 1 * 1024 + 1 * p1.val = p1.val; rw [(idx2 t).2.1]; omega
    | ⟨2, _⟩ => show win0_2.index t 2 * 704 + 1 * p2.val = p2.val; rw [(idx2 t).2.2]; omega
  exact (congrFun (V_main_arg2 m c) _).trans (congrArg _ e)

/-- Point `t`'s block of argument 3. -/
theorem ib3 (t : Fin cfg0.N) (p0 : Fin 4) (p1 : Fin 1024) (p2 : Fin 704) : (iblk m c 3 t : Vec Ideal S4x1024x704 .bf16) (ix3 p0 p1 p2)
    = m (c.tc.loc main_arg3) (ix3 p0 p1 p2) := by
  unfold iblk; rw [View.read_apply]
  have e : (((cfg0.win 3).blk t).view.emb (ix3 p0 p1 p2)) = ix3 p0 p1 p2 := by
    funext a; apply Fin.ext
    match a with
    | ⟨0, _⟩ => show win0_3.index t 0 * 4 + 1 * p0.val = p0.val; rw [(idx3 t).1]; omega
    | ⟨1, _⟩ => show win0_3.index t 1 * 1024 + 1 * p1.val = p1.val; rw [(idx3 t).2.1]; omega
    | ⟨2, _⟩ => show win0_3.index t 2 * 704 + 1 * p2.val = p2.val; rw [(idx3 t).2.2]; omega
  exact (congrFun (V_main_arg3 m c) _).trans (congrArg _ e)

theorem norm_pt (t : Fin cfg0.N) (r : Fin 512) (k : Fin 1024) :
    k0_pay6 (iblk m c 0 t) (iblk m c 1 t) (ix2 r k) = totalN (m (c.tc.loc main_arg0)) (m (c.tc.loc main_arg1)) (ix2 (row t r) k) := by
  rw [norm_at]
  simp only [ib0, ib1]
  rfl

theorem pB_ptG (t : Fin cfg0.N) (j : Fin 4) (r : Fin 512) (f : Fin 704) :
    pB (k0_pay6 (iblk m c 0 t) (iblk m c 1 t)) (iblk m c 2 t) j (ix2 r f) = totalP (m (c.tc.loc main_arg0)) (m (c.tc.loc main_arg1)) (m (c.tc.loc main_arg2)) (ix3 j (row t r) f) := by
  refine (pB_at _ _ j r f).trans (Finset.sum_congr rfl fun k _ => ?_)
  rw [norm_pt, ib2]; rfl

theorem pB_ptU (t : Fin cfg0.N) (j : Fin 4) (r : Fin 512) (f : Fin 704) :
    pB (k0_pay6 (iblk m c 0 t) (iblk m c 1 t)) (iblk m c 3 t) j (ix2 r f) = totalP (m (c.tc.loc main_arg0)) (m (c.tc.loc main_arg1)) (m (c.tc.loc main_arg3)) (ix3 j (row t r) f) := by
  refine (pB_at _ _ j r f).trans (Finset.sum_congr rfl fun k _ => ?_)
  rw [norm_pt, ib3]; rfl

theorem out_atG (t : Fin cfg0.N) (j : Fin 4) (r : Fin 512) (f : Fin 704) :
    out0_4 (iblk m c 0 t) (iblk m c 1 t) (iblk m c 2 t) (iblk m c 3 t) (ix3 j r f) = totalP (m (c.tc.loc main_arg0)) (m (c.tc.loc main_arg1)) (m (c.tc.loc main_arg2)) (ix3 j (row t r) f) := by
  rw [out_eqG]
  exact pB_ptG m c t j r f

theorem out_atU (t : Fin cfg0.N) (j : Fin 4) (r : Fin 512) (f : Fin 704) :
    out0_5 (iblk m c 0 t) (iblk m c 1 t) (iblk m c 2 t) (iblk m c 3 t) (ix3 j r f) = totalP (m (c.tc.loc main_arg0)) (m (c.tc.loc main_arg1)) (m (c.tc.loc main_arg3)) (ix3 j (row t r) f) := by
  rw [out_eqU]
  exact pB_ptU m c t j r f

theorem out_atA (t : Fin cfg0.N) (j : Fin 4) (r : Fin 512) (f : Fin 704) :
    out0_6 (iblk m c 0 t) (iblk m c 1 t) (iblk m c 2 t) (iblk m c 3 t) (ix3 j r f) = totalA (m (c.tc.loc main_arg0)) (m (c.tc.loc main_arg1)) (m (c.tc.loc main_arg2)) (m (c.tc.loc main_arg3)) (ix3 j (row t r) f) := by
  rw [out_eqA]
  refine (aB_at _ _ _ j r f).trans ?_
  rw [pB_ptG, pB_ptU]
  rfl

theorem out_atN (t : Fin cfg0.N) (r : Fin 512) (k : Fin 1024) :
    out0_7 (iblk m c 0 t) (iblk m c 1 t) (iblk m c 2 t) (iblk m c 3 t) (ix2 r k) = totalN (m (c.tc.loc main_arg0)) (m (c.tc.loc main_arg1)) (ix2 (row t r) k) := by
  rw [out_eqN, norm_pt]

/-- What a point writes back is its rows of the array. -/
theorem flushed_gate (t : Fin cfg0.N) (_ : (cfg0.win 4).flush t = true) :
    (dats m 0 c).flushed 4 t = ((cfg0.win 4).blk t).view.read (Elt Ideal) (totalP (m (c.tc.loc main_arg0)) (m (c.tc.loc main_arg1)) (m (c.tc.loc main_arg2))) := by
  rw [flushed4]
  funext j
  rw [View.read_apply]
  have j0 : (j 0).val < 4 := (j 0).isLt
  have j1 : (j 1).val < 512 := (j 1).isLt
  have j2 : (j 2).val < 704 := (j 2).isLt
  have ej : (cfg0.win 4).cut (grid0.coords t) (out0_4 (iblk m c 0 t) (iblk m c 1 t) (iblk m c 2 t) (iblk m c 3 t)) j
      = (out0_4 (iblk m c 0 t) (iblk m c 1 t) (iblk m c 2 t) (iblk m c 3 t)) (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 4).blk t).view.emb j) = ix3 ⟨(j 0).val, j0⟩ (row t ⟨(j 1).val, j1⟩) ⟨(j 2).val, j2⟩ := by
    funext a; apply Fin.ext
    match a with
    | ⟨0, _⟩ => show win0_4.index t 0 * 4 + 1 * (j 0).val = (j 0).val; rw [(idx4 t).1]; omega
    | ⟨1, _⟩ => show win0_4.index t 1 * 512 + 1 * (j 1).val = 512 * t.val + (j 1).val; rw [(idx4 t).2.1]; omega
    | ⟨2, _⟩ => show win0_4.index t 2 * 704 + 1 * (j 2).val = (j 2).val; rw [(idx4 t).2.2]; omega
  exact ej.trans ((out_atG m c t _ _ _).trans (congrArg _ ee).symm)

/-- What the array ends holding. -/
theorem final_gate : (dats m 0 c).arrAt 4 cfg0.N = totalP (m (c.tc.loc main_arg0)) (m (c.tc.loc main_arg1)) (m (c.tc.loc main_arg2)) :=
  (dats m 0 c).arrAt_eq_of_cover 4 _ (flushed_gate m c) fun i => by
    have i0 : (i 0).val < 4 := (i 0).isLt
    have i1 : (i 1).val < 4096 := (i 1).isLt
    have i2 : (i 2).val < 704 := (i 2).isLt
    let t : Fin cfg0.N := ⟨(i 1).val / 512, Nat.lt_of_lt_of_eq (by omega) N_0.symm⟩
    have ht : t.val = (i 1).val / 512 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 4 ≤ (i 0).val ∧ (i 0).val < win0_4.index t 0 * 4 + 4
                rw [(idx4 t).1]; omega
    | ⟨1, _⟩ => show win0_4.index t 1 * 512 ≤ (i 1).val ∧ (i 1).val < win0_4.index t 1 * 512 + 512
                rw [(idx4 t).2.1]; omega
    | ⟨2, _⟩ => show win0_4.index t 2 * 704 ≤ (i 2).val ∧ (i 2).val < win0_4.index t 2 * 704 + 704
                rw [(idx4 t).2.2]; omega

/-- What a point writes back is its rows of the array. -/
theorem flushed_up (t : Fin cfg0.N) (_ : (cfg0.win 5).flush t = true) :
    (dats m 0 c).flushed 5 t = ((cfg0.win 5).blk t).view.read (Elt Ideal) (totalP (m (c.tc.loc main_arg0)) (m (c.tc.loc main_arg1)) (m (c.tc.loc main_arg3))) := by
  rw [flushed5]
  funext j
  rw [View.read_apply]
  have j0 : (j 0).val < 4 := (j 0).isLt
  have j1 : (j 1).val < 512 := (j 1).isLt
  have j2 : (j 2).val < 704 := (j 2).isLt
  have ej : (cfg0.win 5).cut (grid0.coords t) (out0_5 (iblk m c 0 t) (iblk m c 1 t) (iblk m c 2 t) (iblk m c 3 t)) j
      = (out0_5 (iblk m c 0 t) (iblk m c 1 t) (iblk m c 2 t) (iblk m c 3 t)) (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 5).blk t).view.emb j) = ix3 ⟨(j 0).val, j0⟩ (row t ⟨(j 1).val, j1⟩) ⟨(j 2).val, j2⟩ := by
    funext a; apply Fin.ext
    match a with
    | ⟨0, _⟩ => show win0_5.index t 0 * 4 + 1 * (j 0).val = (j 0).val; rw [(idx5 t).1]; omega
    | ⟨1, _⟩ => show win0_5.index t 1 * 512 + 1 * (j 1).val = 512 * t.val + (j 1).val; rw [(idx5 t).2.1]; omega
    | ⟨2, _⟩ => show win0_5.index t 2 * 704 + 1 * (j 2).val = (j 2).val; rw [(idx5 t).2.2]; omega
  exact ej.trans ((out_atU m c t _ _ _).trans (congrArg _ ee).symm)

/-- What the array ends holding. -/
theorem final_up : (dats m 0 c).arrAt 5 cfg0.N = totalP (m (c.tc.loc main_arg0)) (m (c.tc.loc main_arg1)) (m (c.tc.loc main_arg3)) :=
  (dats m 0 c).arrAt_eq_of_cover 5 _ (flushed_up m c) fun i => by
    have i0 : (i 0).val < 4 := (i 0).isLt
    have i1 : (i 1).val < 4096 := (i 1).isLt
    have i2 : (i 2).val < 704 := (i 2).isLt
    let t : Fin cfg0.N := ⟨(i 1).val / 512, Nat.lt_of_lt_of_eq (by omega) N_0.symm⟩
    have ht : t.val = (i 1).val / 512 := rfl
    refine ⟨t, flush0_5 t, ?_⟩
    show i ∈ ((View.whole main_v0_1).slice (win0_5.rect t)).set
    rw [View.set_slice_whole, Rect.mem_set_unit]
    intro a
    match a with
    | ⟨0, _⟩ => show win0_5.index t 0 * 4 ≤ (i 0).val ∧ (i 0).val < win0_5.index t 0 * 4 + 4
                rw [(idx5 t).1]; omega
    | ⟨1, _⟩ => show win0_5.index t 1 * 512 ≤ (i 1).val ∧ (i 1).val < win0_5.index t 1 * 512 + 512
                rw [(idx5 t).2.1]; omega
    | ⟨2, _⟩ => show win0_5.index t 2 * 704 ≤ (i 2).val ∧ (i 2).val < win0_5.index t 2 * 704 + 704
                rw [(idx5 t).2.2]; omega

/-- What a point writes back is its rows of the array. -/
theorem flushed_act (t : Fin cfg0.N) (_ : (cfg0.win 6).flush t = true) :
    (dats m 0 c).flushed 6 t = ((cfg0.win 6).blk t).view.read (Elt Ideal) (totalA (m (c.tc.loc main_arg0)) (m (c.tc.loc main_arg1)) (m (c.tc.loc main_arg2)) (m (c.tc.loc main_arg3))) := by
  rw [flushed6]
  funext j
  rw [View.read_apply]
  have j0 : (j 0).val < 4 := (j 0).isLt
  have j1 : (j 1).val < 512 := (j 1).isLt
  have j2 : (j 2).val < 704 := (j 2).isLt
  have ej : (cfg0.win 6).cut (grid0.coords t) (out0_6 (iblk m c 0 t) (iblk m c 1 t) (iblk m c 2 t) (iblk m c 3 t)) j
      = (out0_6 (iblk m c 0 t) (iblk m c 1 t) (iblk m c 2 t) (iblk m c 3 t)) (ix3 ⟨(j 0).val, j0⟩ ⟨(j 1).val, j1⟩ ⟨(j 2).val, j2⟩) :=
    congrArg _ (funext fun a => Fin.ext (by match a with | ⟨0, _⟩ => rfl | ⟨1, _⟩ => rfl | ⟨2, _⟩ => rfl))
  have ee : (((cfg0.win 6).blk t).view.emb j) = ix3 ⟨(j 0).val, j0⟩ (row t ⟨(j 1).val, j1⟩) ⟨(j 2).val, j2⟩ := by
    funext a; apply Fin.ext
    match a with
    | ⟨0, _⟩ => show win0_6.index t 0 * 4 + 1 * (j 0).val = (j 0).val; rw [(idx6 t).1]; omega
    | ⟨1, _⟩ => show win0_6.index t 1 * 512 + 1 * (j 1).val = 512 * t.val + (j 1).val; rw [(idx6 t).2.1]; omega
    | ⟨2, _⟩ => show win0_6.index t 2 * 704 + 1 * (j 2).val = (j 2).val; rw [(idx6 t).2.2]; omega
  exact ej.trans ((out_atA m c t _ _ _).trans (congrArg _ ee).symm)

/-- What the array ends holding. -/
theorem final_act : (dats m 0 c).arrAt 6 cfg0.N = totalA (m (c.tc.loc main_arg0)) (m (c.tc.loc main_arg1)) (m (c.tc.loc main_arg2)) (m (c.tc.loc main_arg3)) :=
  (dats m 0 c).arrAt_eq_of_cover 6 _ (flushed_act m c) fun i => by
    have i0 : (i 0).val < 4 := (i 0).isLt
    have i1 : (i 1).val < 4096 := (i 1).isLt
    have i2 : (i 2).val < 704 := (i 2).isLt
    let t : Fin cfg0.N := ⟨(i 1).val / 512, Nat.lt_of_lt_of_eq (by omega) N_0.symm⟩
    have ht : t.val = (i 1).val / 512 := rfl
    refine ⟨t, flush0_6 t, ?_⟩
    show i ∈ ((View.whole main_v0_2).slice (win0_6.rect t)).set
    rw [View.set_slice_whole, Rect.mem_set_unit]
    intro a
    match a with
    | ⟨0, _⟩ => show win0_6.index t 0 * 4 ≤ (i 0).val ∧ (i 0).val < win0_6.index t 0 * 4 + 4
                rw [(idx6 t).1]; omega
    | ⟨1, _⟩ => show win0_6.index t 1 * 512 ≤ (i 1).val ∧ (i 1).val < win0_6.index t 1 * 512 + 512
                rw [(idx6 t).2.1]; omega
    | ⟨2, _⟩ => show win0_6.index t 2 * 704 ≤ (i 2).val ∧ (i 2).val < win0_6.index t 2 * 704 + 704
                rw [(idx6 t).2.2]; omega

/-- What a point writes back is its rows of the array. -/
theorem flushed_norm (t : Fin cfg0.N) (_ : (cfg0.win 7).flush t = true) :
    (dats m 0 c).flushed 7 t = ((cfg0.win 7).blk t).view.read (Elt Ideal) (totalN (m (c.tc.loc main_arg0)) (m (c.tc.loc main_arg1))) := by
  rw [flushed7]
  funext j
  rw [View.read_apply]
  have j0 : (j 0).val < 512 := (j 0).isLt
  have j1 : (j 1).val < 1024 := (j 1).isLt
  have ej : (cfg0.win 7).cut (grid0.coords t) (out0_7 (iblk m c 0 t) (iblk m c 1 t) (iblk m c 2 t) (iblk m c 3 t)) j
      = (out0_7 (iblk m c 0 t) (iblk m c 1 t) (iblk m c 2 t) (iblk m c 3 t)) (ix2 ⟨(j 0).val, j0⟩ ⟨(j 1).val, j1⟩) :=
    congrArg _ (funext fun a => Fin.ext (by match a with | ⟨0, _⟩ => rfl | ⟨1, _⟩ => rfl))
  have ee : (((cfg0.win 7).blk t).view.emb j) = ix2 (row t ⟨(j 0).val, j0⟩) ⟨(j 1).val, j1⟩ := by
    funext a; apply Fin.ext
    match a with
    | ⟨0, _⟩ => show win0_7.index t 0 * 512 + 1 * (j 0).val = 512 * t.val + (j 0).val; rw [(idx7 t).1]; omega
    | ⟨1, _⟩ => show win0_7.index t 1 * 1024 + 1 * (j 1).val = (j 1).val; rw [(idx7 t).2]; omega
  exact ej.trans ((out_atN m c t _ _).trans (congrArg _ ee).symm)

/-- What the array ends holding. -/
theorem final_norm : (dats m 0 c).arrAt 7 cfg0.N = totalN (m (c.tc.loc main_arg0)) (m (c.tc.loc main_arg1)) :=
  (dats m 0 c).arrAt_eq_of_cover 7 _ (flushed_norm m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_7 t, ?_⟩
    show i ∈ ((View.whole main_v0_3).slice (win0_7.rect t)).set
    rw [View.set_slice_whole, Rect.mem_set_unit]
    intro a
    match a with
    | ⟨0, _⟩ => show win0_7.index t 0 * 512 ≤ (i 0).val ∧ (i 0).val < win0_7.index t 0 * 512 + 512
                rw [(idx7 t).1]; omega
    | ⟨1, _⟩ => show win0_7.index t 1 * 1024 ≤ (i 1).val ∧ (i 1).val < win0_7.index t 1 * 1024 + 1024
                rw [(idx7 t).2]; omega
end

section
open Cert.Reference9Ideal Cert.Reference9Ideal.Gen Cert.Reference9Ideal.Read

/-- The reference's normalised rows. -/
theorem ref_rows (x0 : FVec Ideal S4096x1024 .f32) (x1 : FVec Ideal S1x1024 .f32) (n : Fin 4096) (k : Fin 1024) :
    val_main_v11 (F := Ideal) x0 x1 (ix2 n k) = nr (fun k => x0 (ix2 n k)) (fun k => x1 (ix2 0 k)) k := by
  rw [val_main_v11_apply, val_main_v9_apply, val_main_v8_apply, val_main_v7_apply, val_main_v6_apply, val_main_v4_apply,
    val_main_v2_apply, val_main_v1_apply, val_main_v3_apply, val_main_v5_apply, val_main_v10_apply]
  have hs : (val_main_cst (F := Ideal)) (Shape.Idx.first h_S_)
      + ∑ k' : Fin 1024, val_main_v0 (F := Ideal) x0 (idx_main_v1 (idx_main_v2 (idx_main_v8 (ix2 n k))) k')
      = ∑ k' : Fin 1024, x0 (ix2 n k') * x0 (ix2 n k') := by
    rw [show (val_main_cst (F := Ideal)) (Shape.Idx.first h_S_) = 0 from Ideal.ofBits_zero_f32, zero_add]
    refine Finset.sum_congr rfl fun k' _ => ?_
    have e : idx_main_v1 (idx_main_v2 (idx_main_v8 (ix2 n k))) k' = ix2 n k' :=
      funext fun a => by match a with | ⟨0, _⟩ => rfl | ⟨1, _⟩ => rfl
    rw [e]; rfl
  rw [hs]
  have e : idx_main_v10 (ix2 n k) = ix2 0 k := funext fun a => by match a with | ⟨0, _⟩ => rfl | ⟨1, _⟩ => rfl
  rw [e]
  rfl

/-- The reference's last result is the normalised rows. -/
theorem ref_norm (x0 : FVec Ideal S4096x1024 .f32) (x1 : FVec Ideal S1x1024 .f32) :
    val_main_v31 (F := Ideal) x0 x1 = totalN x0 x1 := funext fun i => by
  obtain ⟨n, q, rfl⟩ : ∃ (n : Fin 4096) (q : Fin 1024), i = ix2 n q :=
    ⟨i 0, i 1, funext fun a => by match a with | ⟨0, _⟩ => rfl | ⟨1, _⟩ => rfl⟩
  rw [val_main_v31_apply]
  exact ref_rows x0 x1 n q

theorem dot_atG (x0 : FVec Ideal S4096x1024 .f32) (x1 : FVec Ideal S1x1024 .f32) (w : FVec Ideal S4x1024x704 .bf16) (n : Fin 4096) (j : Fin 4) (f : Fin 704) :
    val_main_v15 (F := Ideal) x0 x1 w (ix2 n (col j f)) = totalP x0 x1 w (ix3 j n f) := by
  rw [val_main_v15_apply]
  refine Finset.sum_congr rfl fun k _ => ?_
  have el : lidx_main_v15 (ix2 n (col j f)) k = ix2 n k := funext fun a => by match a with | ⟨0, _⟩ => rfl | ⟨1, _⟩ => rfl
  rw [el, ref_rows, val_main_v14_apply, val_main_v13_apply, val_main_v12_apply]
  refine congrArg₂ (· * ·) rfl (congrArg w (funext fun a => Fin.ext ?_))
  match a with
  | ⟨0, _⟩ => show (k.val * 2816 + (704 * j.val + f.val)) / 704 % 4 = j.val; omega
  | ⟨1, _⟩ => show (k.val * 2816 + (704 * j.val + f.val)) / 2816 = k.val; omega
  | ⟨2, _⟩ => show (k.val * 2816 + (704 * j.val + f.val)) % 704 = f.val; omega

theorem dot_atU (x0 : FVec Ideal S4096x1024 .f32) (x1 : FVec Ideal S1x1024 .f32) (w : FVec Ideal S4x1024x704 .bf16) (n : Fin 4096) (j : Fin 4) (f : Fin 704) :
    val_main_v19 (F := Ideal) x0 x1 w (ix2 n (col j f)) = totalP x0 x1 w (ix3 j n f) := by
  rw [val_main_v19_apply]
  refine Finset.sum_congr rfl fun k _ => ?_
  have el : lidx_main_v19 (ix2 n (col j f)) k = ix2 n k := funext fun a => by match a with | ⟨0, _⟩ => rfl | ⟨1, _⟩ => rfl
  rw [el, ref_rows, val_main_v18_apply, val_main_v17_apply, val_main_v16_apply]
  refine congrArg₂ (· * ·) rfl (congrArg w (funext fun a => Fin.ext ?_))
  match a with
  | ⟨0, _⟩ => show (k.val * 2816 + (704 * j.val + f.val)) / 704 % 4 = j.val; omega
  | ⟨1, _⟩ => show (k.val * 2816 + (704 * j.val + f.val)) / 2816 = k.val; omega
  | ⟨2, _⟩ => show (k.val * 2816 + (704 * j.val + f.val)) % 704 = f.val; omega

theorem ref_gate (x0 : FVec Ideal S4096x1024 .f32) (x1 : FVec Ideal S1x1024 .f32) (x2 : FVec Ideal S4x1024x704 .bf16) :
    val_main_v24 (F := Ideal) x0 x1 x2 = totalP x0 x1 x2 := funext fun i => by
  obtain ⟨j, n, f, rfl⟩ : ∃ (j : Fin 4) (n : Fin 4096) (f : Fin 704), i = ix3 j n f :=
    ⟨i 0, i 1, i 2, funext fun a => by match a with | ⟨0, _⟩ => rfl | ⟨1, _⟩ => rfl | ⟨2, _⟩ => rfl⟩
  rw [val_main_v24_apply, val_main_v23_apply, val_main_v22_apply]
  have e : idx_main_v22 (idx_main_v23 (ix3 j n f)) = ix2 n (col j f) := by
    funext a; apply Fin.ext
    match a with
    | ⟨0, _⟩ => show ((n.val * 4 + j.val) * 704 + f.val) / 2816 = n.val; omega
    | ⟨1, _⟩ => show ((n.val * 4 + j.val) * 704 + f.val) % 2816 = 704 * j.val + f.val; omega
  rw [e]
  exact dot_atG x0 x1 x2 n j f

theorem ref_up (x0 : FVec Ideal S4096x1024 .f32) (x1 : FVec Ideal S1x1024 .f32) (x2 : FVec Ideal S4x1024x704 .bf16) :
    val_main_v27 (F := Ideal) x0 x1 x2 = totalP x0 x1 x2 := funext fun i => by
  obtain ⟨j, n, f, rfl⟩ : ∃ (j : Fin 4) (n : Fin 4096) (f : Fin 704), i = ix3 j n f :=
    ⟨i 0, i 1, i 2, funext fun a => by match a with | ⟨0, _⟩ => rfl | ⟨1, _⟩ => rfl | ⟨2, _⟩ => rfl⟩
  rw [val_main_v27_apply, val_main_v26_apply, val_main_v25_apply]
  have e : idx_main_v25 (idx_main_v26 (ix3 j n f)) = ix2 n (col j f) := by
    funext a; apply Fin.ext
    match a with
    | ⟨0, _⟩ => show ((n.val * 4 + j.val) * 704 + f.val) / 2816 = n.val; omega
    | ⟨1, _⟩ => show ((n.val * 4 + j.val) * 704 + f.val) % 2816 = 704 * j.val + f.val; omega
  rw [e]
  exact dot_atU x0 x1 x2 n j f

theorem ref_act (x0 : FVec Ideal S4096x1024 .f32) (x1 : FVec Ideal S1x1024 .f32) (x2 x3 : FVec Ideal S4x1024x704 .bf16) :
    val_main_v30 (F := Ideal) x0 x1 x2 x3 = totalA x0 x1 x2 x3 := funext fun i => by
  obtain ⟨j, n, f, rfl⟩ : ∃ (j : Fin 4) (n : Fin 4096) (f : Fin 704), i = ix3 j n f :=
    ⟨i 0, i 1, i 2, funext fun a => by match a with | ⟨0, _⟩ => rfl | ⟨1, _⟩ => rfl | ⟨2, _⟩ => rfl⟩
  rw [val_main_v30_apply, val_main_v29_apply, val_main_v28_apply]
  have e : idx_main_v28 (idx_main_v29 (ix3 j n f)) = ix2 n (col j f) := by
    funext a; apply Fin.ext
    match a with
    | ⟨0, _⟩ => show ((n.val * 4 + j.val) * 704 + f.val) / 2816 = n.val; omega
    | ⟨1, _⟩ => show ((n.val * 4 + j.val) * 704 + f.val) % 2816 = 704 * j.val + f.val; omega
  rw [e]
  rw [val_main_v21_apply, val_main_v20_apply, val_main_call0_v5_apply, val_main_call0_v4_apply, val_main_call0_v3_apply, val_main_call0_v2_apply,
    val_main_call0_v1_apply, val_main_call0_v0_apply, dot_atG, dot_atU]
  rfl
end

theorem frame_ref (m : (ℓ : Loc Reference9Ideal.nD Reference9Ideal.τ Reference9Ideal.sig) → Buf (Elt Ideal) ℓ)
    (ρ : Dev Reference9Ideal.nD → PrngReg) :
    θ_run (Reference9Ideal.defs (F := Ideal)) (onTc (τ := Reference9Ideal.τ) (Reference9Ideal.main (F := Ideal))) ⟨m, fun _ => 0, ρ⟩ (fun r => (∀ c : Dev Reference9Ideal.nD,
      r.2.mem (c.tc.loc Reference9Ideal.main_arg0) = m (c.tc.loc Reference9Ideal.main_arg0)
      ∧ r.2.mem (c.tc.loc Reference9Ideal.main_arg1) = m (c.tc.loc Reference9Ideal.main_arg1)
      ∧ r.2.mem (c.tc.loc Reference9Ideal.main_arg2) = m (c.tc.loc Reference9Ideal.main_arg2)
      ∧ r.2.mem (c.tc.loc Reference9Ideal.main_arg3) = m (c.tc.loc Reference9Ideal.main_arg3))
      ∧ r.2.sem = fun _ => 0) :=
  (θ_run Reference9Ideal.defs _ _).mono (fun r h => ⟨fun c => (h c).2.2.2.2,
    sem_eq_zero_of_no_sems (by decide) r.2⟩) (Reference9Ideal.Value.run (F := Ideal) m ρ)

/-- From equal arguments the kernel's results are the reference's. -/
theorem algebraic : Cert.algebraic_Kernel9Ideal_Reference9Ideal := by
  intro m ρ m' ρ' hpre hargs
  refine ⟨fun c => totalP (m (c.tc.loc Kernel9Ideal.main_arg0))
      (m (c.tc.loc Kernel9Ideal.main_arg1))
      (m (c.tc.loc Kernel9Ideal.main_arg2)), fun c => totalP (m (c.tc.loc Kernel9Ideal.main_arg0))
      (m (c.tc.loc Kernel9Ideal.main_arg1))
      (m (c.tc.loc Kernel9Ideal.main_arg3)), fun c => totalA (m (c.tc.loc Kernel9Ideal.main_arg0))
      (m (c.tc.loc Kernel9Ideal.main_arg1))
      (m (c.tc.loc Kernel9Ideal.main_arg2))
      (m (c.tc.loc Kernel9Ideal.main_arg3)), fun c => totalN (m (c.tc.loc Kernel9Ideal.main_arg0))
      (m (c.tc.loc Kernel9Ideal.main_arg1)), ?_, ?_⟩
  · refine (θ_run Kernel9Ideal.defs _ _).mono (fun r h c => ?_) (Kernel9Ideal.Value.run_blocks (F := Ideal) m ρ)
    obtain ⟨h0, h1, h2, h3, ha⟩ := h c
    exact ⟨h0.trans (final_gate m c), h1.trans (final_up m c), h2.trans (final_act m c), h3.trans (final_norm m c), ha⟩
  · refine (θ_run Reference9Ideal.defs _ _).mono (fun r h c => ?_) (Reference9Ideal.Value.run (F := Ideal) m' ρ')
    obtain ⟨h0, h1, h2, h3, ha⟩ := h c
    obtain ⟨b0, b1, b2, b3⟩ := hargs c
    refine ⟨h0.trans ?_, h1.trans ?_, h2.trans ?_, h3.trans ?_, ha⟩
    · refine (Reference9Ideal.Read.val_main_v24_eq _ _ _).trans ?_
      rw [b0, b1, b2]
      exact ref_gate _ _ _
    · refine (Reference9Ideal.Read.val_main_v27_eq _ _ _).trans ?_
      rw [b0, b1, b3]
      exact ref_up _ _ _
    · refine (Reference9Ideal.Read.val_main_v30_eq _ _ _ _).trans ?_
      rw [b0, b1, b2, b3]
      exact ref_act _ _ _ _
    · refine (Reference9Ideal.Read.val_main_v31_eq _ _).trans ?_
      rw [b0, b1]
      exact ref_norm _ _

end Cert.Row9

end
-- ==== Proof.Row10.lean ====
/- The forward norm and input projection: the normalised rows times the four column blocks of the weight, tile by tile in
   the kernel, as one product in the reference. -/
module

public import proofs.«01_k».proof.Proof.Norm
public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row10

open Idealize.ShloMosaic Idealize.ShloMosaic.TcCoe Idealize.ShloMosaic.Tactic
open Idealize.SL.Sem
open Cert.Norm (nr)

section
open Cert.Kernel10Ideal Cert.Kernel10Ideal.Gen Cert.Kernel10Ideal.Value

theorem hz : (![0, 0] : Fin 2 → Nat) = fun _ => 0 := funext fun a => by fin_cases a <;> rfl
theorem hz3 : (![0, 0, 0] : Fin 3 → Nat) = fun _ => 0 := funext fun a => by fin_cases a <;> rfl

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- The block a column lies in. -/
def hi (k : Fin 2560) : Fin 4 := ⟨k.val / 640, by omega⟩
/-- Its place there. -/
def lo (k : Fin 2560) : Fin 640 := ⟨k.val % 640, by omega⟩

/-- Block `j` of an array of four. -/
def slab {a b : ℕ} {φ : EltTy} (X : Vec Ideal ⟨3, ![4, a, b]⟩ φ) (j : Fin 4) : Vec Ideal ⟨3, ![1, a, b]⟩ φ := fun i => X (ix3 j (i 1) (i 2))

/-- A load of block `j` is that block. -/
theorem ld_slab {a b : ℕ} {φ : EltTy} (X : Vec Ideal ⟨3, ![4, a, b]⟩ φ) (n : ℕ) (hn : n < 4)
    (inb : ∀ d, (![n, 0, 0] : Fin 3 → ℕ) d + (⟨3, ![1, a, b]⟩ : Shape).size d ≤ (⟨3, ![4, a, b]⟩ : Shape).size d) :
    View.ld X (Rect.unit (s := ⟨3, ![4, a, b]⟩) ![n, 0, 0] (⟨3, ![1, a, b]⟩ : Shape).size inb) = slab X ⟨n, hn⟩ := by
  funext x
  show X _ = X _
  congr 1; funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

/-- The normalised rows of a tile. -/
theorem norm_at (x0 : Vec Ideal S512x1024 .f32) (x1 : Vec Ideal S1x1024 .f32) (r : Fin 512) (k : Fin 1024) :
    k0_pay2 x0 x1 (ix2 r k) = nr (fun k => x0 (ix2 r k)) (fun k => x1 (ix2 0 k)) k := by
  pointwise [k0_pay2]
  rfl

/-- The normalised rows. -/
def totalN (a0 : FVec Ideal S4096x1024 .f32) (a1 : FVec Ideal S1x1024 .f32) : S4096x1024.Idx → EReal :=
  fun i => nr (fun k => a0 (ix2 (i 0) k)) (fun k => a1 (ix2 0 k)) (i 1)

/-- The product's entries. -/
def total (a0 : FVec Ideal S4096x1024 .f32) (a1 : FVec Ideal S1x1024 .f32) (a2 : FVec Ideal S4x1024x640 .bf16) : S4096x2560.Idx → EReal :=
  fun i => ∑ k : Fin 1024, nr (fun k => a0 (ix2 (i 0) k)) (fun k => a1 (ix2 0 k)) k * a2 (ix3 (hi (i 1)) k (lo (i 1)))

/-- A tile's product with block `j` of the weight. -/
theorem pay_at (h : FVec Ideal S512x1024 .bf16) (x2 : Vec Ideal S4x1024x640 .bf16) (j : Fin 4) (r : Fin 512) (f : Fin 640) :
    k0_pay1 h (slab x2 j) (ix2 r f) = ∑ k : Fin 1024, h (ix2 r k) * x2 (ix3 j k f) := by
  pointwise [k0_pay1]
  rfl

/-- The tile of the product. -/
def tile (x0 : Vec Ideal S512x1024 .f32) (x1 : Vec Ideal S1x1024 .f32) (x2 : Vec Ideal S4x1024x640 .bf16) : Vec Ideal S512x2560 .f32 :=
  fun i => k0_pay1 (k0_pay2 x0 x1) (slab x2 (hi (i 1))) (ix2 (i 0) (lo (i 1)))

theorem ldW (X : Vec Ideal S4x1024x640 .bf16) (n : ℕ) (hn : n < 4) (inb : ∀ d, (![n, 0, 0] : Fin 3 → ℕ) d + S1x1024x640.size d ≤ S4x1024x640.size d) :
    View.ld X (Rect.unit (s := S4x1024x640) ![n, 0, 0] S1x1024x640.size inb) = slab X ⟨n, hn⟩ := ld_slab X n hn inb

/-- Block `j` of the columns holds the product with block `j` of the weight. -/
theorem piece (x0 : Vec Ideal S512x1024 .f32) (x1 : Vec Ideal S1x1024 .f32) (x2 : Vec Ideal S4x1024x640 .bf16) (j : Fin 4) (n : ℕ)
    (hn : n = 640 * j.val) (inb : ∀ d, (![0, n] : Fin 2 → ℕ) d + S512x640.size d ≤ S512x2560.size d) (x : S512x640.Idx) :
    k0_pay1 (k0_pay2 x0 x1) (slab x2 j) x = tile x0 x1 x2 ((Rect.unit (s := S512x2560) ![0, n] S512x640.size inb).emb x) := by
  subst hn
  have h1 : (x 1).val < 640 := (x 1).isLt
  have e1 : hi ((Rect.unit (s := S512x2560) ![0, 640 * j.val] S512x640.size inb).emb x 1) = j :=
    Fin.ext (show (640 * j.val + 1 * (x 1).val) / 640 = j.val by omega)
  have e2 : (ix2 ((Rect.unit (s := S512x2560) ![0, 640 * j.val] S512x640.size inb).emb x 0)
      (lo ((Rect.unit (s := S512x2560) ![0, 640 * j.val] S512x640.size inb).emb x 1)) : S512x640.Idx) = x := by
    funext a; apply Fin.ext
    match a with
    | ⟨0, _⟩ => show 0 + 1 * (x 0).val = (x 0).val; omega
    | ⟨1, _⟩ => show (640 * j.val + 1 * (x 1).val) % 640 = (x 1).val; omega
  unfold tile
  rw [e1, e2]

theorem out_eq (x0 : Vec Ideal S512x1024 .f32) (x1 : Vec Ideal S1x1024 .f32) (x2 : Vec Ideal S4x1024x640 .bf16) :
    out0_3 x0 x1 x2 = tile x0 x1 x2 := by
  funext y
  unfold out0_3
  refine View.canon_apply_of_pieces _ _ ?_ y (cover0_3 _ _ _ _ y)
  rw [View.ld_unit_zero (S := S512x1024) hz, View.ld_unit_zero (S := S1x1024) hz,
    ldW x2 0 (by decide), ldW x2 1 (by decide), ldW x2 2 (by decide), ldW x2 3 (by decide)]
  intro p hp x
  simp only [List.mem_cons, List.not_mem_nil, or_false] at hp
  obtain rfl | rfl | rfl | rfl := hp
  · exact piece x0 x1 x2 3 1920 rfl inb_S512x2560_S512x640_0_1920 x
  · exact piece x0 x1 x2 2 1280 rfl inb_S512x2560_S512x640_0_1280 x
  · exact piece x0 x1 x2 1 640 rfl inb_S512x2560_S512x640_0_640 x
  · exact piece x0 x1 x2 0 0 rfl inb_S512x2560_S512x640_0_0 x

theorem out_eqN (x0 : Vec Ideal S512x1024 .f32) (x1 : Vec Ideal S1x1024 .f32) (x2 : Vec Ideal S4x1024x640 .bf16) :
    out0_4 x0 x1 x2 = k0_pay2 x0 x1 := by
  unfold out0_4
  rw [View.canon_unit_zero hz, View.ld_unit_zero (S := S512x1024) hz, View.ld_unit_zero (S := S1x1024) hz]

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 :=
  (by decide +kernel : ∀ t : Fin grid0.N, _)

theorem idx2 : ∀ t : Fin cfg0.N, win0_2.index t 0 = 0 ∧ win0_2.index t 1 = 0 ∧ win0_2.index t 2 = 0 :=
  (by decide +kernel : ∀ t : Fin grid0.N, _)

theorem idx3 : ∀ t : Fin cfg0.N, win0_3.index t 0 = t.val ∧ win0_3.index t 1 = 0 :=
  (by decide +kernel : ∀ t : Fin grid0.N, _)

theorem idx4 : ∀ t : Fin cfg0.N, win0_4.index t 0 = t.val ∧ win0_4.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 512) (p1 : Fin 1024) : (iblk m c 0 t : Vec Ideal S512x1024 .f32) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 512 + 1 * p0.val = 512 * t.val + p0.val; rw [(idx0 t).1]; omega
    | ⟨1, _⟩ => show win0_0.index t 1 * 1024 + 1 * p1.val = p1.val; rw [(idx0 t).2]; omega
  exact (congrFun (V_main_arg0 m c) _).trans (congrArg _ e)

/-- Point `t`'s block of argument 1. -/
theorem ib1 (t : Fin cfg0.N) (p0 : Fin 1) (p1 : Fin 1024) : (iblk m c 1 t : Vec Ideal S1x1024 .f32) (ix2 p0 p1)
    = m (c.tc.loc main_arg1) (ix2 p0 p1) := by
  unfold iblk; rw [View.read_apply]
  have e : (((cfg0.win 1).blk t).view.emb (ix2 p0 p1)) = ix2 p0 p1 := by
    funext a; apply Fin.ext
    match a with
    | ⟨0, _⟩ => show win0_1.index t 0 * 1 + 1 * p0.val = p0.val; rw [(idx1 t).1]; omega
    | ⟨1, _⟩ => show win0_1.index t 1 * 1024 + 1 * p1.val = p1.val; rw [(idx1 t).2]; omega
  exact (congrFun (V_main_arg1 m c) _).trans (congrArg _ e)

/-- Point `t`'s block of argument 2. -/
theorem ib2 (t : Fin cfg0.N) (p0 : Fin 4) (p1 : Fin 1024) (p2 : Fin 640) : (iblk m c 2 t : Vec Ideal S4x1024x640 .bf16) (ix3 p0 p1 p2)
    = m (c.tc.loc main_arg2) (ix3 p0 p1 p2) := by
  unfold iblk; rw [View.read_apply]
  have e : (((cfg0.win 2).blk t).view.emb (ix3 p0 p1 p2)) = ix3 p0 p1 p2 := by
    funext a; apply Fin.ext
    match a with
    | ⟨0, _⟩ => show win0_2.index t 0 * 4 + 1 * p0.val = p0.val; rw [(idx2 t).1]; omega
    | ⟨1, _⟩ => show win0_2.index t 1 * 1024 + 1 * p1.val = p1.val; rw [(idx2 t).2.1]; omega
    | ⟨2, _⟩ => show win0_2.index t 2 * 640 + 1 * p2.val = p2.val; rw [(idx2 t).2.2]; omega
  exact (congrFun (V_main_arg2 m c) _).trans (congrArg _ e)

theorem norm_pt (t : Fin cfg0.N) (r : Fin 512) (k : Fin 1024) :
    k0_pay2 (iblk m c 0 t) (iblk m c 1 t) (ix2 r k) = totalN (m (c.tc.loc main_arg0)) (m (c.tc.loc main_arg1)) (ix2 (row t r) k) := by
  rw [norm_at]
  simp only [ib0, ib1]
  rfl

theorem out_at (t : Fin cfg0.N) (r : Fin 512) (q : Fin 2560) :
    out0_3 (iblk m c 0 t) (iblk m c 1 t) (iblk m c 2 t) (ix2 r q) = total (m (c.tc.loc main_arg0)) (m (c.tc.loc main_arg1)) (m (c.tc.loc main_arg2)) (ix2 (row t r) q) := by
  rw [out_eq]
  refine (pay_at _ _ (hi q) r (lo q)).trans (Finset.sum_congr rfl fun k _ => ?_)
  rw [norm_pt, ib2]; rfl

theorem out_atN (t : Fin cfg0.N) (r : Fin 512) (k : Fin 1024) :
    out0_4 (iblk m c 0 t) (iblk m c 1 t) (iblk m c 2 t) (ix2 r k) = totalN (m (c.tc.loc main_arg0)) (m (c.tc.loc main_arg1)) (ix2 (row t r) k) := by
  rw [out_eqN, norm_pt]

/-- What a point writes back is its rows of the array. -/
theorem flushed_out (t : Fin cfg0.N) (_ : (cfg0.win 3).flush t = true) :
    (dats m 0 c).flushed 3 t = ((cfg0.win 3).blk t).view.read (Elt Ideal) (total (m (c.tc.loc main_arg0)) (m (c.tc.loc main_arg1)) (m (c.tc.loc main_arg2))) := by
  rw [flushed3]
  funext j
  rw [View.read_apply]
  have j0 : (j 0).val < 512 := (j 0).isLt
  have j1 : (j 1).val < 2560 := (j 1).isLt
  have ej : (cfg0.win 3).cut (grid0.coords t) (out0_3 (iblk m c 0 t) (iblk m c 1 t) (iblk m c 2 t)) j
      = (out0_3 (iblk m c 0 t) (iblk m c 1 t) (iblk m c 2 t)) (ix2 ⟨(j 0).val, j0⟩ ⟨(j 1).val, j1⟩) :=
    congrArg _ (funext fun a => Fin.ext (by match a with | ⟨0, _⟩ => rfl | ⟨1, _⟩ => rfl))
  have ee : (((cfg0.win 3).blk t).view.emb j) = ix2 (row t ⟨(j 0).val, j0⟩) ⟨(j 1).val, j1⟩ := by
    funext a; apply Fin.ext
    match a with
    | ⟨0, _⟩ => show win0_3.index t 0 * 512 + 1 * (j 0).val = 512 * t.val + (j 0).val; rw [(idx3 t).1]; omega
    | ⟨1, _⟩ => show win0_3.index t 1 * 2560 + 1 * (j 1).val = (j 1).val; rw [(idx3 t).2]; omega
  exact ej.trans ((out_at m c t _ _).trans (congrArg _ ee).symm)

/-- What the array ends holding. -/
theorem final_out : (dats m 0 c).arrAt 3 cfg0.N = total (m (c.tc.loc main_arg0)) (m (c.tc.loc main_arg1)) (m (c.tc.loc main_arg2)) :=
  (dats m 0 c).arrAt_eq_of_cover 3 _ (flushed_out m c) fun i => by
    have i0 : (i 0).val < 4096 := (i 0).isLt
    have i1 : (i 1).val < 2560 := (i 1).isLt
    let t : Fin cfg0.N := ⟨(i 0).val / 512, Nat.lt_of_lt_of_eq (by omega) N_0.symm⟩
    have ht : t.val = (i 0).val / 512 := rfl
    refine ⟨t, flush0_3 t, ?_⟩
    show i ∈ ((View.whole main_v0_0).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(idx3 t).1]; omega
    | ⟨1, _⟩ => show win0_3.index t 1 * 2560 ≤ (i 1).val ∧ (i 1).val < win0_3.index t 1 * 2560 + 2560
                rw [(idx3 t).2]; omega

/-- What a point writes back is its rows of the array. -/
theorem flushed_norm (t : Fin cfg0.N) (_ : (cfg0.win 4).flush t = true) :
    (dats m 0 c).flushed 4 t = ((cfg0.win 4).blk t).view.read (Elt Ideal) (totalN (m (c.tc.loc main_arg0)) (m (c.tc.loc main_arg1))) := by
  rw [flushed4]
  funext j
  rw [View.read_apply]
  have j0 : (j 0).val < 512 := (j 0).isLt
  have j1 : (j 1).val < 1024 := (j 1).isLt
  have ej : (cfg0.win 4).cut (grid0.coords t) (out0_4 (iblk m c 0 t) (iblk m c 1 t) (iblk m c 2 t)) j
      = (out0_4 (iblk m c 0 t) (iblk m c 1 t) (iblk m c 2 t)) (ix2 ⟨(j 0).val, j0⟩ ⟨(j 1).val, j1⟩) :=
    congrArg _ (funext fun a => Fin.ext (by match a with | ⟨0, _⟩ => rfl | ⟨1, _⟩ => rfl))
  have ee : (((cfg0.win 4).blk t).view.emb j) = ix2 (row t ⟨(j 0).val, j0⟩) ⟨(j 1).val, j1⟩ := by
    funext a; apply Fin.ext
    match a with
    | ⟨0, _⟩ => show win0_4.index t 0 * 512 + 1 * (j 0).val = 512 * t.val + (j 0).val; rw [(idx4 t).1]; omega
    | ⟨1, _⟩ => show win0_4.index t 1 * 1024 + 1 * (j 1).val = (j 1).val; rw [(idx4 t).2]; omega
  exact ej.trans ((out_atN m c t _ _).trans (congrArg _ ee).symm)

/-- What the array ends holding. -/
theorem final_norm : (dats m 0 c).arrAt 4 cfg0.N = totalN (m (c.tc.loc main_arg0)) (m (c.tc.loc main_arg1)) :=
  (dats m 0 c).arrAt_eq_of_cover 4 _ (flushed_norm m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_4 t, ?_⟩
    show i ∈ ((View.whole main_v0_1).slice (win0_4.rect t)).set
    rw [View.set_slice_whole, Rect.mem_set_unit]
    intro a
    match a with
    | ⟨0, _⟩ => show win0_4.index t 0 * 512 ≤ (i 0).val ∧ (i 0).val < win0_4.index t 0 * 512 + 512
                rw [(idx4 t).1]; omega
    | ⟨1, _⟩ => show win0_4.index t 1 * 1024 ≤ (i 1).val ∧ (i 1).val < win0_4.index t 1 * 1024 + 1024
                rw [(idx4 t).2]; omega
end

section
open Cert.Reference10Ideal Cert.Reference10Ideal.Gen Cert.Reference10Ideal.Read

/-- The reference's normalised rows. -/
theorem ref_rows (x0 : FVec Ideal S4096x1024 .f32) (x1 : FVec Ideal S1x1024 .f32) (n : Fin 4096) (k : Fin 1024) :
    val_main_v11 (F := Ideal) x0 x1 (ix2 n k) = nr (fun k => x0 (ix2 n k)) (fun k => x1 (ix2 0 k)) k := by
  rw [val_main_v11_apply, val_main_v9_apply, val_main_v8_apply, val_main_v7_apply, val_main_v6_apply, val_main_v4_apply,
    val_main_v2_apply, val_main_v1_apply, val_main_v3_apply, val_main_v5_apply, val_main_v10_apply]
  have hs : (val_main_cst (F := Ideal)) (Shape.Idx.first h_S_)
      + ∑ k' : Fin 1024, val_main_v0 (F := Ideal) x0 (idx_main_v1 (idx_main_v2 (idx_main_v8 (ix2 n k))) k')
      = ∑ k' : Fin 1024, x0 (ix2 n k') * x0 (ix2 n k') := by
    rw [show (val_main_cst (F := Ideal)) (Shape.Idx.first h_S_) = 0 from Ideal.ofBits_zero_f32, zero_add]
    refine Finset.sum_congr rfl fun k' _ => ?_
    have e : idx_main_v1 (idx_main_v2 (idx_main_v8 (ix2 n k))) k' = ix2 n k' :=
      funext fun a => by match a with | ⟨0, _⟩ => rfl | ⟨1, _⟩ => rfl
    rw [e]; rfl
  rw [hs]
  have e : idx_main_v10 (ix2 n k) = ix2 0 k := funext fun a => by match a with | ⟨0, _⟩ => rfl | ⟨1, _⟩ => rfl
  rw [e]
  rfl

/-- The reference's second result is the normalised rows. -/
theorem ref_norm (x0 : FVec Ideal S4096x1024 .f32) (x1 : FVec Ideal S1x1024 .f32) :
    val_main_v16 (F := Ideal) x0 x1 = totalN x0 x1 := funext fun i => by
  obtain ⟨n, q, rfl⟩ : ∃ (n : Fin 4096) (q : Fin 1024), i = ix2 n q :=
    ⟨i 0, i 1, funext fun a => by match a with | ⟨0, _⟩ => rfl | ⟨1, _⟩ => rfl⟩
  rw [val_main_v16_apply]
  exact ref_rows x0 x1 n q

/-- The reference's first result is the product. -/
theorem ref_out (x0 : FVec Ideal S4096x1024 .f32) (x1 : FVec Ideal S1x1024 .f32) (x2 : FVec Ideal S4x1024x640 .bf16) :
    val_main_v15 (F := Ideal) x0 x1 x2 = total x0 x1 x2 := funext fun i => by
  obtain ⟨n, q, rfl⟩ : ∃ (n : Fin 4096) (q : Fin 2560), i = ix2 n q :=
    ⟨i 0, i 1, funext fun a => by match a with | ⟨0, _⟩ => rfl | ⟨1, _⟩ => rfl⟩
  rw [val_main_v15_apply]
  refine Finset.sum_congr rfl fun k _ => ?_
  have el : lidx_main_v15 (ix2 n q) k = ix2 n k := funext fun a => by match a with | ⟨0, _⟩ => rfl | ⟨1, _⟩ => rfl
  rw [el, ref_rows, val_main_v14_apply, val_main_v13_apply, val_main_v12_apply]
  refine congrArg₂ (· * ·) rfl (congrArg x2 (funext fun a => Fin.ext ?_))
  match a with
  | ⟨0, _⟩ => show (k.val * 2560 + q.val) / 640 % 4 = q.val / 640; omega
  | ⟨1, _⟩ => show (k.val * 2560 + q.val) / 2560 = k.val; omega
  | ⟨2, _⟩ => show (k.val * 2560 + q.val) % 640 = q.val % 640; omega
end

theorem frame_ref (m : (ℓ : Loc Reference10Ideal.nD Reference10Ideal.τ Reference10Ideal.sig) → Buf (Elt Ideal) ℓ)
    (ρ : Dev Reference10Ideal.nD → PrngReg) :
    θ_run (Reference10Ideal.defs (F := Ideal)) (onTc (τ := Reference10Ideal.τ) (Reference10Ideal.main (F := Ideal))) ⟨m, fun _ => 0, ρ⟩ (fun r => (∀ c : Dev Reference10Ideal.nD,
      r.2.mem (c.tc.loc Reference10Ideal.main_arg0) = m (c.tc.loc Reference10Ideal.main_arg0)
      ∧ r.2.mem (c.tc.loc Reference10Ideal.main_arg1) = m (c.tc.loc Reference10Ideal.main_arg1)
      ∧ r.2.mem (c.tc.loc Reference10Ideal.main_arg2) = m (c.tc.loc Reference10Ideal.main_arg2))
      ∧ r.2.sem = fun _ => 0) :=
  (θ_run Reference10Ideal.defs _ _).mono (fun r h => ⟨fun c => (h c).2.2,
    sem_eq_zero_of_no_sems (by decide) r.2⟩) (Reference10Ideal.Value.run (F := Ideal) m ρ)

/-- From equal arguments the kernel's results are the reference's. -/
theorem algebraic : Cert.algebraic_Kernel10Ideal_Reference10Ideal := by
  intro m ρ m' ρ' hpre hargs
  refine ⟨fun c => total (m (c.tc.loc Kernel10Ideal.main_arg0))
      (m (c.tc.loc Kernel10Ideal.main_arg1))
      (m (c.tc.loc Kernel10Ideal.main_arg2)), fun c => totalN (m (c.tc.loc Kernel10Ideal.main_arg0))
      (m (c.tc.loc Kernel10Ideal.main_arg1)), ?_, ?_⟩
  · refine (θ_run Kernel10Ideal.defs _ _).mono (fun r h c => ?_) (Kernel10Ideal.Value.run_blocks (F := Ideal) m ρ)
    obtain ⟨h0, h1, ha⟩ := h c
    exact ⟨h0.trans (final_out m c), h1.trans (final_norm m c), ha⟩
  · refine (θ_run Reference10Ideal.defs _ _).mono (fun r h c => ?_) (Reference10Ideal.Value.run (F := Ideal) m' ρ')
    obtain ⟨h0, h1, ha⟩ := h c
    obtain ⟨b0, b1, b2⟩ := hargs c
    refine ⟨h0.trans ?_, h1.trans ?_, ha⟩
    · refine (Reference10Ideal.Read.val_main_v15_eq _ _ _).trans ?_
      rw [b0, b1, b2]
      exact ref_out _ _ _
    · refine (Reference10Ideal.Read.val_main_v16_eq _ _).trans ?_
      rw [b0, b1]
      exact ref_norm _ _

end Cert.Row10

end
-- ==== Proof.Row11.lean ====
/- The feed-forward layer's down projection with the residual: the rows plus the four blocks' products, added one by one in
   the kernel, as one product in the reference. -/
module

public import proofs.«01_k».proof.Proof.Soft
public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row11

open Idealize.ShloMosaic Idealize.ShloMosaic.TcCoe Idealize.ShloMosaic.Tactic
open Idealize.SL.Sem

section
open Cert.Kernel11Ideal Cert.Kernel11Ideal.Gen Cert.Kernel11Ideal.Value

theorem hz : (![0, 0] : Fin 2 → Nat) = fun _ => 0 := funext fun a => by fin_cases a <;> rfl
theorem hz3 : (![0, 0, 0] : Fin 3 → Nat) = fun _ => 0 := funext fun a => by fin_cases a <;> rfl

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- Column `f` of block `j` among all hidden columns. -/
def col (j : Fin 4) (f : Fin 704) : Fin 2816 := ⟨704 * j.val + f.val, by omega⟩

/-- Block `j` of an array of four. -/
def slab {a b : ℕ} {φ : EltTy} (X : Vec Ideal ⟨3, ![4, a, b]⟩ φ) (j : Fin 4) : Vec Ideal ⟨3, ![1, a, b]⟩ φ := fun i => X (ix3 j (i 1) (i 2))

/-- A load of block `j` is that block. -/
theorem ld_slab {a b : ℕ} {φ : EltTy} (X : Vec Ideal ⟨3, ![4, a, b]⟩ φ) (n : ℕ) (hn : n < 4)
    (inb : ∀ d, (![n, 0, 0] : Fin 3 → ℕ) d + (⟨3, ![1, a, b]⟩ : Shape).size d ≤ (⟨3, ![4, a, b]⟩ : Shape).size d) :
    View.ld X (Rect.unit (s := ⟨3, ![4, a, b]⟩) ![n, 0, 0] (⟨3, ![1, a, b]⟩ : Shape).size inb) = slab X ⟨n, hn⟩ := by
  funext x
  show X _ = X _
  congr 1; funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

/-- The result's entries. -/
def total (a0 : FVec Ideal S4x4096x704 .bf16) (a1 : FVec Ideal S4x704x1024 .bf16) (a2 : FVec Ideal S4096x1024 .f32) : S4096x1024.Idx → EReal :=
  fun i => a2 (ix2 (i 0) (i 1)) + ∑ j : Fin 4, ∑ f : Fin 704, a0 (ix3 j (i 0) f) * a1 (ix3 j f (i 1))

theorem ldA (X : Vec Ideal S4x512x704 .bf16) (n : ℕ) (hn : n < 4) (inb : ∀ d, (![n, 0, 0] : Fin 3 → ℕ) d + S1x512x704.size d ≤ S4x512x704.size d) :
    View.ld X (Rect.unit (s := S4x512x704) ![n, 0, 0] S1x512x704.size inb) = slab X ⟨n, hn⟩ := ld_slab X n hn inb
theorem ldW (X : Vec Ideal S4x704x1024 .bf16) (n : ℕ) (hn : n < 4) (inb : ∀ d, (![n, 0, 0] : Fin 3 → ℕ) d + S1x704x1024.size d ≤ S4x704x1024.size d) :
    View.ld X (Rect.unit (s := S4x704x1024) ![n, 0, 0] S1x704x1024.size inb) = slab X ⟨n, hn⟩ := ld_slab X n hn inb

theorem out_eq (x0 : Vec Ideal S4x512x704 .bf16) (x1 : Vec Ideal S4x704x1024 .bf16) (x2 : Vec Ideal S512x1024 .f32) :
    out0_3 x0 x1 x2 = k0_pay1 x2 (slab x0 0) (slab x1 0) (slab x0 1) (slab x1 1) (slab x0 2) (slab x1 2) (slab x0 3) (slab x1 3) := by
  unfold out0_3
  rw [View.canon_unit_zero hz, View.ld_unit_zero (S := S512x1024) hz,
    ldA x0 0 (by decide), ldA x0 1 (by decide), ldA x0 2 (by decide), ldA x0 3 (by decide),
    ldW x1 0 (by decide), ldW x1 1 (by decide), ldW x1 2 (by decide), ldW x1 3 (by decide)]
  rfl

/-- A tile of the result at an entry. -/
theorem blk_at (x0 : Vec Ideal S4x512x704 .bf16) (x1 : Vec Ideal S4x704x1024 .bf16) (x2 : Vec Ideal S512x1024 .f32) (r : Fin 512) (q : Fin 1024) :
    k0_pay1 x2 (slab x0 0) (slab x1 0) (slab x0 1) (slab x1 1) (slab x0 2) (slab x1 2) (slab x0 3) (slab x1 3) (ix2 r q)
      = x2 (ix2 r q) + ∑ j : Fin 4, ∑ f : Fin 704, x0 (ix3 j r f) * x1 (ix3 j f q) := by
  rw [Fin.sum_univ_four, ← add_assoc, ← add_assoc, ← add_assoc]
  pointwise [k0_pay1]
  rfl

theorem idx0 : ∀ t : Fin cfg0.N, win0_0.index t 0 = 0 ∧ win0_0.index t 1 = t.val ∧ win0_0.index t 2 = 0 :=
  (by decide +kernel : ∀ t : Fin grid0.N, _)

theorem idx1 : ∀ t : Fin cfg0.N, win0_1.index t 0 = 0 ∧ win0_1.index t 1 = 0 ∧ win0_1.index t 2 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx3 : ∀ t : Fin cfg0.N, win0_3.index t 0 = t.val ∧ win0_3.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 4) (p1 : Fin 512) (p2 : Fin 704) : (iblk m c 0 t : Vec Ideal S4x512x704 .bf16) (ix3 p0 p1 p2)
    = m (c.tc.loc main_arg0) (ix3 p0 (row t p1) p2) := by
  unfold iblk; rw [View.read_apply]
  have e : (((cfg0.win 0).blk t).view.emb (ix3 p0 p1 p2)) = ix3 p0 (row t p1) p2 := by
    funext a; apply Fin.ext
    match a with
    | ⟨0, _⟩ => show win0_0.index t 0 * 4 + 1 * p0.val = p0.val; rw [(idx0 t).1]; omega
    | ⟨1, _⟩ => show win0_0.index t 1 * 512 + 1 * p1.val = 512 * t.val + p1.val; rw [(idx0 t).2.1]; omega
    | ⟨2, _⟩ => show win0_0.index t 2 * 704 + 1 * p2.val = p2.val; rw [(idx0 t).2.2]; omega
  exact (congrFun (V_main_arg0 m c) _).trans (congrArg _ e)

/-- Point `t`'s block of argument 1. -/
theorem ib1 (t : Fin cfg0.N) (p0 : Fin 4) (p1 : Fin 704) (p2 : Fin 1024) : (iblk m c 1 t : Vec Ideal S4x704x1024 .bf16) (ix3 p0 p1 p2)
    = m (c.tc.loc main_arg1) (ix3 p0 p1 p2) := by
  unfold iblk; rw [View.read_apply]
  have e : (((cfg0.win 1).blk t).view.emb (ix3 p0 p1 p2)) = ix3 p0 p1 p2 := by
    funext a; apply Fin.ext
    match a with
    | ⟨0, _⟩ => show win0_1.index t 0 * 4 + 1 * p0.val = p0.val; rw [(idx1 t).1]; omega
    | ⟨1, _⟩ => show win0_1.index t 1 * 704 + 1 * p1.val = p1.val; rw [(idx1 t).2.1]; omega
    | ⟨2, _⟩ => show win0_1.index t 2 * 1024 + 1 * p2.val = p2.val; rw [(idx1 t).2.2]; omega
  exact (congrFun (V_main_arg1 m c) _).trans (congrArg _ e)

/-- Point `t`'s block of argument 2. -/
theorem ib2 (t : Fin cfg0.N) (p0 : Fin 512) (p1 : Fin 1024) : (iblk m c 2 t : Vec Ideal S512x1024 .f32) (ix2 p0 p1)
    = m (c.tc.loc main_arg2) (ix2 (row t p0) p1) := by
  unfold iblk; rw [View.read_apply]
  have e : (((cfg0.win 2).blk t).view.emb (ix2 p0 p1)) = ix2 (row t p0) p1 := by
    funext a; apply Fin.ext
    match a with
    | ⟨0, _⟩ => show win0_2.index t 0 * 512 + 1 * p0.val = 512 * t.val + p0.val; rw [(idx2 t).1]; omega
    | ⟨1, _⟩ => show win0_2.index t 1 * 1024 + 1 * p1.val = p1.val; rw [(idx2 t).2]; omega
  exact (congrFun (V_main_arg2 m c) _).trans (congrArg _ e)

theorem out_at (t : Fin cfg0.N) (r : Fin 512) (q : Fin 1024) :
    out0_3 (iblk m c 0 t) (iblk m c 1 t) (iblk m c 2 t) (ix2 r q) = total (m (c.tc.loc main_arg0)) (m (c.tc.loc main_arg1)) (m (c.tc.loc main_arg2)) (ix2 (row t r) q) := by
  rw [out_eq, blk_at, ib2]
  refine congrArg₂ (· + ·) rfl (Finset.sum_congr rfl fun j _ => Finset.sum_congr rfl fun f _ => ?_)
  rw [ib0, ib1]; rfl

/-- What a point writes back is its rows of the array. -/
theorem flushed_out (t : Fin cfg0.N) (_ : (cfg0.win 3).flush t = true) :
    (dats m 0 c).flushed 3 t = ((cfg0.win 3).blk t).view.read (Elt Ideal) (total (m (c.tc.loc main_arg0)) (m (c.tc.loc main_arg1)) (m (c.tc.loc main_arg2))) := by
  rw [flushed3]
  funext j
  rw [View.read_apply]
  have j0 : (j 0).val < 512 := (j 0).isLt
  have j1 : (j 1).val < 1024 := (j 1).isLt
  have ej : (cfg0.win 3).cut (grid0.coords t) (out0_3 (iblk m c 0 t) (iblk m c 1 t) (iblk m c 2 t)) j
      = (out0_3 (iblk m c 0 t) (iblk m c 1 t) (iblk m c 2 t)) (ix2 ⟨(j 0).val, j0⟩ ⟨(j 1).val, j1⟩) :=
    congrArg _ (funext fun a => Fin.ext (by match a with | ⟨0, _⟩ => rfl | ⟨1, _⟩ => rfl))
  have ee : (((cfg0.win 3).blk t).view.emb j) = ix2 (row t ⟨(j 0).val, j0⟩) ⟨(j 1).val, j1⟩ := by
    funext a; apply Fin.ext
    match a with
    | ⟨0, _⟩ => show win0_3.index t 0 * 512 + 1 * (j 0).val = 512 * t.val + (j 0).val; rw [(idx3 t).1]; omega
    | ⟨1, _⟩ => show win0_3.index t 1 * 1024 + 1 * (j 1).val = (j 1).val; rw [(idx3 t).2]; omega
  exact ej.trans ((out_at m c t _ _).trans (congrArg _ ee).symm)

/-- What the array ends holding. -/
theorem final_out : (dats m 0 c).arrAt 3 cfg0.N = total (m (c.tc.loc main_arg0)) (m (c.tc.loc main_arg1)) (m (c.tc.loc main_arg2)) :=
  (dats m 0 c).arrAt_eq_of_cover 3 _ (flushed_out m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(idx3 t).1]; omega
    | ⟨1, _⟩ => show win0_3.index t 1 * 1024 ≤ (i 1).val ∧ (i 1).val < win0_3.index t 1 * 1024 + 1024
                rw [(idx3 t).2]; omega
end

section
open Cert.Reference11Ideal Cert.Reference11Ideal.Gen Cert.Reference11Ideal.Read

/-- The reference's result is the same sum. -/
theorem ref_out (x0 : FVec Ideal S4x4096x704 .bf16) (x1 : FVec Ideal S4x704x1024 .bf16) (x2 : FVec Ideal S4096x1024 .f32) :
    val_main_v6 (F := Ideal) x0 x1 x2 = total x0 x1 x2 := funext fun i => by
  obtain ⟨n, q, rfl⟩ : ∃ (n : Fin 4096) (q : Fin 1024), i = ix2 n q :=
    ⟨i 0, i 1, funext fun a => by match a with | ⟨0, _⟩ => rfl | ⟨1, _⟩ => rfl⟩
  rw [val_main_v6_apply, val_main_v5_apply]
  refine congrArg₂ (· + ·) rfl ?_
  rw [Cert.Attn.sum_blocks 4 704 2816 rfl]
  refine Finset.sum_congr rfl fun j _ => Finset.sum_congr rfl fun f _ => ?_
  rw [val_main_v4_apply, val_main_v3_apply, val_main_v2_apply, val_main_v1_apply, val_main_v0_apply]
  refine congrArg₂ (· * ·) (congrArg x0 (funext fun a => Fin.ext ?_)) (congrArg x1 (funext fun a => Fin.ext ?_))
  · match a with
    | ⟨0, _⟩ => show (n.val * 2816 + (704 * j.val + f.val)) / 704 % 4 = j.val; omega
    | ⟨1, _⟩ => show (n.val * 2816 + (704 * j.val + f.val)) / 2816 = n.val; omega
    | ⟨2, _⟩ => show (n.val * 2816 + (704 * j.val + f.val)) % 704 = f.val; omega
  · match a with
    | ⟨0, _⟩ => show ((704 * j.val + f.val) * 1024 + q.val) / 720896 = j.val; omega
    | ⟨1, _⟩ => show ((704 * j.val + f.val) * 1024 + q.val) / 1024 % 704 = f.val; omega
    | ⟨2, _⟩ => show ((704 * j.val + f.val) * 1024 + q.val) % 1024 = q.val; omega
end

theorem frame_ref (m : (ℓ : Loc Reference11Ideal.nD Reference11Ideal.τ Reference11Ideal.sig) → Buf (Elt Ideal) ℓ)
    (ρ : Dev Reference11Ideal.nD → PrngReg) :
    θ_run (Reference11Ideal.defs (F := Ideal)) (onTc (τ := Reference11Ideal.τ) (Reference11Ideal.main (F := Ideal))) ⟨m, fun _ => 0, ρ⟩ (fun r => (∀ c : Dev Reference11Ideal.nD,
      r.2.mem (c.tc.loc Reference11Ideal.main_arg0) = m (c.tc.loc Reference11Ideal.main_arg0)
      ∧ r.2.mem (c.tc.loc Reference11Ideal.main_arg1) = m (c.tc.loc Reference11Ideal.main_arg1)
      ∧ r.2.mem (c.tc.loc Reference11Ideal.main_arg2) = m (c.tc.loc Reference11Ideal.main_arg2))
      ∧ r.2.sem = fun _ => 0) :=
  (θ_run Reference11Ideal.defs _ _).mono (fun r h => ⟨fun c => (h c).2,
    sem_eq_zero_of_no_sems (by decide) r.2⟩) (Reference11Ideal.Value.run (F := Ideal) m ρ)

/-- From equal arguments the kernel's results are the reference's. -/
theorem algebraic : Cert.algebraic_Kernel11Ideal_Reference11Ideal := by
  intro m ρ m' ρ' hpre hargs
  refine ⟨fun c => total (m (c.tc.loc Kernel11Ideal.main_arg0))
      (m (c.tc.loc Kernel11Ideal.main_arg1))
      (m (c.tc.loc Kernel11Ideal.main_arg2)), ?_, ?_⟩
  · refine (θ_run Kernel11Ideal.defs _ _).mono (fun r h c => ?_) (Kernel11Ideal.Value.run_blocks (F := Ideal) m ρ)
    obtain ⟨h0, ha⟩ := h c
    exact ⟨h0.trans (final_out m c), ha⟩
  · refine (θ_run Reference11Ideal.defs _ _).mono (fun r h c => ?_) (Reference11Ideal.Value.run (F := Ideal) m' ρ')
    obtain ⟨h0, ha⟩ := h c
    obtain ⟨b0, b1, b2⟩ := hargs c
    refine ⟨h0.trans ?_, ha⟩
    · refine (Reference11Ideal.Read.val_main_v6_eq _ _ _).trans ?_
      rw [b0, b1, b2]
      exact ref_out _ _ _

end Cert.Row11

end
-- ==== Proof.Row12.lean ====
/- The output projection with the residual: the rows plus the mixed rows times the weights, tile by tile in the kernel, as
   one product in the reference. -/
module

public import proofs.«01_k».proof.Proof.Soft
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row12

open Idealize.ShloMosaic Idealize.ShloMosaic.TcCoe Idealize.ShloMosaic.Tactic
open Idealize.SL.Sem

section
open Cert.Kernel12Ideal Cert.Kernel12Ideal.Gen Cert.Kernel12Ideal.Value

theorem hz : (![0, 0] : Fin 2 → Nat) = fun _ => 0 := funext fun a => by fin_cases a <;> rfl
theorem hz3 : (![0, 0, 0] : Fin 3 → Nat) = fun _ => 0 := funext fun a => by fin_cases a <;> rfl

/-- The block a column lies in. -/
def hi (k : Fin 1024) : Fin 4 := ⟨k.val / 256, by omega⟩
/-- Its place there. -/
def lo (k : Fin 1024) : Fin 256 := ⟨k.val % 256, by omega⟩

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- The result's entries. -/
def total (a0 : FVec Ideal S4096x1024 .bf16) (a1 : FVec Ideal S4x256x1024 .bf16) (a2 : FVec Ideal S4096x1024 .f32) : S4096x1024.Idx → EReal :=
  fun i => a2 (ix2 (i 0) (i 1)) + ∑ k : Fin 1024, a0 (ix2 (i 0) k) * a1 (ix3 (hi k) (lo k) (i 1))

theorem out_eq (x0 : Vec Ideal S512x1024 .bf16) (x1 : Vec Ideal S4x256x1024 .bf16) (x2 : Vec Ideal S512x1024 .f32) :
    out0_3 x0 x1 x2 = k0_pay1 x0 x1 x2 := by
  unfold out0_3
  rw [View.canon_unit_zero hz, View.ld_unit_zero (S := S512x1024) hz, View.ld_unit_zero (S := S4x256x1024) hz3,
    View.ld_unit_zero (S := S512x1024) hz]

/-- A tile of the result at an entry. -/
theorem blk_at (x0 : Vec Ideal S512x1024 .bf16) (x1 : Vec Ideal S4x256x1024 .bf16) (x2 : Vec Ideal S512x1024 .f32) (r : Fin 512) (q : Fin 1024) :
    k0_pay1 x0 x1 x2 (ix2 r q) = x2 (ix2 r q) + ∑ k : Fin 1024, x0 (ix2 r k) * x1 (ix3 (hi k) (lo k) q) := by
  pointwise [k0_pay1]
  rfl

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 ∧ win0_1.index t 2 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx3 : ∀ t : Fin cfg0.N, win0_3.index t 0 = t.val ∧ win0_3.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 512) (p1 : Fin 1024) : (iblk m c 0 t : Vec Ideal S512x1024 .bf16) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 512 + 1 * p0.val = 512 * t.val + p0.val; rw [(idx0 t).1]; omega
    | ⟨1, _⟩ => show win0_0.index t 1 * 1024 + 1 * p1.val = p1.val; rw [(idx0 t).2]; omega
  exact (congrFun (V_main_arg0 m c) _).trans (congrArg _ e)

/-- Point `t`'s block of argument 1. -/
theorem ib1 (t : Fin cfg0.N) (p0 : Fin 4) (p1 : Fin 256) (p2 : Fin 1024) : (iblk m c 1 t : Vec Ideal S4x256x1024 .bf16) (ix3 p0 p1 p2)
    = m (c.tc.loc main_arg1) (ix3 p0 p1 p2) := by
  unfold iblk; rw [View.read_apply]
  have e : (((cfg0.win 1).blk t).view.emb (ix3 p0 p1 p2)) = ix3 p0 p1 p2 := by
    funext a; apply Fin.ext
    match a with
    | ⟨0, _⟩ => show win0_1.index t 0 * 4 + 1 * p0.val = p0.val; rw [(idx1 t).1]; omega
    | ⟨1, _⟩ => show win0_1.index t 1 * 256 + 1 * p1.val = p1.val; rw [(idx1 t).2.1]; omega
    | ⟨2, _⟩ => show win0_1.index t 2 * 1024 + 1 * p2.val = p2.val; rw [(idx1 t).2.2]; omega
  exact (congrFun (V_main_arg1 m c) _).trans (congrArg _ e)

/-- Point `t`'s block of argument 2. -/
theorem ib2 (t : Fin cfg0.N) (p0 : Fin 512) (p1 : Fin 1024) : (iblk m c 2 t : Vec Ideal S512x1024 .f32) (ix2 p0 p1)
    = m (c.tc.loc main_arg2) (ix2 (row t p0) p1) := by
  unfold iblk; rw [View.read_apply]
  have e : (((cfg0.win 2).blk t).view.emb (ix2 p0 p1)) = ix2 (row t p0) p1 := by
    funext a; apply Fin.ext
    match a with
    | ⟨0, _⟩ => show win0_2.index t 0 * 512 + 1 * p0.val = 512 * t.val + p0.val; rw [(idx2 t).1]; omega
    | ⟨1, _⟩ => show win0_2.index t 1 * 1024 + 1 * p1.val = p1.val; rw [(idx2 t).2]; omega
  exact (congrFun (V_main_arg2 m c) _).trans (congrArg _ e)

theorem out_at (t : Fin cfg0.N) (r : Fin 512) (q : Fin 1024) :
    out0_3 (iblk m c 0 t) (iblk m c 1 t) (iblk m c 2 t) (ix2 r q) = total (m (c.tc.loc main_arg0)) (m (c.tc.loc main_arg1)) (m (c.tc.loc main_arg2)) (ix2 (row t r) q) := by
  rw [out_eq, blk_at, ib2]
  refine congrArg₂ (· + ·) rfl (Finset.sum_congr rfl fun k _ => ?_)
  rw [ib0, ib1]; rfl

/-- What a point writes back is its rows of the array. -/
theorem flushed_out (t : Fin cfg0.N) (_ : (cfg0.win 3).flush t = true) :
    (dats m 0 c).flushed 3 t = ((cfg0.win 3).blk t).view.read (Elt Ideal) (total (m (c.tc.loc main_arg0)) (m (c.tc.loc main_arg1)) (m (c.tc.loc main_arg2))) := by
  rw [flushed3]
  funext j
  rw [View.read_apply]
  have j0 : (j 0).val < 512 := (j 0).isLt
  have j1 : (j 1).val < 1024 := (j 1).isLt
  have ej : (cfg0.win 3).cut (grid0.coords t) (out0_3 (iblk m c 0 t) (iblk m c 1 t) (iblk m c 2 t)) j
      = (out0_3 (iblk m c 0 t) (iblk m c 1 t) (iblk m c 2 t)) (ix2 ⟨(j 0).val, j0⟩ ⟨(j 1).val, j1⟩) :=
    congrArg _ (funext fun a => Fin.ext (by match a with | ⟨0, _⟩ => rfl | ⟨1, _⟩ => rfl))
  have ee : (((cfg0.win 3).blk t).view.emb j) = ix2 (row t ⟨(j 0).val, j0⟩) ⟨(j 1).val, j1⟩ := by
    funext a; apply Fin.ext
    match a with
    | ⟨0, _⟩ => show win0_3.index t 0 * 512 + 1 * (j 0).val = 512 * t.val + (j 0).val; rw [(idx3 t).1]; omega
    | ⟨1, _⟩ => show win0_3.index t 1 * 1024 + 1 * (j 1).val = (j 1).val; rw [(idx3 t).2]; omega
  exact ej.trans ((out_at m c t _ _).trans (congrArg _ ee).symm)

/-- What the array ends holding. -/
theorem final_out : (dats m 0 c).arrAt 3 cfg0.N = total (m (c.tc.loc main_arg0)) (m (c.tc.loc main_arg1)) (m (c.tc.loc main_arg2)) :=
  (dats m 0 c).arrAt_eq_of_cover 3 _ (flushed_out m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(idx3 t).1]; omega
    | ⟨1, _⟩ => show win0_3.index t 1 * 1024 ≤ (i 1).val ∧ (i 1).val < win0_3.index t 1 * 1024 + 1024
                rw [(idx3 t).2]; omega
end

section
open Cert.Reference12Ideal Cert.Reference12Ideal.Gen Cert.Reference12Ideal.Read

/-- The reference's result is the same sum. -/
theorem ref_out (x0 : FVec Ideal S4096x1024 .bf16) (x1 : FVec Ideal S4x256x1024 .bf16) (x2 : FVec Ideal S4096x1024 .f32) :
    val_main_v4 (F := Ideal) x0 x1 x2 = total x0 x1 x2 := funext fun i => by
  obtain ⟨n, q, rfl⟩ : ∃ (n : Fin 4096) (q : Fin 1024), i = ix2 n q :=
    ⟨i 0, i 1, funext fun a => by match a with | ⟨0, _⟩ => rfl | ⟨1, _⟩ => rfl⟩
  rw [val_main_v4_apply, val_main_v3_apply]
  refine congrArg₂ (· + ·) rfl (Finset.sum_congr rfl fun k _ => ?_)
  rw [val_main_v2_apply, val_main_v1_apply, val_main_v0_apply]
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => show (k.val * 1024 + q.val) / 262144 = k.val / 256; omega
    | ⟨1, _⟩ => show (k.val * 1024 + q.val) / 1024 % 256 = k.val % 256; omega
    | ⟨2, _⟩ => show (k.val * 1024 + q.val) % 1024 = q.val; omega
end

theorem frame_ref (m : (ℓ : Loc Reference12Ideal.nD Reference12Ideal.τ Reference12Ideal.sig) → Buf (Elt Ideal) ℓ)
    (ρ : Dev Reference12Ideal.nD → PrngReg) :
    θ_run (Reference12Ideal.defs (F := Ideal)) (onTc (τ := Reference12Ideal.τ) (Reference12Ideal.main (F := Ideal))) ⟨m, fun _ => 0, ρ⟩ (fun r => (∀ c : Dev Reference12Ideal.nD,
      r.2.mem (c.tc.loc Reference12Ideal.main_arg0) = m (c.tc.loc Reference12Ideal.main_arg0)
      ∧ r.2.mem (c.tc.loc Reference12Ideal.main_arg1) = m (c.tc.loc Reference12Ideal.main_arg1)
      ∧ r.2.mem (c.tc.loc Reference12Ideal.main_arg2) = m (c.tc.loc Reference12Ideal.main_arg2))
      ∧ r.2.sem = fun _ => 0) :=
  (θ_run Reference12Ideal.defs _ _).mono (fun r h => ⟨fun c => (h c).2,
    sem_eq_zero_of_no_sems (by decide) r.2⟩) (Reference12Ideal.Value.run (F := Ideal) m ρ)

/-- From equal arguments the kernel's results are the reference's. -/
theorem algebraic : Cert.algebraic_Kernel12Ideal_Reference12Ideal := by
  intro m ρ m' ρ' hpre hargs
  refine ⟨fun c => total (m (c.tc.loc Kernel12Ideal.main_arg0))
      (m (c.tc.loc Kernel12Ideal.main_arg1))
      (m (c.tc.loc Kernel12Ideal.main_arg2)), ?_, ?_⟩
  · refine (θ_run Kernel12Ideal.defs _ _).mono (fun r h c => ?_) (Kernel12Ideal.Value.run_blocks (F := Ideal) m ρ)
    obtain ⟨h0, ha⟩ := h c
    exact ⟨h0.trans (final_out m c), ha⟩
  · refine (θ_run Reference12Ideal.defs _ _).mono (fun r h c => ?_) (Reference12Ideal.Value.run (F := Ideal) m' ρ')
    obtain ⟨h0, ha⟩ := h c
    obtain ⟨b0, b1, b2⟩ := hargs c
    refine ⟨h0.trans ?_, ha⟩
    · refine (Reference12Ideal.Read.val_main_v4_eq _ _ _).trans ?_
      rw [b0, b1, b2]
      exact ref_out _ _ _

end Cert.Row12

end
-- ==== Proof.Fwd13.lean ====
/- The forward attention: each query block's four heads, the exponentials of a row's scores against the values, scaled by
   the reciprocal of their sum; the softmax's quotient against the values in the reference. -/
module

public import proofs.«01_k».proof.Proof.Pre
public import proofs.«01_k».proof.Proof.Gen.Pre_finite13
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Pipeline.Value
public import Idealize.ShloMosaic.Lib.Pointwise
public import Idealize.ShloMosaic.Lib.ReduceAll
public import Idealize.ShloMosaic.Adequacy
public import Idealize.ShloMosaic.Init

@[expose] public section

set_option maxRecDepth 16384

noncomputable section

namespace Cert.Fwd13

open Idealize.ShloMosaic Idealize.ShloMosaic.TcCoe Idealize.ShloMosaic.Tactic
open Idealize.SL.Sem
open Cert.Attn (rd rd_of rd_fin headDot heads Arr Real' heads_real top expo soft negInf sum_head coe_mul_sum expo_real quot_eq_soft)

section
open Cert.Kernel13Ideal Cert.Kernel13Ideal.Gen Cert.Kernel13Ideal.Value

theorem hz : (![0, 0] : Fin 2 → Nat) = fun _ => 0 := funext fun a => by fin_cases a <;> rfl

/-- The column of each entry. -/
def lanes : IVec S512x256 32 := iota .tc S512x256 32 [1] iota_S512x256_d1_w32
/-- Where the first head's lanes lie. -/
def mask0 : IVec S512x256 1 := k0_pay3
/-- Where the second head's lanes lie. -/
def mask1 : IVec S512x256 1 := k0_pay7 lanes 64#32 k0_pay4 k0_pay5 k0_pay6
/-- Where the third head's lanes lie. -/
def mask2 : IVec S512x256 1 := k0_pay8 lanes
/-- Where the fourth head's lanes lie. -/
def mask3 : IVec S512x256 1 := k0_pay10 lanes 64#32 (k0_pay9 lanes)

theorem mask0_at (r : Fin 512) (l : Fin 256) : mask0 (ix2 r l) = BitVec.ofBool (l.val / 64 = 0) := by
  pointwise [mask0, k0_pay3]
  revert l; decide +kernel

theorem mask1_at (r : Fin 512) (l : Fin 256) : mask1 (ix2 r l) = BitVec.ofBool (l.val / 64 = 1) := by
  pointwise [mask1, lanes, k0_pay7, k0_pay6, k0_pay5, k0_pay4]
  revert l; decide +kernel

theorem mask2_at (r : Fin 512) (l : Fin 256) : mask2 (ix2 r l) = BitVec.ofBool (l.val / 64 = 2) := by
  pointwise [mask2, lanes, k0_pay8]
  revert l; decide +kernel

theorem mask3_at (r : Fin 512) (l : Fin 256) : mask3 (ix2 r l) = BitVec.ofBool (l.val / 64 = 3) := by
  pointwise [mask3, lanes, k0_pay10, k0_pay9]
  revert l; decide +kernel

section
variable (x0 : Vec Ideal S512x256 .bf16) (x1 x2 : Vec Ideal S2048x256 .bf16)

/-- One head of the block, over all lanes. -/
def hd (msk : IVec S512x256 1) : FVec Ideal S512x256 .f32 :=
  mulf (k0_pay16 x0 x1 x2 msk) (broadcastTo S512x256 (k0_pay15 x0 x1 msk) broadcasts_S512x1_S512x256)

/-- The block: each head at its own lanes. -/
def oBlk : FVec Ideal S512x256 .f32 :=
  select mask3 (hd x0 x1 x2 mask3) (select mask2 (hd x0 x1 x2 mask2) (select mask1 (hd x0 x1 x2 mask1) (select mask0 (hd x0 x1 x2 mask0) (k0_pay2 (F := Ideal)))))

theorem out_eq : out0_3 x0 x1 x2 = oBlk x0 x1 x2 := by
  unfold out0_3
  rw [View.canon_unit_zero hz, View.ld_unit_zero (S := S512x256) hz, View.ld_unit_zero (S := S2048x256) hz, View.ld_unit_zero (S := S2048x256) hz]
  rfl

variable (msk : IVec S512x256 1) (h : Fin 4) (hm : ∀ (r : Fin 512) (l : Fin 256), msk (ix2 r l) = BitVec.ofBool (l.val / 64 = h.val))
include hm

theorem qDot (r : Fin 512) (y : Fin 2048) :
    ∑ l : Fin 256, (if l.val / 64 = h.val then x0 (ix2 r l) else 0) * x1 (ix2 y l) = headDot x0 x1 h.val r.val y := by
  rw [sum_head h (fun l => x0 (ix2 r l)) (fun l => x1 (ix2 y l))]
  exact Finset.sum_congr rfl fun d _ => by rw [rd_of x0 r.isLt (by omega), rd_of x1 y.isLt (by omega)]

/-- The exponentials of a head's scores. -/
theorem expo_at (r : Fin 512) (y : Fin 2048) : k0_pay14 x0 x1 msk (ix2 r y) = expo (headDot x0 x1 h.val r.val) y := by
  pointwise [k0_pay14, hm]
  simp only [qDot x0 x1 msk h hm, negInf]
  rfl

/-- A head at an entry. -/
theorem hd_at (r : Fin 512) (l : Fin 256) :
    hd x0 x1 x2 msk (ix2 r l) = (∑ y : Fin 2048, expo (headDot x0 x1 h.val r.val) y * rd x2 y.val l.val)
      * Ideal.div 1 (∑ y, expo (headDot x0 x1 h.val r.val) y) := by
  pointwise [hd, k0_pay16, k0_pay15]
  simp only [expo_at x0 x1 msk h hm, rd_fin]
end

/-- The block at an entry. -/
theorem o_at (x0 : Vec Ideal S512x256 .bf16) (x1 x2 : Vec Ideal S2048x256 .bf16) (r : Fin 512) (l : Fin 256) :
    oBlk x0 x1 x2 (ix2 r l) = (∑ y : Fin 2048, expo (headDot x0 x1 (l.val / 64) r.val) y * rd x2 y.val l.val)
      * Ideal.div 1 (∑ y, expo (headDot x0 x1 (l.val / 64) r.val) y) := by
  pointwise [oBlk, mask0_at, mask1_at, mask2_at, mask3_at]
  have hl := l.isLt
  split_ifs with h3 h2 h1 h0
  · rw [hd_at x0 x1 x2 mask3 3 mask3_at, h3]; rfl
  · rw [hd_at x0 x1 x2 mask2 2 mask2_at, h2]; rfl
  · rw [hd_at x0 x1 x2 mask1 1 mask1_at, h1]; rfl
  · rw [hd_at x0 x1 x2 mask0 0 mask0_at, h0]; rfl
  · omega

/-- Entry (`t`, `l`) of the result. -/
def oAt (Q K V : Arr) (t l : ℕ) : EReal :=
  (∑ y : Fin 2048, expo (heads Q K (t / 2048) (l / 64) (t % 2048)) y * rd V (2048 * (t / 2048) + y.val) l)
    * Ideal.div 1 (∑ y, expo (heads Q K (t / 2048) (l / 64) (t % 2048)) y)

/-- The result. -/
def oArr (Q K V : Arr) : Arr := fun i => oAt Q K V (i 0).val (i 1).val

variable (m : (ℓ : Loc nD τ sig) → Buf (Elt Ideal) ℓ) (c : Dev nD)

abbrev q : Arr := m (c.tc.loc main_arg0)
abbrev k : Arr := m (c.tc.loc main_arg1)
abbrev v : Arr := m (c.tc.loc main_arg2)

theorem ltN (t : Fin cfg0.N) : t.val < 16 := Nat.lt_of_lt_of_eq t.isLt N_0
theorem idx0 : ∀ t : Fin cfg0.N, win0_0.index t 0 = 4 * (t.val / 8) + t.val % 4 ∧ win0_0.index t 1 = t.val / 4 % 2 :=
  (by decide +kernel : ∀ t : Fin grid0.N, _)
theorem idx1 : ∀ t : Fin cfg0.N, win0_1.index t 0 = t.val / 8 ∧ win0_1.index t 1 = t.val / 4 % 2 :=
  (by decide +kernel : ∀ t : Fin grid0.N, _)
theorem idx2 : ∀ t : Fin cfg0.N, win0_2.index t 0 = t.val / 8 ∧ win0_2.index t 1 = t.val / 4 % 2 :=
  (by decide +kernel : ∀ t : Fin grid0.N, _)
theorem idx3 : ∀ t : Fin cfg0.N, win0_3.index t 0 = 4 * (t.val / 8) + t.val % 4 ∧ win0_3.index t 1 = t.val / 4 % 2 :=
  (by decide +kernel : ∀ t : Fin grid0.N, _)

/-- Where a point's block of argument 0 lies in the array. -/
theorem rd_q (t : Fin cfg0.N) (r l : ℕ) (hr : r < 512) (hl : l < 256) :
    rd (iblk m c 0 t : S512x256.Idx → EReal) r l = rd (q m c) (2048 * (t.val / 8) + (512 * (t.val % 4) + r)) (256 * (t.val / 4 % 2) + l) := by
  have ht := ltN t
  rw [rd_of _ hr hl, rd_of (q m c) (by omega) (by omega)]
  unfold iblk; rw [View.read_apply]
  show V m c main_arg0 _ = m (c.tc.loc main_arg0) _
  unfold V
  congr 1; funext a; apply Fin.ext
  match a with
  | ⟨0, _⟩ => show win0_0.index t 0 * 512 + 1 * r = _; rw [(idx0 t).1]; show _ = 2048 * (t.val / 8) + (512 * (t.val % 4) + r); omega
  | ⟨1, _⟩ => show win0_0.index t 1 * 256 + 1 * l = _; rw [(idx0 t).2]; show _ = 256 * (t.val / 4 % 2) + l; omega

/-- Where a point's block of argument 1 lies in the array. -/
theorem rd_k (t : Fin cfg0.N) (r l : ℕ) (hr : r < 2048) (hl : l < 256) :
    rd (iblk m c 1 t : S2048x256.Idx → EReal) r l = rd (k m c) (2048 * (t.val / 8) + r) (256 * (t.val / 4 % 2) + l) := by
  have ht := ltN t
  rw [rd_of _ hr hl, rd_of (k m c) (by omega) (by omega)]
  unfold iblk; rw [View.read_apply]
  show V m c main_arg1 _ = m (c.tc.loc main_arg1) _
  unfold V
  congr 1; funext a; apply Fin.ext
  match a with
  | ⟨0, _⟩ => show win0_1.index t 0 * 2048 + 1 * r = _; rw [(idx1 t).1]; show _ = 2048 * (t.val / 8) + r; omega
  | ⟨1, _⟩ => show win0_1.index t 1 * 256 + 1 * l = _; rw [(idx1 t).2]; show _ = 256 * (t.val / 4 % 2) + l; omega

/-- Where a point's block of argument 2 lies in the array. -/
theorem rd_v (t : Fin cfg0.N) (r l : ℕ) (hr : r < 2048) (hl : l < 256) :
    rd (iblk m c 2 t : S2048x256.Idx → EReal) r l = rd (v m c) (2048 * (t.val / 8) + r) (256 * (t.val / 4 % 2) + l) := by
  have ht := ltN t
  rw [rd_of _ hr hl, rd_of (v m c) (by omega) (by omega)]
  unfold iblk; rw [View.read_apply]
  show V m c main_arg2 _ = m (c.tc.loc main_arg2) _
  unfold V
  congr 1; funext a; apply Fin.ext
  match a with
  | ⟨0, _⟩ => show win0_2.index t 0 * 2048 + 1 * r = _; rw [(idx2 t).1]; show _ = 2048 * (t.val / 8) + r; omega
  | ⟨1, _⟩ => show win0_2.index t 1 * 256 + 1 * l = _; rw [(idx2 t).2]; show _ = 256 * (t.val / 4 % 2) + l; omega

/-- A row's scores in a point's blocks are the batch's scores. -/
theorem headDot_qk (t : Fin cfg0.N) (h r : ℕ) (hh : h < 4) (hr : r < 512) :
    headDot (iblk m c 0 t : S512x256.Idx → EReal) (iblk m c 1 t : S2048x256.Idx → EReal) h r
      = heads (q m c) (k m c) (t.val / 8) (4 * (t.val / 4 % 2) + h) (512 * (t.val % 4) + r) := by
  funext y
  refine Finset.sum_congr rfl fun d _ => ?_
  rw [rd_q m c t r _ hr (by omega), rd_k m c t y.val _ y.isLt (by omega),
    show 256 * (t.val / 4 % 2) + (64 * h + d.val) = 64 * (4 * (t.val / 4 % 2) + h) + d.val by omega]

/-- A point's block holds its part of the result. -/
theorem out_at (t : Fin cfg0.N) (r : Fin 512) (l : Fin 256) :
    out0_3 (iblk m c 0 t) (iblk m c 1 t) (iblk m c 2 t) (ix2 r l)
      = oAt (q m c) (k m c) (v m c) (2048 * (t.val / 8) + (512 * (t.val % 4) + r.val)) (256 * (t.val / 4 % 2) + l.val) := by
  rw [out_eq]
  refine (o_at _ _ _ r l).trans ?_
  have hl := l.isLt
  have hr := r.isLt
  unfold oAt
  rw [headDot_qk m c t _ _ (by omega) r.isLt, Cert.Attn.lane_div _ _ hl,
    show (2048 * (t.val / 8) + (512 * (t.val % 4) + r.val)) / 2048 = t.val / 8 by omega,
    show (2048 * (t.val / 8) + (512 * (t.val % 4) + r.val)) % 2048 = 512 * (t.val % 4) + r.val by omega]
  refine congrArg₂ (· * ·) (Finset.sum_congr rfl fun y _ => ?_) rfl
  rw [rd_v m c t _ _ y.isLt l.isLt]

/-- What a point writes back is its block of the result. -/
theorem flushed_o (t : Fin cfg0.N) (_ : (cfg0.win 3).flush t = true) :
    (dats m 0 c).flushed 3 t = ((cfg0.win 3).blk t).view.read (Elt Ideal) (oArr (q m c) (k m c) (v m c)) := by
  rw [flushed3]
  funext j
  rw [View.read_apply]
  have e0 : ((((cfg0.win 3).blk t).view.emb j) 0).val = win0_3.index t 0 * 512 + 1 * (j 0).val := rfl
  have e1 : ((((cfg0.win 3).blk t).view.emb j) 1).val = win0_3.index t 1 * 256 + 1 * (j 1).val := rfl
  have h0 : (j 0).val < 512 := (j 0).isLt
  have h1 : (j 1).val < 256 := (j 1).isLt
  have ej : (cfg0.win 3).cut (grid0.coords t) (out0_3 (iblk m c 0 t) (iblk m c 1 t) (iblk m c 2 t)) j
      = out0_3 (iblk m c 0 t) (iblk m c 1 t) (iblk m c 2 t) (ix2 ⟨(j 0).val, h0⟩ ⟨(j 1).val, h1⟩) :=
    congrArg _ (funext fun a => Fin.ext (by match a with | ⟨0, _⟩ => rfl | ⟨1, _⟩ => rfl))
  refine ej.trans ((out_at m c t ⟨(j 0).val, h0⟩ ⟨(j 1).val, h1⟩).trans ?_)
  show _ = oAt _ _ _ ((((cfg0.win 3).blk t).view.emb j) 0).val ((((cfg0.win 3).blk t).view.emb j) 1).val
  rw [e0, e1, (idx3 t).1, (idx3 t).2]
  congr 1 <;> dsimp only <;> omega

/-- What the result ends holding. -/
theorem final_o : (dats m 0 c).arrAt 3 cfg0.N = oArr (q m c) (k m c) (v m c) :=
  (dats m 0 c).arrAt_eq_of_cover 3 _ (flushed_o m c) fun i => by
    have i0 : (i 0).val < 4096 := (i 0).isLt
    have i1 : (i 1).val < 512 := (i 1).isLt
    let t : Fin cfg0.N := ⟨8 * ((i 0).val / 2048) + 4 * ((i 1).val / 256) + (i 0).val % 2048 / 512, Nat.lt_of_lt_of_eq (by omega) N_0.symm⟩
    have ht : t.val = 8 * ((i 0).val / 2048) + 4 * ((i 1).val / 256) + (i 0).val % 2048 / 512 := rfl
    refine ⟨t, flush0_3 t, ?_⟩
    show i ∈ ((View.whole main_v0).slice (win0_3.rect t)).set
    rw [View.set_slice_whole, Rect.mem_set_unit]
    intro a
    match a with
    | ⟨0, _⟩ => show win0_3.index t 0 * 512 ≤ (i 0).val ∧ (i 0).val < win0_3.index t 0 * 512 + 512
                rw [(idx3 t).1]; omega
    | ⟨1, _⟩ => show win0_3.index t 1 * 256 ≤ (i 1).val ∧ (i 1).val < win0_3.index t 1 * 256 + 256
                rw [(idx3 t).2]; omega
end

section
open Cert.Reference13Ideal Cert.Reference13Ideal.Gen Cert.Reference13Ideal.Read

variable (Q K V : Arr)

theorem r1_at (b : Fin 2) (x : Fin 2048) (h : Fin 8) (d : Fin 64) :
    val_main_v1 (F := Ideal) Q (ix4 b x h d) = rd Q (2048 * b.val + x.val) (64 * h.val + d.val) := by
  pointwise [val_main_v1, val_main_v0]
  exact Cert.Attn.rd_tok _ _ _ (by omega) (by omega)

theorem r3_at (b : Fin 2) (x : Fin 2048) (h : Fin 8) (d : Fin 64) :
    val_main_v3 (F := Ideal) K (ix4 b x h d) = rd K (2048 * b.val + x.val) (64 * h.val + d.val) := by
  pointwise [val_main_v3, val_main_v2]
  exact Cert.Attn.rd_tok _ _ _ (by omega) (by omega)

theorem r5_at (b : Fin 2) (x : Fin 2048) (h : Fin 8) (d : Fin 64) :
    val_main_v5 (F := Ideal) V (ix4 b x h d) = rd V (2048 * b.val + x.val) (64 * h.val + d.val) := by
  pointwise [val_main_v5, val_main_v4]
  exact Cert.Attn.rd_tok _ _ _ (by omega) (by omega)

/-- The reference's scores. -/
theorem r6_at (b : Fin 2) (x y : Fin 2048) (h : Fin 8) :
    val_main_v6 (F := Ideal) Q K (ix4 b h x y) = heads Q K b.val h.val x.val y := by
  unfold val_main_v6
  pointwise []
  simp only [r1_at, r3_at]
  rfl

/-- The largest score of a row. -/
theorem r9_at (b : Fin 2) (x : Fin 2048) (h : Fin 8) :
    val_main_v9 (F := Ideal) Q K (ix3 b h x) = top (heads Q K b.val h.val x.val) := by
  have e7 : val_main_v7 (F := Ideal) Q K (ix3 b h x) = top (heads Q K b.val h.val x.val) := by
    have e := Cert.Attn.red_at (val_main_v6 (F := Ideal) Q K) b x h
    rw [negInf] at e
    simp only [r6_at] at e
    unfold val_main_v7 val_main_cst
    exact e
  rw [val_main_v9_apply, e7, val_main_v8_apply]
  exact (congrArg (max · _) negInf).trans (max_eq_right bot_le)

/-- The exponentials. -/
theorem r13_at (b : Fin 2) (x y : Fin 2048) (h : Fin 8) :
    val_main_v13 (F := Ideal) Q K (ix4 b h x y) = expo (heads Q K b.val h.val x.val) y := by
  unfold val_main_v13 val_main_v12 val_main_v11 val_main_v10
  pointwise []
  simp only [r6_at, r9_at]
  rfl

/-- The probabilities, as a quotient. -/
theorem r17_at (b : Fin 2) (x y : Fin 2048) (h : Fin 8) :
    val_main_v17 (F := Ideal) Q K (ix4 b h x y)
      = Ideal.div (expo (heads Q K b.val h.val x.val) y) (∑ y, expo (heads Q K b.val h.val x.val) y) := by
  have e : ∀ z : Fin 1, val_main_v15 (F := Ideal) Q K (ix4 b h x z) = ∑ y, expo (heads Q K b.val h.val x.val) y := fun z => by
    unfold val_main_v15 val_main_v14
    pointwise [val_main_cst_1]
    simp only [r13_at]
  unfold val_main_v17 val_main_v16
  pointwise []
  simp only [r13_at, e]

/-- A row's quotients against a column, as the row's exponentials against it and one factor. -/
theorem quot_sum (s g : Fin 2048 → EReal) (hs : ∀ y, ∃ r : ℝ, s y = r) :
    ∑ y, g y * Ideal.div (expo s y) (∑ z, expo s z) = (∑ y, expo s y * g y) * Ideal.div 1 (∑ z, expo s z) := by
  obtain ⟨e, S, hS, -, -, hsum⟩ := expo_real s hs
  have hd : Ideal.div 1 (∑ z, expo s z) = ((1 / S : ℝ) : EReal) := by
    rw [hsum, Ideal.div_coe hS.ne', one_mul]
  rw [mul_comm (∑ y, expo s y * g y), hd, coe_mul_sum (by positivity)]
  refine Finset.sum_congr rfl fun y _ => ?_
  rw [quot_eq_soft s hs y]
  unfold soft
  rw [hd, mul_comm, mul_comm (expo s y), mul_assoc]

variable {Q K}

/-- The reference's result. -/
theorem ref_o (hQ : Real' Q) (hK : Real' K) : val_main_v20 (F := Ideal) Q K V = oArr Q K V := by
  funext i
  idx_vars i
  unfold val_main_v20 val_main_v19 val_main_v18
  pointwise []
  show _ = oAt Q K V i0.val i1.val
  unfold oAt
  rw [← quot_sum _ _ (heads_real hQ hK _ _ _)]
  refine Finset.sum_congr rfl fun y _ => ?_
  rw [r17_at, r5_at]
  congr 2
  show 64 * (i1.val / 64) + i1.val % 64 = i1.val
  omega
end

/-- The precondition makes the queries and the keys of every device real. -/
theorem real_of_pre (Q K V : FVec Ideal Pre_finite13.S4096x512 .bf16)
    (h : Pre_finite13.fn (F := Ideal) Q K V = fun _ => 1#1) : Real' Q ∧ Real' K := by
  have e := congrFun h (Shape.Idx.first Pre_finite13.Facts.h_S_)
  obtain ⟨a, b⟩ := IntOp.andi_eq_one.1 e
  exact ⟨Cert.Attn.real_of_all Q _ a, Cert.Attn.real_of_all K _ b⟩

theorem frame_ref (m : (ℓ : Loc Reference13Ideal.nD Reference13Ideal.τ Reference13Ideal.sig) → Buf (Elt Ideal) ℓ)
    (ρ : Dev Reference13Ideal.nD → PrngReg) :
    θ_run (Reference13Ideal.defs (F := Ideal)) (onTc (τ := Reference13Ideal.τ) (Reference13Ideal.main (F := Ideal))) ⟨m, fun _ => 0, ρ⟩ (fun r => (∀ c : Dev Reference13Ideal.nD,
      r.2.mem (c.tc.loc Reference13Ideal.main_arg0) = m (c.tc.loc Reference13Ideal.main_arg0)
      ∧ r.2.mem (c.tc.loc Reference13Ideal.main_arg1) = m (c.tc.loc Reference13Ideal.main_arg1)
      ∧ r.2.mem (c.tc.loc Reference13Ideal.main_arg2) = m (c.tc.loc Reference13Ideal.main_arg2))
      ∧ r.2.sem = fun _ => 0) :=
  (θ_run Reference13Ideal.defs _ _).mono (fun r h => ⟨fun c => (h c).2,
    sem_eq_zero_of_no_sems (by decide) r.2⟩) (Reference13Ideal.Value.run (F := Ideal) m ρ)

/-- From equal arguments with real queries and keys, the kernel's result is the reference's. -/
theorem algebraic : Cert.algebraic_Kernel13Ideal_Reference13Ideal_pre_finite13 := by
  intro m ρ m' ρ' hpre hargs
  refine ⟨fun d => oArr (q m d) (k m d) (v m d), ?_, ?_⟩
  · refine (θ_run Kernel13Ideal.defs _ _).mono (fun r h c => ?_) (Kernel13Ideal.Value.run_blocks (F := Ideal) m ρ)
    obtain ⟨h0, ha⟩ := h c
    exact ⟨h0.trans (final_o m c), ha⟩
  · refine (θ_run Reference13Ideal.defs _ _).mono (fun r h c => ?_) (Reference13Ideal.Value.run (F := Ideal) m' ρ')
    obtain ⟨h0, ha⟩ := h c
    obtain ⟨a0, a1, a2⟩ := hargs c
    obtain ⟨hQ, hK⟩ := real_of_pre _ _ _ (hpre c)
    refine ⟨h0.trans ?_, ha⟩
    refine (Reference13Ideal.Read.val_main_v20_eq _ _ _).trans ?_
    rw [a0, a1, a2]
    exact ref_o _ hQ hK

end Cert.Fwd13

end
-- ==== Proof.Row14.lean ====
/- The last layer's down projection with the loss: the rows' errors against the targets, their gradient, and the sums of
   their squares over the tiles; one product, the loss's gradient and one sum in the reference. -/
module

public import proofs.«01_k».proof.Proof.Norm
public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Row14

open Idealize.ShloMosaic Idealize.ShloMosaic.TcCoe Idealize.ShloMosaic.Tactic
open Idealize.SL.Sem

section
open Cert.Kernel14Ideal Cert.Kernel14Ideal.Gen Cert.Kernel14Ideal.Value

theorem hz : (![0, 0] : Fin 2 → Nat) = fun _ => 0 := funext fun a => by fin_cases a <;> rfl
theorem hz3 : (![0, 0, 0] : Fin 3 → Nat) = fun _ => 0 := funext fun a => by fin_cases a <;> rfl

theorem ltN (t : Fin cfg0.N) : t.val < 8 := Nat.lt_of_lt_of_eq t.isLt N_0

/-- Row `r` of point `t`'s tile. -/
def row (t : Fin cfg0.N) (r : Fin 512) : Fin 4096 := ⟨512 * t.val + r.val, by have := ltN t; omega⟩

/-- Column `f` of block `j` among all hidden columns. -/
def col (j : Fin 4) (f : Fin 704) : Fin 2816 := ⟨704 * j.val + f.val, by omega⟩

/-- Row `8 p + s`. -/
def tp (p : Fin 512) (s : Fin 8) : Fin 4096 := ⟨8 * p.val + s.val, by omega⟩

/-- Row `n`, for any number. -/
def tk (n : ℕ) : Fin 4096 := ⟨n % 4096, Nat.mod_lt _ (by norm_num)⟩

/-- Block `j` of an array of four. -/
def slab {a b : ℕ} {φ : EltTy} (X : Vec Ideal ⟨3, ![4, a, b]⟩ φ) (j : Fin 4) : Vec Ideal ⟨3, ![1, a, b]⟩ φ := fun i => X (ix3 j (i 1) (i 2))

/-- A load of block `j` is that block. -/
theorem ld_slab {a b : ℕ} {φ : EltTy} (X : Vec Ideal ⟨3, ![4, a, b]⟩ φ) (n : ℕ) (hn : n < 4)
    (inb : ∀ d, (![n, 0, 0] : Fin 3 → ℕ) d + (⟨3, ![1, a, b]⟩ : Shape).size d ≤ (⟨3, ![4, a, b]⟩ : Shape).size d) :
    View.ld X (Rect.unit (s := ⟨3, ![4, a, b]⟩) ![n, 0, 0] (⟨3, ![1, a, b]⟩ : Shape).size inb) = slab X ⟨n, hn⟩ := by
  funext x
  show X _ = X _
  congr 1; funext d; apply Fin.ext
  match d with
  | ⟨0, _⟩ => show n + 1 * (x 0).val = n; have : (x 0).val < 1 := (x 0).isLt; omega
  | ⟨1, _⟩ => show 0 + 1 * (x 1).val = (x 1).val; omega
  | ⟨2, _⟩ => show 0 + 1 * (x 2).val = (x 2).val; omega

theorem ldA (X : Vec Ideal S4x512x704 .bf16) (n : ℕ) (hn : n < 4) (inb : ∀ d, (![n, 0, 0] : Fin 3 → ℕ) d + S1x512x704.size d ≤ S4x512x704.size d) :
    View.ld X (Rect.unit (s := S4x512x704) ![n, 0, 0] S1x512x704.size inb) = slab X ⟨n, hn⟩ := ld_slab X n hn inb
theorem ldW (X : Vec Ideal S4x704x1024 .bf16) (n : ℕ) (hn : n < 4) (inb : ∀ d, (![n, 0, 0] : Fin 3 → ℕ) d + S1x704x1024.size d ≤ S4x704x1024.size d) :
    View.ld X (Rect.unit (s := S4x704x1024) ![n, 0, 0] S1x704x1024.size inb) = slab X ⟨n, hn⟩ := ld_slab X n hn inb

section
variable (a0 : FVec Ideal S4x4096x704 .bf16) (a1 : FVec Ideal S4x704x1024 .bf16) (a2 a3 : FVec Ideal S4096x1024 .f32)

/-- A row's error. -/
def er (n : Fin 4096) (k : Fin 1024) : EReal :=
  a2 (ix2 n k) + ∑ j : Fin 4, ∑ f : Fin 704, a0 (ix3 j n f) * a1 (ix3 j f k) - a3 (ix2 n k)

/-- The rows' gradient. -/
def totd : S4096x1024.Idx → EReal := fun i => er a0 a1 a2 a3 (i 0) (i 1) * Ideal.ofBits .f32 0x3A800000#32
/-- The sums of the squared errors, the rows of each residue modulo 8 apart. -/
def tots : S8x1024.Idx → EReal :=
  fun i => ∑ q : Fin 512, er a0 a1 a2 a3 (tp q (i 0)) (i 1) * er a0 a1 a2 a3 (tp q (i 0)) (i 1)
end

/-- A tile of the errors. -/
def eBlk (x0 : Vec Ideal S4x512x704 .bf16) (x1 : Vec Ideal S4x704x1024 .bf16) (x2 x3 : Vec Ideal S512x1024 .f32) : FVec Ideal S512x1024 .f32 :=
  k0_pay4 x2 (slab x0 0) (slab x1 0) (slab x0 1) (slab x1 1) (slab x0 2) (slab x1 2) (slab x0 3) (slab x1 3) x3

section
variable (c : Dev nD) (i : grid0.Coords) (a1 : Memref sig .tc .vmem S4x512x704 .bf16) (h1 : a1.IsWhole) (a2 : Memref sig .tc .vmem S4x704x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S8x1024 .f32) (h6 : a6.IsWhole)
  (x0 : Vec Ideal S4x512x704 .bf16) (x1 : Vec Ideal S4x704x1024 .bf16) (x2 x3 : Vec Ideal S512x1024 .f32) (xo5 : Vec Ideal S8x1024 .f32)

/-- At the first tile, the rows' gradient is the tile's. -/
theorem out_A_4 (hc : cond0_0 i) :
    out0_A_4 c i a1 h1 a2 h2 a3 h3 a4 h4 a5 h5 a6 h6 hc x0 x1 x2 x3 = k0_pay1 (eBlk x0 x1 x2 x3) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread, h6.read_unread,
    View.ld_unit_zero (S := S512x1024) hz, View.ld_unit_zero (S := S8x1024) hz, shapeCast_self]
  rw [ldA x0 0 (by decide), ldA x0 1 (by decide), ldA x0 2 (by decide), ldA x0 3 (by decide),
    ldW x1 0 (by decide), ldW x1 1 (by decide), ldW x1 2 (by decide), ldW x1 3 (by decide)]
  rfl

/-- At the first tile, the sums are the tile's over zero. -/
theorem out_A_5 (hc : cond0_0 i) :
    out0_A_5 c i a1 h1 a2 h2 a3 h3 a4 h4 a5 h5 a6 h6 hc x0 x1 x2 x3 = k0_pay3 (eBlk x0 x1 x2 x3) (k0_pay2 (F := Ideal)) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, h6.read_unread,
    View.ld_unit_zero (S := S512x1024) hz, View.ld_unit_zero (S := S8x1024) hz, shapeCast_self]
  rw [ldA x0 0 (by decide), ldA x0 1 (by decide), ldA x0 2 (by decide), ldA x0 3 (by decide),
    ldW x1 0 (by decide), ldW x1 1 (by decide), ldW x1 2 (by decide), ldW x1 3 (by decide)]
  rfl

/-- At a later tile, the rows' gradient is the tile's. -/
theorem out_B_4 (hc : ¬cond0_0 i) :
    out0_B_4 c i a1 h1 a2 h2 a3 h3 a4 h4 a5 h5 a6 h6 hc x0 x1 x2 x3 xo5 = k0_pay1 (eBlk x0 x1 x2 x3) := by
  unfold out0_B_4
  rw [View.read_writes_eq_canon _ _ _ (cover0_B_4 c i a1 h1 a2 h2 a3 h3 a4 h4 a5 h5 a6 h6 hc x0 x1 x2 x3 xo5)]
  unfold kernelRun0_B
  dsimp only
  sl_unfold_words
  rw [View.canon_unit_zero hz]
  simp only [View.readAt_eq_ld, h1.read_unread, h2.read_unread, h3.read_unread, h4.read_unread, h6.read_unread,
    View.ld_unit_zero (S := S512x1024) hz, View.ld_unit_zero (S := S8x1024) hz, shapeCast_self]
  rw [ldA x0 0 (by decide), ldA x0 1 (by decide), ldA x0 2 (by decide), ldA x0 3 (by decide),
    ldW x1 0 (by decide), ldW x1 1 (by decide), ldW x1 2 (by decide), ldW x1 3 (by decide)]
  rfl

/-- At a later tile, the sums are the tile's over what the tiles before left. -/
theorem out_B_5 (hc : ¬cond0_0 i) :
    out0_B_5 c i a1 h1 a2 h2 a3 h3 a4 h4 a5 h5 a6 h6 hc x0 x1 x2 x3 xo5 = k0_pay3 (eBlk x0 x1 x2 x3) xo5 := by
  unfold out0_B_5
  rw [View.read_writes_eq_canon _ _ _ (cover0_B_5 c i a1 h1 a2 h2 a3 h3 a4 h4 a5 h5 a6 h6 hc x0 x1 x2 x3 xo5)]
  unfold kernelRun0_B
  dsimp only
  sl_unfold_words
  rw [View.canon_unit_zero hz]
  simp only [View.readAt_eq_ld, h1.read_unread, h2.read_unread, h3.read_unread, h4.read_unread, h6.read_unread,
    View.ld_unit_zero (S := S512x1024) hz, View.ld_unit_zero (S := S8x1024) hz, shapeCast_self]
  rw [ldA x0 0 (by decide), ldA x0 1 (by decide), ldA x0 2 (by decide), ldA x0 3 (by decide),
    ldW x1 0 (by decide), ldW x1 1 (by decide), ldW x1 2 (by decide), ldW x1 3 (by decide)]
  rfl
end

/-- A tile of the errors at an entry. -/
theorem e_at (x0 : Vec Ideal S4x512x704 .bf16) (x1 : Vec Ideal S4x704x1024 .bf16) (x2 x3 : Vec Ideal S512x1024 .f32) (r : Fin 512) (k : Fin 1024) :
    eBlk x0 x1 x2 x3 (ix2 r k) = x2 (ix2 r k) + ∑ j : Fin 4, ∑ f : Fin 704, x0 (ix3 j r f) * x1 (ix3 j f k) - x3 (ix2 r k) := by
  rw [Fin.sum_univ_four, ← add_assoc, ← add_assoc, ← add_assoc]
  unfold eBlk
  pointwise [k0_pay4]
  rfl

/-- A tile of the gradient at an entry. -/
theorem d_at (e : FVec Ideal S512x1024 .f32) (r : Fin 512) (k : Fin 1024) :
    k0_pay1 e (ix2 r k) = e (ix2 r k) * Ideal.ofBits .f32 0x3A800000#32 := by
  pointwise [k0_pay1]

/-- The sums grow by the rows of each residue modulo 8. -/
theorem s_at (G : FVec Ideal S512x1024 .f32) (T : Fin 512 → Fin 1024 → EReal) (hT : ∀ r k, G (ix2 r k) = T r k) (acc : Vec Ideal S8x1024 .f32) (s : Fin 8) (k : Fin 1024) :
    k0_pay3 G acc (ix2 s k) = acc (ix2 s k)
      + ∑ q : Fin 64, T ⟨8 * q.val + s.val, by omega⟩ k * T ⟨8 * q.val + s.val, by omega⟩ k := by
  pointwise [k0_pay3]
  refine congrArg (acc (ix2 s k) + ·) (Finset.sum_congr rfl fun q _ => ?_)
  have e : ∀ (u v : ℕ) (hu : u < 512) (hv : v < 512), u = v → (⟨u, hu⟩ : Fin 512) = ⟨v, hv⟩ := fun u v _ _ h => Fin.ext h
  rw [hT, e (q.val * 8 + s.val) (8 * q.val + s.val) _ (by omega) (by omega)]

theorem idx0 : ∀ t : Fin cfg0.N, win0_0.index t 0 = 0 ∧ win0_0.index t 1 = t.val ∧ win0_0.index t 2 = 0 :=
  (by decide +kernel : ∀ t : Fin grid0.N, _)

theorem idx1 : ∀ t : Fin cfg0.N, win0_1.index t 0 = 0 ∧ win0_1.index t 1 = 0 ∧ win0_1.index t 2 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx3 : ∀ t : Fin cfg0.N, win0_3.index t 0 = t.val ∧ win0_3.index t 1 = 0 :=
  (by decide +kernel : ∀ t : Fin grid0.N, _)

theorem idx4 : ∀ t : Fin cfg0.N, win0_4.index t 0 = t.val ∧ win0_4.index t 1 = 0 :=
  (by decide +kernel : ∀ t : Fin grid0.N, _)

theorem idx5 : ∀ t : Fin cfg0.N, win0_5.index t 0 = 0 ∧ win0_5.index t 1 = 0 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 4) (p1 : Fin 512) (p2 : Fin 704) : (iblk m c 0 t : Vec Ideal S4x512x704 .bf16) (ix3 p0 p1 p2)
    = m (c.tc.loc main_arg0) (ix3 p0 (row t p1) p2) := by
  unfold iblk; rw [View.read_apply]
  have e : (((cfg0.win 0).blk t).view.emb (ix3 p0 p1 p2)) = ix3 p0 (row t p1) p2 := by
    funext a; apply Fin.ext
    match a with
    | ⟨0, _⟩ => show win0_0.index t 0 * 4 + 1 * p0.val = p0.val; rw [(idx0 t).1]; omega
    | ⟨1, _⟩ => show win0_0.index t 1 * 512 + 1 * p1.val = 512 * t.val + p1.val; rw [(idx0 t).2.1]; omega
    | ⟨2, _⟩ => show win0_0.index t 2 * 704 + 1 * p2.val = p2.val; rw [(idx0 t).2.2]; omega
  exact (congrFun (V_main_arg0 m c) _).trans (congrArg _ e)

/-- Point `t`'s block of argument 1. -/
theorem ib1 (t : Fin cfg0.N) (p0 : Fin 4) (p1 : Fin 704) (p2 : Fin 1024) : (iblk m c 1 t : Vec Ideal S4x704x1024 .bf16) (ix3 p0 p1 p2)
    = m (c.tc.loc main_arg1) (ix3 p0 p1 p2) := by
  unfold iblk; rw [View.read_apply]
  have e : (((cfg0.win 1).blk t).view.emb (ix3 p0 p1 p2)) = ix3 p0 p1 p2 := by
    funext a; apply Fin.ext
    match a with
    | ⟨0, _⟩ => show win0_1.index t 0 * 4 + 1 * p0.val = p0.val; rw [(idx1 t).1]; omega
    | ⟨1, _⟩ => show win0_1.index t 1 * 704 + 1 * p1.val = p1.val; rw [(idx1 t).2.1]; omega
    | ⟨2, _⟩ => show win0_1.index t 2 * 1024 + 1 * p2.val = p2.val; rw [(idx1 t).2.2]; omega
  exact (congrFun (V_main_arg1 m c) _).trans (congrArg _ e)

/-- Point `t`'s block of argument 2. -/
theorem ib2 (t : Fin cfg0.N) (p0 : Fin 512) (p1 : Fin 1024) : (iblk m c 2 t : Vec Ideal S512x1024 .f32) (ix2 p0 p1)
    = m (c.tc.loc main_arg2) (ix2 (row t p0) p1) := by
  unfold iblk; rw [View.read_apply]
  have e : (((cfg0.win 2).blk t).view.emb (ix2 p0 p1)) = ix2 (row t p0) p1 := by
    funext a; apply Fin.ext
    match a with
    | ⟨0, _⟩ => show win0_2.index t 0 * 512 + 1 * p0.val = 512 * t.val + p0.val; rw [(idx2 t).1]; omega
    | ⟨1, _⟩ => show win0_2.index t 1 * 1024 + 1 * p1.val = p1.val; rw [(idx2 t).2]; omega
  exact (congrFun (V_main_arg2 m c) _).trans (congrArg _ e)

/-- Point `t`'s block of argument 3. -/
theorem ib3 (t : Fin cfg0.N) (p0 : Fin 512) (p1 : Fin 1024) : (iblk m c 3 t : Vec Ideal S512x1024 .f32) (ix2 p0 p1)
    = m (c.tc.loc main_arg3) (ix2 (row t p0) p1) := by
  unfold iblk; rw [View.read_apply]
  have e : (((cfg0.win 3).blk t).view.emb (ix2 p0 p1)) = ix2 (row t p0) p1 := by
    funext a; apply Fin.ext
    match a with
    | ⟨0, _⟩ => show win0_3.index t 0 * 512 + 1 * p0.val = 512 * t.val + p0.val; rw [(idx3 t).1]; omega
    | ⟨1, _⟩ => show win0_3.index t 1 * 1024 + 1 * p1.val = p1.val; rw [(idx3 t).2]; omega
  exact (congrFun (V_main_arg3 m c) _).trans (congrArg _ e)

theorem e_pt (t : Fin cfg0.N) (r : Fin 512) (k : Fin 1024) : eBlk (iblk m c 0 t) (iblk m c 1 t) (iblk m c 2 t) (iblk m c 3 t) (ix2 r k) = er (m (c.tc.loc main_arg0)) (m (c.tc.loc main_arg1)) (m (c.tc.loc main_arg2)) (m (c.tc.loc main_arg3)) (row t r) k := by
  rw [e_at, ib2, ib3]
  unfold er
  refine congrArg₂ (· - ·) (congrArg₂ (· + ·) rfl (Finset.sum_congr rfl fun j _ => Finset.sum_congr rfl fun f _ => ?_)) rfl
  rw [ib0, ib1]

theorem outs_d (t : Fin cfg0.N) (r : Fin 512) (k : Fin 1024) :
    (outsAt0 m c t.val t.isLt).1 (ix2 r k) = totd (m (c.tc.loc main_arg0)) (m (c.tc.loc main_arg1)) (m (c.tc.loc main_arg2)) (m (c.tc.loc main_arg3)) (ix2 (row t r) k) := by
  have e : (outsAt0 m c t.val t.isLt).1 = k0_pay1 (eBlk (iblk m c 0 t) (iblk m c 1 t) (iblk m c 2 t) (iblk m c 3 t)) := by
    by_cases h0 : t.val % 8 = 0
    · rw [outsAt0_A m c t h0]; dsimp only; rw [out_A_4]
    · rw [outsAt0_B m c t h0]; dsimp only; rw [out_B_4]
  rw [e, d_at, e_pt]
  rfl

/-- What row `8 q + s` adds to the sums. -/
def add (n : ℕ) (k : Fin 1024) : EReal := er (m (c.tc.loc main_arg0)) (m (c.tc.loc main_arg1)) (m (c.tc.loc main_arg2)) (m (c.tc.loc main_arg3)) (tk n) k * er (m (c.tc.loc main_arg0)) (m (c.tc.loc main_arg1)) (m (c.tc.loc main_arg2)) (m (c.tc.loc main_arg3)) (tk n) k

theorem s_pt (t : Fin cfg0.N) (acc : Vec Ideal S8x1024 .f32) (s : Fin 8) (k : Fin 1024) :
    k0_pay3 (eBlk (iblk m c 0 t) (iblk m c 1 t) (iblk m c 2 t) (iblk m c 3 t)) acc (ix2 s k) = acc (ix2 s k) + ∑ q : Fin 64, add m c (8 * (64 * t.val + q.val) + s.val) k := by
  refine (s_at _ (fun r => er (m (c.tc.loc main_arg0)) (m (c.tc.loc main_arg1)) (m (c.tc.loc main_arg2)) (m (c.tc.loc main_arg3)) (row t r)) (e_pt m c t) acc s k).trans ?_
  refine congrArg (acc (ix2 s k) + ·) (Finset.sum_congr rfl fun q _ => ?_)
  have hN := ltN t
  have e : row t ⟨8 * q.val + s.val, by omega⟩ = tk (8 * (64 * t.val + q.val) + s.val) := Fin.ext (by
    show 512 * t.val + (8 * q.val + s.val) = (8 * (64 * t.val + q.val) + s.val) % 4096; omega)
  rw [e]
  rfl

/-- After a point, the sums hold the rows of the points up to it. -/
theorem outs_s (n : ℕ) (hn : n < cfg0.N) (s : Fin 8) (k : Fin 1024) :
    (outsAt0 m c n hn).2 (ix2 s k) = ∑ t ∈ Finset.range (n + 1), ∑ q : Fin 64, add m c (8 * (64 * t + q.val) + s.val) k := by
  have zero : ∀ i, (k0_pay2 : FVec Ideal S8x1024 .f32) i = 0 := fun i => Ideal.ofBits_zero_f32
  induction n with
  | zero =>
    rw [outsAt0_A m c ⟨0, hn⟩ rfl]
    dsimp only
    rw [out_A_5, s_pt m c, zero, zero_add, Finset.sum_range_one]
  | succ n ih =>
    have hN : n + 1 < 8 := Nat.lt_of_lt_of_eq hn N_0
    rw [outsAt0_B m c ⟨n + 1, hn⟩ (by show ¬(n + 1) % 8 = 0; omega)]
    dsimp only
    rw [out_B_5, s_pt m c]
    simp only [Nat.add_sub_cancel]
    rw [ih (Nat.lt_of_succ_lt hn), Finset.sum_range_succ _ (n + 1)]

/-- What a point writes back is its rows of the array. -/
theorem flushed_d (t : Fin cfg0.N) (_ : (cfg0.win 4).flush t = true) :
    (dats m 0 c).flushed 4 t = ((cfg0.win 4).blk t).view.read (Elt Ideal) (totd (m (c.tc.loc main_arg0)) (m (c.tc.loc main_arg1)) (m (c.tc.loc main_arg2)) (m (c.tc.loc main_arg3))) := by
  rw [flushed4]
  funext j
  rw [View.read_apply]
  have j0 : (j 0).val < 512 := (j 0).isLt
  have j1 : (j 1).val < 1024 := (j 1).isLt
  have ej : (cfg0.win 4).cut (grid0.coords t) ((outsAt0 m c t.val t.isLt).1) j
      = ((outsAt0 m c t.val t.isLt).1) (ix2 ⟨(j 0).val, j0⟩ ⟨(j 1).val, j1⟩) :=
    congrArg _ (funext fun a => Fin.ext (by match a with | ⟨0, _⟩ => rfl | ⟨1, _⟩ => rfl))
  have ee : (((cfg0.win 4).blk t).view.emb j) = ix2 (row t ⟨(j 0).val, j0⟩) ⟨(j 1).val, j1⟩ := by
    funext a; apply Fin.ext
    match a with
    | ⟨0, _⟩ => show win0_4.index t 0 * 512 + 1 * (j 0).val = 512 * t.val + (j 0).val; rw [(idx4 t).1]; omega
    | ⟨1, _⟩ => show win0_4.index t 1 * 1024 + 1 * (j 1).val = (j 1).val; rw [(idx4 t).2]; omega
  exact ej.trans ((outs_d m c t _ _).trans (congrArg _ ee).symm)

/-- What the array ends holding. -/
theorem final_d : (dats m 0 c).arrAt 4 cfg0.N = totd (m (c.tc.loc main_arg0)) (m (c.tc.loc main_arg1)) (m (c.tc.loc main_arg2)) (m (c.tc.loc main_arg3)) :=
  (dats m 0 c).arrAt_eq_of_cover 4 _ (flushed_d m c) fun i => by
    have i0 : (i 0).val < 4096 := (i 0).isLt
    have i1 : (i 1).val < 1024 := (i 1).isLt
    let t : Fin cfg0.N := ⟨(i 0).val / 512, Nat.lt_of_lt_of_eq (by omega) N_0.symm⟩
    have ht : t.val = (i 0).val / 512 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0).val ∧ (i 0).val < win0_4.index t 0 * 512 + 512
                rw [(idx4 t).1]; omega
    | ⟨1, _⟩ => show win0_4.index t 1 * 1024 ≤ (i 1).val ∧ (i 1).val < win0_4.index t 1 * 1024 + 1024
                rw [(idx4 t).2]; omega

/-- What the last point writes back is the sums. -/
theorem flushed_s (t : Fin cfg0.N) (hf : (cfg0.win 5).flush t = true) :
    (dats m 0 c).flushed 5 t = ((cfg0.win 5).blk t).view.read (Elt Ideal) (tots (m (c.tc.loc main_arg0)) (m (c.tc.loc main_arg1)) (m (c.tc.loc main_arg2)) (m (c.tc.loc main_arg3))) := by
  have h7 := (flush0_5 t).mp hf
  have hN := ltN t
  rw [flushed5]
  funext j
  rw [View.read_apply]
  have h0 : (j 0).val < 8 := (j 0).isLt
  have h1 : (j 1).val < 1024 := (j 1).isLt
  have ej : (cfg0.win 5).cut (grid0.coords t) (outsAt0 m c t.val t.isLt).2 j
      = (outsAt0 m c t.val t.isLt).2 (ix2 ⟨(j 0).val, h0⟩ ⟨(j 1).val, h1⟩) :=
    congrArg _ (funext fun a => Fin.ext (by match a with | ⟨0, _⟩ => rfl | ⟨1, _⟩ => rfl))
  have ee : (((cfg0.win 5).blk t).view.emb j) = ix2 ⟨(j 0).val, h0⟩ ⟨(j 1).val, h1⟩ := by
    funext a; apply Fin.ext
    match a with
    | ⟨0, _⟩ => show win0_5.index t 0 * 8 + 1 * (j 0).val = (j 0).val; rw [(idx5 t).1]; omega
    | ⟨1, _⟩ => show win0_5.index t 1 * 1024 + 1 * (j 1).val = (j 1).val; rw [(idx5 t).2]; omega
  refine ej.trans ((outs_s m c t.val t.isLt _ _).trans ((congrArg (tots (m (c.tc.loc main_arg0)) (m (c.tc.loc main_arg1)) (m (c.tc.loc main_arg2)) (m (c.tc.loc main_arg3))) ee).trans ?_).symm)
  have hsum : tots (m (c.tc.loc main_arg0)) (m (c.tc.loc main_arg1)) (m (c.tc.loc main_arg2)) (m (c.tc.loc main_arg3)) (ix2 ⟨(j 0).val, h0⟩ ⟨(j 1).val, h1⟩) = ∑ q : Fin 512, add m c (8 * q.val + (j 0).val) ⟨(j 1).val, h1⟩ :=
    Finset.sum_congr rfl fun q _ => by
      have e : tp q ⟨(j 0).val, h0⟩ = tk (8 * q.val + (j 0).val) := Fin.ext (by
        show 8 * q.val + (j 0).val = (8 * q.val + (j 0).val) % 4096; omega)
      show er _ _ _ _ (tp q ⟨(j 0).val, h0⟩) _ * er _ _ _ _ (tp q ⟨(j 0).val, h0⟩) _ = _
      rw [e]
      rfl
  rw [hsum, Cert.Attn.sum_blocks 8 64 512 rfl, show t.val + 1 = 8 by omega, Finset.sum_range]

/-- What the sums end holding. -/
theorem final_s : (dats m 0 c).arrAt 5 cfg0.N = tots (m (c.tc.loc main_arg0)) (m (c.tc.loc main_arg1)) (m (c.tc.loc main_arg2)) (m (c.tc.loc main_arg3)) :=
  (dats m 0 c).arrAt_eq_of_cover 5 _ (flushed_s m c) fun i => by
    have i0 : (i 0).val < 8 := (i 0).isLt
    have i1 : (i 1).val < 1024 := (i 1).isLt
    let t : Fin cfg0.N := ⟨7, Nat.lt_of_lt_of_eq (by omega) N_0.symm⟩
    refine ⟨t, (flush0_5 t).mpr rfl, ?_⟩
    show i ∈ ((View.whole main_v0_1).slice (win0_5.rect t)).set
    rw [View.set_slice_whole, Rect.mem_set_unit]
    intro a
    match a with
    | ⟨0, _⟩ => show win0_5.index t 0 * 8 ≤ (i 0).val ∧ (i 0).val < win0_5.index t 0 * 8 + 8
                rw [(idx5 t).1]; omega
    | ⟨1, _⟩ => show win0_5.index t 1 * 1024 ≤ (i 1).val ∧ (i 1).val < win0_5.index t 1 * 1024 + 1024
                rw [(idx5 t).2]; omega
end

section
open Cert.Reference14Ideal Cert.Reference14Ideal.Gen Cert.Reference14Ideal.Read

theorem inv_w : Ideal.ofBits .f32 0x3A800000#32 = ((1 / 1024 : ℝ) : EReal) := by
  simp [Ideal.ofBits, Ideal.ieee, -EReal.coe_mul]; norm_num
theorem two_w : Ideal.ofBits .f32 0x40000000#32 = ((2 : ℝ) : EReal) := by
  simp [Ideal.ofBits, Ideal.ieee, -EReal.coe_mul]; norm_num
theorem half_w : Ideal.ofBits .f32 0x3F000000#32 = ((1 / 2 : ℝ) : EReal) := by
  simp [Ideal.ofBits, Ideal.ieee, -EReal.coe_mul]; norm_num
theorem one_w : Ideal.ofBits .f32 0x3F800000#32 = ((1 : ℝ) : EReal) := by
  simp [Ideal.ofBits, Ideal.ieee, -EReal.coe_mul]; norm_num
theorem width_w : Ideal.ofBits .f32 0x44800000#32 = ((1024 : ℝ) : EReal) := by
  simp [Ideal.ofBits, Ideal.ieee, -EReal.coe_mul]; norm_num

/-- Half of a mean over the width, times twice an error, is the error over the width. -/
theorem scale_eq (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [inv_w, two_w, half_w, one_w, width_w, ← EReal.coe_mul, Ideal.div_coe (by norm_num), ← EReal.coe_mul, ← mul_assoc,
    ← EReal.coe_mul, mul_comm]
  norm_num

section
variable (x0 : FVec Ideal S4x4096x704 .bf16) (x1 : FVec Ideal S4x704x1024 .bf16) (x2 x3 : FVec Ideal S4096x1024 .f32)

/-- The reference's rows. -/
theorem v6_at (n : Fin 4096) (q : Fin 1024) : val_main_v6 (F := Ideal) x0 x1 x2 (ix2 n q)
    = x2 (ix2 n q) + ∑ j : Fin 4, ∑ f : Fin 704, x0 (ix3 j n f) * x1 (ix3 j f q) := by
  rw [val_main_v6_apply, val_main_v5_apply]
  refine congrArg₂ (· + ·) rfl ?_
  rw [Cert.Attn.sum_blocks 4 704 2816 rfl]
  refine Finset.sum_congr rfl fun j _ => Finset.sum_congr rfl fun f _ => ?_
  rw [val_main_v4_apply, val_main_v3_apply, val_main_v2_apply, val_main_v1_apply, val_main_v0_apply]
  refine congrArg₂ (· * ·) (congrArg x0 (funext fun a => Fin.ext ?_)) (congrArg x1 (funext fun a => Fin.ext ?_))
  · match a with
    | ⟨0, _⟩ => show (n.val * 2816 + (704 * j.val + f.val)) / 704 % 4 = j.val; omega
    | ⟨1, _⟩ => show (n.val * 2816 + (704 * j.val + f.val)) / 2816 = n.val; omega
    | ⟨2, _⟩ => show (n.val * 2816 + (704 * j.val + f.val)) % 704 = f.val; omega
  · match a with
    | ⟨0, _⟩ => show ((704 * j.val + f.val) * 1024 + q.val) / 720896 = j.val; omega
    | ⟨1, _⟩ => show ((704 * j.val + f.val) * 1024 + q.val) / 1024 % 704 = f.val; omega
    | ⟨2, _⟩ => show ((704 * j.val + f.val) * 1024 + q.val) % 1024 = q.val; omega

/-- The reference's scale. -/
theorem v19_at (n : Fin 4096) : val_main_v19 (F := Ideal) (ix1 n)
    = Ideal.div (Ideal.ofBits .f32 0x3F000000#32 * Ideal.ofBits .f32 0x3F800000#32) (Ideal.ofBits .f32 0x44800000#32) := by
  unfold val_main_v19 val_main_v18 val_main_v17 val_main_v16 val_main_cst_4 val_main_cst_5 val_main_cst_6
  pointwise []

/-- The reference's gradient. -/
theorem ref_d : val_main_v21 (F := Ideal) x0 x1 x2 x3 = totd x0 x1 x2 x3 := funext fun i => by
  obtain ⟨n, q, rfl⟩ : ∃ (n : Fin 4096) (q : Fin 1024), i = ix2 n q :=
    ⟨i 0, i 1, funext fun a => by match a with | ⟨0, _⟩ => rfl | ⟨1, _⟩ => rfl⟩
  unfold val_main_v21 val_main_v20 val_main_v10 val_main_v9 val_main_v7 val_main_cst
  pointwise []
  rw [v19_at, v6_at]
  exact scale_eq _

/-- The sum of the first axis. -/
theorem sum0_at (s : FVec Ideal S512x8x1024 .f32) (z : Fin 8) (k : Fin 1024) :
    Host.reduceAdd s (constant S_ .f32 0x00000000#32) reducesTo_S512x8x1024_S8x1024_d0 h_S_ (ix2 z k) = ∑ p : Fin 512, s (ix3 p z k) := by
  pointwise []

/-- The reference's sums of squares. -/
theorem ref_s : val_main_v25 (F := Ideal) x0 x1 x2 x3 = tots x0 x1 x2 x3 := funext fun i => by
  obtain ⟨s, k, rfl⟩ : ∃ (s : Fin 8) (k : Fin 1024), i = ix2 s k :=
    ⟨i 0, i 1, funext fun a => by match a with | ⟨0, _⟩ => rfl | ⟨1, _⟩ => rfl⟩
  refine (sum0_at (val_main_v24 (F := Ideal) x0 x1 x2 x3) s k).trans (Finset.sum_congr rfl fun p _ => ?_)
  have e : val_main_v22 (F := Ideal) x0 x1 x2 x3 (ix2 (tp p s) k) = er x0 x1 x2 x3 (tp p s) k := by
    rw [val_main_v22_apply, v6_at]
    rfl
  have e' : idx_main_v24 (ix3 p s k) = ix2 (tp p s) k := by
    funext a; apply Fin.ext
    match a with
    | ⟨0, _⟩ => show ((p.val * 8 + s.val) * 1024 + k.val) / 1024 = 8 * p.val + s.val; omega
    | ⟨1, _⟩ => show ((p.val * 8 + s.val) * 1024 + k.val) % 1024 = k.val; omega
  rw [val_main_v24_apply, e', val_main_v23_apply, e]
  rfl
end
end

theorem frame_ref (m : (ℓ : Loc Reference14Ideal.nD Reference14Ideal.τ Reference14Ideal.sig) → Buf (Elt Ideal) ℓ)
    (ρ : Dev Reference14Ideal.nD → PrngReg) :
    θ_run (Reference14Ideal.defs (F := Ideal)) (onTc (τ := Reference14Ideal.τ) (Reference14Ideal.main (F := Ideal))) ⟨m, fun _ => 0, ρ⟩ (fun r => (∀ c : Dev Reference14Ideal.nD,
      r.2.mem (c.tc.loc Reference14Ideal.main_arg0) = m (c.tc.loc Reference14Ideal.main_arg0)
      ∧ r.2.mem (c.tc.loc Reference14Ideal.main_arg1) = m (c.tc.loc Reference14Ideal.main_arg1)
      ∧ r.2.mem (c.tc.loc Reference14Ideal.main_arg2) = m (c.tc.loc Reference14Ideal.main_arg2)
      ∧ r.2.mem (c.tc.loc Reference14Ideal.main_arg3) = m (c.tc.loc Reference14Ideal.main_arg3))
      ∧ r.2.sem = fun _ => 0) :=
  (θ_run Reference14Ideal.defs _ _).mono (fun r h => ⟨fun c => (h c).2.2,
    sem_eq_zero_of_no_sems (by decide) r.2⟩) (Reference14Ideal.Value.run (F := Ideal) m ρ)

/-- From equal arguments the kernel's results are the reference's. -/
theorem algebraic : Cert.algebraic_Kernel14Ideal_Reference14Ideal := by
  intro m ρ m' ρ' hpre hargs
  refine ⟨fun c => totd (m (c.tc.loc Kernel14Ideal.main_arg0))
      (m (c.tc.loc Kernel14Ideal.main_arg1))
      (m (c.tc.loc Kernel14Ideal.main_arg2))
      (m (c.tc.loc Kernel14Ideal.main_arg3)), fun c => tots (m (c.tc.loc Kernel14Ideal.main_arg0))
      (m (c.tc.loc Kernel14Ideal.main_arg1))
      (m (c.tc.loc Kernel14Ideal.main_arg2))
      (m (c.tc.loc Kernel14Ideal.main_arg3)), ?_, ?_⟩
  · refine (θ_run Kernel14Ideal.defs _ _).mono (fun r h c => ?_) (Kernel14Ideal.Value.run_blocks (F := Ideal) m ρ)
    obtain ⟨h0, h1, ha⟩ := h c
    exact ⟨h0.trans (final_d m c), h1.trans (final_s m c), ha⟩
  · refine (θ_run Reference14Ideal.defs _ _).mono (fun r h c => ?_) (Reference14Ideal.Value.run (F := Ideal) m' ρ')
    obtain ⟨h0, h1, ha⟩ := h c
    obtain ⟨b0, b1, b2, b3⟩ := hargs c
    refine ⟨h0.trans ?_, h1.trans ?_, ha⟩
    · refine (Reference14Ideal.Read.val_main_v21_eq _ _ _ _).trans ?_
      rw [b0, b1, b2, b3]
      exact ref_d _ _ _ _
    · refine (Reference14Ideal.Read.val_main_v25_eq _ _ _ _).trans ?_
      rw [b0, b1, b2, b3]
      exact ref_s _ _ _ _

end Cert.Row14

end
-- ==== Proof.MixMath.lean ====
/- The row norm of any width on the extended reals, its gradient in closed form and as differentiation writes it, and the
   same for the heads of a row, whose means a kernel takes by products with a matrix of the heads. -/
module

public import proofs.«01_k».proof.Proof.Norm
public import Idealize.ShloMosaic.Lib.Pointwise

@[expose] public section

noncomputable section

namespace Cert.Mix

open Idealize.ShloMosaic Idealize.ShloMosaic.TcCoe Idealize.ShloMosaic.Tactic

section
variable {n : ℕ} (W : EReal)

/-- The mean square of a row, with the small constant. -/
def ms (x : Fin n → EReal) : EReal := Ideal.div (∑ k', x k' * x k') W + Ideal.ofBits .f32 0x358637BD#32
/-- Its reciprocal root. -/
def rs (x : Fin n → EReal) : EReal := Ideal.rsqrt (ms W x)

/-- The gradient of a row through the norm, as the kernel writes it. -/
def kdx (x w t : Fin n → EReal) (k : Fin n) : EReal :=
  rs W x * (t k * w k) - x k * (rs W x * rs W x * rs W x) * Ideal.div (∑ k', t k' * w k' * x k') W

/-- The gradient of the mean square, as differentiation writes it. -/
def ct (x w t : Fin n → EReal) : EReal :=
  Ideal.div ((∑ k', x k' * (t k' * w k')) * (Ideal.ofBits .f32 0xBF000000#32 * Ideal.div (rs W x) (ms W x))) W

variable {W} {N : ℝ} (hW : W = (N : EReal)) (hN : 0 < N)

include hW hN in
theorem dv (y : EReal) : Ideal.div y W = y * ((N⁻¹ : ℝ) : EReal) := by
  rw [hW]
  unfold Ideal.div
  rw [if_neg (by exact_mod_cast hN.ne'), ← EReal.coe_inv]

include hW hN in
/-- A row with an infinite entry has an infinite mean square, so its reciprocal root is zero. -/
theorem ms_top (x : Fin n → EReal) (k : Fin n) (h : x k = ⊤ ∨ x k = ⊥) : ms W x = ⊤ := by
  have hs : ∑ k', x k' * x k' = ⊤ := by
    have h1 : x k * x k ≤ ∑ k', x k' * x k' :=
      Finset.single_le_sum (f := fun k' => x k' * x k') (fun i _ => Cert.Norm.sq_nonneg' (x i)) (Finset.mem_univ k)
    have h2 : x k * x k = ⊤ := by rcases h with h | h <;> rw [h] <;> simp
    exact top_le_iff.mp (h2 ▸ h1)
  unfold ms
  rw [hs, dv hW hN, Cert.Ffn.eps_w, EReal.top_mul_coe_of_pos (inv_pos.mpr hN), EReal.top_add_coe]

include hW hN in
theorem rs_zero (x : Fin n → EReal) (k : Fin n) (h : x k = ⊤ ∨ x k = ⊥) : rs W x = 0 := by
  unfold rs
  rw [ms_top hW hN x k h]
  rfl

/-- A row without an infinite entry is a row of real numbers. -/
theorem reals (x : Fin n → EReal) (hx : ¬∃ k', x k' = ⊤ ∨ x k' = ⊥) : ∃ X : Fin n → ℝ, ∀ k, x k = (X k : EReal) := by
  have h : ∀ k', ∃ r : ℝ, x k' = (r : EReal) := fun k' => by
    have h1 := not_exists.mp hx k'
    rw [not_or] at h1
    exact ⟨(x k').toReal, (EReal.coe_toReal h1.1 h1.2).symm⟩
  choose X hX using h
  exact ⟨X, hX⟩

include hW hN in
/-- The mean square of a real row is a positive real number, and its reciprocal root is real. -/
theorem ms_real (x : Fin n → EReal) (X : Fin n → ℝ) (hX : ∀ k, x k = (X k : EReal)) :
    ∃ q : ℝ, 0 < q ∧ ms W x = (q : EReal) ∧ rs W x = (((Real.sqrt q)⁻¹ : ℝ) : EReal) := by
  have hm : ms W x = (((∑ k', X k' * X k') * N⁻¹ + Cert.Ffn.eps : ℝ) : EReal) := by
    unfold ms
    simp only [dv hW hN, hX, Cert.Ffn.eps_w, ← EReal.coe_mul, Cert.Attn.coe_sum, ← EReal.coe_add]
  have hpos : 0 < (∑ k', X k' * X k') * N⁻¹ + Cert.Ffn.eps := by
    have h1 : 0 ≤ (∑ k', X k' * X k') * N⁻¹ :=
      mul_nonneg (Finset.sum_nonneg fun i _ => mul_self_nonneg _) (inv_nonneg.mpr hN.le)
    have h2 := Cert.Ffn.eps_pos
    linarith
  refine ⟨_, hpos, hm, ?_⟩
  unfold rs
  rw [hm, Cert.Ffn.rsqrt_real hpos]

include hW hN in
/-- The closed form is what differentiation writes, for every value of the arguments. -/
theorem kdx_eq (x w t : Fin n → EReal) (k : Fin n) :
    kdx W x w t k = t k * w k * rs W x + x k * ct W x w t + ct W x w t * x k := by
  have hS : ∑ k', t k' * w k' * x k' = ∑ k', x k' * (t k' * w k') := Finset.sum_congr rfl fun k' _ => mul_comm _ _
  unfold kdx
  rw [hS, sub_eq_add_neg, add_assoc, mul_comm (rs W x) (t k * w k)]
  refine congrArg (t k * w k * rs W x + ·) ?_
  unfold ct
  generalize (∑ k', x k' * (t k' * w k')) = S
  rw [dv hW hN, dv hW hN]
  by_cases hx : ∃ k', x k' = ⊤ ∨ x k' = ⊥
  · obtain ⟨k', hk⟩ := hx
    rw [rs_zero hW hN x k' hk, ms_top hW hN x k' hk]
    have : Ideal.div 0 ⊤ = 0 := by unfold Ideal.div; rw [if_neg (by simp), zero_mul]
    rw [this]
    simp
  · obtain ⟨X, hX⟩ := reals x hx
    obtain ⟨q, hq, hm, hr⟩ := ms_real hW hN x X hX
    have hc : (Real.sqrt q)⁻¹ / q = (Real.sqrt q)⁻¹ * (Real.sqrt q)⁻¹ * (Real.sqrt q)⁻¹ := by
      have h1 : 0 < Real.sqrt q := Real.sqrt_pos.mpr hq
      have h2 : q = Real.sqrt q * Real.sqrt q := (Real.mul_self_sqrt hq.le).symm
      generalize Real.sqrt q = s at h1 h2
      rw [h2]
      field_simp
    rw [hr, hm, hX k, Cert.Ffn.div_real _ hq.ne', Cert.Ffn.neg_half_w, hc]
    generalize (Real.sqrt q)⁻¹ = r
    have e1 : (X k : EReal) * ((r : EReal) * (r : EReal) * (r : EReal)) * (S * ((N⁻¹ : ℝ) : EReal))
        = S * ((X k * (r * r * r) * N⁻¹ : ℝ) : EReal) := by
      rw [EReal.coe_mul, EReal.coe_mul, EReal.coe_mul, EReal.coe_mul]; ac_rfl
    have e2 : (X k : EReal) * (S * (((-(1 / 2) : ℝ) : EReal) * ((r * r * r : ℝ) : EReal)) * ((N⁻¹ : ℝ) : EReal))
        = S * ((X k * (-(1 / 2) * (r * r * r)) * N⁻¹ : ℝ) : EReal) := by
      generalize r * r * r = q
      rw [EReal.coe_mul, EReal.coe_mul (X k), EReal.coe_mul]; ac_rfl
    rw [e1, mul_comm _ (X k : EReal), e2, Cert.Norm.twice, ← mul_neg, ← EReal.coe_neg]
    congr 2
    ring

include hW hN in
/-- An entry times its row's reciprocal root mean square is a real number. -/
theorem xr_real (x : Fin n → EReal) (k : Fin n) : ∃ r : ℝ, x k * rs W x = (r : EReal) := by
  by_cases hx : ∃ k', x k' = ⊤ ∨ x k' = ⊥
  · obtain ⟨k', hk⟩ := hx
    exact ⟨0, by rw [rs_zero hW hN x k' hk, mul_zero]; rfl⟩
  · obtain ⟨X, hX⟩ := reals x hx
    obtain ⟨q, -, -, hr⟩ := ms_real hW hN x X hX
    exact ⟨X k * (Real.sqrt q)⁻¹, by rw [hX, hr, ← EReal.coe_mul]⟩

include hW hN in
/-- The closed form where the products' sum is taken in two parts, the second of the differences of equal numbers. -/
theorem kdx_split (x w t g : Fin n → EReal) (k : Fin n) (hg : ∀ k, ∃ r : ℝ, t k * w k = (r : EReal)) (e : ∀ k, g k = t k * w k * x k) :
    rs W x * (t k * w k) - rs W x * rs W x * rs W x * x k * ((∑ k', g k') * ((N⁻¹ : ℝ) : EReal) + (∑ k', (g k' - g k')) * ((N⁻¹ : ℝ) : EReal))
      = kdx W x w t k := by
  have hg' := hg
  unfold kdx
  rw [dv hW hN, mul_comm (x k)]
  simp only [e]
  by_cases hx : ∃ k', x k' = ⊤ ∨ x k' = ⊥
  · obtain ⟨k', hk⟩ := hx
    rw [rs_zero hW hN x k' hk]
    simp
  · obtain ⟨X, hX⟩ := reals x hx
    have z : ∀ k', t k' * w k' * x k' - t k' * w k' * x k' = 0 := fun k' => by
      obtain ⟨r, hr⟩ := hg k'
      rw [hr, hX, ← EReal.coe_mul, ← EReal.coe_sub, sub_self]; rfl
    simp only [z, Finset.sum_const_zero, zero_mul, add_zero]
end

/-- A column's head. -/
def hd (k : Fin 256) : Fin 4 := ⟨k.val / 64, by omega⟩
/-- Its place there. -/
def lo (k : Fin 256) : Fin 64 := ⟨k.val % 64, by omega⟩
/-- The column at a place of a head. -/
def hc (h : Fin 4) (d : Fin 64) : Fin 256 := ⟨64 * h.val + d.val, by omega⟩
/-- A row's head of a column. -/
def sub (f : Fin 256 → EReal) (k : Fin 256) (d : Fin 64) : EReal := f (hc (hd k) d)

theorem hc_hd (k : Fin 256) : hc (hd k) (lo k) = k := Fin.ext (by show 64 * (k.val / 64) + k.val % 64 = k.val; omega)
theorem sub_lo (f : Fin 256 → EReal) (k : Fin 256) : sub f k (lo k) = f k := congrArg f (hc_hd k)
theorem hd_hc (h : Fin 4) (d : Fin 64) : hd (hc h d) = h := Fin.ext (by show (64 * h.val + d.val) / 64 = h.val; omega)

/-- The matrix of the heads: a sixty-fourth at two columns of one head, zero elsewhere. -/
def seg (j k : Fin 256) : EReal := if hd j = hd k then ((64⁻¹ : ℝ) : EReal) else 0

/-- A sum against the matrix of the heads is a sum over the column's head. -/
theorem sum_seg (f : Fin 256 → EReal) (k : Fin 256) :
    ∑ j, f j * seg j k = ∑ d, sub f k d * ((64⁻¹ : ℝ) : EReal) := by
  rw [Cert.Attn.sum_blocks 4 64 256 rfl, Finset.sum_eq_single (hd k)]
  · refine Finset.sum_congr rfl fun d _ => ?_
    show f (hc (hd k) d) * seg (hc (hd k) d) k = _
    unfold seg
    rw [if_pos (hd_hc _ _)]
    rfl
  · intro h _ hne
    refine Finset.sum_eq_zero fun d _ => ?_
    show f (hc h d) * seg (hc h d) k = 0
    unfold seg
    rw [hd_hc, if_neg hne, mul_zero]
  · exact fun h => absurd (Finset.mem_univ _) h

/-- A nonnegative number taken out of a sum on the right. -/
theorem sum_mul_coe {n : ℕ} (f : Fin n → EReal) (a : ℝ) (ha : 0 < a) : ∑ d, f d * (a : EReal) = (∑ d, f d) * (a : EReal) := by
  rw [mul_comm _ (a : EReal), Cert.Attn.coe_mul_sum ha.le]
  exact Finset.sum_congr rfl fun d _ => mul_comm _ _

theorem w512 : Ideal.ofBits .f32 0x44000000#32 = ((512 : ℝ) : EReal) := by
  simp [Ideal.ofBits, Ideal.ieee, -EReal.coe_mul]; norm_num
theorem w256 : Ideal.ofBits .f32 0x43800000#32 = ((256 : ℝ) : EReal) := by
  simp [Ideal.ofBits, Ideal.ieee, -EReal.coe_mul]; norm_num
theorem w64 : Ideal.ofBits .f32 0x42800000#32 = ((64 : ℝ) : EReal) := by
  simp [Ideal.ofBits, Ideal.ieee, -EReal.coe_mul]; norm_num
theorem w64i : Ideal.ofBits .f32 0x3C800000#32 = ((64⁻¹ : ℝ) : EReal) := by
  simp [Ideal.ofBits, Ideal.ieee, -EReal.coe_mul]; norm_num

/-- The word of sixty-four. -/
abbrev W64 : EReal := Ideal.ofBits .f32 0x42800000#32

/-- The mean square of a column's head, as the product with the matrix of the heads takes it. -/
theorem ms_seg (f : Fin 256 → EReal) (k : Fin 256) :
    ∑ j, f j * f j * seg j k + Ideal.ofBits .f32 0x358637BD#32 = ms W64 (sub f k) := by
  rw [sum_seg (fun j => f j * f j), sum_mul_coe _ _ (by norm_num)]
  unfold ms
  rw [dv w64 (by norm_num)]
  rfl

/-- The heads' gradient, as the kernel takes it with the matrix of the heads. -/
theorem kdx_seg (x w t : Fin 256 → EReal) (k : Fin 256) (h : ∀ k, ∃ r : ℝ, t k * w k = (r : EReal)) :
    rs W64 (sub x k) * (t k * w k) - x k * (rs W64 (sub x k) * rs W64 (sub x k) * rs W64 (sub x k))
        * (∑ j, t j * w j * x j * seg j k + ∑ j, (t j * w j * x j - t j * w j * x j) * seg j k)
      = kdx W64 (sub x k) (sub w k) (sub t k) (lo k) := by
  rw [sum_seg (fun j => t j * w j * x j), sum_seg (fun j => t j * w j * x j - t j * w j * x j),
    sum_mul_coe _ _ (by norm_num), sum_mul_coe _ _ (by norm_num),
    ← kdx_split w64 (by norm_num) (sub x k) (sub w k) (sub t k) (sub (fun j => t j * w j * x j) k) (lo k) (fun d => h _) (fun d => rfl),
    sub_lo, sub_lo, sub_lo, mul_comm (x k)]
  rfl

/-- The activation's factor of a real number is real. -/
theorem lg_real (r : ℝ) : ∃ s : ℝ, Cert.Norm.lg (r : EReal) = (s : EReal) := by
  refine ⟨(1 + Real.exp (-r))⁻¹, ?_⟩
  unfold Cert.Norm.lg
  rw [Cert.Ffn.one_w, ← EReal.coe_neg]
  show Ideal.div ((1 : ℝ) : EReal) (((1 : ℝ) : EReal) + ((Real.exp (-r) : ℝ) : EReal)) = _
  rw [← EReal.coe_add, Cert.Ffn.div_real _ (by have := Real.exp_pos (-r); positivity), one_div]

/-- The gate's gradient, as the kernel writes it. -/
def gate (d z g y : EReal) : EReal :=
  d * y * g * (Cert.Norm.lg z * (Ideal.ofBits .f32 0x3F800000#32 + z * (Ideal.ofBits .f32 0x3F800000#32 - Cert.Norm.lg z)))

/-- On real numbers it is what differentiation writes. -/
theorem gate_eq (d z g y : ℝ) : gate d z g y
    = (y : EReal) * g * d * Cert.Norm.lg z
      + z * ((y : EReal) * g * d) * (Cert.Norm.lg z * (Ideal.ofBits .f32 0x3F800000#32 - Cert.Norm.lg z)) := by
  unfold gate
  obtain ⟨s, hs⟩ := lg_real z
  rw [hs, Cert.Ffn.one_w]
  simp only [← EReal.coe_mul, ← EReal.coe_add, ← EReal.coe_sub]
  congr 1
  ring

/-- The columns of the mixed rows that the attention, the heads and the convolution fill. -/
def c1 (k : Fin 512) : Fin 1024 := ⟨k.val, by omega⟩
def c2 (k : Fin 256) : Fin 1024 := ⟨512 + k.val, by omega⟩
def c3 (k : Fin 256) : Fin 1024 := ⟨768 + k.val, by omega⟩
/-- The projected columns that hold the heads' gates. -/
def cp (k : Fin 256) : Fin 2560 := ⟨1792 + k.val, by omega⟩
/-- Row `8 p + s`. -/
def tp (p : Fin 512) (s : Fin 8) : Fin 4096 := ⟨8 * p.val + s.val, by omega⟩

/-- A matrix of extended reals. -/
abbrev Mat (a b : ℕ) : Type := FVec Ideal ⟨2, ![a, b]⟩ .f32
/-- The word of a norm's width. -/
abbrev W512 : EReal := Ideal.ofBits .f32 0x44000000#32
abbrev W256 : EReal := Ideal.ofBits .f32 0x43800000#32

/-- A row. -/
def rw' {a b : ℕ} (x : Mat a b) (r : Fin a) (k : Fin b) : EReal := x (ix2 r k)
/-- A weight. -/
def wt {b : ℕ} (x : Mat 1 b) (k : Fin b) : EReal := x (ix2 0 k)
/-- The attention's part of a row's gradient. -/
def ga {a : ℕ} (x : Mat a 1024) (r : Fin a) (k : Fin 512) : EReal := x (ix2 r (c1 k))
/-- The heads' part. -/
def gh {a : ℕ} (x : Mat a 1024) (r : Fin a) (k : Fin 256) : EReal := x (ix2 r (c2 k))
/-- The convolution's part. -/
def gc {a : ℕ} (x : Mat a 1024) (r : Fin a) (k : Fin 256) : EReal := x (ix2 r (c3 k))
/-- A row's gates. -/
def hg (x : Mat 4096 2560) (r : Fin 4096) (k : Fin 256) : EReal := x (ix2 r (cp k))
/-- A row's heads, both directions together. -/
def o2 {a : ℕ} (x y : Mat a 256) (r : Fin a) (k : Fin 256) : EReal := x (ix2 r k) + y (ix2 r k)
/-- The gradient of the normalised heads. -/
def dn (a0 : Mat 4096 1024) (a4 : Mat 4096 2560) (r : Fin 4096) (k : Fin 256) : EReal := gh a0 r k * (hg a4 r k * Cert.Norm.lg (hg a4 r k))

section
variable (a0 : Mat 4096 1024) (a1 : Mat 4096 512) (a2 a3 : Mat 4096 256) (a4 : Mat 4096 2560) (a5 : Mat 4096 256) (a6 : Mat 1 512) (a7 a8 : Mat 1 256)

/-- The gradient of the attention's rows. -/
def totA : (⟨2, ![4096, 512]⟩ : Shape).Idx → EReal := fun i => kdx W512 (rw' a1 (i 0)) (wt a6) (ga a0 (i 0)) (i 1)
/-- The gradient of the convolution's rows. -/
def totC : (⟨2, ![4096, 256]⟩ : Shape).Idx → EReal := fun i => kdx W256 (rw' a5 (i 0)) (wt a8) (gc a0 (i 0)) (i 1)
/-- The gradient of the heads. -/
def totH : (⟨2, ![4096, 256]⟩ : Shape).Idx → EReal :=
  fun i => kdx W64 (sub (o2 a2 a3 (i 0)) (i 1)) (sub (wt a7) (i 1)) (sub (dn a0 a4 (i 0)) (i 1)) (lo (i 1))
/-- The gradient of the gates. -/
def totG : (⟨2, ![4096, 256]⟩ : Shape).Idx → EReal :=
  fun i => gate (gh a0 (i 0) (i 1)) (hg a4 (i 0) (i 1)) (wt a7 (i 1)) (o2 a2 a3 (i 0) (i 1) * rs W64 (sub (o2 a2 a3 (i 0)) (i 1)))
/-- What a row adds to the attention norm's weight gradient. -/
def addA (n : Fin 4096) (k : Fin 512) : EReal := ga a0 n k * rw' a1 n k * rs W512 (rw' a1 n)
/-- What a row adds to the convolution norm's. -/
def addC (n : Fin 4096) (k : Fin 256) : EReal := gc a0 n k * rw' a5 n k * rs W256 (rw' a5 n)
/-- What a row adds to the heads' norm's. -/
def addH (n : Fin 4096) (k : Fin 256) : EReal := dn a0 a4 n k * o2 a2 a3 n k * rs W64 (sub (o2 a2 a3 n) k)
/-- A weight's gradient, the rows of each residue modulo 8 apart. -/
def totW {b : ℕ} (f : Fin 4096 → Fin b → EReal) : (⟨2, ![8, b]⟩ : Shape).Idx → EReal := fun i => ∑ q : Fin 512, f (tp q (i 0)) (i 1)
end

end Cert.Mix

end
-- ==== Proof.MixCase.lean ====
/- What the kernel of the mixed norms' gradients leaves after a grid point: the tile's gradients, and the norm weights' gradients
   over what the tiles before left; and each of these entry by entry. -/
module

public import proofs.«01_k».proof.Proof.MixMath
public import proofs.«01_k».proof.Proof.Gen.Kernel15Ideal.Value
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Mix

open Idealize.ShloMosaic Idealize.ShloMosaic.TcCoe Idealize.ShloMosaic.Tactic
open Idealize.SL.Sem

section
open Cert.Kernel15Ideal Cert.Kernel15Ideal.Gen Cert.Kernel15Ideal.Value

theorem hz : (![0, 0] : Fin 2 → Nat) = fun _ => 0 := funext fun a => by fin_cases a <;> rfl

/-- The attention's, the heads' and the convolution's columns of a tile of the gradient. -/
def p1 (X : Vec Ideal S256x1024 .f32) : Vec Ideal S256x512 .f32 := fun i => X (ix2 (i 0) (c1 (i 1)))
def p2 (X : Vec Ideal S256x1024 .f32) : Vec Ideal S256x256 .f32 := fun i => X (ix2 (i 0) (c2 (i 1)))
def p3 (X : Vec Ideal S256x1024 .f32) : Vec Ideal S256x256 .f32 := fun i => X (ix2 (i 0) (c3 (i 1)))

theorem ld_p1 (X : Vec Ideal S256x1024 .f32) (inb : ∀ d, (![0, 0] : Fin 2 → ℕ) d + S256x512.size d ≤ S256x1024.size d) :
    View.ld X (Rect.unit (s := S256x1024) ![0, 0] S256x512.size inb) = p1 X := by
  funext x
  show X _ = X _
  congr 1; funext d; apply Fin.ext
  match d with
  | ⟨0, _⟩ => show 0 + 1 * (x 0).val = (x 0).val; omega
  | ⟨1, _⟩ => show 0 + 1 * (x 1).val = (x 1).val; omega

theorem ld_p2 (X : Vec Ideal S256x1024 .f32) (inb : ∀ d, (![0, 512] : Fin 2 → ℕ) d + S256x256.size d ≤ S256x1024.size d) :
    View.ld X (Rect.unit (s := S256x1024) ![0, 512] S256x256.size inb) = p2 X := by
  funext x
  show X _ = X _
  congr 1; funext d; apply Fin.ext
  match d with
  | ⟨0, _⟩ => show 0 + 1 * (x 0).val = (x 0).val; omega
  | ⟨1, _⟩ => show 512 + 1 * (x 1).val = 512 + (x 1).val; omega

theorem ld_p3 (X : Vec Ideal S256x1024 .f32) (inb : ∀ d, (![0, 768] : Fin 2 → ℕ) d + S256x256.size d ≤ S256x1024.size d) :
    View.ld X (Rect.unit (s := S256x1024) ![0, 768] S256x256.size inb) = p3 X := by
  funext x
  show X _ = X _
  congr 1; funext d; apply Fin.ext
  match d with
  | ⟨0, _⟩ => show 0 + 1 * (x 0).val = (x 0).val; omega
  | ⟨1, _⟩ => show 768 + 1 * (x 1).val = 768 + (x 1).val; omega

section
variable (c : Dev nD) (i : grid0.Coords) (a1 : Memref sig .tc .vmem S256x1024 .f32) (h1 : a1.IsWhole) (a2 : Memref sig .tc .vmem S256x512 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S256x256 .f32) (h6 : a6.IsWhole) (a7 : Memref sig .tc .vmem S1x512 .f32) (h7 : a7.IsWhole) (a8 : Memref sig .tc .vmem S1x256 .f32) (h8 : a8.IsWhole) (a9 : Memref sig .tc .vmem S1x256 .f32) (h9 : a9.IsWhole) (a10 : Memref sig .tc .vmem S256x256 .bf16) (h10 : a10.IsWhole) (a11 : Memref sig .tc .vmem S256x512 .f32) (h11 : a11.IsWhole) (a12 : Memref sig .tc .vmem S256x256 .f32) (h12 : a12.IsWhole) (a13 : Memref sig .tc .vmem S256x256 .bf16) (h13 : a13.IsWhole) (a14 : Memref sig .tc .vmem S256x256 .f32) (h14 : a14.IsWhole) (a15 : Memref sig .tc .vmem S8x512 .f32) (h15 : a15.IsWhole) (a16 : Memref sig .tc .vmem S8x256 .f32) (h16 : a16.IsWhole) (a17 : Memref sig .tc .vmem S8x256 .f32) (h17 : a17.IsWhole)
  (x0 : Vec Ideal S256x1024 .f32) (x1 : Vec Ideal S256x512 .f32) (x2 : Vec Ideal S256x256 .f32) (x3 : Vec Ideal S256x256 .f32) (x4 : Vec Ideal S256x256 .f32) (x5 : Vec Ideal S256x256 .f32) (x6 : Vec Ideal S1x512 .f32) (x7 : Vec Ideal S1x256 .f32) (x8 : Vec Ideal S1x256 .f32) (x9 : Vec Ideal S256x256 .bf16) (xo14 : Vec Ideal S8x512 .f32) (xo15 : Vec Ideal S8x256 .f32) (xo16 : Vec Ideal S8x256 .f32)

theorem out_A_10 (hc : cond0_0 i) :
    out0_A_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay8 x1 x6 (p1 x0) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p1 x0]

theorem out_A_11 (hc : cond0_0 i) :
    out0_A_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay2 (k0_pay13 x2 x3) (k0_pay14 x2 x3 x9) (k0_pay15 (p2 x0) x4) x7 x9 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p2 x0]

theorem out_A_12 (hc : cond0_0 i) :
    out0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay1 (k0_pay16 (p2 x0) x2 x3 x9 x7) (k0_pay17 x4) (k0_pay18 x4) (Scalar.ofBits (F := Ideal) .f32 0x3F800000#32) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p2 x0]

theorem out_A_13 (hc : cond0_0 i) :
    out0_A_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay11 x5 x8 (p3 x0) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p3 x0]

theorem out_A_14 (hc : cond0_0 i) :
    out0_A_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay9 x1 (p1 x0) (k0_pay4 (F := Ideal)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_cons_unit_zero (S := S8x512) hz, View.readCov_unit_zero (S := S8x512) _ hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p1 x0]

theorem out_A_15 (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay3 (k0_pay13 x2 x3) (k0_pay14 x2 x3 x9) (k0_pay15 (p2 x0) x4) (k0_pay5 (F := Ideal)) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_cons_unit_zero (S := S8x256) hz, View.readCov_unit_zero (S := S8x256) _ hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p2 x0]

theorem out_A_16 (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 = k0_pay12 x5 (p3 x0) (k0_pay6 (F := Ideal)) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9)]
  unfold kernelRun0_A
  dsimp only
  sl_unfold_words
  rw [View.canon_cons_unit_zero (S := S8x256) hz, View.readCov_unit_zero (S := S8x256) _ hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p3 x0]

theorem out_B_10 (hc : ¬cond0_0 i) :
    out0_B_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay8 x1 x6 (p1 x0) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p1 x0]

theorem out_B_11 (hc : ¬cond0_0 i) :
    out0_B_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay2 (k0_pay13 x2 x3) (k0_pay14 x2 x3 x9) (k0_pay15 (p2 x0) x4) x7 x9 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p2 x0]

theorem out_B_12 (hc : ¬cond0_0 i) :
    out0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay1 (k0_pay16 (p2 x0) x2 x3 x9 x7) (k0_pay17 x4) (k0_pay18 x4) (Scalar.ofBits (F := Ideal) .f32 0x3F800000#32) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p2 x0]

theorem out_B_13 (hc : ¬cond0_0 i) :
    out0_B_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay11 x5 x8 (p3 x0) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p3 x0]

theorem out_B_14 (hc : ¬cond0_0 i) :
    out0_B_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay9 x1 (p1 x0) xo14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p1 x0]

theorem out_B_15 (hc : ¬cond0_0 i) :
    out0_B_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay3 (k0_pay13 x2 x3) (k0_pay14 x2 x3 x9) (k0_pay15 (p2 x0) x4) xo15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p2 x0]

theorem out_B_16 (hc : ¬cond0_0 i) :
    out0_B_16 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16 = k0_pay12 x5 (p3 x0) xo16 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 xo14 xo15 xo16)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h15.read_unread, h16.read_unread, h17.read_unread,
    View.ld_unit_zero (S := S256x512) hz, View.ld_unit_zero (S := S256x256) hz, View.ld_unit_zero (S := S1x512) hz, View.ld_unit_zero (S := S1x256) hz,
    View.ld_unit_zero (S := S8x512) hz, View.ld_unit_zero (S := S8x256) hz, shapeCast_self]
  rw [ld_p3 x0]
end

section
variable (d : Vec Ideal S256x512 .f32) (x1 : Vec Ideal S256x512 .f32) (x6 : Vec Ideal S1x512 .f32)

theorem rsA_at (r : Fin 256) (z : Fin 1) : k0_pay7 x1 (ix2 r z) = rs W512 (rw' x1 r) := by
  pointwise [k0_pay7]
  rfl

/-- A tile of the gradient of the attention's rows at an entry. -/
theorem dA_at (r : Fin 256) (k : Fin 512) : k0_pay8 x1 x6 d (ix2 r k) = kdx W512 (rw' x1 r) (wt x6) (rw' d r) k := by
  pointwise [k0_pay8]
  simp only [rsA_at]
  rfl

/-- The attention norm's weight gradient grows by the rows of each residue modulo 8. -/
theorem wA_at (acc : Vec Ideal S8x512 .f32) (s : Fin 8) (k : Fin 512) : k0_pay9 x1 d acc (ix2 s k) = acc (ix2 s k)
    + ∑ q : Fin 32, rw' d (⟨8 * q.val + s.val, by omega⟩ : Fin 256) k * rw' x1 (⟨8 * q.val + s.val, by omega⟩ : Fin 256) k
        * rs W512 (rw' x1 (⟨8 * q.val + s.val, by omega⟩ : Fin 256)) := by
  pointwise [k0_pay9]
  refine congrArg (acc (ix2 s k) + ·) (Finset.sum_congr rfl fun q _ => ?_)
  have e : ∀ (u v : ℕ) (hu : u < 256) (hv : v < 256), u = v → (⟨u, hu⟩ : Fin 256) = ⟨v, hv⟩ := fun u v _ _ h => Fin.ext h
  rw [rsA_at, e (q.val * 8 + s.val) (8 * q.val + s.val) _ (by omega) (by omega)]
  rfl
end

section
variable (d : Vec Ideal S256x256 .f32) (x5 : Vec Ideal S256x256 .f32) (x8 : Vec Ideal S1x256 .f32)

theorem rsC_at (r : Fin 256) (z : Fin 1) : k0_pay10 x5 (ix2 r z) = rs W256 (rw' x5 r) := by
  pointwise [k0_pay10]
  rfl

/-- A tile of the gradient of the convolution's rows at an entry. -/
theorem dC_at (r : Fin 256) (k : Fin 256) : k0_pay11 x5 x8 d (ix2 r k) = kdx W256 (rw' x5 r) (wt x8) (rw' d r) k := by
  pointwise [k0_pay11]
  simp only [rsC_at]
  rfl

/-- The convolution norm's weight gradient grows by the rows of each residue modulo 8. -/
theorem wC_at (acc : Vec Ideal S8x256 .f32) (s : Fin 8) (k : Fin 256) : k0_pay12 x5 d acc (ix2 s k) = acc (ix2 s k)
    + ∑ q : Fin 32, rw' d (⟨8 * q.val + s.val, by omega⟩ : Fin 256) k * rw' x5 (⟨8 * q.val + s.val, by omega⟩ : Fin 256) k
        * rs W256 (rw' x5 (⟨8 * q.val + s.val, by omega⟩ : Fin 256)) := by
  pointwise [k0_pay12]
  refine congrArg (acc (ix2 s k) + ·) (Finset.sum_congr rfl fun q _ => ?_)
  have e : ∀ (u v : ℕ) (hu : u < 256) (hv : v < 256), u = v → (⟨u, hu⟩ : Fin 256) = ⟨v, hv⟩ := fun u v _ _ h => Fin.ext h
  rw [rsC_at, e (q.val * 8 + s.val) (8 * q.val + s.val) _ (by omega) (by omega)]
  rfl
end

section
variable (d : Vec Ideal S256x256 .f32) (x2 x3 x4 : Vec Ideal S256x256 .f32) (x7 : Vec Ideal S1x256 .f32) (x9 : Vec Ideal S256x256 .bf16)
  (hs : ∀ j k, x9 (ix2 j k) = seg j k)

theorem o_at (r k : Fin 256) : k0_pay13 x2 x3 (ix2 r k) = o2 x2 x3 r k := by
  pointwise [k0_pay13]
  rfl

include hs in
theorem rsH_at (r k : Fin 256) : k0_pay14 x2 x3 x9 (ix2 r k) = rs W64 (sub (o2 x2 x3 r) k) := by
  unfold rs
  rw [← ms_seg]
  pointwise [k0_pay14]
  simp only [o_at, hs]

/-- The gradient of a normalised head. -/
def dnB (r k : Fin 256) : EReal := rw' d r k * (rw' x4 r k * Cert.Norm.lg (rw' x4 r k))

theorem dn_at (r k : Fin 256) : k0_pay15 d x4 (ix2 r k) = dnB d x4 r k := by
  pointwise [k0_pay15]
  rw [Cert.Norm.tanh_lg]
  rfl

theorem lg_at (r k : Fin 256) : k0_pay17 x4 (ix2 r k) = Cert.Norm.lg (rw' x4 r k) := by
  pointwise [k0_pay17]
  exact Cert.Norm.tanh_lg _

include hs in
/-- A tile of the heads' gradient at an entry, where the gradients before the norm are real. -/
theorem dH_at (r k : Fin 256) (h : ∀ k, ∃ y : ℝ, dnB d x4 r k * wt x7 k = (y : EReal)) :
    k0_pay2 (k0_pay13 x2 x3) (k0_pay14 x2 x3 x9) (k0_pay15 d x4) x7 x9 (ix2 r k)
      = kdx W64 (sub (o2 x2 x3 r) k) (sub (wt x7) k) (sub (dnB d x4 r) k) (lo k) := by
  rw [← kdx_seg (o2 x2 x3 r) (wt x7) (dnB d x4 r) k h]
  have e1 : ∀ k, k0_pay13 x2 x3 (ix2 r k) = o2 x2 x3 r k := o_at x2 x3 r
  have e2 := rsH_at x2 x3 x9 hs r k
  have e3 : ∀ k, k0_pay15 d x4 (ix2 r k) = dnB d x4 r k := dn_at d x4 r
  generalize k0_pay13 x2 x3 = A at e1
  generalize k0_pay14 x2 x3 x9 = B at e2
  generalize k0_pay15 d x4 = C at e3
  pointwise [k0_pay2]
  simp only [e1, e2, e3, hs]
  rfl

include hs in
/-- A tile of the gates' gradient at an entry. -/
theorem dG_at (r k : Fin 256) :
    k0_pay1 (k0_pay16 d x2 x3 x9 x7) (k0_pay17 x4) (k0_pay18 x4) (Scalar.ofBits (F := Ideal) .f32 0x3F800000#32) (ix2 r k)
      = gate (rw' d r k) (rw' x4 r k) (wt x7 k) (o2 x2 x3 r k * rs W64 (sub (o2 x2 x3 r) k)) := by
  unfold gate
  rw [← mul_assoc (rw' d r k), ← o_at, ← rsH_at x2 x3 x9 hs, ← lg_at]
  pointwise [k0_pay1, k0_pay16, k0_pay18]
  rfl

include hs in
/-- The heads' norm's weight gradient grows by the rows of each residue modulo 8. -/
theorem wH_at (acc : Vec Ideal S8x256 .f32) (s : Fin 8) (k : Fin 256) :
    k0_pay3 (k0_pay13 x2 x3) (k0_pay14 x2 x3 x9) (k0_pay15 d x4) acc (ix2 s k) = acc (ix2 s k)
    + ∑ q : Fin 32, dnB d x4 (⟨8 * q.val + s.val, by omega⟩ : Fin 256) k * o2 x2 x3 (⟨8 * q.val + s.val, by omega⟩ : Fin 256) k
        * rs W64 (sub (o2 x2 x3 (⟨8 * q.val + s.val, by omega⟩ : Fin 256)) k) := by
  have e1 : ∀ r k, k0_pay13 x2 x3 (ix2 r k) = o2 x2 x3 r k := o_at x2 x3
  have e2 : ∀ r k, k0_pay14 x2 x3 x9 (ix2 r k) = rs W64 (sub (o2 x2 x3 r) k) := rsH_at x2 x3 x9 hs
  have e3 : ∀ r k, k0_pay15 d x4 (ix2 r k) = dnB d x4 r k := dn_at d x4
  generalize k0_pay13 x2 x3 = A at e1
  generalize k0_pay14 x2 x3 x9 = B at e2
  generalize k0_pay15 d x4 = C at e3
  pointwise [k0_pay3]
  refine congrArg (acc (ix2 s k) + ·) (Finset.sum_congr rfl fun q _ => ?_)
  have e : ∀ (u v : ℕ) (hu : u < 256) (hv : v < 256), u = v → (⟨u, hu⟩ : Fin 256) = ⟨v, hv⟩ := fun u v _ _ h => Fin.ext h
  rw [e1, e2, e3, e (q.val * 8 + s.val) (8 * q.val + s.val) _ (by omega) (by omega)]
end
end

end Cert.Mix

end
-- ==== Proof.MixKer.lean ====
/- What the kernel of the mixed norms' gradients leaves in its seven arrays: the gradients entry by entry, and the three norm
   weights' gradients summed over all rows. -/
module

public import proofs.«01_k».proof.Proof.MixCase
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Mix

open Idealize.ShloMosaic Idealize.ShloMosaic.TcCoe Idealize.ShloMosaic.Tactic
open Idealize.SL.Sem

section
open Cert.Kernel15Ideal Cert.Kernel15Ideal.Gen Cert.Kernel15Ideal.Value

theorem ltN (t : Fin cfg0.N) : t.val < 16 := Nat.lt_of_lt_of_eq t.isLt N_0

/-- Row `r` of point `t`'s tile. -/
def row (t : Fin cfg0.N) (r : Fin 256) : Fin 4096 := ⟨256 * t.val + r.val, by have := ltN t; omega⟩

/-- Row `n`, for any number. -/
def tk (n : ℕ) : Fin 4096 := ⟨n % 4096, Nat.mod_lt _ (by norm_num)⟩

section
variable {F : FTy → Type} [FloatOps F]
/-- The head of each column, as a number. -/
def hCol : IVec S256 32 := shapeCast S256 (iotaInDim S4x64 32 0) shapeCasts_S4x64_S256
/-- The matrix of the heads, as the host prepares it. -/
def hSeg : FVec F S256x256 .bf16 :=
  truncf .bf16 (mulf (uitofp .f32 (cmpi .eq
      (broadcastInDim S256x256 ![0, 1] bcast_S256x1_S256x256_0_1 (broadcastInDim S256x1 ![0] bcast_S256_S256x1_0 hCol))
      (broadcastInDim S256x256 ![0, 1] bcast_S1x256_S256x256_0_1 (broadcastInDim S1x256 ![1] bcast_S256_S1x256_1 hCol))))
    (broadcastInDim S256x256 ![] bcast_S_S256x256 (constant S_ .f32 0x3C800000#32))) bitsLt_bf16_f32

theorem V_seg (m : (ℓ : Loc nD τ sig) → Buf (Elt F) ℓ) (c : Dev nD) : V m c main_v10 = hSeg := by
  show StableHlo.after hostOps0 _ (Proc.devRef .tc main_v10) = _
  after_results_simp
  rfl
end

theorem hCol_at (k : Fin 256) : hCol (ix1 k) = BitVec.ofNat 32 (hd k).val := by
  unfold hCol
  pointwise []
  rfl

/-- The host's matrix of the heads at an entry. -/
theorem hSeg_at (j k : Fin 256) : hSeg (F := Ideal) (ix2 j k) = seg j k := by
  unfold hSeg
  pointwise []
  simp only [hCol_at]
  rw [w64i]
  unfold seg
  by_cases h : hd j = hd k
  · rw [if_pos h, h]
    have e : IntOp.cmpi .eq (BitVec.ofNat 32 (hd k).val) (BitVec.ofNat 32 (hd k).val) = 1#1 := by simp [IntOp.cmpi]
    rw [e]
    show (((1#1 : BitVec 1).toNat : ℝ) : EReal) * _ = _
    norm_num
  · have ne : ¬(BitVec.ofNat 32 (hd j).val = BitVec.ofNat 32 (hd k).val) := fun e => h (Fin.ext (by
      have := congrArg BitVec.toNat e
      have h1 := (hd j).isLt
      have h2 := (hd k).isLt
      simp only [BitVec.toNat_ofNat] at this
      omega))
    have e : IntOp.cmpi .eq (BitVec.ofNat 32 (hd j).val) (BitVec.ofNat 32 (hd k).val) = 0#1 := by
      show BitVec.ofBool (BitVec.ofNat 32 (hd j).val == BitVec.ofNat 32 (hd k).val) = 0#1
      rw [beq_eq_false_iff_ne.mpr ne]
      rfl
    rw [if_neg h, e]
    show (((0#1 : BitVec 1).toNat : ℝ) : EReal) * _ = _
    norm_num

theorem idx0 : ∀ t : Fin cfg0.N, win0_0.index t 0 = t.val ∧ win0_0.index t 1 = 0 :=
  (by decide +kernel : ∀ t : Fin grid0.N, _)

theorem idx1 : ∀ t : Fin cfg0.N, win0_1.index t 0 = t.val ∧ win0_1.index t 1 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx3 : ∀ t : Fin cfg0.N, win0_3.index t 0 = t.val ∧ win0_3.index t 1 = 0 :=
  (by decide +kernel : ∀ t : Fin grid0.N, _)

theorem idx5 : ∀ t : Fin cfg0.N, win0_5.index t 0 = t.val ∧ win0_5.index t 1 = 0 :=
  (by decide +kernel : ∀ t : Fin grid0.N, _)

theorem idx6 : ∀ t : Fin cfg0.N, win0_6.index t 0 = 0 ∧ win0_6.index t 1 = 0 :=
  (by decide +kernel : ∀ t : Fin grid0.N, _)

theorem idx7 : ∀ t : Fin cfg0.N, win0_7.index t 0 = 0 ∧ win0_7.index t 1 = 0 :=
  (by decide +kernel : ∀ t : Fin grid0.N, _)

theorem idx8 : ∀ t : Fin cfg0.N, win0_8.index t 0 = 0 ∧ win0_8.index t 1 = 0 :=
  (by decide +kernel : ∀ t : Fin grid0.N, _)

theorem idx9 : ∀ t : Fin cfg0.N, win0_9.index t 0 = 0 ∧ win0_9.index t 1 = 0 :=
  (by decide +kernel : ∀ t : Fin grid0.N, _)

theorem idx10 : ∀ t : Fin cfg0.N, win0_10.index t 0 = t.val ∧ win0_10.index t 1 = 0 :=
  (by decide +kernel : ∀ t : Fin grid0.N, _)

theorem idx11 : ∀ t : Fin cfg0.N, win0_11.index t 0 = t.val ∧ win0_11.index t 1 = 0 :=
  (by decide +kernel : ∀ t : Fin grid0.N, _)

theorem idx12 : ∀ t : Fin cfg0.N, win0_12.index t 0 = t.val ∧ win0_12.index t 1 = 0 :=
  (by decide +kernel : ∀ t : Fin grid0.N, _)

theorem idx13 : ∀ t : Fin cfg0.N, win0_13.index t 0 = t.val ∧ win0_13.index t 1 = 0 :=
  (by decide +kernel : ∀ t : Fin grid0.N, _)

theorem idx14 : ∀ t : Fin cfg0.N, win0_14.index t 0 = 0 ∧ win0_14.index t 1 = 0 :=
  (by decide +kernel : ∀ t : Fin grid0.N, _)

theorem idx15 : ∀ t : Fin cfg0.N, win0_15.index t 0 = 0 ∧ win0_15.index t 1 = 0 :=
  (by decide +kernel : ∀ t : Fin grid0.N, _)

theorem idx16 : ∀ t : Fin cfg0.N, win0_16.index t 0 = 0 ∧ win0_16.index t 1 = 0 :=
  (by decide +kernel : ∀ t : Fin grid0.N, _)

theorem idx4 : ∀ t : Fin cfg0.N, win0_4.index t 0 = t.val ∧ win0_4.index t 1 = 7 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 256) (p1 : Fin 1024) : (iblk m c 0 t : Vec Ideal S256x1024 .f32) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 256 + 1 * p0.val = 256 * t.val + p0.val; rw [(idx0 t).1]; omega
    | ⟨1, _⟩ => show win0_0.index t 1 * 1024 + 1 * p1.val = p1.val; rw [(idx0 t).2]; omega
  exact (congrFun (V_main_arg0 m c) _).trans (congrArg _ e)

/-- Point `t`'s block of argument 1. -/
theorem ib1 (t : Fin cfg0.N) (p0 : Fin 256) (p1 : Fin 512) : (iblk m c 1 t : Vec Ideal S256x512 .f32) (ix2 p0 p1)
    = m (c.tc.loc main_arg1) (ix2 (row t p0) p1) := by
  unfold iblk; rw [View.read_apply]
  have e : (((cfg0.win 1).blk t).view.emb (ix2 p0 p1)) = ix2 (row t p0) p1 := by
    funext a; apply Fin.ext
    match a with
    | ⟨0, _⟩ => show win0_1.index t 0 * 256 + 1 * p0.val = 256 * t.val + p0.val; rw [(idx1 t).1]; omega
    | ⟨1, _⟩ => show win0_1.index t 1 * 512 + 1 * p1.val = p1.val; rw [(idx1 t).2]; omega
  exact (congrFun (V_main_arg1 m c) _).trans (congrArg _ e)

/-- Point `t`'s block of argument 2. -/
theorem ib2 (t : Fin cfg0.N) (p0 : Fin 256) (p1 : Fin 256) : (iblk m c 2 t : Vec Ideal S256x256 .f32) (ix2 p0 p1)
    = m (c.tc.loc main_arg2) (ix2 (row t p0) p1) := by
  unfold iblk; rw [View.read_apply]
  have e : (((cfg0.win 2).blk t).view.emb (ix2 p0 p1)) = ix2 (row t p0) p1 := by
    funext a; apply Fin.ext
    match a with
    | ⟨0, _⟩ => show win0_2.index t 0 * 256 + 1 * p0.val = 256 * t.val + p0.val; rw [(idx2 t).1]; omega
    | ⟨1, _⟩ => show win0_2.index t 1 * 256 + 1 * p1.val = p1.val; rw [(idx2 t).2]; omega
  exact (congrFun (V_main_arg2 m c) _).trans (congrArg _ e)

/-- Point `t`'s block of argument 3. -/
theorem ib3 (t : Fin cfg0.N) (p0 : Fin 256) (p1 : Fin 256) : (iblk m c 3 t : Vec Ideal S256x256 .f32) (ix2 p0 p1)
    = m (c.tc.loc main_arg3) (ix2 (row t p0) p1) := by
  unfold iblk; rw [View.read_apply]
  have e : (((cfg0.win 3).blk t).view.emb (ix2 p0 p1)) = ix2 (row t p0) p1 := by
    funext a; apply Fin.ext
    match a with
    | ⟨0, _⟩ => show win0_3.index t 0 * 256 + 1 * p0.val = 256 * t.val + p0.val; rw [(idx3 t).1]; omega
    | ⟨1, _⟩ => show win0_3.index t 1 * 256 + 1 * p1.val = p1.val; rw [(idx3 t).2]; omega
  exact (congrFun (V_main_arg3 m c) _).trans (congrArg _ e)

/-- Point `t`'s block of argument 5. -/
theorem ib5 (t : Fin cfg0.N) (p0 : Fin 256) (p1 : Fin 256) : (iblk m c 5 t : Vec Ideal S256x256 .f32) (ix2 p0 p1)
    = m (c.tc.loc main_arg5) (ix2 (row t p0) p1) := by
  unfold iblk; rw [View.read_apply]
  have e : (((cfg0.win 5).blk t).view.emb (ix2 p0 p1)) = ix2 (row t p0) p1 := by
    funext a; apply Fin.ext
    match a with
    | ⟨0, _⟩ => show win0_5.index t 0 * 256 + 1 * p0.val = 256 * t.val + p0.val; rw [(idx5 t).1]; omega
    | ⟨1, _⟩ => show win0_5.index t 1 * 256 + 1 * p1.val = p1.val; rw [(idx5 t).2]; omega
  exact (congrFun (V_main_arg5 m c) _).trans (congrArg _ e)

/-- Point `t`'s block of argument 6. -/
theorem ib6 (t : Fin cfg0.N) (p0 : Fin 1) (p1 : Fin 512) : (iblk m c 6 t : Vec Ideal S1x512 .f32) (ix2 p0 p1)
    = m (c.tc.loc main_arg6) (ix2 p0 p1) := by
  unfold iblk; rw [View.read_apply]
  have e : (((cfg0.win 6).blk t).view.emb (ix2 p0 p1)) = ix2 p0 p1 := by
    funext a; apply Fin.ext
    match a with
    | ⟨0, _⟩ => show win0_6.index t 0 * 1 + 1 * p0.val = p0.val; rw [(idx6 t).1]; omega
    | ⟨1, _⟩ => show win0_6.index t 1 * 512 + 1 * p1.val = p1.val; rw [(idx6 t).2]; omega
  exact (congrFun (V_main_arg6 m c) _).trans (congrArg _ e)

/-- Point `t`'s block of argument 7. -/
theorem ib7 (t : Fin cfg0.N) (p0 : Fin 1) (p1 : Fin 256) : (iblk m c 7 t : Vec Ideal S1x256 .f32) (ix2 p0 p1)
    = m (c.tc.loc main_arg7) (ix2 p0 p1) := by
  unfold iblk; rw [View.read_apply]
  have e : (((cfg0.win 7).blk t).view.emb (ix2 p0 p1)) = ix2 p0 p1 := by
    funext a; apply Fin.ext
    match a with
    | ⟨0, _⟩ => show win0_7.index t 0 * 1 + 1 * p0.val = p0.val; rw [(idx7 t).1]; omega
    | ⟨1, _⟩ => show win0_7.index t 1 * 256 + 1 * p1.val = p1.val; rw [(idx7 t).2]; omega
  exact (congrFun (V_main_arg7 m c) _).trans (congrArg _ e)

/-- Point `t`'s block of argument 8. -/
theorem ib8 (t : Fin cfg0.N) (p0 : Fin 1) (p1 : Fin 256) : (iblk m c 8 t : Vec Ideal S1x256 .f32) (ix2 p0 p1)
    = m (c.tc.loc main_arg8) (ix2 p0 p1) := by
  unfold iblk; rw [View.read_apply]
  have e : (((cfg0.win 8).blk t).view.emb (ix2 p0 p1)) = ix2 p0 p1 := by
    funext a; apply Fin.ext
    match a with
    | ⟨0, _⟩ => show win0_8.index t 0 * 1 + 1 * p0.val = p0.val; rw [(idx8 t).1]; omega
    | ⟨1, _⟩ => show win0_8.index t 1 * 256 + 1 * p1.val = p1.val; rw [(idx8 t).2]; omega
  exact (congrFun (V_main_arg8 m c) _).trans (congrArg _ e)

/-- Point `t`'s block of the gates. -/
theorem ib4 (t : Fin cfg0.N) (p0 : Fin 256) (p1 : Fin 256) : (iblk m c 4 t : Vec Ideal S256x256 .f32) (ix2 p0 p1)
    = m (c.tc.loc main_arg4) (ix2 (row t p0) (cp p1)) := by
  unfold iblk; rw [View.read_apply]
  have e : (((cfg0.win 4).blk t).view.emb (ix2 p0 p1)) = ix2 (row t p0) (cp p1) := by
    funext a; apply Fin.ext
    match a with
    | ⟨0, _⟩ => show win0_4.index t 0 * 256 + 1 * p0.val = 256 * t.val + p0.val; rw [(idx4 t).1]; omega
    | ⟨1, _⟩ => show win0_4.index t 1 * 256 + 1 * p1.val = 1792 + p1.val; rw [(idx4 t).2]; omega
  exact (congrFun (V_main_arg4 m c) _).trans (congrArg _ e)

/-- Every point's block of the matrix of the heads. -/
theorem ib9 (t : Fin cfg0.N) (j k : Fin 256) : (iblk m c 9 t : Vec Ideal S256x256 .bf16) (ix2 j k) = seg j k := by
  unfold iblk; rw [View.read_apply]
  have e : (((cfg0.win 9).blk t).view.emb (ix2 j k)) = ix2 j k := by
    funext a; apply Fin.ext
    match a with
    | ⟨0, _⟩ => show win0_9.index t 0 * 256 + 1 * j.val = j.val; rw [(idx9 t).1]; omega
    | ⟨1, _⟩ => show win0_9.index t 1 * 256 + 1 * k.val = k.val; rw [(idx9 t).2]; omega
  exact (congrFun (V_seg m c) _).trans ((congrArg _ e).trans (hSeg_at j k))

theorem r1 (t : Fin cfg0.N) (r : Fin 256) : rw' (iblk m c 1 t : Vec Ideal S256x512 .f32) r = rw' (m (c.tc.loc main_arg1)) (row t r) := funext fun k => ib1 m c t r k
theorem r5 (t : Fin cfg0.N) (r : Fin 256) : rw' (iblk m c 5 t : Vec Ideal S256x256 .f32) r = rw' (m (c.tc.loc main_arg5)) (row t r) := funext fun k => ib5 m c t r k
theorem w6 (t : Fin cfg0.N) : wt (iblk m c 6 t : Vec Ideal S1x512 .f32) = wt (m (c.tc.loc main_arg6)) := funext fun k => ib6 m c t 0 k
theorem w7 (t : Fin cfg0.N) : wt (iblk m c 7 t : Vec Ideal S1x256 .f32) = wt (m (c.tc.loc main_arg7)) := funext fun k => ib7 m c t 0 k
theorem w8 (t : Fin cfg0.N) : wt (iblk m c 8 t : Vec Ideal S1x256 .f32) = wt (m (c.tc.loc main_arg8)) := funext fun k => ib8 m c t 0 k
theorem g1 (t : Fin cfg0.N) (r : Fin 256) : rw' (p1 (iblk m c 0 t)) r = ga (m (c.tc.loc main_arg0)) (row t r) := funext fun k => ib0 m c t r (c1 k)
theorem g2 (t : Fin cfg0.N) (r : Fin 256) : rw' (p2 (iblk m c 0 t)) r = gh (m (c.tc.loc main_arg0)) (row t r) := funext fun k => ib0 m c t r (c2 k)
theorem g3 (t : Fin cfg0.N) (r : Fin 256) : rw' (p3 (iblk m c 0 t)) r = gc (m (c.tc.loc main_arg0)) (row t r) := funext fun k => ib0 m c t r (c3 k)
theorem r4 (t : Fin cfg0.N) (r : Fin 256) : rw' (iblk m c 4 t : Vec Ideal S256x256 .f32) r = hg (m (c.tc.loc main_arg4)) (row t r) := funext fun k => ib4 m c t r k
theorem ro (t : Fin cfg0.N) (r : Fin 256) : o2 (iblk m c 2 t : Vec Ideal S256x256 .f32) (iblk m c 3 t : Vec Ideal S256x256 .f32) r = o2 (m (c.tc.loc main_arg2)) (m (c.tc.loc main_arg3)) (row t r) :=
  funext fun k => congrArg₂ (· + ·) (ib2 m c t r k) (ib3 m c t r k)
theorem rd (t : Fin cfg0.N) (r : Fin 256) : dnB (p2 (iblk m c 0 t)) (iblk m c 4 t : Vec Ideal S256x256 .f32) r = dn (m (c.tc.loc main_arg0)) (m (c.tc.loc main_arg4)) (row t r) := by
  funext k
  unfold dnB dn
  rw [g2, r4]

/-- The gradients before the heads' norm are real. -/
def Real15 : Prop := ∀ r k, ∃ y : ℝ, dn (m (c.tc.loc main_arg0)) (m (c.tc.loc main_arg4)) r k * wt (m (c.tc.loc main_arg7)) k = (y : EReal)

theorem outs_A (t : Fin cfg0.N) (r : Fin 256) (k : Fin 512) :
    (outsAt0 m c t.val t.isLt).1 (ix2 r k) = totA (m (c.tc.loc main_arg0)) (m (c.tc.loc main_arg1)) (m (c.tc.loc main_arg6)) (ix2 (row t r) k) := by
  have e : (outsAt0 m c t.val t.isLt).1 = k0_pay8 (iblk m c 1 t) (iblk m c 6 t) (p1 (iblk m c 0 t)) := by
    by_cases h0 : t.val % 16 = 0
    · rw [outsAt0_A m c t h0]; dsimp only; rw [out_A_10]
    · rw [outsAt0_B m c t h0]; dsimp only; rw [out_B_10]
  rw [e]
  refine (dA_at _ _ _ r k).trans ?_
  rw [r1, w6, g1]
  rfl

/-- What a point writes back is its rows of the array. -/
theorem flushed_A (t : Fin cfg0.N) (_ : (cfg0.win 10).flush t = true) :
    (dats m 0 c).flushed 10 t = ((cfg0.win 10).blk t).view.read (Elt Ideal) (totA (m (c.tc.loc main_arg0)) (m (c.tc.loc main_arg1)) (m (c.tc.loc main_arg6))) := by
  rw [flushed10]
  funext j
  rw [View.read_apply]
  have j0 : (j 0).val < 256 := (j 0).isLt
  have j1 : (j 1).val < 512 := (j 1).isLt
  have ej : (cfg0.win 10).cut (grid0.coords t) ((outsAt0 m c t.val t.isLt).1) j
      = ((outsAt0 m c t.val t.isLt).1) (ix2 ⟨(j 0).val, j0⟩ ⟨(j 1).val, j1⟩) :=
    congrArg _ (funext fun a => Fin.ext (by match a with | ⟨0, _⟩ => rfl | ⟨1, _⟩ => rfl))
  have ee : (((cfg0.win 10).blk t).view.emb j) = ix2 (row t ⟨(j 0).val, j0⟩) ⟨(j 1).val, j1⟩ := by
    funext a; apply Fin.ext
    match a with
    | ⟨0, _⟩ => show win0_10.index t 0 * 256 + 1 * (j 0).val = 256 * t.val + (j 0).val; rw [(idx10 t).1]; omega
    | ⟨1, _⟩ => show win0_10.index t 1 * 512 + 1 * (j 1).val = (j 1).val; rw [(idx10 t).2]; omega
  exact ej.trans ((outs_A m c t _ _).trans (congrArg _ ee).symm)

/-- What the array ends holding. -/
theorem final_A : (dats m 0 c).arrAt 10 cfg0.N = totA (m (c.tc.loc main_arg0)) (m (c.tc.loc main_arg1)) (m (c.tc.loc main_arg6)) :=
  (dats m 0 c).arrAt_eq_of_cover 10 _ (flushed_A m c) fun i => by
    have i0 : (i 0).val < 4096 := (i 0).isLt
    have i1 : (i 1).val < 512 := (i 1).isLt
    let t : Fin cfg0.N := ⟨(i 0).val / 256, Nat.lt_of_lt_of_eq (by omega) N_0.symm⟩
    have ht : t.val = (i 0).val / 256 := rfl
    refine ⟨t, flush0_10 t, ?_⟩
    show i ∈ ((View.whole main_v11_0).slice (win0_10.rect t)).set
    rw [View.set_slice_whole, Rect.mem_set_unit]
    intro a
    match a with
    | ⟨0, _⟩ => show win0_10.index t 0 * 256 ≤ (i 0).val ∧ (i 0).val < win0_10.index t 0 * 256 + 256
                rw [(idx10 t).1]; omega
    | ⟨1, _⟩ => show win0_10.index t 1 * 512 ≤ (i 1).val ∧ (i 1).val < win0_10.index t 1 * 512 + 512
                rw [(idx10 t).2]; omega

theorem outs_H (hr : Real15 m c) (t : Fin cfg0.N) (r : Fin 256) (k : Fin 256) :
    (outsAt0 m c t.val t.isLt).2.1 (ix2 r k) = totH (m (c.tc.loc main_arg0)) (m (c.tc.loc main_arg2)) (m (c.tc.loc main_arg3)) (m (c.tc.loc main_arg4)) (m (c.tc.loc main_arg7)) (ix2 (row t r) k) := by
  have e : (outsAt0 m c t.val t.isLt).2.1 = k0_pay2 (k0_pay13 (iblk m c 2 t) (iblk m c 3 t)) (k0_pay14 (iblk m c 2 t) (iblk m c 3 t) (iblk m c 9 t)) (k0_pay15 (p2 (iblk m c 0 t)) (iblk m c 4 t)) (iblk m c 7 t) (iblk m c 9 t) := by
    by_cases h0 : t.val % 16 = 0
    · rw [outsAt0_A m c t h0]; dsimp only; rw [out_A_11]
    · rw [outsAt0_B m c t h0]; dsimp only; rw [out_B_11]
  rw [e]
  refine (dH_at _ _ _ _ _ _ (ib9 m c t) r k (fun k => by rw [rd, w7]; exact hr (row t r) k)).trans ?_
  rw [ro, w7, rd]
  rfl

/-- What a point writes back is its rows of the array. -/
theorem flushed_H (hr : Real15 m c) (t : Fin cfg0.N) (_ : (cfg0.win 11).flush t = true) :
    (dats m 0 c).flushed 11 t = ((cfg0.win 11).blk t).view.read (Elt Ideal) (totH (m (c.tc.loc main_arg0)) (m (c.tc.loc main_arg2)) (m (c.tc.loc main_arg3)) (m (c.tc.loc main_arg4)) (m (c.tc.loc main_arg7))) := by
  rw [flushed11]
  funext j
  rw [View.read_apply]
  have j0 : (j 0).val < 256 := (j 0).isLt
  have j1 : (j 1).val < 256 := (j 1).isLt
  have ej : (cfg0.win 11).cut (grid0.coords t) ((outsAt0 m c t.val t.isLt).2.1) j
      = ((outsAt0 m c t.val t.isLt).2.1) (ix2 ⟨(j 0).val, j0⟩ ⟨(j 1).val, j1⟩) :=
    congrArg _ (funext fun a => Fin.ext (by match a with | ⟨0, _⟩ => rfl | ⟨1, _⟩ => rfl))
  have ee : (((cfg0.win 11).blk t).view.emb j) = ix2 (row t ⟨(j 0).val, j0⟩) ⟨(j 1).val, j1⟩ := by
    funext a; apply Fin.ext
    match a with
    | ⟨0, _⟩ => show win0_11.index t 0 * 256 + 1 * (j 0).val = 256 * t.val + (j 0).val; rw [(idx11 t).1]; omega
    | ⟨1, _⟩ => show win0_11.index t 1 * 256 + 1 * (j 1).val = (j 1).val; rw [(idx11 t).2]; omega
  exact ej.trans ((outs_H m c hr t _ _).trans (congrArg _ ee).symm)

/-- What the array ends holding. -/
theorem final_H (hr : Real15 m c) : (dats m 0 c).arrAt 11 cfg0.N = totH (m (c.tc.loc main_arg0)) (m (c.tc.loc main_arg2)) (m (c.tc.loc main_arg3)) (m (c.tc.loc main_arg4)) (m (c.tc.loc main_arg7)) :=
  (dats m 0 c).arrAt_eq_of_cover 11 _ (flushed_H m c hr) fun i => by
    have i0 : (i 0).val < 4096 := (i 0).isLt
    have i1 : (i 1).val < 256 := (i 1).isLt
    let t : Fin cfg0.N := ⟨(i 0).val / 256, Nat.lt_of_lt_of_eq (by omega) N_0.symm⟩
    have ht : t.val = (i 0).val / 256 := rfl
    refine ⟨t, flush0_11 t, ?_⟩
    show i ∈ ((View.whole main_v11_1).slice (win0_11.rect t)).set
    rw [View.set_slice_whole, Rect.mem_set_unit]
    intro a
    match a with
    | ⟨0, _⟩ => show win0_11.index t 0 * 256 ≤ (i 0).val ∧ (i 0).val < win0_11.index t 0 * 256 + 256
                rw [(idx11 t).1]; omega
    | ⟨1, _⟩ => show win0_11.index t 1 * 256 ≤ (i 1).val ∧ (i 1).val < win0_11.index t 1 * 256 + 256
                rw [(idx11 t).2]; omega

theorem outs_G (t : Fin cfg0.N) (r : Fin 256) (k : Fin 256) :
    (outsAt0 m c t.val t.isLt).2.2.1 (ix2 r k) = totG (m (c.tc.loc main_arg0)) (m (c.tc.loc main_arg2)) (m (c.tc.loc main_arg3)) (m (c.tc.loc main_arg4)) (m (c.tc.loc main_arg7)) (ix2 (row t r) k) := by
  have e : (outsAt0 m c t.val t.isLt).2.2.1 = k0_pay1 (k0_pay16 (p2 (iblk m c 0 t)) (iblk m c 2 t) (iblk m c 3 t) (iblk m c 9 t) (iblk m c 7 t)) (k0_pay17 (iblk m c 4 t)) (k0_pay18 (iblk m c 4 t)) (Scalar.ofBits (F := Ideal) .f32 0x3F800000#32) := by
    by_cases h0 : t.val % 16 = 0
    · rw [outsAt0_A m c t h0]; dsimp only; rw [out_A_12]
    · rw [outsAt0_B m c t h0]; dsimp only; rw [out_B_12]
  rw [e]
  refine (dG_at _ _ _ _ _ _ (ib9 m c t) r k).trans ?_
  rw [g2, r4, w7, ro]
  rfl

/-- What a point writes back is its rows of the array. -/
theorem flushed_G (t : Fin cfg0.N) (_ : (cfg0.win 12).flush t = true) :
    (dats m 0 c).flushed 12 t = ((cfg0.win 12).blk t).view.read (Elt Ideal) (totG (m (c.tc.loc main_arg0)) (m (c.tc.loc main_arg2)) (m (c.tc.loc main_arg3)) (m (c.tc.loc main_arg4)) (m (c.tc.loc main_arg7))) := by
  rw [flushed12]
  funext j
  rw [View.read_apply]
  have j0 : (j 0).val < 256 := (j 0).isLt
  have j1 : (j 1).val < 256 := (j 1).isLt
  have ej : (cfg0.win 12).cut (grid0.coords t) ((outsAt0 m c t.val t.isLt).2.2.1) j
      = ((outsAt0 m c t.val t.isLt).2.2.1) (ix2 ⟨(j 0).val, j0⟩ ⟨(j 1).val, j1⟩) :=
    congrArg _ (funext fun a => Fin.ext (by match a with | ⟨0, _⟩ => rfl | ⟨1, _⟩ => rfl))
  have ee : (((cfg0.win 12).blk t).view.emb j) = ix2 (row t ⟨(j 0).val, j0⟩) ⟨(j 1).val, j1⟩ := by
    funext a; apply Fin.ext
    match a with
    | ⟨0, _⟩ => show win0_12.index t 0 * 256 + 1 * (j 0).val = 256 * t.val + (j 0).val; rw [(idx12 t).1]; omega
    | ⟨1, _⟩ => show win0_12.index t 1 * 256 + 1 * (j 1).val = (j 1).val; rw [(idx12 t).2]; omega
  exact ej.trans ((outs_G m c t _ _).trans (congrArg _ ee).symm)

/-- What the array ends holding. -/
theorem final_G : (dats m 0 c).arrAt 12 cfg0.N = totG (m (c.tc.loc main_arg0)) (m (c.tc.loc main_arg2)) (m (c.tc.loc main_arg3)) (m (c.tc.loc main_arg4)) (m (c.tc.loc main_arg7)) :=
  (dats m 0 c).arrAt_eq_of_cover 12 _ (flushed_G m c) fun i => by
    have i0 : (i 0).val < 4096 := (i 0).isLt
    have i1 : (i 1).val < 256 := (i 1).isLt
    let t : Fin cfg0.N := ⟨(i 0).val / 256, Nat.lt_of_lt_of_eq (by omega) N_0.symm⟩
    have ht : t.val = (i 0).val / 256 := rfl
    refine ⟨t, flush0_12 t, ?_⟩
    show i ∈ ((View.whole main_v11_2).slice (win0_12.rect t)).set
    rw [View.set_slice_whole, Rect.mem_set_unit]
    intro a
    match a with
    | ⟨0, _⟩ => show win0_12.index t 0 * 256 ≤ (i 0).val ∧ (i 0).val < win0_12.index t 0 * 256 + 256
                rw [(idx12 t).1]; omega
    | ⟨1, _⟩ => show win0_12.index t 1 * 256 ≤ (i 1).val ∧ (i 1).val < win0_12.index t 1 * 256 + 256
                rw [(idx12 t).2]; omega

theorem outs_C (t : Fin cfg0.N) (r : Fin 256) (k : Fin 256) :
    (outsAt0 m c t.val t.isLt).2.2.2.1 (ix2 r k) = totC (m (c.tc.loc main_arg0)) (m (c.tc.loc main_arg5)) (m (c.tc.loc main_arg8)) (ix2 (row t r) k) := by
  have e : (outsAt0 m c t.val t.isLt).2.2.2.1 = k0_pay11 (iblk m c 5 t) (iblk m c 8 t) (p3 (iblk m c 0 t)) := by
    by_cases h0 : t.val % 16 = 0
    · rw [outsAt0_A m c t h0]; dsimp only; rw [out_A_13]
    · rw [outsAt0_B m c t h0]; dsimp only; rw [out_B_13]
  rw [e]
  refine (dC_at _ _ _ r k).trans ?_
  rw [r5, w8, g3]
  rfl

/-- What a point writes back is its rows of the array. -/
theorem flushed_C (t : Fin cfg0.N) (_ : (cfg0.win 13).flush t = true) :
    (dats m 0 c).flushed 13 t = ((cfg0.win 13).blk t).view.read (Elt Ideal) (totC (m (c.tc.loc main_arg0)) (m (c.tc.loc main_arg5)) (m (c.tc.loc main_arg8))) := by
  rw [flushed13]
  funext j
  rw [View.read_apply]
  have j0 : (j 0).val < 256 := (j 0).isLt
  have j1 : (j 1).val < 256 := (j 1).isLt
  have ej : (cfg0.win 13).cut (grid0.coords t) ((outsAt0 m c t.val t.isLt).2.2.2.1) j
      = ((outsAt0 m c t.val t.isLt).2.2.2.1) (ix2 ⟨(j 0).val, j0⟩ ⟨(j 1).val, j1⟩) :=
    congrArg _ (funext fun a => Fin.ext (by match a with | ⟨0, _⟩ => rfl | ⟨1, _⟩ => rfl))
  have ee : (((cfg0.win 13).blk t).view.emb j) = ix2 (row t ⟨(j 0).val, j0⟩) ⟨(j 1).val, j1⟩ := by
    funext a; apply Fin.ext
    match a with
    | ⟨0, _⟩ => show win0_13.index t 0 * 256 + 1 * (j 0).val = 256 * t.val + (j 0).val; rw [(idx13 t).1]; omega
    | ⟨1, _⟩ => show win0_13.index t 1 * 256 + 1 * (j 1).val = (j 1).val; rw [(idx13 t).2]; omega
  exact ej.trans ((outs_C m c t _ _).trans (congrArg _ ee).symm)

/-- What the array ends holding. -/
theorem final_C : (dats m 0 c).arrAt 13 cfg0.N = totC (m (c.tc.loc main_arg0)) (m (c.tc.loc main_arg5)) (m (c.tc.loc main_arg8)) :=
  (dats m 0 c).arrAt_eq_of_cover 13 _ (flushed_C m c) fun i => by
    have i0 : (i 0).val < 4096 := (i 0).isLt
    have i1 : (i 1).val < 256 := (i 1).isLt
    let t : Fin cfg0.N := ⟨(i 0).val / 256, Nat.lt_of_lt_of_eq (by omega) N_0.symm⟩
    have ht : t.val = (i 0).val / 256 := rfl
    refine ⟨t, flush0_13 t, ?_⟩
    show i ∈ ((View.whole main_v11_3).slice (win0_13.rect t)).set
    rw [View.set_slice_whole, Rect.mem_set_unit]
    intro a
    match a with
    | ⟨0, _⟩ => show win0_13.index t 0 * 256 ≤ (i 0).val ∧ (i 0).val < win0_13.index t 0 * 256 + 256
                rw [(idx13 t).1]; omega
    | ⟨1, _⟩ => show win0_13.index t 1 * 256 ≤ (i 1).val ∧ (i 1).val < win0_13.index t 1 * 256 + 256
                rw [(idx13 t).2]; omega

theorem pt_wA (t : Fin cfg0.N) (acc : Vec Ideal S8x512 .f32) (s : Fin 8) (k : Fin 512) :
    k0_pay9 (iblk m c 1 t) (p1 (iblk m c 0 t)) acc (ix2 s k) = acc (ix2 s k) + ∑ q : Fin 32, addA (m (c.tc.loc main_arg0)) (m (c.tc.loc main_arg1)) (tk (8 * (32 * t.val + q.val) + s.val)) k := by
  refine (wA_at _ _ acc s k).trans ?_
  refine congrArg (acc (ix2 s k) + ·) (Finset.sum_congr rfl fun q _ => ?_)
  have hN := ltN t
  have e : row t ⟨8 * q.val + s.val, by omega⟩ = tk (8 * (32 * t.val + q.val) + s.val) := Fin.ext (by
    show 256 * t.val + (8 * q.val + s.val) = (8 * (32 * t.val + q.val) + s.val) % 4096; omega)
  rw [g1, r1, e]
  rfl

/-- After a point, the weight's gradient holds the rows of the points up to it. -/
theorem outs_wA (n : ℕ) (hn : n < cfg0.N) (s : Fin 8) (k : Fin 512) :
    (outsAt0 m c n hn).2.2.2.2.1 (ix2 s k) = ∑ t ∈ Finset.range (n + 1), ∑ q : Fin 32, addA (m (c.tc.loc main_arg0)) (m (c.tc.loc main_arg1)) (tk (8 * (32 * t + q.val) + s.val)) k := by
  have zero : ∀ i, (k0_pay4 : FVec Ideal S8x512 .f32) i = 0 := fun i => Ideal.ofBits_zero_f32
  induction n with
  | zero =>
    rw [outsAt0_A m c ⟨0, hn⟩ rfl]
    dsimp only
    rw [out_A_14, pt_wA m c, zero, zero_add, Finset.sum_range_one]
  | succ n ih =>
    have hN : n + 1 < 16 := Nat.lt_of_lt_of_eq hn N_0
    rw [outsAt0_B m c ⟨n + 1, hn⟩ (by show ¬(n + 1) % 16 = 0; omega)]
    dsimp only
    rw [out_B_14, pt_wA m c]
    simp only [Nat.add_sub_cancel]
    rw [ih (Nat.lt_of_succ_lt hn), Finset.sum_range_succ _ (n + 1)]

/-- What the last point writes back is the weight's gradient. -/
theorem flushed_wA (t : Fin cfg0.N) (hf : (cfg0.win 14).flush t = true) :
    (dats m 0 c).flushed 14 t = ((cfg0.win 14).blk t).view.read (Elt Ideal) (totW (addA (m (c.tc.loc main_arg0)) (m (c.tc.loc main_arg1)))) := by
  have h7 := (flush0_14 t).mp hf
  have hN := ltN t
  rw [flushed14]
  funext j
  rw [View.read_apply]
  have h0 : (j 0).val < 8 := (j 0).isLt
  have h1 : (j 1).val < 512 := (j 1).isLt
  have ej : (cfg0.win 14).cut (grid0.coords t) (outsAt0 m c t.val t.isLt).2.2.2.2.1 j
      = (outsAt0 m c t.val t.isLt).2.2.2.2.1 (ix2 ⟨(j 0).val, h0⟩ ⟨(j 1).val, h1⟩) :=
    congrArg _ (funext fun a => Fin.ext (by match a with | ⟨0, _⟩ => rfl | ⟨1, _⟩ => rfl))
  have ee : (((cfg0.win 14).blk t).view.emb j) = ix2 ⟨(j 0).val, h0⟩ ⟨(j 1).val, h1⟩ := by
    funext a; apply Fin.ext
    match a with
    | ⟨0, _⟩ => show win0_14.index t 0 * 8 + 1 * (j 0).val = (j 0).val; rw [(idx14 t).1]; omega
    | ⟨1, _⟩ => show win0_14.index t 1 * 512 + 1 * (j 1).val = (j 1).val; rw [(idx14 t).2]; omega
  refine ej.trans ((outs_wA m c t.val t.isLt _ _).trans ((congrArg (totW (addA (m (c.tc.loc main_arg0)) (m (c.tc.loc main_arg1)))) ee).trans ?_).symm)
  have hsum : totW (addA (m (c.tc.loc main_arg0)) (m (c.tc.loc main_arg1))) (ix2 ⟨(j 0).val, h0⟩ ⟨(j 1).val, h1⟩) = ∑ q : Fin 512, addA (m (c.tc.loc main_arg0)) (m (c.tc.loc main_arg1)) (tk (8 * q.val + (j 0).val)) ⟨(j 1).val, h1⟩ :=
    Finset.sum_congr rfl fun q _ => by
      have e : tp q ⟨(j 0).val, h0⟩ = tk (8 * q.val + (j 0).val) := Fin.ext (by
        show 8 * q.val + (j 0).val = (8 * q.val + (j 0).val) % 4096; omega)
      show addA (m (c.tc.loc main_arg0)) (m (c.tc.loc main_arg1)) (tp q ⟨(j 0).val, h0⟩) _ = _
      rw [e]
      rfl
  rw [hsum, Cert.Attn.sum_blocks 16 32 512 rfl, show t.val + 1 = 16 by omega, Finset.sum_range]

/-- What the weight's gradient ends holding. -/
theorem final_wA : (dats m 0 c).arrAt 14 cfg0.N = totW (addA (m (c.tc.loc main_arg0)) (m (c.tc.loc main_arg1))) :=
  (dats m 0 c).arrAt_eq_of_cover 14 _ (flushed_wA m c) fun i => by
    have i0 : (i 0).val < 8 := (i 0).isLt
    have i1 : (i 1).val < 512 := (i 1).isLt
    let t : Fin cfg0.N := ⟨15, Nat.lt_of_lt_of_eq (by omega) N_0.symm⟩
    refine ⟨t, (flush0_14 t).mpr rfl, ?_⟩
    show i ∈ ((View.whole main_v11_4).slice (win0_14.rect t)).set
    rw [View.set_slice_whole, Rect.mem_set_unit]
    intro a
    match a with
    | ⟨0, _⟩ => show win0_14.index t 0 * 8 ≤ (i 0).val ∧ (i 0).val < win0_14.index t 0 * 8 + 8
                rw [(idx14 t).1]; omega
    | ⟨1, _⟩ => show win0_14.index t 1 * 512 ≤ (i 1).val ∧ (i 1).val < win0_14.index t 1 * 512 + 512
                rw [(idx14 t).2]; omega

theorem pt_wH (t : Fin cfg0.N) (acc : Vec Ideal S8x256 .f32) (s : Fin 8) (k : Fin 256) :
    k0_pay3 (k0_pay13 (iblk m c 2 t) (iblk m c 3 t)) (k0_pay14 (iblk m c 2 t) (iblk m c 3 t) (iblk m c 9 t)) (k0_pay15 (p2 (iblk m c 0 t)) (iblk m c 4 t)) acc (ix2 s k) = acc (ix2 s k) + ∑ q : Fin 32, addH (m (c.tc.loc main_arg0)) (m (c.tc.loc main_arg2)) (m (c.tc.loc main_arg3)) (m (c.tc.loc main_arg4)) (tk (8 * (32 * t.val + q.val) + s.val)) k := by
  refine (wH_at _ _ _ _ _ (ib9 m c t) acc s k).trans ?_
  refine congrArg (acc (ix2 s k) + ·) (Finset.sum_congr rfl fun q _ => ?_)
  have hN := ltN t
  have e : row t ⟨8 * q.val + s.val, by omega⟩ = tk (8 * (32 * t.val + q.val) + s.val) := Fin.ext (by
    show 256 * t.val + (8 * q.val + s.val) = (8 * (32 * t.val + q.val) + s.val) % 4096; omega)
  rw [rd, ro, e]
  rfl

/-- After a point, the weight's gradient holds the rows of the points up to it. -/
theorem outs_wH (n : ℕ) (hn : n < cfg0.N) (s : Fin 8) (k : Fin 256) :
    (outsAt0 m c n hn).2.2.2.2.2.1 (ix2 s k) = ∑ t ∈ Finset.range (n + 1), ∑ q : Fin 32, addH (m (c.tc.loc main_arg0)) (m (c.tc.loc main_arg2)) (m (c.tc.loc main_arg3)) (m (c.tc.loc main_arg4)) (tk (8 * (32 * t + q.val) + s.val)) k := by
  have zero : ∀ i, (k0_pay5 : FVec Ideal S8x256 .f32) i = 0 := fun i => Ideal.ofBits_zero_f32
  induction n with
  | zero =>
    rw [outsAt0_A m c ⟨0, hn⟩ rfl]
    dsimp only
    rw [out_A_15, pt_wH m c, zero, zero_add, Finset.sum_range_one]
  | succ n ih =>
    have hN : n + 1 < 16 := Nat.lt_of_lt_of_eq hn N_0
    rw [outsAt0_B m c ⟨n + 1, hn⟩ (by show ¬(n + 1) % 16 = 0; omega)]
    dsimp only
    rw [out_B_15, pt_wH m c]
    simp only [Nat.add_sub_cancel]
    rw [ih (Nat.lt_of_succ_lt hn), Finset.sum_range_succ _ (n + 1)]

/-- What the last point writes back is the weight's gradient. -/
theorem flushed_wH (t : Fin cfg0.N) (hf : (cfg0.win 15).flush t = true) :
    (dats m 0 c).flushed 15 t = ((cfg0.win 15).blk t).view.read (Elt Ideal) (totW (addH (m (c.tc.loc main_arg0)) (m (c.tc.loc main_arg2)) (m (c.tc.loc main_arg3)) (m (c.tc.loc main_arg4)))) := by
  have h7 := (flush0_15 t).mp hf
  have hN := ltN t
  rw [flushed15]
  funext j
  rw [View.read_apply]
  have h0 : (j 0).val < 8 := (j 0).isLt
  have h1 : (j 1).val < 256 := (j 1).isLt
  have ej : (cfg0.win 15).cut (grid0.coords t) (outsAt0 m c t.val t.isLt).2.2.2.2.2.1 j
      = (outsAt0 m c t.val t.isLt).2.2.2.2.2.1 (ix2 ⟨(j 0).val, h0⟩ ⟨(j 1).val, h1⟩) :=
    congrArg _ (funext fun a => Fin.ext (by match a with | ⟨0, _⟩ => rfl | ⟨1, _⟩ => rfl))
  have ee : (((cfg0.win 15).blk t).view.emb j) = ix2 ⟨(j 0).val, h0⟩ ⟨(j 1).val, h1⟩ := by
    funext a; apply Fin.ext
    match a with
    | ⟨0, _⟩ => show win0_15.index t 0 * 8 + 1 * (j 0).val = (j 0).val; rw [(idx15 t).1]; omega
    | ⟨1, _⟩ => show win0_15.index t 1 * 256 + 1 * (j 1).val = (j 1).val; rw [(idx15 t).2]; omega
  refine ej.trans ((outs_wH m c t.val t.isLt _ _).trans ((congrArg (totW (addH (m (c.tc.loc main_arg0)) (m (c.tc.loc main_arg2)) (m (c.tc.loc main_arg3)) (m (c.tc.loc main_arg4)))) ee).trans ?_).symm)
  have hsum : totW (addH (m (c.tc.loc main_arg0)) (m (c.tc.loc main_arg2)) (m (c.tc.loc main_arg3)) (m (c.tc.loc main_arg4))) (ix2 ⟨(j 0).val, h0⟩ ⟨(j 1).val, h1⟩) = ∑ q : Fin 512, addH (m (c.tc.loc main_arg0)) (m (c.tc.loc main_arg2)) (m (c.tc.loc main_arg3)) (m (c.tc.loc main_arg4)) (tk (8 * q.val + (j 0).val)) ⟨(j 1).val, h1⟩ :=
    Finset.sum_congr rfl fun q _ => by
      have e : tp q ⟨(j 0).val, h0⟩ = tk (8 * q.val + (j 0).val) := Fin.ext (by
        show 8 * q.val + (j 0).val = (8 * q.val + (j 0).val) % 4096; omega)
      show addH (m (c.tc.loc main_arg0)) (m (c.tc.loc main_arg2)) (m (c.tc.loc main_arg3)) (m (c.tc.loc main_arg4)) (tp q ⟨(j 0).val, h0⟩) _ = _
      rw [e]
      rfl
  rw [hsum, Cert.Attn.sum_blocks 16 32 512 rfl, show t.val + 1 = 16 by omega, Finset.sum_range]

/-- What the weight's gradient ends holding. -/
theorem final_wH : (dats m 0 c).arrAt 15 cfg0.N = totW (addH (m (c.tc.loc main_arg0)) (m (c.tc.loc main_arg2)) (m (c.tc.loc main_arg3)) (m (c.tc.loc main_arg4))) :=
  (dats m 0 c).arrAt_eq_of_cover 15 _ (flushed_wH m c) fun i => by
    have i0 : (i 0).val < 8 := (i 0).isLt
    have i1 : (i 1).val < 256 := (i 1).isLt
    let t : Fin cfg0.N := ⟨15, Nat.lt_of_lt_of_eq (by omega) N_0.symm⟩
    refine ⟨t, (flush0_15 t).mpr rfl, ?_⟩
    show i ∈ ((View.whole main_v11_5).slice (win0_15.rect t)).set
    rw [View.set_slice_whole, Rect.mem_set_unit]
    intro a
    match a with
    | ⟨0, _⟩ => show win0_15.index t 0 * 8 ≤ (i 0).val ∧ (i 0).val < win0_15.index t 0 * 8 + 8
                rw [(idx15 t).1]; omega
    | ⟨1, _⟩ => show win0_15.index t 1 * 256 ≤ (i 1).val ∧ (i 1).val < win0_15.index t 1 * 256 + 256
                rw [(idx15 t).2]; omega

theorem pt_wC (t : Fin cfg0.N) (acc : Vec Ideal S8x256 .f32) (s : Fin 8) (k : Fin 256) :
    k0_pay12 (iblk m c 5 t) (p3 (iblk m c 0 t)) acc (ix2 s k) = acc (ix2 s k) + ∑ q : Fin 32, addC (m (c.tc.loc main_arg0)) (m (c.tc.loc main_arg5)) (tk (8 * (32 * t.val + q.val) + s.val)) k := by
  refine (wC_at _ _ acc s k).trans ?_
  refine congrArg (acc (ix2 s k) + ·) (Finset.sum_congr rfl fun q _ => ?_)
  have hN := ltN t
  have e : row t ⟨8 * q.val + s.val, by omega⟩ = tk (8 * (32 * t.val + q.val) + s.val) := Fin.ext (by
    show 256 * t.val + (8 * q.val + s.val) = (8 * (32 * t.val + q.val) + s.val) % 4096; omega)
  rw [g3, r5, e]
  rfl

/-- After a point, the weight's gradient holds the rows of the points up to it. -/
theorem outs_wC (n : ℕ) (hn : n < cfg0.N) (s : Fin 8) (k : Fin 256) :
    (outsAt0 m c n hn).2.2.2.2.2.2 (ix2 s k) = ∑ t ∈ Finset.range (n + 1), ∑ q : Fin 32, addC (m (c.tc.loc main_arg0)) (m (c.tc.loc main_arg5)) (tk (8 * (32 * t + q.val) + s.val)) k := by
  have zero : ∀ i, (k0_pay6 : FVec Ideal S8x256 .f32) i = 0 := fun i => Ideal.ofBits_zero_f32
  induction n with
  | zero =>
    rw [outsAt0_A m c ⟨0, hn⟩ rfl]
    dsimp only
    rw [out_A_16, pt_wC m c, zero, zero_add, Finset.sum_range_one]
  | succ n ih =>
    have hN : n + 1 < 16 := Nat.lt_of_lt_of_eq hn N_0
    rw [outsAt0_B m c ⟨n + 1, hn⟩ (by show ¬(n + 1) % 16 = 0; omega)]
    dsimp only
    rw [out_B_16, pt_wC m c]
    simp only [Nat.add_sub_cancel]
    rw [ih (Nat.lt_of_succ_lt hn), Finset.sum_range_succ _ (n + 1)]

/-- What the last point writes back is the weight's gradient. -/
theorem flushed_wC (t : Fin cfg0.N) (hf : (cfg0.win 16).flush t = true) :
    (dats m 0 c).flushed 16 t = ((cfg0.win 16).blk t).view.read (Elt Ideal) (totW (addC (m (c.tc.loc main_arg0)) (m (c.tc.loc main_arg5)))) := by
  have h7 := (flush0_16 t).mp hf
  have hN := ltN t
  rw [flushed16]
  funext j
  rw [View.read_apply]
  have h0 : (j 0).val < 8 := (j 0).isLt
  have h1 : (j 1).val < 256 := (j 1).isLt
  have ej : (cfg0.win 16).cut (grid0.coords t) (outsAt0 m c t.val t.isLt).2.2.2.2.2.2 j
      = (outsAt0 m c t.val t.isLt).2.2.2.2.2.2 (ix2 ⟨(j 0).val, h0⟩ ⟨(j 1).val, h1⟩) :=
    congrArg _ (funext fun a => Fin.ext (by match a with | ⟨0, _⟩ => rfl | ⟨1, _⟩ => rfl))
  have ee : (((cfg0.win 16).blk t).view.emb j) = ix2 ⟨(j 0).val, h0⟩ ⟨(j 1).val, h1⟩ := by
    funext a; apply Fin.ext
    match a with
    | ⟨0, _⟩ => show win0_16.index t 0 * 8 + 1 * (j 0).val = (j 0).val; rw [(idx16 t).1]; omega
    | ⟨1, _⟩ => show win0_16.index t 1 * 256 + 1 * (j 1).val = (j 1).val; rw [(idx16 t).2]; omega
  refine ej.trans ((outs_wC m c t.val t.isLt _ _).trans ((congrArg (totW (addC (m (c.tc.loc main_arg0)) (m (c.tc.loc main_arg5)))) ee).trans ?_).symm)
  have hsum : totW (addC (m (c.tc.loc main_arg0)) (m (c.tc.loc main_arg5))) (ix2 ⟨(j 0).val, h0⟩ ⟨(j 1).val, h1⟩) = ∑ q : Fin 512, addC (m (c.tc.loc main_arg0)) (m (c.tc.loc main_arg5)) (tk (8 * q.val + (j 0).val)) ⟨(j 1).val, h1⟩ :=
    Finset.sum_congr rfl fun q _ => by
      have e : tp q ⟨(j 0).val, h0⟩ = tk (8 * q.val + (j 0).val) := Fin.ext (by
        show 8 * q.val + (j 0).val = (8 * q.val + (j 0).val) % 4096; omega)
      show addC (m (c.tc.loc main_arg0)) (m (c.tc.loc main_arg5)) (tp q ⟨(j 0).val, h0⟩) _ = _
      rw [e]
      rfl
  rw [hsum, Cert.Attn.sum_blocks 16 32 512 rfl, show t.val + 1 = 16 by omega, Finset.sum_range]

/-- What the weight's gradient ends holding. -/
theorem final_wC : (dats m 0 c).arrAt 16 cfg0.N = totW (addC (m (c.tc.loc main_arg0)) (m (c.tc.loc main_arg5))) :=
  (dats m 0 c).arrAt_eq_of_cover 16 _ (flushed_wC m c) fun i => by
    have i0 : (i 0).val < 8 := (i 0).isLt
    have i1 : (i 1).val < 256 := (i 1).isLt
    let t : Fin cfg0.N := ⟨15, Nat.lt_of_lt_of_eq (by omega) N_0.symm⟩
    refine ⟨t, (flush0_16 t).mpr rfl, ?_⟩
    show i ∈ ((View.whole main_v11_6).slice (win0_16.rect t)).set
    rw [View.set_slice_whole, Rect.mem_set_unit]
    intro a
    match a with
    | ⟨0, _⟩ => show win0_16.index t 0 * 8 ≤ (i 0).val ∧ (i 0).val < win0_16.index t 0 * 8 + 8
                rw [(idx16 t).1]; omega
    | ⟨1, _⟩ => show win0_16.index t 1 * 256 ≤ (i 1).val ∧ (i 1).val < win0_16.index t 1 * 256 + 256
                rw [(idx16 t).2]; omega
end

end Cert.Mix

end
-- ==== Proof.MixRef.lean ====
/- What the reference of the mixed norms' gradients computes, entry by entry: differentiation through the three norms and
   the gate, on rows of eight and on heads of sixty-four. -/
module

public import proofs.«01_k».proof.Proof.MixMath
public import proofs.«01_k».proof.Proof.Gen.Reference15Ideal.Run
public import proofs.«01_k».proof.Proof.Gen.Reference15Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Mix

open Idealize.ShloMosaic Idealize.ShloMosaic.TcCoe Idealize.ShloMosaic.Tactic
open Idealize.SL.Sem

section
open Cert.Reference15Ideal Cert.Reference15Ideal.Gen Cert.Reference15Ideal.Read

/-- The row of a tile and a place in it. -/
theorem tp_div (r : Fin 4096) (p : Fin 512) (s : Fin 8) (hp : p.val = r.val / 8) (hs : s.val = r.val % 8) : tp p s = r :=
  Fin.ext (by show 8 * p.val + s.val = r.val; omega)

/-- The sum of a last axis of length one. -/
theorem sumLast_at (s : FVec Ideal S512x8x1 .f32) (p : Fin 512) (z : Fin 8) :
    Host.reduceAdd s (constant S_ .f32 0x00000000#32) reducesTo_S512x8x1_S512x8_d2 h_S_ (ix2 p z) = s (ix3 p z 0) := by
  pointwise []
  exact Fintype.sum_unique _
/-- The same over heads. -/
theorem sumLastH_at (s : FVec Ideal S512x8x4x1 .f32) (p : Fin 512) (z : Fin 8) (h : Fin 4) :
    Host.reduceAdd s (constant S_ .f32 0x00000000#32) reducesTo_S512x8x4x1_S512x8x4_d3 h_S_ (ix3 p z h) = s (ix4 p z h 0) := by
  pointwise []
  exact Fintype.sum_unique _
/-- The sum of the last axis, of the first, and of a first of length one, over heads. -/
theorem sum3_at (s : FVec Ideal S512x8x4x64 .f32) (p : Fin 512) (z : Fin 8) (h : Fin 4) :
    Host.reduceAdd s (constant S_ .f32 0x00000000#32) reducesTo_S512x8x4x64_S512x8x4_d3 h_S_ (ix3 p z h) = ∑ k : Fin 64, s (ix4 p z h k) := by
  pointwise []
/-- The sum over the tiles, over heads. -/
theorem sum0H_at (s : FVec Ideal S512x8x4x64 .f32) (z : Fin 8) (h : Fin 4) (k : Fin 64) :
    Host.reduceAdd s (constant S_ .f32 0x00000000#32) reducesTo_S512x8x4x64_S8x4x64_d0 h_S_ (ix3 z h k) = ∑ p : Fin 512, s (ix4 p z h k) := by
  pointwise []
/-- The sum of a first axis of length one, over heads. -/
theorem sumOneH_at (s : FVec Ideal S1x8x4x64 .f32) (z : Fin 8) (h : Fin 4) (k : Fin 64) :
    Host.reduceAdd s (constant S_ .f32 0x00000000#32) reducesTo_S1x8x4x64_S8x4x64_d0 h_S_ (ix3 z h k) = s (ix4 0 z h k) := by
  pointwise []
  exact Fintype.sum_unique _

/-- The sum of the last axis, of the first, and of a first of length one, over rows of 512. -/
theorem sum2_512 (s : FVec Ideal S512x8x512 .f32) (p : Fin 512) (z : Fin 8) :
    Host.reduceAdd s (constant S_ .f32 0x00000000#32) reducesTo_S512x8x512_S512x8_d2 h_S_ (ix2 p z) = ∑ k : Fin 512, s (ix3 p z k) := by
  pointwise []
/-- The sum over the tiles. -/
theorem sum0_512 (s : FVec Ideal S512x8x512 .f32) (z : Fin 8) (k : Fin 512) :
    Host.reduceAdd s (constant S_ .f32 0x00000000#32) reducesTo_S512x8x512_S8x512_d0 h_S_ (ix2 z k) = ∑ p : Fin 512, s (ix3 p z k) := by
  pointwise []
/-- The sum of a first axis of length one. -/
theorem sumOne_512 (s : FVec Ideal S1x8x512 .f32) (z : Fin 8) (k : Fin 512) :
    Host.reduceAdd s (constant S_ .f32 0x00000000#32) reducesTo_S1x8x512_S8x512_d0 h_S_ (ix2 z k) = s (ix3 0 z k) := by
  pointwise []
  exact Fintype.sum_unique _

/-- The sum of the last axis, of the first, and of a first of length one, over rows of 256. -/
theorem sum2_256 (s : FVec Ideal S512x8x256 .f32) (p : Fin 512) (z : Fin 8) :
    Host.reduceAdd s (constant S_ .f32 0x00000000#32) reducesTo_S512x8x256_S512x8_d2 h_S_ (ix2 p z) = ∑ k : Fin 256, s (ix3 p z k) := by
  pointwise []
/-- The sum over the tiles. -/
theorem sum0_256 (s : FVec Ideal S512x8x256 .f32) (z : Fin 8) (k : Fin 256) :
    Host.reduceAdd s (constant S_ .f32 0x00000000#32) reducesTo_S512x8x256_S8x256_d0 h_S_ (ix2 z k) = ∑ p : Fin 512, s (ix3 p z k) := by
  pointwise []
/-- The sum of a first axis of length one. -/
theorem sumOne_256 (s : FVec Ideal S1x8x256 .f32) (z : Fin 8) (k : Fin 256) :
    Host.reduceAdd s (constant S_ .f32 0x00000000#32) reducesTo_S1x8x256_S8x256_d0 h_S_ (ix2 z k) = s (ix3 0 z k) := by
  pointwise []
  exact Fintype.sum_unique _

variable (x0 : FVec Ideal S4096x1024 .f32) (x1 : FVec Ideal S4096x512 .f32) (x2 x3 : FVec Ideal S4096x256 .f32) (x4 : FVec Ideal S4096x2560 .f32) (x5 : FVec Ideal S4096x256 .f32) (x6 : FVec Ideal S1x512 .f32) (x7 x8 : FVec Ideal S1x256 .f32)

/-- The rows, by tile. -/
theorem v26_at (p : Fin 512) (s : Fin 8) (k : Fin 512) : val_main_v26 (F := Ideal) x1 (ix3 p s k) = rw' x1 (tp p s) k := by
  unfold val_main_v26
  pointwise []
  refine congrArg x1 ?_
  funext a; apply Fin.ext
  match a with
  | ⟨0, _⟩ => show p.val * 8 + s.val = 8 * p.val + s.val; omega
  | ⟨1, _⟩ => rfl

/-- The mean square with the small constant. -/
theorem v33_at (p : Fin 512) (s : Fin 8) (z : Fin 1) : val_main_v33 (F := Ideal) x1 (ix3 p s z) = ms W512 (rw' x1 (tp p s)) := by
  have e : ∀ p s, val_main_v28 (F := Ideal) x1 (ix2 p s) = ∑ k, rw' x1 (tp p s) k * rw' x1 (tp p s) k := fun p s => by
    refine (sum2_512 (val_main_v27 (F := Ideal) x1) p s).trans ?_
    simp only [val_main_v27_apply, v26_at]
    rfl
  unfold val_main_v33 val_main_v32 val_main_v31 val_main_v30 val_main_v29 val_main_cst_4 val_main_cst_5
  pointwise []
  simp only [e]
  rfl

/-- Its reciprocal root. -/
theorem v34_at (p : Fin 512) (s : Fin 8) (z : Fin 1) : val_main_v34 (F := Ideal) x1 (ix3 p s z) = rs W512 (rw' x1 (tp p s)) := by
  unfold val_main_v34
  pointwise []
  rw [v33_at]
  rfl

/-- The derivative of the reciprocal root. -/
theorem v37_at (p : Fin 512) (s : Fin 8) (z : Fin 1) : val_main_v37 (F := Ideal) x1 (ix3 p s z)
    = Ideal.ofBits .f32 0xBF000000#32 * Ideal.div (rs W512 (rw' x1 (tp p s))) (ms W512 (rw' x1 (tp p s))) := by
  unfold val_main_v37 val_main_v36 val_main_v35 val_main_cst_6
  pointwise []
  rw [v33_at, v34_at]

/-- A normalised entry. -/
theorem v39_at (p : Fin 512) (s : Fin 8) (k : Fin 512) : val_main_v39 (F := Ideal) x1 (ix3 p s k) = rw' x1 (tp p s) k * rs W512 (rw' x1 (tp p s)) := by
  unfold val_main_v39 val_main_v38
  pointwise []
  rw [v26_at, v34_at]

/-- The weight, beside every row. -/
theorem v94_at (p : Fin 512) (s : Fin 8) (k : Fin 512) : val_main_v94 (F := Ideal) x6 (ix3 p s k) = wt x6 k := by
  unfold val_main_v94 val_main_v40 val_main_v2
  pointwise []
  rfl

/-- The gradient that reaches the norm. -/
theorem v90_at (p : Fin 512) (s : Fin 8) (k : Fin 512) : val_main_v90 (F := Ideal) x0 (ix3 p s k) = ga x0 (tp p s) k := by
  unfold val_main_v90 val_main_v64
  pointwise []
  refine congrArg x0 ?_
  funext a; apply Fin.ext
  match a with
  | ⟨0, _⟩ => show p.val * 8 + s.val = 8 * p.val + s.val; omega
  | ⟨1, _⟩ => rfl

/-- The weight's gradient. -/
theorem v96_at (s : Fin 8) (k : Fin 512) : val_main_v96 (F := Ideal) x0 x1 (ix2 s k) = totW (addA x0 x1) (ix2 s k) := by
  refine (sumOne_512 (val_main_v93 (F := Ideal) x0 x1) s k).trans ?_
  unfold val_main_v93
  pointwise []
  refine (sum0_512 (val_main_v91 (F := Ideal) x0 x1) s k).trans (Finset.sum_congr rfl fun p _ => ?_)
  rw [val_main_v91_apply, v39_at, v90_at]
  show rw' x1 (tp p s) k * rs W512 (rw' x1 (tp p s)) * ga x0 (tp p s) k = ga x0 (tp p s) k * rw' x1 (tp p s) k * rs W512 (rw' x1 (tp p s))
  rw [mul_comm, mul_assoc]

/-- The same, times the weight. -/
theorem v95_at (p : Fin 512) (s : Fin 8) (k : Fin 512) : val_main_v95 (F := Ideal) x0 x6 (ix3 p s k) = ga x0 (tp p s) k * wt x6 k := by
  unfold val_main_v95
  pointwise []
  rw [v90_at, v94_at]

/-- The sum of the entries against it. -/
theorem v98_at (p : Fin 512) (s : Fin 8) : val_main_v98 (F := Ideal) x0 x1 x6 (ix2 p s) = ∑ k, rw' x1 (tp p s) k * (ga x0 (tp p s) k * wt x6 k) := by
  refine (sum2_512 (val_main_v97 (F := Ideal) x0 x1 x6) p s).trans ?_
  simp only [val_main_v97_apply, v26_at, v95_at]
  rfl

/-- The factor of the entries in the gradient. -/
theorem v104_at (p : Fin 512) (s : Fin 8) (z : Fin 1) : val_main_v104 (F := Ideal) x0 x1 x6 (ix3 p s z) = ct W512 (rw' x1 (tp p s)) (wt x6) (ga x0 (tp p s)) := by
  unfold val_main_v104 val_main_v103 val_main_v102 val_main_v99 val_main_cst_19
  pointwise []
  rw [v98_at, v37_at]
  rfl

/-- The same, beside every entry. -/
theorem v106_at (p : Fin 512) (s : Fin 8) (k : Fin 512) : val_main_v106 (F := Ideal) x0 x1 x6 (ix3 p s k) = ct W512 (rw' x1 (tp p s)) (wt x6) (ga x0 (tp p s)) := by
  unfold val_main_v106
  pointwise []
  exact (sumLast_at (val_main_v104 (F := Ideal) x0 x1 x6) p s).trans (v104_at x0 x1 x6 p s 0)

/-- The gradient, entry by entry. -/
theorem v110_at (p : Fin 512) (s : Fin 8) (k : Fin 512) : val_main_v110 (F := Ideal) x0 x1 x6 (ix3 p s k)
    = ga x0 (tp p s) k * wt x6 k * rs W512 (rw' x1 (tp p s)) + rw' x1 (tp p s) k * ct W512 (rw' x1 (tp p s)) (wt x6) (ga x0 (tp p s)) + ct W512 (rw' x1 (tp p s)) (wt x6) (ga x0 (tp p s)) * rw' x1 (tp p s) k := by
  unfold val_main_v110 val_main_v109 val_main_v108 val_main_v107 val_main_v101 val_main_v100
  pointwise []
  rw [v26_at, v34_at, v95_at, v106_at]

/-- The reference's gradient of the rows. -/
theorem ref_A : val_main_v111 (F := Ideal) x0 x1 x6 = totA x0 x1 x6 := funext fun i => by
  obtain ⟨r, k, rfl⟩ : ∃ (r : Fin 4096) (k : Fin 512), i = ix2 r k :=
    ⟨i 0, i 1, funext fun a => by match a with | ⟨0, _⟩ => rfl | ⟨1, _⟩ => rfl⟩
  unfold val_main_v111
  pointwise []
  refine (v110_at x0 x1 x6 _ _ _).trans ?_
  rw [tp_div r _ _ rfl rfl]
  exact (kdx_eq w512 (by norm_num) (rw' x1 r) (wt x6) (ga x0 r) k).symm

/-- The reference's gradient of the weight. -/
theorem ref_wA : val_main_v96 (F := Ideal) x0 x1 = totW (addA x0 x1) := funext fun i => by
  obtain ⟨r, k, rfl⟩ : ∃ (r : Fin 8) (k : Fin 512), i = ix2 r k :=
    ⟨i 0, i 1, funext fun a => by match a with | ⟨0, _⟩ => rfl | ⟨1, _⟩ => rfl⟩
  exact v96_at x0 x1 r k

/-- The rows, by tile. -/
theorem v45_at (p : Fin 512) (s : Fin 8) (k : Fin 256) : val_main_v45 (F := Ideal) x5 (ix3 p s k) = rw' x5 (tp p s) k := by
  unfold val_main_v45
  pointwise []
  refine congrArg x5 ?_
  funext a; apply Fin.ext
  match a with
  | ⟨0, _⟩ => show p.val * 8 + s.val = 8 * p.val + s.val; omega
  | ⟨1, _⟩ => rfl

/-- The mean square with the small constant. -/
theorem v52_at (p : Fin 512) (s : Fin 8) (z : Fin 1) : val_main_v52 (F := Ideal) x5 (ix3 p s z) = ms W256 (rw' x5 (tp p s)) := by
  have e : ∀ p s, val_main_v47 (F := Ideal) x5 (ix2 p s) = ∑ k, rw' x5 (tp p s) k * rw' x5 (tp p s) k := fun p s => by
    refine (sum2_256 (val_main_v46 (F := Ideal) x5) p s).trans ?_
    simp only [val_main_v46_apply, v45_at]
    rfl
  unfold val_main_v52 val_main_v51 val_main_v50 val_main_v49 val_main_v48 val_main_cst_8 val_main_cst_9
  pointwise []
  simp only [e]
  rfl

/-- Its reciprocal root. -/
theorem v53_at (p : Fin 512) (s : Fin 8) (z : Fin 1) : val_main_v53 (F := Ideal) x5 (ix3 p s z) = rs W256 (rw' x5 (tp p s)) := by
  unfold val_main_v53
  pointwise []
  rw [v52_at]
  rfl

/-- The derivative of the reciprocal root. -/
theorem v56_at (p : Fin 512) (s : Fin 8) (z : Fin 1) : val_main_v56 (F := Ideal) x5 (ix3 p s z)
    = Ideal.ofBits .f32 0xBF000000#32 * Ideal.div (rs W256 (rw' x5 (tp p s))) (ms W256 (rw' x5 (tp p s))) := by
  unfold val_main_v56 val_main_v55 val_main_v54 val_main_cst_10
  pointwise []
  rw [v52_at, v53_at]

/-- A normalised entry. -/
theorem v58_at (p : Fin 512) (s : Fin 8) (k : Fin 256) : val_main_v58 (F := Ideal) x5 (ix3 p s k) = rw' x5 (tp p s) k * rs W256 (rw' x5 (tp p s)) := by
  unfold val_main_v58 val_main_v57
  pointwise []
  rw [v45_at, v53_at]

/-- The weight, beside every row. -/
theorem v71_at (p : Fin 512) (s : Fin 8) (k : Fin 256) : val_main_v71 (F := Ideal) x8 (ix3 p s k) = wt x8 k := by
  unfold val_main_v71 val_main_v59 val_main_v4
  pointwise []
  rfl

/-- The gradient that reaches the norm. -/
theorem v67_at (p : Fin 512) (s : Fin 8) (k : Fin 256) : val_main_v67 (F := Ideal) x0 (ix3 p s k) = gc x0 (tp p s) k := by
  unfold val_main_v67 val_main_v66
  pointwise []
  refine congrArg x0 ?_
  funext a; apply Fin.ext
  match a with
  | ⟨0, _⟩ => show p.val * 8 + s.val = 8 * p.val + s.val; omega
  | ⟨1, _⟩ => rfl

/-- The weight's gradient. -/
theorem v73_at (s : Fin 8) (k : Fin 256) : val_main_v73 (F := Ideal) x0 x5 (ix2 s k) = totW (addC x0 x5) (ix2 s k) := by
  refine (sumOne_256 (val_main_v70 (F := Ideal) x0 x5) s k).trans ?_
  unfold val_main_v70
  pointwise []
  refine (sum0_256 (val_main_v68 (F := Ideal) x0 x5) s k).trans (Finset.sum_congr rfl fun p _ => ?_)
  rw [val_main_v68_apply, v58_at, v67_at]
  show rw' x5 (tp p s) k * rs W256 (rw' x5 (tp p s)) * gc x0 (tp p s) k = gc x0 (tp p s) k * rw' x5 (tp p s) k * rs W256 (rw' x5 (tp p s))
  rw [mul_comm, mul_assoc]

/-- The same, times the weight. -/
theorem v72_at (p : Fin 512) (s : Fin 8) (k : Fin 256) : val_main_v72 (F := Ideal) x0 x8 (ix3 p s k) = gc x0 (tp p s) k * wt x8 k := by
  unfold val_main_v72
  pointwise []
  rw [v67_at, v71_at]

/-- The sum of the entries against it. -/
theorem v75_at (p : Fin 512) (s : Fin 8) : val_main_v75 (F := Ideal) x0 x5 x8 (ix2 p s) = ∑ k, rw' x5 (tp p s) k * (gc x0 (tp p s) k * wt x8 k) := by
  refine (sum2_256 (val_main_v74 (F := Ideal) x0 x5 x8) p s).trans ?_
  simp only [val_main_v74_apply, v45_at, v72_at]
  rfl

/-- The factor of the entries in the gradient. -/
theorem v81_at (p : Fin 512) (s : Fin 8) (z : Fin 1) : val_main_v81 (F := Ideal) x0 x5 x8 (ix3 p s z) = ct W256 (rw' x5 (tp p s)) (wt x8) (gc x0 (tp p s)) := by
  unfold val_main_v81 val_main_v80 val_main_v79 val_main_v76 val_main_cst_14
  pointwise []
  rw [v75_at, v56_at]
  rfl

/-- The same, beside every entry. -/
theorem v83_at (p : Fin 512) (s : Fin 8) (k : Fin 256) : val_main_v83 (F := Ideal) x0 x5 x8 (ix3 p s k) = ct W256 (rw' x5 (tp p s)) (wt x8) (gc x0 (tp p s)) := by
  unfold val_main_v83
  pointwise []
  exact (sumLast_at (val_main_v81 (F := Ideal) x0 x5 x8) p s).trans (v81_at x0 x5 x8 p s 0)

/-- The gradient, entry by entry. -/
theorem v87_at (p : Fin 512) (s : Fin 8) (k : Fin 256) : val_main_v87 (F := Ideal) x0 x5 x8 (ix3 p s k)
    = gc x0 (tp p s) k * wt x8 k * rs W256 (rw' x5 (tp p s)) + rw' x5 (tp p s) k * ct W256 (rw' x5 (tp p s)) (wt x8) (gc x0 (tp p s)) + ct W256 (rw' x5 (tp p s)) (wt x8) (gc x0 (tp p s)) * rw' x5 (tp p s) k := by
  unfold val_main_v87 val_main_v86 val_main_v85 val_main_v84 val_main_v78 val_main_v77
  pointwise []
  rw [v45_at, v53_at, v72_at, v83_at]

/-- The reference's gradient of the rows. -/
theorem ref_C : val_main_v88 (F := Ideal) x0 x5 x8 = totC x0 x5 x8 := funext fun i => by
  obtain ⟨r, k, rfl⟩ : ∃ (r : Fin 4096) (k : Fin 256), i = ix2 r k :=
    ⟨i 0, i 1, funext fun a => by match a with | ⟨0, _⟩ => rfl | ⟨1, _⟩ => rfl⟩
  unfold val_main_v88
  pointwise []
  refine (v87_at x0 x5 x8 _ _ _).trans ?_
  rw [tp_div r _ _ rfl rfl]
  exact (kdx_eq w256 (by norm_num) (rw' x5 r) (wt x8) (gc x0 r) k).symm

/-- The reference's gradient of the weight. -/
theorem ref_wC : val_main_v73 (F := Ideal) x0 x5 = totW (addC x0 x5) := funext fun i => by
  obtain ⟨r, k, rfl⟩ : ∃ (r : Fin 8) (k : Fin 256), i = ix2 r k :=
    ⟨i 0, i 1, funext fun a => by match a with | ⟨0, _⟩ => rfl | ⟨1, _⟩ => rfl⟩
  exact v73_at x0 x5 r k

/-- The heads, by head. -/
theorem v5_at (p : Fin 512) (s : Fin 8) (h : Fin 4) (k : Fin 64) : val_main_v5 (F := Ideal) x2 x3 (ix4 p s h k) = (o2 x2 x3 (tp p s)) (hc h k) := by
  unfold val_main_v5
  pointwise []
  refine (congrArg (val_main_v1 (F := Ideal) x2 x3) (?_ : _ = ix2 (tp p s) (hc h k))).trans ?_
  · funext a; apply Fin.ext
    have hp := p.isLt
    have hs := s.isLt
    have hh := h.isLt
    have hk := k.isLt
    match a with
    | ⟨0, _⟩ => show p.val * 8 + s.val = 8 * p.val + s.val; omega
    | ⟨1, _⟩ => show h.val * 64 + k.val = 64 * h.val + k.val; omega
  · unfold val_main_v1
    pointwise []
    rfl

/-- The gates, by head. -/
theorem v23_at (p : Fin 512) (s : Fin 8) (h : Fin 4) (k : Fin 64) : val_main_v23 (F := Ideal) x4 (ix4 p s h k) = hg x4 (tp p s) (hc h k) := by
  unfold val_main_v23
  pointwise []
  refine (congrArg (val_main_v0 (F := Ideal) x4) (?_ : _ = ix2 (tp p s) (hc h k))).trans ?_
  · funext a; apply Fin.ext
    have hp := p.isLt
    have hs := s.isLt
    have hh := h.isLt
    have hk := k.isLt
    match a with
    | ⟨0, _⟩ => show p.val * 8 + s.val = 8 * p.val + s.val; omega
    | ⟨1, _⟩ => show h.val * 64 + k.val = 64 * h.val + k.val; omega
  · unfold val_main_v0
    pointwise []
    rfl

/-- The gradient that reaches the heads, by head. -/
theorem v89_at (p : Fin 512) (s : Fin 8) (h : Fin 4) (k : Fin 64) : val_main_v89 (F := Ideal) x0 (ix4 p s h k) = gh x0 (tp p s) (hc h k) := by
  unfold val_main_v89
  pointwise []
  refine (congrArg (val_main_v65 (F := Ideal) x0) (?_ : _ = ix2 (tp p s) (hc h k))).trans ?_
  · funext a; apply Fin.ext
    have hp := p.isLt
    have hs := s.isLt
    have hh := h.isLt
    have hk := k.isLt
    match a with
    | ⟨0, _⟩ => show p.val * 8 + s.val = 8 * p.val + s.val; omega
    | ⟨1, _⟩ => show h.val * 64 + k.val = 64 * h.val + k.val; omega
  · unfold val_main_v65
    pointwise []
    rfl

/-- The weight, beside every row. Over heads. -/
theorem v20_at (z : Fin 1) (s : Fin 8) (h : Fin 4) (k : Fin 64) : val_main_v20 (F := Ideal) x7 (ix4 z s h k) = wt x7 (hc h k) := by
  unfold val_main_v20 val_main_v6
  pointwise []
  refine (congrArg (val_main_v3 (F := Ideal) x7) (?_ : _ = ix2 s (hc h k))).trans ?_
  · funext a; apply Fin.ext
    have hs := s.isLt
    have hh := h.isLt
    have hk := k.isLt
    match a with
    | ⟨0, _⟩ => rfl
    | ⟨1, _⟩ => show h.val * 64 + k.val = 64 * h.val + k.val; omega
  · unfold val_main_v3
    pointwise []
    rfl

/-- The weight, beside every row. Over heads. -/
theorem v21_at (p : Fin 512) (s : Fin 8) (h : Fin 4) (k : Fin 64) : val_main_v21 (F := Ideal) x7 (ix4 p s h k) = wt x7 (hc h k) := by
  unfold val_main_v21
  pointwise []
  exact v20_at x7 _ _ _ _

/-- The weight, beside every row. Over heads. -/
theorem v119_at (p : Fin 512) (s : Fin 8) (h : Fin 4) (k : Fin 64) : val_main_v119 (F := Ideal) x7 (ix4 p s h k) = wt x7 (hc h k) := by
  unfold val_main_v119
  pointwise []
  exact v20_at x7 _ _ _ _

/-- The mean square with the small constant. Over heads. -/
theorem v13_at (p : Fin 512) (s : Fin 8) (h : Fin 4) (z : Fin 1) : val_main_v13 (F := Ideal) x2 x3 (ix4 p s h z) = ms W64 (fun d => o2 x2 x3 (tp p s) (hc h d)) := by
  have e : ∀ p s h, val_main_v8 (F := Ideal) x2 x3 (ix3 p s h) = ∑ d, (fun d => o2 x2 x3 (tp p s) (hc h d)) d * (fun d => o2 x2 x3 (tp p s) (hc h d)) d := fun p s h => by
    refine (sum3_at (val_main_v7 (F := Ideal) x2 x3) p s h).trans ?_
    simp only [val_main_v7_apply, v5_at]
    rfl
  unfold val_main_v13 val_main_v12 val_main_v11 val_main_v10 val_main_v9 val_main_cst_0 val_main_cst_1
  pointwise []
  simp only [e]
  rfl

/-- Its reciprocal root. Over heads. -/
theorem v14_at (p : Fin 512) (s : Fin 8) (h : Fin 4) (z : Fin 1) : val_main_v14 (F := Ideal) x2 x3 (ix4 p s h z) = rs W64 (fun d => o2 x2 x3 (tp p s) (hc h d)) := by
  unfold val_main_v14
  pointwise []
  rw [v13_at]
  rfl

/-- The derivative of the reciprocal root. Over heads. -/
theorem v17_at (p : Fin 512) (s : Fin 8) (h : Fin 4) (z : Fin 1) : val_main_v17 (F := Ideal) x2 x3 (ix4 p s h z) = Ideal.ofBits .f32 0xBF000000#32 * Ideal.div (rs W64 (fun d => o2 x2 x3 (tp p s) (hc h d))) (ms W64 (fun d => o2 x2 x3 (tp p s) (hc h d))) := by
  unfold val_main_v17 val_main_v16 val_main_v15 val_main_cst_2
  pointwise []
  rw [v13_at, v14_at]

/-- A normalised entry. Over heads. -/
theorem v19_at (p : Fin 512) (s : Fin 8) (h : Fin 4) (k : Fin 64) : val_main_v19 (F := Ideal) x2 x3 (ix4 p s h k) = (o2 x2 x3 (tp p s)) (hc h k) * rs W64 (fun d => o2 x2 x3 (tp p s) (hc h d)) := by
  unfold val_main_v19 val_main_v18
  pointwise []
  rw [v5_at, v14_at]

/-- A normalised entry times its weight. -/
theorem v22_at (p : Fin 512) (s : Fin 8) (h : Fin 4) (k : Fin 64) : val_main_v22 (F := Ideal) x2 x3 x7 (ix4 p s h k) = (o2 x2 x3 (tp p s)) (hc h k) * rs W64 (fun d => o2 x2 x3 (tp p s) (hc h d)) * wt x7 (hc h k) := by
  unfold val_main_v22
  pointwise []
  rw [v19_at, v21_at]

/-- The activation's factor. -/
theorem v24_at (p : Fin 512) (s : Fin 8) (h : Fin 4) (k : Fin 64) : val_main_v24_2 (F := Ideal) x4 (ix4 p s h k) = Cert.Norm.lg (hg x4 (tp p s) (hc h k)) := by
  unfold val_main_v24_2 val_main_call0_v4 val_main_call0_v3 val_main_call0_v2 val_main_call0_v1 val_main_call0_v0 val_main_call0_cst val_main_call0_cst_0
  pointwise []
  rw [v23_at]
  unfold Cert.Norm.lg
  rw [Cert.Ffn.one_w]
  rfl

/-- The gradient that reaches the heads through the gate. -/
theorem v113_at (p : Fin 512) (s : Fin 8) (h : Fin 4) (k : Fin 64) : val_main_v113 (F := Ideal) x0 x4 (ix4 p s h k) = dn x0 x4 (tp p s) (hc h k) := by
  unfold val_main_v113 val_main_v24_0
  pointwise []
  rw [v89_at, v23_at, v24_at]
  rfl

/-- The gradient that reaches the gate. -/
theorem v112_at (p : Fin 512) (s : Fin 8) (h : Fin 4) (k : Fin 64) : val_main_v112 (F := Ideal) x0 x2 x3 x7 (ix4 p s h k) = (o2 x2 x3 (tp p s)) (hc h k) * rs W64 (fun d => o2 x2 x3 (tp p s) (hc h d)) * wt x7 (hc h k) * gh x0 (tp p s) (hc h k) := by
  unfold val_main_v112
  pointwise []
  rw [v22_at, v89_at]

/-- The gradient of the gates. -/
theorem v114_at (p : Fin 512) (s : Fin 8) (h : Fin 4) (k : Fin 64) : val_main_v114 (F := Ideal) x0 x2 x3 x4 x7 (ix4 p s h k)
    = (o2 x2 x3 (tp p s)) (hc h k) * rs W64 (fun d => o2 x2 x3 (tp p s) (hc h d)) * wt x7 (hc h k) * gh x0 (tp p s) (hc h k) * Cert.Norm.lg (hg x4 (tp p s) (hc h k))
      + hg x4 (tp p s) (hc h k) * ((o2 x2 x3 (tp p s)) (hc h k) * rs W64 (fun d => o2 x2 x3 (tp p s) (hc h d)) * wt x7 (hc h k) * gh x0 (tp p s) (hc h k))
        * (Cert.Norm.lg (hg x4 (tp p s) (hc h k)) * (Ideal.ofBits .f32 0x3F800000#32 - Cert.Norm.lg (hg x4 (tp p s) (hc h k)))) := by
  unfold val_main_v114 val_main_call1_v2 val_main_call1_v1 val_main_call1_v0 val_main_v24_1 val_main_call0_v7 val_main_call0_v6 val_main_call0_cst_1
  pointwise []
  rw [v112_at, v23_at, v24_at]

/-- The same, times the weight. Over heads. -/
theorem v120_at (p : Fin 512) (s : Fin 8) (h : Fin 4) (k : Fin 64) : val_main_v120 (F := Ideal) x0 x4 x7 (ix4 p s h k) = dn x0 x4 (tp p s) (hc h k) * wt x7 (hc h k) := by
  unfold val_main_v120
  pointwise []
  rw [v113_at, v119_at]

/-- The sum of the entries against it. Over heads. -/
theorem v123_at (p : Fin 512) (s : Fin 8) (h : Fin 4) : val_main_v123 (F := Ideal) x0 x2 x3 x4 x7 (ix3 p s h) = ∑ d, (fun d => o2 x2 x3 (tp p s) (hc h d)) d * ((fun d => dn x0 x4 (tp p s) (hc h d)) d * (fun d => wt x7 (hc h d)) d) := by
  refine (sum3_at (val_main_v122 (F := Ideal) x0 x2 x3 x4 x7) p s h).trans ?_
  simp only [val_main_v122_apply, v5_at, v120_at]
  rfl

/-- The factor of the entries in the gradient. Over heads. -/
theorem v129_at (p : Fin 512) (s : Fin 8) (h : Fin 4) (z : Fin 1) : val_main_v129 (F := Ideal) x0 x2 x3 x4 x7 (ix4 p s h z) = ct W64 (fun d => o2 x2 x3 (tp p s) (hc h d)) (fun d => wt x7 (hc h d)) (fun d => dn x0 x4 (tp p s) (hc h d)) := by
  unfold val_main_v129 val_main_v128 val_main_v127 val_main_v124 val_main_cst_24
  pointwise []
  rw [v123_at, v17_at]
  rfl

/-- The same, beside every entry. Over heads. -/
theorem v131_at (p : Fin 512) (s : Fin 8) (h : Fin 4) (k : Fin 64) : val_main_v131 (F := Ideal) x0 x2 x3 x4 x7 (ix4 p s h k) = ct W64 (fun d => o2 x2 x3 (tp p s) (hc h d)) (fun d => wt x7 (hc h d)) (fun d => dn x0 x4 (tp p s) (hc h d)) := by
  unfold val_main_v131
  pointwise []
  exact (sumLastH_at (val_main_v129 (F := Ideal) x0 x2 x3 x4 x7) p s h).trans (v129_at x0 x2 x3 x4 x7 p s h 0)

/-- The gradient, entry by entry. Over heads. -/
theorem v135_at (p : Fin 512) (s : Fin 8) (h : Fin 4) (k : Fin 64) : val_main_v135 (F := Ideal) x0 x2 x3 x4 x7 (ix4 p s h k) = kdx W64 (fun d => o2 x2 x3 (tp p s) (hc h d)) (fun d => wt x7 (hc h d)) (fun d => dn x0 x4 (tp p s) (hc h d)) k := by
  rw [kdx_eq w64 (by norm_num)]
  unfold val_main_v135 val_main_v134 val_main_v133 val_main_v132 val_main_v126 val_main_v125
  pointwise []
  rw [v5_at, v14_at, v120_at, v131_at]

/-- The gradient of the weight, by head. -/
theorem v121_at (s : Fin 8) (h : Fin 4) (k : Fin 64) : val_main_v121 (F := Ideal) x0 x2 x3 x4 (ix3 s h k) = totW (addH x0 x2 x3 x4) (ix2 s (hc h k)) := by
  refine (sumOneH_at (val_main_v118 (F := Ideal) x0 x2 x3 x4) s h k).trans ?_
  unfold val_main_v118
  pointwise []
  refine (sum0H_at (val_main_v116 (F := Ideal) x0 x2 x3 x4) s h k).trans (Finset.sum_congr rfl fun p _ => ?_)
  rw [val_main_v116_apply, v19_at, v113_at]
  show (o2 x2 x3 (tp p s)) (hc h k) * rs W64 (fun d => o2 x2 x3 (tp p s) (hc h d)) * dn x0 x4 (tp p s) (hc h k) = dn x0 x4 (tp p s) (hc h k) * (o2 x2 x3 (tp p s)) (hc h k) * rs W64 (sub (o2 x2 x3 (tp p s)) (hc h k))
  have e : sub (o2 x2 x3 (tp p s)) (hc h k) = (fun d => o2 x2 x3 (tp p s) (hc h d)) := funext fun d => by unfold sub; rw [hd_hc]
  rw [e, mul_comm, mul_assoc]

/-- Where a row and a column lie among rows of eight and heads. -/
theorem ix_row (r : Fin 4096) : tp (⟨r.val / 8, by omega⟩ : Fin 512) (⟨r.val % 8, by omega⟩ : Fin 8) = r := tp_div r _ _ rfl rfl

/-- The reference's gradient of the heads. -/
theorem ref_H : val_main_v137 (F := Ideal) x0 x2 x3 x4 x7 = totH x0 x2 x3 x4 x7 := funext fun i => by
  obtain ⟨r, k, rfl⟩ : ∃ (r : Fin 4096) (k : Fin 256), i = ix2 r k :=
    ⟨i 0, i 1, funext fun a => by match a with | ⟨0, _⟩ => rfl | ⟨1, _⟩ => rfl⟩
  unfold val_main_v137
  pointwise []
  refine (congrArg (val_main_v135 (F := Ideal) x0 x2 x3 x4 x7) (?_ : _ = ix4 (⟨r.val / 8, by omega⟩ : Fin 512) (⟨r.val % 8, by omega⟩ : Fin 8) (hd k) (lo k))).trans ?_
  · have hk := k.isLt
    funext a; apply Fin.ext
    match a with
    | ⟨0, _⟩ => rfl
    | ⟨1, _⟩ => rfl
    | ⟨2, _⟩ => rfl
    | ⟨3, _⟩ => rfl
  · rw [v135_at, ix_row]
    rfl

/-- The reference's gradient of the gates, where the gates, their gradients and the weight are real. -/
theorem ref_G
    (hd' : ∀ r k, ∃ y : ℝ, gh x0 r k = (y : EReal)) (hz : ∀ r k, ∃ y : ℝ, hg x4 r k = (y : EReal)) (hw : ∀ k, ∃ y : ℝ, wt x7 k = (y : EReal)) : val_main_v138 (F := Ideal) x0 x2 x3 x4 x7 = totG x0 x2 x3 x4 x7 := funext fun i => by
  obtain ⟨r, k, rfl⟩ : ∃ (r : Fin 4096) (k : Fin 256), i = ix2 r k :=
    ⟨i 0, i 1, funext fun a => by match a with | ⟨0, _⟩ => rfl | ⟨1, _⟩ => rfl⟩
  unfold val_main_v138 val_main_v115
  pointwise []
  refine (congrArg (val_main_v114 (F := Ideal) x0 x2 x3 x4 x7) (?_ : _ = ix4 (⟨r.val / 8, by omega⟩ : Fin 512) (⟨r.val % 8, by omega⟩ : Fin 8) (hd k) (lo k))).trans ?_
  · have hk := k.isLt
    funext a; apply Fin.ext
    match a with
    | ⟨0, _⟩ => rfl
    | ⟨1, _⟩ => rfl
    | ⟨2, _⟩ => rfl
    | ⟨3, _⟩ => rfl
  · rw [v114_at, ix_row, hc_hd]
    obtain ⟨d, ed⟩ := hd' r k
    obtain ⟨z, ez⟩ := hz r k
    obtain ⟨g, eg⟩ := hw k
    obtain ⟨y, ey⟩ := xr_real w64 (by norm_num) (sub (o2 x2 x3 r) k) (lo k)
    rw [sub_lo] at ey
    have ey' : o2 x2 x3 r k * rs W64 (fun d => o2 x2 x3 r (hc (hd k) d)) = (y : EReal) := ey
    show _ = gate (gh x0 r k) (hg x4 r k) (wt x7 k) (o2 x2 x3 r k * rs W64 (sub (o2 x2 x3 r) k))
    rw [ey, ey', ed, ez, eg]
    exact (gate_eq d z g y).symm

/-- The reference's gradient of the heads' norm's weight. -/
theorem ref_wH : val_main_v136 (F := Ideal) x0 x2 x3 x4 = totW (addH x0 x2 x3 x4) := funext fun i => by
  obtain ⟨s, k, rfl⟩ : ∃ (s : Fin 8) (k : Fin 256), i = ix2 s k :=
    ⟨i 0, i 1, funext fun a => by match a with | ⟨0, _⟩ => rfl | ⟨1, _⟩ => rfl⟩
  unfold val_main_v136
  pointwise []
  refine (congrArg (val_main_v121 (F := Ideal) x0 x2 x3 x4) (?_ : _ = ix3 s (hd k) (lo k))).trans ?_
  · have hk := k.isLt
    funext a; apply Fin.ext
    match a with
    | ⟨0, _⟩ => rfl
    | ⟨1, _⟩ => rfl
    | ⟨2, _⟩ => rfl
  · rw [v121_at, hc_hd]
end

end Cert.Mix

end
-- ==== Proof.Mix15.lean ====
/- The mixed norms' gradients: the kernel's seven results are the reference's, where the heads' gradient, the gates and the heads'
   weight are finite. -/
module

public import proofs.«01_k».proof.Proof.MixKer
public import proofs.«01_k».proof.Proof.MixRef
public import proofs.«01_k».proof.Proof.Ffn
public import proofs.«01_k».proof.Proof.Gen.Reference15Ideal.Run
public import proofs.«01_k».proof.Proof.Gen.Pre_finite15
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Mix

open Idealize.ShloMosaic Idealize.ShloMosaic.TcCoe Idealize.ShloMosaic.Tactic
open Idealize.SL.Sem

/-- The precondition makes the heads' gradient, the gates and the heads' weight real. -/
theorem real_of_pre (a0 : FVec Ideal Pre_finite15.S4096x1024 .f32) (a1 : FVec Ideal Pre_finite15.S4096x512 .f32)
    (a2 a3 : FVec Ideal Pre_finite15.S4096x256 .f32) (a4 : FVec Ideal Pre_finite15.S4096x2560 .f32)
    (a5 : FVec Ideal Pre_finite15.S4096x256 .f32) (a6 : FVec Ideal Pre_finite15.S1x512 .f32) (a7 a8 : FVec Ideal Pre_finite15.S1x256 .f32)
    (h : Pre_finite15.fn (F := Ideal) a0 a1 a2 a3 a4 a5 a6 a7 a8 = fun _ => 1#1) :
    (∀ r k, ∃ y : ℝ, gh a0 r k = (y : EReal)) ∧ (∀ r k, ∃ y : ℝ, hg a4 r k = (y : EReal)) ∧ ∀ k, ∃ y : ℝ, wt a7 k = (y : EReal) := by
  have e := congrFun h (Shape.Idx.first Pre_finite15.Facts.h_S_)
  simp only [Pre_finite15.fn] at e
  have q := IntOp.andi_eq_one.1 e
  have q' := IntOp.andi_eq_one.1 q.1
  have s0 := Cert.Ffn.real_of_all _ _ Cert.Ffn.inf_f32 _ _ _ _ q'.1
  have s4 := Cert.Ffn.real_of_all _ _ Cert.Ffn.inf_f32 _ _ _ _ q'.2
  have e0 : ∀ r k, extractStridedSlice Pre_finite15.S4096x256 ![0, 512] a0
      Pre_finite15.Facts.slices_S4096x1024_S4096x256_0_512 (ix2 r k) = gh a0 r k := fun r k => by
    pointwise []
    rfl
  have e4 : ∀ r k, extractStridedSlice Pre_finite15.S4096x256 ![0, 1792] a4
      Pre_finite15.Facts.slices_S4096x2560_S4096x256_0_1792 (ix2 r k) = hg a4 r k := fun r k => by
    pointwise []
    rfl
  exact ⟨fun r k => ⟨_, (e0 r k).symm.trans (s0 (ix2 r k))⟩, fun r k => ⟨_, (e4 r k).symm.trans (s4 (ix2 r k))⟩,
    fun k => ⟨_, Cert.Ffn.real_of_all a7 _ Cert.Ffn.inf_f32 _ _ _ _ q.2 (ix2 0 k)⟩⟩

/-- Real gradients, gates and weights make what reaches the heads real. -/
theorem reach_real (a0 : Mat 4096 1024) (a4 : Mat 4096 2560) (a7 : Mat 1 256) (h0 : ∀ r k, ∃ y : ℝ, gh a0 r k = (y : EReal))
    (h4 : ∀ r k, ∃ y : ℝ, hg a4 r k = (y : EReal)) (h7 : ∀ k, ∃ y : ℝ, wt a7 k = (y : EReal)) (r : Fin 4096) (k : Fin 256) :
    ∃ y : ℝ, dn a0 a4 r k * wt a7 k = (y : EReal) := by
  unfold dn
  obtain ⟨d, ed⟩ := h0 r k
  obtain ⟨z, ez⟩ := h4 r k
  obtain ⟨g, eg⟩ := h7 k
  obtain ⟨l, el⟩ := lg_real z
  refine ⟨d * (z * l) * g, ?_⟩
  rw [ed, ez, eg, el]
  simp only [← EReal.coe_mul]

/-- The reference runs and leaves its arguments. -/
theorem frame_ref (m : (ℓ : Loc Reference15Ideal.nD Reference15Ideal.τ Reference15Ideal.sig) → Buf (Elt Ideal) ℓ)
    (ρ : Dev Reference15Ideal.nD → PrngReg) :
    θ_run (Reference15Ideal.defs (F := Ideal)) (onTc (τ := Reference15Ideal.τ) (Reference15Ideal.main (F := Ideal))) ⟨m, fun _ => 0, ρ⟩ (fun r => (∀ c : Dev Reference15Ideal.nD,
      r.2.mem (c.tc.loc Reference15Ideal.main_arg0) = m (c.tc.loc Reference15Ideal.main_arg0)
      ∧ r.2.mem (c.tc.loc Reference15Ideal.main_arg1) = m (c.tc.loc Reference15Ideal.main_arg1)
      ∧ r.2.mem (c.tc.loc Reference15Ideal.main_arg2) = m (c.tc.loc Reference15Ideal.main_arg2)
      ∧ r.2.mem (c.tc.loc Reference15Ideal.main_arg3) = m (c.tc.loc Reference15Ideal.main_arg3)
      ∧ r.2.mem (c.tc.loc Reference15Ideal.main_arg4) = m (c.tc.loc Reference15Ideal.main_arg4)
      ∧ r.2.mem (c.tc.loc Reference15Ideal.main_arg5) = m (c.tc.loc Reference15Ideal.main_arg5)
      ∧ r.2.mem (c.tc.loc Reference15Ideal.main_arg6) = m (c.tc.loc Reference15Ideal.main_arg6)
      ∧ r.2.mem (c.tc.loc Reference15Ideal.main_arg7) = m (c.tc.loc Reference15Ideal.main_arg7)
      ∧ r.2.mem (c.tc.loc Reference15Ideal.main_arg8) = m (c.tc.loc Reference15Ideal.main_arg8))
      ∧ r.2.sem = fun _ => 0) :=
  (θ_run Reference15Ideal.defs _ _).mono (fun r h => ⟨fun c => (h c).2.2.2.2.2.2.2,
    sem_eq_zero_of_no_sems (by decide) r.2⟩) (Reference15Ideal.Value.run (F := Ideal) m ρ)

/-- From equal arguments, finite where asked, the kernel's results are the reference's. -/
theorem algebraic : Cert.algebraic_Kernel15Ideal_Reference15Ideal_pre_finite15 := by
  intro m ρ m' ρ' hpre hargs
  have hp : ∀ c : Dev Kernel15Ideal.nD, _ := fun c => real_of_pre _ _ _ _ _ _ _ _ _ (hpre c)
  refine ⟨fun c => totA (m (c.tc.loc Kernel15Ideal.main_arg0)) (m (c.tc.loc Kernel15Ideal.main_arg1)) (m (c.tc.loc Kernel15Ideal.main_arg6)),
    fun c => totH (m (c.tc.loc Kernel15Ideal.main_arg0)) (m (c.tc.loc Kernel15Ideal.main_arg2)) (m (c.tc.loc Kernel15Ideal.main_arg3)) (m (c.tc.loc Kernel15Ideal.main_arg4)) (m (c.tc.loc Kernel15Ideal.main_arg7)),
    fun c => totG (m (c.tc.loc Kernel15Ideal.main_arg0)) (m (c.tc.loc Kernel15Ideal.main_arg2)) (m (c.tc.loc Kernel15Ideal.main_arg3)) (m (c.tc.loc Kernel15Ideal.main_arg4)) (m (c.tc.loc Kernel15Ideal.main_arg7)),
    fun c => totC (m (c.tc.loc Kernel15Ideal.main_arg0)) (m (c.tc.loc Kernel15Ideal.main_arg5)) (m (c.tc.loc Kernel15Ideal.main_arg8)),
    fun c => totW (addA (m (c.tc.loc Kernel15Ideal.main_arg0)) (m (c.tc.loc Kernel15Ideal.main_arg1))),
    fun c => totW (addH (m (c.tc.loc Kernel15Ideal.main_arg0)) (m (c.tc.loc Kernel15Ideal.main_arg2)) (m (c.tc.loc Kernel15Ideal.main_arg3)) (m (c.tc.loc Kernel15Ideal.main_arg4))),
    fun c => totW (addC (m (c.tc.loc Kernel15Ideal.main_arg0)) (m (c.tc.loc Kernel15Ideal.main_arg5))), ?_, ?_⟩
  · refine (θ_run Kernel15Ideal.defs _ _).mono (fun r h c => ?_) (Kernel15Ideal.Value.run_blocks (F := Ideal) m ρ)
    obtain ⟨h0, h1, h2, h3, h4, h5, h6, ha⟩ := h c
    have hr : Real15 m c := fun r k => reach_real _ _ _ (hp c).1 (hp c).2.1 (hp c).2.2 r k
    exact ⟨h0.trans (final_A m c), h1.trans (final_H m c hr), h2.trans (final_G m c), h3.trans (final_C m c), h4.trans (final_wA m c), h5.trans (final_wH m c), h6.trans (final_wC m c), ha⟩
  · refine (θ_run Reference15Ideal.defs _ _).mono (fun r h c => ?_) (Reference15Ideal.Value.run (F := Ideal) m' ρ')
    obtain ⟨h0, h1, h2, h3, h4, h5, h6, ha⟩ := h c
    obtain ⟨b0, b1, b2, b3, b4, b5, b6, b7, b8⟩ := hargs c
    have e0 : StableHlo.launchContents m' c (Proc.devRef .tc Reference15Ideal.main_arg0) = (m (c.tc.loc Kernel15Ideal.main_arg0)) := b0
    have e1 : StableHlo.launchContents m' c (Proc.devRef .tc Reference15Ideal.main_arg1) = (m (c.tc.loc Kernel15Ideal.main_arg1)) := b1
    have e2 : StableHlo.launchContents m' c (Proc.devRef .tc Reference15Ideal.main_arg2) = (m (c.tc.loc Kernel15Ideal.main_arg2)) := b2
    have e3 : StableHlo.launchContents m' c (Proc.devRef .tc Reference15Ideal.main_arg3) = (m (c.tc.loc Kernel15Ideal.main_arg3)) := b3
    have e4 : StableHlo.launchContents m' c (Proc.devRef .tc Reference15Ideal.main_arg4) = (m (c.tc.loc Kernel15Ideal.main_arg4)) := b4
    have e5 : StableHlo.launchContents m' c (Proc.devRef .tc Reference15Ideal.main_arg5) = (m (c.tc.loc Kernel15Ideal.main_arg5)) := b5
    have e6 : StableHlo.launchContents m' c (Proc.devRef .tc Reference15Ideal.main_arg6) = (m (c.tc.loc Kernel15Ideal.main_arg6)) := b6
    have e7 : StableHlo.launchContents m' c (Proc.devRef .tc Reference15Ideal.main_arg7) = (m (c.tc.loc Kernel15Ideal.main_arg7)) := b7
    have e8 : StableHlo.launchContents m' c (Proc.devRef .tc Reference15Ideal.main_arg8) = (m (c.tc.loc Kernel15Ideal.main_arg8)) := b8
    refine ⟨h0.trans ?_, h1.trans ?_, h2.trans ?_, h3.trans ?_, h4.trans ?_, h5.trans ?_, h6.trans ?_, ha⟩
    · refine (Reference15Ideal.Read.val_main_v111_eq _).trans ?_
      rw [e0, e1, e6]
      exact ref_A _ _ _
    · refine (Reference15Ideal.Read.val_main_v137_eq _).trans ?_
      rw [e0, e2, e3, e4, e7]
      exact ref_H _ _ _ _ _
    · refine (Reference15Ideal.Read.val_main_v138_eq _).trans ?_
      rw [e0, e2, e3, e4, e7]
      exact ref_G _ _ _ _ _ (hp c).1 (hp c).2.1 (hp c).2.2
    · refine (Reference15Ideal.Read.val_main_v88_eq _).trans ?_
      rw [e0, e5, e8]
      exact ref_C _ _ _
    · refine (Reference15Ideal.Read.val_main_v96_eq _).trans ?_
      rw [e0, e1]
      exact ref_wA _ _
    · refine (Reference15Ideal.Read.val_main_v136_eq _).trans ?_
      rw [e0, e2, e3, e4]
      exact ref_wH _ _ _ _
    · refine (Reference15Ideal.Read.val_main_v73_eq _).trans ?_
      rw [e0, e5]
      exact ref_wC _ _

end Cert.Mix

end
-- ==== Proof.Mix16.lean ====
/- The mixed rows: the attention's and the convolution's rows normalised, between them the heads normalised and gated, each in
   its columns, tile by tile in the kernel, side by side in the reference. -/
module

public import proofs.«01_k».proof.Proof.MixMath
public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.MixF

open Idealize.ShloMosaic Idealize.ShloMosaic.TcCoe Idealize.ShloMosaic.Tactic
open Idealize.SL.Sem
open Cert.Mix (rs ms rw' wt o2 sub seg ms_seg hg c1 c2 c3 cp hd lo hc hc_hd W512 W256 W64 w64i)

/-- A normalised entry with its weight. -/
def unit (W : EReal) {n : ℕ} (x w : Fin n → EReal) (k : Fin n) : EReal := x k * rs W x * w k
/-- The same in the heads, gated. -/
def gated (o z w : Fin 256 → EReal) (k : Fin 256) : EReal :=
  o k * rs W64 (sub o k) * w k * (z k * Cert.Norm.lg (z k))

/-- Three rows side by side. -/
def join (f : Fin 512 → EReal) (g h : Fin 256 → EReal) (k : Fin 1024) : EReal :=
  if h1 : k.val < 512 then f ⟨k.val, h1⟩ else if h2 : k.val - 512 < 256 then g ⟨k.val - 512, h2⟩ else h ⟨k.val - 512 - 256, by omega⟩

theorem join1 (f : Fin 512 → EReal) (g h : Fin 256 → EReal) (k : Fin 512) : join f g h (c1 k) = f k := by
  unfold join
  rw [dif_pos (show (c1 k).val < 512 from k.isLt)]
  rfl
theorem join2 (f : Fin 512 → EReal) (g h : Fin 256 → EReal) (k : Fin 256) : join f g h (c2 k) = g k := by
  unfold join
  rw [dif_neg (show ¬(c2 k).val < 512 by show ¬512 + k.val < 512; omega), dif_pos (show (c2 k).val - 512 < 256 by show 512 + k.val - 512 < 256; omega)]
  exact congrArg g (Fin.ext (by show 512 + k.val - 512 = k.val; omega))
theorem join3 (f : Fin 512 → EReal) (g h : Fin 256 → EReal) (k : Fin 256) : join f g h (c3 k) = h k := by
  unfold join
  rw [dif_neg (show ¬(c3 k).val < 512 by show ¬768 + k.val < 512; omega), dif_neg (show ¬(c3 k).val - 512 < 256 by show ¬768 + k.val - 512 < 256; omega)]
  exact congrArg h (Fin.ext (by show 768 + k.val - 512 - 256 = k.val; omega))

/-- A mixed row. -/
def mixRow (y aw : Fin 512 → EReal) (o z gw yc cw : Fin 256 → EReal) : Fin 1024 → EReal :=
  join (unit W512 y aw) (gated o z gw) (unit W256 yc cw)

/-- The mixed rows. -/
def total (a0 : FVec Ideal ⟨2, ![4096, 512]⟩ .f32) (a1 a2 : FVec Ideal ⟨2, ![4096, 256]⟩ .f32) (a3 : FVec Ideal ⟨2, ![4096, 2560]⟩ .f32)
    (a4 : FVec Ideal ⟨2, ![4096, 256]⟩ .f32) (a5 : FVec Ideal ⟨2, ![1, 512]⟩ .f32) (a6 a7 : FVec Ideal ⟨2, ![1, 256]⟩ .f32) :
    (⟨2, ![4096, 1024]⟩ : Shape).Idx → EReal :=
  fun i => mixRow (rw' a0 (i 0)) (wt a5) (o2 a1 a2 (i 0)) (hg a3 (i 0)) (wt a6) (rw' a4 (i 0)) (wt a7) (i 1)

section
open Cert.Kernel16Ideal Cert.Kernel16Ideal.Gen Cert.Kernel16Ideal.Value

theorem hz : (![0, 0] : Fin 2 → Nat) = fun _ => 0 := funext fun a => by fin_cases a <;> rfl

theorem ltN (t : Fin cfg0.N) : t.val < 16 := Nat.lt_of_lt_of_eq t.isLt N_0

/-- Row `r` of point `t`'s tile. -/
def row (t : Fin cfg0.N) (r : Fin 256) : Fin 4096 := ⟨256 * t.val + r.val, by have := ltN t; omega⟩

section
variable {F : FTy → Type} [FloatOps F]
/-- The head of each column, as a number. -/
def hCol : IVec S256 32 := shapeCast S256 (iotaInDim S4x64 32 0) shapeCasts_S4x64_S256
/-- The matrix of the heads, as the host prepares it. -/
def hSeg : FVec F S256x256 .bf16 :=
  truncf .bf16 (mulf (uitofp .f32 (cmpi .eq
      (broadcastInDim S256x256 ![0, 1] bcast_S256x1_S256x256_0_1 (broadcastInDim S256x1 ![0] bcast_S256_S256x1_0 hCol))
      (broadcastInDim S256x256 ![0, 1] bcast_S1x256_S256x256_0_1 (broadcastInDim S1x256 ![1] bcast_S256_S1x256_1 hCol))))
    (broadcastInDim S256x256 ![] bcast_S_S256x256 (constant S_ .f32 0x3C800000#32))) bitsLt_bf16_f32

theorem V_seg (m : (ℓ : Loc nD τ sig) → Buf (Elt F) ℓ) (c : Dev nD) : V m c main_v10 = hSeg := by
  show StableHlo.after hostOps0 _ (Proc.devRef .tc main_v10) = _
  after_results_simp
  rfl
end

theorem hCol_at (k : Fin 256) : hCol (ix1 k) = BitVec.ofNat 32 (hd k).val := by
  unfold hCol
  pointwise []
  rfl

/-- The host's matrix of the heads at an entry. -/
theorem hSeg_at (j k : Fin 256) : hSeg (F := Ideal) (ix2 j k) = seg j k := by
  unfold hSeg
  pointwise []
  simp only [hCol_at]
  rw [w64i]
  unfold seg
  by_cases h : hd j = hd k
  · rw [if_pos h, h]
    have e : IntOp.cmpi .eq (BitVec.ofNat 32 (hd k).val) (BitVec.ofNat 32 (hd k).val) = 1#1 := by simp [IntOp.cmpi]
    rw [e]
    show (((1#1 : BitVec 1).toNat : ℝ) : EReal) * _ = _
    norm_num
  · have ne : ¬(BitVec.ofNat 32 (hd j).val = BitVec.ofNat 32 (hd k).val) := fun e => h (Fin.ext (by
      have := congrArg BitVec.toNat e
      have h1 := (hd j).isLt
      have h2 := (hd k).isLt
      simp only [BitVec.toNat_ofNat] at this
      omega))
    have e : IntOp.cmpi .eq (BitVec.ofNat 32 (hd j).val) (BitVec.ofNat 32 (hd k).val) = 0#1 := by
      show BitVec.ofBool (BitVec.ofNat 32 (hd j).val == BitVec.ofNat 32 (hd k).val) = 0#1
      rw [beq_eq_false_iff_ne.mpr ne]
      rfl
    rw [if_neg h, e]
    show (((0#1 : BitVec 1).toNat : ℝ) : EReal) * _ = _
    norm_num

section
variable (x0 : Vec Ideal S256x512 .f32) (x1 x2 x3 x4 : Vec Ideal S256x256 .f32) (x5 : Vec Ideal S1x512 .f32) (x6 x7 : Vec Ideal S1x256 .f32) (x8 : Vec Ideal S256x256 .bf16)
  (hs : ∀ j k, x8 (ix2 j k) = seg j k)

/-- The attention's columns of a tile. -/
theorem A_at (r : Fin 256) (k : Fin 512) : k0_pay3 x0 x5 (ix2 r k) = unit W512 (rw' x0 r) (wt x5) k := by
  pointwise [k0_pay3]
  rfl

/-- The convolution's. -/
theorem C_at (r : Fin 256) (k : Fin 256) : k0_pay2 x4 x7 (ix2 r k) = unit W256 (rw' x4 r) (wt x7) k := by
  pointwise [k0_pay2]
  rfl

include hs in
theorem n_at (r : Fin 256) (k : Fin 256) : k0_pay4 x1 x2 x8 x6 (ix2 r k) = o2 x1 x2 r k * rs W64 (sub (o2 x1 x2 r) k) * wt x6 k := by
  unfold rs
  rw [← ms_seg]
  pointwise [k0_pay4]
  simp only [hs]
  rfl

include hs in
/-- The heads'. -/
theorem H_at (r : Fin 256) (k : Fin 256) :
    k0_pay1 (k0_pay4 x1 x2 x8 x6) x3 (k0_pay5 x3) (Scalar.ofBits (F := Ideal) .f32 0x3F000000#32) (ix2 r k) = gated (o2 x1 x2 r) (rw' x3 r) (wt x6) k := by
  have e : k0_pay5 x3 (ix2 r k) = Ideal.tanh (Ideal.ofBits .f32 0x3F000000#32 * rw' x3 r k) := by
    pointwise [k0_pay5]
    rfl
  pointwise [k0_pay1]
  rw [n_at x1 x2 x6 x8 hs, e]
  unfold gated
  rw [← Cert.Norm.tanh_lg]
  rfl

/-- A tile of the mixed rows. -/
def blk : Vec Ideal S256x1024 .bf16 := fun i => mixRow (rw' x0 (i 0)) (wt x5) (o2 x1 x2 (i 0)) (rw' x3 (i 0)) (wt x6) (rw' x4 (i 0)) (wt x7) (i 1)

/-- Columns stored from the first on are those of the tile they agree with. -/
theorem pc1 (p : FVec Ideal S256x512 .bf16) (G : Vec Ideal S256x1024 .bf16) (inb : ∀ d, (![0, 0] : Fin 2 → ℕ) d + S256x512.size d ≤ S256x1024.size d)
    (e : ∀ r k, p (ix2 r k) = G (ix2 r (c1 k))) (x : S256x512.Idx) : p x = G ((Rect.unit (s := S256x1024) ![0, 0] S256x512.size inb).emb x) := by
  obtain ⟨r, k, rfl⟩ : ∃ (r : Fin 256) (k : Fin 512), x = ix2 r k :=
    ⟨x 0, x 1, funext fun a => by match a with | ⟨0, _⟩ => rfl | ⟨1, _⟩ => rfl⟩
  refine (e r k).trans (congrArg G ?_)
  funext d; apply Fin.ext
  match d with
  | ⟨0, _⟩ => show r.val = 0 + 1 * r.val; omega
  | ⟨1, _⟩ => show k.val = 0 + 1 * k.val; omega
/-- The same from column 512 on. -/
theorem pc2 (p : FVec Ideal S256x256 .bf16) (G : Vec Ideal S256x1024 .bf16) (inb : ∀ d, (![0, 512] : Fin 2 → ℕ) d + S256x256.size d ≤ S256x1024.size d)
    (e : ∀ r k, p (ix2 r k) = G (ix2 r (c2 k))) (x : S256x256.Idx) : p x = G ((Rect.unit (s := S256x1024) ![0, 512] S256x256.size inb).emb x) := by
  obtain ⟨r, k, rfl⟩ : ∃ (r : Fin 256) (k : Fin 256), x = ix2 r k :=
    ⟨x 0, x 1, funext fun a => by match a with | ⟨0, _⟩ => rfl | ⟨1, _⟩ => rfl⟩
  refine (e r k).trans (congrArg G ?_)
  funext d; apply Fin.ext
  match d with
  | ⟨0, _⟩ => show r.val = 0 + 1 * r.val; omega
  | ⟨1, _⟩ => show 512 + k.val = 512 + 1 * k.val; omega
/-- The same from column 768 on. -/
theorem pc3 (p : FVec Ideal S256x256 .bf16) (G : Vec Ideal S256x1024 .bf16) (inb : ∀ d, (![0, 768] : Fin 2 → ℕ) d + S256x256.size d ≤ S256x1024.size d)
    (e : ∀ r k, p (ix2 r k) = G (ix2 r (c3 k))) (x : S256x256.Idx) : p x = G ((Rect.unit (s := S256x1024) ![0, 768] S256x256.size inb).emb x) := by
  obtain ⟨r, k, rfl⟩ : ∃ (r : Fin 256) (k : Fin 256), x = ix2 r k :=
    ⟨x 0, x 1, funext fun a => by match a with | ⟨0, _⟩ => rfl | ⟨1, _⟩ => rfl⟩
  refine (e r k).trans (congrArg G ?_)
  funext d; apply Fin.ext
  match d with
  | ⟨0, _⟩ => show r.val = 0 + 1 * r.val; omega
  | ⟨1, _⟩ => show 768 + k.val = 768 + 1 * k.val; omega

variable (c : Dev nD) (i : grid0.Coords) (a1 : Memref sig .tc .vmem S256x512 .f32) (h1 : a1.IsWhole) (a2 : Memref sig .tc .vmem S256x256 .f32) (h2 : a2.IsWhole) (a3 : Memref sig .tc .vmem S256x256 .f32) (h3 : a3.IsWhole) (a4 : Memref sig .tc .vmem S256x256 .f32) (h4 : a4.IsWhole) (a5 : Memref sig .tc .vmem S256x256 .f32) (h5 : a5.IsWhole) (a6 : Memref sig .tc .vmem S1x512 .f32) (h6 : a6.IsWhole) (a7 : Memref sig .tc .vmem S1x256 .f32) (h7 : a7.IsWhole) (a8 : Memref sig .tc .vmem S1x256 .f32) (h8 : a8.IsWhole) (a9 : Memref sig .tc .vmem S256x256 .bf16) (h9 : a9.IsWhole) (a10 : Memref sig .tc .vmem S256x1024 .bf16) (h10 : a10.IsWhole)

include hs in
/-- What a point leaves is the tile of the mixed rows. -/
theorem out_eq :
    out0_A_9 c i a1 h1 a2 h2 a3 h3 a4 h4 a5 h5 a6 h6 a7 h7 a8 h8 a9 h9 a10 h10 x0 x1 x2 x3 x4 x5 x6 x7 x8 = blk x0 x1 x2 x3 x4 x5 x6 x7 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  funext y
  refine View.canon_apply_of_pieces _ _ ?_ y (cover0_A_9 c i a1 h1 a2 h2 a3 h3 a4 h4 a5 h5 a6 h6 a7 h7 a8 h8 a9 h9 a10 h10 x0 x1 x2 x3 x4 x5 x6 x7 x8 y)
  unfold kernelRun0_A
  dsimp only
  sl_unfold_words
  simp only [View.readAt_eq_ld, h1.read_unread, h2.read_unread, h3.read_unread, h4.read_unread, h5.read_unread, h6.read_unread, h7.read_unread, h8.read_unread, h9.read_unread,
    View.ld_unit_zero (S := S256x512) hz, View.ld_unit_zero (S := S256x256) hz, View.ld_unit_zero (S := S1x512) hz, View.ld_unit_zero (S := S1x256) hz, shapeCast_self]
  intro p hp x
  simp only [List.mem_cons, List.not_mem_nil, or_false] at hp
  obtain rfl | rfl | rfl := hp
  · exact pc3 (k0_pay2 x4 x7) (blk x0 x1 x2 x3 x4 x5 x6 x7) inb_S256x1024_S256x256_0_768 (fun r k => (C_at x4 x7 r k).trans (join3 _ _ _ k).symm) x
  · exact pc2 (k0_pay1 (k0_pay4 x1 x2 x8 x6) x3 (k0_pay5 x3) (Scalar.ofBits (F := Ideal) .f32 0x3F000000#32)) (blk x0 x1 x2 x3 x4 x5 x6 x7) inb_S256x1024_S256x256_0_512
      (fun r k => (H_at x1 x2 x3 x6 x8 hs r k).trans (join2 _ _ _ k).symm) x
  · exact pc1 (k0_pay3 x0 x5) (blk x0 x1 x2 x3 x4 x5 x6 x7) inb_S256x1024_S256x512_0_0 (fun r k => (A_at x0 x5 r k).trans (join1 _ _ _ k).symm) x
end

theorem idx0 : ∀ t : Fin cfg0.N, win0_0.index t 0 = t.val ∧ win0_0.index t 1 = 0 :=
  (by decide +kernel : ∀ t : Fin grid0.N, _)

theorem idx1 : ∀ t : Fin cfg0.N, win0_1.index t 0 = t.val ∧ win0_1.index t 1 = 0 :=
  (by decide +kernel : ∀ t : Fin grid0.N, _)

theorem idx2 : ∀ t : Fin cfg0.N, win0_2.index t 0 = t.val ∧ win0_2.index t 1 = 0 :=
  (by decide +kernel : ∀ t : Fin grid0.N, _)

theorem idx4 : ∀ t : Fin cfg0.N, win0_4.index t 0 = t.val ∧ win0_4.index t 1 = 0 :=
  (by decide +kernel : ∀ t : Fin grid0.N, _)

theorem idx5 : ∀ t : Fin cfg0.N, win0_5.index t 0 = 0 ∧ win0_5.index t 1 = 0 :=
  (by decide +kernel : ∀ t : Fin grid0.N, _)

theorem idx6 : ∀ t : Fin cfg0.N, win0_6.index t 0 = 0 ∧ win0_6.index t 1 = 0 :=
  (by decide +kernel : ∀ t : Fin grid0.N, _)

theorem idx7 : ∀ t : Fin cfg0.N, win0_7.index t 0 = 0 ∧ win0_7.index t 1 = 0 :=
  (by decide +kernel : ∀ t : Fin grid0.N, _)

theorem idx8 : ∀ t : Fin cfg0.N, win0_8.index t 0 = 0 ∧ win0_8.index t 1 = 0 :=
  (by decide +kernel : ∀ t : Fin grid0.N, _)

theorem idx9 : ∀ t : Fin cfg0.N, win0_9.index t 0 = t.val ∧ win0_9.index t 1 = 0 :=
  (by decide +kernel : ∀ t : Fin grid0.N, _)

theorem idx3 : ∀ t : Fin cfg0.N, win0_3.index t 0 = t.val ∧ win0_3.index t 1 = 7 :=
  (by decide +kernel : ∀ t : Fin grid0.N, _)

variable (m : (ℓ : Loc nD τ sig) → Buf (Elt Ideal) ℓ) (c : Dev nD)

/-- Point `t`'s block of argument 0. -/
theorem ib0 (t : Fin cfg0.N) (p0 : Fin 256) (p1 : Fin 512) : (iblk m c 0 t : Vec Ideal S256x512 .f32) (ix2 p0 p1)
    = m (c.tc.loc main_arg0) (ix2 (row t p0) p1) := by
  unfold iblk; rw [View.read_apply]
  have e : (((cfg0.win 0).blk t).view.emb (ix2 p0 p1)) = ix2 (row t p0) p1 := by
    funext a; apply Fin.ext
    match a with
    | ⟨0, _⟩ => show win0_0.index t 0 * 256 + 1 * p0.val = 256 * t.val + p0.val; rw [(idx0 t).1]; omega
    | ⟨1, _⟩ => show win0_0.index t 1 * 512 + 1 * p1.val = p1.val; rw [(idx0 t).2]; omega
  exact (congrFun (V_main_arg0 m c) _).trans (congrArg _ e)

/-- Point `t`'s block of argument 1. -/
theorem ib1 (t : Fin cfg0.N) (p0 : Fin 256) (p1 : Fin 256) : (iblk m c 1 t : Vec Ideal S256x256 .f32) (ix2 p0 p1)
    = m (c.tc.loc main_arg1) (ix2 (row t p0) p1) := by
  unfold iblk; rw [View.read_apply]
  have e : (((cfg0.win 1).blk t).view.emb (ix2 p0 p1)) = ix2 (row t p0) p1 := by
    funext a; apply Fin.ext
    match a with
    | ⟨0, _⟩ => show win0_1.index t 0 * 256 + 1 * p0.val = 256 * t.val + p0.val; rw [(idx1 t).1]; omega
    | ⟨1, _⟩ => show win0_1.index t 1 * 256 + 1 * p1.val = p1.val; rw [(idx1 t).2]; omega
  exact (congrFun (V_main_arg1 m c) _).trans (congrArg _ e)

/-- Point `t`'s block of argument 2. -/
theorem ib2 (t : Fin cfg0.N) (p0 : Fin 256) (p1 : Fin 256) : (iblk m c 2 t : Vec Ideal S256x256 .f32) (ix2 p0 p1)
    = m (c.tc.loc main_arg2) (ix2 (row t p0) p1) := by
  unfold iblk; rw [View.read_apply]
  have e : (((cfg0.win 2).blk t).view.emb (ix2 p0 p1)) = ix2 (row t p0) p1 := by
    funext a; apply Fin.ext
    match a with
    | ⟨0, _⟩ => show win0_2.index t 0 * 256 + 1 * p0.val = 256 * t.val + p0.val; rw [(idx2 t).1]; omega
    | ⟨1, _⟩ => show win0_2.index t 1 * 256 + 1 * p1.val = p1.val; rw [(idx2 t).2]; omega
  exact (congrFun (V_main_arg2 m c) _).trans (congrArg _ e)

/-- Point `t`'s block of argument 4. -/
theorem ib4 (t : Fin cfg0.N) (p0 : Fin 256) (p1 : Fin 256) : (iblk m c 4 t : Vec Ideal S256x256 .f32) (ix2 p0 p1)
    = m (c.tc.loc main_arg4) (ix2 (row t p0) p1) := by
  unfold iblk; rw [View.read_apply]
  have e : (((cfg0.win 4).blk t).view.emb (ix2 p0 p1)) = ix2 (row t p0) p1 := by
    funext a; apply Fin.ext
    match a with
    | ⟨0, _⟩ => show win0_4.index t 0 * 256 + 1 * p0.val = 256 * t.val + p0.val; rw [(idx4 t).1]; omega
    | ⟨1, _⟩ => show win0_4.index t 1 * 256 + 1 * p1.val = p1.val; rw [(idx4 t).2]; omega
  exact (congrFun (V_main_arg4 m c) _).trans (congrArg _ e)

/-- Point `t`'s block of argument 5. -/
theorem ib5 (t : Fin cfg0.N) (p0 : Fin 1) (p1 : Fin 512) : (iblk m c 5 t : Vec Ideal S1x512 .f32) (ix2 p0 p1)
    = m (c.tc.loc main_arg5) (ix2 p0 p1) := by
  unfold iblk; rw [View.read_apply]
  have e : (((cfg0.win 5).blk t).view.emb (ix2 p0 p1)) = ix2 p0 p1 := by
    funext a; apply Fin.ext
    match a with
    | ⟨0, _⟩ => show win0_5.index t 0 * 1 + 1 * p0.val = p0.val; rw [(idx5 t).1]; omega
    | ⟨1, _⟩ => show win0_5.index t 1 * 512 + 1 * p1.val = p1.val; rw [(idx5 t).2]; omega
  exact (congrFun (V_main_arg5 m c) _).trans (congrArg _ e)

/-- Point `t`'s block of argument 6. -/
theorem ib6 (t : Fin cfg0.N) (p0 : Fin 1) (p1 : Fin 256) : (iblk m c 6 t : Vec Ideal S1x256 .f32) (ix2 p0 p1)
    = m (c.tc.loc main_arg6) (ix2 p0 p1) := by
  unfold iblk; rw [View.read_apply]
  have e : (((cfg0.win 6).blk t).view.emb (ix2 p0 p1)) = ix2 p0 p1 := by
    funext a; apply Fin.ext
    match a with
    | ⟨0, _⟩ => show win0_6.index t 0 * 1 + 1 * p0.val = p0.val; rw [(idx6 t).1]; omega
    | ⟨1, _⟩ => show win0_6.index t 1 * 256 + 1 * p1.val = p1.val; rw [(idx6 t).2]; omega
  exact (congrFun (V_main_arg6 m c) _).trans (congrArg _ e)

/-- Point `t`'s block of argument 7. -/
theorem ib7 (t : Fin cfg0.N) (p0 : Fin 1) (p1 : Fin 256) : (iblk m c 7 t : Vec Ideal S1x256 .f32) (ix2 p0 p1)
    = m (c.tc.loc main_arg7) (ix2 p0 p1) := by
  unfold iblk; rw [View.read_apply]
  have e : (((cfg0.win 7).blk t).view.emb (ix2 p0 p1)) = ix2 p0 p1 := by
    funext a; apply Fin.ext
    match a with
    | ⟨0, _⟩ => show win0_7.index t 0 * 1 + 1 * p0.val = p0.val; rw [(idx7 t).1]; omega
    | ⟨1, _⟩ => show win0_7.index t 1 * 256 + 1 * p1.val = p1.val; rw [(idx7 t).2]; omega
  exact (congrFun (V_main_arg7 m c) _).trans (congrArg _ e)

/-- Point `t`'s block of the gates. -/
theorem ib3 (t : Fin cfg0.N) (p0 : Fin 256) (p1 : Fin 256) : (iblk m c 3 t : Vec Ideal S256x256 .f32) (ix2 p0 p1)
    = m (c.tc.loc main_arg3) (ix2 (row t p0) (cp p1)) := by
  unfold iblk; rw [View.read_apply]
  have e : (((cfg0.win 3).blk t).view.emb (ix2 p0 p1)) = ix2 (row t p0) (cp p1) := by
    funext a; apply Fin.ext
    match a with
    | ⟨0, _⟩ => show win0_3.index t 0 * 256 + 1 * p0.val = 256 * t.val + p0.val; rw [(idx3 t).1]; omega
    | ⟨1, _⟩ => show win0_3.index t 1 * 256 + 1 * p1.val = 1792 + p1.val; rw [(idx3 t).2]; omega
  exact (congrFun (V_main_arg3 m c) _).trans (congrArg _ e)

/-- Every point's block of the matrix of the heads. -/
theorem ib8 (t : Fin cfg0.N) (j k : Fin 256) : (iblk m c 8 t : Vec Ideal S256x256 .bf16) (ix2 j k) = seg j k := by
  unfold iblk; rw [View.read_apply]
  have e : (((cfg0.win 8).blk t).view.emb (ix2 j k)) = ix2 j k := by
    funext a; apply Fin.ext
    match a with
    | ⟨0, _⟩ => show win0_8.index t 0 * 256 + 1 * j.val = j.val; rw [(idx8 t).1]; omega
    | ⟨1, _⟩ => show win0_8.index t 1 * 256 + 1 * k.val = k.val; rw [(idx8 t).2]; omega
  exact (congrFun (V_seg m c) _).trans ((congrArg _ e).trans (hSeg_at j k))

/-- What a point leaves, at an entry. -/
theorem out_at (t : Fin cfg0.N) (r : Fin 256) (q : Fin 1024) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) (ix2 r q) = total (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix2 (row t r) q) := by
  rw [out_eq (hs := ib8 m c t)]
  have e0 : rw' (iblk m c 0 t : Vec Ideal S256x512 .f32) r = rw' (m (c.tc.loc main_arg0)) (row t r) := funext fun k => ib0 m c t r k
  have e1 : o2 (iblk m c 1 t : Vec Ideal S256x256 .f32) (iblk m c 2 t : Vec Ideal S256x256 .f32) r = o2 (m (c.tc.loc main_arg1)) (m (c.tc.loc main_arg2)) (row t r) :=
    funext fun k => congrArg₂ (· + ·) (ib1 m c t r k) (ib2 m c t r k)
  have e3 : rw' (iblk m c 3 t : Vec Ideal S256x256 .f32) r = hg (m (c.tc.loc main_arg3)) (row t r) := funext fun k => ib3 m c t r k
  have e4 : rw' (iblk m c 4 t : Vec Ideal S256x256 .f32) r = rw' (m (c.tc.loc main_arg4)) (row t r) := funext fun k => ib4 m c t r k
  have e5 : wt (iblk m c 5 t : Vec Ideal S1x512 .f32) = wt (m (c.tc.loc main_arg5)) := funext fun k => ib5 m c t 0 k
  have e6 : wt (iblk m c 6 t : Vec Ideal S1x256 .f32) = wt (m (c.tc.loc main_arg6)) := funext fun k => ib6 m c t 0 k
  have e7 : wt (iblk m c 7 t : Vec Ideal S1x256 .f32) = wt (m (c.tc.loc main_arg7)) := funext fun k => ib7 m c t 0 k
  show mixRow (rw' (iblk m c 0 t : Vec Ideal S256x512 .f32) r) (wt (iblk m c 5 t : Vec Ideal S1x512 .f32))
    (o2 (iblk m c 1 t : Vec Ideal S256x256 .f32) (iblk m c 2 t : Vec Ideal S256x256 .f32) r) (rw' (iblk m c 3 t : Vec Ideal S256x256 .f32) r)
    (wt (iblk m c 6 t : Vec Ideal S1x256 .f32)) (rw' (iblk m c 4 t : Vec Ideal S256x256 .f32) r) (wt (iblk m c 7 t : Vec Ideal S1x256 .f32)) q = _
  rw [e0, e1, e3, e4, e5, e6, e7]
  rfl

/-- What a point writes back is its rows of the array. -/
theorem flushed_out (t : Fin cfg0.N) (_ : (cfg0.win 9).flush t = true) :
    (dats m 0 c).flushed 9 t = ((cfg0.win 9).blk t).view.read (Elt Ideal) (total (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))) := by
  rw [flushed9_A]
  funext j
  rw [View.read_apply]
  have j0 : (j 0).val < 256 := (j 0).isLt
  have j1 : (j 1).val < 1024 := (j 1).isLt
  have ej : (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t)) j
      = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t)) (ix2 ⟨(j 0).val, j0⟩ ⟨(j 1).val, j1⟩) :=
    congrArg _ (funext fun a => Fin.ext (by match a with | ⟨0, _⟩ => rfl | ⟨1, _⟩ => rfl))
  have ee : (((cfg0.win 9).blk t).view.emb j) = ix2 (row t ⟨(j 0).val, j0⟩) ⟨(j 1).val, j1⟩ := by
    funext a; apply Fin.ext
    match a with
    | ⟨0, _⟩ => show win0_9.index t 0 * 256 + 1 * (j 0).val = 256 * t.val + (j 0).val; rw [(idx9 t).1]; omega
    | ⟨1, _⟩ => show win0_9.index t 1 * 1024 + 1 * (j 1).val = (j 1).val; rw [(idx9 t).2]; omega
  exact ej.trans ((out_at m c t _ _).trans (congrArg _ ee).symm)

/-- What the array ends holding. -/
theorem final_out : (dats m 0 c).arrAt 9 cfg0.N = total (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) :=
  (dats m 0 c).arrAt_eq_of_cover 9 _ (flushed_out m c) fun i => by
    have i0 : (i 0).val < 4096 := (i 0).isLt
    have i1 : (i 1).val < 1024 := (i 1).isLt
    let t : Fin cfg0.N := ⟨(i 0).val / 256, Nat.lt_of_lt_of_eq (by omega) N_0.symm⟩
    have ht : t.val = (i 0).val / 256 := rfl
    refine ⟨t, flush0_9 t, ?_⟩
    show i ∈ ((View.whole main_v11).slice (win0_9.rect t)).set
    rw [View.set_slice_whole, Rect.mem_set_unit]
    intro a
    match a with
    | ⟨0, _⟩ => show win0_9.index t 0 * 256 ≤ (i 0).val ∧ (i 0).val < win0_9.index t 0 * 256 + 256
                rw [(idx9 t).1]; omega
    | ⟨1, _⟩ => show win0_9.index t 1 * 1024 ≤ (i 1).val ∧ (i 1).val < win0_9.index t 1 * 1024 + 1024
                rw [(idx9 t).2]; omega
end

section
open Cert.Reference16Ideal Cert.Reference16Ideal.Gen Cert.Reference16Ideal.Read

/-- The sum of the last axis, over heads and over rows of each width. -/
theorem sum64 (s : FVec Ideal S4096x4x64 .f32) (r : Fin 4096) (h : Fin 4) :
    Host.reduceAdd s (constant S_ .f32 0x00000000#32) reducesTo_S4096x4x64_S4096x4_d2 h_S_ (ix2 r h) = ∑ k : Fin 64, s (ix3 r h k) := by
  pointwise []
theorem sum512 (s : FVec Ideal S4096x512 .f32) (r : Fin 4096) :
    Host.reduceAdd s (constant S_ .f32 0x00000000#32) reducesTo_S4096x512_S4096_d1 h_S_ (ix1 r) = ∑ k : Fin 512, s (ix2 r k) := by
  pointwise []
theorem sum256 (s : FVec Ideal S4096x256 .f32) (r : Fin 4096) :
    Host.reduceAdd s (constant S_ .f32 0x00000000#32) reducesTo_S4096x256_S4096_d1 h_S_ (ix1 r) = ∑ k : Fin 256, s (ix2 r k) := by
  pointwise []

variable (x0 : FVec Ideal S4096x512 .f32) (x1 x2 : FVec Ideal S4096x256 .f32) (x3 : FVec Ideal S4096x2560 .f32) (x4 : FVec Ideal S4096x256 .f32) (x5 : FVec Ideal S1x512 .f32) (x6 x7 : FVec Ideal S1x256 .f32)

/-- The attention's rows, normalised. -/
theorem v30_at (r : Fin 4096) (k : Fin 512) : val_main_v30 (F := Ideal) x0 x5 (ix2 r k) = unit W512 (rw' x0 r) (wt x5) k := by
  have e : ∀ r, val_main_v20 (F := Ideal) x0 (ix1 r) = ∑ k, rw' x0 r k * rw' x0 r k := fun r => by
    refine (sum512 (val_main_v19 (F := Ideal) x0) r).trans ?_
    simp only [val_main_v19_apply]
    rfl
  unfold val_main_v30 val_main_v29 val_main_v28 val_main_v27 val_main_v26 val_main_v25 val_main_v24 val_main_v23 val_main_v22 val_main_v21 val_main_cst_3 val_main_cst_4
  pointwise []
  simp only [e]
  rfl

/-- The convolution's. -/
theorem v43_at (r : Fin 4096) (k : Fin 256) : val_main_v43 (F := Ideal) x4 x7 (ix2 r k) = unit W256 (rw' x4 r) (wt x7) k := by
  have e : ∀ r, val_main_v33 (F := Ideal) x4 (ix1 r) = ∑ k, rw' x4 r k * rw' x4 r k := fun r => by
    refine (sum256 (val_main_v32 (F := Ideal) x4) r).trans ?_
    simp only [val_main_v32_apply]
    rfl
  unfold val_main_v43 val_main_v42 val_main_v41 val_main_v40 val_main_v39 val_main_v38 val_main_v37 val_main_v36 val_main_v35 val_main_v34 val_main_cst_6 val_main_cst_7
  pointwise []
  simp only [e]
  rfl

/-- The heads. -/
theorem v2_at (r : Fin 4096) (h : Fin 4) (d : Fin 64) : val_main_v2 (F := Ideal) x1 x2 (ix3 r h d) = o2 x1 x2 r (hc h d) := by
  unfold val_main_v2 val_main_v1
  pointwise []
  have e : ∀ hp, (⟨h.val * 64 + d.val, hp⟩ : Fin 256) = hc h d := fun _ => Fin.ext (by show h.val * 64 + d.val = 64 * h.val + d.val; omega)
  simp only [e]
  rfl

/-- The gates. -/
theorem v16_at (r : Fin 4096) (h : Fin 4) (d : Fin 64) : val_main_v16 (F := Ideal) x3 (ix3 r h d) = hg x3 r (hc h d) := by
  unfold val_main_v16 val_main_v0
  pointwise []
  refine congrArg x3 ?_
  funext a; apply Fin.ext
  match a with
  | ⟨0, _⟩ => rfl
  | ⟨1, _⟩ => show 1792 + (h.val * 64 + d.val) = 1792 + (64 * h.val + d.val); omega

/-- The weight, by heads. -/
theorem v3_at (z : Fin 1) (h : Fin 4) (d : Fin 64) : val_main_v3 (F := Ideal) x6 (ix3 z h d) = wt x6 (hc h d) := by
  unfold val_main_v3
  pointwise []
  refine congrArg x6 ?_
  funext a; apply Fin.ext
  match a with
  | ⟨0, _⟩ => rfl
  | ⟨1, _⟩ => show h.val * 64 + d.val = 64 * h.val + d.val; omega

/-- The gate's activation. -/
theorem v17_at (r : Fin 4096) (h : Fin 4) (d : Fin 64) : val_main_v17 (F := Ideal) x3 (ix3 r h d) = hg x3 r (hc h d) * Cert.Norm.lg (hg x3 r (hc h d)) := by
  unfold val_main_v17 val_main_call0_v5 val_main_call0_v4 val_main_call0_v3 val_main_call0_v2 val_main_call0_v1 val_main_call0_v0 val_main_call0_cst val_main_call0_cst_0
  pointwise []
  rw [v16_at]
  unfold Cert.Norm.lg
  rw [Cert.Ffn.one_w]
  rfl

/-- The heads, normalised. -/
theorem v15_at (r : Fin 4096) (h : Fin 4) (d : Fin 64) : val_main_v15 (F := Ideal) x1 x2 x6 (ix3 r h d)
    = o2 x1 x2 r (hc h d) * rs W64 (fun d => o2 x1 x2 r (hc h d)) * wt x6 (hc h d) := by
  have e : ∀ r h, val_main_v5 (F := Ideal) x1 x2 (ix2 r h) = ∑ d, o2 x1 x2 r (hc h d) * o2 x1 x2 r (hc h d) := fun r h => by
    refine (sum64 (val_main_v4 (F := Ideal) x1 x2) r h).trans ?_
    simp only [val_main_v4_apply, v2_at]
    rfl
  unfold val_main_v15 val_main_v14 val_main_v13 val_main_v12 val_main_v11 val_main_v10 val_main_v9 val_main_v8 val_main_v7 val_main_v6 val_main_cst_0 val_main_cst_1
  pointwise []
  simp only [e, v2_at, v3_at]
  rfl

/-- The same, gated, in the row. -/
theorem v31_at (r : Fin 4096) (k : Fin 256) : val_main_v31 (F := Ideal) x1 x2 x3 x6 (ix2 r k) = gated (o2 x1 x2 r) (hg x3 r) (wt x6) k := by
  unfold val_main_v31
  pointwise []
  refine (congrArg (val_main_v18 (F := Ideal) x1 x2 x3 x6) (?_ : _ = ix3 r (hd k) (lo k))).trans ?_
  · funext a; apply Fin.ext
    match a with
    | ⟨0, _⟩ => rfl
    | ⟨1, _⟩ => rfl
    | ⟨2, _⟩ => rfl
  · rw [val_main_v18_apply, v15_at, v17_at, hc_hd]
    rfl

/-- The reference's mixed rows. -/
theorem ref_out : val_main_v45 (F := Ideal) x0 x1 x2 x3 x4 x5 x6 x7 = total x0 x1 x2 x3 x4 x5 x6 x7 := funext fun i => by
  obtain ⟨r, q, rfl⟩ : ∃ (r : Fin 4096) (q : Fin 1024), i = ix2 r q :=
    ⟨i 0, i 1, funext fun a => by match a with | ⟨0, _⟩ => rfl | ⟨1, _⟩ => rfl⟩
  unfold val_main_v45 val_main_v44
  pointwise []
  simp only [v30_at, v31_at, v43_at]
  rfl
end

theorem frame_ref (m : (ℓ : Loc Reference16Ideal.nD Reference16Ideal.τ Reference16Ideal.sig) → Buf (Elt Ideal) ℓ)
    (ρ : Dev Reference16Ideal.nD → PrngReg) :
    θ_run (Reference16Ideal.defs (F := Ideal)) (onTc (τ := Reference16Ideal.τ) (Reference16Ideal.main (F := Ideal))) ⟨m, fun _ => 0, ρ⟩ (fun r => (∀ c : Dev Reference16Ideal.nD,
      r.2.mem (c.tc.loc Reference16Ideal.main_arg0) = m (c.tc.loc Reference16Ideal.main_arg0)
      ∧ r.2.mem (c.tc.loc Reference16Ideal.main_arg1) = m (c.tc.loc Reference16Ideal.main_arg1)
      ∧ r.2.mem (c.tc.loc Reference16Ideal.main_arg2) = m (c.tc.loc Reference16Ideal.main_arg2)
      ∧ r.2.mem (c.tc.loc Reference16Ideal.main_arg3) = m (c.tc.loc Reference16Ideal.main_arg3)
      ∧ r.2.mem (c.tc.loc Reference16Ideal.main_arg4) = m (c.tc.loc Reference16Ideal.main_arg4)
      ∧ r.2.mem (c.tc.loc Reference16Ideal.main_arg5) = m (c.tc.loc Reference16Ideal.main_arg5)
      ∧ r.2.mem (c.tc.loc Reference16Ideal.main_arg6) = m (c.tc.loc Reference16Ideal.main_arg6)
      ∧ r.2.mem (c.tc.loc Reference16Ideal.main_arg7) = m (c.tc.loc Reference16Ideal.main_arg7))
      ∧ r.2.sem = fun _ => 0) :=
  (θ_run Reference16Ideal.defs _ _).mono (fun r h => ⟨fun c => (h c).2,
    sem_eq_zero_of_no_sems (by decide) r.2⟩) (Reference16Ideal.Value.run (F := Ideal) m ρ)

/-- From equal arguments the kernel's results are the reference's. -/
theorem algebraic : Cert.algebraic_Kernel16Ideal_Reference16Ideal := by
  intro m ρ m' ρ' hpre hargs
  refine ⟨fun c => total (m (c.tc.loc Kernel16Ideal.main_arg0))
      (m (c.tc.loc Kernel16Ideal.main_arg1))
      (m (c.tc.loc Kernel16Ideal.main_arg2))
      (m (c.tc.loc Kernel16Ideal.main_arg3))
      (m (c.tc.loc Kernel16Ideal.main_arg4))
      (m (c.tc.loc Kernel16Ideal.main_arg5))
      (m (c.tc.loc Kernel16Ideal.main_arg6))
      (m (c.tc.loc Kernel16Ideal.main_arg7)), ?_, ?_⟩
  · refine (θ_run Kernel16Ideal.defs _ _).mono (fun r h c => ?_) (Kernel16Ideal.Value.run_blocks (F := Ideal) m ρ)
    obtain ⟨h0, ha⟩ := h c
    exact ⟨h0.trans (final_out m c), ha⟩
  · refine (θ_run Reference16Ideal.defs _ _).mono (fun r h c => ?_) (Reference16Ideal.Value.run (F := Ideal) m' ρ')
    obtain ⟨h0, ha⟩ := h c
    obtain ⟨b0, b1, b2, b3, b4, b5, b6, b7⟩ := hargs c
    refine ⟨h0.trans ?_, ha⟩
    · refine (Reference16Ideal.Read.val_main_v45_eq _ _ _ _ _ _ _ _).trans ?_
      rw [b0, b1, b2, b3, b4, b5, b6, b7]
      exact ref_out _ _ _ _ _ _ _ _

end Cert.MixF

end
-- ==== Proof.PrepMath.lean ====
/- Rows of heads of sixty-four columns, normalised and turned, and the three matrices a kernel takes them with: that of the
   heads, that of the turn and that which repeats the heads. -/
module

public import proofs.«01_k».proof.Proof.MixMath

@[expose] public section

noncomputable section

namespace Cert.Prep

open Idealize.ShloMosaic Idealize.ShloMosaic.TcCoe Idealize.ShloMosaic.Tactic
open Cert.Mix (rs ms rw' wt W64 Mat)

/-- Row widths made of whole heads. -/
class Heads (n : ℕ) : Prop where
  dvd : n % 64 = 0

instance : Heads 512 := ⟨rfl⟩
instance : Heads 128 := ⟨rfl⟩
instance : Heads 64 := ⟨rfl⟩

section
variable {n : ℕ} [hn : Heads n]

/-- A column's place in its head. -/
def lo (k : Fin n) : Fin 64 := ⟨k.val % 64, by omega⟩
/-- The column at a place of a column's head. -/
def cell (k : Fin n) (d : Fin 64) : Fin n := ⟨64 * (k.val / 64) + d.val, by have := hn.dvd; omega⟩
/-- A row's head of a column. -/
def sb (f : Fin n → EReal) (k : Fin n) (d : Fin 64) : EReal := f (cell k d)
/-- The column a turn takes to a column. -/
def pk (k : Fin n) : Fin n := ⟨if k.val % 32 < 16 then k.val + 16 else k.val - 16, by have := hn.dvd; split <;> omega⟩
/-- The sign it takes it with. -/
def sgn (k : Fin n) : EReal := if k.val % 32 < 16 then ((-1 : ℝ) : EReal) else ((1 : ℝ) : EReal)

/-- A normalised entry with its weight. -/
def nrm (x w : Fin n → EReal) (k : Fin n) : EReal := x k * rs W64 (sb x k) * w k
/-- The same, turned. -/
def rope (x w C S : Fin n → EReal) (k : Fin n) : EReal := nrm x w k * C k + nrm x w (pk k) * sgn k * S k

/-- The matrix of the heads. -/
def segm (j k : Fin n) : EReal := if j.val / 64 = k.val / 64 then ((64⁻¹ : ℝ) : EReal) else 0
/-- The matrix of the turn. -/
def rotm (j k : Fin n) : EReal := if j = pk k then sgn k else 0

omit hn in
/-- A sum against the matrix of the heads is a sum over the column's head. -/
theorem sum_segm [hn : Heads n] (f : Fin n → EReal) (k : Fin n) : ∑ j, f j * segm j k = ∑ d, sb f k d * ((64⁻¹ : ℝ) : EReal) := by
  have hk : k.val / 64 < n / 64 := by have := hn.dvd; omega
  rw [Cert.Attn.sum_blocks (n / 64) 64 n (by have := hn.dvd; omega), Finset.sum_eq_single (⟨k.val / 64, hk⟩ : Fin (n / 64))]
  · refine Finset.sum_congr rfl fun d _ => ?_
    unfold segm
    rw [if_pos (show (64 * (k.val / 64) + d.val) / 64 = k.val / 64 by omega)]
    rfl
  · intro h _ hne
    refine Finset.sum_eq_zero fun d _ => ?_
    unfold segm
    rw [if_neg (show ¬(64 * h.val + d.val) / 64 = k.val / 64 from fun e => hne (Fin.ext (by show h.val = k.val / 64; omega))), mul_zero]
  · exact fun h => absurd (Finset.mem_univ _) h

/-- The mean square of a column's head, as the product with the matrix of the heads takes it. -/
theorem ms_segm (f : Fin n → EReal) (k : Fin n) : ∑ j, f j * f j * segm j k + Ideal.ofBits .f32 0x358637BD#32 = ms W64 (sb f k) := by
  rw [sum_segm (fun j => f j * f j), Cert.Mix.sum_mul_coe _ _ (by norm_num)]
  unfold ms
  rw [Cert.Mix.dv Cert.Mix.w64 (by norm_num)]
  rfl

/-- A sum against one entry. -/
theorem sum_one {a : ℕ} (f : Fin a → EReal) (p : Fin a) (s : EReal) : ∑ j, f j * (if j = p then s else 0) = f p * s := by
  rw [Finset.sum_eq_single p]
  · rw [if_pos rfl]
  · intro j _ hj
    rw [if_neg hj, mul_zero]
  · exact fun h => absurd (Finset.mem_univ _) h

/-- A turn taken in two parts, the second of the differences of equal numbers. -/
theorem turn (y : Fin n → EReal) (hy : ∀ k, ∃ r : ℝ, y k = (r : EReal)) (k : Fin n) :
    ∑ j, y j * rotm j k + ∑ j, (y j - y j) * rotm j k = y (pk k) * sgn k := by
  have z : ∀ j, y j - y j = 0 := fun j => by
    obtain ⟨r, hr⟩ := hy j
    rw [hr, ← EReal.coe_sub, sub_self]; rfl
  simp only [z, zero_mul, Finset.sum_const_zero, add_zero]
  exact sum_one y (pk k) (sgn k)

/-- A normalised entry is real when the weight is. -/
theorem nrm_real (x w : Fin n → EReal) (hw : ∀ k, ∃ r : ℝ, w k = (r : EReal)) (k : Fin n) : ∃ r : ℝ, nrm x w k = (r : EReal) := by
  obtain ⟨a, ha⟩ := Cert.Mix.xr_real Cert.Mix.w64 (by norm_num) (sb x k) (lo k)
  obtain ⟨b, hb⟩ := hw k
  have e : sb x k (lo k) = x k := congrArg x (Fin.ext (by show 64 * (k.val / 64) + k.val % 64 = k.val; omega))
  rw [e] at ha
  exact ⟨a * b, by unfold nrm; rw [ha, hb, ← EReal.coe_mul]⟩
end

/-- The column of the key and value heads that a column of the repeated heads copies. -/
def rp (k : Fin 512) : Fin 128 := ⟨64 * (k.val / 256) + k.val % 64, by omega⟩
/-- The matrix that repeats them. -/
def repm (j : Fin 128) (k : Fin 512) : EReal := if j = rp k then ((1 : ℝ) : EReal) else 0

theorem rep_sum (f : Fin 128 → EReal) (k : Fin 512) : ∑ j, f j * repm j k = f (rp k) := by
  refine (sum_one f (rp k) ((1 : ℝ) : EReal)).trans ?_
  rw [EReal.coe_one, mul_one]

/-- A row's queries, keys and values. -/
def qc (x : Mat 4096 2560) (r : Fin 4096) (k : Fin 512) : EReal := x (ix2 r ⟨k.val, by omega⟩)
def kc (x : Mat 4096 2560) (r : Fin 4096) (k : Fin 128) : EReal := x (ix2 r ⟨512 + k.val, by omega⟩)
def vc (x : Mat 4096 2560) (r : Fin 4096) (k : Fin 128) : EReal := x (ix2 r ⟨640 + k.val, by omega⟩)
/-- A row of a table, over the heads. -/
def tb {n : ℕ} (x : Mat 2048 64) (r : Fin 4096) (k : Fin n) : EReal := x (ix2 ⟨r.val % 2048, by omega⟩ ⟨k.val % 64, by omega⟩)
/-- An eighth. -/
abbrev w8 : EReal := Ideal.ofBits .f32 0x3E000000#32

section
variable (a0 : Mat 4096 2560) (a1 a2 : Mat 2048 64) (a3 : Mat 1 512) (a4 : Mat 1 128)
/-- The queries, turned and scaled. -/
def totQ : (⟨2, ![4096, 512]⟩ : Shape).Idx → EReal := fun i => rope (qc a0 (i 0)) (wt a3) (tb a1 (i 0)) (tb a2 (i 0)) (i 1) * w8
/-- The keys, turned and repeated. -/
def totK : (⟨2, ![4096, 512]⟩ : Shape).Idx → EReal := fun i => rope (kc a0 (i 0)) (wt a4) (tb a1 (i 0)) (tb a2 (i 0)) (rp (i 1))
/-- The values, repeated. -/
def totV : (⟨2, ![4096, 512]⟩ : Shape).Idx → EReal := fun i => vc a0 (i 0) (rp (i 1))
end

end Cert.Prep

end
-- ==== Proof.PrepRef.lean ====
/- The queries, keys and values of a projected row, ready for the attention: heads normalised and turned, the keys' and values' heads repeated. -/
module

public import proofs.«01_k».proof.Proof.PrepMath
public import proofs.«01_k».proof.Proof.Gen.Reference17Ideal.Run
public import proofs.«01_k».proof.Proof.Gen.Reference17Ideal.Read
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Prep

open Idealize.ShloMosaic Idealize.ShloMosaic.TcCoe Idealize.ShloMosaic.Tactic
open Idealize.SL.Sem
open Cert.Mix (rs ms rw' wt W64 Mat)

section
open Cert.Reference17Ideal Cert.Reference17Ideal.Gen Cert.Reference17Ideal.Read

/-- Row `s` of sequence `b`. -/
def rb (b : Fin 2) (s : Fin 2048) : Fin 4096 := ⟨2048 * b.val + s.val, by omega⟩

/-- The column of a place of a head, of 8. -/
def at512 (h : Fin 8) (d : Fin 64) : Fin 512 := ⟨64 * h.val + d.val, by omega⟩
theorem cell512 (h : Fin 8) (d e : Fin 64) : cell (at512 h d) e = at512 h e := Fin.ext (by show 64 * ((64 * h.val + d.val) / 64) + e.val = 64 * h.val + e.val; omega)
theorem pk512 (h : Fin 8) (d : Fin 64) : at512 h (pk d) = pk (at512 h d) := Fin.ext (by
  show 64 * h.val + (if d.val % 32 < 16 then d.val + 16 else d.val - 16)
    = if (64 * h.val + d.val) % 32 < 16 then 64 * h.val + d.val + 16 else 64 * h.val + d.val - 16
  split <;> split <;> omega)
theorem sgn512 (h : Fin 8) (d : Fin 64) : sgn (at512 h d) = sgn d := by
  unfold sgn
  rw [show (at512 h d).val % 32 = d.val % 32 by show (64 * h.val + d.val) % 32 = d.val % 32; omega]
theorem sum512 (s : FVec Ideal S2x2048x8x64 .f32) (b : Fin 2) (r : Fin 2048) (h : Fin 8) :
    Host.reduceAdd s (constant S_ .f32 0x00000000#32) reducesTo_S2x2048x8x64_S2x2048x8_d3 h_S_ (ix3 b r h) = ∑ k : Fin 64, s (ix4 b r h k) := by
  pointwise []

section
variable (x0 : FVec Ideal S4096x2560 .f32) (x1 x2 : FVec Ideal S2048x64 .f32) (x3 : FVec Ideal S1x512 .f32)

theorem v3_at (b : Fin 2) (s : Fin 2048) (h : Fin 8) (d : Fin 64) : val_main_v3 (F := Ideal) x0 (ix4 b s h d) = qc x0 (rb b s) (at512 h d) := by
  unfold val_main_v3 val_main_v0
  pointwise []
  refine congrArg x0 ?_
  funext a; apply Fin.ext
  match a with
  | ⟨0, _⟩ => show b.val * 2048 + s.val = 2048 * b.val + s.val; omega
  | ⟨1, _⟩ => show (h.val * 64 + d.val) = (64 * h.val + d.val); omega
theorem v4_at (h : Fin 8) (d : Fin 64) : val_main_v4 (F := Ideal) x3 (ix2 h d) = wt x3 (at512 h d) := by
  unfold val_main_v4
  pointwise []
  refine congrArg x3 ?_
  funext a; apply Fin.ext
  match a with
  | ⟨0, _⟩ => rfl
  | ⟨1, _⟩ => show h.val * 64 + d.val = 64 * h.val + d.val; omega

/-- The heads, normalised. -/
theorem v17_at (b : Fin 2) (s : Fin 2048) (h : Fin 8) (d : Fin 64) :
    val_main_v17 (F := Ideal) x0 x3 (ix4 b s h d) = nrm (qc x0 (rb b s)) (wt x3) (at512 h d) := by
  have e : ∀ b s h, val_main_v6 (F := Ideal) x0 (ix3 b s h) = ∑ d, qc x0 (rb b s) (at512 h d) * qc x0 (rb b s) (at512 h d) := fun b s h => by
    refine (sum512 (val_main_v5 (F := Ideal) x0) b s h).trans ?_
    simp only [val_main_v5_apply, v3_at]
    rfl
  unfold nrm sb
  simp only [cell512]
  unfold val_main_v17 val_main_v16 val_main_v15 val_main_v14 val_main_v13 val_main_v12 val_main_v11 val_main_v10 val_main_v9 val_main_v8 val_main_v7 val_main_cst_0 val_main_cst_1
  pointwise []
  simp only [e, v3_at, v4_at]
  rfl

/-- The same, each entry another's of its head. -/
theorem v24_at (b : Fin 2) (s : Fin 2048) (h : Fin 8) (d : Fin 64) :
    val_main_v24 (F := Ideal) x0 x3 (ix4 b s h d) = nrm (qc x0 (rb b s)) (wt x3) (pk (at512 h d)) * sgn (at512 h d) := by
  rw [← pk512, sgn512, ← v17_at]
  unfold val_main_v24 val_main_v23 val_main_v22 val_main_v21 val_main_v20 val_main_v19 val_main_v18
  pointwise []
  generalize val_main_v17 (F := Ideal) x0 x3 = y
  have hd := d.isLt
  have ng : ∀ a : EReal, -a = a * ((-1 : ℝ) : EReal) := fun a => by rw [EReal.coe_neg, EReal.coe_one, mul_neg, mul_one]
  have g : ∀ p q : S2x2048x8x64.Idx, (∀ a, (p a).val = (q a).val) → y p = y q := fun p q e => congrArg y (funext fun a => Fin.ext (e a))
  by_cases h1 : d.val < 16
  · rw [dif_pos h1, show sgn d = ((-1 : ℝ) : EReal) from if_pos (by omega)]
    refine (ng _).trans (congrArg (· * _) (g _ _ fun a => ?_))
    match a with
    | ⟨0, _⟩ => rfl
    | ⟨1, _⟩ => rfl
    | ⟨2, _⟩ => rfl
    | ⟨3, _⟩ => show 16 + d.val = if d.val % 32 < 16 then d.val + 16 else d.val - 16; rw [if_pos (by omega)]; omega
  rw [dif_neg h1]
  by_cases h2 : d.val - 16 < 16
  · rw [dif_pos h2, show sgn d = ((1 : ℝ) : EReal) from if_neg (by omega), EReal.coe_one, mul_one]
    refine g _ _ fun a => ?_
    match a with
    | ⟨0, _⟩ => rfl
    | ⟨1, _⟩ => rfl
    | ⟨2, _⟩ => rfl
    | ⟨3, _⟩ => show d.val - 16 = if d.val % 32 < 16 then d.val + 16 else d.val - 16; rw [if_neg (by omega)]
  rw [dif_neg h2]
  by_cases h3 : d.val - 16 - 16 < 16
  · rw [dif_pos h3, show sgn d = ((-1 : ℝ) : EReal) from if_pos (by omega)]
    refine (ng _).trans (congrArg (· * _) (g _ _ fun a => ?_))
    match a with
    | ⟨0, _⟩ => rfl
    | ⟨1, _⟩ => rfl
    | ⟨2, _⟩ => rfl
    | ⟨3, _⟩ => show 48 + (d.val - 16 - 16) = if d.val % 32 < 16 then d.val + 16 else d.val - 16; rw [if_pos (by omega)]; omega
  · rw [dif_neg h3, show sgn d = ((1 : ℝ) : EReal) from if_neg (by omega), EReal.coe_one, mul_one]
    refine g _ _ fun a => ?_
    match a with
    | ⟨0, _⟩ => rfl
    | ⟨1, _⟩ => rfl
    | ⟨2, _⟩ => rfl
    | ⟨3, _⟩ => show 32 + (d.val - 16 - 16 - 16) = if d.val % 32 < 16 then d.val + 16 else d.val - 16; rw [if_neg (by omega)]; omega

/-- A table's entry at a row of a sequence. -/
theorem tb512_at (x : FVec Ideal S2048x64 .f32) (b : Fin 2) (s : Fin 2048) (h : Fin 8) (d : Fin 64) : tb x (rb b s) (at512 h d) = x (ix2 s d) := by
  refine congrArg x (funext fun a => Fin.ext ?_)
  match a with
  | ⟨0, _⟩ => show (2048 * b.val + s.val) % 2048 = s.val; omega
  | ⟨1, _⟩ => show (64 * h.val + d.val) % 64 = d.val; omega

/-- The heads, turned. -/
theorem v31_at (b : Fin 2) (s : Fin 2048) (h : Fin 8) (d : Fin 64) : val_main_v31 (F := Ideal) x0 x1 x2 x3 (ix4 b s h d)
    = rope (qc x0 (rb b s)) (wt x3) (tb x1 (rb b s)) (tb x2 (rb b s)) (at512 h d) := by
  unfold rope
  rw [tb512_at, tb512_at, ← v17_at, ← v24_at]
  unfold val_main_v31 val_main_v30 val_main_v29 val_main_v28 val_main_v27 val_main_v26 val_main_v25
  pointwise []
  try rfl
end

/-- The column of a place of a head, of 2. -/
def at128 (h : Fin 2) (d : Fin 64) : Fin 128 := ⟨64 * h.val + d.val, by omega⟩
theorem cell128 (h : Fin 2) (d e : Fin 64) : cell (at128 h d) e = at128 h e := Fin.ext (by show 64 * ((64 * h.val + d.val) / 64) + e.val = 64 * h.val + e.val; omega)
theorem pk128 (h : Fin 2) (d : Fin 64) : at128 h (pk d) = pk (at128 h d) := Fin.ext (by
  show 64 * h.val + (if d.val % 32 < 16 then d.val + 16 else d.val - 16)
    = if (64 * h.val + d.val) % 32 < 16 then 64 * h.val + d.val + 16 else 64 * h.val + d.val - 16
  split <;> split <;> omega)
theorem sgn128 (h : Fin 2) (d : Fin 64) : sgn (at128 h d) = sgn d := by
  unfold sgn
  rw [show (at128 h d).val % 32 = d.val % 32 by show (64 * h.val + d.val) % 32 = d.val % 32; omega]
theorem sum128 (s : FVec Ideal S2x2048x2x64 .f32) (b : Fin 2) (r : Fin 2048) (h : Fin 2) :
    Host.reduceAdd s (constant S_ .f32 0x00000000#32) reducesTo_S2x2048x2x64_S2x2048x2_d3 h_S_ (ix3 b r h) = ∑ k : Fin 64, s (ix4 b r h k) := by
  pointwise []

section
variable (x0 : FVec Ideal S4096x2560 .f32) (x1 x2 : FVec Ideal S2048x64 .f32) (x4 : FVec Ideal S1x128 .f32)

theorem v34_at (b : Fin 2) (s : Fin 2048) (h : Fin 2) (d : Fin 64) : val_main_v34 (F := Ideal) x0 (ix4 b s h d) = kc x0 (rb b s) (at128 h d) := by
  unfold val_main_v34 val_main_v1
  pointwise []
  refine congrArg x0 ?_
  funext a; apply Fin.ext
  match a with
  | ⟨0, _⟩ => show b.val * 2048 + s.val = 2048 * b.val + s.val; omega
  | ⟨1, _⟩ => show 512 + (h.val * 64 + d.val) = 512 + (64 * h.val + d.val); omega
theorem v35_at (h : Fin 2) (d : Fin 64) : val_main_v35 (F := Ideal) x4 (ix2 h d) = wt x4 (at128 h d) := by
  unfold val_main_v35
  pointwise []
  refine congrArg x4 ?_
  funext a; apply Fin.ext
  match a with
  | ⟨0, _⟩ => rfl
  | ⟨1, _⟩ => show h.val * 64 + d.val = 64 * h.val + d.val; omega

/-- The heads, normalised. -/
theorem v48_at (b : Fin 2) (s : Fin 2048) (h : Fin 2) (d : Fin 64) :
    val_main_v48 (F := Ideal) x0 x4 (ix4 b s h d) = nrm (kc x0 (rb b s)) (wt x4) (at128 h d) := by
  have e : ∀ b s h, val_main_v37 (F := Ideal) x0 (ix3 b s h) = ∑ d, kc x0 (rb b s) (at128 h d) * kc x0 (rb b s) (at128 h d) := fun b s h => by
    refine (sum128 (val_main_v36 (F := Ideal) x0) b s h).trans ?_
    simp only [val_main_v36_apply, v34_at]
    rfl
  unfold nrm sb
  simp only [cell128]
  unfold val_main_v48 val_main_v47 val_main_v46 val_main_v45 val_main_v44 val_main_v43 val_main_v42 val_main_v41 val_main_v40 val_main_v39 val_main_v38 val_main_cst_4 val_main_cst_5
  pointwise []
  simp only [e, v34_at, v35_at]
  rfl

/-- The same, each entry another's of its head. -/
theorem v55_at (b : Fin 2) (s : Fin 2048) (h : Fin 2) (d : Fin 64) :
    val_main_v55 (F := Ideal) x0 x4 (ix4 b s h d) = nrm (kc x0 (rb b s)) (wt x4) (pk (at128 h d)) * sgn (at128 h d) := by
  rw [← pk128, sgn128, ← v48_at]
  unfold val_main_v55 val_main_v54 val_main_v53 val_main_v52 val_main_v51 val_main_v50 val_main_v49
  pointwise []
  generalize val_main_v48 (F := Ideal) x0 x4 = y
  have hd := d.isLt
  have ng : ∀ a : EReal, -a = a * ((-1 : ℝ) : EReal) := fun a => by rw [EReal.coe_neg, EReal.coe_one, mul_neg, mul_one]
  have g : ∀ p q : S2x2048x2x64.Idx, (∀ a, (p a).val = (q a).val) → y p = y q := fun p q e => congrArg y (funext fun a => Fin.ext (e a))
  by_cases h1 : d.val < 16
  · rw [dif_pos h1, show sgn d = ((-1 : ℝ) : EReal) from if_pos (by omega)]
    refine (ng _).trans (congrArg (· * _) (g _ _ fun a => ?_))
    match a with
    | ⟨0, _⟩ => rfl
    | ⟨1, _⟩ => rfl
    | ⟨2, _⟩ => rfl
    | ⟨3, _⟩ => show 16 + d.val = if d.val % 32 < 16 then d.val + 16 else d.val - 16; rw [if_pos (by omega)]; omega
  rw [dif_neg h1]
  by_cases h2 : d.val - 16 < 16
  · rw [dif_pos h2, show sgn d = ((1 : ℝ) : EReal) from if_neg (by omega), EReal.coe_one, mul_one]
    refine g _ _ fun a => ?_
    match a with
    | ⟨0, _⟩ => rfl
    | ⟨1, _⟩ => rfl
    | ⟨2, _⟩ => rfl
    | ⟨3, _⟩ => show d.val - 16 = if d.val % 32 < 16 then d.val + 16 else d.val - 16; rw [if_neg (by omega)]
  rw [dif_neg h2]
  by_cases h3 : d.val - 16 - 16 < 16
  · rw [dif_pos h3, show sgn d = ((-1 : ℝ) : EReal) from if_pos (by omega)]
    refine (ng _).trans (congrArg (· * _) (g _ _ fun a => ?_))
    match a with
    | ⟨0, _⟩ => rfl
    | ⟨1, _⟩ => rfl
    | ⟨2, _⟩ => rfl
    | ⟨3, _⟩ => show 48 + (d.val - 16 - 16) = if d.val % 32 < 16 then d.val + 16 else d.val - 16; rw [if_pos (by omega)]; omega
  · rw [dif_neg h3, show sgn d = ((1 : ℝ) : EReal) from if_neg (by omega), EReal.coe_one, mul_one]
    refine g _ _ fun a => ?_
    match a with
    | ⟨0, _⟩ => rfl
    | ⟨1, _⟩ => rfl
    | ⟨2, _⟩ => rfl
    | ⟨3, _⟩ => show 32 + (d.val - 16 - 16 - 16) = if d.val % 32 < 16 then d.val + 16 else d.val - 16; rw [if_neg (by omega)]; omega

/-- A table's entry at a row of a sequence. -/
theorem tb128_at (x : FVec Ideal S2048x64 .f32) (b : Fin 2) (s : Fin 2048) (h : Fin 2) (d : Fin 64) : tb x (rb b s) (at128 h d) = x (ix2 s d) := by
  refine congrArg x (funext fun a => Fin.ext ?_)
  match a with
  | ⟨0, _⟩ => show (2048 * b.val + s.val) % 2048 = s.val; omega
  | ⟨1, _⟩ => show (64 * h.val + d.val) % 64 = d.val; omega

/-- The heads, turned. -/
theorem v62_at (b : Fin 2) (s : Fin 2048) (h : Fin 2) (d : Fin 64) : val_main_v62 (F := Ideal) x0 x1 x2 x4 (ix4 b s h d)
    = rope (kc x0 (rb b s)) (wt x4) (tb x1 (rb b s)) (tb x2 (rb b s)) (at128 h d) := by
  unfold rope
  rw [tb128_at, tb128_at, ← v48_at, ← v55_at]
  unfold val_main_v62 val_main_v61 val_main_v60 val_main_v59 val_main_v58 val_main_v57 val_main_v56
  pointwise []
  try rfl
end

section
variable (x0 : FVec Ideal S4096x2560 .f32) (x1 x2 : FVec Ideal S2048x64 .f32) (x3 : FVec Ideal S1x512 .f32) (x4 : FVec Ideal S1x128 .f32)

/-- A row's sequence and its place there. -/
def sq (r : Fin 4096) : Fin 2 := ⟨r.val / 2048, by omega⟩
def pl (r : Fin 4096) : Fin 2048 := ⟨r.val % 2048, by omega⟩
theorem rb_sq (r : Fin 4096) : rb (sq r) (pl r) = r := Fin.ext (by show 2048 * (r.val / 2048) + r.val % 2048 = r.val; omega)

/-- The reference's queries. -/
theorem refQ : val_main_v68 (F := Ideal) x0 x1 x2 x3 = totQ x0 x1 x2 x3 := funext fun i => by
  obtain ⟨r, q, rfl⟩ : ∃ (r : Fin 4096) (q : Fin 512), i = ix2 r q :=
    ⟨i 0, i 1, funext fun a => by match a with | ⟨0, _⟩ => rfl | ⟨1, _⟩ => rfl⟩
  have e : at512 (⟨q.val / 64, by omega⟩ : Fin 8) ⟨q.val % 64, by omega⟩ = q := Fin.ext (by show 64 * (q.val / 64) + q.val % 64 = q.val; omega)
  have z := v31_at x0 x1 x2 x3 (sq r) (pl r) ⟨q.val / 64, by omega⟩ ⟨q.val % 64, by omega⟩
  rw [e, rb_sq] at z
  show _ = rope (qc x0 r) (wt x3) (tb x1 r) (tb x2 r) q * w8
  rw [← z]
  unfold val_main_v68 val_main_v67 val_main_v33 val_main_v32 val_main_cst_2
  pointwise []
  refine congrArg (fun p => val_main_v31 (F := Ideal) x0 x1 x2 x3 p * w8) (funext fun a => Fin.ext ?_)
  match a with
  | ⟨0, _⟩ => rfl
  | ⟨1, _⟩ => rfl
  | ⟨2, _⟩ => rfl
  | ⟨3, _⟩ => rfl

/-- The reference's keys. -/
theorem refK : val_main_v70 (F := Ideal) x0 x1 x2 x4 = totK x0 x1 x2 x4 := funext fun i => by
  obtain ⟨r, q, rfl⟩ : ∃ (r : Fin 4096) (q : Fin 512), i = ix2 r q :=
    ⟨i 0, i 1, funext fun a => by match a with | ⟨0, _⟩ => rfl | ⟨1, _⟩ => rfl⟩
  have e : at128 (⟨q.val / 256, by omega⟩ : Fin 2) ⟨q.val % 64, by omega⟩ = rp q := Fin.ext rfl
  have z := v62_at x0 x1 x2 x4 (sq r) (pl r) ⟨q.val / 256, by omega⟩ ⟨q.val % 64, by omega⟩
  rw [e, rb_sq] at z
  show _ = rope (kc x0 r) (wt x4) (tb x1 r) (tb x2 r) (rp q)
  rw [← z]
  unfold val_main_v70 val_main_v69 val_main_v64 val_main_v63
  pointwise []
  refine congrArg (fun p => val_main_v62 (F := Ideal) x0 x1 x2 x4 p) (funext fun a => Fin.ext ?_)
  match a with
  | ⟨0, _⟩ => rfl
  | ⟨1, _⟩ => rfl
  | ⟨2, _⟩ => rfl
  | ⟨3, _⟩ => rfl

/-- The reference's values. -/
theorem refV : val_main_v72 (F := Ideal) x0 = totV x0 := funext fun i => by
  obtain ⟨r, q, rfl⟩ : ∃ (r : Fin 4096) (q : Fin 512), i = ix2 r q :=
    ⟨i 0, i 1, funext fun a => by match a with | ⟨0, _⟩ => rfl | ⟨1, _⟩ => rfl⟩
  unfold val_main_v72 val_main_v71 val_main_v66 val_main_v65 val_main_v2
  pointwise []
  refine congrArg x0 (funext fun a => Fin.ext ?_)
  match a with
  | ⟨0, _⟩ => rfl
  | ⟨1, _⟩ => show 640 + (q.val / 256 * 64 + q.val % 64) = 640 + (64 * (q.val / 256) + q.val % 64); omega
end
end

end Cert.Prep

end
-- ==== Proof.Prep17.lean ====
/- The queries, keys and values of a projected row, ready for the attention: heads normalised and turned, the keys' and values' heads repeated. -/
module

public import proofs.«01_k».proof.Proof.PrepRef
public import proofs.«01_k».proof.Proof.Ffn
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Pre_finite17
public import proofs.«01_k».proof.Defs
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.Prep

open Idealize.ShloMosaic Idealize.ShloMosaic.TcCoe Idealize.ShloMosaic.Tactic
open Idealize.SL.Sem
open Cert.Mix (rs ms rw' wt W64 Mat)

/-- The precondition makes both weights real. -/
theorem real_of_pre (a0 : FVec Ideal Pre_finite17.S4096x2560 .f32) (a1 a2 : FVec Ideal Pre_finite17.S2048x64 .f32)
    (a3 : FVec Ideal Pre_finite17.S1x512 .f32) (a4 : FVec Ideal Pre_finite17.S1x128 .f32)
    (h : Pre_finite17.fn (F := Ideal) a0 a1 a2 a3 a4 = fun _ => 1#1) :
    (∀ k, ∃ y : ℝ, wt a3 k = (y : EReal)) ∧ ∀ k, ∃ y : ℝ, wt a4 k = (y : EReal) := by
  have e := congrFun h (Shape.Idx.first Pre_finite17.Facts.h_S_)
  simp only [Pre_finite17.fn] at e
  have q := IntOp.andi_eq_one.1 e
  exact ⟨fun k => ⟨_, Cert.Ffn.real_of_all a3 _ Cert.Ffn.inf_f32 _ _ _ _ q.1 (ix2 0 k)⟩,
    fun k => ⟨_, Cert.Ffn.real_of_all a4 _ Cert.Ffn.inf_f32 _ _ _ _ q.2 (ix2 0 k)⟩⟩

/-- Whether two numbers are equal, as a word of one bit. -/
theorem eqw (a b : ℕ) (ha : a < 4294967296) (hb : b < 4294967296) :
    IntOp.cmpi .eq (BitVec.ofNat 32 a) (BitVec.ofNat 32 b) = if a = b then 1#1 else 0#1 := by
  by_cases h : a = b
  · rw [if_pos h, h]
    simp [IntOp.cmpi]
  · rw [if_neg h]
    have ne : ¬(BitVec.ofNat 32 a = BitVec.ofNat 32 b) := fun e => h (by
      have := congrArg BitVec.toNat e
      simp only [BitVec.toNat_ofNat] at this
      omega)
    show BitVec.ofBool (BitVec.ofNat 32 a == BitVec.ofNat 32 b) = 0#1
    rw [beq_eq_false_iff_ne.mpr ne]
    rfl

/-- The word of minus one. -/
theorem neg_one_w : Ideal.ofBits .f32 0xBF800000#32 = ((-1 : ℝ) : EReal) := by
  simp [Ideal.ofBits, Ideal.ieee, -EReal.coe_mul]; norm_num

/-- A bit that decides, as a number. -/
theorem bit (p : Prop) [Decidable p] (a : EReal) :
    (FloatOps.uitofp (F := Ideal) .f32 (if p then 1#1 else 0#1 : BitVec 1)) * a = if p then a else 0 := by
  by_cases h : p
  · rw [if_pos h, if_pos h]
    show (((1#1 : BitVec 1).toNat : ℝ) : EReal) * a = a
    simp
  · rw [if_neg h, if_neg h]
    show (((0#1 : BitVec 1).toNat : ℝ) : EReal) * a = 0
    simp

section
open Cert.Kernel17Ideal Cert.Kernel17Ideal.Gen Cert.Kernel17Ideal.Value

/-- Two zeros. -/
theorem hz : (![0, 0] : Fin 2 → Nat) = fun _ => 0 := funext fun a => by fin_cases a <;> rfl

/-- There are 16 steps. -/
theorem ltN (t : Fin cfg0.N) : t.val < 16 := Nat.lt_of_lt_of_eq t.isLt N_0

/-- Row `r` of point `t`'s tile. -/
def row (t : Fin cfg0.N) (r : Fin 256) : Fin 4096 := ⟨256 * t.val + r.val, by have := ltN t; omega⟩
/-- The table's row of it. -/
def trow (t : Fin cfg0.N) (r : Fin 256) : Fin 2048 := ⟨256 * (t.val % 8) + r.val, by omega⟩

section
variable {F : FTy → Type} [FloatOps F]
/-- The head of each of 512 columns, as a number. -/
def hCol512 : IVec S512 32 := shapeCast S512 (iotaInDim S8x64 32 0) shapeCasts_S8x64_S512
/-- The matrix of the heads, as the host prepares it. -/
def hSeg512 : FVec F S512x512 .bf16 :=
  truncf .bf16 (mulf (uitofp .f32 (cmpi .eq
      (broadcastInDim S512x512 ![0, 1] bcast_S512x1_S512x512_0_1 (broadcastInDim S512x1 ![0] bcast_S512_S512x1_0 hCol512))
      (broadcastInDim S512x512 ![0, 1] bcast_S1x512_S512x512_0_1 (broadcastInDim S1x512 ![1] bcast_S512_S1x512_1 hCol512))))
    (broadcastInDim S512x512 ![] bcast_S_S512x512 (constant S_ .f32 0x3C800000#32))) bitsLt_bf16_f32
/-- Each column's coordinates in its groups of two times sixteen. -/
def hA512 : IVec S512 32 := shapeCast S512 (iotaInDim S16x2x16 32 0) shapeCasts_S16x2x16_S512
/-- A part of the host's arithmetic. -/
def hB512 : IVec S512 32 := shapeCast S512 (iotaInDim S16x2x16 32 1) shapeCasts_S16x2x16_S512
/-- A part of the host's arithmetic. -/
def hC512 : IVec S512 32 := shapeCast S512 (iotaInDim S16x2x16 32 2) shapeCasts_S16x2x16_S512
/-- The column the turn takes to each. -/
def hP512 : IVec S512 32 :=
  addi (addi (muli hA512 (broadcastInDim S512 ![] bcast_S_S512 (constantI S_ 32 32#32)))
    (muli (subi (broadcastInDim S512 ![] bcast_S_S512 (constantI S_ 32 1#32)) hB512) (broadcastInDim S512 ![] bcast_S_S512 (constantI S_ 32 16#32)))) hC512
/-- The sign it takes it with. -/
def hS512 : FVec F S512 .f32 :=
  select (cmpi .eq hB512 (broadcastInDim S512 ![] bcast_S_S512 (constantI S_ 32 0#32)))
    (broadcastInDim S512 ![] bcast_S_S512 (constant S_ .f32 0xBF800000#32)) (broadcastInDim S512 ![] bcast_S_S512 (constant S_ .f32 0x3F800000#32))
/-- The matrix of the turn. -/
def hRot512 : FVec F S512x512 .bf16 :=
  truncf .bf16 (mulf (uitofp .f32 (cmpi .eq (iotaInDim S512x512 32 0)
      (broadcastInDim S512x512 ![0, 1] bcast_S1x512_S512x512_0_1 (broadcastInDim S1x512 ![1] bcast_S512_S1x512_1 hP512))))
    (broadcastInDim S512x512 ![0, 1] bcast_S1x512_S512x512_0_1 (broadcastInDim S1x512 ![1] bcast_S512_S1x512_1 hS512))) bitsLt_bf16_f32
/-- A table over the heads. -/
def hTab512 (x : FVec F S2048x64 .f32) : FVec F S2048x512 .f32 :=
  shapeCast S2048x512 (broadcastInDim S1x2048x8x64 ![0, 1, 2, 3] bcast_S1x2048x1x64_S1x2048x8x64_0_1_2_3
    (shapeCast S1x2048x1x64 x shapeCasts_S2048x64_S1x2048x1x64)) shapeCasts_S1x2048x8x64_S2048x512

/-- The head of each of 128 columns, as a number. -/
def hCol128 : IVec S128 32 := shapeCast S128 (iotaInDim S2x64 32 0) shapeCasts_S2x64_S128
/-- The matrix of the heads, as the host prepares it. -/
def hSeg128 : FVec F S128x128 .bf16 :=
  truncf .bf16 (mulf (uitofp .f32 (cmpi .eq
      (broadcastInDim S128x128 ![0, 1] bcast_S128x1_S128x128_0_1 (broadcastInDim S128x1 ![0] bcast_S128_S128x1_0 hCol128))
      (broadcastInDim S128x128 ![0, 1] bcast_S1x128_S128x128_0_1 (broadcastInDim S1x128 ![1] bcast_S128_S1x128_1 hCol128))))
    (broadcastInDim S128x128 ![] bcast_S_S128x128 (constant S_ .f32 0x3C800000#32))) bitsLt_bf16_f32
/-- Each column's coordinates in its groups of two times sixteen. -/
def hA128 : IVec S128 32 := shapeCast S128 (iotaInDim S4x2x16 32 0) shapeCasts_S4x2x16_S128
/-- A part of the host's arithmetic. -/
def hB128 : IVec S128 32 := shapeCast S128 (iotaInDim S4x2x16 32 1) shapeCasts_S4x2x16_S128
/-- A part of the host's arithmetic. -/
def hC128 : IVec S128 32 := shapeCast S128 (iotaInDim S4x2x16 32 2) shapeCasts_S4x2x16_S128
/-- The column the turn takes to each. -/
def hP128 : IVec S128 32 :=
  addi (addi (muli hA128 (broadcastInDim S128 ![] bcast_S_S128 (constantI S_ 32 32#32)))
    (muli (subi (broadcastInDim S128 ![] bcast_S_S128 (constantI S_ 32 1#32)) hB128) (broadcastInDim S128 ![] bcast_S_S128 (constantI S_ 32 16#32)))) hC128
/-- The sign it takes it with. -/
def hS128 : FVec F S128 .f32 :=
  select (cmpi .eq hB128 (broadcastInDim S128 ![] bcast_S_S128 (constantI S_ 32 0#32)))
    (broadcastInDim S128 ![] bcast_S_S128 (constant S_ .f32 0xBF800000#32)) (broadcastInDim S128 ![] bcast_S_S128 (constant S_ .f32 0x3F800000#32))
/-- The matrix of the turn. -/
def hRot128 : FVec F S128x128 .bf16 :=
  truncf .bf16 (mulf (uitofp .f32 (cmpi .eq (iotaInDim S128x128 32 0)
      (broadcastInDim S128x128 ![0, 1] bcast_S1x128_S128x128_0_1 (broadcastInDim S1x128 ![1] bcast_S128_S1x128_1 hP128))))
    (broadcastInDim S128x128 ![0, 1] bcast_S1x128_S128x128_0_1 (broadcastInDim S1x128 ![1] bcast_S128_S1x128_1 hS128))) bitsLt_bf16_f32
/-- A table over the heads. -/
def hTab128 (x : FVec F S2048x64 .f32) : FVec F S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

/-- The place each repeated column copies. -/
def hR : IVec S512 32 :=
  addi (muli (shapeCast S512 (iotaInDim S2x4x64 32 0) shapeCasts_S2x4x64_S512) (broadcastInDim S512 ![] bcast_S_S512 (constantI S_ 32 64#32)))
    (shapeCast S512 (iotaInDim S2x4x64 32 2) shapeCasts_S2x4x64_S512)
/-- The matrix that repeats the heads. -/
def hRep : FVec F S128x512 .bf16 :=
  truncf .bf16 (uitofp .f32 (cmpi .eq (iotaInDim S128x512 32 0)
      (broadcastInDim S128x512 ![0, 1] bcast_S1x512_S128x512_0_1 (broadcastInDim S1x512 ![1] bcast_S512_S1x512_1 hR)))) bitsLt_bf16_f32

variable (m : (ℓ : Loc nD τ sig) → Buf (Elt F) ℓ) (c : Dev nD)

/-- What the host hands over. -/
theorem V_v22 : V m c main_v22 = hSeg512 := by
  show StableHlo.after _ _ (Proc.devRef .tc main_v22) = _
  simp only [List.flatten_cons, List.flatten_nil, List.append_nil, hostOps0, hostOps0_1, hostOps0_2, hostOps0_3, hostOps0_4, List.cons_append, List.nil_append]
  after_results_simp
  rfl

/-- What the host hands over. -/
theorem V_v33 : V m c main_v33 = hSeg128 := by
  show StableHlo.after _ _ (Proc.devRef .tc main_v33) = _
  simp only [List.flatten_cons, List.flatten_nil, List.append_nil, hostOps0, hostOps0_1, hostOps0_2, hostOps0_3, hostOps0_4, List.cons_append, List.nil_append]
  after_results_simp
  rfl

/-- What the host hands over. -/
theorem V_v62 : V m c main_v62 = hRot512 := by
  show StableHlo.after _ _ (Proc.devRef .tc main_v62) = _
  simp only [List.flatten_cons, List.flatten_nil, List.append_nil, hostOps0, hostOps0_1, hostOps0_2, hostOps0_3, hostOps0_4, List.cons_append, List.nil_append]
  after_results_simp
  rfl

/-- What the host hands over. -/
theorem V_v91 : V m c main_v91 = hRot128 := by
  show StableHlo.after _ _ (Proc.devRef .tc main_v91) = _
  simp only [List.flatten_cons, List.flatten_nil, List.append_nil, hostOps0, hostOps0_1, hostOps0_2, hostOps0_3, hostOps0_4, List.cons_append, List.nil_append]
  after_results_simp
  rfl

/-- What the host hands over. -/
theorem V_v104 : V m c main_v104 = hRep := by
  show StableHlo.after _ _ (Proc.devRef .tc main_v104) = _
  simp only [List.flatten_cons, List.flatten_nil, List.append_nil, hostOps0, hostOps0_1, hostOps0_2, hostOps0_3, hostOps0_4, List.cons_append, List.nil_append]
  after_results_simp
  rfl

/-- What the host hands over. -/
theorem V_v2 : V m c main_v2 = hTab512 (m (c.tc.loc main_arg1)) := by
  show StableHlo.after _ _ (Proc.devRef .tc main_v2) = _
  simp only [List.flatten_cons, List.flatten_nil, List.append_nil, hostOps0, hostOps0_1, hostOps0_2, hostOps0_3, hostOps0_4, List.cons_append, List.nil_append]
  after_results_simp
  rfl

/-- What the host hands over. -/
theorem V_v5 : V m c main_v5 = hTab512 (m (c.tc.loc main_arg2)) := by
  show StableHlo.after _ _ (Proc.devRef .tc main_v5) = _
  simp only [List.flatten_cons, List.flatten_nil, List.append_nil, hostOps0, hostOps0_1, hostOps0_2, hostOps0_3, hostOps0_4, List.cons_append, List.nil_append]
  after_results_simp
  rfl

/-- What the host hands over. -/
theorem V_v8 : V m c main_v8 = hTab128 (m (c.tc.loc main_arg1)) := by
  show StableHlo.after _ _ (Proc.devRef .tc main_v8) = _
  simp only [List.flatten_cons, List.flatten_nil, List.append_nil, hostOps0, hostOps0_1, hostOps0_2, hostOps0_3, hostOps0_4, List.cons_append, List.nil_append]
  after_results_simp
  rfl

/-- What the host hands over. -/
theorem V_v11 : V m c main_v11 = hTab128 (m (c.tc.loc main_arg2)) := by
  show StableHlo.after _ _ (Proc.devRef .tc main_v11) = _
  simp only [List.flatten_cons, List.flatten_nil, List.append_nil, hostOps0, hostOps0_1, hostOps0_2, hostOps0_3, hostOps0_4, List.cons_append, List.nil_append]
  after_results_simp
  rfl
end

/-- An entry of that list of the host. -/
theorem hCol512_at (k : Fin 512) : hCol512 (ix1 k) = BitVec.ofNat 32 (k.val / 64) := by
  unfold hCol512
  pointwise []
/-- The host's matrix of the heads at an entry. -/
theorem hSeg512_at (j k : Fin 512) : hSeg512 (F := Ideal) (ix2 j k) = segm j k := by
  unfold hSeg512
  pointwise []
  simp only [hCol512_at]
  rw [Cert.Mix.w64i, eqw _ _ (by omega) (by omega)]
  exact bit _ _
/-- An entry of that list of the host. -/
theorem hB512_at (k : Fin 512) : hB512 (ix1 k) = BitVec.ofNat 32 (k.val / 16 % 2) := by
  unfold hB512
  pointwise []
  try rfl
/-- An entry of that list of the host. -/
theorem hP512_at (k : Fin 512) : hP512 (ix1 k) = BitVec.ofNat 32 (pk k).val := by
  unfold hP512 hA512 hC512
  pointwise []
  simp only [hB512_at]
  revert k
  unfold pk
  decide +kernel
/-- An entry of that list of the host. -/
theorem hS512_at (k : Fin 512) : hS512 (F := Ideal) (ix1 k) = sgn k := by
  unfold hS512
  pointwise []
  simp only [hB512_at]
  rw [eqw (k.val / 16 % 2) 0 (by omega) (by omega), neg_one_w]
  unfold sgn
  by_cases e : k.val % 32 < 16
  · rw [if_pos e, if_pos (by omega)]
    rfl
  · rw [if_neg e, if_neg (by omega)]
    exact EReal.coe_one.symm
/-- The host's matrix of the turn at an entry. -/
theorem hRot512_at (j k : Fin 512) : hRot512 (F := Ideal) (ix2 j k) = rotm j k := by
  unfold hRot512
  pointwise []
  simp only [hP512_at, hS512_at]
  rw [eqw _ _ (by omega) (by omega)]
  refine (bit _ _).trans ?_
  unfold rotm
  simp only [Fin.ext_iff]
/-- The host's table at an entry. -/
theorem hTab512_at (x : FVec Ideal S2048x64 .f32) (r : Fin 2048) (k : Fin 512) : hTab512 x (ix2 r k) = x (ix2 r ⟨k.val % 64, by omega⟩) := by
  unfold hTab512
  pointwise []
  try rfl

/-- An entry of that list of the host. -/
theorem hCol128_at (k : Fin 128) : hCol128 (ix1 k) = BitVec.ofNat 32 (k.val / 64) := by
  unfold hCol128
  pointwise []
/-- The host's matrix of the heads at an entry. -/
theorem hSeg128_at (j k : Fin 128) : hSeg128 (F := Ideal) (ix2 j k) = segm j k := by
  unfold hSeg128
  pointwise []
  simp only [hCol128_at]
  rw [Cert.Mix.w64i, eqw _ _ (by omega) (by omega)]
  exact bit _ _
/-- An entry of that list of the host. -/
theorem hB128_at (k : Fin 128) : hB128 (ix1 k) = BitVec.ofNat 32 (k.val / 16 % 2) := by
  unfold hB128
  pointwise []
  try rfl
/-- An entry of that list of the host. -/
theorem hP128_at (k : Fin 128) : hP128 (ix1 k) = BitVec.ofNat 32 (pk k).val := by
  unfold hP128 hA128 hC128
  pointwise []
  simp only [hB128_at]
  revert k
  unfold pk
  decide +kernel
/-- An entry of that list of the host. -/
theorem hS128_at (k : Fin 128) : hS128 (F := Ideal) (ix1 k) = sgn k := by
  unfold hS128
  pointwise []
  simp only [hB128_at]
  rw [eqw (k.val / 16 % 2) 0 (by omega) (by omega), neg_one_w]
  unfold sgn
  by_cases e : k.val % 32 < 16
  · rw [if_pos e, if_pos (by omega)]
    rfl
  · rw [if_neg e, if_neg (by omega)]
    exact EReal.coe_one.symm
/-- The host's matrix of the turn at an entry. -/
theorem hRot128_at (j k : Fin 128) : hRot128 (F := Ideal) (ix2 j k) = rotm j k := by
  unfold hRot128
  pointwise []
  simp only [hP128_at, hS128_at]
  rw [eqw _ _ (by omega) (by omega)]
  refine (bit _ _).trans ?_
  unfold rotm
  simp only [Fin.ext_iff]
/-- The host's table at an entry. -/
theorem hTab128_at (x : FVec Ideal S2048x64 .f32) (r : Fin 2048) (k : Fin 128) : hTab128 x (ix2 r k) = x (ix2 r ⟨k.val % 64, by omega⟩) := by
  unfold hTab128
  pointwise []
  try rfl

/-- An entry of that list of the host. -/
theorem hR_at (k : Fin 512) : hR (ix1 k) = BitVec.ofNat 32 (rp k).val := by
  unfold hR
  pointwise []
  revert k
  unfold rp
  decide +kernel
/-- The host's matrix that repeats the heads at an entry. -/
theorem hRep_at (j : Fin 128) (k : Fin 512) : hRep (F := Ideal) (ix2 j k) = repm j k := by
  unfold hRep
  pointwise []
  simp only [hR_at]
  rw [eqw _ _ (by omega) (by omega)]
  have e := bit (j.val = (rp k).val) ((1 : ℝ) : EReal)
  rw [EReal.coe_one, mul_one] at e
  refine e.trans ?_
  unfold repm
  simp only [Fin.ext_iff, EReal.coe_one]

section
variable (x0 : Vec Ideal S256x512 .f32) (x1 x2 : Vec Ideal S256x128 .f32) (x3 x4 : Vec Ideal S256x512 .f32) (x5 x6 : Vec Ideal S256x128 .f32)
  (x7 : Vec Ideal S1x512 .f32) (x8 : Vec Ideal S1x128 .f32) (x9 : Vec Ideal S512x512 .bf16) (x10 : Vec Ideal S128x128 .bf16) (x11 : Vec Ideal S512x512 .bf16)
  (x12 : Vec Ideal S128x128 .bf16) (x13 : Vec Ideal S128x512 .bf16)

/-- A tile's queries. -/
theorem Q_at (h9 : ∀ j k, x9 (ix2 j k) = segm j k) (h11 : ∀ j k, x11 (ix2 j k) = rotm j k) (hw : ∀ k, ∃ y : ℝ, wt x7 k = (y : EReal)) (r : Fin 256) (k : Fin 512) :
    k0_pay1 x0 x9 x7 x3 x11 x4 (ix2 r k) = rope (rw' x0 r) (wt x7) (rw' x3 r) (rw' x4 r) k * w8 := by
  have z := turn (nrm (rw' x0 r) (wt x7)) (nrm_real _ _ hw) k
  unfold rope
  rw [← z]
  unfold nrm rs
  simp only [← ms_segm]
  pointwise [k0_pay1]
  simp only [shapeCast_self, h9, h11]
  rfl

/-- A tile's keys. -/
theorem K_at (h10 : ∀ j k, x10 (ix2 j k) = segm j k) (h12 : ∀ j k, x12 (ix2 j k) = rotm j k) (h13 : ∀ j k, x13 (ix2 j k) = repm j k)
    (hw : ∀ k, ∃ y : ℝ, wt x8 k = (y : EReal)) (r : Fin 256) (k : Fin 512) :
    k0_pay3 x1 (k0_pay2 x1) x10 x8 x5 x12 x6 x13 (ix2 r k) = rope (rw' x1 r) (wt x8) (rw' x5 r) (rw' x6 r) (rp k) := by
  have z := turn (nrm (rw' x1 r) (wt x8)) (nrm_real _ _ hw)
  rw [← rep_sum (rope (rw' x1 r) (wt x8) (rw' x5 r) (rw' x6 r)) k]
  unfold rope
  simp only [← z]
  unfold nrm rs
  simp only [← ms_segm]
  pointwise [k0_pay3, k0_pay2]
  simp only [shapeCast_self, h10, h12, h13]
  rfl

/-- A tile's values. -/
theorem V_at (h13 : ∀ j k, x13 (ix2 j k) = repm j k) (r : Fin 256) (k : Fin 512) : k0_pay4 x2 x13 (ix2 r k) = rw' x2 r (rp k) := by
  rw [← rep_sum (rw' x2 r) k]
  pointwise [k0_pay4]
  simp only [shapeCast_self, h13]
  rfl

/-- What a point leaves. -/
theorem out14_eq : out0_14 x0 x1 x2 x3 x4 x5 x6 x7 x8 x9 x10 x11 x12 x13 = k0_pay1 x0 x9 x7 x3 x11 x4 := by
  unfold out0_14
  simp only [View.ld_unit_zero (S := S256x512) hz, View.ld_unit_zero (S := S512x512) hz, View.ld_unit_zero (S := S1x512) hz]
  exact View.canon_unit_zero hz _ _
/-- The same for the next result. -/
theorem out15_eq : out0_15 x0 x1 x2 x3 x4 x5 x6 x7 x8 x9 x10 x11 x12 x13 = k0_pay3 x1 (k0_pay2 x1) x10 x8 x5 x12 x6 x13 := by
  unfold out0_15
  simp only [View.ld_unit_zero (S := S256x128) hz, View.ld_unit_zero (S := S128x128) hz, View.ld_unit_zero (S := S1x128) hz, View.ld_unit_zero (S := S128x512) hz]
  exact View.canon_unit_zero hz _ _
/-- The same for the next result. -/
theorem out16_eq : out0_16 x0 x1 x2 x3 x4 x5 x6 x7 x8 x9 x10 x11 x12 x13 = k0_pay4 x2 x13 := by
  unfold out0_16
  simp only [View.ld_unit_zero (S := S256x128) hz, View.ld_unit_zero (S := S128x512) hz]
  exact View.canon_unit_zero hz _ _
end

/-- Which block window 0 takes at a step. -/
theorem idx0 : ∀ t : Fin cfg0.N, win0_0.index t 0 = t.val ∧ win0_0.index t 1 = 0 :=
  (by decide +kernel : ∀ t : Fin grid0.N, _)

/-- Which block window 1 takes at a step. -/
theorem idx1 : ∀ t : Fin cfg0.N, win0_1.index t 0 = t.val ∧ win0_1.index t 1 = 4 :=
  (by decide +kernel : ∀ t : Fin grid0.N, _)

/-- Which block window 2 takes at a step. -/
theorem idx2 : ∀ t : Fin cfg0.N, win0_2.index t 0 = t.val ∧ win0_2.index t 1 = 5 :=
  (by decide +kernel : ∀ t : Fin grid0.N, _)

/-- Which block window 3 takes at a step. -/
theorem idx3 : ∀ t : Fin cfg0.N, win0_3.index t 0 = t.val % 8 ∧ win0_3.index t 1 = 0 :=
  (by decide +kernel : ∀ t : Fin grid0.N, _)

/-- Which block window 4 takes at a step. -/
theorem idx4 : ∀ t : Fin cfg0.N, win0_4.index t 0 = t.val % 8 ∧ win0_4.index t 1 = 0 :=
  (by decide +kernel : ∀ t : Fin grid0.N, _)

/-- Which block window 5 takes at a step. -/
theorem idx5 : ∀ t : Fin cfg0.N, win0_5.index t 0 = t.val % 8 ∧ win0_5.index t 1 = 0 :=
  (by decide +kernel : ∀ t : Fin grid0.N, _)

/-- Which block window 6 takes at a step. -/
theorem idx6 : ∀ t : Fin cfg0.N, win0_6.index t 0 = t.val % 8 ∧ win0_6.index t 1 = 0 :=
  (by decide +kernel : ∀ t : Fin grid0.N, _)

/-- Which block window 7 takes at a step. -/
theorem idx7 : ∀ t : Fin cfg0.N, win0_7.index t 0 = 0 ∧ win0_7.index t 1 = 0 :=
  (by decide +kernel : ∀ t : Fin grid0.N, _)

/-- Which block window 8 takes at a step. -/
theorem idx8 : ∀ t : Fin cfg0.N, win0_8.index t 0 = 0 ∧ win0_8.index t 1 = 0 :=
  (by decide +kernel : ∀ t : Fin grid0.N, _)

/-- Which block window 9 takes at a step. -/
theorem idx9 : ∀ t : Fin cfg0.N, win0_9.index t 0 = 0 ∧ win0_9.index t 1 = 0 :=
  (by decide +kernel : ∀ t : Fin grid0.N, _)

/-- Which block window 10 takes at a step. -/
theorem idx10 : ∀ t : Fin cfg0.N, win0_10.index t 0 = 0 ∧ win0_10.index t 1 = 0 :=
  (by decide +kernel : ∀ t : Fin grid0.N, _)

/-- Which block window 11 takes at a step. -/
theorem idx11 : ∀ t : Fin cfg0.N, win0_11.index t 0 = 0 ∧ win0_11.index t 1 = 0 :=
  (by decide +kernel : ∀ t : Fin grid0.N, _)

/-- Which block window 12 takes at a step. -/
theorem idx12 : ∀ t : Fin cfg0.N, win0_12.index t 0 = 0 ∧ win0_12.index t 1 = 0 :=
  (by decide +kernel : ∀ t : Fin grid0.N, _)

/-- Which block window 13 takes at a step. -/
theorem idx13 : ∀ t : Fin cfg0.N, win0_13.index t 0 = 0 ∧ win0_13.index t 1 = 0 :=
  (by decide +kernel : ∀ t : Fin grid0.N, _)

/-- Which block window 14 takes at a step. -/
theorem idx14 : ∀ t : Fin cfg0.N, win0_14.index t 0 = t.val ∧ win0_14.index t 1 = 0 :=
  (by decide +kernel : ∀ t : Fin grid0.N, _)

/-- Which block window 15 takes at a step. -/
theorem idx15 : ∀ t : Fin cfg0.N, win0_15.index t 0 = t.val ∧ win0_15.index t 1 = 0 :=
  (by decide +kernel : ∀ t : Fin grid0.N, _)

/-- Which block window 16 takes at a step. -/
theorem idx16 : ∀ t : Fin cfg0.N, win0_16.index t 0 = t.val ∧ win0_16.index t 1 = 0 :=
  (by decide +kernel : ∀ t : Fin grid0.N, _)

variable (m : (ℓ : Loc nD τ sig) → Buf (Elt Ideal) ℓ) (c : Dev nD)

/-- An entry of the block of window 0. -/
theorem ib0 (t : Fin cfg0.N) (p0 : Fin 256) (p1 : Fin 512) : (iblk m c 0 t : Vec Ideal S256x512 .f32) (ix2 p0 p1) = qc (m (c.tc.loc main_arg0)) (row t p0) p1 := by
  unfold iblk; rw [View.read_apply]
  have e : (((cfg0.win 0).blk t).view.emb (ix2 p0 p1)) = ix2 (row t p0) (⟨p1.val, by omega⟩ : Fin 2560) := by
    funext a; apply Fin.ext
    match a with
    | ⟨0, _⟩ => show win0_0.index t 0 * 256 + 1 * p0.val = 256 * t.val + p0.val; rw [(idx0 t).1]; omega
    | ⟨1, _⟩ => show win0_0.index t 1 * 512 + 1 * p1.val = p1.val; rw [(idx0 t).2]; omega
  exact (congrFun (V_main_arg0 m c) _).trans (congrArg _ e)

/-- An entry of the block of window 1. -/
theorem ib1 (t : Fin cfg0.N) (p0 : Fin 256) (p1 : Fin 128) : (iblk m c 1 t : Vec Ideal S256x128 .f32) (ix2 p0 p1) = kc (m (c.tc.loc main_arg0)) (row t p0) p1 := by
  unfold iblk; rw [View.read_apply]
  have e : (((cfg0.win 1).blk t).view.emb (ix2 p0 p1)) = ix2 (row t p0) (⟨512 + p1.val, by omega⟩ : Fin 2560) := by
    funext a; apply Fin.ext
    match a with
    | ⟨0, _⟩ => show win0_1.index t 0 * 256 + 1 * p0.val = 256 * t.val + p0.val; rw [(idx1 t).1]; omega
    | ⟨1, _⟩ => show win0_1.index t 1 * 128 + 1 * p1.val = 512 + p1.val; rw [(idx1 t).2]; omega
  exact (congrFun (V_main_arg0 m c) _).trans (congrArg _ e)

/-- An entry of the block of window 2. -/
theorem ib2 (t : Fin cfg0.N) (p0 : Fin 256) (p1 : Fin 128) : (iblk m c 2 t : Vec Ideal S256x128 .f32) (ix2 p0 p1) = vc (m (c.tc.loc main_arg0)) (row t p0) p1 := by
  unfold iblk; rw [View.read_apply]
  have e : (((cfg0.win 2).blk t).view.emb (ix2 p0 p1)) = ix2 (row t p0) (⟨640 + p1.val, by omega⟩ : Fin 2560) := by
    funext a; apply Fin.ext
    match a with
    | ⟨0, _⟩ => show win0_2.index t 0 * 256 + 1 * p0.val = 256 * t.val + p0.val; rw [(idx2 t).1]; omega
    | ⟨1, _⟩ => show win0_2.index t 1 * 128 + 1 * p1.val = 640 + p1.val; rw [(idx2 t).2]; omega
  exact (congrFun (V_main_arg0 m c) _).trans (congrArg _ e)

/-- An entry of the block of window 3. -/
theorem ib3 (t : Fin cfg0.N) (p0 : Fin 256) (p1 : Fin 512) : (iblk m c 3 t : Vec Ideal S256x512 .f32) (ix2 p0 p1) = tb (m (c.tc.loc main_arg1)) (row t p0) p1 := by
  unfold iblk; rw [View.read_apply]
  have e : (((cfg0.win 3).blk t).view.emb (ix2 p0 p1)) = ix2 (trow t p0) p1 := by
    funext a; apply Fin.ext
    match a with
    | ⟨0, _⟩ => show win0_3.index t 0 * 256 + 1 * p0.val = 256 * (t.val % 8) + p0.val; rw [(idx3 t).1]; omega
    | ⟨1, _⟩ => show win0_3.index t 1 * 512 + 1 * p1.val = p1.val; rw [(idx3 t).2]; omega
  have er : trow t p0 = ⟨(row t p0).val % 2048, by omega⟩ := Fin.ext (by show 256 * (t.val % 8) + p0.val = (256 * t.val + p0.val) % 2048; omega)
  refine (congrFun (V_v2 m c) _).trans ((congrArg _ e).trans ((hTab512_at _ _ _).trans ?_))
  unfold tb
  rw [er]

/-- An entry of the block of window 4. -/
theorem ib4 (t : Fin cfg0.N) (p0 : Fin 256) (p1 : Fin 512) : (iblk m c 4 t : Vec Ideal S256x512 .f32) (ix2 p0 p1) = tb (m (c.tc.loc main_arg2)) (row t p0) p1 := by
  unfold iblk; rw [View.read_apply]
  have e : (((cfg0.win 4).blk t).view.emb (ix2 p0 p1)) = ix2 (trow t p0) p1 := by
    funext a; apply Fin.ext
    match a with
    | ⟨0, _⟩ => show win0_4.index t 0 * 256 + 1 * p0.val = 256 * (t.val % 8) + p0.val; rw [(idx4 t).1]; omega
    | ⟨1, _⟩ => show win0_4.index t 1 * 512 + 1 * p1.val = p1.val; rw [(idx4 t).2]; omega
  have er : trow t p0 = ⟨(row t p0).val % 2048, by omega⟩ := Fin.ext (by show 256 * (t.val % 8) + p0.val = (256 * t.val + p0.val) % 2048; omega)
  refine (congrFun (V_v5 m c) _).trans ((congrArg _ e).trans ((hTab512_at _ _ _).trans ?_))
  unfold tb
  rw [er]

/-- An entry of the block of window 5. -/
theorem ib5 (t : Fin cfg0.N) (p0 : Fin 256) (p1 : Fin 128) : (iblk m c 5 t : Vec Ideal S256x128 .f32) (ix2 p0 p1) = tb (m (c.tc.loc main_arg1)) (row t p0) p1 := by
  unfold iblk; rw [View.read_apply]
  have e : (((cfg0.win 5).blk t).view.emb (ix2 p0 p1)) = ix2 (trow t p0) p1 := by
    funext a; apply Fin.ext
    match a with
    | ⟨0, _⟩ => show win0_5.index t 0 * 256 + 1 * p0.val = 256 * (t.val % 8) + p0.val; rw [(idx5 t).1]; omega
    | ⟨1, _⟩ => show win0_5.index t 1 * 128 + 1 * p1.val = p1.val; rw [(idx5 t).2]; omega
  have er : trow t p0 = ⟨(row t p0).val % 2048, by omega⟩ := Fin.ext (by show 256 * (t.val % 8) + p0.val = (256 * t.val + p0.val) % 2048; omega)
  refine (congrFun (V_v8 m c) _).trans ((congrArg _ e).trans ((hTab128_at _ _ _).trans ?_))
  unfold tb
  rw [er]

/-- An entry of the block of window 6. -/
theorem ib6 (t : Fin cfg0.N) (p0 : Fin 256) (p1 : Fin 128) : (iblk m c 6 t : Vec Ideal S256x128 .f32) (ix2 p0 p1) = tb (m (c.tc.loc main_arg2)) (row t p0) p1 := by
  unfold iblk; rw [View.read_apply]
  have e : (((cfg0.win 6).blk t).view.emb (ix2 p0 p1)) = ix2 (trow t p0) p1 := by
    funext a; apply Fin.ext
    match a with
    | ⟨0, _⟩ => show win0_6.index t 0 * 256 + 1 * p0.val = 256 * (t.val % 8) + p0.val; rw [(idx6 t).1]; omega
    | ⟨1, _⟩ => show win0_6.index t 1 * 128 + 1 * p1.val = p1.val; rw [(idx6 t).2]; omega
  have er : trow t p0 = ⟨(row t p0).val % 2048, by omega⟩ := Fin.ext (by show 256 * (t.val % 8) + p0.val = (256 * t.val + p0.val) % 2048; omega)
  refine (congrFun (V_v11 m c) _).trans ((congrArg _ e).trans ((hTab128_at _ _ _).trans ?_))
  unfold tb
  rw [er]

/-- An entry of the block of window 7. -/
theorem ib7 (t : Fin cfg0.N) (p0 : Fin 1) (p1 : Fin 512) : (iblk m c 7 t : Vec Ideal S1x512 .f32) (ix2 p0 p1) = wt (m (c.tc.loc main_arg3)) p1 := by
  unfold iblk; rw [View.read_apply]
  have e : (((cfg0.win 7).blk t).view.emb (ix2 p0 p1)) = ix2 (0 : Fin 1) p1 := by
    funext a; apply Fin.ext
    match a with
    | ⟨0, _⟩ => show win0_7.index t 0 * 1 + 1 * p0.val = 0; rw [(idx7 t).1]; omega
    | ⟨1, _⟩ => show win0_7.index t 1 * 512 + 1 * p1.val = p1.val; rw [(idx7 t).2]; omega
  exact (congrFun (V_main_arg3 m c) _).trans (congrArg _ e)

/-- An entry of the block of window 8. -/
theorem ib8 (t : Fin cfg0.N) (p0 : Fin 1) (p1 : Fin 128) : (iblk m c 8 t : Vec Ideal S1x128 .f32) (ix2 p0 p1) = wt (m (c.tc.loc main_arg4)) p1 := by
  unfold iblk; rw [View.read_apply]
  have e : (((cfg0.win 8).blk t).view.emb (ix2 p0 p1)) = ix2 (0 : Fin 1) p1 := by
    funext a; apply Fin.ext
    match a with
    | ⟨0, _⟩ => show win0_8.index t 0 * 1 + 1 * p0.val = 0; rw [(idx8 t).1]; omega
    | ⟨1, _⟩ => show win0_8.index t 1 * 128 + 1 * p1.val = p1.val; rw [(idx8 t).2]; omega
  exact (congrFun (V_main_arg4 m c) _).trans (congrArg _ e)

/-- An entry of the block of window 9. -/
theorem ib9 (t : Fin cfg0.N) (p0 : Fin 512) (p1 : Fin 512) : (iblk m c 9 t : Vec Ideal S512x512 .bf16) (ix2 p0 p1) = segm p0 p1 := by
  unfold iblk; rw [View.read_apply]
  have e : (((cfg0.win 9).blk t).view.emb (ix2 p0 p1)) = ix2 p0 p1 := by
    funext a; apply Fin.ext
    match a with
    | ⟨0, _⟩ => show win0_9.index t 0 * 512 + 1 * p0.val = p0.val; rw [(idx9 t).1]; omega
    | ⟨1, _⟩ => show win0_9.index t 1 * 512 + 1 * p1.val = p1.val; rw [(idx9 t).2]; omega
  exact (congrFun (V_v22 m c) _).trans ((congrArg _ e).trans (hSeg512_at _ _))

/-- An entry of the block of window 10. -/
theorem ib10 (t : Fin cfg0.N) (p0 : Fin 128) (p1 : Fin 128) : (iblk m c 10 t : Vec Ideal S128x128 .bf16) (ix2 p0 p1) = segm p0 p1 := by
  unfold iblk; rw [View.read_apply]
  have e : (((cfg0.win 10).blk t).view.emb (ix2 p0 p1)) = ix2 p0 p1 := by
    funext a; apply Fin.ext
    match a with
    | ⟨0, _⟩ => show win0_10.index t 0 * 128 + 1 * p0.val = p0.val; rw [(idx10 t).1]; omega
    | ⟨1, _⟩ => show win0_10.index t 1 * 128 + 1 * p1.val = p1.val; rw [(idx10 t).2]; omega
  exact (congrFun (V_v33 m c) _).trans ((congrArg _ e).trans (hSeg128_at _ _))

/-- An entry of the block of window 11. -/
theorem ib11 (t : Fin cfg0.N) (p0 : Fin 512) (p1 : Fin 512) : (iblk m c 11 t : Vec Ideal S512x512 .bf16) (ix2 p0 p1) = rotm p0 p1 := by
  unfold iblk; rw [View.read_apply]
  have e : (((cfg0.win 11).blk t).view.emb (ix2 p0 p1)) = ix2 p0 p1 := by
    funext a; apply Fin.ext
    match a with
    | ⟨0, _⟩ => show win0_11.index t 0 * 512 + 1 * p0.val = p0.val; rw [(idx11 t).1]; omega
    | ⟨1, _⟩ => show win0_11.index t 1 * 512 + 1 * p1.val = p1.val; rw [(idx11 t).2]; omega
  exact (congrFun (V_v62 m c) _).trans ((congrArg _ e).trans (hRot512_at _ _))

/-- An entry of the block of window 12. -/
theorem ib12 (t : Fin cfg0.N) (p0 : Fin 128) (p1 : Fin 128) : (iblk m c 12 t : Vec Ideal S128x128 .bf16) (ix2 p0 p1) = rotm p0 p1 := by
  unfold iblk; rw [View.read_apply]
  have e : (((cfg0.win 12).blk t).view.emb (ix2 p0 p1)) = ix2 p0 p1 := by
    funext a; apply Fin.ext
    match a with
    | ⟨0, _⟩ => show win0_12.index t 0 * 128 + 1 * p0.val = p0.val; rw [(idx12 t).1]; omega
    | ⟨1, _⟩ => show win0_12.index t 1 * 128 + 1 * p1.val = p1.val; rw [(idx12 t).2]; omega
  exact (congrFun (V_v91 m c) _).trans ((congrArg _ e).trans (hRot128_at _ _))

/-- An entry of the block of window 13. -/
theorem ib13 (t : Fin cfg0.N) (p0 : Fin 128) (p1 : Fin 512) : (iblk m c 13 t : Vec Ideal S128x512 .bf16) (ix2 p0 p1) = repm p0 p1 := by
  unfold iblk; rw [View.read_apply]
  have e : (((cfg0.win 13).blk t).view.emb (ix2 p0 p1)) = ix2 p0 p1 := by
    funext a; apply Fin.ext
    match a with
    | ⟨0, _⟩ => show win0_13.index t 0 * 128 + 1 * p0.val = p0.val; rw [(idx13 t).1]; omega
    | ⟨1, _⟩ => show win0_13.index t 1 * 512 + 1 * p1.val = p1.val; rw [(idx13 t).2]; omega
  exact (congrFun (V_v104 m c) _).trans ((congrArg _ e).trans (hRep_at _ _))

variable (hq : ∀ k, ∃ y : ℝ, wt (m (c.tc.loc main_arg3)) k = (y : EReal)) (hk : ∀ k, ∃ y : ℝ, wt (m (c.tc.loc main_arg4)) k = (y : EReal))

include hq in
/-- The queries a point leaves, at an entry. -/
theorem atQ (t : Fin cfg0.N) (r : Fin 256) (q : Fin 512) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) = totQ (m (c.tc.loc main_arg0)) (m (c.tc.loc main_arg1)) (m (c.tc.loc main_arg2)) (m (c.tc.loc main_arg3)) (ix2 (row t r) q) := by
  have e7 : wt (iblk m c 7 t : Vec Ideal S1x512 .f32) = wt (m (c.tc.loc main_arg3)) := funext fun k => ib7 m c t 0 k
  have e0 : rw' (iblk m c 0 t : Vec Ideal S256x512 .f32) r = qc (m (c.tc.loc main_arg0)) (row t r) := funext fun k => ib0 m c t r k
  have e3 : rw' (iblk m c 3 t : Vec Ideal S256x512 .f32) r = tb (m (c.tc.loc main_arg1)) (row t r) := funext fun k => ib3 m c t r k
  have e4 : rw' (iblk m c 4 t : Vec Ideal S256x512 .f32) r = tb (m (c.tc.loc main_arg2)) (row t r) := funext fun k => ib4 m c t r k
  rw [out14_eq, Q_at (h9 := ib9 m c t) (h11 := ib11 m c t) (hw := by rw [e7]; exact hq), e0, e3, e4, e7]
  rfl
include hk in
/-- The keys. -/
theorem atK (t : Fin cfg0.N) (r : Fin 256) (q : Fin 512) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) = totK (m (c.tc.loc main_arg0)) (m (c.tc.loc main_arg1)) (m (c.tc.loc main_arg2)) (m (c.tc.loc main_arg4)) (ix2 (row t r) q) := by
  have e8 : wt (iblk m c 8 t : Vec Ideal S1x128 .f32) = wt (m (c.tc.loc main_arg4)) := funext fun k => ib8 m c t 0 k
  have e1 : rw' (iblk m c 1 t : Vec Ideal S256x128 .f32) r = kc (m (c.tc.loc main_arg0)) (row t r) := funext fun k => ib1 m c t r k
  have e5 : rw' (iblk m c 5 t : Vec Ideal S256x128 .f32) r = tb (m (c.tc.loc main_arg1)) (row t r) := funext fun k => ib5 m c t r k
  have e6 : rw' (iblk m c 6 t : Vec Ideal S256x128 .f32) r = tb (m (c.tc.loc main_arg2)) (row t r) := funext fun k => ib6 m c t r k
  rw [out15_eq, K_at (h10 := ib10 m c t) (h12 := ib12 m c t) (h13 := ib13 m c t) (hw := by rw [e8]; exact hk), e1, e5, e6, e8]
  rfl
/-- The values. -/
theorem atV (t : Fin cfg0.N) (r : Fin 256) (q : Fin 512) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) = totV (m (c.tc.loc main_arg0)) (ix2 (row t r) q) := by
  have e2 : rw' (iblk m c 2 t : Vec Ideal S256x128 .f32) r = vc (m (c.tc.loc main_arg0)) (row t r) := funext fun k => ib2 m c t r k
  rw [out16_eq, V_at (h13 := ib13 m c t), e2]
  rfl

include hq in
/-- What a point writes back is its rows of the array. -/
theorem flushed_Q (t : Fin cfg0.N) (_ : (cfg0.win 14).flush t = true) :
    (dats m 0 c).flushed 14 t = ((cfg0.win 14).blk t).view.read (Elt Ideal) (totQ (m (c.tc.loc main_arg0)) (m (c.tc.loc main_arg1)) (m (c.tc.loc main_arg2)) (m (c.tc.loc main_arg3))) := by
  rw [flushed14]
  funext j
  rw [View.read_apply]
  have j0 : (j 0).val < 256 := (j 0).isLt
  have j1 : (j 1).val < 512 := (j 1).isLt
  have ej : (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) j
      = (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 ⟨(j 0).val, j0⟩ ⟨(j 1).val, j1⟩) :=
    congrArg _ (funext fun a => Fin.ext (by match a with | ⟨0, _⟩ => rfl | ⟨1, _⟩ => rfl))
  have ee : (((cfg0.win 14).blk t).view.emb j) = ix2 (row t ⟨(j 0).val, j0⟩) ⟨(j 1).val, j1⟩ := by
    funext a; apply Fin.ext
    match a with
    | ⟨0, _⟩ => show win0_14.index t 0 * 256 + 1 * (j 0).val = 256 * t.val + (j 0).val; rw [(idx14 t).1]; omega
    | ⟨1, _⟩ => show win0_14.index t 1 * 512 + 1 * (j 1).val = (j 1).val; rw [(idx14 t).2]; omega
  exact ej.trans ((atQ m c hq t _ _).trans (congrArg _ ee).symm)

include hq in
/-- What the array ends holding. -/
theorem final_Q : (dats m 0 c).arrAt 14 cfg0.N = totQ (m (c.tc.loc main_arg0)) (m (c.tc.loc main_arg1)) (m (c.tc.loc main_arg2)) (m (c.tc.loc main_arg3)) :=
  (dats m 0 c).arrAt_eq_of_cover 14 _ (flushed_Q m c hq) fun i => by
    have i0 : (i 0).val < 4096 := (i 0).isLt
    have i1 : (i 1).val < 512 := (i 1).isLt
    let t : Fin cfg0.N := ⟨(i 0).val / 256, Nat.lt_of_lt_of_eq (by omega) N_0.symm⟩
    have ht : t.val = (i 0).val / 256 := rfl
    refine ⟨t, flush0_14 t, ?_⟩
    show i ∈ ((View.whole main_v105_0).slice (win0_14.rect t)).set
    rw [View.set_slice_whole, Rect.mem_set_unit]
    intro a
    match a with
    | ⟨0, _⟩ => show win0_14.index t 0 * 256 ≤ (i 0).val ∧ (i 0).val < win0_14.index t 0 * 256 + 256
                rw [(idx14 t).1]; omega
    | ⟨1, _⟩ => show win0_14.index t 1 * 512 ≤ (i 1).val ∧ (i 1).val < win0_14.index t 1 * 512 + 512
                rw [(idx14 t).2]; omega

include hk in
/-- What a point writes back is its rows of the array. -/
theorem flushed_K (t : Fin cfg0.N) (_ : (cfg0.win 15).flush t = true) :
    (dats m 0 c).flushed 15 t = ((cfg0.win 15).blk t).view.read (Elt Ideal) (totK (m (c.tc.loc main_arg0)) (m (c.tc.loc main_arg1)) (m (c.tc.loc main_arg2)) (m (c.tc.loc main_arg4))) := by
  rw [flushed15]
  funext j
  rw [View.read_apply]
  have j0 : (j 0).val < 256 := (j 0).isLt
  have j1 : (j 1).val < 512 := (j 1).isLt
  have ej : (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) j
      = (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 ⟨(j 0).val, j0⟩ ⟨(j 1).val, j1⟩) :=
    congrArg _ (funext fun a => Fin.ext (by match a with | ⟨0, _⟩ => rfl | ⟨1, _⟩ => rfl))
  have ee : (((cfg0.win 15).blk t).view.emb j) = ix2 (row t ⟨(j 0).val, j0⟩) ⟨(j 1).val, j1⟩ := by
    funext a; apply Fin.ext
    match a with
    | ⟨0, _⟩ => show win0_15.index t 0 * 256 + 1 * (j 0).val = 256 * t.val + (j 0).val; rw [(idx15 t).1]; omega
    | ⟨1, _⟩ => show win0_15.index t 1 * 512 + 1 * (j 1).val = (j 1).val; rw [(idx15 t).2]; omega
  exact ej.trans ((atK m c hk t _ _).trans (congrArg _ ee).symm)

include hk in
/-- What the array ends holding. -/
theorem final_K : (dats m 0 c).arrAt 15 cfg0.N = totK (m (c.tc.loc main_arg0)) (m (c.tc.loc main_arg1)) (m (c.tc.loc main_arg2)) (m (c.tc.loc main_arg4)) :=
  (dats m 0 c).arrAt_eq_of_cover 15 _ (flushed_K m c hk) fun i => by
    have i0 : (i 0).val < 4096 := (i 0).isLt
    have i1 : (i 1).val < 512 := (i 1).isLt
    let t : Fin cfg0.N := ⟨(i 0).val / 256, Nat.lt_of_lt_of_eq (by omega) N_0.symm⟩
    have ht : t.val = (i 0).val / 256 := rfl
    refine ⟨t, flush0_15 t, ?_⟩
    show i ∈ ((View.whole main_v105_1).slice (win0_15.rect t)).set
    rw [View.set_slice_whole, Rect.mem_set_unit]
    intro a
    match a with
    | ⟨0, _⟩ => show win0_15.index t 0 * 256 ≤ (i 0).val ∧ (i 0).val < win0_15.index t 0 * 256 + 256
                rw [(idx15 t).1]; omega
    | ⟨1, _⟩ => show win0_15.index t 1 * 512 ≤ (i 1).val ∧ (i 1).val < win0_15.index t 1 * 512 + 512
                rw [(idx15 t).2]; omega

/-- What a point writes back is its rows of the array. -/
theorem flushed_V (t : Fin cfg0.N) (_ : (cfg0.win 16).flush t = true) :
    (dats m 0 c).flushed 16 t = ((cfg0.win 16).blk t).view.read (Elt Ideal) (totV (m (c.tc.loc main_arg0))) := by
  rw [flushed16]
  funext j
  rw [View.read_apply]
  have j0 : (j 0).val < 256 := (j 0).isLt
  have j1 : (j 1).val < 512 := (j 1).isLt
  have ej : (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) j
      = (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 ⟨(j 0).val, j0⟩ ⟨(j 1).val, j1⟩) :=
    congrArg _ (funext fun a => Fin.ext (by match a with | ⟨0, _⟩ => rfl | ⟨1, _⟩ => rfl))
  have ee : (((cfg0.win 16).blk t).view.emb j) = ix2 (row t ⟨(j 0).val, j0⟩) ⟨(j 1).val, j1⟩ := by
    funext a; apply Fin.ext
    match a with
    | ⟨0, _⟩ => show win0_16.index t 0 * 256 + 1 * (j 0).val = 256 * t.val + (j 0).val; rw [(idx16 t).1]; omega
    | ⟨1, _⟩ => show win0_16.index t 1 * 512 + 1 * (j 1).val = (j 1).val; rw [(idx16 t).2]; omega
  exact ej.trans ((atV m c  t _ _).trans (congrArg _ ee).symm)

/-- What the array ends holding. -/
theorem final_V : (dats m 0 c).arrAt 16 cfg0.N = totV (m (c.tc.loc main_arg0)) :=
  (dats m 0 c).arrAt_eq_of_cover 16 _ (flushed_V m c ) fun i => by
    have i0 : (i 0).val < 4096 := (i 0).isLt
    have i1 : (i 1).val < 512 := (i 1).isLt
    let t : Fin cfg0.N := ⟨(i 0).val / 256, Nat.lt_of_lt_of_eq (by omega) N_0.symm⟩
    have ht : t.val = (i 0).val / 256 := rfl
    refine ⟨t, flush0_16 t, ?_⟩
    show i ∈ ((View.whole main_v105_2).slice (win0_16.rect t)).set
    rw [View.set_slice_whole, Rect.mem_set_unit]
    intro a
    match a with
    | ⟨0, _⟩ => show win0_16.index t 0 * 256 ≤ (i 0).val ∧ (i 0).val < win0_16.index t 0 * 256 + 256
                rw [(idx16 t).1]; omega
    | ⟨1, _⟩ => show win0_16.index t 1 * 512 ≤ (i 1).val ∧ (i 1).val < win0_16.index t 1 * 512 + 512
                rw [(idx16 t).2]; omega
end

/-- The reference ends and keeps its arguments. -/
theorem frame_ref (m : (ℓ : Loc Reference17Ideal.nD Reference17Ideal.τ Reference17Ideal.sig) → Buf (Elt Ideal) ℓ)
    (ρ : Dev Reference17Ideal.nD → PrngReg) :
    θ_run (Reference17Ideal.defs (F := Ideal)) (onTc (τ := Reference17Ideal.τ) (Reference17Ideal.main (F := Ideal))) ⟨m, fun _ => 0, ρ⟩ (fun r => (∀ c : Dev Reference17Ideal.nD,
      r.2.mem (c.tc.loc Reference17Ideal.main_arg0) = m (c.tc.loc Reference17Ideal.main_arg0)
      ∧ r.2.mem (c.tc.loc Reference17Ideal.main_arg1) = m (c.tc.loc Reference17Ideal.main_arg1)
      ∧ r.2.mem (c.tc.loc Reference17Ideal.main_arg2) = m (c.tc.loc Reference17Ideal.main_arg2)
      ∧ r.2.mem (c.tc.loc Reference17Ideal.main_arg3) = m (c.tc.loc Reference17Ideal.main_arg3)
      ∧ r.2.mem (c.tc.loc Reference17Ideal.main_arg4) = m (c.tc.loc Reference17Ideal.main_arg4))
      ∧ r.2.sem = fun _ => 0) :=
  (θ_run Reference17Ideal.defs _ _).mono (fun r h => ⟨fun c => (h c).2.2.2,
    sem_eq_zero_of_no_sems (by decide) r.2⟩) (Reference17Ideal.Value.run (F := Ideal) m ρ)

/-- From equal arguments, with finite weights, the kernel's results are the reference's. -/
theorem algebraic : Cert.algebraic_Kernel17Ideal_Reference17Ideal_pre_finite17 := by
  intro m ρ m' ρ' hpre hargs
  have hp := fun c => real_of_pre _ _ _ _ _ (hpre c)
  refine ⟨fun c => totQ (m (c.tc.loc Kernel17Ideal.main_arg0)) (m (c.tc.loc Kernel17Ideal.main_arg1))
      (m (c.tc.loc Kernel17Ideal.main_arg2)) (m (c.tc.loc Kernel17Ideal.main_arg3)),
    fun c => totK (m (c.tc.loc Kernel17Ideal.main_arg0)) (m (c.tc.loc Kernel17Ideal.main_arg1))
      (m (c.tc.loc Kernel17Ideal.main_arg2)) (m (c.tc.loc Kernel17Ideal.main_arg4)),
    fun c => totV (m (c.tc.loc Kernel17Ideal.main_arg0)), ?_, ?_⟩
  · refine (θ_run Kernel17Ideal.defs _ _).mono (fun r h c => ?_) (Kernel17Ideal.Value.run_blocks (F := Ideal) m ρ)
    obtain ⟨h0, h1, h2, ha⟩ := h c
    exact ⟨h0.trans (final_Q m c (hp c).1), h1.trans (final_K m c (hp c).2), h2.trans (final_V m c), ha⟩
  · refine (θ_run Reference17Ideal.defs _ _).mono (fun r h c => ?_) (Reference17Ideal.Value.run (F := Ideal) m' ρ')
    obtain ⟨h0, h1, h2, ha⟩ := h c
    obtain ⟨b0, b1, b2, b3, b4⟩ := hargs c
    refine ⟨h0.trans ?_, h1.trans ?_, h2.trans ?_, ha⟩
    · refine (Reference17Ideal.Read.val_main_v68_eq _ _).trans ?_
      rw [b0, b1, b2, b3]
      exact refQ _ _ _ _
    · refine (Reference17Ideal.Read.val_main_v70_eq _ _).trans ?_
      rw [b0, b1, b2, b4]
      exact refK _ _ _ _
    · refine (Reference17Ideal.Read.val_main_v72_eq _).trans ?_
      rw [b0]
      exact refV _

end Cert.Prep

end
-- ==== Proof.lean ====
module

public import proofs.«01_k».proof.Proof.Attn
public import proofs.«01_k».proof.Proof.Ffn
public import proofs.«01_k».proof.Proof.Grad3
public import proofs.«01_k».proof.Proof.Grad4
public import proofs.«01_k».proof.Proof.Grad5
public import proofs.«01_k».proof.Proof.Grad6
public import proofs.«01_k».proof.Proof.Row7
public import proofs.«01_k».proof.Proof.Row8
public import proofs.«01_k».proof.Proof.Row9
public import proofs.«01_k».proof.Proof.Row10
public import proofs.«01_k».proof.Proof.Row11
public import proofs.«01_k».proof.Proof.Row12
public import proofs.«01_k».proof.Proof.Fwd13
public import proofs.«01_k».proof.Proof.Row14
public import proofs.«01_k».proof.Proof.Mix15
public import proofs.«01_k».proof.Proof.Mix16
public import proofs.«01_k».proof.Proof.Prep17
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Attn.preFacts, Cert.Pre_finite2.Gen.facts, Cert.Pre_finite13.Gen.facts, Cert.Pre_finite15.Gen.facts, Cert.Pre_finite17.Gen.facts,
    fun m ρ _ => Cert.Kernel.Gen.frame m ρ, fun m ρ _ => Cert.KernelIdeal.Gen.frame m ρ,
    fun m ρ _ => Cert.KernelIdeal.Gen.frame m ρ, fun m ρ _ => Cert.Attn.frame_ref m ρ,
    fun m ρ _ => Cert.Attn.frame_ref m ρ, fun m ρ _ => Cert.Kernel2.Gen.frame m ρ,
    fun m ρ _ => Cert.Kernel2Ideal.Gen.frame m ρ, fun m ρ _ => Cert.Kernel2Ideal.Gen.frame m ρ,
    fun m ρ _ => Cert.Ffn.frame_ref m ρ, fun m ρ _ => Cert.Ffn.frame_ref m ρ,
    fun m ρ _ => Cert.Kernel3.Gen.frame m ρ, fun m ρ _ => Cert.Kernel3Ideal.Gen.frame m ρ, fun m ρ _ => Cert.Grad3.frame_ref m ρ,
    fun m ρ _ => Cert.Kernel4.Gen.frame m ρ, fun m ρ _ => Cert.Kernel4Ideal.Gen.frame m ρ, fun m ρ _ => Cert.Grad4.frame_ref m ρ,
    fun m ρ _ => Cert.Kernel5.Gen.frame m ρ, fun m ρ _ => Cert.Kernel5Ideal.Gen.frame m ρ, fun m ρ _ => Cert.Grad5.frame_ref m ρ,
    fun m ρ _ => Cert.Kernel6.Gen.frame m ρ, fun m ρ _ => Cert.Kernel6Ideal.Gen.frame m ρ, fun m ρ _ => Cert.Grad6.frame_ref m ρ,
    fun m ρ _ => Cert.Kernel7.Gen.frame m ρ, fun m ρ _ => Cert.Kernel7Ideal.Gen.frame m ρ, fun m ρ _ => Cert.Row7.frame_ref m ρ,
    fun m ρ _ => Cert.Kernel8.Gen.frame m ρ, fun m ρ _ => Cert.Kernel8Ideal.Gen.frame m ρ, fun m ρ _ => Cert.Row8.frame_ref m ρ,
    fun m ρ _ => Cert.Kernel9.Gen.frame m ρ, fun m ρ _ => Cert.Kernel9Ideal.Gen.frame m ρ, fun m ρ _ => Cert.Row9.frame_ref m ρ,
    fun m ρ _ => Cert.Kernel10.Gen.frame m ρ, fun m ρ _ => Cert.Kernel10Ideal.Gen.frame m ρ, fun m ρ _ => Cert.Row10.frame_ref m ρ,
    fun m ρ _ => Cert.Kernel11.Gen.frame m ρ, fun m ρ _ => Cert.Kernel11Ideal.Gen.frame m ρ, fun m ρ _ => Cert.Row11.frame_ref m ρ,
    fun m ρ _ => Cert.Kernel12.Gen.frame m ρ, fun m ρ _ => Cert.Kernel12Ideal.Gen.frame m ρ, fun m ρ _ => Cert.Row12.frame_ref m ρ,
    fun m ρ _ => Cert.Kernel13.Gen.frame m ρ, fun m ρ _ => Cert.Kernel13Ideal.Gen.frame m ρ, fun m ρ _ => Cert.Kernel13Ideal.Gen.frame m ρ,
    fun m ρ _ => Cert.Fwd13.frame_ref m ρ, fun m ρ _ => Cert.Fwd13.frame_ref m ρ,
    fun m ρ _ => Cert.Kernel14.Gen.frame m ρ, fun m ρ _ => Cert.Kernel14Ideal.Gen.frame m ρ, fun m ρ _ => Cert.Row14.frame_ref m ρ,
    fun m ρ _ => Cert.Kernel15.Gen.frame m ρ, fun m ρ _ => Cert.Kernel15Ideal.Gen.frame m ρ, fun m ρ _ => Cert.Kernel15Ideal.Gen.frame m ρ,
    fun m ρ _ => Cert.Mix.frame_ref m ρ, fun m ρ _ => Cert.Mix.frame_ref m ρ,
    fun m ρ _ => Cert.Kernel16.Gen.frame m ρ, fun m ρ _ => Cert.Kernel16Ideal.Gen.frame m ρ, fun m ρ _ => Cert.MixF.frame_ref m ρ,
    fun m ρ _ => Cert.Kernel17.Gen.frame m ρ, fun m ρ _ => Cert.Kernel17Ideal.Gen.frame m ρ, fun m ρ _ => Cert.Kernel17Ideal.Gen.frame m ρ,
    fun m ρ _ => Cert.Prep.frame_ref m ρ, fun m ρ _ => Cert.Prep.frame_ref m ρ,
    trivial, trivial, Cert.Ffn.algebraic,
    trivial, Cert.Grad3.algebraic, trivial, Cert.Grad4.algebraic, trivial, Cert.Grad5.algebraic, trivial, Cert.Grad6.algebraic, trivial, Cert.Row7.algebraic, trivial, Cert.Row8.algebraic, trivial, Cert.Row9.algebraic, trivial, Cert.Row10.algebraic, trivial, Cert.Row11.algebraic, trivial, Cert.Row12.algebraic,
    trivial, Cert.Fwd13.algebraic, trivial, Cert.Row14.algebraic, trivial, Cert.Mix.algebraic, trivial, Cert.MixF.algebraic, trivial, Cert.Prep.algebraic,
    Cert.Attn.algebraic⟩

end Cert.Proof

end
